-- ==== Defs.lean ====
def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_AttDx (m : (ℓ : Loc Cert.AttDx.nD Cert.AttDx.τ Cert.AttDx.sig) → Buf (Elt Bits) ℓ) : Prop :=
  True

def Pre_AttDxIdeal (m : (ℓ : Loc Cert.AttDxIdeal.nD Cert.AttDxIdeal.τ Cert.AttDxIdeal.sig) → Buf (Elt Ideal) ℓ) : Prop :=
  True

def Pre_AttDxIdeal_all_finite [hPre_all_finite : Cert.Pre_all_finite.Facts] (m : (ℓ : Loc Cert.AttDxIdeal.nD Cert.AttDxIdeal.τ Cert.AttDxIdeal.sig) → Buf (Elt Ideal) ℓ) : Prop :=
  ∀ c : Dev Cert.AttDxIdeal.nD,
    (Cert.Pre_all_finite.fn (F := Ideal) (m ((c.tc : Thread Cert.AttDxIdeal.nD Cert.AttDxIdeal.τ).loc Cert.AttDxIdeal.main_arg0)) (m ((c.tc : Thread Cert.AttDxIdeal.nD Cert.AttDxIdeal.τ).loc Cert.AttDxIdeal.main_arg1)) (m ((c.tc : Thread Cert.AttDxIdeal.nD Cert.AttDxIdeal.τ).loc Cert.AttDxIdeal.main_arg2)) (m ((c.tc : Thread Cert.AttDxIdeal.nD Cert.AttDxIdeal.τ).loc Cert.AttDxIdeal.main_arg3))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_all_finite [hPre_all_finite : Cert.Pre_all_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_all_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3))) = (fun _ => 1#1)

def Pre_LossDx (m : (ℓ : Loc Cert.LossDx.nD Cert.LossDx.τ Cert.LossDx.sig) → Buf (Elt Bits) ℓ) : Prop :=
  True

def Pre_LossDxIdeal (m : (ℓ : Loc Cert.LossDxIdeal.nD Cert.LossDxIdeal.τ Cert.LossDxIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_PrepDx (m : (ℓ : Loc Cert.PrepDx.nD Cert.PrepDx.τ Cert.PrepDx.sig) → Buf (Elt Bits) ℓ) : Prop :=
  True

def Pre_PrepDxIdeal (m : (ℓ : Loc Cert.PrepDxIdeal.nD Cert.PrepDxIdeal.τ Cert.PrepDxIdeal.sig) → Buf (Elt Ideal) ℓ) : Prop :=
  True

def Pre_PrepDxIdeal_prep_finite [hPre_prep_finite : Cert.Pre_prep_finite.Facts] (m : (ℓ : Loc Cert.PrepDxIdeal.nD Cert.PrepDxIdeal.τ Cert.PrepDxIdeal.sig) → Buf (Elt Ideal) ℓ) : Prop :=
  ∀ c : Dev Cert.PrepDxIdeal.nD,
    (Cert.Pre_prep_finite.fn (F := Ideal) (m ((c.tc : Thread Cert.PrepDxIdeal.nD Cert.PrepDxIdeal.τ).loc Cert.PrepDxIdeal.main_arg0)) (m ((c.tc : Thread Cert.PrepDxIdeal.nD Cert.PrepDxIdeal.τ).loc Cert.PrepDxIdeal.main_arg1)) (m ((c.tc : Thread Cert.PrepDxIdeal.nD Cert.PrepDxIdeal.τ).loc Cert.PrepDxIdeal.main_arg2)) (m ((c.tc : Thread Cert.PrepDxIdeal.nD Cert.PrepDxIdeal.τ).loc Cert.PrepDxIdeal.main_arg3)) (m ((c.tc : Thread Cert.PrepDxIdeal.nD Cert.PrepDxIdeal.τ).loc Cert.PrepDxIdeal.main_arg4)) (m ((c.tc : Thread Cert.PrepDxIdeal.nD Cert.PrepDxIdeal.τ).loc Cert.PrepDxIdeal.main_arg5))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))) = (fun _ => 1#1)

def Pre_GlaDx (m : (ℓ : Loc Cert.GlaDx.nD Cert.GlaDx.τ Cert.GlaDx.sig) → Buf (Elt Bits) ℓ) : Prop :=
  True

def Pre_GlaDxIdeal (m : (ℓ : Loc Cert.GlaDxIdeal.nD Cert.GlaDxIdeal.τ Cert.GlaDxIdeal.sig) → Buf (Elt Ideal) ℓ) : Prop :=
  True

def Pre_GlaRev (m : (ℓ : Loc Cert.GlaRev.nD Cert.GlaRev.τ Cert.GlaRev.sig) → Buf (Elt Bits) ℓ) : Prop :=
  True

def Pre_GlaRevIdeal (m : (ℓ : Loc Cert.GlaRevIdeal.nD Cert.GlaRevIdeal.τ Cert.GlaRevIdeal.sig) → Buf (Elt Ideal) ℓ) : Prop :=
  True

def Pre_GlaFw (m : (ℓ : Loc Cert.GlaFw.nD Cert.GlaFw.τ Cert.GlaFw.sig) → Buf (Elt Bits) ℓ) : Prop :=
  True

def Pre_GlaFwIdeal (m : (ℓ : Loc Cert.GlaFwIdeal.nD Cert.GlaFwIdeal.τ Cert.GlaFwIdeal.sig) → Buf (Elt Ideal) ℓ) : Prop :=
  True

def Pre_GlaFwRev (m : (ℓ : Loc Cert.GlaFwRev.nD Cert.GlaFwRev.τ Cert.GlaFwRev.sig) → Buf (Elt Bits) ℓ) : Prop :=
  True

def Pre_GlaFwRevIdeal (m : (ℓ : Loc Cert.GlaFwRevIdeal.nD Cert.GlaFwRevIdeal.τ Cert.GlaFwRevIdeal.sig) → Buf (Elt Ideal) ℓ) : Prop :=
  True

def Pre_NormFw (m : (ℓ : Loc Cert.NormFw.nD Cert.NormFw.τ Cert.NormFw.sig) → Buf (Elt Bits) ℓ) : Prop :=
  True

def Pre_NormFwIdeal (m : (ℓ : Loc Cert.NormFwIdeal.nD Cert.NormFwIdeal.τ Cert.NormFwIdeal.sig) → Buf (Elt Ideal) ℓ) : Prop :=
  True

def Pre_NormFwRefIdeal (m : (ℓ : Loc Cert.NormFwRefIdeal.nD Cert.NormFwRefIdeal.τ Cert.NormFwRefIdeal.sig) → Buf (Elt Ideal) ℓ) : Prop :=
  True

def Pre_OutFw (m : (ℓ : Loc Cert.OutFw.nD Cert.OutFw.τ Cert.OutFw.sig) → Buf (Elt Bits) ℓ) : Prop :=
  True

def Pre_OutFwIdeal (m : (ℓ : Loc Cert.OutFwIdeal.nD Cert.OutFwIdeal.τ Cert.OutFwIdeal.sig) → Buf (Elt Ideal) ℓ) : Prop :=
  True

def Pre_OutFwRefIdeal (m : (ℓ : Loc Cert.OutFwRefIdeal.nD Cert.OutFwRefIdeal.τ Cert.OutFwRefIdeal.sig) → Buf (Elt Ideal) ℓ) : Prop :=
  True

def Pre_ActFw (m : (ℓ : Loc Cert.ActFw.nD Cert.ActFw.τ Cert.ActFw.sig) → Buf (Elt Bits) ℓ) : Prop :=
  True

def Pre_ActFwIdeal (m : (ℓ : Loc Cert.ActFwIdeal.nD Cert.ActFwIdeal.τ Cert.ActFwIdeal.sig) → Buf (Elt Ideal) ℓ) : Prop :=
  True

def Pre_ActFwRefIdeal (m : (ℓ : Loc Cert.ActFwRefIdeal.nD Cert.ActFwRefIdeal.τ Cert.ActFwRefIdeal.sig) → Buf (Elt Ideal) ℓ) : Prop :=
  True

def Pre_MixFw (m : (ℓ : Loc Cert.MixFw.nD Cert.MixFw.τ Cert.MixFw.sig) → Buf (Elt Bits) ℓ) : Prop :=
  True

def Pre_MixFwIdeal (m : (ℓ : Loc Cert.MixFwIdeal.nD Cert.MixFwIdeal.τ Cert.MixFwIdeal.sig) → Buf (Elt Ideal) ℓ) : Prop :=
  True

def Pre_MixFwRefIdeal (m : (ℓ : Loc Cert.MixFwRefIdeal.nD Cert.MixFwRefIdeal.τ Cert.MixFwRefIdeal.sig) → Buf (Elt Ideal) ℓ) : Prop :=
  True

def Pre_PrepFw (m : (ℓ : Loc Cert.PrepFw.nD Cert.PrepFw.τ Cert.PrepFw.sig) → Buf (Elt Bits) ℓ) : Prop :=
  True

def Pre_PrepFwIdeal (m : (ℓ : Loc Cert.PrepFwIdeal.nD Cert.PrepFwIdeal.τ Cert.PrepFwIdeal.sig) → Buf (Elt Ideal) ℓ) : Prop :=
  True

def Pre_PrepFwIdeal_prep_fw_finite [hPre_prep_fw_finite : Cert.Pre_prep_fw_finite.Facts] (m : (ℓ : Loc Cert.PrepFwIdeal.nD Cert.PrepFwIdeal.τ Cert.PrepFwIdeal.sig) → Buf (Elt Ideal) ℓ) : Prop :=
  ∀ c : Dev Cert.PrepFwIdeal.nD,
    (Cert.Pre_prep_fw_finite.fn (F := Ideal) (m ((c.tc : Thread Cert.PrepFwIdeal.nD Cert.PrepFwIdeal.τ).loc Cert.PrepFwIdeal.main_arg0)) (m ((c.tc : Thread Cert.PrepFwIdeal.nD Cert.PrepFwIdeal.τ).loc Cert.PrepFwIdeal.main_arg1)) (m ((c.tc : Thread Cert.PrepFwIdeal.nD Cert.PrepFwIdeal.τ).loc Cert.PrepFwIdeal.main_arg2))) = (fun _ => 1#1)

def Pre_PrepFwRefIdeal (m : (ℓ : Loc Cert.PrepFwRefIdeal.nD Cert.PrepFwRefIdeal.τ Cert.PrepFwRefIdeal.sig) → Buf (Elt Ideal) ℓ) : Prop :=
  True

def Pre_PrepFwRefIdeal_prep_fw_finite [hPre_prep_fw_finite : Cert.Pre_prep_fw_finite.Facts] (m : (ℓ : Loc Cert.PrepFwRefIdeal.nD Cert.PrepFwRefIdeal.τ Cert.PrepFwRefIdeal.sig) → Buf (Elt Ideal) ℓ) : Prop :=
  ∀ c : Dev Cert.PrepFwRefIdeal.nD,
    (Cert.Pre_prep_fw_finite.fn (F := Ideal) (m ((c.tc : Thread Cert.PrepFwRefIdeal.nD Cert.PrepFwRefIdeal.τ).loc Cert.PrepFwRefIdeal.main_arg0)) (m ((c.tc : Thread Cert.PrepFwRefIdeal.nD Cert.PrepFwRefIdeal.τ).loc Cert.PrepFwRefIdeal.main_arg1)) (m ((c.tc : Thread Cert.PrepFwRefIdeal.nD Cert.PrepFwRefIdeal.τ).loc Cert.PrepFwRefIdeal.main_arg2))) = (fun _ => 1#1)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_AttDx [hAttDx : Cert.AttDx.Facts] : Prop :=
  ∀ (m : (ℓ : Loc Cert.AttDx.nD Cert.AttDx.τ Cert.AttDx.sig) → Buf (Elt Bits) ℓ) (g : Dev Cert.AttDx.nD → PrngReg), Pre_AttDx m →
    θ_run (Cert.AttDx.defs (F := Bits)) (onTc (τ := Cert.AttDx.τ) (Cert.AttDx.main (F := Bits))) ⟨m, fun _ => 0, g⟩ (fun r => (∀ c : Dev Cert.AttDx.nD,
      r.2.mem ((c.tc : Thread Cert.AttDx.nD Cert.AttDx.τ).loc Cert.AttDx.main_arg0) = m ((c.tc : Thread Cert.AttDx.nD Cert.AttDx.τ).loc Cert.AttDx.main_arg0)
      ∧ r.2.mem ((c.tc : Thread Cert.AttDx.nD Cert.AttDx.τ).loc Cert.AttDx.main_arg1) = m ((c.tc : Thread Cert.AttDx.nD Cert.AttDx.τ).loc Cert.AttDx.main_arg1)
      ∧ r.2.mem ((c.tc : Thread Cert.AttDx.nD Cert.AttDx.τ).loc Cert.AttDx.main_arg2) = m ((c.tc : Thread Cert.AttDx.nD Cert.AttDx.τ).loc Cert.AttDx.main_arg2)
      ∧ r.2.mem ((c.tc : Thread Cert.AttDx.nD Cert.AttDx.τ).loc Cert.AttDx.main_arg3) = m ((c.tc : Thread Cert.AttDx.nD Cert.AttDx.τ).loc Cert.AttDx.main_arg3))
      ∧ r.2.sem = fun _ => 0)

def quiescent_AttDxIdeal [hAttDxIdeal : Cert.AttDxIdeal.Facts] : Prop :=
  ∀ (m : (ℓ : Loc Cert.AttDxIdeal.nD Cert.AttDxIdeal.τ Cert.AttDxIdeal.sig) → Buf (Elt Ideal) ℓ) (g : Dev Cert.AttDxIdeal.nD → PrngReg), Pre_AttDxIdeal m →
    θ_run (Cert.AttDxIdeal.defs (F := Ideal)) (onTc (τ := Cert.AttDxIdeal.τ) (Cert.AttDxIdeal.main (F := Ideal))) ⟨m, fun _ => 0, g⟩ (fun r => (∀ c : Dev Cert.AttDxIdeal.nD,
      r.2.mem ((c.tc : Thread Cert.AttDxIdeal.nD Cert.AttDxIdeal.τ).loc Cert.AttDxIdeal.main_arg0) = m ((c.tc : Thread Cert.AttDxIdeal.nD Cert.AttDxIdeal.τ).loc Cert.AttDxIdeal.main_arg0)
      ∧ r.2.mem ((c.tc : Thread Cert.AttDxIdeal.nD Cert.AttDxIdeal.τ).loc Cert.AttDxIdeal.main_arg1) = m ((c.tc : Thread Cert.AttDxIdeal.nD Cert.AttDxIdeal.τ).loc Cert.AttDxIdeal.main_arg1)
      ∧ r.2.mem ((c.tc : Thread Cert.AttDxIdeal.nD Cert.AttDxIdeal.τ).loc Cert.AttDxIdeal.main_arg2) = m ((c.tc : Thread Cert.AttDxIdeal.nD Cert.AttDxIdeal.τ).loc Cert.AttDxIdeal.main_arg2)
      ∧ r.2.mem ((c.tc : Thread Cert.AttDxIdeal.nD Cert.AttDxIdeal.τ).loc Cert.AttDxIdeal.main_arg3) = m ((c.tc : Thread Cert.AttDxIdeal.nD Cert.AttDxIdeal.τ).loc Cert.AttDxIdeal.main_arg3))
      ∧ r.2.sem = fun _ => 0)

def quiescent_AttDxIdeal_pre_all_finite [hAttDxIdeal : Cert.AttDxIdeal.Facts] [hPre_all_finite : Cert.Pre_all_finite.Facts] : Prop :=
  ∀ (m : (ℓ : Loc Cert.AttDxIdeal.nD Cert.AttDxIdeal.τ Cert.AttDxIdeal.sig) → Buf (Elt Ideal) ℓ) (g : Dev Cert.AttDxIdeal.nD → PrngReg), Pre_AttDxIdeal_all_finite m →
    θ_run (Cert.AttDxIdeal.defs (F := Ideal)) (onTc (τ := Cert.AttDxIdeal.τ) (Cert.AttDxIdeal.main (F := Ideal))) ⟨m, fun _ => 0, g⟩ (fun r => (∀ c : Dev Cert.AttDxIdeal.nD,
      r.2.mem ((c.tc : Thread Cert.AttDxIdeal.nD Cert.AttDxIdeal.τ).loc Cert.AttDxIdeal.main_arg0) = m ((c.tc : Thread Cert.AttDxIdeal.nD Cert.AttDxIdeal.τ).loc Cert.AttDxIdeal.main_arg0)
      ∧ r.2.mem ((c.tc : Thread Cert.AttDxIdeal.nD Cert.AttDxIdeal.τ).loc Cert.AttDxIdeal.main_arg1) = m ((c.tc : Thread Cert.AttDxIdeal.nD Cert.AttDxIdeal.τ).loc Cert.AttDxIdeal.main_arg1)
      ∧ r.2.mem ((c.tc : Thread Cert.AttDxIdeal.nD Cert.AttDxIdeal.τ).loc Cert.AttDxIdeal.main_arg2) = m ((c.tc : Thread Cert.AttDxIdeal.nD Cert.AttDxIdeal.τ).loc Cert.AttDxIdeal.main_arg2)
      ∧ r.2.mem ((c.tc : Thread Cert.AttDxIdeal.nD Cert.AttDxIdeal.τ).loc Cert.AttDxIdeal.main_arg3) = m ((c.tc : Thread Cert.AttDxIdeal.nD Cert.AttDxIdeal.τ).loc Cert.AttDxIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_AttRefIdeal_pre_all_finite [hAttRefIdeal : Cert.AttRefIdeal.Facts] [hPre_all_finite : Cert.Pre_all_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_all_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_LossDx [hLossDx : Cert.LossDx.Facts] : Prop :=
  ∀ (m : (ℓ : Loc Cert.LossDx.nD Cert.LossDx.τ Cert.LossDx.sig) → Buf (Elt Bits) ℓ) (g : Dev Cert.LossDx.nD → PrngReg), Pre_LossDx m →
    θ_run (Cert.LossDx.defs (F := Bits)) (onTc (τ := Cert.LossDx.τ) (Cert.LossDx.main (F := Bits))) ⟨m, fun _ => 0, g⟩ (fun r => (∀ c : Dev Cert.LossDx.nD,
      r.2.mem ((c.tc : Thread Cert.LossDx.nD Cert.LossDx.τ).loc Cert.LossDx.main_arg0) = m ((c.tc : Thread Cert.LossDx.nD Cert.LossDx.τ).loc Cert.LossDx.main_arg0)
      ∧ r.2.mem ((c.tc : Thread Cert.LossDx.nD Cert.LossDx.τ).loc Cert.LossDx.main_arg1) = m ((c.tc : Thread Cert.LossDx.nD Cert.LossDx.τ).loc Cert.LossDx.main_arg1)
      ∧ r.2.mem ((c.tc : Thread Cert.LossDx.nD Cert.LossDx.τ).loc Cert.LossDx.main_arg2) = m ((c.tc : Thread Cert.LossDx.nD Cert.LossDx.τ).loc Cert.LossDx.main_arg2)
      ∧ r.2.mem ((c.tc : Thread Cert.LossDx.nD Cert.LossDx.τ).loc Cert.LossDx.main_arg3) = m ((c.tc : Thread Cert.LossDx.nD Cert.LossDx.τ).loc Cert.LossDx.main_arg3)
      ∧ r.2.mem ((c.tc : Thread Cert.LossDx.nD Cert.LossDx.τ).loc Cert.LossDx.main_arg4) = m ((c.tc : Thread Cert.LossDx.nD Cert.LossDx.τ).loc Cert.LossDx.main_arg4))
      ∧ r.2.sem = fun _ => 0)

def quiescent_LossDxIdeal [hLossDxIdeal : Cert.LossDxIdeal.Facts] : Prop :=
  ∀ (m : (ℓ : Loc Cert.LossDxIdeal.nD Cert.LossDxIdeal.τ Cert.LossDxIdeal.sig) → Buf (Elt Ideal) ℓ) (g : Dev Cert.LossDxIdeal.nD → PrngReg), Pre_LossDxIdeal m →
    θ_run (Cert.LossDxIdeal.defs (F := Ideal)) (onTc (τ := Cert.LossDxIdeal.τ) (Cert.LossDxIdeal.main (F := Ideal))) ⟨m, fun _ => 0, g⟩ (fun r => (∀ c : Dev Cert.LossDxIdeal.nD,
      r.2.mem ((c.tc : Thread Cert.LossDxIdeal.nD Cert.LossDxIdeal.τ).loc Cert.LossDxIdeal.main_arg0) = m ((c.tc : Thread Cert.LossDxIdeal.nD Cert.LossDxIdeal.τ).loc Cert.LossDxIdeal.main_arg0)
      ∧ r.2.mem ((c.tc : Thread Cert.LossDxIdeal.nD Cert.LossDxIdeal.τ).loc Cert.LossDxIdeal.main_arg1) = m ((c.tc : Thread Cert.LossDxIdeal.nD Cert.LossDxIdeal.τ).loc Cert.LossDxIdeal.main_arg1)
      ∧ r.2.mem ((c.tc : Thread Cert.LossDxIdeal.nD Cert.LossDxIdeal.τ).loc Cert.LossDxIdeal.main_arg2) = m ((c.tc : Thread Cert.LossDxIdeal.nD Cert.LossDxIdeal.τ).loc Cert.LossDxIdeal.main_arg2)
      ∧ r.2.mem ((c.tc : Thread Cert.LossDxIdeal.nD Cert.LossDxIdeal.τ).loc Cert.LossDxIdeal.main_arg3) = m ((c.tc : Thread Cert.LossDxIdeal.nD Cert.LossDxIdeal.τ).loc Cert.LossDxIdeal.main_arg3)
      ∧ r.2.mem ((c.tc : Thread Cert.LossDxIdeal.nD Cert.LossDxIdeal.τ).loc Cert.LossDxIdeal.main_arg4) = m ((c.tc : Thread Cert.LossDxIdeal.nD Cert.LossDxIdeal.τ).loc Cert.LossDxIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4)
      ∧ r.2.mem ((c.tc : Thread Cert.MixDx.nD Cert.MixDx.τ).loc Cert.MixDx.main_arg5) = m ((c.tc : Thread Cert.MixDx.nD Cert.MixDx.τ).loc Cert.MixDx.main_arg5)
      ∧ r.2.mem ((c.tc : Thread Cert.MixDx.nD Cert.MixDx.τ).loc Cert.MixDx.main_arg6) = m ((c.tc : Thread Cert.MixDx.nD Cert.MixDx.τ).loc Cert.MixDx.main_arg6))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
      ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_PrepDx [hPrepDx : Cert.PrepDx.Facts] : Prop :=
  ∀ (m : (ℓ : Loc Cert.PrepDx.nD Cert.PrepDx.τ Cert.PrepDx.sig) → Buf (Elt Bits) ℓ) (g : Dev Cert.PrepDx.nD → PrngReg), Pre_PrepDx m →
    θ_run (Cert.PrepDx.defs (F := Bits)) (onTc (τ := Cert.PrepDx.τ) (Cert.PrepDx.main (F := Bits))) ⟨m, fun _ => 0, g⟩ (fun r => (∀ c : Dev Cert.PrepDx.nD,
      r.2.mem ((c.tc : Thread Cert.PrepDx.nD Cert.PrepDx.τ).loc Cert.PrepDx.main_arg0) = m ((c.tc : Thread Cert.PrepDx.nD Cert.PrepDx.τ).loc Cert.PrepDx.main_arg0)
      ∧ r.2.mem ((c.tc : Thread Cert.PrepDx.nD Cert.PrepDx.τ).loc Cert.PrepDx.main_arg1) = m ((c.tc : Thread Cert.PrepDx.nD Cert.PrepDx.τ).loc Cert.PrepDx.main_arg1)
      ∧ r.2.mem ((c.tc : Thread Cert.PrepDx.nD Cert.PrepDx.τ).loc Cert.PrepDx.main_arg2) = m ((c.tc : Thread Cert.PrepDx.nD Cert.PrepDx.τ).loc Cert.PrepDx.main_arg2)
      ∧ r.2.mem ((c.tc : Thread Cert.PrepDx.nD Cert.PrepDx.τ).loc Cert.PrepDx.main_arg3) = m ((c.tc : Thread Cert.PrepDx.nD Cert.PrepDx.τ).loc Cert.PrepDx.main_arg3)
      ∧ r.2.mem ((c.tc : Thread Cert.PrepDx.nD Cert.PrepDx.τ).loc Cert.PrepDx.main_arg4) = m ((c.tc : Thread Cert.PrepDx.nD Cert.PrepDx.τ).loc Cert.PrepDx.main_arg4)
      ∧ r.2.mem ((c.tc : Thread Cert.PrepDx.nD Cert.PrepDx.τ).loc Cert.PrepDx.main_arg5) = m ((c.tc : Thread Cert.PrepDx.nD Cert.PrepDx.τ).loc Cert.PrepDx.main_arg5))
      ∧ r.2.sem = fun _ => 0)

def quiescent_PrepDxIdeal [hPrepDxIdeal : Cert.PrepDxIdeal.Facts] : Prop :=
  ∀ (m : (ℓ : Loc Cert.PrepDxIdeal.nD Cert.PrepDxIdeal.τ Cert.PrepDxIdeal.sig) → Buf (Elt Ideal) ℓ) (g : Dev Cert.PrepDxIdeal.nD → PrngReg), Pre_PrepDxIdeal m →
    θ_run (Cert.PrepDxIdeal.defs (F := Ideal)) (onTc (τ := Cert.PrepDxIdeal.τ) (Cert.PrepDxIdeal.main (F := Ideal))) ⟨m, fun _ => 0, g⟩ (fun r => (∀ c : Dev Cert.PrepDxIdeal.nD,
      r.2.mem ((c.tc : Thread Cert.PrepDxIdeal.nD Cert.PrepDxIdeal.τ).loc Cert.PrepDxIdeal.main_arg0) = m ((c.tc : Thread Cert.PrepDxIdeal.nD Cert.PrepDxIdeal.τ).loc Cert.PrepDxIdeal.main_arg0)
      ∧ r.2.mem ((c.tc : Thread Cert.PrepDxIdeal.nD Cert.PrepDxIdeal.τ).loc Cert.PrepDxIdeal.main_arg1) = m ((c.tc : Thread Cert.PrepDxIdeal.nD Cert.PrepDxIdeal.τ).loc Cert.PrepDxIdeal.main_arg1)
      ∧ r.2.mem ((c.tc : Thread Cert.PrepDxIdeal.nD Cert.PrepDxIdeal.τ).loc Cert.PrepDxIdeal.main_arg2) = m ((c.tc : Thread Cert.PrepDxIdeal.nD Cert.PrepDxIdeal.τ).loc Cert.PrepDxIdeal.main_arg2)
      ∧ r.2.mem ((c.tc : Thread Cert.PrepDxIdeal.nD Cert.PrepDxIdeal.τ).loc Cert.PrepDxIdeal.main_arg3) = m ((c.tc : Thread Cert.PrepDxIdeal.nD Cert.PrepDxIdeal.τ).loc Cert.PrepDxIdeal.main_arg3)
      ∧ r.2.mem ((c.tc : Thread Cert.PrepDxIdeal.nD Cert.PrepDxIdeal.τ).loc Cert.PrepDxIdeal.main_arg4) = m ((c.tc : Thread Cert.PrepDxIdeal.nD Cert.PrepDxIdeal.τ).loc Cert.PrepDxIdeal.main_arg4)
      ∧ r.2.mem ((c.tc : Thread Cert.PrepDxIdeal.nD Cert.PrepDxIdeal.τ).loc Cert.PrepDxIdeal.main_arg5) = m ((c.tc : Thread Cert.PrepDxIdeal.nD Cert.PrepDxIdeal.τ).loc Cert.PrepDxIdeal.main_arg5))
      ∧ r.2.sem = fun _ => 0)

def quiescent_PrepDxIdeal_pre_prep_finite [hPrepDxIdeal : Cert.PrepDxIdeal.Facts] [hPre_prep_finite : Cert.Pre_prep_finite.Facts] : Prop :=
  ∀ (m : (ℓ : Loc Cert.PrepDxIdeal.nD Cert.PrepDxIdeal.τ Cert.PrepDxIdeal.sig) → Buf (Elt Ideal) ℓ) (g : Dev Cert.PrepDxIdeal.nD → PrngReg), Pre_PrepDxIdeal_prep_finite m →
    θ_run (Cert.PrepDxIdeal.defs (F := Ideal)) (onTc (τ := Cert.PrepDxIdeal.τ) (Cert.PrepDxIdeal.main (F := Ideal))) ⟨m, fun _ => 0, g⟩ (fun r => (∀ c : Dev Cert.PrepDxIdeal.nD,
      r.2.mem ((c.tc : Thread Cert.PrepDxIdeal.nD Cert.PrepDxIdeal.τ).loc Cert.PrepDxIdeal.main_arg0) = m ((c.tc : Thread Cert.PrepDxIdeal.nD Cert.PrepDxIdeal.τ).loc Cert.PrepDxIdeal.main_arg0)
      ∧ r.2.mem ((c.tc : Thread Cert.PrepDxIdeal.nD Cert.PrepDxIdeal.τ).loc Cert.PrepDxIdeal.main_arg1) = m ((c.tc : Thread Cert.PrepDxIdeal.nD Cert.PrepDxIdeal.τ).loc Cert.PrepDxIdeal.main_arg1)
      ∧ r.2.mem ((c.tc : Thread Cert.PrepDxIdeal.nD Cert.PrepDxIdeal.τ).loc Cert.PrepDxIdeal.main_arg2) = m ((c.tc : Thread Cert.PrepDxIdeal.nD Cert.PrepDxIdeal.τ).loc Cert.PrepDxIdeal.main_arg2)
      ∧ r.2.mem ((c.tc : Thread Cert.PrepDxIdeal.nD Cert.PrepDxIdeal.τ).loc Cert.PrepDxIdeal.main_arg3) = m ((c.tc : Thread Cert.PrepDxIdeal.nD Cert.PrepDxIdeal.τ).loc Cert.PrepDxIdeal.main_arg3)
      ∧ r.2.mem ((c.tc : Thread Cert.PrepDxIdeal.nD Cert.PrepDxIdeal.τ).loc Cert.PrepDxIdeal.main_arg4) = m ((c.tc : Thread Cert.PrepDxIdeal.nD Cert.PrepDxIdeal.τ).loc Cert.PrepDxIdeal.main_arg4)
      ∧ r.2.mem ((c.tc : Thread Cert.PrepDxIdeal.nD Cert.PrepDxIdeal.τ).loc Cert.PrepDxIdeal.main_arg5) = m ((c.tc : Thread Cert.PrepDxIdeal.nD Cert.PrepDxIdeal.τ).loc Cert.PrepDxIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_GlaDx [hGlaDx : Cert.GlaDx.Facts] : Prop :=
  ∀ (m : (ℓ : Loc Cert.GlaDx.nD Cert.GlaDx.τ Cert.GlaDx.sig) → Buf (Elt Bits) ℓ) (g : Dev Cert.GlaDx.nD → PrngReg), Pre_GlaDx m →
    θ_run (Cert.GlaDx.defs (F := Bits)) (onTc (τ := Cert.GlaDx.τ) (Cert.GlaDx.main (F := Bits))) ⟨m, fun _ => 0, g⟩ (fun r => (∀ c : Dev Cert.GlaDx.nD,
      r.2.mem ((c.tc : Thread Cert.GlaDx.nD Cert.GlaDx.τ).loc Cert.GlaDx.main_arg0) = m ((c.tc : Thread Cert.GlaDx.nD Cert.GlaDx.τ).loc Cert.GlaDx.main_arg0)
      ∧ r.2.mem ((c.tc : Thread Cert.GlaDx.nD Cert.GlaDx.τ).loc Cert.GlaDx.main_arg1) = m ((c.tc : Thread Cert.GlaDx.nD Cert.GlaDx.τ).loc Cert.GlaDx.main_arg1)
      ∧ r.2.mem ((c.tc : Thread Cert.GlaDx.nD Cert.GlaDx.τ).loc Cert.GlaDx.main_arg2) = m ((c.tc : Thread Cert.GlaDx.nD Cert.GlaDx.τ).loc Cert.GlaDx.main_arg2)
      ∧ r.2.mem ((c.tc : Thread Cert.GlaDx.nD Cert.GlaDx.τ).loc Cert.GlaDx.main_arg3) = m ((c.tc : Thread Cert.GlaDx.nD Cert.GlaDx.τ).loc Cert.GlaDx.main_arg3)
      ∧ r.2.mem ((c.tc : Thread Cert.GlaDx.nD Cert.GlaDx.τ).loc Cert.GlaDx.main_arg4) = m ((c.tc : Thread Cert.GlaDx.nD Cert.GlaDx.τ).loc Cert.GlaDx.main_arg4))
      ∧ r.2.sem = fun _ => 0)

def quiescent_GlaDxIdeal [hGlaDxIdeal : Cert.GlaDxIdeal.Facts] : Prop :=
  ∀ (m : (ℓ : Loc Cert.GlaDxIdeal.nD Cert.GlaDxIdeal.τ Cert.GlaDxIdeal.sig) → Buf (Elt Ideal) ℓ) (g : Dev Cert.GlaDxIdeal.nD → PrngReg), Pre_GlaDxIdeal m →
    θ_run (Cert.GlaDxIdeal.defs (F := Ideal)) (onTc (τ := Cert.GlaDxIdeal.τ) (Cert.GlaDxIdeal.main (F := Ideal))) ⟨m, fun _ => 0, g⟩ (fun r => (∀ c : Dev Cert.GlaDxIdeal.nD,
      r.2.mem ((c.tc : Thread Cert.GlaDxIdeal.nD Cert.GlaDxIdeal.τ).loc Cert.GlaDxIdeal.main_arg0) = m ((c.tc : Thread Cert.GlaDxIdeal.nD Cert.GlaDxIdeal.τ).loc Cert.GlaDxIdeal.main_arg0)
      ∧ r.2.mem ((c.tc : Thread Cert.GlaDxIdeal.nD Cert.GlaDxIdeal.τ).loc Cert.GlaDxIdeal.main_arg1) = m ((c.tc : Thread Cert.GlaDxIdeal.nD Cert.GlaDxIdeal.τ).loc Cert.GlaDxIdeal.main_arg1)
      ∧ r.2.mem ((c.tc : Thread Cert.GlaDxIdeal.nD Cert.GlaDxIdeal.τ).loc Cert.GlaDxIdeal.main_arg2) = m ((c.tc : Thread Cert.GlaDxIdeal.nD Cert.GlaDxIdeal.τ).loc Cert.GlaDxIdeal.main_arg2)
      ∧ r.2.mem ((c.tc : Thread Cert.GlaDxIdeal.nD Cert.GlaDxIdeal.τ).loc Cert.GlaDxIdeal.main_arg3) = m ((c.tc : Thread Cert.GlaDxIdeal.nD Cert.GlaDxIdeal.τ).loc Cert.GlaDxIdeal.main_arg3)
      ∧ r.2.mem ((c.tc : Thread Cert.GlaDxIdeal.nD Cert.GlaDxIdeal.τ).loc Cert.GlaDxIdeal.main_arg4) = m ((c.tc : Thread Cert.GlaDxIdeal.nD Cert.GlaDxIdeal.τ).loc Cert.GlaDxIdeal.main_arg4))
      ∧ r.2.sem = fun _ => 0)

def quiescent_GlaRev [hGlaRev : Cert.GlaRev.Facts] : Prop :=
  ∀ (m : (ℓ : Loc Cert.GlaRev.nD Cert.GlaRev.τ Cert.GlaRev.sig) → Buf (Elt Bits) ℓ) (g : Dev Cert.GlaRev.nD → PrngReg), Pre_GlaRev m →
    θ_run (Cert.GlaRev.defs (F := Bits)) (onTc (τ := Cert.GlaRev.τ) (Cert.GlaRev.main (F := Bits))) ⟨m, fun _ => 0, g⟩ (fun r => (∀ c : Dev Cert.GlaRev.nD,
      r.2.mem ((c.tc : Thread Cert.GlaRev.nD Cert.GlaRev.τ).loc Cert.GlaRev.main_arg0) = m ((c.tc : Thread Cert.GlaRev.nD Cert.GlaRev.τ).loc Cert.GlaRev.main_arg0)
      ∧ r.2.mem ((c.tc : Thread Cert.GlaRev.nD Cert.GlaRev.τ).loc Cert.GlaRev.main_arg1) = m ((c.tc : Thread Cert.GlaRev.nD Cert.GlaRev.τ).loc Cert.GlaRev.main_arg1)
      ∧ r.2.mem ((c.tc : Thread Cert.GlaRev.nD Cert.GlaRev.τ).loc Cert.GlaRev.main_arg2) = m ((c.tc : Thread Cert.GlaRev.nD Cert.GlaRev.τ).loc Cert.GlaRev.main_arg2)
      ∧ r.2.mem ((c.tc : Thread Cert.GlaRev.nD Cert.GlaRev.τ).loc Cert.GlaRev.main_arg3) = m ((c.tc : Thread Cert.GlaRev.nD Cert.GlaRev.τ).loc Cert.GlaRev.main_arg3)
      ∧ r.2.mem ((c.tc : Thread Cert.GlaRev.nD Cert.GlaRev.τ).loc Cert.GlaRev.main_arg4) = m ((c.tc : Thread Cert.GlaRev.nD Cert.GlaRev.τ).loc Cert.GlaRev.main_arg4))
      ∧ r.2.sem = fun _ => 0)

def quiescent_GlaRevIdeal [hGlaRevIdeal : Cert.GlaRevIdeal.Facts] : Prop :=
  ∀ (m : (ℓ : Loc Cert.GlaRevIdeal.nD Cert.GlaRevIdeal.τ Cert.GlaRevIdeal.sig) → Buf (Elt Ideal) ℓ) (g : Dev Cert.GlaRevIdeal.nD → PrngReg), Pre_GlaRevIdeal m →
    θ_run (Cert.GlaRevIdeal.defs (F := Ideal)) (onTc (τ := Cert.GlaRevIdeal.τ) (Cert.GlaRevIdeal.main (F := Ideal))) ⟨m, fun _ => 0, g⟩ (fun r => (∀ c : Dev Cert.GlaRevIdeal.nD,
      r.2.mem ((c.tc : Thread Cert.GlaRevIdeal.nD Cert.GlaRevIdeal.τ).loc Cert.GlaRevIdeal.main_arg0) = m ((c.tc : Thread Cert.GlaRevIdeal.nD Cert.GlaRevIdeal.τ).loc Cert.GlaRevIdeal.main_arg0)
      ∧ r.2.mem ((c.tc : Thread Cert.GlaRevIdeal.nD Cert.GlaRevIdeal.τ).loc Cert.GlaRevIdeal.main_arg1) = m ((c.tc : Thread Cert.GlaRevIdeal.nD Cert.GlaRevIdeal.τ).loc Cert.GlaRevIdeal.main_arg1)
      ∧ r.2.mem ((c.tc : Thread Cert.GlaRevIdeal.nD Cert.GlaRevIdeal.τ).loc Cert.GlaRevIdeal.main_arg2) = m ((c.tc : Thread Cert.GlaRevIdeal.nD Cert.GlaRevIdeal.τ).loc Cert.GlaRevIdeal.main_arg2)
      ∧ r.2.mem ((c.tc : Thread Cert.GlaRevIdeal.nD Cert.GlaRevIdeal.τ).loc Cert.GlaRevIdeal.main_arg3) = m ((c.tc : Thread Cert.GlaRevIdeal.nD Cert.GlaRevIdeal.τ).loc Cert.GlaRevIdeal.main_arg3)
      ∧ r.2.mem ((c.tc : Thread Cert.GlaRevIdeal.nD Cert.GlaRevIdeal.τ).loc Cert.GlaRevIdeal.main_arg4) = m ((c.tc : Thread Cert.GlaRevIdeal.nD Cert.GlaRevIdeal.τ).loc Cert.GlaRevIdeal.main_arg4))
      ∧ r.2.sem = fun _ => 0)

def quiescent_GlaFw [hGlaFw : Cert.GlaFw.Facts] : Prop :=
  ∀ (m : (ℓ : Loc Cert.GlaFw.nD Cert.GlaFw.τ Cert.GlaFw.sig) → Buf (Elt Bits) ℓ) (g : Dev Cert.GlaFw.nD → PrngReg), Pre_GlaFw m →
    θ_run (Cert.GlaFw.defs (F := Bits)) (onTc (τ := Cert.GlaFw.τ) (Cert.GlaFw.main (F := Bits))) ⟨m, fun _ => 0, g⟩ (fun r => (∀ c : Dev Cert.GlaFw.nD,
      r.2.mem ((c.tc : Thread Cert.GlaFw.nD Cert.GlaFw.τ).loc Cert.GlaFw.main_arg0) = m ((c.tc : Thread Cert.GlaFw.nD Cert.GlaFw.τ).loc Cert.GlaFw.main_arg0)
      ∧ r.2.mem ((c.tc : Thread Cert.GlaFw.nD Cert.GlaFw.τ).loc Cert.GlaFw.main_arg1) = m ((c.tc : Thread Cert.GlaFw.nD Cert.GlaFw.τ).loc Cert.GlaFw.main_arg1)
      ∧ r.2.mem ((c.tc : Thread Cert.GlaFw.nD Cert.GlaFw.τ).loc Cert.GlaFw.main_arg2) = m ((c.tc : Thread Cert.GlaFw.nD Cert.GlaFw.τ).loc Cert.GlaFw.main_arg2)
      ∧ r.2.mem ((c.tc : Thread Cert.GlaFw.nD Cert.GlaFw.τ).loc Cert.GlaFw.main_arg3) = m ((c.tc : Thread Cert.GlaFw.nD Cert.GlaFw.τ).loc Cert.GlaFw.main_arg3))
      ∧ r.2.sem = fun _ => 0)

def quiescent_GlaFwIdeal [hGlaFwIdeal : Cert.GlaFwIdeal.Facts] : Prop :=
  ∀ (m : (ℓ : Loc Cert.GlaFwIdeal.nD Cert.GlaFwIdeal.τ Cert.GlaFwIdeal.sig) → Buf (Elt Ideal) ℓ) (g : Dev Cert.GlaFwIdeal.nD → PrngReg), Pre_GlaFwIdeal m →
    θ_run (Cert.GlaFwIdeal.defs (F := Ideal)) (onTc (τ := Cert.GlaFwIdeal.τ) (Cert.GlaFwIdeal.main (F := Ideal))) ⟨m, fun _ => 0, g⟩ (fun r => (∀ c : Dev Cert.GlaFwIdeal.nD,
      r.2.mem ((c.tc : Thread Cert.GlaFwIdeal.nD Cert.GlaFwIdeal.τ).loc Cert.GlaFwIdeal.main_arg0) = m ((c.tc : Thread Cert.GlaFwIdeal.nD Cert.GlaFwIdeal.τ).loc Cert.GlaFwIdeal.main_arg0)
      ∧ r.2.mem ((c.tc : Thread Cert.GlaFwIdeal.nD Cert.GlaFwIdeal.τ).loc Cert.GlaFwIdeal.main_arg1) = m ((c.tc : Thread Cert.GlaFwIdeal.nD Cert.GlaFwIdeal.τ).loc Cert.GlaFwIdeal.main_arg1)
      ∧ r.2.mem ((c.tc : Thread Cert.GlaFwIdeal.nD Cert.GlaFwIdeal.τ).loc Cert.GlaFwIdeal.main_arg2) = m ((c.tc : Thread Cert.GlaFwIdeal.nD Cert.GlaFwIdeal.τ).loc Cert.GlaFwIdeal.main_arg2)
      ∧ r.2.mem ((c.tc : Thread Cert.GlaFwIdeal.nD Cert.GlaFwIdeal.τ).loc Cert.GlaFwIdeal.main_arg3) = m ((c.tc : Thread Cert.GlaFwIdeal.nD Cert.GlaFwIdeal.τ).loc Cert.GlaFwIdeal.main_arg3))
      ∧ r.2.sem = fun _ => 0)

def quiescent_GlaFwRev [hGlaFwRev : Cert.GlaFwRev.Facts] : Prop :=
  ∀ (m : (ℓ : Loc Cert.GlaFwRev.nD Cert.GlaFwRev.τ Cert.GlaFwRev.sig) → Buf (Elt Bits) ℓ) (g : Dev Cert.GlaFwRev.nD → PrngReg), Pre_GlaFwRev m →
    θ_run (Cert.GlaFwRev.defs (F := Bits)) (onTc (τ := Cert.GlaFwRev.τ) (Cert.GlaFwRev.main (F := Bits))) ⟨m, fun _ => 0, g⟩ (fun r => (∀ c : Dev Cert.GlaFwRev.nD,
      r.2.mem ((c.tc : Thread Cert.GlaFwRev.nD Cert.GlaFwRev.τ).loc Cert.GlaFwRev.main_arg0) = m ((c.tc : Thread Cert.GlaFwRev.nD Cert.GlaFwRev.τ).loc Cert.GlaFwRev.main_arg0)
      ∧ r.2.mem ((c.tc : Thread Cert.GlaFwRev.nD Cert.GlaFwRev.τ).loc Cert.GlaFwRev.main_arg1) = m ((c.tc : Thread Cert.GlaFwRev.nD Cert.GlaFwRev.τ).loc Cert.GlaFwRev.main_arg1)
      ∧ r.2.mem ((c.tc : Thread Cert.GlaFwRev.nD Cert.GlaFwRev.τ).loc Cert.GlaFwRev.main_arg2) = m ((c.tc : Thread Cert.GlaFwRev.nD Cert.GlaFwRev.τ).loc Cert.GlaFwRev.main_arg2)
      ∧ r.2.mem ((c.tc : Thread Cert.GlaFwRev.nD Cert.GlaFwRev.τ).loc Cert.GlaFwRev.main_arg3) = m ((c.tc : Thread Cert.GlaFwRev.nD Cert.GlaFwRev.τ).loc Cert.GlaFwRev.main_arg3))
      ∧ r.2.sem = fun _ => 0)

def quiescent_GlaFwRevIdeal [hGlaFwRevIdeal : Cert.GlaFwRevIdeal.Facts] : Prop :=
  ∀ (m : (ℓ : Loc Cert.GlaFwRevIdeal.nD Cert.GlaFwRevIdeal.τ Cert.GlaFwRevIdeal.sig) → Buf (Elt Ideal) ℓ) (g : Dev Cert.GlaFwRevIdeal.nD → PrngReg), Pre_GlaFwRevIdeal m →
    θ_run (Cert.GlaFwRevIdeal.defs (F := Ideal)) (onTc (τ := Cert.GlaFwRevIdeal.τ) (Cert.GlaFwRevIdeal.main (F := Ideal))) ⟨m, fun _ => 0, g⟩ (fun r => (∀ c : Dev Cert.GlaFwRevIdeal.nD,
      r.2.mem ((c.tc : Thread Cert.GlaFwRevIdeal.nD Cert.GlaFwRevIdeal.τ).loc Cert.GlaFwRevIdeal.main_arg0) = m ((c.tc : Thread Cert.GlaFwRevIdeal.nD Cert.GlaFwRevIdeal.τ).loc Cert.GlaFwRevIdeal.main_arg0)
      ∧ r.2.mem ((c.tc : Thread Cert.GlaFwRevIdeal.nD Cert.GlaFwRevIdeal.τ).loc Cert.GlaFwRevIdeal.main_arg1) = m ((c.tc : Thread Cert.GlaFwRevIdeal.nD Cert.GlaFwRevIdeal.τ).loc Cert.GlaFwRevIdeal.main_arg1)
      ∧ r.2.mem ((c.tc : Thread Cert.GlaFwRevIdeal.nD Cert.GlaFwRevIdeal.τ).loc Cert.GlaFwRevIdeal.main_arg2) = m ((c.tc : Thread Cert.GlaFwRevIdeal.nD Cert.GlaFwRevIdeal.τ).loc Cert.GlaFwRevIdeal.main_arg2)
      ∧ r.2.mem ((c.tc : Thread Cert.GlaFwRevIdeal.nD Cert.GlaFwRevIdeal.τ).loc Cert.GlaFwRevIdeal.main_arg3) = m ((c.tc : Thread Cert.GlaFwRevIdeal.nD Cert.GlaFwRevIdeal.τ).loc Cert.GlaFwRevIdeal.main_arg3))
      ∧ r.2.sem = fun _ => 0)

def quiescent_NormFw [hNormFw : Cert.NormFw.Facts] : Prop :=
  ∀ (m : (ℓ : Loc Cert.NormFw.nD Cert.NormFw.τ Cert.NormFw.sig) → Buf (Elt Bits) ℓ) (g : Dev Cert.NormFw.nD → PrngReg), Pre_NormFw m →
    θ_run (Cert.NormFw.defs (F := Bits)) (onTc (τ := Cert.NormFw.τ) (Cert.NormFw.main (F := Bits))) ⟨m, fun _ => 0, g⟩ (fun r => (∀ c : Dev Cert.NormFw.nD,
      r.2.mem ((c.tc : Thread Cert.NormFw.nD Cert.NormFw.τ).loc Cert.NormFw.main_arg0) = m ((c.tc : Thread Cert.NormFw.nD Cert.NormFw.τ).loc Cert.NormFw.main_arg0)
      ∧ r.2.mem ((c.tc : Thread Cert.NormFw.nD Cert.NormFw.τ).loc Cert.NormFw.main_arg1) = m ((c.tc : Thread Cert.NormFw.nD Cert.NormFw.τ).loc Cert.NormFw.main_arg1))
      ∧ r.2.sem = fun _ => 0)

def quiescent_NormFwIdeal [hNormFwIdeal : Cert.NormFwIdeal.Facts] : Prop :=
  ∀ (m : (ℓ : Loc Cert.NormFwIdeal.nD Cert.NormFwIdeal.τ Cert.NormFwIdeal.sig) → Buf (Elt Ideal) ℓ) (g : Dev Cert.NormFwIdeal.nD → PrngReg), Pre_NormFwIdeal m →
    θ_run (Cert.NormFwIdeal.defs (F := Ideal)) (onTc (τ := Cert.NormFwIdeal.τ) (Cert.NormFwIdeal.main (F := Ideal))) ⟨m, fun _ => 0, g⟩ (fun r => (∀ c : Dev Cert.NormFwIdeal.nD,
      r.2.mem ((c.tc : Thread Cert.NormFwIdeal.nD Cert.NormFwIdeal.τ).loc Cert.NormFwIdeal.main_arg0) = m ((c.tc : Thread Cert.NormFwIdeal.nD Cert.NormFwIdeal.τ).loc Cert.NormFwIdeal.main_arg0)
      ∧ r.2.mem ((c.tc : Thread Cert.NormFwIdeal.nD Cert.NormFwIdeal.τ).loc Cert.NormFwIdeal.main_arg1) = m ((c.tc : Thread Cert.NormFwIdeal.nD Cert.NormFwIdeal.τ).loc Cert.NormFwIdeal.main_arg1))
      ∧ r.2.sem = fun _ => 0)

def quiescent_NormFwRefIdeal [hNormFwRefIdeal : Cert.NormFwRefIdeal.Facts] : Prop :=
  ∀ (m : (ℓ : Loc Cert.NormFwRefIdeal.nD Cert.NormFwRefIdeal.τ Cert.NormFwRefIdeal.sig) → Buf (Elt Ideal) ℓ) (g : Dev Cert.NormFwRefIdeal.nD → PrngReg), Pre_NormFwRefIdeal m →
    θ_run (Cert.NormFwRefIdeal.defs (F := Ideal)) (onTc (τ := Cert.NormFwRefIdeal.τ) (Cert.NormFwRefIdeal.main (F := Ideal))) ⟨m, fun _ => 0, g⟩ (fun r => (∀ c : Dev Cert.NormFwRefIdeal.nD,
      r.2.mem ((c.tc : Thread Cert.NormFwRefIdeal.nD Cert.NormFwRefIdeal.τ).loc Cert.NormFwRefIdeal.main_arg0) = m ((c.tc : Thread Cert.NormFwRefIdeal.nD Cert.NormFwRefIdeal.τ).loc Cert.NormFwRefIdeal.main_arg0)
      ∧ r.2.mem ((c.tc : Thread Cert.NormFwRefIdeal.nD Cert.NormFwRefIdeal.τ).loc Cert.NormFwRefIdeal.main_arg1) = m ((c.tc : Thread Cert.NormFwRefIdeal.nD Cert.NormFwRefIdeal.τ).loc Cert.NormFwRefIdeal.main_arg1))
      ∧ r.2.sem = fun _ => 0)

def quiescent_OutFw [hOutFw : Cert.OutFw.Facts] : Prop :=
  ∀ (m : (ℓ : Loc Cert.OutFw.nD Cert.OutFw.τ Cert.OutFw.sig) → Buf (Elt Bits) ℓ) (g : Dev Cert.OutFw.nD → PrngReg), Pre_OutFw m →
    θ_run (Cert.OutFw.defs (F := Bits)) (onTc (τ := Cert.OutFw.τ) (Cert.OutFw.main (F := Bits))) ⟨m, fun _ => 0, g⟩ (fun r => (∀ c : Dev Cert.OutFw.nD,
      r.2.mem ((c.tc : Thread Cert.OutFw.nD Cert.OutFw.τ).loc Cert.OutFw.main_arg0) = m ((c.tc : Thread Cert.OutFw.nD Cert.OutFw.τ).loc Cert.OutFw.main_arg0)
      ∧ r.2.mem ((c.tc : Thread Cert.OutFw.nD Cert.OutFw.τ).loc Cert.OutFw.main_arg1) = m ((c.tc : Thread Cert.OutFw.nD Cert.OutFw.τ).loc Cert.OutFw.main_arg1)
      ∧ r.2.mem ((c.tc : Thread Cert.OutFw.nD Cert.OutFw.τ).loc Cert.OutFw.main_arg2) = m ((c.tc : Thread Cert.OutFw.nD Cert.OutFw.τ).loc Cert.OutFw.main_arg2)
      ∧ r.2.mem ((c.tc : Thread Cert.OutFw.nD Cert.OutFw.τ).loc Cert.OutFw.main_arg3) = m ((c.tc : Thread Cert.OutFw.nD Cert.OutFw.τ).loc Cert.OutFw.main_arg3))
      ∧ r.2.sem = fun _ => 0)

def quiescent_OutFwIdeal [hOutFwIdeal : Cert.OutFwIdeal.Facts] : Prop :=
  ∀ (m : (ℓ : Loc Cert.OutFwIdeal.nD Cert.OutFwIdeal.τ Cert.OutFwIdeal.sig) → Buf (Elt Ideal) ℓ) (g : Dev Cert.OutFwIdeal.nD → PrngReg), Pre_OutFwIdeal m →
    θ_run (Cert.OutFwIdeal.defs (F := Ideal)) (onTc (τ := Cert.OutFwIdeal.τ) (Cert.OutFwIdeal.main (F := Ideal))) ⟨m, fun _ => 0, g⟩ (fun r => (∀ c : Dev Cert.OutFwIdeal.nD,
      r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
      ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1)
      ∧ r.2.mem ((c.tc : Thread Cert.OutFwIdeal.nD Cert.OutFwIdeal.τ).loc Cert.OutFwIdeal.main_arg2) = m ((c.tc : Thread Cert.OutFwIdeal.nD Cert.OutFwIdeal.τ).loc Cert.OutFwIdeal.main_arg2)
      ∧ r.2.mem ((c.tc : Thread Cert.OutFwIdeal.nD Cert.OutFwIdeal.τ).loc Cert.OutFwIdeal.main_arg3) = m ((c.tc : Thread Cert.OutFwIdeal.nD Cert.OutFwIdeal.τ).loc Cert.OutFwIdeal.main_arg3))
      ∧ r.2.sem = fun _ => 0)

def quiescent_OutFwRefIdeal [hOutFwRefIdeal : Cert.OutFwRefIdeal.Facts] : Prop :=
  ∀ (m : (ℓ : Loc Cert.OutFwRefIdeal.nD Cert.OutFwRefIdeal.τ Cert.OutFwRefIdeal.sig) → Buf (Elt Ideal) ℓ) (g : Dev Cert.OutFwRefIdeal.nD → PrngReg), Pre_OutFwRefIdeal m →
    θ_run (Cert.OutFwRefIdeal.defs (F := Ideal)) (onTc (τ := Cert.OutFwRefIdeal.τ) (Cert.OutFwRefIdeal.main (F := Ideal))) ⟨m, fun _ => 0, g⟩ (fun r => (∀ c : Dev Cert.OutFwRefIdeal.nD,
      r.2.mem ((c.tc : Thread Cert.OutFwRefIdeal.nD Cert.OutFwRefIdeal.τ).loc Cert.OutFwRefIdeal.main_arg0) = m ((c.tc : Thread Cert.OutFwRefIdeal.nD Cert.OutFwRefIdeal.τ).loc Cert.OutFwRefIdeal.main_arg0)
      ∧ r.2.mem ((c.tc : Thread Cert.OutFwRefIdeal.nD Cert.OutFwRefIdeal.τ).loc Cert.OutFwRefIdeal.main_arg1) = m ((c.tc : Thread Cert.OutFwRefIdeal.nD Cert.OutFwRefIdeal.τ).loc Cert.OutFwRefIdeal.main_arg1)
      ∧ r.2.mem ((c.tc : Thread Cert.OutFwRefIdeal.nD Cert.OutFwRefIdeal.τ).loc Cert.OutFwRefIdeal.main_arg2) = m ((c.tc : Thread Cert.OutFwRefIdeal.nD Cert.OutFwRefIdeal.τ).loc Cert.OutFwRefIdeal.main_arg2)
      ∧ r.2.mem ((c.tc : Thread Cert.OutFwRefIdeal.nD Cert.OutFwRefIdeal.τ).loc Cert.OutFwRefIdeal.main_arg3) = m ((c.tc : Thread Cert.OutFwRefIdeal.nD Cert.OutFwRefIdeal.τ).loc Cert.OutFwRefIdeal.main_arg3))
      ∧ r.2.sem = fun _ => 0)

def quiescent_ActFw [hActFw : Cert.ActFw.Facts] : Prop :=
  ∀ (m : (ℓ : Loc Cert.ActFw.nD Cert.ActFw.τ Cert.ActFw.sig) → Buf (Elt Bits) ℓ) (g : Dev Cert.ActFw.nD → PrngReg), Pre_ActFw m →
    θ_run (Cert.ActFw.defs (F := Bits)) (onTc (τ := Cert.ActFw.τ) (Cert.ActFw.main (F := Bits))) ⟨m, fun _ => 0, g⟩ (fun r => (∀ c : Dev Cert.ActFw.nD,
      r.2.mem ((c.tc : Thread Cert.ActFw.nD Cert.ActFw.τ).loc Cert.ActFw.main_arg0) = m ((c.tc : Thread Cert.ActFw.nD Cert.ActFw.τ).loc Cert.ActFw.main_arg0)
      ∧ r.2.mem ((c.tc : Thread Cert.ActFw.nD Cert.ActFw.τ).loc Cert.ActFw.main_arg1) = m ((c.tc : Thread Cert.ActFw.nD Cert.ActFw.τ).loc Cert.ActFw.main_arg1))
      ∧ r.2.sem = fun _ => 0)

def quiescent_ActFwIdeal [hActFwIdeal : Cert.ActFwIdeal.Facts] : Prop :=
  ∀ (m : (ℓ : Loc Cert.ActFwIdeal.nD Cert.ActFwIdeal.τ Cert.ActFwIdeal.sig) → Buf (Elt Ideal) ℓ) (g : Dev Cert.ActFwIdeal.nD → PrngReg), Pre_ActFwIdeal m →
    θ_run (Cert.ActFwIdeal.defs (F := Ideal)) (onTc (τ := Cert.ActFwIdeal.τ) (Cert.ActFwIdeal.main (F := Ideal))) ⟨m, fun _ => 0, g⟩ (fun r => (∀ c : Dev Cert.ActFwIdeal.nD,
      r.2.mem ((c.tc : Thread Cert.ActFwIdeal.nD Cert.ActFwIdeal.τ).loc Cert.ActFwIdeal.main_arg0) = m ((c.tc : Thread Cert.ActFwIdeal.nD Cert.ActFwIdeal.τ).loc Cert.ActFwIdeal.main_arg0)
      ∧ r.2.mem ((c.tc : Thread Cert.ActFwIdeal.nD Cert.ActFwIdeal.τ).loc Cert.ActFwIdeal.main_arg1) = m ((c.tc : Thread Cert.ActFwIdeal.nD Cert.ActFwIdeal.τ).loc Cert.ActFwIdeal.main_arg1))
      ∧ r.2.sem = fun _ => 0)

def quiescent_ActFwRefIdeal [hActFwRefIdeal : Cert.ActFwRefIdeal.Facts] : Prop :=
  ∀ (m : (ℓ : Loc Cert.ActFwRefIdeal.nD Cert.ActFwRefIdeal.τ Cert.ActFwRefIdeal.sig) → Buf (Elt Ideal) ℓ) (g : Dev Cert.ActFwRefIdeal.nD → PrngReg), Pre_ActFwRefIdeal m →
    θ_run (Cert.ActFwRefIdeal.defs (F := Ideal)) (onTc (τ := Cert.ActFwRefIdeal.τ) (Cert.ActFwRefIdeal.main (F := Ideal))) ⟨m, fun _ => 0, g⟩ (fun r => (∀ c : Dev Cert.ActFwRefIdeal.nD,
      r.2.mem ((c.tc : Thread Cert.ActFwRefIdeal.nD Cert.ActFwRefIdeal.τ).loc Cert.ActFwRefIdeal.main_arg0) = m ((c.tc : Thread Cert.ActFwRefIdeal.nD Cert.ActFwRefIdeal.τ).loc Cert.ActFwRefIdeal.main_arg0)
      ∧ r.2.mem ((c.tc : Thread Cert.ActFwRefIdeal.nD Cert.ActFwRefIdeal.τ).loc Cert.ActFwRefIdeal.main_arg1) = m ((c.tc : Thread Cert.ActFwRefIdeal.nD Cert.ActFwRefIdeal.τ).loc Cert.ActFwRefIdeal.main_arg1))
      ∧ r.2.sem = fun _ => 0)

def quiescent_MixFw [hMixFw : Cert.MixFw.Facts] : Prop :=
  ∀ (m : (ℓ : Loc Cert.MixFw.nD Cert.MixFw.τ Cert.MixFw.sig) → Buf (Elt Bits) ℓ) (g : Dev Cert.MixFw.nD → PrngReg), Pre_MixFw m →
    θ_run (Cert.MixFw.defs (F := Bits)) (onTc (τ := Cert.MixFw.τ) (Cert.MixFw.main (F := Bits))) ⟨m, fun _ => 0, g⟩ (fun r => (∀ c : Dev Cert.MixFw.nD,
      r.2.mem ((c.tc : Thread Cert.MixFw.nD Cert.MixFw.τ).loc Cert.MixFw.main_arg0) = m ((c.tc : Thread Cert.MixFw.nD Cert.MixFw.τ).loc Cert.MixFw.main_arg0)
      ∧ r.2.mem ((c.tc : Thread Cert.MixFw.nD Cert.MixFw.τ).loc Cert.MixFw.main_arg1) = m ((c.tc : Thread Cert.MixFw.nD Cert.MixFw.τ).loc Cert.MixFw.main_arg1)
      ∧ r.2.mem ((c.tc : Thread Cert.MixFw.nD Cert.MixFw.τ).loc Cert.MixFw.main_arg2) = m ((c.tc : Thread Cert.MixFw.nD Cert.MixFw.τ).loc Cert.MixFw.main_arg2)
      ∧ r.2.mem ((c.tc : Thread Cert.MixFw.nD Cert.MixFw.τ).loc Cert.MixFw.main_arg3) = m ((c.tc : Thread Cert.MixFw.nD Cert.MixFw.τ).loc Cert.MixFw.main_arg3)
      ∧ r.2.mem ((c.tc : Thread Cert.MixFw.nD Cert.MixFw.τ).loc Cert.MixFw.main_arg4) = m ((c.tc : Thread Cert.MixFw.nD Cert.MixFw.τ).loc Cert.MixFw.main_arg4)
      ∧ r.2.mem ((c.tc : Thread Cert.MixFw.nD Cert.MixFw.τ).loc Cert.MixFw.main_arg5) = m ((c.tc : Thread Cert.MixFw.nD Cert.MixFw.τ).loc Cert.MixFw.main_arg5))
      ∧ r.2.sem = fun _ => 0)

def quiescent_MixFwIdeal [hMixFwIdeal : Cert.MixFwIdeal.Facts] : Prop :=
  ∀ (m : (ℓ : Loc Cert.MixFwIdeal.nD Cert.MixFwIdeal.τ Cert.MixFwIdeal.sig) → Buf (Elt Ideal) ℓ) (g : Dev Cert.MixFwIdeal.nD → PrngReg), Pre_MixFwIdeal m →
    θ_run (Cert.MixFwIdeal.defs (F := Ideal)) (onTc (τ := Cert.MixFwIdeal.τ) (Cert.MixFwIdeal.main (F := Ideal))) ⟨m, fun _ => 0, g⟩ (fun r => (∀ c : Dev Cert.MixFwIdeal.nD,
      r.2.mem ((c.tc : Thread Cert.MixFwIdeal.nD Cert.MixFwIdeal.τ).loc Cert.MixFwIdeal.main_arg0) = m ((c.tc : Thread Cert.MixFwIdeal.nD Cert.MixFwIdeal.τ).loc Cert.MixFwIdeal.main_arg0)
      ∧ r.2.mem ((c.tc : Thread Cert.MixFwIdeal.nD Cert.MixFwIdeal.τ).loc Cert.MixFwIdeal.main_arg1) = m ((c.tc : Thread Cert.MixFwIdeal.nD Cert.MixFwIdeal.τ).loc Cert.MixFwIdeal.main_arg1)
      ∧ r.2.mem ((c.tc : Thread Cert.MixFwIdeal.nD Cert.MixFwIdeal.τ).loc Cert.MixFwIdeal.main_arg2) = m ((c.tc : Thread Cert.MixFwIdeal.nD Cert.MixFwIdeal.τ).loc Cert.MixFwIdeal.main_arg2)
      ∧ r.2.mem ((c.tc : Thread Cert.MixFwIdeal.nD Cert.MixFwIdeal.τ).loc Cert.MixFwIdeal.main_arg3) = m ((c.tc : Thread Cert.MixFwIdeal.nD Cert.MixFwIdeal.τ).loc Cert.MixFwIdeal.main_arg3)
      ∧ r.2.mem ((c.tc : Thread Cert.MixFwIdeal.nD Cert.MixFwIdeal.τ).loc Cert.MixFwIdeal.main_arg4) = m ((c.tc : Thread Cert.MixFwIdeal.nD Cert.MixFwIdeal.τ).loc Cert.MixFwIdeal.main_arg4)
      ∧ r.2.mem ((c.tc : Thread Cert.MixFwIdeal.nD Cert.MixFwIdeal.τ).loc Cert.MixFwIdeal.main_arg5) = m ((c.tc : Thread Cert.MixFwIdeal.nD Cert.MixFwIdeal.τ).loc Cert.MixFwIdeal.main_arg5))
      ∧ r.2.sem = fun _ => 0)

def quiescent_MixFwRefIdeal [hMixFwRefIdeal : Cert.MixFwRefIdeal.Facts] : Prop :=
  ∀ (m : (ℓ : Loc Cert.MixFwRefIdeal.nD Cert.MixFwRefIdeal.τ Cert.MixFwRefIdeal.sig) → Buf (Elt Ideal) ℓ) (g : Dev Cert.MixFwRefIdeal.nD → PrngReg), Pre_MixFwRefIdeal m →
    θ_run (Cert.MixFwRefIdeal.defs (F := Ideal)) (onTc (τ := Cert.MixFwRefIdeal.τ) (Cert.MixFwRefIdeal.main (F := Ideal))) ⟨m, fun _ => 0, g⟩ (fun r => (∀ c : Dev Cert.MixFwRefIdeal.nD,
      r.2.mem ((c.tc : Thread Cert.MixFwRefIdeal.nD Cert.MixFwRefIdeal.τ).loc Cert.MixFwRefIdeal.main_arg0) = m ((c.tc : Thread Cert.MixFwRefIdeal.nD Cert.MixFwRefIdeal.τ).loc Cert.MixFwRefIdeal.main_arg0)
      ∧ r.2.mem ((c.tc : Thread Cert.MixFwRefIdeal.nD Cert.MixFwRefIdeal.τ).loc Cert.MixFwRefIdeal.main_arg1) = m ((c.tc : Thread Cert.MixFwRefIdeal.nD Cert.MixFwRefIdeal.τ).loc Cert.MixFwRefIdeal.main_arg1)
      ∧ r.2.mem ((c.tc : Thread Cert.MixFwRefIdeal.nD Cert.MixFwRefIdeal.τ).loc Cert.MixFwRefIdeal.main_arg2) = m ((c.tc : Thread Cert.MixFwRefIdeal.nD Cert.MixFwRefIdeal.τ).loc Cert.MixFwRefIdeal.main_arg2)
      ∧ r.2.mem ((c.tc : Thread Cert.MixFwRefIdeal.nD Cert.MixFwRefIdeal.τ).loc Cert.MixFwRefIdeal.main_arg3) = m ((c.tc : Thread Cert.MixFwRefIdeal.nD Cert.MixFwRefIdeal.τ).loc Cert.MixFwRefIdeal.main_arg3)
      ∧ r.2.mem ((c.tc : Thread Cert.MixFwRefIdeal.nD Cert.MixFwRefIdeal.τ).loc Cert.MixFwRefIdeal.main_arg4) = m ((c.tc : Thread Cert.MixFwRefIdeal.nD Cert.MixFwRefIdeal.τ).loc Cert.MixFwRefIdeal.main_arg4)
      ∧ r.2.mem ((c.tc : Thread Cert.MixFwRefIdeal.nD Cert.MixFwRefIdeal.τ).loc Cert.MixFwRefIdeal.main_arg5) = m ((c.tc : Thread Cert.MixFwRefIdeal.nD Cert.MixFwRefIdeal.τ).loc Cert.MixFwRefIdeal.main_arg5))
      ∧ r.2.sem = fun _ => 0)

def quiescent_PrepFw [hPrepFw : Cert.PrepFw.Facts] : Prop :=
  ∀ (m : (ℓ : Loc Cert.PrepFw.nD Cert.PrepFw.τ Cert.PrepFw.sig) → Buf (Elt Bits) ℓ) (g : Dev Cert.PrepFw.nD → PrngReg), Pre_PrepFw m →
    θ_run (Cert.PrepFw.defs (F := Bits)) (onTc (τ := Cert.PrepFw.τ) (Cert.PrepFw.main (F := Bits))) ⟨m, fun _ => 0, g⟩ (fun r => (∀ c : Dev Cert.PrepFw.nD,
      r.2.mem ((c.tc : Thread Cert.PrepFw.nD Cert.PrepFw.τ).loc Cert.PrepFw.main_arg0) = m ((c.tc : Thread Cert.PrepFw.nD Cert.PrepFw.τ).loc Cert.PrepFw.main_arg0)
      ∧ r.2.mem ((c.tc : Thread Cert.PrepFw.nD Cert.PrepFw.τ).loc Cert.PrepFw.main_arg1) = m ((c.tc : Thread Cert.PrepFw.nD Cert.PrepFw.τ).loc Cert.PrepFw.main_arg1)
      ∧ r.2.mem ((c.tc : Thread Cert.PrepFw.nD Cert.PrepFw.τ).loc Cert.PrepFw.main_arg2) = m ((c.tc : Thread Cert.PrepFw.nD Cert.PrepFw.τ).loc Cert.PrepFw.main_arg2))
      ∧ r.2.sem = fun _ => 0)

def quiescent_PrepFwIdeal [hPrepFwIdeal : Cert.PrepFwIdeal.Facts] : Prop :=
  ∀ (m : (ℓ : Loc Cert.PrepFwIdeal.nD Cert.PrepFwIdeal.τ Cert.PrepFwIdeal.sig) → Buf (Elt Ideal) ℓ) (g : Dev Cert.PrepFwIdeal.nD → PrngReg), Pre_PrepFwIdeal m →
    θ_run (Cert.PrepFwIdeal.defs (F := Ideal)) (onTc (τ := Cert.PrepFwIdeal.τ) (Cert.PrepFwIdeal.main (F := Ideal))) ⟨m, fun _ => 0, g⟩ (fun r => (∀ c : Dev Cert.PrepFwIdeal.nD,
      r.2.mem ((c.tc : Thread Cert.PrepFwIdeal.nD Cert.PrepFwIdeal.τ).loc Cert.PrepFwIdeal.main_arg0) = m ((c.tc : Thread Cert.PrepFwIdeal.nD Cert.PrepFwIdeal.τ).loc Cert.PrepFwIdeal.main_arg0)
      ∧ r.2.mem ((c.tc : Thread Cert.PrepFwIdeal.nD Cert.PrepFwIdeal.τ).loc Cert.PrepFwIdeal.main_arg1) = m ((c.tc : Thread Cert.PrepFwIdeal.nD Cert.PrepFwIdeal.τ).loc Cert.PrepFwIdeal.main_arg1)
      ∧ r.2.mem ((c.tc : Thread Cert.PrepFwIdeal.nD Cert.PrepFwIdeal.τ).loc Cert.PrepFwIdeal.main_arg2) = m ((c.tc : Thread Cert.PrepFwIdeal.nD Cert.PrepFwIdeal.τ).loc Cert.PrepFwIdeal.main_arg2))
      ∧ r.2.sem = fun _ => 0)

def quiescent_PrepFwIdeal_pre_prep_fw_finite [hPrepFwIdeal : Cert.PrepFwIdeal.Facts] [hPre_prep_fw_finite : Cert.Pre_prep_fw_finite.Facts] : Prop :=
  ∀ (m : (ℓ : Loc Cert.PrepFwIdeal.nD Cert.PrepFwIdeal.τ Cert.PrepFwIdeal.sig) → Buf (Elt Ideal) ℓ) (g : Dev Cert.PrepFwIdeal.nD → PrngReg), Pre_PrepFwIdeal_prep_fw_finite m →
    θ_run (Cert.PrepFwIdeal.defs (F := Ideal)) (onTc (τ := Cert.PrepFwIdeal.τ) (Cert.PrepFwIdeal.main (F := Ideal))) ⟨m, fun _ => 0, g⟩ (fun r => (∀ c : Dev Cert.PrepFwIdeal.nD,
      r.2.mem ((c.tc : Thread Cert.PrepFwIdeal.nD Cert.PrepFwIdeal.τ).loc Cert.PrepFwIdeal.main_arg0) = m ((c.tc : Thread Cert.PrepFwIdeal.nD Cert.PrepFwIdeal.τ).loc Cert.PrepFwIdeal.main_arg0)
      ∧ r.2.mem ((c.tc : Thread Cert.PrepFwIdeal.nD Cert.PrepFwIdeal.τ).loc Cert.PrepFwIdeal.main_arg1) = m ((c.tc : Thread Cert.PrepFwIdeal.nD Cert.PrepFwIdeal.τ).loc Cert.PrepFwIdeal.main_arg1)
      ∧ r.2.mem ((c.tc : Thread Cert.PrepFwIdeal.nD Cert.PrepFwIdeal.τ).loc Cert.PrepFwIdeal.main_arg2) = m ((c.tc : Thread Cert.PrepFwIdeal.nD Cert.PrepFwIdeal.τ).loc Cert.PrepFwIdeal.main_arg2))
      ∧ r.2.sem = fun _ => 0)

def quiescent_PrepFwRefIdeal [hPrepFwRefIdeal : Cert.PrepFwRefIdeal.Facts] : Prop :=
  ∀ (m : (ℓ : Loc Cert.PrepFwRefIdeal.nD Cert.PrepFwRefIdeal.τ Cert.PrepFwRefIdeal.sig) → Buf (Elt Ideal) ℓ) (g : Dev Cert.PrepFwRefIdeal.nD → PrngReg), Pre_PrepFwRefIdeal m →
    θ_run (Cert.PrepFwRefIdeal.defs (F := Ideal)) (onTc (τ := Cert.PrepFwRefIdeal.τ) (Cert.PrepFwRefIdeal.main (F := Ideal))) ⟨m, fun _ => 0, g⟩ (fun r => (∀ c : Dev Cert.PrepFwRefIdeal.nD,
      r.2.mem ((c.tc : Thread Cert.PrepFwRefIdeal.nD Cert.PrepFwRefIdeal.τ).loc Cert.PrepFwRefIdeal.main_arg0) = m ((c.tc : Thread Cert.PrepFwRefIdeal.nD Cert.PrepFwRefIdeal.τ).loc Cert.PrepFwRefIdeal.main_arg0)
      ∧ r.2.mem ((c.tc : Thread Cert.PrepFwRefIdeal.nD Cert.PrepFwRefIdeal.τ).loc Cert.PrepFwRefIdeal.main_arg1) = m ((c.tc : Thread Cert.PrepFwRefIdeal.nD Cert.PrepFwRefIdeal.τ).loc Cert.PrepFwRefIdeal.main_arg1)
      ∧ r.2.mem ((c.tc : Thread Cert.PrepFwRefIdeal.nD Cert.PrepFwRefIdeal.τ).loc Cert.PrepFwRefIdeal.main_arg2) = m ((c.tc : Thread Cert.PrepFwRefIdeal.nD Cert.PrepFwRefIdeal.τ).loc Cert.PrepFwRefIdeal.main_arg2))
      ∧ r.2.sem = fun _ => 0)

def quiescent_PrepFwRefIdeal_pre_prep_fw_finite [hPrepFwRefIdeal : Cert.PrepFwRefIdeal.Facts] [hPre_prep_fw_finite : Cert.Pre_prep_fw_finite.Facts] : Prop :=
  ∀ (m : (ℓ : Loc Cert.PrepFwRefIdeal.nD Cert.PrepFwRefIdeal.τ Cert.PrepFwRefIdeal.sig) → Buf (Elt Ideal) ℓ) (g : Dev Cert.PrepFwRefIdeal.nD → PrngReg), Pre_PrepFwRefIdeal_prep_fw_finite m →
    θ_run (Cert.PrepFwRefIdeal.defs (F := Ideal)) (onTc (τ := Cert.PrepFwRefIdeal.τ) (Cert.PrepFwRefIdeal.main (F := Ideal))) ⟨m, fun _ => 0, g⟩ (fun r => (∀ c : Dev Cert.PrepFwRefIdeal.nD,
      r.2.mem ((c.tc : Thread Cert.PrepFwRefIdeal.nD Cert.PrepFwRefIdeal.τ).loc Cert.PrepFwRefIdeal.main_arg0) = m ((c.tc : Thread Cert.PrepFwRefIdeal.nD Cert.PrepFwRefIdeal.τ).loc Cert.PrepFwRefIdeal.main_arg0)
      ∧ r.2.mem ((c.tc : Thread Cert.PrepFwRefIdeal.nD Cert.PrepFwRefIdeal.τ).loc Cert.PrepFwRefIdeal.main_arg1) = m ((c.tc : Thread Cert.PrepFwRefIdeal.nD Cert.PrepFwRefIdeal.τ).loc Cert.PrepFwRefIdeal.main_arg1)
      ∧ r.2.mem ((c.tc : Thread Cert.PrepFwRefIdeal.nD Cert.PrepFwRefIdeal.τ).loc Cert.PrepFwRefIdeal.main_arg2) = m ((c.tc : Thread Cert.PrepFwRefIdeal.nD Cert.PrepFwRefIdeal.τ).loc Cert.PrepFwRefIdeal.main_arg2))
      ∧ r.2.sem = fun _ => 0)

def preserves_InDx_InDxIdeal : Prop :=
  True

def algebraic_InDxIdeal_InRefIdeal [hInDxIdeal : Cert.InDxIdeal.Facts] [hInRefIdeal : Cert.InRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InRefIdeal.nD Cert.InRefIdeal.τ Cert.InRefIdeal.sig) → Buf (Elt Ideal) ℓ) (g' : Dev Cert.InRefIdeal.nD → PrngReg), Pre_InDxIdeal m →
    (∀ c : Dev Cert.InDxIdeal.nD,
      m' ((c.tc : Thread Cert.InRefIdeal.nD Cert.InRefIdeal.τ).loc Cert.InRefIdeal.main_arg0) = m ((c.tc : Thread Cert.InDxIdeal.nD Cert.InDxIdeal.τ).loc Cert.InDxIdeal.main_arg0)
      ∧ m' ((c.tc : Thread Cert.InRefIdeal.nD Cert.InRefIdeal.τ).loc Cert.InRefIdeal.main_arg1) = m ((c.tc : Thread Cert.InDxIdeal.nD Cert.InDxIdeal.τ).loc Cert.InDxIdeal.main_arg1)
      ∧ m' ((c.tc : Thread Cert.InRefIdeal.nD Cert.InRefIdeal.τ).loc Cert.InRefIdeal.main_arg2) = m ((c.tc : Thread Cert.InDxIdeal.nD Cert.InDxIdeal.τ).loc Cert.InDxIdeal.main_arg2)
      ∧ m' ((c.tc : Thread Cert.InRefIdeal.nD Cert.InRefIdeal.τ).loc Cert.InRefIdeal.main_arg3) = m ((c.tc : Thread Cert.InDxIdeal.nD Cert.InDxIdeal.τ).loc Cert.InDxIdeal.main_arg3)
      ∧ m' ((c.tc : Thread Cert.InRefIdeal.nD Cert.InRefIdeal.τ).loc Cert.InRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v2_0)) (v1 : (c : Dev Cert.InDxIdeal.nD) → Buf (Elt Ideal) ((c.tc : Thread Cert.InDxIdeal.nD Cert.InDxIdeal.τ).loc Cert.InDxIdeal.main_v2_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2_0) = v0 c
          ∧ r.2.mem ((c.tc : Thread Cert.InDxIdeal.nD Cert.InDxIdeal.τ).loc Cert.InDxIdeal.main_v2_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v36) = v0 c
          ∧ r.2.mem ((c.tc : Thread Cert.InRefIdeal.nD Cert.InRefIdeal.τ).loc Cert.InRefIdeal.main_v19) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_UpDx_UpDxIdeal : Prop :=
  True

def algebraic_UpDxIdeal_UpRefIdeal [hUpDxIdeal : Cert.UpDxIdeal.Facts] [hUpRefIdeal : Cert.UpRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpDxIdeal m →
    (∀ c : Dev Cert.UpDxIdeal.nD,
      m' ((c.tc : Thread Cert.UpRefIdeal.nD Cert.UpRefIdeal.τ).loc Cert.UpRefIdeal.main_arg0) = m ((c.tc : Thread Cert.UpDxIdeal.nD Cert.UpDxIdeal.τ).loc Cert.UpDxIdeal.main_arg0)
      ∧ m' ((c.tc : Thread Cert.UpRefIdeal.nD Cert.UpRefIdeal.τ).loc Cert.UpRefIdeal.main_arg1) = m ((c.tc : Thread Cert.UpDxIdeal.nD Cert.UpDxIdeal.τ).loc Cert.UpDxIdeal.main_arg1)
      ∧ m' ((c.tc : Thread Cert.UpRefIdeal.nD Cert.UpRefIdeal.τ).loc Cert.UpRefIdeal.main_arg2) = m ((c.tc : Thread Cert.UpDxIdeal.nD Cert.UpDxIdeal.τ).loc Cert.UpDxIdeal.main_arg2)
      ∧ m' ((c.tc : Thread Cert.UpRefIdeal.nD Cert.UpRefIdeal.τ).loc Cert.UpRefIdeal.main_arg3) = m ((c.tc : Thread Cert.UpDxIdeal.nD Cert.UpDxIdeal.τ).loc Cert.UpDxIdeal.main_arg3)
      ∧ m' ((c.tc : Thread Cert.UpRefIdeal.nD Cert.UpRefIdeal.τ).loc Cert.UpRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v7_0)) (v1 : (c : Dev Cert.UpDxIdeal.nD) → Buf (Elt Ideal) ((c.tc : Thread Cert.UpDxIdeal.nD Cert.UpDxIdeal.τ).loc Cert.UpDxIdeal.main_v7_1)) (v2 : (c : Dev Cert.UpDxIdeal.nD) → Buf (Elt Ideal) ((c.tc : Thread Cert.UpDxIdeal.nD Cert.UpDxIdeal.τ).loc Cert.UpDxIdeal.main_v7_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v7_0) = v0 c
          ∧ r.2.mem ((c.tc : Thread Cert.UpDxIdeal.nD Cert.UpDxIdeal.τ).loc Cert.UpDxIdeal.main_v7_1) = v1 c
          ∧ r.2.mem ((c.tc : Thread Cert.UpDxIdeal.nD Cert.UpDxIdeal.τ).loc Cert.UpDxIdeal.main_v7_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v36) = v0 c
          ∧ r.2.mem ((c.tc : Thread Cert.UpRefIdeal.nD Cert.UpRefIdeal.τ).loc Cert.UpRefIdeal.main_v37) = v1 c
          ∧ r.2.mem ((c.tc : Thread Cert.UpRefIdeal.nD Cert.UpRefIdeal.τ).loc Cert.UpRefIdeal.main_v19) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_AttDx_AttDxIdeal : Prop :=
  True

def algebraic_AttDxIdeal_AttRefIdeal_pre_all_finite [hAttDxIdeal : Cert.AttDxIdeal.Facts] [hAttRefIdeal : Cert.AttRefIdeal.Facts] [hPre_all_finite : Cert.Pre_all_finite.Facts] : Prop :=
  ∀ (m : (ℓ : Loc Cert.AttDxIdeal.nD Cert.AttDxIdeal.τ Cert.AttDxIdeal.sig) → Buf (Elt Ideal) ℓ) (g : Dev Cert.AttDxIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttDxIdeal_all_finite m →
    (∀ c : Dev Cert.AttDxIdeal.nD,
      m' ((c.tc : Thread Cert.AttRefIdeal.nD Cert.AttRefIdeal.τ).loc Cert.AttRefIdeal.main_arg0) = m ((c.tc : Thread Cert.AttDxIdeal.nD Cert.AttDxIdeal.τ).loc Cert.AttDxIdeal.main_arg0)
      ∧ m' ((c.tc : Thread Cert.AttRefIdeal.nD Cert.AttRefIdeal.τ).loc Cert.AttRefIdeal.main_arg1) = m ((c.tc : Thread Cert.AttDxIdeal.nD Cert.AttDxIdeal.τ).loc Cert.AttDxIdeal.main_arg1)
      ∧ m' ((c.tc : Thread Cert.AttRefIdeal.nD Cert.AttRefIdeal.τ).loc Cert.AttRefIdeal.main_arg2) = m ((c.tc : Thread Cert.AttDxIdeal.nD Cert.AttDxIdeal.τ).loc Cert.AttDxIdeal.main_arg2)
      ∧ m' ((c.tc : Thread Cert.AttRefIdeal.nD Cert.AttRefIdeal.τ).loc Cert.AttRefIdeal.main_arg3) = m ((c.tc : Thread Cert.AttDxIdeal.nD Cert.AttDxIdeal.τ).loc Cert.AttDxIdeal.main_arg3)) →
    ∃ (v0 : (c : Dev Cert.AttDxIdeal.nD) → Buf (Elt Ideal) ((c.tc : Thread Cert.AttDxIdeal.nD Cert.AttDxIdeal.τ).loc Cert.AttDxIdeal.main_v34)) (v1 : (c : Dev Cert.AttDxIdeal.nD) → Buf (Elt Ideal) ((c.tc : Thread Cert.AttDxIdeal.nD Cert.AttDxIdeal.τ).loc Cert.AttDxIdeal.main_v32_1)) (v2 : (c : Dev Cert.AttDxIdeal.nD) → Buf (Elt Ideal) ((c.tc : Thread Cert.AttDxIdeal.nD Cert.AttDxIdeal.τ).loc Cert.AttDxIdeal.main_v32_2)) (v3 : (c : Dev Cert.AttDxIdeal.nD) → Buf (Elt Ideal) ((c.tc : Thread Cert.AttDxIdeal.nD Cert.AttDxIdeal.τ).loc Cert.AttDxIdeal.main_v31_0)) (v4 : (c : Dev Cert.AttDxIdeal.nD) → Buf (Elt Ideal) ((c.tc : Thread Cert.AttDxIdeal.nD Cert.AttDxIdeal.τ).loc Cert.AttDxIdeal.main_v36)),
      θ_run (Cert.AttDxIdeal.defs (F := Ideal)) (onTc (τ := Cert.AttDxIdeal.τ) (Cert.AttDxIdeal.main (F := Ideal))) ⟨m, fun _ => 0, g⟩ (fun r => ∀ c : Dev Cert.AttDxIdeal.nD,
          r.2.mem ((c.tc : Thread Cert.AttDxIdeal.nD Cert.AttDxIdeal.τ).loc Cert.AttDxIdeal.main_v34) = v0 c
          ∧ r.2.mem ((c.tc : Thread Cert.AttDxIdeal.nD Cert.AttDxIdeal.τ).loc Cert.AttDxIdeal.main_v32_1) = v1 c
          ∧ r.2.mem ((c.tc : Thread Cert.AttDxIdeal.nD Cert.AttDxIdeal.τ).loc Cert.AttDxIdeal.main_v32_2) = v2 c
          ∧ r.2.mem ((c.tc : Thread Cert.AttDxIdeal.nD Cert.AttDxIdeal.τ).loc Cert.AttDxIdeal.main_v31_0) = v3 c
          ∧ r.2.mem ((c.tc : Thread Cert.AttDxIdeal.nD Cert.AttDxIdeal.τ).loc Cert.AttDxIdeal.main_v36) = v4 c
          ∧ r.2.mem ((c.tc : Thread Cert.AttDxIdeal.nD Cert.AttDxIdeal.τ).loc Cert.AttDxIdeal.main_arg0) = m ((c.tc : Thread Cert.AttDxIdeal.nD Cert.AttDxIdeal.τ).loc Cert.AttDxIdeal.main_arg0)
          ∧ r.2.mem ((c.tc : Thread Cert.AttDxIdeal.nD Cert.AttDxIdeal.τ).loc Cert.AttDxIdeal.main_arg1) = m ((c.tc : Thread Cert.AttDxIdeal.nD Cert.AttDxIdeal.τ).loc Cert.AttDxIdeal.main_arg1)
          ∧ r.2.mem ((c.tc : Thread Cert.AttDxIdeal.nD Cert.AttDxIdeal.τ).loc Cert.AttDxIdeal.main_arg2) = m ((c.tc : Thread Cert.AttDxIdeal.nD Cert.AttDxIdeal.τ).loc Cert.AttDxIdeal.main_arg2)
          ∧ r.2.mem ((c.tc : Thread Cert.AttDxIdeal.nD Cert.AttDxIdeal.τ).loc Cert.AttDxIdeal.main_arg3) = m ((c.tc : Thread Cert.AttDxIdeal.nD Cert.AttDxIdeal.τ).loc Cert.AttDxIdeal.main_arg3))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v76) = v0 c
          ∧ r.2.mem ((c.tc : Thread Cert.AttRefIdeal.nD Cert.AttRefIdeal.τ).loc Cert.AttRefIdeal.main_v78) = v1 c
          ∧ r.2.mem ((c.tc : Thread Cert.AttRefIdeal.nD Cert.AttRefIdeal.τ).loc Cert.AttRefIdeal.main_v80) = v2 c
          ∧ r.2.mem ((c.tc : Thread Cert.AttRefIdeal.nD Cert.AttRefIdeal.τ).loc Cert.AttRefIdeal.main_v102) = v3 c
          ∧ r.2.mem ((c.tc : Thread Cert.AttRefIdeal.nD Cert.AttRefIdeal.τ).loc Cert.AttRefIdeal.main_v103) = v4 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3))

def preserves_LossDx_LossDxIdeal : Prop :=
  True

def algebraic_LossDxIdeal_LossRefIdeal [hLossDxIdeal : Cert.LossDxIdeal.Facts] [hLossRefIdeal : Cert.LossRefIdeal.Facts] : Prop :=
  ∀ (m : (ℓ : Loc Cert.LossDxIdeal.nD Cert.LossDxIdeal.τ Cert.LossDxIdeal.sig) → Buf (Elt Ideal) ℓ) (g : Dev Cert.LossDxIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossDxIdeal m →
    (∀ c : Dev Cert.LossDxIdeal.nD,
      m' ((c.tc : Thread Cert.LossRefIdeal.nD Cert.LossRefIdeal.τ).loc Cert.LossRefIdeal.main_arg0) = m ((c.tc : Thread Cert.LossDxIdeal.nD Cert.LossDxIdeal.τ).loc Cert.LossDxIdeal.main_arg0)
      ∧ m' ((c.tc : Thread Cert.LossRefIdeal.nD Cert.LossRefIdeal.τ).loc Cert.LossRefIdeal.main_arg1) = m ((c.tc : Thread Cert.LossDxIdeal.nD Cert.LossDxIdeal.τ).loc Cert.LossDxIdeal.main_arg1)
      ∧ m' ((c.tc : Thread Cert.LossRefIdeal.nD Cert.LossRefIdeal.τ).loc Cert.LossRefIdeal.main_arg2) = m ((c.tc : Thread Cert.LossDxIdeal.nD Cert.LossDxIdeal.τ).loc Cert.LossDxIdeal.main_arg2)
      ∧ m' ((c.tc : Thread Cert.LossRefIdeal.nD Cert.LossRefIdeal.τ).loc Cert.LossRefIdeal.main_arg3) = m ((c.tc : Thread Cert.LossDxIdeal.nD Cert.LossDxIdeal.τ).loc Cert.LossDxIdeal.main_arg3)
      ∧ m' ((c.tc : Thread Cert.LossRefIdeal.nD Cert.LossRefIdeal.τ).loc Cert.LossRefIdeal.main_arg4) = m ((c.tc : Thread Cert.LossDxIdeal.nD Cert.LossDxIdeal.τ).loc Cert.LossDxIdeal.main_arg4)) →
    ∃ (v0 : (c : Dev Cert.LossDxIdeal.nD) → Buf (Elt Ideal) ((c.tc : Thread Cert.LossDxIdeal.nD Cert.LossDxIdeal.τ).loc Cert.LossDxIdeal.main_v2_0)) (v1 : (c : Dev Cert.LossDxIdeal.nD) → Buf (Elt Ideal) ((c.tc : Thread Cert.LossDxIdeal.nD Cert.LossDxIdeal.τ).loc Cert.LossDxIdeal.main_v2_1)) (v2 : (c : Dev Cert.LossDxIdeal.nD) → Buf (Elt Ideal) ((c.tc : Thread Cert.LossDxIdeal.nD Cert.LossDxIdeal.τ).loc Cert.LossDxIdeal.main_v2_2)) (v3 : (c : Dev Cert.LossDxIdeal.nD) → Buf (Elt Ideal) ((c.tc : Thread Cert.LossDxIdeal.nD Cert.LossDxIdeal.τ).loc Cert.LossDxIdeal.main_v2_3)),
      θ_run (Cert.LossDxIdeal.defs (F := Ideal)) (onTc (τ := Cert.LossDxIdeal.τ) (Cert.LossDxIdeal.main (F := Ideal))) ⟨m, fun _ => 0, g⟩ (fun r => ∀ c : Dev Cert.LossDxIdeal.nD,
          r.2.mem ((c.tc : Thread Cert.LossDxIdeal.nD Cert.LossDxIdeal.τ).loc Cert.LossDxIdeal.main_v2_0) = v0 c
          ∧ r.2.mem ((c.tc : Thread Cert.LossDxIdeal.nD Cert.LossDxIdeal.τ).loc Cert.LossDxIdeal.main_v2_1) = v1 c
          ∧ r.2.mem ((c.tc : Thread Cert.LossDxIdeal.nD Cert.LossDxIdeal.τ).loc Cert.LossDxIdeal.main_v2_2) = v2 c
          ∧ r.2.mem ((c.tc : Thread Cert.LossDxIdeal.nD Cert.LossDxIdeal.τ).loc Cert.LossDxIdeal.main_v2_3) = v3 c
          ∧ r.2.mem ((c.tc : Thread Cert.LossDxIdeal.nD Cert.LossDxIdeal.τ).loc Cert.LossDxIdeal.main_arg0) = m ((c.tc : Thread Cert.LossDxIdeal.nD Cert.LossDxIdeal.τ).loc Cert.LossDxIdeal.main_arg0)
          ∧ r.2.mem ((c.tc : Thread Cert.LossDxIdeal.nD Cert.LossDxIdeal.τ).loc Cert.LossDxIdeal.main_arg1) = m ((c.tc : Thread Cert.LossDxIdeal.nD Cert.LossDxIdeal.τ).loc Cert.LossDxIdeal.main_arg1)
          ∧ r.2.mem ((c.tc : Thread Cert.LossDxIdeal.nD Cert.LossDxIdeal.τ).loc Cert.LossDxIdeal.main_arg2) = m ((c.tc : Thread Cert.LossDxIdeal.nD Cert.LossDxIdeal.τ).loc Cert.LossDxIdeal.main_arg2)
          ∧ r.2.mem ((c.tc : Thread Cert.LossDxIdeal.nD Cert.LossDxIdeal.τ).loc Cert.LossDxIdeal.main_arg3) = m ((c.tc : Thread Cert.LossDxIdeal.nD Cert.LossDxIdeal.τ).loc Cert.LossDxIdeal.main_arg3)
          ∧ r.2.mem ((c.tc : Thread Cert.LossDxIdeal.nD Cert.LossDxIdeal.τ).loc Cert.LossDxIdeal.main_arg4) = m ((c.tc : Thread Cert.LossDxIdeal.nD Cert.LossDxIdeal.τ).loc Cert.LossDxIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v34) = v2 c
          ∧ r.2.mem ((c.tc : Thread Cert.LossRefIdeal.nD Cert.LossRefIdeal.τ).loc Cert.LossRefIdeal.main_v52) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_FfnDx_FfnDxIdeal : Prop :=
  True

def algebraic_FfnDxIdeal_FfnRefIdeal [hFfnDxIdeal : Cert.FfnDxIdeal.Facts] [hFfnRefIdeal : Cert.FfnRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnDxIdeal m →
    (∀ c : Dev Cert.FfnDxIdeal.nD,
      m' ((c.tc : Thread Cert.FfnRefIdeal.nD Cert.FfnRefIdeal.τ).loc Cert.FfnRefIdeal.main_arg0) = m ((c.tc : Thread Cert.FfnDxIdeal.nD Cert.FfnDxIdeal.τ).loc Cert.FfnDxIdeal.main_arg0)
      ∧ m' ((c.tc : Thread Cert.FfnRefIdeal.nD Cert.FfnRefIdeal.τ).loc Cert.FfnRefIdeal.main_arg1) = m ((c.tc : Thread Cert.FfnDxIdeal.nD Cert.FfnDxIdeal.τ).loc Cert.FfnDxIdeal.main_arg1)
      ∧ m' ((c.tc : Thread Cert.FfnRefIdeal.nD Cert.FfnRefIdeal.τ).loc Cert.FfnRefIdeal.main_arg2) = m ((c.tc : Thread Cert.FfnDxIdeal.nD Cert.FfnDxIdeal.τ).loc Cert.FfnDxIdeal.main_arg2)
      ∧ m' ((c.tc : Thread Cert.FfnRefIdeal.nD Cert.FfnRefIdeal.τ).loc Cert.FfnRefIdeal.main_arg3) = m ((c.tc : Thread Cert.FfnDxIdeal.nD Cert.FfnDxIdeal.τ).loc Cert.FfnDxIdeal.main_arg3)) →
    ∃ (v0 : (c : Dev Cert.FfnDxIdeal.nD) → Buf (Elt Ideal) ((c.tc : Thread Cert.FfnDxIdeal.nD Cert.FfnDxIdeal.τ).loc Cert.FfnDxIdeal.main_v5)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v5) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v13) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_MixDx_MixDxIdeal : Prop :=
  True

def algebraic_MixDxIdeal_MixRefIdeal [hMixDxIdeal : Cert.MixDxIdeal.Facts] [hMixRefIdeal : Cert.MixRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixDxIdeal m →
    (∀ c : Dev Cert.MixDxIdeal.nD,
      m' ((c.tc : Thread Cert.MixRefIdeal.nD Cert.MixRefIdeal.τ).loc Cert.MixRefIdeal.main_arg0) = m ((c.tc : Thread Cert.MixDxIdeal.nD Cert.MixDxIdeal.τ).loc Cert.MixDxIdeal.main_arg0)
      ∧ m' ((c.tc : Thread Cert.MixRefIdeal.nD Cert.MixRefIdeal.τ).loc Cert.MixRefIdeal.main_arg1) = m ((c.tc : Thread Cert.MixDxIdeal.nD Cert.MixDxIdeal.τ).loc Cert.MixDxIdeal.main_arg1)
      ∧ m' ((c.tc : Thread Cert.MixRefIdeal.nD Cert.MixRefIdeal.τ).loc Cert.MixRefIdeal.main_arg2) = m ((c.tc : Thread Cert.MixDxIdeal.nD Cert.MixDxIdeal.τ).loc Cert.MixDxIdeal.main_arg2)
      ∧ m' ((c.tc : Thread Cert.MixRefIdeal.nD Cert.MixRefIdeal.τ).loc Cert.MixRefIdeal.main_arg3) = m ((c.tc : Thread Cert.MixDxIdeal.nD Cert.MixDxIdeal.τ).loc Cert.MixDxIdeal.main_arg3)
      ∧ m' ((c.tc : Thread Cert.MixRefIdeal.nD Cert.MixRefIdeal.τ).loc Cert.MixRefIdeal.main_arg4) = m ((c.tc : Thread Cert.MixDxIdeal.nD Cert.MixDxIdeal.τ).loc Cert.MixDxIdeal.main_arg4)
      ∧ m' ((c.tc : Thread Cert.MixRefIdeal.nD Cert.MixRefIdeal.τ).loc Cert.MixRefIdeal.main_arg5) = m ((c.tc : Thread Cert.MixDxIdeal.nD Cert.MixDxIdeal.τ).loc Cert.MixDxIdeal.main_arg5)
      ∧ m' ((c.tc : Thread Cert.MixRefIdeal.nD Cert.MixRefIdeal.τ).loc Cert.MixRefIdeal.main_arg6) = m ((c.tc : Thread Cert.MixDxIdeal.nD Cert.MixDxIdeal.τ).loc Cert.MixDxIdeal.main_arg6)) →
    ∃ (v0 : (c : Dev Cert.MixDxIdeal.nD) → Buf (Elt Ideal) ((c.tc : Thread Cert.MixDxIdeal.nD Cert.MixDxIdeal.τ).loc Cert.MixDxIdeal.main_v2_0)) (v1 : (c : Dev Cert.MixDxIdeal.nD) → Buf (Elt Ideal) ((c.tc : Thread Cert.MixDxIdeal.nD Cert.MixDxIdeal.τ).loc Cert.MixDxIdeal.main_v2_1)) (v2 : (c : Dev Cert.MixDxIdeal.nD) → Buf (Elt Ideal) ((c.tc : Thread Cert.MixDxIdeal.nD Cert.MixDxIdeal.τ).loc Cert.MixDxIdeal.main_v2_2)) (v3 : (c : Dev Cert.MixDxIdeal.nD) → Buf (Elt Ideal) ((c.tc : Thread Cert.MixDxIdeal.nD Cert.MixDxIdeal.τ).loc Cert.MixDxIdeal.main_v2_3)) (v4 : (c : Dev Cert.MixDxIdeal.nD) → Buf (Elt Ideal) ((c.tc : Thread Cert.MixDxIdeal.nD Cert.MixDxIdeal.τ).loc Cert.MixDxIdeal.main_v2_4)) (v5 : (c : Dev Cert.MixDxIdeal.nD) → Buf (Elt Ideal) ((c.tc : Thread Cert.MixDxIdeal.nD Cert.MixDxIdeal.τ).loc Cert.MixDxIdeal.main_v2_5)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v2_0) = v0 c
          ∧ r.2.mem ((c.tc : Thread Cert.MixDxIdeal.nD Cert.MixDxIdeal.τ).loc Cert.MixDxIdeal.main_v2_1) = v1 c
          ∧ r.2.mem ((c.tc : Thread Cert.MixDxIdeal.nD Cert.MixDxIdeal.τ).loc Cert.MixDxIdeal.main_v2_2) = v2 c
          ∧ r.2.mem ((c.tc : Thread Cert.MixDxIdeal.nD Cert.MixDxIdeal.τ).loc Cert.MixDxIdeal.main_v2_3) = v3 c
          ∧ r.2.mem ((c.tc : Thread Cert.MixDxIdeal.nD Cert.MixDxIdeal.τ).loc Cert.MixDxIdeal.main_v2_4) = v4 c
          ∧ r.2.mem ((c.tc : Thread Cert.MixDxIdeal.nD Cert.MixDxIdeal.τ).loc Cert.MixDxIdeal.main_v2_5) = v5 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
          ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
          ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v86) = v0 c
          ∧ r.2.mem ((c.tc : Thread Cert.MixRefIdeal.nD Cert.MixRefIdeal.τ).loc Cert.MixRefIdeal.main_v90) = v1 c
          ∧ r.2.mem ((c.tc : Thread Cert.MixRefIdeal.nD Cert.MixRefIdeal.τ).loc Cert.MixRefIdeal.main_v92) = v2 c
          ∧ r.2.mem ((c.tc : Thread Cert.MixRefIdeal.nD Cert.MixRefIdeal.τ).loc Cert.MixRefIdeal.main_v93) = v3 c
          ∧ r.2.mem ((c.tc : Thread Cert.MixRefIdeal.nD Cert.MixRefIdeal.τ).loc Cert.MixRefIdeal.main_v71) = v4 c
          ∧ r.2.mem ((c.tc : Thread Cert.MixRefIdeal.nD Cert.MixRefIdeal.τ).loc Cert.MixRefIdeal.main_v43) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_PrepDx_PrepDxIdeal : Prop :=
  True

def algebraic_PrepDxIdeal_PrepRefIdeal_pre_prep_finite [hPrepDxIdeal : Cert.PrepDxIdeal.Facts] [hPrepRefIdeal : Cert.PrepRefIdeal.Facts] [hPre_prep_finite : Cert.Pre_prep_finite.Facts] : Prop :=
  ∀ (m : (ℓ : Loc Cert.PrepDxIdeal.nD Cert.PrepDxIdeal.τ Cert.PrepDxIdeal.sig) → Buf (Elt Ideal) ℓ) (g : Dev Cert.PrepDxIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepDxIdeal_prep_finite m →
    (∀ c : Dev Cert.PrepDxIdeal.nD,
      m' ((c.tc : Thread Cert.PrepRefIdeal.nD Cert.PrepRefIdeal.τ).loc Cert.PrepRefIdeal.main_arg0) = m ((c.tc : Thread Cert.PrepDxIdeal.nD Cert.PrepDxIdeal.τ).loc Cert.PrepDxIdeal.main_arg0)
      ∧ m' ((c.tc : Thread Cert.PrepRefIdeal.nD Cert.PrepRefIdeal.τ).loc Cert.PrepRefIdeal.main_arg1) = m ((c.tc : Thread Cert.PrepDxIdeal.nD Cert.PrepDxIdeal.τ).loc Cert.PrepDxIdeal.main_arg1)
      ∧ m' ((c.tc : Thread Cert.PrepRefIdeal.nD Cert.PrepRefIdeal.τ).loc Cert.PrepRefIdeal.main_arg2) = m ((c.tc : Thread Cert.PrepDxIdeal.nD Cert.PrepDxIdeal.τ).loc Cert.PrepDxIdeal.main_arg2)
      ∧ m' ((c.tc : Thread Cert.PrepRefIdeal.nD Cert.PrepRefIdeal.τ).loc Cert.PrepRefIdeal.main_arg3) = m ((c.tc : Thread Cert.PrepDxIdeal.nD Cert.PrepDxIdeal.τ).loc Cert.PrepDxIdeal.main_arg3)
      ∧ m' ((c.tc : Thread Cert.PrepRefIdeal.nD Cert.PrepRefIdeal.τ).loc Cert.PrepRefIdeal.main_arg4) = m ((c.tc : Thread Cert.PrepDxIdeal.nD Cert.PrepDxIdeal.τ).loc Cert.PrepDxIdeal.main_arg4)
      ∧ m' ((c.tc : Thread Cert.PrepRefIdeal.nD Cert.PrepRefIdeal.τ).loc Cert.PrepRefIdeal.main_arg5) = m ((c.tc : Thread Cert.PrepDxIdeal.nD Cert.PrepDxIdeal.τ).loc Cert.PrepDxIdeal.main_arg5)) →
    ∃ (v0 : (c : Dev Cert.PrepDxIdeal.nD) → Buf (Elt Ideal) ((c.tc : Thread Cert.PrepDxIdeal.nD Cert.PrepDxIdeal.τ).loc Cert.PrepDxIdeal.main_v100_0)) (v1 : (c : Dev Cert.PrepDxIdeal.nD) → Buf (Elt Ideal) ((c.tc : Thread Cert.PrepDxIdeal.nD Cert.PrepDxIdeal.τ).loc Cert.PrepDxIdeal.main_v100_1)) (v2 : (c : Dev Cert.PrepDxIdeal.nD) → Buf (Elt Ideal) ((c.tc : Thread Cert.PrepDxIdeal.nD Cert.PrepDxIdeal.τ).loc Cert.PrepDxIdeal.main_v100_2)) (v3 : (c : Dev Cert.PrepDxIdeal.nD) → Buf (Elt Ideal) ((c.tc : Thread Cert.PrepDxIdeal.nD Cert.PrepDxIdeal.τ).loc Cert.PrepDxIdeal.main_v100_3)) (v4 : (c : Dev Cert.PrepDxIdeal.nD) → Buf (Elt Ideal) ((c.tc : Thread Cert.PrepDxIdeal.nD Cert.PrepDxIdeal.τ).loc Cert.PrepDxIdeal.main_v100_4)),
      θ_run (Cert.PrepDxIdeal.defs (F := Ideal)) (onTc (τ := Cert.PrepDxIdeal.τ) (Cert.PrepDxIdeal.main (F := Ideal))) ⟨m, fun _ => 0, g⟩ (fun r => ∀ c : Dev Cert.PrepDxIdeal.nD,
          r.2.mem ((c.tc : Thread Cert.PrepDxIdeal.nD Cert.PrepDxIdeal.τ).loc Cert.PrepDxIdeal.main_v100_0) = v0 c
          ∧ r.2.mem ((c.tc : Thread Cert.PrepDxIdeal.nD Cert.PrepDxIdeal.τ).loc Cert.PrepDxIdeal.main_v100_1) = v1 c
          ∧ r.2.mem ((c.tc : Thread Cert.PrepDxIdeal.nD Cert.PrepDxIdeal.τ).loc Cert.PrepDxIdeal.main_v100_2) = v2 c
          ∧ r.2.mem ((c.tc : Thread Cert.PrepDxIdeal.nD Cert.PrepDxIdeal.τ).loc Cert.PrepDxIdeal.main_v100_3) = v3 c
          ∧ r.2.mem ((c.tc : Thread Cert.PrepDxIdeal.nD Cert.PrepDxIdeal.τ).loc Cert.PrepDxIdeal.main_v100_4) = v4 c
          ∧ r.2.mem ((c.tc : Thread Cert.PrepDxIdeal.nD Cert.PrepDxIdeal.τ).loc Cert.PrepDxIdeal.main_arg0) = m ((c.tc : Thread Cert.PrepDxIdeal.nD Cert.PrepDxIdeal.τ).loc Cert.PrepDxIdeal.main_arg0)
          ∧ r.2.mem ((c.tc : Thread Cert.PrepDxIdeal.nD Cert.PrepDxIdeal.τ).loc Cert.PrepDxIdeal.main_arg1) = m ((c.tc : Thread Cert.PrepDxIdeal.nD Cert.PrepDxIdeal.τ).loc Cert.PrepDxIdeal.main_arg1)
          ∧ r.2.mem ((c.tc : Thread Cert.PrepDxIdeal.nD Cert.PrepDxIdeal.τ).loc Cert.PrepDxIdeal.main_arg2) = m ((c.tc : Thread Cert.PrepDxIdeal.nD Cert.PrepDxIdeal.τ).loc Cert.PrepDxIdeal.main_arg2)
          ∧ r.2.mem ((c.tc : Thread Cert.PrepDxIdeal.nD Cert.PrepDxIdeal.τ).loc Cert.PrepDxIdeal.main_arg3) = m ((c.tc : Thread Cert.PrepDxIdeal.nD Cert.PrepDxIdeal.τ).loc Cert.PrepDxIdeal.main_arg3)
          ∧ r.2.mem ((c.tc : Thread Cert.PrepDxIdeal.nD Cert.PrepDxIdeal.τ).loc Cert.PrepDxIdeal.main_arg4) = m ((c.tc : Thread Cert.PrepDxIdeal.nD Cert.PrepDxIdeal.τ).loc Cert.PrepDxIdeal.main_arg4)
          ∧ r.2.mem ((c.tc : Thread Cert.PrepDxIdeal.nD Cert.PrepDxIdeal.τ).loc Cert.PrepDxIdeal.main_arg5) = m ((c.tc : Thread Cert.PrepDxIdeal.nD Cert.PrepDxIdeal.τ).loc Cert.PrepDxIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v193) = v0 c
          ∧ r.2.mem ((c.tc : Thread Cert.PrepRefIdeal.nD Cert.PrepRefIdeal.τ).loc Cert.PrepRefIdeal.main_v194) = v1 c
          ∧ r.2.mem ((c.tc : Thread Cert.PrepRefIdeal.nD Cert.PrepRefIdeal.τ).loc Cert.PrepRefIdeal.main_v195) = v2 c
          ∧ r.2.mem ((c.tc : Thread Cert.PrepRefIdeal.nD Cert.PrepRefIdeal.τ).loc Cert.PrepRefIdeal.main_v196) = v3 c
          ∧ r.2.mem ((c.tc : Thread Cert.PrepRefIdeal.nD Cert.PrepRefIdeal.τ).loc Cert.PrepRefIdeal.main_v197) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def preserves_GlaDx_GlaDxIdeal : Prop :=
  True

def preserves_GlaRev_GlaRevIdeal : Prop :=
  True

def preserves_GlaFw_GlaFwIdeal : Prop :=
  True

def preserves_GlaFwRev_GlaFwRevIdeal : Prop :=
  True

def preserves_NormFw_NormFwIdeal : Prop :=
  True

def algebraic_NormFwIdeal_NormFwRefIdeal [hNormFwIdeal : Cert.NormFwIdeal.Facts] [hNormFwRefIdeal : Cert.NormFwRefIdeal.Facts] : Prop :=
  ∀ (m : (ℓ : Loc Cert.NormFwIdeal.nD Cert.NormFwIdeal.τ Cert.NormFwIdeal.sig) → Buf (Elt Ideal) ℓ) (g : Dev Cert.NormFwIdeal.nD → PrngReg)
    (m' : (ℓ : Loc Cert.NormFwRefIdeal.nD Cert.NormFwRefIdeal.τ Cert.NormFwRefIdeal.sig) → Buf (Elt Ideal) ℓ) (g' : Dev Cert.NormFwRefIdeal.nD → PrngReg), Pre_NormFwIdeal m →
    (∀ c : Dev Cert.NormFwIdeal.nD,
      m' ((c.tc : Thread Cert.NormFwRefIdeal.nD Cert.NormFwRefIdeal.τ).loc Cert.NormFwRefIdeal.main_arg0) = m ((c.tc : Thread Cert.NormFwIdeal.nD Cert.NormFwIdeal.τ).loc Cert.NormFwIdeal.main_arg0)
      ∧ m' ((c.tc : Thread Cert.NormFwRefIdeal.nD Cert.NormFwRefIdeal.τ).loc Cert.NormFwRefIdeal.main_arg1) = m ((c.tc : Thread Cert.NormFwIdeal.nD Cert.NormFwIdeal.τ).loc Cert.NormFwIdeal.main_arg1)) →
    ∃ (v0 : (c : Dev Cert.NormFwIdeal.nD) → Buf (Elt Ideal) ((c.tc : Thread Cert.NormFwIdeal.nD Cert.NormFwIdeal.τ).loc Cert.NormFwIdeal.main_v0)),
      θ_run (Cert.NormFwIdeal.defs (F := Ideal)) (onTc (τ := Cert.NormFwIdeal.τ) (Cert.NormFwIdeal.main (F := Ideal))) ⟨m, fun _ => 0, g⟩ (fun r => ∀ c : Dev Cert.NormFwIdeal.nD,
          r.2.mem ((c.tc : Thread Cert.NormFwIdeal.nD Cert.NormFwIdeal.τ).loc Cert.NormFwIdeal.main_v0) = v0 c
          ∧ r.2.mem ((c.tc : Thread Cert.NormFwIdeal.nD Cert.NormFwIdeal.τ).loc Cert.NormFwIdeal.main_arg0) = m ((c.tc : Thread Cert.NormFwIdeal.nD Cert.NormFwIdeal.τ).loc Cert.NormFwIdeal.main_arg0)
          ∧ r.2.mem ((c.tc : Thread Cert.NormFwIdeal.nD Cert.NormFwIdeal.τ).loc Cert.NormFwIdeal.main_arg1) = m ((c.tc : Thread Cert.NormFwIdeal.nD Cert.NormFwIdeal.τ).loc Cert.NormFwIdeal.main_arg1))
      ∧ θ_run (Cert.NormFwRefIdeal.defs (F := Ideal)) (onTc (τ := Cert.NormFwRefIdeal.τ) (Cert.NormFwRefIdeal.main (F := Ideal))) ⟨m', fun _ => 0, g'⟩ (fun r => ∀ c : Dev Cert.NormFwRefIdeal.nD,
          r.2.mem ((c.tc : Thread Cert.NormFwRefIdeal.nD Cert.NormFwRefIdeal.τ).loc Cert.NormFwRefIdeal.main_v12) = v0 c
          ∧ r.2.mem ((c.tc : Thread Cert.NormFwRefIdeal.nD Cert.NormFwRefIdeal.τ).loc Cert.NormFwRefIdeal.main_arg0) = m' ((c.tc : Thread Cert.NormFwRefIdeal.nD Cert.NormFwRefIdeal.τ).loc Cert.NormFwRefIdeal.main_arg0)
          ∧ r.2.mem ((c.tc : Thread Cert.NormFwRefIdeal.nD Cert.NormFwRefIdeal.τ).loc Cert.NormFwRefIdeal.main_arg1) = m' ((c.tc : Thread Cert.NormFwRefIdeal.nD Cert.NormFwRefIdeal.τ).loc Cert.NormFwRefIdeal.main_arg1))

def preserves_OutFw_OutFwIdeal : Prop :=
  True

def algebraic_OutFwIdeal_OutFwRefIdeal [hOutFwIdeal : Cert.OutFwIdeal.Facts] [hOutFwRefIdeal : Cert.OutFwRefIdeal.Facts] : Prop :=
  ∀ (m : (ℓ : Loc Cert.OutFwIdeal.nD Cert.OutFwIdeal.τ Cert.OutFwIdeal.sig) → Buf (Elt Ideal) ℓ) (g : Dev Cert.OutFwIdeal.nD → PrngReg)
    (m' : (ℓ : Loc Cert.OutFwRefIdeal.nD Cert.OutFwRefIdeal.τ Cert.OutFwRefIdeal.sig) → Buf (Elt Ideal) ℓ) (g' : Dev Cert.OutFwRefIdeal.nD → PrngReg), Pre_OutFwIdeal m →
    (∀ c : Dev Cert.OutFwIdeal.nD,
      m' ((c.tc : Thread Cert.OutFwRefIdeal.nD Cert.OutFwRefIdeal.τ).loc Cert.OutFwRefIdeal.main_arg0) = m ((c.tc : Thread Cert.OutFwIdeal.nD Cert.OutFwIdeal.τ).loc Cert.OutFwIdeal.main_arg0)
      ∧ m' ((c.tc : Thread Cert.OutFwRefIdeal.nD Cert.OutFwRefIdeal.τ).loc Cert.OutFwRefIdeal.main_arg1) = m ((c.tc : Thread Cert.OutFwIdeal.nD Cert.OutFwIdeal.τ).loc Cert.OutFwIdeal.main_arg1)
      ∧ m' ((c.tc : Thread Cert.OutFwRefIdeal.nD Cert.OutFwRefIdeal.τ).loc Cert.OutFwRefIdeal.main_arg2) = m ((c.tc : Thread Cert.OutFwIdeal.nD Cert.OutFwIdeal.τ).loc Cert.OutFwIdeal.main_arg2)
      ∧ m' ((c.tc : Thread Cert.OutFwRefIdeal.nD Cert.OutFwRefIdeal.τ).loc Cert.OutFwRefIdeal.main_arg3) = m ((c.tc : Thread Cert.OutFwIdeal.nD Cert.OutFwIdeal.τ).loc Cert.OutFwIdeal.main_arg3)) →
    ∃ (v0 : (c : Dev Cert.OutFwIdeal.nD) → Buf (Elt Ideal) ((c.tc : Thread Cert.OutFwIdeal.nD Cert.OutFwIdeal.τ).loc Cert.OutFwIdeal.main_v2_0)) (v1 : (c : Dev Cert.OutFwIdeal.nD) → Buf (Elt Ideal) ((c.tc : Thread Cert.OutFwIdeal.nD Cert.OutFwIdeal.τ).loc Cert.OutFwIdeal.main_v2_1)),
      θ_run (Cert.OutFwIdeal.defs (F := Ideal)) (onTc (τ := Cert.OutFwIdeal.τ) (Cert.OutFwIdeal.main (F := Ideal))) ⟨m, fun _ => 0, g⟩ (fun r => ∀ c : Dev Cert.OutFwIdeal.nD,
          r.2.mem ((c.tc : Thread Cert.OutFwIdeal.nD Cert.OutFwIdeal.τ).loc Cert.OutFwIdeal.main_v2_0) = v0 c
          ∧ r.2.mem ((c.tc : Thread Cert.OutFwIdeal.nD Cert.OutFwIdeal.τ).loc Cert.OutFwIdeal.main_v2_1) = v1 c
          ∧ r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
          ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1)
          ∧ r.2.mem ((c.tc : Thread Cert.OutFwIdeal.nD Cert.OutFwIdeal.τ).loc Cert.OutFwIdeal.main_arg2) = m ((c.tc : Thread Cert.OutFwIdeal.nD Cert.OutFwIdeal.τ).loc Cert.OutFwIdeal.main_arg2)
          ∧ r.2.mem ((c.tc : Thread Cert.OutFwIdeal.nD Cert.OutFwIdeal.τ).loc Cert.OutFwIdeal.main_arg3) = m ((c.tc : Thread Cert.OutFwIdeal.nD Cert.OutFwIdeal.τ).loc Cert.OutFwIdeal.main_arg3))
      ∧ θ_run (Cert.OutFwRefIdeal.defs (F := Ideal)) (onTc (τ := Cert.OutFwRefIdeal.τ) (Cert.OutFwRefIdeal.main (F := Ideal))) ⟨m', fun _ => 0, g'⟩ (fun r => ∀ c : Dev Cert.OutFwRefIdeal.nD,
          r.2.mem ((c.tc : Thread Cert.OutFwRefIdeal.nD Cert.OutFwRefIdeal.τ).loc Cert.OutFwRefIdeal.main_v1) = v0 c
          ∧ r.2.mem ((c.tc : Thread Cert.OutFwRefIdeal.nD Cert.OutFwRefIdeal.τ).loc Cert.OutFwRefIdeal.main_v14) = v1 c
          ∧ r.2.mem ((c.tc : Thread Cert.OutFwRefIdeal.nD Cert.OutFwRefIdeal.τ).loc Cert.OutFwRefIdeal.main_arg0) = m' ((c.tc : Thread Cert.OutFwRefIdeal.nD Cert.OutFwRefIdeal.τ).loc Cert.OutFwRefIdeal.main_arg0)
          ∧ r.2.mem ((c.tc : Thread Cert.OutFwRefIdeal.nD Cert.OutFwRefIdeal.τ).loc Cert.OutFwRefIdeal.main_arg1) = m' ((c.tc : Thread Cert.OutFwRefIdeal.nD Cert.OutFwRefIdeal.τ).loc Cert.OutFwRefIdeal.main_arg1)
          ∧ r.2.mem ((c.tc : Thread Cert.OutFwRefIdeal.nD Cert.OutFwRefIdeal.τ).loc Cert.OutFwRefIdeal.main_arg2) = m' ((c.tc : Thread Cert.OutFwRefIdeal.nD Cert.OutFwRefIdeal.τ).loc Cert.OutFwRefIdeal.main_arg2)
          ∧ r.2.mem ((c.tc : Thread Cert.OutFwRefIdeal.nD Cert.OutFwRefIdeal.τ).loc Cert.OutFwRefIdeal.main_arg3) = m' ((c.tc : Thread Cert.OutFwRefIdeal.nD Cert.OutFwRefIdeal.τ).loc Cert.OutFwRefIdeal.main_arg3))

def preserves_ActFw_ActFwIdeal : Prop :=
  True

def algebraic_ActFwIdeal_ActFwRefIdeal [hActFwIdeal : Cert.ActFwIdeal.Facts] [hActFwRefIdeal : Cert.ActFwRefIdeal.Facts] : Prop :=
  ∀ (m : (ℓ : Loc Cert.ActFwIdeal.nD Cert.ActFwIdeal.τ Cert.ActFwIdeal.sig) → Buf (Elt Ideal) ℓ) (g : Dev Cert.ActFwIdeal.nD → PrngReg)
    (m' : (ℓ : Loc Cert.ActFwRefIdeal.nD Cert.ActFwRefIdeal.τ Cert.ActFwRefIdeal.sig) → Buf (Elt Ideal) ℓ) (g' : Dev Cert.ActFwRefIdeal.nD → PrngReg), Pre_ActFwIdeal m →
    (∀ c : Dev Cert.ActFwIdeal.nD,
      m' ((c.tc : Thread Cert.ActFwRefIdeal.nD Cert.ActFwRefIdeal.τ).loc Cert.ActFwRefIdeal.main_arg0) = m ((c.tc : Thread Cert.ActFwIdeal.nD Cert.ActFwIdeal.τ).loc Cert.ActFwIdeal.main_arg0)
      ∧ m' ((c.tc : Thread Cert.ActFwRefIdeal.nD Cert.ActFwRefIdeal.τ).loc Cert.ActFwRefIdeal.main_arg1) = m ((c.tc : Thread Cert.ActFwIdeal.nD Cert.ActFwIdeal.τ).loc Cert.ActFwIdeal.main_arg1)) →
    ∃ (v0 : (c : Dev Cert.ActFwIdeal.nD) → Buf (Elt Ideal) ((c.tc : Thread Cert.ActFwIdeal.nD Cert.ActFwIdeal.τ).loc Cert.ActFwIdeal.main_v2_0)) (v1 : (c : Dev Cert.ActFwIdeal.nD) → Buf (Elt Ideal) ((c.tc : Thread Cert.ActFwIdeal.nD Cert.ActFwIdeal.τ).loc Cert.ActFwIdeal.main_v2_1)),
      θ_run (Cert.ActFwIdeal.defs (F := Ideal)) (onTc (τ := Cert.ActFwIdeal.τ) (Cert.ActFwIdeal.main (F := Ideal))) ⟨m, fun _ => 0, g⟩ (fun r => ∀ c : Dev Cert.ActFwIdeal.nD,
          r.2.mem ((c.tc : Thread Cert.ActFwIdeal.nD Cert.ActFwIdeal.τ).loc Cert.ActFwIdeal.main_v2_0) = v0 c
          ∧ r.2.mem ((c.tc : Thread Cert.ActFwIdeal.nD Cert.ActFwIdeal.τ).loc Cert.ActFwIdeal.main_v2_1) = v1 c
          ∧ r.2.mem ((c.tc : Thread Cert.ActFwIdeal.nD Cert.ActFwIdeal.τ).loc Cert.ActFwIdeal.main_arg0) = m ((c.tc : Thread Cert.ActFwIdeal.nD Cert.ActFwIdeal.τ).loc Cert.ActFwIdeal.main_arg0)
          ∧ r.2.mem ((c.tc : Thread Cert.ActFwIdeal.nD Cert.ActFwIdeal.τ).loc Cert.ActFwIdeal.main_arg1) = m ((c.tc : Thread Cert.ActFwIdeal.nD Cert.ActFwIdeal.τ).loc Cert.ActFwIdeal.main_arg1))
      ∧ θ_run (Cert.ActFwRefIdeal.defs (F := Ideal)) (onTc (τ := Cert.ActFwRefIdeal.τ) (Cert.ActFwRefIdeal.main (F := Ideal))) ⟨m', fun _ => 0, g'⟩ (fun r => ∀ c : Dev Cert.ActFwRefIdeal.nD,
          r.2.mem ((c.tc : Thread Cert.ActFwRefIdeal.nD Cert.ActFwRefIdeal.τ).loc Cert.ActFwRefIdeal.main_v5) = v0 c
          ∧ r.2.mem ((c.tc : Thread Cert.ActFwRefIdeal.nD Cert.ActFwRefIdeal.τ).loc Cert.ActFwRefIdeal.main_v8) = v1 c
          ∧ r.2.mem ((c.tc : Thread Cert.ActFwRefIdeal.nD Cert.ActFwRefIdeal.τ).loc Cert.ActFwRefIdeal.main_arg0) = m' ((c.tc : Thread Cert.ActFwRefIdeal.nD Cert.ActFwRefIdeal.τ).loc Cert.ActFwRefIdeal.main_arg0)
          ∧ r.2.mem ((c.tc : Thread Cert.ActFwRefIdeal.nD Cert.ActFwRefIdeal.τ).loc Cert.ActFwRefIdeal.main_arg1) = m' ((c.tc : Thread Cert.ActFwRefIdeal.nD Cert.ActFwRefIdeal.τ).loc Cert.ActFwRefIdeal.main_arg1))

def preserves_MixFw_MixFwIdeal : Prop :=
  True

def algebraic_MixFwIdeal_MixFwRefIdeal [hMixFwIdeal : Cert.MixFwIdeal.Facts] [hMixFwRefIdeal : Cert.MixFwRefIdeal.Facts] : Prop :=
  ∀ (m : (ℓ : Loc Cert.MixFwIdeal.nD Cert.MixFwIdeal.τ Cert.MixFwIdeal.sig) → Buf (Elt Ideal) ℓ) (g : Dev Cert.MixFwIdeal.nD → PrngReg)
    (m' : (ℓ : Loc Cert.MixFwRefIdeal.nD Cert.MixFwRefIdeal.τ Cert.MixFwRefIdeal.sig) → Buf (Elt Ideal) ℓ) (g' : Dev Cert.MixFwRefIdeal.nD → PrngReg), Pre_MixFwIdeal m →
    (∀ c : Dev Cert.MixFwIdeal.nD,
      m' ((c.tc : Thread Cert.MixFwRefIdeal.nD Cert.MixFwRefIdeal.τ).loc Cert.MixFwRefIdeal.main_arg0) = m ((c.tc : Thread Cert.MixFwIdeal.nD Cert.MixFwIdeal.τ).loc Cert.MixFwIdeal.main_arg0)
      ∧ m' ((c.tc : Thread Cert.MixFwRefIdeal.nD Cert.MixFwRefIdeal.τ).loc Cert.MixFwRefIdeal.main_arg1) = m ((c.tc : Thread Cert.MixFwIdeal.nD Cert.MixFwIdeal.τ).loc Cert.MixFwIdeal.main_arg1)
      ∧ m' ((c.tc : Thread Cert.MixFwRefIdeal.nD Cert.MixFwRefIdeal.τ).loc Cert.MixFwRefIdeal.main_arg2) = m ((c.tc : Thread Cert.MixFwIdeal.nD Cert.MixFwIdeal.τ).loc Cert.MixFwIdeal.main_arg2)
      ∧ m' ((c.tc : Thread Cert.MixFwRefIdeal.nD Cert.MixFwRefIdeal.τ).loc Cert.MixFwRefIdeal.main_arg3) = m ((c.tc : Thread Cert.MixFwIdeal.nD Cert.MixFwIdeal.τ).loc Cert.MixFwIdeal.main_arg3)
      ∧ m' ((c.tc : Thread Cert.MixFwRefIdeal.nD Cert.MixFwRefIdeal.τ).loc Cert.MixFwRefIdeal.main_arg4) = m ((c.tc : Thread Cert.MixFwIdeal.nD Cert.MixFwIdeal.τ).loc Cert.MixFwIdeal.main_arg4)
      ∧ m' ((c.tc : Thread Cert.MixFwRefIdeal.nD Cert.MixFwRefIdeal.τ).loc Cert.MixFwRefIdeal.main_arg5) = m ((c.tc : Thread Cert.MixFwIdeal.nD Cert.MixFwIdeal.τ).loc Cert.MixFwIdeal.main_arg5)) →
    ∃ (v0 : (c : Dev Cert.MixFwIdeal.nD) → Buf (Elt Ideal) ((c.tc : Thread Cert.MixFwIdeal.nD Cert.MixFwIdeal.τ).loc Cert.MixFwIdeal.main_v2)),
      θ_run (Cert.MixFwIdeal.defs (F := Ideal)) (onTc (τ := Cert.MixFwIdeal.τ) (Cert.MixFwIdeal.main (F := Ideal))) ⟨m, fun _ => 0, g⟩ (fun r => ∀ c : Dev Cert.MixFwIdeal.nD,
          r.2.mem ((c.tc : Thread Cert.MixFwIdeal.nD Cert.MixFwIdeal.τ).loc Cert.MixFwIdeal.main_v2) = v0 c
          ∧ r.2.mem ((c.tc : Thread Cert.MixFwIdeal.nD Cert.MixFwIdeal.τ).loc Cert.MixFwIdeal.main_arg0) = m ((c.tc : Thread Cert.MixFwIdeal.nD Cert.MixFwIdeal.τ).loc Cert.MixFwIdeal.main_arg0)
          ∧ r.2.mem ((c.tc : Thread Cert.MixFwIdeal.nD Cert.MixFwIdeal.τ).loc Cert.MixFwIdeal.main_arg1) = m ((c.tc : Thread Cert.MixFwIdeal.nD Cert.MixFwIdeal.τ).loc Cert.MixFwIdeal.main_arg1)
          ∧ r.2.mem ((c.tc : Thread Cert.MixFwIdeal.nD Cert.MixFwIdeal.τ).loc Cert.MixFwIdeal.main_arg2) = m ((c.tc : Thread Cert.MixFwIdeal.nD Cert.MixFwIdeal.τ).loc Cert.MixFwIdeal.main_arg2)
          ∧ r.2.mem ((c.tc : Thread Cert.MixFwIdeal.nD Cert.MixFwIdeal.τ).loc Cert.MixFwIdeal.main_arg3) = m ((c.tc : Thread Cert.MixFwIdeal.nD Cert.MixFwIdeal.τ).loc Cert.MixFwIdeal.main_arg3)
          ∧ r.2.mem ((c.tc : Thread Cert.MixFwIdeal.nD Cert.MixFwIdeal.τ).loc Cert.MixFwIdeal.main_arg4) = m ((c.tc : Thread Cert.MixFwIdeal.nD Cert.MixFwIdeal.τ).loc Cert.MixFwIdeal.main_arg4)
          ∧ r.2.mem ((c.tc : Thread Cert.MixFwIdeal.nD Cert.MixFwIdeal.τ).loc Cert.MixFwIdeal.main_arg5) = m ((c.tc : Thread Cert.MixFwIdeal.nD Cert.MixFwIdeal.τ).loc Cert.MixFwIdeal.main_arg5))
      ∧ θ_run (Cert.MixFwRefIdeal.defs (F := Ideal)) (onTc (τ := Cert.MixFwRefIdeal.τ) (Cert.MixFwRefIdeal.main (F := Ideal))) ⟨m', fun _ => 0, g'⟩ (fun r => ∀ c : Dev Cert.MixFwRefIdeal.nD,
          r.2.mem ((c.tc : Thread Cert.MixFwRefIdeal.nD Cert.MixFwRefIdeal.τ).loc Cert.MixFwRefIdeal.main_v33) = v0 c
          ∧ r.2.mem ((c.tc : Thread Cert.MixFwRefIdeal.nD Cert.MixFwRefIdeal.τ).loc Cert.MixFwRefIdeal.main_arg0) = m' ((c.tc : Thread Cert.MixFwRefIdeal.nD Cert.MixFwRefIdeal.τ).loc Cert.MixFwRefIdeal.main_arg0)
          ∧ r.2.mem ((c.tc : Thread Cert.MixFwRefIdeal.nD Cert.MixFwRefIdeal.τ).loc Cert.MixFwRefIdeal.main_arg1) = m' ((c.tc : Thread Cert.MixFwRefIdeal.nD Cert.MixFwRefIdeal.τ).loc Cert.MixFwRefIdeal.main_arg1)
          ∧ r.2.mem ((c.tc : Thread Cert.MixFwRefIdeal.nD Cert.MixFwRefIdeal.τ).loc Cert.MixFwRefIdeal.main_arg2) = m' ((c.tc : Thread Cert.MixFwRefIdeal.nD Cert.MixFwRefIdeal.τ).loc Cert.MixFwRefIdeal.main_arg2)
          ∧ r.2.mem ((c.tc : Thread Cert.MixFwRefIdeal.nD Cert.MixFwRefIdeal.τ).loc Cert.MixFwRefIdeal.main_arg3) = m' ((c.tc : Thread Cert.MixFwRefIdeal.nD Cert.MixFwRefIdeal.τ).loc Cert.MixFwRefIdeal.main_arg3)
          ∧ r.2.mem ((c.tc : Thread Cert.MixFwRefIdeal.nD Cert.MixFwRefIdeal.τ).loc Cert.MixFwRefIdeal.main_arg4) = m' ((c.tc : Thread Cert.MixFwRefIdeal.nD Cert.MixFwRefIdeal.τ).loc Cert.MixFwRefIdeal.main_arg4)
          ∧ r.2.mem ((c.tc : Thread Cert.MixFwRefIdeal.nD Cert.MixFwRefIdeal.τ).loc Cert.MixFwRefIdeal.main_arg5) = m' ((c.tc : Thread Cert.MixFwRefIdeal.nD Cert.MixFwRefIdeal.τ).loc Cert.MixFwRefIdeal.main_arg5))

def preserves_PrepFw_PrepFwIdeal : Prop :=
  True

def algebraic_PrepFwIdeal_PrepFwRefIdeal_pre_prep_fw_finite [hPrepFwIdeal : Cert.PrepFwIdeal.Facts] [hPrepFwRefIdeal : Cert.PrepFwRefIdeal.Facts] [hPre_prep_fw_finite : Cert.Pre_prep_fw_finite.Facts] : Prop :=
  ∀ (m : (ℓ : Loc Cert.PrepFwIdeal.nD Cert.PrepFwIdeal.τ Cert.PrepFwIdeal.sig) → Buf (Elt Ideal) ℓ) (g : Dev Cert.PrepFwIdeal.nD → PrngReg)
    (m' : (ℓ : Loc Cert.PrepFwRefIdeal.nD Cert.PrepFwRefIdeal.τ Cert.PrepFwRefIdeal.sig) → Buf (Elt Ideal) ℓ) (g' : Dev Cert.PrepFwRefIdeal.nD → PrngReg), Pre_PrepFwIdeal_prep_fw_finite m →
    (∀ c : Dev Cert.PrepFwIdeal.nD,
      m' ((c.tc : Thread Cert.PrepFwRefIdeal.nD Cert.PrepFwRefIdeal.τ).loc Cert.PrepFwRefIdeal.main_arg0) = m ((c.tc : Thread Cert.PrepFwIdeal.nD Cert.PrepFwIdeal.τ).loc Cert.PrepFwIdeal.main_arg0)
      ∧ m' ((c.tc : Thread Cert.PrepFwRefIdeal.nD Cert.PrepFwRefIdeal.τ).loc Cert.PrepFwRefIdeal.main_arg1) = m ((c.tc : Thread Cert.PrepFwIdeal.nD Cert.PrepFwIdeal.τ).loc Cert.PrepFwIdeal.main_arg1)
      ∧ m' ((c.tc : Thread Cert.PrepFwRefIdeal.nD Cert.PrepFwRefIdeal.τ).loc Cert.PrepFwRefIdeal.main_arg2) = m ((c.tc : Thread Cert.PrepFwIdeal.nD Cert.PrepFwIdeal.τ).loc Cert.PrepFwIdeal.main_arg2)) →
    ∃ (v0 : (c : Dev Cert.PrepFwIdeal.nD) → Buf (Elt Ideal) ((c.tc : Thread Cert.PrepFwIdeal.nD Cert.PrepFwIdeal.τ).loc Cert.PrepFwIdeal.main_v94_0)) (v1 : (c : Dev Cert.PrepFwIdeal.nD) → Buf (Elt Ideal) ((c.tc : Thread Cert.PrepFwIdeal.nD Cert.PrepFwIdeal.τ).loc Cert.PrepFwIdeal.main_v94_1)) (v2 : (c : Dev Cert.PrepFwIdeal.nD) → Buf (Elt Ideal) ((c.tc : Thread Cert.PrepFwIdeal.nD Cert.PrepFwIdeal.τ).loc Cert.PrepFwIdeal.main_v94_2)) (v3 : (c : Dev Cert.PrepFwIdeal.nD) → Buf (Elt Ideal) ((c.tc : Thread Cert.PrepFwIdeal.nD Cert.PrepFwIdeal.τ).loc Cert.PrepFwIdeal.main_v94_3)) (v4 : (c : Dev Cert.PrepFwIdeal.nD) → Buf (Elt Ideal) ((c.tc : Thread Cert.PrepFwIdeal.nD Cert.PrepFwIdeal.τ).loc Cert.PrepFwIdeal.main_v94_4)),
      θ_run (Cert.PrepFwIdeal.defs (F := Ideal)) (onTc (τ := Cert.PrepFwIdeal.τ) (Cert.PrepFwIdeal.main (F := Ideal))) ⟨m, fun _ => 0, g⟩ (fun r => ∀ c : Dev Cert.PrepFwIdeal.nD,
          r.2.mem ((c.tc : Thread Cert.PrepFwIdeal.nD Cert.PrepFwIdeal.τ).loc Cert.PrepFwIdeal.main_v94_0) = v0 c
          ∧ r.2.mem ((c.tc : Thread Cert.PrepFwIdeal.nD Cert.PrepFwIdeal.τ).loc Cert.PrepFwIdeal.main_v94_1) = v1 c
          ∧ r.2.mem ((c.tc : Thread Cert.PrepFwIdeal.nD Cert.PrepFwIdeal.τ).loc Cert.PrepFwIdeal.main_v94_2) = v2 c
          ∧ r.2.mem ((c.tc : Thread Cert.PrepFwIdeal.nD Cert.PrepFwIdeal.τ).loc Cert.PrepFwIdeal.main_v94_3) = v3 c
          ∧ r.2.mem ((c.tc : Thread Cert.PrepFwIdeal.nD Cert.PrepFwIdeal.τ).loc Cert.PrepFwIdeal.main_v94_4) = v4 c
          ∧ r.2.mem ((c.tc : Thread Cert.PrepFwIdeal.nD Cert.PrepFwIdeal.τ).loc Cert.PrepFwIdeal.main_arg0) = m ((c.tc : Thread Cert.PrepFwIdeal.nD Cert.PrepFwIdeal.τ).loc Cert.PrepFwIdeal.main_arg0)
          ∧ r.2.mem ((c.tc : Thread Cert.PrepFwIdeal.nD Cert.PrepFwIdeal.τ).loc Cert.PrepFwIdeal.main_arg1) = m ((c.tc : Thread Cert.PrepFwIdeal.nD Cert.PrepFwIdeal.τ).loc Cert.PrepFwIdeal.main_arg1)
          ∧ r.2.mem ((c.tc : Thread Cert.PrepFwIdeal.nD Cert.PrepFwIdeal.τ).loc Cert.PrepFwIdeal.main_arg2) = m ((c.tc : Thread Cert.PrepFwIdeal.nD Cert.PrepFwIdeal.τ).loc Cert.PrepFwIdeal.main_arg2))
      ∧ θ_run (Cert.PrepFwRefIdeal.defs (F := Ideal)) (onTc (τ := Cert.PrepFwRefIdeal.τ) (Cert.PrepFwRefIdeal.main (F := Ideal))) ⟨m', fun _ => 0, g'⟩ (fun r => ∀ c : Dev Cert.PrepFwRefIdeal.nD,
          r.2.mem ((c.tc : Thread Cert.PrepFwRefIdeal.nD Cert.PrepFwRefIdeal.τ).loc Cert.PrepFwRefIdeal.main_v104) = v0 c
          ∧ r.2.mem ((c.tc : Thread Cert.PrepFwRefIdeal.nD Cert.PrepFwRefIdeal.τ).loc Cert.PrepFwRefIdeal.main_v108) = v1 c
          ∧ r.2.mem ((c.tc : Thread Cert.PrepFwRefIdeal.nD Cert.PrepFwRefIdeal.τ).loc Cert.PrepFwRefIdeal.main_v112) = v2 c
          ∧ r.2.mem ((c.tc : Thread Cert.PrepFwRefIdeal.nD Cert.PrepFwRefIdeal.τ).loc Cert.PrepFwRefIdeal.main_v115) = v3 c
          ∧ r.2.mem ((c.tc : Thread Cert.PrepFwRefIdeal.nD Cert.PrepFwRefIdeal.τ).loc Cert.PrepFwRefIdeal.main_v118) = v4 c
          ∧ r.2.mem ((c.tc : Thread Cert.PrepFwRefIdeal.nD Cert.PrepFwRefIdeal.τ).loc Cert.PrepFwRefIdeal.main_arg0) = m' ((c.tc : Thread Cert.PrepFwRefIdeal.nD Cert.PrepFwRefIdeal.τ).loc Cert.PrepFwRefIdeal.main_arg0)
          ∧ r.2.mem ((c.tc : Thread Cert.PrepFwRefIdeal.nD Cert.PrepFwRefIdeal.τ).loc Cert.PrepFwRefIdeal.main_arg1) = m' ((c.tc : Thread Cert.PrepFwRefIdeal.nD Cert.PrepFwRefIdeal.τ).loc Cert.PrepFwRefIdeal.main_arg1)
          ∧ r.2.mem ((c.tc : Thread Cert.PrepFwRefIdeal.nD Cert.PrepFwRefIdeal.τ).loc Cert.PrepFwRefIdeal.main_arg2) = m' ((c.tc : Thread Cert.PrepFwRefIdeal.nD Cert.PrepFwRefIdeal.τ).loc Cert.PrepFwRefIdeal.main_arg2))

def Claim : Prop :=
  ∃ (hInDx : Cert.InDx.Facts) (hInDxIdeal : Cert.InDxIdeal.Facts) (hInRefIdeal : Cert.InRefIdeal.Facts) (hUpDx : Cert.UpDx.Facts) (hUpDxIdeal : Cert.UpDxIdeal.Facts) (hUpRefIdeal : Cert.UpRefIdeal.Facts) (hAttDx : Cert.AttDx.Facts) (hAttDxIdeal : Cert.AttDxIdeal.Facts) (hAttRefIdeal : Cert.AttRefIdeal.Facts) (hLossDx : Cert.LossDx.Facts) (hLossDxIdeal : Cert.LossDxIdeal.Facts) (hLossRefIdeal : Cert.LossRefIdeal.Facts) (hFfnDx : Cert.FfnDx.Facts) (hFfnDxIdeal : Cert.FfnDxIdeal.Facts) (hFfnRefIdeal : Cert.FfnRefIdeal.Facts) (hMixDx : Cert.MixDx.Facts) (hMixDxIdeal : Cert.MixDxIdeal.Facts) (hMixRefIdeal : Cert.MixRefIdeal.Facts) (hPrepDx : Cert.PrepDx.Facts) (hPrepDxIdeal : Cert.PrepDxIdeal.Facts) (hPrepRefIdeal : Cert.PrepRefIdeal.Facts) (hGlaDx : Cert.GlaDx.Facts) (hGlaDxIdeal : Cert.GlaDxIdeal.Facts) (hGlaRev : Cert.GlaRev.Facts) (hGlaRevIdeal : Cert.GlaRevIdeal.Facts) (hGlaFw : Cert.GlaFw.Facts) (hGlaFwIdeal : Cert.GlaFwIdeal.Facts) (hGlaFwRev : Cert.GlaFwRev.Facts) (hGlaFwRevIdeal : Cert.GlaFwRevIdeal.Facts) (hNormFw : Cert.NormFw.Facts) (hNormFwIdeal : Cert.NormFwIdeal.Facts) (hNormFwRefIdeal : Cert.NormFwRefIdeal.Facts) (hOutFw : Cert.OutFw.Facts) (hOutFwIdeal : Cert.OutFwIdeal.Facts) (hOutFwRefIdeal : Cert.OutFwRefIdeal.Facts) (hActFw : Cert.ActFw.Facts) (hActFwIdeal : Cert.ActFwIdeal.Facts) (hActFwRefIdeal : Cert.ActFwRefIdeal.Facts) (hMixFw : Cert.MixFw.Facts) (hMixFwIdeal : Cert.MixFwIdeal.Facts) (hMixFwRefIdeal : Cert.MixFwRefIdeal.Facts) (hPrepFw : Cert.PrepFw.Facts) (hPrepFwIdeal : Cert.PrepFwIdeal.Facts) (hPrepFwRefIdeal : Cert.PrepFwRefIdeal.Facts) (hPre_all_finite : Cert.Pre_all_finite.Facts) (hPre_prep_finite : Cert.Pre_prep_finite.Facts) (hPre_prep_fw_finite : Cert.Pre_prep_fw_finite.Facts),
    quiescent_InDx (hInDx := hInDx)
    ∧ quiescent_InDxIdeal (hInDxIdeal := hInDxIdeal)
    ∧ quiescent_InRefIdeal (hInRefIdeal := hInRefIdeal)
    ∧ quiescent_UpDx (hUpDx := hUpDx)
    ∧ quiescent_UpDxIdeal (hUpDxIdeal := hUpDxIdeal)
    ∧ quiescent_UpRefIdeal (hUpRefIdeal := hUpRefIdeal)
    ∧ quiescent_AttDx (hAttDx := hAttDx)
    ∧ quiescent_AttDxIdeal (hAttDxIdeal := hAttDxIdeal)
    ∧ quiescent_AttDxIdeal_pre_all_finite (hAttDxIdeal := hAttDxIdeal) (hPre_all_finite := hPre_all_finite)
    ∧ quiescent_AttRefIdeal (hAttRefIdeal := hAttRefIdeal)
    ∧ quiescent_AttRefIdeal_pre_all_finite (hAttRefIdeal := hAttRefIdeal) (hPre_all_finite := hPre_all_finite)
    ∧ quiescent_LossDx (hLossDx := hLossDx)
    ∧ quiescent_LossDxIdeal (hLossDxIdeal := hLossDxIdeal)
    ∧ quiescent_LossRefIdeal (hLossRefIdeal := hLossRefIdeal)
    ∧ quiescent_FfnDx (hFfnDx := hFfnDx)
    ∧ quiescent_FfnDxIdeal (hFfnDxIdeal := hFfnDxIdeal)
    ∧ quiescent_FfnRefIdeal (hFfnRefIdeal := hFfnRefIdeal)
    ∧ quiescent_MixDx (hMixDx := hMixDx)
    ∧ quiescent_MixDxIdeal (hMixDxIdeal := hMixDxIdeal)
    ∧ quiescent_MixRefIdeal (hMixRefIdeal := hMixRefIdeal)
    ∧ quiescent_PrepDx (hPrepDx := hPrepDx)
    ∧ quiescent_PrepDxIdeal (hPrepDxIdeal := hPrepDxIdeal)
    ∧ quiescent_PrepDxIdeal_pre_prep_finite (hPrepDxIdeal := hPrepDxIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_GlaDx (hGlaDx := hGlaDx)
    ∧ quiescent_GlaDxIdeal (hGlaDxIdeal := hGlaDxIdeal)
    ∧ quiescent_GlaRev (hGlaRev := hGlaRev)
    ∧ quiescent_GlaRevIdeal (hGlaRevIdeal := hGlaRevIdeal)
    ∧ quiescent_GlaFw (hGlaFw := hGlaFw)
    ∧ quiescent_GlaFwIdeal (hGlaFwIdeal := hGlaFwIdeal)
    ∧ quiescent_GlaFwRev (hGlaFwRev := hGlaFwRev)
    ∧ quiescent_GlaFwRevIdeal (hGlaFwRevIdeal := hGlaFwRevIdeal)
    ∧ quiescent_NormFw (hNormFw := hNormFw)
    ∧ quiescent_NormFwIdeal (hNormFwIdeal := hNormFwIdeal)
    ∧ quiescent_NormFwRefIdeal (hNormFwRefIdeal := hNormFwRefIdeal)
    ∧ quiescent_OutFw (hOutFw := hOutFw)
    ∧ quiescent_OutFwIdeal (hOutFwIdeal := hOutFwIdeal)
    ∧ quiescent_OutFwRefIdeal (hOutFwRefIdeal := hOutFwRefIdeal)
    ∧ quiescent_ActFw (hActFw := hActFw)
    ∧ quiescent_ActFwIdeal (hActFwIdeal := hActFwIdeal)
    ∧ quiescent_ActFwRefIdeal (hActFwRefIdeal := hActFwRefIdeal)
    ∧ quiescent_MixFw (hMixFw := hMixFw)
    ∧ quiescent_MixFwIdeal (hMixFwIdeal := hMixFwIdeal)
    ∧ quiescent_MixFwRefIdeal (hMixFwRefIdeal := hMixFwRefIdeal)
    ∧ quiescent_PrepFw (hPrepFw := hPrepFw)
    ∧ quiescent_PrepFwIdeal (hPrepFwIdeal := hPrepFwIdeal)
    ∧ quiescent_PrepFwIdeal_pre_prep_fw_finite (hPrepFwIdeal := hPrepFwIdeal) (hPre_prep_fw_finite := hPre_prep_fw_finite)
    ∧ quiescent_PrepFwRefIdeal (hPrepFwRefIdeal := hPrepFwRefIdeal)
    ∧ quiescent_PrepFwRefIdeal_pre_prep_fw_finite (hPrepFwRefIdeal := hPrepFwRefIdeal) (hPre_prep_fw_finite := hPre_prep_fw_finite)
    ∧ preserves_InDx_InDxIdeal
    ∧ algebraic_InDxIdeal_InRefIdeal (hInDxIdeal := hInDxIdeal) (hInRefIdeal := hInRefIdeal)
    ∧ preserves_UpDx_UpDxIdeal
    ∧ algebraic_UpDxIdeal_UpRefIdeal (hUpDxIdeal := hUpDxIdeal) (hUpRefIdeal := hUpRefIdeal)
    ∧ preserves_AttDx_AttDxIdeal
    ∧ algebraic_AttDxIdeal_AttRefIdeal_pre_all_finite (hAttDxIdeal := hAttDxIdeal) (hAttRefIdeal := hAttRefIdeal) (hPre_all_finite := hPre_all_finite)
    ∧ preserves_LossDx_LossDxIdeal
    ∧ algebraic_LossDxIdeal_LossRefIdeal (hLossDxIdeal := hLossDxIdeal) (hLossRefIdeal := hLossRefIdeal)
    ∧ preserves_FfnDx_FfnDxIdeal
    ∧ algebraic_FfnDxIdeal_FfnRefIdeal (hFfnDxIdeal := hFfnDxIdeal) (hFfnRefIdeal := hFfnRefIdeal)
    ∧ preserves_MixDx_MixDxIdeal
    ∧ algebraic_MixDxIdeal_MixRefIdeal (hMixDxIdeal := hMixDxIdeal) (hMixRefIdeal := hMixRefIdeal)
    ∧ preserves_PrepDx_PrepDxIdeal
    ∧ algebraic_PrepDxIdeal_PrepRefIdeal_pre_prep_finite (hPrepDxIdeal := hPrepDxIdeal) (hPrepRefIdeal := hPrepRefIdeal) (hPre_prep_finite := hPre_prep_finite)
    ∧ preserves_GlaDx_GlaDxIdeal
    ∧ preserves_GlaRev_GlaRevIdeal
    ∧ preserves_GlaFw_GlaFwIdeal
    ∧ preserves_GlaFwRev_GlaFwRevIdeal
    ∧ preserves_NormFw_NormFwIdeal
    ∧ algebraic_NormFwIdeal_NormFwRefIdeal (hNormFwIdeal := hNormFwIdeal) (hNormFwRefIdeal := hNormFwRefIdeal)
    ∧ preserves_OutFw_OutFwIdeal
    ∧ algebraic_OutFwIdeal_OutFwRefIdeal (hOutFwIdeal := hOutFwIdeal) (hOutFwRefIdeal := hOutFwRefIdeal)
    ∧ preserves_ActFw_ActFwIdeal
    ∧ algebraic_ActFwIdeal_ActFwRefIdeal (hActFwIdeal := hActFwIdeal) (hActFwRefIdeal := hActFwRefIdeal)
    ∧ preserves_MixFw_MixFwIdeal
    ∧ algebraic_MixFwIdeal_MixFwRefIdeal (hMixFwIdeal := hMixFwIdeal) (hMixFwRefIdeal := hMixFwRefIdeal)
    ∧ preserves_PrepFw_PrepFwIdeal
    ∧ algebraic_PrepFwIdeal_PrepFwRefIdeal_pre_prep_fw_finite (hPrepFwIdeal := hPrepFwIdeal) (hPrepFwRefIdeal := hPrepFwRefIdeal) (hPre_prep_fw_finite := hPre_prep_fw_finite)
-- ==== Pre_all_finite.lean ====
abbrev S8192x8x64 : Shape := ⟨3, ![8192, 8, 64]⟩
abbrev S8192x2x64 : Shape := ⟨3, ![8192, 2, 64]⟩
abbrev S8192x512 : Shape := ⟨2, ![8192, 512]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x2x64 : S_.BroadcastsInDim S8192x2x64 (![] : Fin 0 → Fin S8192x2x64.rank)
  reducesTo_S8192x2x64_S_d0_1_2 : S8192x2x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x8x64 .f32) (main_arg1 : FVec F S8192x2x64 .f32) (main_arg2 : FVec F S8192x2x64 .f32) (main_arg3 : FVec F S8192x512 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x2x64 .f32 := Host.absf main_arg1
  let main_cst_0 : FVec F S_ .f32 := constant S_ .f32 0x7F800000#32
  let main_v5 : FVec F S8192x2x64 .f32 := broadcastInDim S8192x2x64 ![] bcast_S_S8192x2x64 main_cst_0
  let main_v6 : IVec S8192x2x64 1 := cmpf .olt main_v4 main_v5
  let main_c_1 : IVec S_ 1 := constantI S_ 1 1#1
  let main_v7 : IVec S_ 1 := (fun x v => Host.reduce IntOp.andi x v reducesTo_S8192x2x64_S_d0_1_2 h_S_) main_v6 main_c_1
  let main_v8 : IVec S_ 1 := andi main_v3 main_v7
  let main_v9 : FVec F S8192x2x64 .f32 := Host.absf main_arg2
  let main_cst_2 : FVec F S_ .f32 := constant S_ .f32 0x7F800000#32
  let main_v10 : FVec F S8192x2x64 .f32 := broadcastInDim S8192x2x64 ![] bcast_S_S8192x2x64 main_cst_2
  let main_v11 : IVec S8192x2x64 1 := cmpf .olt main_v9 main_v10
  let main_c_3 : IVec S_ 1 := constantI S_ 1 1#1
  let main_v12 : IVec S_ 1 := (fun x v => Host.reduce IntOp.andi x v reducesTo_S8192x2x64_S_d0_1_2 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_prep_finite.lean ====
abbrev S8192x3328 : Shape := ⟨2, ![8192, 3328]⟩
abbrev S1x64 : Shape := ⟨2, ![1, 64]⟩
abbrev S8192x8x64 : Shape := ⟨3, ![8192, 8, 64]⟩
abbrev S8192x2x64 : Shape := ⟨3, ![8192, 2, 64]⟩
abbrev S_ : Shape := ⟨0, ![]⟩

class Facts : Prop where
  bcast_S_S8192x3328 : S_.BroadcastsInDim S8192x3328 (![] : Fin 0 → Fin S8192x3328.rank)
  reducesTo_S8192x3328_S_d0_1 : S8192x3328.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x2x64 : S_.BroadcastsInDim S8192x2x64 (![] : Fin 0 → Fin S8192x2x64.rank)
  reducesTo_S8192x2x64_S_d0_1_2 : S8192x2x64.ReducesTo [0, 1, 2] S_

variable [Facts]

def fn_part1 {F : FTy → Type} [FloatOps F] (main_arg4 : FVec F S8192x2x64 .f32) (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  let main_v19 : FVec F S8192x2x64 .f32 := Host.absf main_arg4
  let main_cst_6 : FVec F S_ .f32 := constant S_ .f32 0x7F800000#32
  let main_v20 : FVec F S8192x2x64 .f32 := broadcastInDim S8192x2x64 ![] bcast_S_S8192x2x64 main_cst_6
  let main_v21 : IVec S8192x2x64 1 := cmpf .olt main_v19 main_v20
  let main_c_7 : IVec S_ 1 := constantI S_ 1 1#1
  let main_v22 : IVec S_ 1 := (fun x v => Host.reduce IntOp.andi x v reducesTo_S8192x2x64_S_d0_1_2 h_S_) main_v21 main_c_7
  let main_v23 : IVec S_ 1 := andi main_v18 main_v22
  main_v23

def fn {F : FTy → Type} [FloatOps F] (main_arg0 : FVec F S8192x3328 .f32) (main_arg1 : FVec F S1x64 .f32) (main_arg2 : FVec F S1x64 .f32) (main_arg3 : FVec F S8192x8x64 .f32) (main_arg4 : FVec F S8192x2x64 .f32) (main_arg5 : FVec F S8192x2x64 .f32) : IVec S_ 1 :=
  let main_v0 : FVec F S8192x3328 .f32 := Host.absf main_arg0
  let main_cst : FVec F S_ .f32 := constant S_ .f32 0x7F800000#32
  let main_v1 : FVec F S8192x3328 .f32 := broadcastInDim S8192x3328 ![] bcast_S_S8192x3328 main_cst
  let main_v2 : IVec S8192x3328 1 := cmpf .olt main_v0 main_v1
  let main_c : IVec S_ 1 := constantI S_ 1 1#1
  let main_v3 : IVec S_ 1 := (fun x v => Host.reduce IntOp.andi x v reducesTo_S8192x3328_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_arg4 main_v13 main_v16
-- ==== Pre_prep_fw_finite.lean ====
abbrev S8192x3328 : Shape := ⟨2, ![8192, 3328]⟩
abbrev S1x64 : Shape := ⟨2, ![1, 64]⟩
abbrev S_ : Shape := ⟨0, ![]⟩

class Facts : Prop where
  bcast_S_S8192x3328 : S_.BroadcastsInDim S8192x3328 (![] : Fin 0 → Fin S8192x3328.rank)
  reducesTo_S8192x3328_S_d0_1 : S8192x3328.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S8192x3328 .f32) (main_arg1 : FVec F S1x64 .f32) (main_arg2 : FVec F S1x64 .f32) : IVec S_ 1 :=
  let main_v0 : FVec F S8192x3328 .f32 := Host.absf main_arg0
  let main_cst : FVec F S_ .f32 := constant S_ .f32 0x7F800000#32
  let main_v1 : FVec F S8192x3328 .f32 := broadcastInDim S8192x3328 ![] bcast_S_S8192x3328 main_cst
  let main_v2 : IVec S8192x3328 1 := cmpf .olt main_v0 main_v1
  let main_c : IVec S_ 1 := constantI S_ 1 1#1
  let main_v3 : IVec S_ 1 := (fun x v => Host.reduce IntOp.andi x v reducesTo_S8192x3328_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== InDx.lean ====
abbrev S8192x1024 : Shape := ⟨2, ![8192, 1024]⟩
abbrev S1x1024 : Shape := ⟨2, ![1, 1024]⟩
abbrev S1024x3328 : Shape := ⟨2, ![1024, 3328]⟩
abbrev S8192x3328 : Shape := ⟨2, ![8192, 3328]⟩
abbrev S256x3328 : Shape := ⟨2, ![256, 3328]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3328, .f32⟩
  | .hbm, ⟨3, _⟩ => ⟨S8192x1024, .f32⟩
  | .hbm, ⟨4, _⟩ => ⟨S8192x3328, .f32⟩
  | .hbm, ⟨5, _⟩ => ⟨S8192x3328, .bf16⟩
  | .hbm, ⟨6, _⟩ => ⟨S1024x3328, .bf16⟩
  | .hbm, ⟨7, _⟩ => ⟨S8192x1024, .f32⟩
  | .hbm, ⟨8, _⟩ => ⟨S1x1024, .f32⟩
  | .local _ .vmem, ⟨0, _⟩ => ⟨S256x3328, .bf16⟩
  | .local _ .vmem, ⟨1, _⟩ => ⟨S256x3328, .bf16⟩
  | .local _ .vmem, ⟨2, _⟩ => ⟨S1024x3328, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InRefIdeal.lean ====
abbrev S8192x1024 : Shape := ⟨2, ![8192, 1024]⟩
abbrev S1x1024 : Shape := ⟨2, ![1, 1024]⟩
abbrev S1024x3328 : Shape := ⟨2, ![1024, 3328]⟩
abbrev S8192x3328 : Shape := ⟨2, ![8192, 3328]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3328, .f32⟩
  | .hbm, ⟨3, _⟩ => ⟨S8192x1024, .f32⟩
  | .hbm, ⟨4, _⟩ => ⟨S8192x3328, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3328, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== UpDx.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S2x256x2816 : Shape := ⟨3, ![2, 256, 2816]⟩
abbrev S1024x2816 : Shape := ⟨2, ![1024, 2816]⟩
abbrev S256x1024 : Shape := ⟨2, ![256, 1024]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S1024x5632, .bf16⟩
  | .hbm, ⟨12, _⟩ => ⟨S8192x1024, .f32⟩
  | .hbm, ⟨13, _⟩ => ⟨S8192x1024, .bf16⟩
  | .hbm, ⟨14, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S1024x2816, .bf16⟩
  | .local _ .vmem, ⟨3, _⟩ => ⟨S1024x2816, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpRefIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== AttDx.lean ====
abbrev S8192x8x64 : Shape := ⟨3, ![8192, 8, 64]⟩
abbrev S8192x2x64 : Shape := ⟨3, ![8192, 2, 64]⟩
abbrev S8192x512 : Shape := ⟨2, ![8192, 512]⟩
abbrev S_ : Shape := ⟨0, ![]⟩
abbrev S32x256x8x64 : Shape := ⟨4, ![32, 256, 8, 64]⟩
abbrev S8x32x64x256 : Shape := ⟨4, ![8, 32, 64, 256]⟩
abbrev S2x128x64x256 : Shape := ⟨4, ![2, 128, 64, 256]⟩
abbrev S8x32x256x64 : Shape := ⟨4, ![8, 32, 256, 64]⟩
abbrev S8x32x256x128 : Shape := ⟨4, ![8, 32, 256, 128]⟩
abbrev S2x128x256x128 : Shape := ⟨4, ![2, 128, 256, 128]⟩
abbrev S32x256x2x64 : Shape := ⟨4, ![32, 256, 2, 64]⟩
abbrev S2x32x256x64 : Shape := ⟨4, ![2, 32, 256, 64]⟩
abbrev S2x32x256x128 : Shape := ⟨4, ![2, 32, 256, 128]⟩
abbrev S2x8192x128 : Shape := ⟨3, ![2, 8192, 128]⟩
abbrev S2x32x64x256 : Shape := ⟨4, ![2, 32, 64, 256]⟩
abbrev S1x4x64x256 : Shape := ⟨4, ![1, 4, 64, 256]⟩
abbrev S1x8192x128 : Shape := ⟨3, ![1, 8192, 128]⟩
abbrev S1x32x64x256 : Shape := ⟨4, ![1, 32, 64, 256]⟩
abbrev S1x4x256x128 : Shape := ⟨4, ![1, 4, 256, 128]⟩
abbrev S1x1x64x256 : Shape := ⟨4, ![1, 1, 64, 256]⟩
abbrev S64x256 : Shape := ⟨2, ![64, 256]⟩
abbrev S128x256 : Shape := ⟨2, ![128, 256]⟩
abbrev S1x256 : Shape := ⟨2, ![1, 256]⟩
abbrev S1x1024x128 : Shape := ⟨3, ![1, 1024, 128]⟩
abbrev S1024x128 : Shape := ⟨2, ![1024, 128]⟩
abbrev S1024x256 : Shape := ⟨2, ![1024, 256]⟩
abbrev S64x1024 : Shape := ⟨2, ![64, 1024]⟩
abbrev S256 : Shape := ⟨1, ![256]⟩
abbrev S256x128 : Shape := ⟨2, ![256, 128]⟩
abbrev S1x1x256x128 : Shape := ⟨4, ![1, 1, 256, 128]⟩
abbrev S1x8x256x128 : Shape := ⟨4, ![1, 8, 256, 128]⟩
abbrev S1x8x64x256 : Shape := ⟨4, ![1, 8, 64, 256]⟩
abbrev S64x512 : Shape := ⟨2, ![64, 512]⟩
abbrev S128x512 : Shape := ⟨2, ![128, 512]⟩
abbrev S1x512x128 : Shape := ⟨3, ![1, 512, 128]⟩
abbrev S512x128 : Shape := ⟨2, ![512, 128]⟩
abbrev S256x512 : Shape := ⟨2, ![256, 512]⟩
abbrev S2x128x256x1 : Shape := ⟨4, ![2, 128, 256, 1]⟩
abbrev S2x128x256 : Shape := ⟨3, ![2, 128, 256]⟩

abbrev nBuf : Space → Nat
  | .hbm => 52
  | .vmem => 34
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x512, .f32⟩
  | .hbm, ⟨4, _⟩ => ⟨S_, .f32⟩
  | .hbm, ⟨5, _⟩ => ⟨S8192x8x64, .f32⟩
  | .hbm, ⟨6, _⟩ => ⟨S8192x8x64, .f32⟩
  | .hbm, ⟨7, _⟩ => ⟨S32x256x8x64, .f32⟩
  | .hbm, ⟨8, _⟩ => ⟨S8x32x64x256, .f32⟩
  | .hbm, ⟨9, _⟩ => ⟨S8x32x64x256, .bf16⟩
  | .hbm, ⟨10, _⟩ => ⟨S2x128x64x256, .bf16⟩
  | .hbm, ⟨11, _⟩ => ⟨S32x256x8x64, .f32⟩
  | .hbm, ⟨12, _⟩ => ⟨S8x32x256x64, .f32⟩
  | .hbm, ⟨13, _⟩ => ⟨S_, .i32⟩
  | .hbm, ⟨14, _⟩ => ⟨S_, .f32⟩
  | .hbm, ⟨15, _⟩ => ⟨S8x32x256x128, .f32⟩
  | .hbm, ⟨16, _⟩ => ⟨S8x32x256x128, .bf16⟩
  | .hbm, ⟨17, _⟩ => ⟨S2x128x256x128, .bf16⟩
  | .hbm, ⟨18, _⟩ => ⟨S32x256x8x64, .f32⟩
  | .hbm, ⟨19, _⟩ => ⟨S8x32x64x256, .f32⟩
  | .hbm, ⟨20, _⟩ => ⟨S8x32x64x256, .bf16⟩
  | .hbm, ⟨21, _⟩ => ⟨S2x128x64x256, .bf16⟩
  | .hbm, ⟨22, _⟩ => ⟨S32x256x8x64, .f32⟩
  | .hbm, ⟨23, _⟩ => ⟨S8x32x256x64, .f32⟩
  | .hbm, ⟨24, _⟩ => ⟨S_, .i32⟩
  | .hbm, ⟨25, _⟩ => ⟨S_, .f32⟩
  | .hbm, ⟨26, _⟩ => ⟨S8x32x256x128, .f32⟩
  | .hbm, ⟨27, _⟩ => ⟨S8x32x256x128, .bf16⟩
  | .hbm, ⟨28, _⟩ => ⟨S2x128x256x128, .bf16⟩
  | .hbm, ⟨29, _⟩ => ⟨S32x256x2x64, .f32⟩
  | .hbm, ⟨30, _⟩ => ⟨S2x32x256x64, .f32⟩
  | .hbm, ⟨31, _⟩ => ⟨S_, .i32⟩
  | .hbm, ⟨32, _⟩ => ⟨S_, .f32⟩
  | .hbm, ⟨33, _⟩ => ⟨S2x32x256x128, .f32⟩
  | .hbm, ⟨34, _⟩ => ⟨S2x32x256x128, .bf16⟩
  | .hbm, ⟨35, _⟩ => ⟨S2x8192x128, .bf16⟩
  | .hbm, ⟨36, _⟩ => ⟨S32x256x2x64, .f32⟩
  | .hbm, ⟨37, _⟩ => ⟨S2x32x64x256, .f32⟩
  | .hbm, ⟨38, _⟩ => ⟨S2x32x64x256, .bf16⟩
  | .hbm, ⟨39, _⟩ => ⟨S32x256x2x64, .f32⟩
  | .hbm, ⟨40, _⟩ => ⟨S2x32x64x256, .f32⟩
  | .hbm, ⟨41, _⟩ => ⟨S2x32x64x256, .bf16⟩
  | .hbm, ⟨42, _⟩ => ⟨S2x128x64x256, .f32⟩
  | .hbm, ⟨43, _⟩ => ⟨S2x128x256x128, .f32⟩
  | .hbm, ⟨44, _⟩ => ⟨S2x128x64x256, .f32⟩
  | .hbm, ⟨45, _⟩ => ⟨S2x32x64x256, .f32⟩
  | .hbm, ⟨46, _⟩ => ⟨S2x32x64x256, .f32⟩
  | .hbm, ⟨47, _⟩ => ⟨S_, .f32⟩
  | .hbm, ⟨48, _⟩ => ⟨S2x128x64x256, .f32⟩
  | .hbm, ⟨49, _⟩ => ⟨S2x128x64x256, .f32⟩
  | .hbm, ⟨50, _⟩ => ⟨S2x128x256x1, .f32⟩
  | .hbm, ⟨51, _⟩ => ⟨S2x128x256, .f32⟩
  | .local _ .vmem, ⟨0, _⟩ => ⟨S1x4x64x256, .bf16⟩
  | .local _ .vmem, ⟨1, _⟩ => ⟨S1x4x64x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x32x64x256, .bf16⟩
  | .local _ .vmem, ⟨5, _⟩ => ⟨S1x32x64x256, .bf16⟩
  | .local _ .vmem, ⟨6, _⟩ => ⟨S1x4x64x256, .f32⟩
  | .local _ .vmem, ⟨7, _⟩ => ⟨S1x4x64x256, .f32⟩
  | .local _ .vmem, ⟨8, _⟩ => ⟨S1x4x256x128, .f32⟩
  | .local _ .vmem, ⟨9, _⟩ => ⟨S1x4x256x128, .f32⟩
  | .local _ .vmem, ⟨10, _⟩ => ⟨S1x8x256x128, .bf16⟩
  | .local _ .vmem, ⟨11, _⟩ => ⟨S1x8x256x128, .bf16⟩
  | .local _ .vmem, ⟨12, _⟩ => ⟨S1x8x64x256, .bf16⟩
  | .local _ .vmem, ⟨13, _⟩ => ⟨S1x8x64x256, .bf16⟩
  | .local _ .vmem, ⟨14, _⟩ => ⟨S1x8x256x128, .bf16⟩
  | .local _ .vmem, ⟨15, _⟩ => ⟨S1x8x256x128, .bf16⟩
  | .local _ .vmem, ⟨16, _⟩ => ⟨S1x8x64x256, .bf16⟩
  | .local _ .vmem, ⟨17, _⟩ => ⟨S1x8x64x256, .bf16⟩
  | .local _ .vmem, ⟨18, _⟩ => ⟨S1x8x64x256, .f32⟩
  | .local _ .vmem, ⟨19, _⟩ => ⟨S1x8x64x256, .f32⟩
  | .local _ .vmem, ⟨20, _⟩ => ⟨S1x8x256x128, .f32⟩
  | .local _ .vmem, ⟨21, _⟩ => ⟨S1x8x256x128, .f32⟩
  | .local _ .vmem, ⟨22, _⟩ => ⟨S1x8192x128, .bf16⟩
  | .local _ .vmem, ⟨23, _⟩ => ⟨S1x8192x128, .bf16⟩
  | .local _ .vmem, ⟨24, _⟩ => ⟨S1x32x64x256, .bf16⟩
  | .local _ .vmem, ⟨25, _⟩ => ⟨S1x32x64x256, .bf16⟩
  | .local _ .vmem, ⟨26, _⟩ => ⟨S1x32x64x256, .bf16⟩
  | .local _ .vmem, ⟨27, _⟩ => ⟨S1x32x64x256, .bf16⟩
  | .local _ .vmem, ⟨28, _⟩ => ⟨S1x8x64x256, .f32⟩
  | .local _ .vmem, ⟨29, _⟩ => ⟨S1x8x64x256, .f32⟩
  | .local _ .vmem, ⟨30, _⟩ => ⟨S1x32x64x256, .f32⟩
  | .local _ .vmem, ⟨31, _⟩ => ⟨S1x32x64x256, .f32⟩
  | .local _ .vmem, ⟨32, _⟩ => ⟨S1x32x64x256, .f32⟩
  | .local _ .vmem, ⟨33, _⟩ => ⟨S1x32x64x256, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_call2_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
@[reducible] def k0_t1_loop : Scf.Loop 32 :=
  let c0_i32_30 : BitVec 32 := 0#32
  let c8_i32 : BitVec 32 := 8#32
  let v33 : BitVec 32 := Scalar.addi c0_i32_30 c8_i32
  let c1_i32 : BitVec 32 := 1#32
  ⟨c0_i32_30, v33, c1_i32⟩
def k0_mult2 (k0_t1 : Fin k0_t1_loop.trips) : BitVec 32 :=
  let c0_i32_30 : BitVec 32 := 0#32
  let c1_i32 : BitVec 32 := 1#32
  let arg7 : BitVec 32 := Scf.iv c0_i32_30 c1_i32 k0_t1
  let c1024_i32 : BitVec 32 := 1024#32
  let v87 : BitVec 32 := Scalar.muli arg7 c1024_i32
  v87
def k0_off1 (k0_t1 : Fin k0_t1_loop.trips) : Fin 3 → Nat :=
  let c0_64 : Index := 0#32
  let c0_i32_30 : BitVec 32 := 0#32
  let c1_i32 : BitVec 32 := 1#32
  let arg7 : BitVec 32 := Scf.iv c0_i32_30 c1_i32 k0_t1
  let c1024_i32 : BitVec 32 := 1024#32
  let v87 : BitVec 32 := Scalar.muli arg7 c1024_i32
  let v88 : BitVec 32 := v87
  let v89 : Index := Scalar.indexCast v88
  let c0_65 : Index := 0#32
  ![0, v89.toNat, 0]
def k0_off2 (k0_t1 : Fin k0_t1_loop.trips) (c0_i32_66 : BitVec 32) : Fin 4 → Nat :=
  let c0_67 : Index := 0#32
  let c0_i32_30 : BitVec 32 := 0#32
  let c1_i32 : BitVec 32 := 1#32
  let arg7 : BitVec 32 := Scf.iv c0_i32_30 c1_i32 k0_t1
  let c4_i32 : BitVec 32 := 4#32
  let v92 : BitVec 32 := Scalar.muli arg7 c4_i32
  let v93 : BitVec 32 := Scalar.addi v92 c0_i32_66
  let v94 : Index := Scalar.indexCast v93
  let c0_68 : Index := 0#32
  let c0_69 : Index := 0#32
  ![0, v94.toNat, 0, 0]
def k0_mult3 (k0_t1 : Fin k0_t1_loop.trips) : BitVec 32 :=
  let c0_i32_30 : BitVec 32 := 0#32
  let c1_i32 : BitVec 32 := 1#32
  let arg7 : BitVec 32 := Scf.iv c0_i32_30 c1_i32 k0_t1
  let c1_i32_97 : BitVec 32 := 1#32
  let v179 : BitVec 32 := Scalar.addi arg7 c1_i32_97
  let c7_i32 : BitVec 32 := 7#32
  let v180 : BitVec 32 := Scalar.minsi v179 c7_i32
  let c1024_i32_98 : BitVec 32 := 1024#32
  let v181 : BitVec 32 := Scalar.muli v180 c1024_i32_98
  v181
def k0_off3 (k0_t1 : Fin k0_t1_loop.trips) : Fin 3 → Nat :=
  let c0_99 : Index := 0#32
  let c0_i32_30 : BitVec 32 := 0#32
  let c1_i32 : BitVec 32 := 1#32
  let arg7 : BitVec 32 := Scf.iv c0_i32_30 c1_i32 k0_t1
  let c1_i32_97 : BitVec 32 := 1#32
  let v179 : BitVec 32 := Scalar.addi arg7 c1_i32_97
  let c7_i32 : BitVec 32 := 7#32
  let v180 : BitVec 32 := Scalar.minsi v179 c7_i32
  let c1024_i32_98 : BitVec 32 := 1024#32
  let v181 : BitVec 32 := Scalar.muli v180 c1024_i32_98
  let v182 : BitVec 32 := v181
  let v183 : Index := Scalar.indexCast v182
  let c0_100 : Index := 0#32
  ![0, v183.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

@[reducible] def k1_t1_loop : Scf.Loop 32 :=
  let c0_i32_104 : BitVec 32 := 0#32
  let c16_i32 : BitVec 32 := 16#32
  let v115 : BitVec 32 := Scalar.addi c0_i32_104 c16_i32
  let c1_i32 : BitVec 32 := 1#32
  ⟨c0_i32_104, v115, c1_i32⟩
def k1_off1 (k1_t1 : Fin k1_t1_loop.trips) (c0_i32_138 : BitVec 32) : Fin 4 → Nat :=
  let c0_139 : Index := 0#32
  let c0_i32_104 : BitVec 32 := 0#32
  let c1_i32 : BitVec 32 := 1#32
  let arg14 : BitVec 32 := Scf.iv c0_i32_104 c1_i32 k1_t1
  let c2_i32 : BitVec 32 := 2#32
  let v157 : BitVec 32 := Scalar.muli arg14 c2_i32
  let v158 : BitVec 32 := Scalar.addi v157 c0_i32_138
  let v159 : Index := Scalar.indexCast v158
  let c0_140 : Index := 0#32
  let c0_141 : Index := 0#32
  ![0, v159.toNat, 0, 0]
def k1_mult1 (k1_t1 : Fin k1_t1_loop.trips) : BitVec 32 :=
  let c0_i32_104 : BitVec 32 := 0#32
  let c1_i32 : BitVec 32 := 1#32
  let arg14 : BitVec 32 := Scf.iv c0_i32_104 c1_i32 k1_t1
  let c512_i32 : BitVec 32 := 512#32
  let v183 : BitVec 32 := Scalar.muli arg14 c512_i32
  v183
def k1_off2 (k1_t1 : Fin k1_t1_loop.trips) : Fin 3 → Nat :=
  let c0_159 : Index := 0#32
  let c0_i32_104 : BitVec 32 := 0#32
  let c1_i32 : BitVec 32 := 1#32
  let arg14 : BitVec 32 := Scf.iv c0_i32_104 c1_i32 k1_t1
  let c512_i32 : BitVec 32 := 512#32
  let v183 : BitVec 32 := Scalar.muli arg14 c512_i32
  let v184 : BitVec 32 := v183
  let v185 : Index := Scalar.indexCast v184
  let c0_160 : Index := 0#32
  ![0, v185.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x8x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x64x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x64x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8192x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x32x64x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x32x64x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x8x64x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x32x64x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x32x64x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== AttRefIdeal.lean ====
abbrev S8192x8x64 : Shape := ⟨3, ![8192, 8, 64]⟩
abbrev S8192x2x64 : Shape := ⟨3, ![8192, 2, 64]⟩
abbrev S8192x512 : Shape := ⟨2, ![8192, 512]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩
abbrev S32x256x8x64 : Shape := ⟨4, ![32, 256, 8, 64]⟩
abbrev S8x32x64x256 : Shape := ⟨4, ![8, 32, 64, 256]⟩
abbrev S2x128x64x256 : Shape := ⟨4, ![2, 128, 64, 256]⟩
abbrev S32x256x2x64 : Shape := ⟨4, ![32, 256, 2, 64]⟩
abbrev S2x32x64x256 : Shape := ⟨4, ![2, 32, 64, 256]⟩
abbrev S2x128x256 : Shape := ⟨3, ![2, 128, 256]⟩

abbrev nBuf : Space → Nat
  | .hbm => 129
  | .vmem => 0
  | .smem => 0
  | _ => 0

abbrev hbmTy0_0 (i : Nat) : BufTy := match i % 128 with
  | 0 => ⟨S8192x8x64, .f32⟩
  | 1 => ⟨S8192x2x64, .f32⟩
  | 2 => ⟨S8192x2x64, .f32⟩
  | 3 => ⟨S8192x512, .f32⟩
  | 4 => ⟨S8192x2x4x64, .f32⟩
  | 5 => ⟨S2x8192x8192x4, .f32⟩
  | 6 => ⟨S2x4x8192x8192, .f32⟩
  | 7 => ⟨S_, .f32⟩
  | 8 => ⟨S2x4x8192x8192, .f32⟩
  | 9 => ⟨S2x4x8192x8192, .f32⟩
  | 10 => ⟨S_, .f32⟩
  | 11 => ⟨S2x4x8192, .f32⟩
  | 12 => ⟨S2x4x8192x1, .f32⟩
  | 13 => ⟨S2x4x8192x8192, .f32⟩
  | 14 => ⟨S2x4x8192x8192, .i1⟩
  | 15 => ⟨S2x4x8192x8192, .f32⟩
  | 16 => ⟨S_, .f32⟩
  | 17 => ⟨S2x4x8192, .f32⟩
  | 18 => ⟨S_, .f32⟩
  | 19 => ⟨S2x4x8192, .f32⟩
  | 20 => ⟨S2x4x8192, .f32⟩
  | 21 => ⟨S_, .f32⟩
  | 22 => ⟨S2x4x8192, .f32⟩
  | 23 => ⟨S2x4x8192, .i1⟩
  | 24 => ⟨S_, .f32⟩
  | 25 => ⟨S2x4x8192, .f32⟩
  | 26 => ⟨S2x4x8192, .i1⟩
  | 27 => ⟨S_, .f32⟩
  | 28 => ⟨S2x4x8192, .f32⟩
  | 29 => ⟨S_, .f32⟩
  | 30 => ⟨S2x4x8192, .f32⟩
  | 31 => ⟨S_, .f32⟩
  | 32 => ⟨S2x4x8192, .f32⟩
  | 33 => ⟨S2x4x8192, .f32⟩
  | 34 => ⟨S2x4x8192, .f32⟩
  | 35 => ⟨S2x4x8192x1, .f32⟩
  | 36 => ⟨S2x4x8192x8192, .f32⟩
  | 37 => ⟨S2x4x8192x8192, .f32⟩
  | 38 => ⟨S2x4x8192x8192, .f32⟩
  | 39 => ⟨S_, .f32⟩
  | 40 => ⟨S2x4x8192, .f32⟩
  | 41 => ⟨S2x4x8192x1, .f32⟩
  | 42 => ⟨S2x4x8192x8192, .f32⟩
  | 43 => ⟨S2x4x8192x8192, .f32⟩
  | 44 => ⟨S2x4x8192x1, .f32⟩
  | 45 => ⟨S_, .f32⟩
  | 46 => ⟨S2x4x8192x1, .f32⟩
  | 47 => ⟨S2x4x8192x1, .f32⟩
  | 48 => ⟨S2x64x4x8192, .f32⟩
  | 49 => ⟨S8192x2x4x64, .f32⟩
  | 50 => ⟨S8192x512, .f32⟩
  | 51 => ⟨S8192x2x4x64, .f32⟩
  | 52 => ⟨S2x64x4x8192, .f32⟩
  | 53 => ⟨S2x4x8192x8192, .f32⟩
  | 54 => ⟨S2x64x8192, .f32⟩
  | 55 => ⟨S8192x2x64, .f32⟩
  | 56 => ⟨S2x4x8192x8192, .f32⟩
  | 57 => ⟨S2x4x8192x8192, .f32⟩
  | 58 => ⟨S2x4x8192x8192, .f32⟩
  | 59 => ⟨S_, .f32⟩
  | 60 => ⟨S2x4x8192, .f32⟩
  | 61 => ⟨S2x4x8192x1, .f32⟩
  | 62 => ⟨S2x4x8192x1, .f32⟩
  | 63 => ⟨S2x4x8192x8192, .f32⟩
  | 64 => ⟨S2x4x8192x8192, .f32⟩
  | 65 => ⟨S_, .f32⟩
  | 66 => ⟨S2x4x8192, .f32⟩
  | 67 => ⟨S2x4x8192x8192, .f32⟩
  | 68 => ⟨S2x4x8192x8192, .f32⟩
  | 69 => ⟨S2x4x8192x8192, .f32⟩
  | 70 => ⟨S_, .f32⟩
  | 71 => ⟨S2x4x8192x8192, .f32⟩
  | 72 => ⟨S2x4x8192x8192, .f32⟩
  | 73 => ⟨S2x8192x8192x4, .f32⟩
  | 74 => ⟨S2x8192x4x64, .f32⟩
  | 75 => ⟨S8192x2x4x64, .f32⟩
  | 76 => ⟨S2x8192x64, .f32⟩
  | 77 => ⟨S8192x2x64, .f32⟩
  | 78 => ⟨S8192x8x64, .f32⟩
  | 79 => ⟨S8192x2x4x64, .f32⟩
  | 80 => ⟨S2x8192x8192x4, .f32⟩
  | 81 => ⟨S2x4x8192x8192, .f32⟩
  | 82 => ⟨S_, .f32⟩
  | 83 => ⟨S2x4x8192x8192, .f32⟩
  | 84 => ⟨S2x4x8192x8192, .f32⟩
  | 85 => ⟨S_, .f32⟩
  | 86 => ⟨S2x4x8192, .f32⟩
  | 87 => ⟨S2x4x8192x1, .f32⟩
  | 88 => ⟨S2x4x8192x8192, .f32⟩
  | 89 => ⟨S2x4x8192x8192, .f32⟩
  | 90 => ⟨S2x4x8192x8192, .f32⟩
  | 91 => ⟨S_, .f32⟩
  | 92 => ⟨S2x4x8192, .f32⟩
  | 93 => ⟨S2x4x8192, .f32⟩
  | 94 => ⟨S2x4x8192, .f32⟩
  | 95 => ⟨S32x256x8x64, .f32⟩
  | 96 => ⟨S8x32x64x256, .f32⟩
  | 97 => ⟨S2x128x64x256, .f32⟩
  | 98 => ⟨S32x256x2x64, .f32⟩
  | 99 => ⟨S2x32x64x256, .f32⟩
  | 100 => ⟨S32x256x2x64, .f32⟩
  | 101 => ⟨S2x32x64x256, .f32⟩
  | 102 => ⟨S8192x2x4x64, .f32⟩
  | 103 => ⟨S2x8192x8192x4, .f32⟩
  | 104 => ⟨S2x4x8192x8192, .f32⟩
  | 105 => ⟨S_, .f32⟩
  | 106 => ⟨S2x4x8192x8192, .f32⟩
  | 107 => ⟨S2x4x8192x8192, .f32⟩
  | 108 => ⟨S_, .f32⟩
  | 109 => ⟨S2x4x8192, .f32⟩
  | 110 => ⟨S_, .f32⟩
  | 111 => ⟨S2x4x8192, .f32⟩
  | 112 => ⟨S2x4x8192, .f32⟩
  | 113 => ⟨S2x4x8192x1, .f32⟩
  | 114 => ⟨S2x4x8192x8192, .f32⟩
  | 115 => ⟨S2x4x8192x8192, .f32⟩
  | 116 => ⟨S2x4x8192x8192, .f32⟩
  | 117 => ⟨S_, .f32⟩
  | 118 => ⟨S2x4x8192, .f32⟩
  | 119 => ⟨S2x4x8192x1, .f32⟩
  | 120 => ⟨S2x4x8192x8192, .f32⟩
  | 121 => ⟨S2x4x8192x8192, .f32⟩
  | 122 => ⟨S2x64x4x8192, .f32⟩
  | 123 => ⟨S8192x2x4x64, .f32⟩
  | 124 => ⟨S8192x512, .f32⟩
  | 125 => ⟨S32x256x8x64, .f32⟩
  | 126 => ⟨S8x32x64x256, .f32⟩
  | 127 => ⟨S2x128x64x256, .f32⟩
  | _ => ⟨S8192x8x64, .f32⟩

abbrev hbmTy0_1 (i : Nat) : BufTy := match i % 128 with
  | 0 => ⟨S2x128x256, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_16 : Ref sig .tc := ⟨.hbm, 105, rfl⟩
abbrev main_v84 : Ref sig .tc := ⟨.hbm, 106, rfl⟩
abbrev main_v85 : Ref sig .tc := ⟨.hbm, 107, rfl⟩
abbrev main_cst_17 : Ref sig .tc := ⟨.hbm, 108, rfl⟩
abbrev main_v86 : Ref sig .tc := ⟨.hbm, 109, rfl⟩
abbrev main_cst_18 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_19 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩

abbrev nD : Nat := 1
abbrev τ : Topo := Topo.v7x

variable {F : FTy → Type} [FloatOps F]
-- ==== LossDx.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x128, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x128, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S1x128, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== FfnDx.lean ====
abbrev S8192x1024 : Shape := ⟨2, ![8192, 1024]⟩
abbrev S1024x5632 : Shape := ⟨2, ![1024, 5632]⟩
abbrev S2816x1024 : Shape := ⟨2, ![2816, 1024]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩
abbrev S1408x1024 : Shape := ⟨2, ![1408, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S1024x5632, .bf16⟩
  | .hbm, ⟨6, _⟩ => ⟨S2x8192x2816, .f32⟩
  | .hbm, ⟨7, _⟩ => ⟨S8192x2816, .bf16⟩
  | .hbm, ⟨8, _⟩ => ⟨S8192x1024, .bf16⟩
  | .hbm, ⟨9, _⟩ => ⟨S2816x1024, .bf16⟩
  | .hbm, ⟨10, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .f32⟩
  | .local _ .vmem, ⟨7, _⟩ => ⟨S2x512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1024, .bf16⟩
  | .local _ .vmem, ⟨11, _⟩ => ⟨S512x1024, .bf16⟩
  | .local _ .vmem, ⟨12, _⟩ => ⟨S1408x1024, .bf16⟩
  | .local _ .vmem, ⟨13, _⟩ => ⟨S1408x1024, .bf16⟩
  | .local _ .vmem, ⟨14, _⟩ => ⟨S2x512x1408, .f32⟩
  | .local _ .vmem, ⟨15, _⟩ => ⟨S2x512x1408, .f32⟩
  | .local _ .vmem, ⟨16, _⟩ => ⟨S2x512x1408, .bf16⟩
  | .local _ .vmem, ⟨17, _⟩ => ⟨S2x512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x512x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnRefIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x8192x2816, .f32⟩
  | .hbm, ⟨30, _⟩ => ⟨S1x8192x2816, .f32⟩
  | .hbm, ⟨31, _⟩ => ⟨S2x8192x2816, .f32⟩
  | .hbm, ⟨32, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== MixDx.lean ====
abbrev S8192x512 : Shape := ⟨2, ![8192, 512]⟩
abbrev S8192x3328 : Shape := ⟨2, ![8192, 3328]⟩
abbrev S1x128 : Shape := ⟨2, ![1, 128]⟩
abbrev S1x512 : Shape := ⟨2, ![1, 512]⟩
abbrev S8192x1024 : Shape := ⟨2, ![8192, 1024]⟩
abbrev S32x256x8x64 : Shape := ⟨4, ![32, 256, 8, 64]⟩
abbrev S8x32x64x256 : Shape := ⟨4, ![8, 32, 64, 256]⟩
abbrev S8x32x256x128 : Shape := ⟨4, ![8, 32, 256, 128]⟩
abbrev S256x512 : Shape := ⟨2, ![256, 512]⟩
abbrev S8x1x64x256 : Shape := ⟨4, ![8, 1, 64, 256]⟩
abbrev S256x1024 : Shape := ⟨2, ![256, 1024]⟩
abbrev S8x1x256x128 : Shape := ⟨4, ![8, 1, 256, 128]⟩
abbrev S1x1x64x256 : Shape := ⟨4, ![1, 1, 64, 256]⟩
abbrev S64x256 : Shape := ⟨2, ![64, 256]⟩
abbrev S512x256 : Shape := ⟨2, ![512, 256]⟩
abbrev S256x128 : Shape := ⟨2, ![256, 128]⟩
abbrev S256 : Shape := ⟨1, ![256]⟩
abbrev S256x1 : Shape := ⟨2, ![256, 1]⟩
abbrev S512 : Shape := ⟨1, ![512]⟩
abbrev S128 : Shape := ⟨1, ![128]⟩
abbrev S256x384 : Shape := ⟨2, ![256, 384]⟩
abbrev S256x256 : Shape := ⟨2, ![256, 256]⟩
abbrev S1x1x256x128 : Shape := ⟨4, ![1, 1, 256, 128]⟩

abbrev nBuf : Space → Nat
  | .hbm => 15
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x3328, .f32⟩
  | .hbm, ⟨3, _⟩ => ⟨S8192x512, .f32⟩
  | .hbm, ⟨4, _⟩ => ⟨S1x128, .f32⟩
  | .hbm, ⟨5, _⟩ => ⟨S1x512, .f32⟩
  | .hbm, ⟨6, _⟩ => ⟨S8192x1024, .f32⟩
  | .hbm, ⟨7, _⟩ => ⟨S32x256x8x64, .f32⟩
  | .hbm, ⟨8, _⟩ => ⟨S8x32x64x256, .f32⟩
  | .hbm, ⟨9, _⟩ => ⟨S8192x512, .f32⟩
  | .hbm, ⟨10, _⟩ => ⟨S8192x512, .bf16⟩
  | .hbm, ⟨11, _⟩ => ⟨S8x32x64x256, .bf16⟩
  | .hbm, ⟨12, _⟩ => ⟨S8x32x256x128, .bf16⟩
  | .hbm, ⟨13, _⟩ => ⟨S1x128, .f32⟩
  | .hbm, ⟨14, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x1x64x256, .f32⟩
  | .local _ .vmem, ⟨7, _⟩ => ⟨S8x1x64x256, .f32⟩
  | .local _ .vmem, ⟨8, _⟩ => ⟨S256x1024, .f32⟩
  | .local _ .vmem, ⟨9, _⟩ => ⟨S256x1024, .f32⟩
  | .local _ .vmem, ⟨10, _⟩ => ⟨S1x128, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S8x1x64x256, .bf16⟩
  | .local _ .vmem, ⟨17, _⟩ => ⟨S8x1x64x256, .bf16⟩
  | .local _ .vmem, ⟨18, _⟩ => ⟨S8x1x256x128, .bf16⟩
  | .local _ .vmem, ⟨19, _⟩ => ⟨S8x1x256x128, .bf16⟩
  | .local _ .vmem, ⟨20, _⟩ => ⟨S1x128, .f32⟩
  | .local _ .vmem, ⟨21, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixRefIdeal.lean ====
abbrev S8192x512 : Shape := ⟨2, ![8192, 512]⟩
abbrev S8192x3328 : Shape := ⟨2, ![8192, 3328]⟩
abbrev S1x128 : Shape := ⟨2, ![1, 128]⟩
abbrev S1x512 : Shape := ⟨2, ![1, 512]⟩
abbrev S8192x1024 : Shape := ⟨2, ![8192, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S8192 : Shape := ⟨1, ![8192]⟩
abbrev S8192x1 : Shape := ⟨2, ![8192, 1]⟩
abbrev S512 : Shape := ⟨1, ![512]⟩
abbrev S128 : Shape := ⟨1, ![128]⟩
abbrev S32x256x8x64 : Shape := ⟨4, ![32, 256, 8, 64]⟩
abbrev S8x32x256x64 : Shape := ⟨4, ![8, 32, 256, 64]⟩
abbrev S8x32x256x128 : Shape := ⟨4, ![8, 32, 256, 128]⟩
abbrev S8x32x64x256 : Shape := ⟨4, ![8, 32, 64, 256]⟩

abbrev nBuf : Space → Nat
  | .hbm => 135
  | .vmem => 0
  | .smem => 0
  | _ => 0

abbrev hbmTy0_0 (i : Nat) : BufTy := match i % 128 with
  | 0 => ⟨S8192x512, .f32⟩
  | 1 => ⟨S8192x512, .f32⟩
  | 2 => ⟨S8192x3328, .f32⟩
  | 3 => ⟨S8192x512, .f32⟩
  | 4 => ⟨S1x128, .f32⟩
  | 5 => ⟨S1x512, .f32⟩
  | 6 => ⟨S8192x1024, .f32⟩
  | 7 => ⟨S8192x512, .f32⟩
  | 8 => ⟨S8192x512, .f32⟩
  | 9 => ⟨S8192x4x128, .f32⟩
  | 10 => ⟨S8192x4x128, .f32⟩
  | 11 => ⟨S_, .f32⟩
  | 12 => ⟨S8192x4, .f32⟩
  | 13 => ⟨S8192x4x1, .f32⟩
  | 14 => ⟨S_, .f32⟩
  | 15 => ⟨S8192x4x1, .f32⟩
  | 16 => ⟨S8192x4x1, .f32⟩
  | 17 => ⟨S_, .f32⟩
  | 18 => ⟨S8192x4x1, .f32⟩
  | 19 => ⟨S8192x4x1, .f32⟩
  | 20 => ⟨S8192x4x1, .f32⟩
  | 21 => ⟨S8192x4x1, .f32⟩
  | 22 => ⟨S_, .f32⟩
  | 23 => ⟨S8192x4x1, .f32⟩
  | 24 => ⟨S8192x4x1, .f32⟩
  | 25 => ⟨S8192x4x128, .f32⟩
  | 26 => ⟨S8192x4x128, .f32⟩
  | 27 => ⟨S1x1x128, .f32⟩
  | 28 => ⟨S8192x4x128, .f32⟩
  | 29 => ⟨S8192x4x128, .f32⟩
  | 30 => ⟨S8192x4x128, .f32⟩
  | 31 => ⟨S8192x4x128, .f32⟩
  | 32 => ⟨S8192x4x128, .f32⟩
  | 33 => ⟨S_, .f32⟩
  | 34 => ⟨S8192x4x128, .f32⟩
  | 35 => ⟨S8192x4x128, .f32⟩
  | 36 => ⟨S_, .f32⟩
  | 37 => ⟨S8192x4x128, .f32⟩
  | 38 => ⟨S8192x4x128, .f32⟩
  | 39 => ⟨S_, .f32⟩
  | 40 => ⟨S8192x4x128, .f32⟩
  | 41 => ⟨S8192x4x128, .f32⟩
  | 42 => ⟨S8192x4x128, .f32⟩
  | 43 => ⟨S8192x4x128, .f32⟩
  | 44 => ⟨S8192x4x128, .f32⟩
  | 45 => ⟨S8192x512, .f32⟩
  | 46 => ⟨S8192x512, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x512, .f32⟩
  | 62 => ⟨S8192x512, .f32⟩
  | 63 => ⟨S8192x512, .f32⟩
  | 64 => ⟨S8192x512, .f32⟩
  | 65 => ⟨S8192x1024, .f32⟩
  | 66 => ⟨S8192x512, .f32⟩
  | 67 => ⟨S8192x512, .f32⟩
  | 68 => ⟨S8192x512, .f32⟩
  | 69 => ⟨S_, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S_, .f32⟩
  | 76 => ⟨S8192, .f32⟩
  | 77 => ⟨S8192x1, .f32⟩
  | 78 => ⟨S8192x512, .f32⟩
  | 79 => ⟨S8192x512, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x4x128, .f32⟩
  | 92 => ⟨S8192x4x128, .f32⟩
  | 93 => ⟨S8192x4x128, .f32⟩
  | 94 => ⟨S8192x4x128, .f32⟩
  | 95 => ⟨S8192x4x128, .f32⟩
  | 96 => ⟨S8192x4x128, .f32⟩
  | 97 => ⟨S8192x4x128, .f32⟩
  | 98 => ⟨S8192x512, .f32⟩
  | 99 => ⟨S8192x4x128, .f32⟩
  | 100 => ⟨S_, .f32⟩
  | 101 => ⟨S128, .f32⟩
  | 102 => ⟨S1x1x128, .f32⟩
  | 103 => ⟨S8192x4x128, .f32⟩
  | 104 => ⟨S8192x4x128, .f32⟩
  | 105 => ⟨S_, .f32⟩
  | 106 => ⟨S128, .f32⟩
  | 107 => ⟨S1x128, .f32⟩
  | 108 => ⟨S8192x4x128, .f32⟩
  | 109 => ⟨S_, .f32⟩
  | 110 => ⟨S8192x4, .f32⟩
  | 111 => ⟨S8192x4x1, .f32⟩
  | 112 => ⟨S8192x4x128, .f32⟩
  | 113 => ⟨S8192x4x128, .f32⟩
  | 114 => ⟨S8192x4x1, .f32⟩
  | 115 => ⟨S_, .f32⟩
  | 116 => ⟨S8192x4x1, .f32⟩
  | 117 => ⟨S8192x4x1, .f32⟩
  | 118 => ⟨S_, .f32⟩
  | 119 => ⟨S8192x4, .f32⟩
  | 120 => ⟨S8192x4x128, .f32⟩
  | 121 => ⟨S8192x4x128, .f32⟩
  | 122 => ⟨S8192x4x128, .f32⟩
  | 123 => ⟨S8192x4x128, .f32⟩
  | 124 => ⟨S8192x4x128, .f32⟩
  | 125 => ⟨S8192x512, .f32⟩
  | 126 => ⟨S32x256x8x64, .f32⟩
  | 127 => ⟨S8x32x256x64, .f32⟩
  | _ => ⟨S8192x512, .f32⟩

abbrev hbmTy0_1 (i : Nat) : BufTy := match i % 128 with
  | 0 => ⟨S_, .i32⟩
  | 1 => ⟨S_, .f32⟩
  | 2 => ⟨S8x32x256x128, .f32⟩
  | 3 => ⟨S8192x512, .bf16⟩
  | 4 => ⟨S8x32x64x256, .f32⟩
  | 5 => ⟨S8x32x64x256, .bf16⟩
  | 6 => ⟨S8x32x256x128, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v20_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v20_1 : Ref sig .tc := ⟨.hbm, 42, rfl⟩
abbrev main_v20_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_13 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_14 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c : Ref sig .tc := ⟨.hbm, 128, rfl⟩
abbrev main_call2_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== PrepDx.lean ====
abbrev S8192x3328 : Shape := ⟨2, ![8192, 3328]⟩
abbrev S1x64 : Shape := ⟨2, ![1, 64]⟩
abbrev S8192x8x64 : Shape := ⟨3, ![8192, 8, 64]⟩
abbrev S8192x2x64 : Shape := ⟨3, ![8192, 2, 64]⟩
abbrev S2 : Shape := ⟨1, ![2]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x32x2 : Shape := ⟨3, ![8192, 32, 2]⟩
abbrev S8192x64 : Shape := ⟨2, ![8192, 64]⟩
abbrev S1x2 : Shape := ⟨2, ![1, 2]⟩
abbrev S32x2 : Shape := ⟨2, ![32, 2]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S1x8192x2x64 : Shape := ⟨4, ![1, 8192, 2, 64]⟩
abbrev S8192x128 : Shape := ⟨2, ![8192, 128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S128x128 : Shape := ⟨2, ![128, 128]⟩
abbrev S128x512 : Shape := ⟨2, ![128, 512]⟩
abbrev S32x256x8x64 : Shape := ⟨4, ![32, 256, 8, 64]⟩
abbrev S8x32x64x256 : Shape := ⟨4, ![8, 32, 64, 256]⟩
abbrev S32x256x2x64 : Shape := ⟨4, ![32, 256, 2, 64]⟩
abbrev S2x32x64x256 : Shape := ⟨4, ![2, 32, 64, 256]⟩
abbrev S256x512 : Shape := ⟨2, ![256, 512]⟩
abbrev S256x128 : Shape := ⟨2, ![256, 128]⟩
abbrev S8x1x64x256 : Shape := ⟨4, ![8, 1, 64, 256]⟩
abbrev S2x1x64x256 : Shape := ⟨4, ![2, 1, 64, 256]⟩
abbrev S8x128 : Shape := ⟨2, ![8, 128]⟩
abbrev S8x512 : Shape := ⟨2, ![8, 512]⟩
abbrev S1x1x64x256 : Shape := ⟨4, ![1, 1, 64, 256]⟩
abbrev S64x256 : Shape := ⟨2, ![64, 256]⟩
abbrev S512x256 : Shape := ⟨2, ![512, 256]⟩
abbrev S128x256 : Shape := ⟨2, ![128, 256]⟩

abbrev nBuf : Space → Nat
  | .hbm => 124
  | .vmem => 32
  | .smem => 0
  | _ => 0

abbrev bufTy : (tb : Table) → Fin (tcTables nBuf tb) → BufTy
  | .hbm, ⟨0, _⟩ => ⟨S8192x3328, .f32⟩
  | .hbm, ⟨1, _⟩ => ⟨S1x64, .f32⟩
  | .hbm, ⟨2, _⟩ => ⟨S1x64, .f32⟩
  | .hbm, ⟨3, _⟩ => ⟨S8192x8x64, .f32⟩
  | .hbm, ⟨4, _⟩ => ⟨S8192x2x64, .f32⟩
  | .hbm, ⟨5, _⟩ => ⟨S8192x2x64, .f32⟩
  | .hbm, ⟨6, _⟩ => ⟨S2, .f32⟩
  | .hbm, ⟨7, _⟩ => ⟨S128, .i32⟩
  | .hbm, ⟨8, _⟩ => ⟨S128x64, .i32⟩
  | .hbm, ⟨9, _⟩ => ⟨S8192, .i32⟩
  | .hbm, ⟨10, _⟩ => ⟨S8192, .f32⟩
  | .hbm, ⟨11, _⟩ => ⟨S64, .i32⟩
  | .hbm, ⟨12, _⟩ => ⟨S1x64, .i32⟩
  | .hbm, ⟨13, _⟩ => ⟨S128x64, .i32⟩
  | .hbm, ⟨14, _⟩ => ⟨S8192, .i32⟩
  | .hbm, ⟨15, _⟩ => ⟨S8192, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S8192x1, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x1, .f32⟩
  | .hbm, ⟨36, _⟩ => ⟨S1x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x32, .f32⟩
  | .hbm, ⟨41, _⟩ => ⟨S8192x32, .f32⟩
  | .hbm, ⟨42, _⟩ => ⟨S8192x32x2, .f32⟩
  | .hbm, ⟨43, _⟩ => ⟨S8192x64, .f32⟩
  | .hbm, ⟨44, _⟩ => ⟨S8192x32, .f32⟩
  | .hbm, ⟨45, _⟩ => ⟨S8192x32x2, .f32⟩
  | .hbm, ⟨46, _⟩ => ⟨S8192x64, .f32⟩
  | .hbm, ⟨47, _⟩ => ⟨S1x2, .f32⟩
  | .hbm, ⟨48, _⟩ => ⟨S32x2, .f32⟩
  | .hbm, ⟨49, _⟩ => ⟨S64, .f32⟩
  | .hbm, ⟨50, _⟩ => ⟨S1x64, .f32⟩
  | .hbm, ⟨51, _⟩ => ⟨S8192x64, .f32⟩
  | .hbm, ⟨52, _⟩ => ⟨S8192x64, .f32⟩
  | .hbm, ⟨53, _⟩ => ⟨S1x8192x1x64, .f32⟩
  | .hbm, ⟨54, _⟩ => ⟨S1x8192x8x64, .f32⟩
  | .hbm, ⟨55, _⟩ => ⟨S8192x512, .f32⟩
  | .hbm, ⟨56, _⟩ => ⟨S1x8192x1x64, .f32⟩
  | .hbm, ⟨57, _⟩ => ⟨S1x8192x8x64, .f32⟩
  | .hbm, ⟨58, _⟩ => ⟨S8192x512, .f32⟩
  | .hbm, ⟨59, _⟩ => ⟨S1x8192x1x64, .f32⟩
  | .hbm, ⟨60, _⟩ => ⟨S1x8192x2x64, .f32⟩
  | .hbm, ⟨61, _⟩ => ⟨S8192x128, .f32⟩
  | .hbm, ⟨62, _⟩ => ⟨S1x8192x1x64, .f32⟩
  | .hbm, ⟨63, _⟩ => ⟨S1x8192x2x64, .f32⟩
  | .hbm, ⟨64, _⟩ => ⟨S8192x128, .f32⟩
  | .hbm, ⟨65, _⟩ => ⟨S_, .i32⟩
  | .hbm, ⟨66, _⟩ => ⟨S_, .f32⟩
  | .hbm, ⟨67, _⟩ => ⟨S1x128, .f32⟩
  | .hbm, ⟨68, _⟩ => ⟨S_, .i32⟩
  | .hbm, ⟨69, _⟩ => ⟨S_, .f32⟩
  | .hbm, ⟨70, _⟩ => ⟨S1x128, .f32⟩
  | .hbm, ⟨71, _⟩ => ⟨S512, .i32⟩
  | .hbm, ⟨72, _⟩ => ⟨S_, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S1x512, .i32⟩
  | .hbm, ⟨77, _⟩ => ⟨S512x512, .i32⟩
  | .hbm, ⟨78, _⟩ => ⟨S512x512, .i32⟩
  | .hbm, ⟨79, _⟩ => ⟨S512x512, .i1⟩
  | .hbm, ⟨80, _⟩ => ⟨S512x512, .f32⟩
  | .hbm, ⟨81, _⟩ => ⟨S128, .i32⟩
  | .hbm, ⟨82, _⟩ => ⟨S_, .i32⟩
  | .hbm, ⟨83, _⟩ => ⟨S128, .i32⟩
  | .hbm, ⟨84, _⟩ => ⟨S128, .i32⟩
  | .hbm, ⟨85, _⟩ => ⟨S128x1, .i32⟩
  | .hbm, ⟨86, _⟩ => ⟨S1x128, .i32⟩
  | .hbm, ⟨87, _⟩ => ⟨S128x128, .i32⟩
  | .hbm, ⟨88, _⟩ => ⟨S128x128, .i32⟩
  | .hbm, ⟨89, _⟩ => ⟨S128x128, .i1⟩
  | .hbm, ⟨90, _⟩ => ⟨S128x128, .f32⟩
  | .hbm, ⟨91, _⟩ => ⟨S512, .i32⟩
  | .hbm, ⟨92, _⟩ => ⟨S_, .i32⟩
  | .hbm, ⟨93, _⟩ => ⟨S512, .i32⟩
  | .hbm, ⟨94, _⟩ => ⟨S512, .i32⟩
  | .hbm, ⟨95, _⟩ => ⟨S128, .i32⟩
  | .hbm, ⟨96, _⟩ => ⟨S128x1, .i32⟩
  | .hbm, ⟨97, _⟩ => ⟨S1x512, .i32⟩
  | .hbm, ⟨98, _⟩ => ⟨S128x512, .i32⟩
  | .hbm, ⟨99, _⟩ => ⟨S128x512, .i32⟩
  | .hbm, ⟨100, _⟩ => ⟨S128x512, .i1⟩
  | .hbm, ⟨101, _⟩ => ⟨S128x512, .f32⟩
  | .hbm, ⟨102, _⟩ => ⟨S128, .i32⟩
  | .hbm, ⟨103, _⟩ => ⟨S_, .i32⟩
  | .hbm, ⟨104, _⟩ => ⟨S128, .i32⟩
  | .hbm, ⟨105, _⟩ => ⟨S128, .i32⟩
  | .hbm, ⟨106, _⟩ => ⟨S128, .i32⟩
  | .hbm, ⟨107, _⟩ => ⟨S128x1, .i32⟩
  | .hbm, ⟨108, _⟩ => ⟨S1x128, .i32⟩
  | .hbm, ⟨109, _⟩ => ⟨S128x128, .i32⟩
  | .hbm, ⟨110, _⟩ => ⟨S128x128, .i32⟩
  | .hbm, ⟨111, _⟩ => ⟨S128x128, .i1⟩
  | .hbm, ⟨112, _⟩ => ⟨S128x128, .f32⟩
  | .hbm, ⟨113, _⟩ => ⟨S32x256x8x64, .f32⟩
  | .hbm, ⟨114, _⟩ => ⟨S8x32x64x256, .f32⟩
  | .hbm, ⟨115, _⟩ => ⟨S32x256x2x64, .f32⟩
  | .hbm, ⟨116, _⟩ => ⟨S2x32x64x256, .f32⟩
  | .hbm, ⟨117, _⟩ => ⟨S32x256x2x64, .f32⟩
  | .hbm, ⟨118, _⟩ => ⟨S2x32x64x256, .f32⟩
  | .hbm, ⟨119, _⟩ => ⟨S8192x512, .bf16⟩
  | .hbm, ⟨120, _⟩ => ⟨S8192x128, .bf16⟩
  | .hbm, ⟨121, _⟩ => ⟨S8192x128, .bf16⟩
  | .hbm, ⟨122, _⟩ => ⟨S1x128, .f32⟩
  | .hbm, ⟨123, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x1x64x256, .f32⟩
  | .local _ .vmem, ⟨13, _⟩ => ⟨S8x1x64x256, .f32⟩
  | .local _ .vmem, ⟨14, _⟩ => ⟨S2x1x64x256, .f32⟩
  | .local _ .vmem, ⟨15, _⟩ => ⟨S2x1x64x256, .f32⟩
  | .local _ .vmem, ⟨16, _⟩ => ⟨S2x1x64x256, .f32⟩
  | .local _ .vmem, ⟨17, _⟩ => ⟨S2x1x64x256, .f32⟩
  | .local _ .vmem, ⟨18, _⟩ => ⟨S1x128, .f32⟩
  | .local _ .vmem, ⟨19, _⟩ => ⟨S1x128, .f32⟩
  | .local _ .vmem, ⟨20, _⟩ => ⟨S512x512, .f32⟩
  | .local _ .vmem, ⟨21, _⟩ => ⟨S128x128, .f32⟩
  | .local _ .vmem, ⟨22, _⟩ => ⟨S128x512, .f32⟩
  | .local _ .vmem, ⟨23, _⟩ => ⟨S128x128, .f32⟩
  | .local _ .vmem, ⟨24, _⟩ => ⟨S256x512, .bf16⟩
  | .local _ .vmem, ⟨25, _⟩ => ⟨S256x512, .bf16⟩
  | .local _ .vmem, ⟨26, _⟩ => ⟨S256x128, .bf16⟩
  | .local _ .vmem, ⟨27, _⟩ => ⟨S256x128, .bf16⟩
  | .local _ .vmem, ⟨28, _⟩ => ⟨S256x128, .bf16⟩
  | .local _ .vmem, ⟨29, _⟩ => ⟨S256x128, .bf16⟩
  | .local _ .vmem, ⟨30, _⟩ => ⟨S1x128, .f32⟩
  | .local _ .vmem, ⟨31, _⟩ => ⟨S1x128, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c : Ref sig .tc := ⟨.hbm, 65, rfl⟩
abbrev main_call0_v0 : Ref sig .tc := ⟨.hbm, 66, rfl⟩
abbrev main_v54 : Ref sig .tc := ⟨.hbm, 67, rfl⟩
abbrev main_c_4 : Ref sig .tc := ⟨.hbm, 68, rfl⟩
abbrev main_call1_v0 : Ref sig .tc := ⟨.hbm, 69, rfl⟩
abbrev main_v55 : Ref sig .tc := ⟨.hbm, 70, rfl⟩
abbrev main_v56 : Ref sig .tc := ⟨.hbm, 71, rfl⟩
abbrev main_c_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_7 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_c_8 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100_0 : Ref sig .tc := ⟨.hbm, 119, rfl⟩
abbrev main_v100_1 : Ref sig .tc := ⟨.hbm, 120, rfl⟩
abbrev main_v100_2 : Ref sig .tc := ⟨.hbm, 121, rfl⟩
abbrev main_v100_3 : Ref sig .tc := ⟨.hbm, 122, rfl⟩
abbrev main_v100_4 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== PrepRefIdeal.lean ====
abbrev S8192x3328 : Shape := ⟨2, ![8192, 3328]⟩
abbrev S1x64 : Shape := ⟨2, ![1, 64]⟩
abbrev S8192x8x64 : Shape := ⟨3, ![8192, 8, 64]⟩
abbrev S8192x2x64 : Shape := ⟨3, ![8192, 2, 64]⟩
abbrev S8192x512 : Shape := ⟨2, ![8192, 512]⟩
abbrev S8192x128 : Shape := ⟨2, ![8192, 128]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x8 : Shape := ⟨2, ![8192, 8]⟩
abbrev S8192x8x1 : Shape := ⟨3, ![8192, 8, 1]⟩
abbrev S1x1x64 : Shape := ⟨3, ![1, 1, 64]⟩
abbrev S8192x8x32 : Shape := ⟨3, ![8192, 8, 32]⟩
abbrev S8192x1x32 : Shape := ⟨3, ![8192, 1, 32]⟩
abbrev S8192x8x32x1 : Shape := ⟨4, ![8192, 8, 32, 1]⟩
abbrev S8192x8x32x2 : Shape := ⟨4, ![8192, 8, 32, 2]⟩
abbrev S8192x2 : Shape := ⟨2, ![8192, 2]⟩
abbrev S8192x2x1 : Shape := ⟨3, ![8192, 2, 1]⟩
abbrev S8192x2x32 : Shape := ⟨3, ![8192, 2, 32]⟩
abbrev S8192x2x32x1 : Shape := ⟨4, ![8192, 2, 32, 1]⟩
abbrev S8192x2x32x2 : Shape := ⟨4, ![8192, 2, 32, 2]⟩
abbrev S1x128 : Shape := ⟨2, ![1, 128]⟩

abbrev nBuf : Space → Nat
  | .hbm => 236
  | .vmem => 0
  | .smem => 0
  | _ => 0

abbrev hbmTy0_0 (i : Nat) : BufTy := match i % 128 with
  | 0 => ⟨S8192x3328, .f32⟩
  | 1 => ⟨S1x64, .f32⟩
  | 2 => ⟨S1x64, .f32⟩
  | 3 => ⟨S8192x8x64, .f32⟩
  | 4 => ⟨S8192x2x64, .f32⟩
  | 5 => ⟨S8192x2x64, .f32⟩
  | 6 => ⟨S8192x512, .f32⟩
  | 7 => ⟨S8192x128, .f32⟩
  | 8 => ⟨S8192x128, .f32⟩
  | 9 => ⟨S128, .i32⟩
  | 10 => ⟨S128x64, .i32⟩
  | 11 => ⟨S8192, .i32⟩
  | 12 => ⟨S8192, .f32⟩
  | 13 => ⟨S64, .i32⟩
  | 14 => ⟨S1x64, .i32⟩
  | 15 => ⟨S128x64, .i32⟩
  | 16 => ⟨S8192, .i32⟩
  | 17 => ⟨S8192, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S8192x1, .f32⟩
  | 33 => ⟨S1x16, .f32⟩
  | 34 => ⟨S8192x16, .f32⟩
  | 35 => ⟨S8192x16, .f32⟩
  | 36 => ⟨S8192x16, .f32⟩
  | 37 => ⟨S8192x1, .f32⟩
  | 38 => ⟨S1x16, .f32⟩
  | 39 => ⟨S8192x16, .f32⟩
  | 40 => ⟨S8192x16, .f32⟩
  | 41 => ⟨S8192x16, .f32⟩
  | 42 => ⟨S8192x32, .f32⟩
  | 43 => ⟨S8192x32, .f32⟩
  | 44 => ⟨S8192x32, .f32⟩
  | 45 => ⟨S8192x8x64, .f32⟩
  | 46 => ⟨S8192x8x64, .f32⟩
  | 47 => ⟨S_, .f32⟩
  | 48 => ⟨S8192x8, .f32⟩
  | 49 => ⟨S8192x8x1, .f32⟩
  | 50 => ⟨S_, .f32⟩
  | 51 => ⟨S8192x8x1, .f32⟩
  | 52 => ⟨S8192x8x1, .f32⟩
  | 53 => ⟨S_, .f32⟩
  | 54 => ⟨S8192x8x1, .f32⟩
  | 55 => ⟨S8192x8x1, .f32⟩
  | 56 => ⟨S8192x8x1, .f32⟩
  | 57 => ⟨S8192x8x1, .f32⟩
  | 58 => ⟨S_, .f32⟩
  | 59 => ⟨S8192x8x1, .f32⟩
  | 60 => ⟨S8192x8x1, .f32⟩
  | 61 => ⟨S8192x8x64, .f32⟩
  | 62 => ⟨S8192x8x64, .f32⟩
  | 63 => ⟨S1x1x64, .f32⟩
  | 64 => ⟨S8192x8x64, .f32⟩
  | 65 => ⟨S8192x8x64, .f32⟩
  | 66 => ⟨S8192x8x32, .f32⟩
  | 67 => ⟨S8192x8x32, .f32⟩
  | 68 => ⟨S8192x1x32, .f32⟩
  | 69 => ⟨S8192x1x32, .f32⟩
  | 70 => ⟨S8192x8x32, .f32⟩
  | 71 => ⟨S8192x8x32, .f32⟩
  | 72 => ⟨S8192x8x32, .f32⟩
  | 73 => ⟨S8192x8x32, .f32⟩
  | 74 => ⟨S8192x8x32, .f32⟩
  | 75 => ⟨S8192x8x32, .f32⟩
  | 76 => ⟨S8192x8x32, .f32⟩
  | 77 => ⟨S8192x8x32, .f32⟩
  | 78 => ⟨S8192x8x32, .f32⟩
  | 79 => ⟨S8192x8x32, .f32⟩
  | 80 => ⟨S8192x8x32x1, .f32⟩
  | 81 => ⟨S8192x8x32x1, .f32⟩
  | 82 => ⟨S8192x8x32x2, .f32⟩
  | 83 => ⟨S8192x8x64, .f32⟩
  | 84 => ⟨S_, .f32⟩
  | 85 => ⟨S8192x8x64, .f32⟩
  | 86 => ⟨S8192x8x64, .f32⟩
  | 87 => ⟨S8192x2x64, .f32⟩
  | 88 => ⟨S8192x2x64, .f32⟩
  | 89 => ⟨S_, .f32⟩
  | 90 => ⟨S8192x2, .f32⟩
  | 91 => ⟨S8192x2x1, .f32⟩
  | 92 => ⟨S_, .f32⟩
  | 93 => ⟨S8192x2x1, .f32⟩
  | 94 => ⟨S8192x2x1, .f32⟩
  | 95 => ⟨S_, .f32⟩
  | 96 => ⟨S8192x2x1, .f32⟩
  | 97 => ⟨S8192x2x1, .f32⟩
  | 98 => ⟨S8192x2x1, .f32⟩
  | 99 => ⟨S8192x2x1, .f32⟩
  | 100 => ⟨S_, .f32⟩
  | 101 => ⟨S8192x2x1, .f32⟩
  | 102 => ⟨S8192x2x1, .f32⟩
  | 103 => ⟨S8192x2x64, .f32⟩
  | 104 => ⟨S8192x2x64, .f32⟩
  | 105 => ⟨S1x1x64, .f32⟩
  | 106 => ⟨S8192x2x64, .f32⟩
  | 107 => ⟨S8192x2x64, .f32⟩
  | 108 => ⟨S8192x2x32, .f32⟩
  | 109 => ⟨S8192x2x32, .f32⟩
  | 110 => ⟨S8192x1x32, .f32⟩
  | 111 => ⟨S8192x1x32, .f32⟩
  | 112 => ⟨S8192x2x32, .f32⟩
  | 113 => ⟨S8192x2x32, .f32⟩
  | 114 => ⟨S8192x2x32, .f32⟩
  | 115 => ⟨S8192x2x32, .f32⟩
  | 116 => ⟨S8192x2x32, .f32⟩
  | 117 => ⟨S8192x2x32, .f32⟩
  | 118 => ⟨S8192x2x32, .f32⟩
  | 119 => ⟨S8192x2x32, .f32⟩
  | 120 => ⟨S8192x2x32, .f32⟩
  | 121 => ⟨S8192x2x32, .f32⟩
  | 122 => ⟨S8192x2x32x1, .f32⟩
  | 123 => ⟨S8192x2x32x1, .f32⟩
  | 124 => ⟨S8192x2x32x2, .f32⟩
  | 125 => ⟨S8192x2x64, .f32⟩
  | 126 => ⟨S8192x2x64, .f32⟩
  | 127 => ⟨S8192x128, .f32⟩
  | _ => ⟨S8192x3328, .f32⟩

abbrev hbmTy0_1 (i : Nat) : BufTy := match i % 128 with
  | 0 => ⟨S8192x2x32x2, .f32⟩
  | 1 => ⟨S8192x2x32x1, .f32⟩
  | 2 => ⟨S8192x2x32, .f32⟩
  | 3 => ⟨S8192x2x32x1, .f32⟩
  | 4 => ⟨S8192x2x32, .f32⟩
  | 5 => ⟨S8192x2x32, .f32⟩
  | 6 => ⟨S8192x2x32, .f32⟩
  | 7 => ⟨S8192x2x32, .f32⟩
  | 8 => ⟨S8192x2x32, .f32⟩
  | 9 => ⟨S8192x2x32, .f32⟩
  | 10 => ⟨S8192x2x32, .f32⟩
  | 11 => ⟨S8192x2x32, .f32⟩
  | 12 => ⟨S8192x2x32, .f32⟩
  | 13 => ⟨S8192x2x32, .f32⟩
  | 14 => ⟨S8192x2x32, .f32⟩
  | 15 => ⟨S8192x2x32, .f32⟩
  | 16 => ⟨S_, .f32⟩
  | 17 => ⟨S8192x2x64, .f32⟩
  | 18 => ⟨S_, .f32⟩
  | 19 => ⟨S8192x2x64, .f32⟩
  | 20 => ⟨S8192x2x64, .f32⟩
  | 21 => ⟨S8192x2x64, .f32⟩
  | 22 => ⟨S_, .f32⟩
  | 23 => ⟨S64, .f32⟩
  | 24 => ⟨S1x1x64, .f32⟩
  | 25 => ⟨S8192x2x64, .f32⟩
  | 26 => ⟨S8192x2x64, .f32⟩
  | 27 => ⟨S_, .f32⟩
  | 28 => ⟨S64, .f32⟩
  | 29 => ⟨S1x64, .f32⟩
  | 30 => ⟨S8192x2x64, .f32⟩
  | 31 => ⟨S_, .f32⟩
  | 32 => ⟨S8192x2, .f32⟩
  | 33 => ⟨S8192x2x1, .f32⟩
  | 34 => ⟨S8192x2x64, .f32⟩
  | 35 => ⟨S8192x2x64, .f32⟩
  | 36 => ⟨S8192x2x1, .f32⟩
  | 37 => ⟨S_, .f32⟩
  | 38 => ⟨S8192x2x1, .f32⟩
  | 39 => ⟨S8192x2x1, .f32⟩
  | 40 => ⟨S_, .f32⟩
  | 41 => ⟨S8192x2, .f32⟩
  | 42 => ⟨S8192x2x64, .f32⟩
  | 43 => ⟨S8192x2x64, .f32⟩
  | 44 => ⟨S8192x2x64, .f32⟩
  | 45 => ⟨S8192x2x64, .f32⟩
  | 46 => ⟨S8192x2x64, .f32⟩
  | 47 => ⟨S8192x128, .f32⟩
  | 48 => ⟨S_, .f32⟩
  | 49 => ⟨S8192x8x64, .f32⟩
  | 50 => ⟨S8192x8x64, .f32⟩
  | 51 => ⟨S8192x8x32x2, .f32⟩
  | 52 => ⟨S8192x8x32x1, .f32⟩
  | 53 => ⟨S8192x8x32, .f32⟩
  | 54 => ⟨S8192x8x32x1, .f32⟩
  | 55 => ⟨S8192x8x32, .f32⟩
  | 56 => ⟨S8192x8x32, .f32⟩
  | 57 => ⟨S8192x8x32, .f32⟩
  | 58 => ⟨S8192x8x32, .f32⟩
  | 59 => ⟨S8192x8x32, .f32⟩
  | 60 => ⟨S8192x8x32, .f32⟩
  | 61 => ⟨S8192x8x32, .f32⟩
  | 62 => ⟨S8192x8x32, .f32⟩
  | 63 => ⟨S8192x8x32, .f32⟩
  | 64 => ⟨S8192x8x32, .f32⟩
  | 65 => ⟨S8192x8x32, .f32⟩
  | 66 => ⟨S8192x8x32, .f32⟩
  | 67 => ⟨S_, .f32⟩
  | 68 => ⟨S8192x8x64, .f32⟩
  | 69 => ⟨S_, .f32⟩
  | 70 => ⟨S8192x8x64, .f32⟩
  | 71 => ⟨S8192x8x64, .f32⟩
  | 72 => ⟨S8192x8x64, .f32⟩
  | 73 => ⟨S_, .f32⟩
  | 74 => ⟨S64, .f32⟩
  | 75 => ⟨S1x1x64, .f32⟩
  | 76 => ⟨S8192x8x64, .f32⟩
  | 77 => ⟨S8192x8x64, .f32⟩
  | 78 => ⟨S_, .f32⟩
  | 79 => ⟨S64, .f32⟩
  | 80 => ⟨S1x64, .f32⟩
  | 81 => ⟨S8192x8x64, .f32⟩
  | 82 => ⟨S_, .f32⟩
  | 83 => ⟨S8192x8, .f32⟩
  | 84 => ⟨S8192x8x1, .f32⟩
  | 85 => ⟨S8192x8x64, .f32⟩
  | 86 => ⟨S8192x8x64, .f32⟩
  | 87 => ⟨S8192x8x1, .f32⟩
  | 88 => ⟨S_, .f32⟩
  | 89 => ⟨S8192x8x1, .f32⟩
  | 90 => ⟨S8192x8x1, .f32⟩
  | 91 => ⟨S_, .f32⟩
  | 92 => ⟨S8192x8, .f32⟩
  | 93 => ⟨S8192x8x64, .f32⟩
  | 94 => ⟨S8192x8x64, .f32⟩
  | 95 => ⟨S8192x8x64, .f32⟩
  | 96 => ⟨S8192x8x64, .f32⟩
  | 97 => ⟨S8192x8x64, .f32⟩
  | 98 => ⟨S8192x512, .f32⟩
  | 99 => ⟨S8192x512, .bf16⟩
  | 100 => ⟨S8192x128, .bf16⟩
  | 101 => ⟨S8192x128, .bf16⟩
  | 102 => ⟨S_, .i32⟩
  | 103 => ⟨S_, .f32⟩
  | 104 => ⟨S1x128, .f32⟩
  | 105 => ⟨S_, .i32⟩
  | 106 => ⟨S_, .f32⟩
  | 107 => ⟨S1x128, .f32⟩
  | _ => ⟨S8192x3328, .f32⟩

abbrev hbmTy (i : Nat) : BufTy := match i / 128 with
  | 0 => hbmTy0_0 i
  | 1 => hbmTy0_1 i
  | _ => ⟨S8192x3328, .f32⟩

abbrev bufTy : (tb : Table) → Fin (tcTables nBuf tb) → BufTy
  | .hbm, ⟨i, _⟩ => hbmTy i
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_7 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_cst_9 : Ref sig .tc := ⟨.hbm, 92, rfl⟩
abbrev main_v76 : Ref sig .tc := ⟨.hbm, 93, rfl⟩
abbrev main_v77 : Ref sig .tc := ⟨.hbm, 94, rfl⟩
abbrev main_cst_10 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_12 : Ref sig .tc := ⟨.hbm, 144, rfl⟩
abbrev main_v125 : Ref sig .tc := ⟨.hbm, 145, rfl⟩
abbrev main_cst_13 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_14 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_15 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_16 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_cst_17 : Ref sig .tc := ⟨.hbm, 165, rfl⟩
abbrev main_v141 : Ref sig .tc := ⟨.hbm, 166, rfl⟩
abbrev main_v142 : Ref sig .tc := ⟨.hbm, 167, rfl⟩
abbrev main_cst_18 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_19 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_cst_20 : Ref sig .tc := ⟨.hbm, 195, rfl⟩
abbrev main_v168 : Ref sig .tc := ⟨.hbm, 196, rfl⟩
abbrev main_cst_21 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_cst_22 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_23 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_cst_24 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_cst_25 : Ref sig .tc := ⟨.hbm, 216, rfl⟩
abbrev main_v184 : Ref sig .tc := ⟨.hbm, 217, rfl⟩
abbrev main_v185 : Ref sig .tc := ⟨.hbm, 218, rfl⟩
abbrev main_cst_26 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_c : Ref sig .tc := ⟨.hbm, 230, rfl⟩
abbrev main_call0_v0 : Ref sig .tc := ⟨.hbm, 231, rfl⟩
abbrev main_v196 : Ref sig .tc := ⟨.hbm, 232, rfl⟩
abbrev main_c_27 : Ref sig .tc := ⟨.hbm, 233, rfl⟩
abbrev main_call1_v0 : Ref sig .tc := ⟨.hbm, 234, rfl⟩
abbrev main_v197 : Ref sig .tc := ⟨.hbm, 235, rfl⟩

abbrev nD : Nat := 1
abbrev τ : Topo := Topo.v7x

variable {F : FTy → Type} [FloatOps F]
-- ==== GlaDx.lean ====
abbrev S8192x512 : Shape := ⟨2, ![8192, 512]⟩
abbrev S2x512 : Shape := ⟨2, ![2, 512]⟩
abbrev S8192x2048 : Shape := ⟨2, ![8192, 2048]⟩
abbrev S1x512 : Shape := ⟨2, ![1, 512]⟩
abbrev S_ : Shape := ⟨0, ![]⟩
abbrev S512 : Shape := ⟨1, ![512]⟩
abbrev S16x512x4x128 : Shape := ⟨4, ![16, 512, 4, 128]⟩
abbrev S16x4x512x128 : Shape := ⟨4, ![16, 4, 512, 128]⟩
abbrev S16x4x128 : Shape := ⟨3, ![16, 4, 128]⟩
abbrev S16x4x1x128 : Shape := ⟨4, ![16, 4, 1, 128]⟩
abbrev S16x4x128x128 : Shape := ⟨4, ![16, 4, 128, 128]⟩
abbrev S4x128x128 : Shape := ⟨3, ![4, 128, 128]⟩
abbrev S0x4x1x128 : Shape := ⟨4, ![0, 4, 1, 128]⟩
abbrev S0x4x128x128 : Shape := ⟨4, ![0, 4, 128, 128]⟩
abbrev S1x4x1x128 : Shape := ⟨4, ![1, 4, 1, 128]⟩
abbrev S4x1x128 : Shape := ⟨3, ![4, 1, 128]⟩
abbrev S1x4x128x128 : Shape := ⟨4, ![1, 4, 128, 128]⟩
abbrev S512x512 : Shape := ⟨2, ![512, 512]⟩
abbrev S1x1x128x128 : Shape := ⟨4, ![1, 1, 128, 128]⟩
abbrev S128x128 : Shape := ⟨2, ![128, 128]⟩
abbrev S64x64 : Shape := ⟨2, ![64, 64]⟩
abbrev S64x1 : Shape := ⟨2, ![64, 1]⟩
abbrev S64x512 : Shape := ⟨2, ![64, 512]⟩
abbrev S64x128 : Shape := ⟨2, ![64, 128]⟩
abbrev S1x128 : Shape := ⟨2, ![1, 128]⟩
abbrev S1x128x128 : Shape := ⟨3, ![1, 128, 128]⟩
abbrev S128 : Shape := ⟨1, ![128]⟩
abbrev S1x384 : Shape := ⟨2, ![1, 384]⟩
abbrev S64x384 : Shape := ⟨2, ![64, 384]⟩
abbrev S1x256 : Shape := ⟨2, ![1, 256]⟩
abbrev S64x256 : Shape := ⟨2, ![64, 256]⟩
abbrev S448x512 : Shape := ⟨2, ![448, 512]⟩
abbrev S384x512 : Shape := ⟨2, ![384, 512]⟩
abbrev S320x512 : Shape := ⟨2, ![320, 512]⟩
abbrev S128x512 : Shape := ⟨2, ![128, 512]⟩
abbrev S256x512 : Shape := ⟨2, ![256, 512]⟩
abbrev S192x512 : Shape := ⟨2, ![192, 512]⟩

abbrev nBuf : Space → Nat
  | .hbm => 221
  | .vmem => 21
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S2x512, .f32⟩
  | 4 => ⟨S8192x512, .f32⟩
  | 5 => ⟨S8192x2048, .f32⟩
  | 6 => ⟨S1x512, .f32⟩
  | 7 => ⟨S1x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S16x512x4x128, .f32⟩
  | 28 => ⟨S16x4x512x128, .f32⟩
  | 29 => ⟨S_, .f32⟩
  | 30 => ⟨S512, .f32⟩
  | 31 => ⟨S512, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S16x512x4x128, .f32⟩
  | 45 => ⟨S16x4x512x128, .f32⟩
  | 46 => ⟨S_, .f32⟩
  | 47 => ⟨S512, .f32⟩
  | 48 => ⟨S512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S1x512, .f32⟩
  | 58 => ⟨S8192x512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S16x512x4x128, .f32⟩
  | 65 => ⟨S16x4x512x128, .f32⟩
  | 66 => ⟨S_, .f32⟩
  | 67 => ⟨S_, .f32⟩
  | 68 => ⟨S16x4x512x128, .f32⟩
  | 69 => ⟨S_, .f32⟩
  | 70 => ⟨S16x4x128, .f32⟩
  | 71 => ⟨S16x4x1x128, .f32⟩
  | 72 => ⟨S16x4x512x128, .f32⟩
  | 73 => ⟨S16x4x512x128, .f32⟩
  | 74 => ⟨S16x4x512x128, .f32⟩
  | 75 => ⟨S16x4x512x128, .f32⟩
  | 76 => ⟨S16x4x128x128, .f32⟩
  | 77 => ⟨S_, .f32⟩
  | 78 => ⟨S4x128x128, .f32⟩
  | 79 => ⟨S16x4x1x128, .f32⟩
  | 80 => ⟨S0x4x1x128, .f32⟩
  | 81 => ⟨S16x4x1x128, .f32⟩
  | 82 => ⟨S0x4x128x128, .f32⟩
  | 83 => ⟨S16x4x128x128, .f32⟩
  | 84 => ⟨S_, .f32⟩
  | 85 => ⟨S0x4x128x128, .f32⟩
  | 86 => ⟨S1x4x1x128, .f32⟩
  | 87 => ⟨S4x1x128, .f32⟩
  | 88 => ⟨S1x4x128x128, .f32⟩
  | 89 => ⟨S4x128x128, .f32⟩
  | 90 => ⟨S4x128x128, .f32⟩
  | 91 => ⟨S4x128x128, .f32⟩
  | 92 => ⟨S4x128x128, .f32⟩
  | 93 => ⟨S1x4x1x128, .f32⟩
  | 94 => ⟨S4x1x128, .f32⟩
  | 95 => ⟨S1x4x128x128, .f32⟩
  | 96 => ⟨S4x128x128, .f32⟩
  | 97 => ⟨S4x128x128, .f32⟩
  | 98 => ⟨S4x128x128, .f32⟩
  | 99 => ⟨S4x128x128, .f32⟩
  | 100 => ⟨S1x4x1x128, .f32⟩
  | 101 => ⟨S4x1x128, .f32⟩
  | 102 => ⟨S1x4x128x128, .f32⟩
  | 103 => ⟨S4x128x128, .f32⟩
  | 104 => ⟨S4x128x128, .f32⟩
  | 105 => ⟨S4x128x128, .f32⟩
  | 106 => ⟨S4x128x128, .f32⟩
  | 107 => ⟨S1x4x1x128, .f32⟩
  | 108 => ⟨S4x1x128, .f32⟩
  | 109 => ⟨S1x4x128x128, .f32⟩
  | 110 => ⟨S4x128x128, .f32⟩
  | 111 => ⟨S4x128x128, .f32⟩
  | 112 => ⟨S4x128x128, .f32⟩
  | 113 => ⟨S4x128x128, .f32⟩
  | 114 => ⟨S1x4x1x128, .f32⟩
  | 115 => ⟨S4x1x128, .f32⟩
  | 116 => ⟨S1x4x128x128, .f32⟩
  | 117 => ⟨S4x128x128, .f32⟩
  | 118 => ⟨S4x128x128, .f32⟩
  | 119 => ⟨S4x128x128, .f32⟩
  | 120 => ⟨S4x128x128, .f32⟩
  | 121 => ⟨S1x4x1x128, .f32⟩
  | 122 => ⟨S4x1x128, .f32⟩
  | 123 => ⟨S1x4x128x128, .f32⟩
  | 124 => ⟨S4x128x128, .f32⟩
  | 125 => ⟨S4x128x128, .f32⟩
  | 126 => ⟨S4x128x128, .f32⟩
  | 127 => ⟨S4x128x128, .f32⟩
  | _ => ⟨S8192x512, .f32⟩

abbrev hbmTy0_1 (i : Nat) : BufTy := match i % 128 with
  | 0 => ⟨S1x4x1x128, .f32⟩
  | 1 => ⟨S4x1x128, .f32⟩
  | 2 => ⟨S1x4x128x128, .f32⟩
  | 3 => ⟨S4x128x128, .f32⟩
  | 4 => ⟨S4x128x128, .f32⟩
  | 5 => ⟨S4x128x128, .f32⟩
  | 6 => ⟨S4x128x128, .f32⟩
  | 7 => ⟨S1x4x1x128, .f32⟩
  | 8 => ⟨S4x1x128, .f32⟩
  | 9 => ⟨S1x4x128x128, .f32⟩
  | 10 => ⟨S4x128x128, .f32⟩
  | 11 => ⟨S4x128x128, .f32⟩
  | 12 => ⟨S4x128x128, .f32⟩
  | 13 => ⟨S4x128x128, .f32⟩
  | 14 => ⟨S1x4x1x128, .f32⟩
  | 15 => ⟨S4x1x128, .f32⟩
  | 16 => ⟨S1x4x128x128, .f32⟩
  | 17 => ⟨S4x128x128, .f32⟩
  | 18 => ⟨S4x128x128, .f32⟩
  | 19 => ⟨S4x128x128, .f32⟩
  | 20 => ⟨S4x128x128, .f32⟩
  | 21 => ⟨S1x4x1x128, .f32⟩
  | 22 => ⟨S4x1x128, .f32⟩
  | 23 => ⟨S1x4x128x128, .f32⟩
  | 24 => ⟨S4x128x128, .f32⟩
  | 25 => ⟨S4x128x128, .f32⟩
  | 26 => ⟨S4x128x128, .f32⟩
  | 27 => ⟨S4x128x128, .f32⟩
  | 28 => ⟨S1x4x1x128, .f32⟩
  | 29 => ⟨S4x1x128, .f32⟩
  | 30 => ⟨S1x4x128x128, .f32⟩
  | 31 => ⟨S4x128x128, .f32⟩
  | 32 => ⟨S4x128x128, .f32⟩
  | 33 => ⟨S4x128x128, .f32⟩
  | 34 => ⟨S4x128x128, .f32⟩
  | 35 => ⟨S1x4x1x128, .f32⟩
  | 36 => ⟨S4x1x128, .f32⟩
  | 37 => ⟨S1x4x128x128, .f32⟩
  | 38 => ⟨S4x128x128, .f32⟩
  | 39 => ⟨S4x128x128, .f32⟩
  | 40 => ⟨S4x128x128, .f32⟩
  | 41 => ⟨S4x128x128, .f32⟩
  | 42 => ⟨S1x4x1x128, .f32⟩
  | 43 => ⟨S4x1x128, .f32⟩
  | 44 => ⟨S1x4x128x128, .f32⟩
  | 45 => ⟨S4x128x128, .f32⟩
  | 46 => ⟨S4x128x128, .f32⟩
  | 47 => ⟨S4x128x128, .f32⟩
  | 48 => ⟨S4x128x128, .f32⟩
  | 49 => ⟨S1x4x1x128, .f32⟩
  | 50 => ⟨S4x1x128, .f32⟩
  | 51 => ⟨S1x4x128x128, .f32⟩
  | 52 => ⟨S4x128x128, .f32⟩
  | 53 => ⟨S4x128x128, .f32⟩
  | 54 => ⟨S4x128x128, .f32⟩
  | 55 => ⟨S4x128x128, .f32⟩
  | 56 => ⟨S1x4x1x128, .f32⟩
  | 57 => ⟨S4x1x128, .f32⟩
  | 58 => ⟨S1x4x128x128, .f32⟩
  | 59 => ⟨S4x128x128, .f32⟩
  | 60 => ⟨S4x128x128, .f32⟩
  | 61 => ⟨S4x128x128, .f32⟩
  | 62 => ⟨S4x128x128, .f32⟩
  | 63 => ⟨S1x4x1x128, .f32⟩
  | 64 => ⟨S4x1x128, .f32⟩
  | 65 => ⟨S1x4x128x128, .f32⟩
  | 66 => ⟨S4x128x128, .f32⟩
  | 67 => ⟨S4x128x128, .f32⟩
  | 68 => ⟨S4x128x128, .f32⟩
  | 69 => ⟨S4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S16x4x128x128, .f32⟩
  | 87 => ⟨S16x4x128x128, .f32⟩
  | 88 => ⟨S8192x512, .f32⟩
  | 89 => ⟨S8192x512, .f32⟩
  | 90 => ⟨S8192x512, .f32⟩
  | 91 => ⟨S1x512, .f32⟩
  | 92 => ⟨S1x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x4x128x128, .f32⟩
  | .local _ .vmem, ⟨9, _⟩ => ⟨S1x4x128x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S1x512, .f32⟩
  | .local _ .vmem, ⟨20, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_call0_cst : Ref sig .tc := ⟨.hbm, 22, rfl⟩
abbrev main_call0_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195_0 : Ref sig .tc := ⟨.hbm, 216, rfl⟩
abbrev main_v195_1 : Ref sig .tc := ⟨.hbm, 217, rfl⟩
abbrev main_v195_2 : Ref sig .tc := ⟨.hbm, 218, rfl⟩
abbrev main_v195_3 : Ref sig .tc := ⟨.hbm, 219, rfl⟩
abbrev main_v195_4 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GlaRev.lean ====
abbrev S8192x512 : Shape := ⟨2, ![8192, 512]⟩
abbrev S2x512 : Shape := ⟨2, ![2, 512]⟩
abbrev S8192x2048 : Shape := ⟨2, ![8192, 2048]⟩
abbrev S1x512 : Shape := ⟨2, ![1, 512]⟩
abbrev S_ : Shape := ⟨0, ![]⟩
abbrev S512 : Shape := ⟨1, ![512]⟩
abbrev S16x512x4x128 : Shape := ⟨4, ![16, 512, 4, 128]⟩
abbrev S16x4x512x128 : Shape := ⟨4, ![16, 4, 512, 128]⟩
abbrev S16x4x128 : Shape := ⟨3, ![16, 4, 128]⟩
abbrev S16x4x1x128 : Shape := ⟨4, ![16, 4, 1, 128]⟩
abbrev S16x4x128x128 : Shape := ⟨4, ![16, 4, 128, 128]⟩
abbrev S4x128x128 : Shape := ⟨3, ![4, 128, 128]⟩
abbrev S0x4x1x128 : Shape := ⟨4, ![0, 4, 1, 128]⟩
abbrev S0x4x128x128 : Shape := ⟨4, ![0, 4, 128, 128]⟩
abbrev S1x4x1x128 : Shape := ⟨4, ![1, 4, 1, 128]⟩
abbrev S4x1x128 : Shape := ⟨3, ![4, 1, 128]⟩
abbrev S1x4x128x128 : Shape := ⟨4, ![1, 4, 128, 128]⟩
abbrev S512x512 : Shape := ⟨2, ![512, 512]⟩
abbrev S1x1x128x128 : Shape := ⟨4, ![1, 1, 128, 128]⟩
abbrev S128x128 : Shape := ⟨2, ![128, 128]⟩
abbrev S64x64 : Shape := ⟨2, ![64, 64]⟩
abbrev S64x1 : Shape := ⟨2, ![64, 1]⟩
abbrev S64x512 : Shape := ⟨2, ![64, 512]⟩
abbrev S64x128 : Shape := ⟨2, ![64, 128]⟩
abbrev S1x128 : Shape := ⟨2, ![1, 128]⟩
abbrev S1x128x128 : Shape := ⟨3, ![1, 128, 128]⟩
abbrev S128 : Shape := ⟨1, ![128]⟩
abbrev S1x384 : Shape := ⟨2, ![1, 384]⟩
abbrev S64x384 : Shape := ⟨2, ![64, 384]⟩
abbrev S1x256 : Shape := ⟨2, ![1, 256]⟩
abbrev S64x256 : Shape := ⟨2, ![64, 256]⟩
abbrev S448x512 : Shape := ⟨2, ![448, 512]⟩
abbrev S384x512 : Shape := ⟨2, ![384, 512]⟩
abbrev S320x512 : Shape := ⟨2, ![320, 512]⟩
abbrev S128x512 : Shape := ⟨2, ![128, 512]⟩
abbrev S256x512 : Shape := ⟨2, ![256, 512]⟩
abbrev S192x512 : Shape := ⟨2, ![192, 512]⟩

abbrev nBuf : Space → Nat
  | .hbm => 221
  | .vmem => 21
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S2x512, .f32⟩
  | 4 => ⟨S8192x512, .f32⟩
  | 5 => ⟨S8192x2048, .f32⟩
  | 6 => ⟨S1x512, .f32⟩
  | 7 => ⟨S1x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S16x512x4x128, .f32⟩
  | 28 => ⟨S16x4x512x128, .f32⟩
  | 29 => ⟨S_, .f32⟩
  | 30 => ⟨S512, .f32⟩
  | 31 => ⟨S512, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S16x512x4x128, .f32⟩
  | 45 => ⟨S16x4x512x128, .f32⟩
  | 46 => ⟨S_, .f32⟩
  | 47 => ⟨S512, .f32⟩
  | 48 => ⟨S512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S1x512, .f32⟩
  | 58 => ⟨S8192x512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S16x512x4x128, .f32⟩
  | 65 => ⟨S16x4x512x128, .f32⟩
  | 66 => ⟨S_, .f32⟩
  | 67 => ⟨S_, .f32⟩
  | 68 => ⟨S16x4x512x128, .f32⟩
  | 69 => ⟨S_, .f32⟩
  | 70 => ⟨S16x4x128, .f32⟩
  | 71 => ⟨S16x4x1x128, .f32⟩
  | 72 => ⟨S16x4x512x128, .f32⟩
  | 73 => ⟨S16x4x512x128, .f32⟩
  | 74 => ⟨S16x4x512x128, .f32⟩
  | 75 => ⟨S16x4x512x128, .f32⟩
  | 76 => ⟨S16x4x128x128, .f32⟩
  | 77 => ⟨S_, .f32⟩
  | 78 => ⟨S4x128x128, .f32⟩
  | 79 => ⟨S16x4x1x128, .f32⟩
  | 80 => ⟨S16x4x1x128, .f32⟩
  | 81 => ⟨S0x4x1x128, .f32⟩
  | 82 => ⟨S16x4x128x128, .f32⟩
  | 83 => ⟨S0x4x128x128, .f32⟩
  | 84 => ⟨S_, .f32⟩
  | 85 => ⟨S0x4x128x128, .f32⟩
  | 86 => ⟨S1x4x1x128, .f32⟩
  | 87 => ⟨S4x1x128, .f32⟩
  | 88 => ⟨S1x4x128x128, .f32⟩
  | 89 => ⟨S4x128x128, .f32⟩
  | 90 => ⟨S4x128x128, .f32⟩
  | 91 => ⟨S4x128x128, .f32⟩
  | 92 => ⟨S4x128x128, .f32⟩
  | 93 => ⟨S1x4x1x128, .f32⟩
  | 94 => ⟨S4x1x128, .f32⟩
  | 95 => ⟨S1x4x128x128, .f32⟩
  | 96 => ⟨S4x128x128, .f32⟩
  | 97 => ⟨S4x128x128, .f32⟩
  | 98 => ⟨S4x128x128, .f32⟩
  | 99 => ⟨S4x128x128, .f32⟩
  | 100 => ⟨S1x4x1x128, .f32⟩
  | 101 => ⟨S4x1x128, .f32⟩
  | 102 => ⟨S1x4x128x128, .f32⟩
  | 103 => ⟨S4x128x128, .f32⟩
  | 104 => ⟨S4x128x128, .f32⟩
  | 105 => ⟨S4x128x128, .f32⟩
  | 106 => ⟨S4x128x128, .f32⟩
  | 107 => ⟨S1x4x1x128, .f32⟩
  | 108 => ⟨S4x1x128, .f32⟩
  | 109 => ⟨S1x4x128x128, .f32⟩
  | 110 => ⟨S4x128x128, .f32⟩
  | 111 => ⟨S4x128x128, .f32⟩
  | 112 => ⟨S4x128x128, .f32⟩
  | 113 => ⟨S4x128x128, .f32⟩
  | 114 => ⟨S1x4x1x128, .f32⟩
  | 115 => ⟨S4x1x128, .f32⟩
  | 116 => ⟨S1x4x128x128, .f32⟩
  | 117 => ⟨S4x128x128, .f32⟩
  | 118 => ⟨S4x128x128, .f32⟩
  | 119 => ⟨S4x128x128, .f32⟩
  | 120 => ⟨S4x128x128, .f32⟩
  | 121 => ⟨S1x4x1x128, .f32⟩
  | 122 => ⟨S4x1x128, .f32⟩
  | 123 => ⟨S1x4x128x128, .f32⟩
  | 124 => ⟨S4x128x128, .f32⟩
  | 125 => ⟨S4x128x128, .f32⟩
  | 126 => ⟨S4x128x128, .f32⟩
  | 127 => ⟨S4x128x128, .f32⟩
  | _ => ⟨S8192x512, .f32⟩

abbrev hbmTy0_1 (i : Nat) : BufTy := match i % 128 with
  | 0 => ⟨S1x4x1x128, .f32⟩
  | 1 => ⟨S4x1x128, .f32⟩
  | 2 => ⟨S1x4x128x128, .f32⟩
  | 3 => ⟨S4x128x128, .f32⟩
  | 4 => ⟨S4x128x128, .f32⟩
  | 5 => ⟨S4x128x128, .f32⟩
  | 6 => ⟨S4x128x128, .f32⟩
  | 7 => ⟨S1x4x1x128, .f32⟩
  | 8 => ⟨S4x1x128, .f32⟩
  | 9 => ⟨S1x4x128x128, .f32⟩
  | 10 => ⟨S4x128x128, .f32⟩
  | 11 => ⟨S4x128x128, .f32⟩
  | 12 => ⟨S4x128x128, .f32⟩
  | 13 => ⟨S4x128x128, .f32⟩
  | 14 => ⟨S1x4x1x128, .f32⟩
  | 15 => ⟨S4x1x128, .f32⟩
  | 16 => ⟨S1x4x128x128, .f32⟩
  | 17 => ⟨S4x128x128, .f32⟩
  | 18 => ⟨S4x128x128, .f32⟩
  | 19 => ⟨S4x128x128, .f32⟩
  | 20 => ⟨S4x128x128, .f32⟩
  | 21 => ⟨S1x4x1x128, .f32⟩
  | 22 => ⟨S4x1x128, .f32⟩
  | 23 => ⟨S1x4x128x128, .f32⟩
  | 24 => ⟨S4x128x128, .f32⟩
  | 25 => ⟨S4x128x128, .f32⟩
  | 26 => ⟨S4x128x128, .f32⟩
  | 27 => ⟨S4x128x128, .f32⟩
  | 28 => ⟨S1x4x1x128, .f32⟩
  | 29 => ⟨S4x1x128, .f32⟩
  | 30 => ⟨S1x4x128x128, .f32⟩
  | 31 => ⟨S4x128x128, .f32⟩
  | 32 => ⟨S4x128x128, .f32⟩
  | 33 => ⟨S4x128x128, .f32⟩
  | 34 => ⟨S4x128x128, .f32⟩
  | 35 => ⟨S1x4x1x128, .f32⟩
  | 36 => ⟨S4x1x128, .f32⟩
  | 37 => ⟨S1x4x128x128, .f32⟩
  | 38 => ⟨S4x128x128, .f32⟩
  | 39 => ⟨S4x128x128, .f32⟩
  | 40 => ⟨S4x128x128, .f32⟩
  | 41 => ⟨S4x128x128, .f32⟩
  | 42 => ⟨S1x4x1x128, .f32⟩
  | 43 => ⟨S4x1x128, .f32⟩
  | 44 => ⟨S1x4x128x128, .f32⟩
  | 45 => ⟨S4x128x128, .f32⟩
  | 46 => ⟨S4x128x128, .f32⟩
  | 47 => ⟨S4x128x128, .f32⟩
  | 48 => ⟨S4x128x128, .f32⟩
  | 49 => ⟨S1x4x1x128, .f32⟩
  | 50 => ⟨S4x1x128, .f32⟩
  | 51 => ⟨S1x4x128x128, .f32⟩
  | 52 => ⟨S4x128x128, .f32⟩
  | 53 => ⟨S4x128x128, .f32⟩
  | 54 => ⟨S4x128x128, .f32⟩
  | 55 => ⟨S4x128x128, .f32⟩
  | 56 => ⟨S1x4x1x128, .f32⟩
  | 57 => ⟨S4x1x128, .f32⟩
  | 58 => ⟨S1x4x128x128, .f32⟩
  | 59 => ⟨S4x128x128, .f32⟩
  | 60 => ⟨S4x128x128, .f32⟩
  | 61 => ⟨S4x128x128, .f32⟩
  | 62 => ⟨S4x128x128, .f32⟩
  | 63 => ⟨S1x4x1x128, .f32⟩
  | 64 => ⟨S4x1x128, .f32⟩
  | 65 => ⟨S1x4x128x128, .f32⟩
  | 66 => ⟨S4x128x128, .f32⟩
  | 67 => ⟨S4x128x128, .f32⟩
  | 68 => ⟨S4x128x128, .f32⟩
  | 69 => ⟨S4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S16x4x128x128, .f32⟩
  | 87 => ⟨S16x4x128x128, .f32⟩
  | 88 => ⟨S8192x512, .f32⟩
  | 89 => ⟨S8192x512, .f32⟩
  | 90 => ⟨S8192x512, .f32⟩
  | 91 => ⟨S1x512, .f32⟩
  | 92 => ⟨S1x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x4x128x128, .f32⟩
  | .local _ .vmem, ⟨9, _⟩ => ⟨S1x4x128x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S1x512, .f32⟩
  | .local _ .vmem, ⟨20, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_call0_cst : Ref sig .tc := ⟨.hbm, 22, rfl⟩
abbrev main_call0_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195_0 : Ref sig .tc := ⟨.hbm, 216, rfl⟩
abbrev main_v195_1 : Ref sig .tc := ⟨.hbm, 217, rfl⟩
abbrev main_v195_2 : Ref sig .tc := ⟨.hbm, 218, rfl⟩
abbrev main_v195_3 : Ref sig .tc := ⟨.hbm, 219, rfl⟩
abbrev main_v195_4 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GlaFw.lean ====
abbrev S8192x512 : Shape := ⟨2, ![8192, 512]⟩
abbrev S2x512 : Shape := ⟨2, ![2, 512]⟩
abbrev S8192x2048 : Shape := ⟨2, ![8192, 2048]⟩
abbrev S1x512 : Shape := ⟨2, ![1, 512]⟩
abbrev S16x4x128x128 : Shape := ⟨4, ![16, 4, 128, 128]⟩
abbrev S512x512 : Shape := ⟨2, ![512, 512]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S64x64 : Shape := ⟨2, ![64, 64]⟩
abbrev S64x1 : Shape := ⟨2, ![64, 1]⟩
abbrev S64x512 : Shape := ⟨2, ![64, 512]⟩
abbrev S512 : Shape := ⟨1, ![512]⟩
abbrev S64x128 : Shape := ⟨2, ![64, 128]⟩
abbrev S1x128 : Shape := ⟨2, ![1, 128]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S2x512, .f32⟩
  | .hbm, ⟨4, _⟩ => ⟨S8192x2048, .f32⟩
  | .hbm, ⟨5, _⟩ => ⟨S1x512, .f32⟩
  | .hbm, ⟨6, _⟩ => ⟨S1x512, .f32⟩
  | .hbm, ⟨7, _⟩ => ⟨S8192x512, .f32⟩
  | .hbm, ⟨8, _⟩ => ⟨S16x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S1x4x128x128, .f32⟩
  | .local _ .vmem, ⟨11, _⟩ => ⟨S1x4x128x128, .f32⟩
  | .local _ .vmem, ⟨12, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaFwRev.lean ====
abbrev S8192x512 : Shape := ⟨2, ![8192, 512]⟩
abbrev S2x512 : Shape := ⟨2, ![2, 512]⟩
abbrev S8192x2048 : Shape := ⟨2, ![8192, 2048]⟩
abbrev S1x512 : Shape := ⟨2, ![1, 512]⟩
abbrev S16x4x128x128 : Shape := ⟨4, ![16, 4, 128, 128]⟩
abbrev S512x512 : Shape := ⟨2, ![512, 512]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S64x64 : Shape := ⟨2, ![64, 64]⟩
abbrev S64x1 : Shape := ⟨2, ![64, 1]⟩
abbrev S64x512 : Shape := ⟨2, ![64, 512]⟩
abbrev S512 : Shape := ⟨1, ![512]⟩
abbrev S64x128 : Shape := ⟨2, ![64, 128]⟩
abbrev S1x128 : Shape := ⟨2, ![1, 128]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S2x512, .f32⟩
  | .hbm, ⟨4, _⟩ => ⟨S8192x2048, .f32⟩
  | .hbm, ⟨5, _⟩ => ⟨S1x512, .f32⟩
  | .hbm, ⟨6, _⟩ => ⟨S1x512, .f32⟩
  | .hbm, ⟨7, _⟩ => ⟨S8192x512, .f32⟩
  | .hbm, ⟨8, _⟩ => ⟨S16x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S1x4x128x128, .f32⟩
  | .local _ .vmem, ⟨11, _⟩ => ⟨S1x4x128x128, .f32⟩
  | .local _ .vmem, ⟨12, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormFw.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== OutFw.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ActFw.lean ====
abbrev S8192x1024 : Shape := ⟨2, ![8192, 1024]⟩
abbrev S1024x5632 : Shape := ⟨2, ![1024, 5632]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S2x8192x2816, .f32⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .f32⟩
  | .local _ .vmem, ⟨7, _⟩ => ⟨S2x512x1408, .f32⟩
  | .local _ .vmem, ⟨8, _⟩ => ⟨S512x1408, .bf16⟩
  | .local _ .vmem, ⟨9, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActFwRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S1x8192x2816, .f32⟩
  | .hbm, ⟨6, _⟩ => ⟨S1x8192x2816, .f32⟩
  | .hbm, ⟨7, _⟩ => ⟨S2x8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== MixFw.lean ====
abbrev S8192x512 : Shape := ⟨2, ![8192, 512]⟩
abbrev S8192x3328 : Shape := ⟨2, ![8192, 3328]⟩
abbrev S1x128 : Shape := ⟨2, ![1, 128]⟩
abbrev S1x512 : Shape := ⟨2, ![1, 512]⟩
abbrev S32x256x8x64 : Shape := ⟨4, ![32, 256, 8, 64]⟩
abbrev S8x32x64x256 : Shape := ⟨4, ![8, 32, 64, 256]⟩
abbrev S8192x1024 : Shape := ⟨2, ![8192, 1024]⟩
abbrev S256x512 : Shape := ⟨2, ![256, 512]⟩
abbrev S8x1x64x256 : Shape := ⟨4, ![8, 1, 64, 256]⟩
abbrev S256x1024 : Shape := ⟨2, ![256, 1024]⟩
abbrev S1x1x64x256 : Shape := ⟨4, ![1, 1, 64, 256]⟩
abbrev S64x256 : Shape := ⟨2, ![64, 256]⟩
abbrev S512x256 : Shape := ⟨2, ![512, 256]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x3328, .f32⟩
  | .hbm, ⟨3, _⟩ => ⟨S8192x512, .f32⟩
  | .hbm, ⟨4, _⟩ => ⟨S1x128, .f32⟩
  | .hbm, ⟨5, _⟩ => ⟨S1x512, .f32⟩
  | .hbm, ⟨6, _⟩ => ⟨S32x256x8x64, .f32⟩
  | .hbm, ⟨7, _⟩ => ⟨S8x32x64x256, .f32⟩
  | .hbm, ⟨8, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x1x64x256, .f32⟩
  | .local _ .vmem, ⟨7, _⟩ => ⟨S8x1x64x256, .f32⟩
  | .local _ .vmem, ⟨8, _⟩ => ⟨S1x128, .f32⟩
  | .local _ .vmem, ⟨9, _⟩ => ⟨S1x512, .f32⟩
  | .local _ .vmem, ⟨10, _⟩ => ⟨S256x1024, .bf16⟩
  | .local _ .vmem, ⟨11, _⟩ => ⟨S256x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFwRefIdeal.lean ====
abbrev S8192x512 : Shape := ⟨2, ![8192, 512]⟩
abbrev S8192x3328 : Shape := ⟨2, ![8192, 3328]⟩
abbrev S1x128 : Shape := ⟨2, ![1, 128]⟩
abbrev S1x512 : Shape := ⟨2, ![1, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x3328, .f32⟩
  | .hbm, ⟨3, _⟩ => ⟨S8192x512, .f32⟩
  | .hbm, ⟨4, _⟩ => ⟨S1x128, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x4x128, .f32⟩
  | .hbm, ⟨9, _⟩ => ⟨S8192x4x128, .f32⟩
  | .hbm, ⟨10, _⟩ => ⟨S_, .f32⟩
  | .hbm, ⟨11, _⟩ => ⟨S8192x4, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S8192x4x128, .f32⟩
  | .hbm, ⟨21, _⟩ => ⟨S8192x4x128, .f32⟩
  | .hbm, ⟨22, _⟩ => ⟨S1x1x128, .f32⟩
  | .hbm, ⟨23, _⟩ => ⟨S8192x4x128, .f32⟩
  | .hbm, ⟨24, _⟩ => ⟨S8192x4x128, .f32⟩
  | .hbm, ⟨25, _⟩ => ⟨S8192x4x128, .f32⟩
  | .hbm, ⟨26, _⟩ => ⟨S8192x4x128, .f32⟩
  | .hbm, ⟨27, _⟩ => ⟨S8192x4x128, .f32⟩
  | .hbm, ⟨28, _⟩ => ⟨S_, .f32⟩
  | .hbm, ⟨29, _⟩ => ⟨S8192x4x128, .f32⟩
  | .hbm, ⟨30, _⟩ => ⟨S8192x4x128, .f32⟩
  | .hbm, ⟨31, _⟩ => ⟨S_, .f32⟩
  | .hbm, ⟨32, _⟩ => ⟨S8192x4x128, .f32⟩
  | .hbm, ⟨33, _⟩ => ⟨S8192x4x128, .f32⟩
  | .hbm, ⟨34, _⟩ => ⟨S8192x4x128, .f32⟩
  | .hbm, ⟨35, _⟩ => ⟨S8192x4x128, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x1024, .f32⟩
  | .hbm, ⟨53, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== PrepFw.lean ====
abbrev S8192x3328 : Shape := ⟨2, ![8192, 3328]⟩
abbrev S1x64 : Shape := ⟨2, ![1, 64]⟩
abbrev S2 : Shape := ⟨1, ![2]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x32x2 : Shape := ⟨3, ![8192, 32, 2]⟩
abbrev S8192x64 : Shape := ⟨2, ![8192, 64]⟩
abbrev S1x2 : Shape := ⟨2, ![1, 2]⟩
abbrev S32x2 : Shape := ⟨2, ![32, 2]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S1x8192x2x64 : Shape := ⟨4, ![1, 8192, 2, 64]⟩
abbrev S8192x128 : Shape := ⟨2, ![8192, 128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S128x128 : Shape := ⟨2, ![128, 128]⟩
abbrev S128x512 : Shape := ⟨2, ![128, 512]⟩
abbrev S8x32x64x256 : Shape := ⟨4, ![8, 32, 64, 256]⟩
abbrev S8x32x256x128 : Shape := ⟨4, ![8, 32, 256, 128]⟩
abbrev S2x32x256x128 : Shape := ⟨4, ![2, 32, 256, 128]⟩
abbrev S2x32x64x256 : Shape := ⟨4, ![2, 32, 64, 256]⟩
abbrev S256x512 : Shape := ⟨2, ![256, 512]⟩
abbrev S256x128 : Shape := ⟨2, ![256, 128]⟩
abbrev S8x1x64x256 : Shape := ⟨4, ![8, 1, 64, 256]⟩
abbrev S8x1x256x128 : Shape := ⟨4, ![8, 1, 256, 128]⟩
abbrev S2x1x256x128 : Shape := ⟨4, ![2, 1, 256, 128]⟩
abbrev S2x1x64x256 : Shape := ⟨4, ![2, 1, 64, 256]⟩
abbrev S8x128 : Shape := ⟨2, ![8, 128]⟩
abbrev S8x512 : Shape := ⟨2, ![8, 512]⟩
abbrev S512x256 : Shape := ⟨2, ![512, 256]⟩
abbrev S64x256 : Shape := ⟨2, ![64, 256]⟩
abbrev S128x256 : Shape := ⟨2, ![128, 256]⟩
abbrev S1x1x64x256 : Shape := ⟨4, ![1, 1, 64, 256]⟩
abbrev S1x1x256x128 : Shape := ⟨4, ![1, 1, 256, 128]⟩

abbrev nBuf : Space → Nat
  | .hbm => 115
  | .vmem => 30
  | .smem => 0
  | _ => 0

abbrev bufTy : (tb : Table) → Fin (tcTables nBuf tb) → BufTy
  | .hbm, ⟨0, _⟩ => ⟨S8192x3328, .f32⟩
  | .hbm, ⟨1, _⟩ => ⟨S1x64, .f32⟩
  | .hbm, ⟨2, _⟩ => ⟨S1x64, .f32⟩
  | .hbm, ⟨3, _⟩ => ⟨S2, .f32⟩
  | .hbm, ⟨4, _⟩ => ⟨S128, .i32⟩
  | .hbm, ⟨5, _⟩ => ⟨S128x64, .i32⟩
  | .hbm, ⟨6, _⟩ => ⟨S8192, .i32⟩
  | .hbm, ⟨7, _⟩ => ⟨S8192, .f32⟩
  | .hbm, ⟨8, _⟩ => ⟨S64, .i32⟩
  | .hbm, ⟨9, _⟩ => ⟨S1x64, .i32⟩
  | .hbm, ⟨10, _⟩ => ⟨S128x64, .i32⟩
  | .hbm, ⟨11, _⟩ => ⟨S8192, .i32⟩
  | .hbm, ⟨12, _⟩ => ⟨S8192, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S8192x1, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x1, .f32⟩
  | .hbm, ⟨33, _⟩ => ⟨S1x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x32, .f32⟩
  | .hbm, ⟨38, _⟩ => ⟨S8192x32, .f32⟩
  | .hbm, ⟨39, _⟩ => ⟨S8192x32x2, .f32⟩
  | .hbm, ⟨40, _⟩ => ⟨S8192x64, .f32⟩
  | .hbm, ⟨41, _⟩ => ⟨S8192x32, .f32⟩
  | .hbm, ⟨42, _⟩ => ⟨S8192x32x2, .f32⟩
  | .hbm, ⟨43, _⟩ => ⟨S8192x64, .f32⟩
  | .hbm, ⟨44, _⟩ => ⟨S1x2, .f32⟩
  | .hbm, ⟨45, _⟩ => ⟨S32x2, .f32⟩
  | .hbm, ⟨46, _⟩ => ⟨S64, .f32⟩
  | .hbm, ⟨47, _⟩ => ⟨S1x64, .f32⟩
  | .hbm, ⟨48, _⟩ => ⟨S8192x64, .f32⟩
  | .hbm, ⟨49, _⟩ => ⟨S8192x64, .f32⟩
  | .hbm, ⟨50, _⟩ => ⟨S1x8192x1x64, .f32⟩
  | .hbm, ⟨51, _⟩ => ⟨S1x8192x8x64, .f32⟩
  | .hbm, ⟨52, _⟩ => ⟨S8192x512, .f32⟩
  | .hbm, ⟨53, _⟩ => ⟨S1x8192x1x64, .f32⟩
  | .hbm, ⟨54, _⟩ => ⟨S1x8192x8x64, .f32⟩
  | .hbm, ⟨55, _⟩ => ⟨S8192x512, .f32⟩
  | .hbm, ⟨56, _⟩ => ⟨S1x8192x1x64, .f32⟩
  | .hbm, ⟨57, _⟩ => ⟨S1x8192x2x64, .f32⟩
  | .hbm, ⟨58, _⟩ => ⟨S8192x128, .f32⟩
  | .hbm, ⟨59, _⟩ => ⟨S1x8192x1x64, .f32⟩
  | .hbm, ⟨60, _⟩ => ⟨S1x8192x2x64, .f32⟩
  | .hbm, ⟨61, _⟩ => ⟨S8192x128, .f32⟩
  | .hbm, ⟨62, _⟩ => ⟨S_, .i32⟩
  | .hbm, ⟨63, _⟩ => ⟨S_, .f32⟩
  | .hbm, ⟨64, _⟩ => ⟨S1x128, .f32⟩
  | .hbm, ⟨65, _⟩ => ⟨S_, .i32⟩
  | .hbm, ⟨66, _⟩ => ⟨S_, .f32⟩
  | .hbm, ⟨67, _⟩ => ⟨S1x128, .f32⟩
  | .hbm, ⟨68, _⟩ => ⟨S512, .i32⟩
  | .hbm, ⟨69, _⟩ => ⟨S_, .i32⟩
  | .hbm, ⟨70, _⟩ => ⟨S512, .i32⟩
  | .hbm, ⟨71, _⟩ => ⟨S512, .i32⟩
  | .hbm, ⟨72, _⟩ => ⟨S512x1, .i32⟩
  | .hbm, ⟨73, _⟩ => ⟨S1x512, .i32⟩
  | .hbm, ⟨74, _⟩ => ⟨S512x512, .i32⟩
  | .hbm, ⟨75, _⟩ => ⟨S512x512, .i32⟩
  | .hbm, ⟨76, _⟩ => ⟨S512x512, .i1⟩
  | .hbm, ⟨77, _⟩ => ⟨S512x512, .f32⟩
  | .hbm, ⟨78, _⟩ => ⟨S128, .i32⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S128x1, .i32⟩
  | .hbm, ⟨83, _⟩ => ⟨S1x128, .i32⟩
  | .hbm, ⟨84, _⟩ => ⟨S128x128, .i32⟩
  | .hbm, ⟨85, _⟩ => ⟨S128x128, .i32⟩
  | .hbm, ⟨86, _⟩ => ⟨S128x128, .i1⟩
  | .hbm, ⟨87, _⟩ => ⟨S128x128, .f32⟩
  | .hbm, ⟨88, _⟩ => ⟨S512, .i32⟩
  | .hbm, ⟨89, _⟩ => ⟨S_, .i32⟩
  | .hbm, ⟨90, _⟩ => ⟨S512, .i32⟩
  | .hbm, ⟨91, _⟩ => ⟨S512, .i32⟩
  | .hbm, ⟨92, _⟩ => ⟨S128, .i32⟩
  | .hbm, ⟨93, _⟩ => ⟨S128x1, .i32⟩
  | .hbm, ⟨94, _⟩ => ⟨S1x512, .i32⟩
  | .hbm, ⟨95, _⟩ => ⟨S128x512, .i32⟩
  | .hbm, ⟨96, _⟩ => ⟨S128x512, .i32⟩
  | .hbm, ⟨97, _⟩ => ⟨S128x512, .i1⟩
  | .hbm, ⟨98, _⟩ => ⟨S128x512, .f32⟩
  | .hbm, ⟨99, _⟩ => ⟨S128, .i32⟩
  | .hbm, ⟨100, _⟩ => ⟨S_, .i32⟩
  | .hbm, ⟨101, _⟩ => ⟨S128, .i32⟩
  | .hbm, ⟨102, _⟩ => ⟨S128, .i32⟩
  | .hbm, ⟨103, _⟩ => ⟨S128, .i32⟩
  | .hbm, ⟨104, _⟩ => ⟨S128x1, .i32⟩
  | .hbm, ⟨105, _⟩ => ⟨S1x128, .i32⟩
  | .hbm, ⟨106, _⟩ => ⟨S128x128, .i32⟩
  | .hbm, ⟨107, _⟩ => ⟨S128x128, .i32⟩
  | .hbm, ⟨108, _⟩ => ⟨S128x128, .i1⟩
  | .hbm, ⟨109, _⟩ => ⟨S128x128, .f32⟩
  | .hbm, ⟨110, _⟩ => ⟨S8x32x64x256, .bf16⟩
  | .hbm, ⟨111, _⟩ => ⟨S8x32x256x128, .bf16⟩
  | .hbm, ⟨112, _⟩ => ⟨S2x32x256x128, .bf16⟩
  | .hbm, ⟨113, _⟩ => ⟨S2x32x64x256, .bf16⟩
  | .hbm, ⟨114, _⟩ => ⟨S2x32x64x256, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S512x512, .f32⟩
  | .local _ .vmem, ⟨17, _⟩ => ⟨S128x128, .f32⟩
  | .local _ .vmem, ⟨18, _⟩ => ⟨S128x512, .f32⟩
  | .local _ .vmem, ⟨19, _⟩ => ⟨S128x128, .f32⟩
  | .local _ .vmem, ⟨20, _⟩ => ⟨S8x1x64x256, .bf16⟩
  | .local _ .vmem, ⟨21, _⟩ => ⟨S8x1x64x256, .bf16⟩
  | .local _ .vmem, ⟨22, _⟩ => ⟨S8x1x256x128, .bf16⟩
  | .local _ .vmem, ⟨23, _⟩ => ⟨S8x1x256x128, .bf16⟩
  | .local _ .vmem, ⟨24, _⟩ => ⟨S2x1x256x128, .bf16⟩
  | .local _ .vmem, ⟨25, _⟩ => ⟨S2x1x256x128, .bf16⟩
  | .local _ .vmem, ⟨26, _⟩ => ⟨S2x1x64x256, .bf16⟩
  | .local _ .vmem, ⟨27, _⟩ => ⟨S2x1x64x256, .bf16⟩
  | .local _ .vmem, ⟨28, _⟩ => ⟨S2x1x64x256, .bf16⟩
  | .local _ .vmem, ⟨29, _⟩ => ⟨S2x1x64x256, .bf16⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_c : Ref sig .tc := ⟨.hbm, 62, rfl⟩
abbrev main_call0_v0 : Ref sig .tc := ⟨.hbm, 63, rfl⟩
abbrev main_v54 : Ref sig .tc := ⟨.hbm, 64, rfl⟩
abbrev main_c_4 : Ref sig .tc := ⟨.hbm, 65, rfl⟩
abbrev main_call1_v0 : Ref sig .tc := ⟨.hbm, 66, rfl⟩
abbrev main_v55 : Ref sig .tc := ⟨.hbm, 67, rfl⟩
abbrev main_v56 : Ref sig .tc := ⟨.hbm, 68, rfl⟩
abbrev main_c_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c_7 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_c_8 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94_0 : Ref sig .tc := ⟨.hbm, 110, rfl⟩
abbrev main_v94_1 : Ref sig .tc := ⟨.hbm, 111, rfl⟩
abbrev main_v94_2 : Ref sig .tc := ⟨.hbm, 112, rfl⟩
abbrev main_v94_3 : Ref sig .tc := ⟨.hbm, 113, rfl⟩
abbrev main_v94_4 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x1x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1x64x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1x64x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepFwRefIdeal.lean ====
abbrev S8192x3328 : Shape := ⟨2, ![8192, 3328]⟩
abbrev S1x64 : Shape := ⟨2, ![1, 64]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x512 : Shape := ⟨2, ![8192, 512]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩
abbrev S8192x8x32 : Shape := ⟨3, ![8192, 8, 32]⟩
abbrev S8192x1x32 : Shape := ⟨3, ![8192, 1, 32]⟩
abbrev S8192x8x32x1 : Shape := ⟨4, ![8192, 8, 32, 1]⟩
abbrev S8192x8x32x2 : Shape := ⟨4, ![8192, 8, 32, 2]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S8192x2x32 : Shape := ⟨3, ![8192, 2, 32]⟩
abbrev S8192x2x32x1 : Shape := ⟨4, ![8192, 2, 32, 1]⟩
abbrev S8192x2x32x2 : Shape := ⟨4, ![8192, 2, 32, 2]⟩
abbrev S32x256x8x64 : Shape := ⟨4, ![32, 256, 8, 64]⟩
abbrev S8x32x64x256 : Shape := ⟨4, ![8, 32, 64, 256]⟩
abbrev S8x32x256x64 : Shape := ⟨4, ![8, 32, 256, 64]⟩
abbrev S8x32x256x128 : Shape := ⟨4, ![8, 32, 256, 128]⟩
abbrev S32x256x2x64 : Shape := ⟨4, ![32, 256, 2, 64]⟩
abbrev S2x32x256x64 : Shape := ⟨4, ![2, 32, 256, 64]⟩
abbrev S2x32x256x128 : Shape := ⟨4, ![2, 32, 256, 128]⟩
abbrev S2x32x64x256 : Shape := ⟨4, ![2, 32, 64, 256]⟩

abbrev nBuf : Space → Nat
  | .hbm => 137
  | .vmem => 0
  | .smem => 0
  | _ => 0

abbrev hbmTy0_0 (i : Nat) : BufTy := match i % 128 with
  | 0 => ⟨S8192x3328, .f32⟩
  | 1 => ⟨S1x64, .f32⟩
  | 2 => ⟨S1x64, .f32⟩
  | 3 => ⟨S128, .i32⟩
  | 4 => ⟨S128x64, .i32⟩
  | 5 => ⟨S8192, .i32⟩
  | 6 => ⟨S8192, .f32⟩
  | 7 => ⟨S64, .i32⟩
  | 8 => ⟨S1x64, .i32⟩
  | 9 => ⟨S128x64, .i32⟩
  | 10 => ⟨S8192, .i32⟩
  | 11 => ⟨S8192, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8192x1, .f32⟩
  | 27 => ⟨S1x16, .f32⟩
  | 28 => ⟨S8192x16, .f32⟩
  | 29 => ⟨S8192x16, .f32⟩
  | 30 => ⟨S8192x16, .f32⟩
  | 31 => ⟨S8192x1, .f32⟩
  | 32 => ⟨S1x16, .f32⟩
  | 33 => ⟨S8192x16, .f32⟩
  | 34 => ⟨S8192x16, .f32⟩
  | 35 => ⟨S8192x16, .f32⟩
  | 36 => ⟨S8192x32, .f32⟩
  | 37 => ⟨S8192x32, .f32⟩
  | 38 => ⟨S8192x32, .f32⟩
  | 39 => ⟨S8192x512, .f32⟩
  | 40 => ⟨S8192x8x64, .f32⟩
  | 41 => ⟨S8192x8x64, .f32⟩
  | 42 => ⟨S_, .f32⟩
  | 43 => ⟨S8192x8, .f32⟩
  | 44 => ⟨S8192x8x1, .f32⟩
  | 45 => ⟨S_, .f32⟩
  | 46 => ⟨S8192x8x1, .f32⟩
  | 47 => ⟨S8192x8x1, .f32⟩
  | 48 => ⟨S_, .f32⟩
  | 49 => ⟨S8192x8x1, .f32⟩
  | 50 => ⟨S8192x8x1, .f32⟩
  | 51 => ⟨S8192x8x1, .f32⟩
  | 52 => ⟨S8192x8x64, .f32⟩
  | 53 => ⟨S8192x8x64, .f32⟩
  | 54 => ⟨S1x1x64, .f32⟩
  | 55 => ⟨S8192x8x64, .f32⟩
  | 56 => ⟨S8192x8x64, .f32⟩
  | 57 => ⟨S8192x8x32, .f32⟩
  | 58 => ⟨S8192x8x32, .f32⟩
  | 59 => ⟨S8192x1x32, .f32⟩
  | 60 => ⟨S8192x1x32, .f32⟩
  | 61 => ⟨S8192x8x32, .f32⟩
  | 62 => ⟨S8192x8x32, .f32⟩
  | 63 => ⟨S8192x8x32, .f32⟩
  | 64 => ⟨S8192x8x32, .f32⟩
  | 65 => ⟨S8192x8x32, .f32⟩
  | 66 => ⟨S8192x8x32, .f32⟩
  | 67 => ⟨S8192x8x32, .f32⟩
  | 68 => ⟨S8192x8x32, .f32⟩
  | 69 => ⟨S8192x8x32, .f32⟩
  | 70 => ⟨S8192x8x32, .f32⟩
  | 71 => ⟨S8192x8x32x1, .f32⟩
  | 72 => ⟨S8192x8x32x1, .f32⟩
  | 73 => ⟨S8192x8x32x2, .f32⟩
  | 74 => ⟨S8192x8x64, .f32⟩
  | 75 => ⟨S_, .f32⟩
  | 76 => ⟨S8192x8x64, .f32⟩
  | 77 => ⟨S8192x8x64, .f32⟩
  | 78 => ⟨S8192x128, .f32⟩
  | 79 => ⟨S8192x2x64, .f32⟩
  | 80 => ⟨S8192x2x64, .f32⟩
  | 81 => ⟨S_, .f32⟩
  | 82 => ⟨S8192x2, .f32⟩
  | 83 => ⟨S8192x2x1, .f32⟩
  | 84 => ⟨S_, .f32⟩
  | 85 => ⟨S8192x2x1, .f32⟩
  | 86 => ⟨S8192x2x1, .f32⟩
  | 87 => ⟨S_, .f32⟩
  | 88 => ⟨S8192x2x1, .f32⟩
  | 89 => ⟨S8192x2x1, .f32⟩
  | 90 => ⟨S8192x2x1, .f32⟩
  | 91 => ⟨S8192x2x64, .f32⟩
  | 92 => ⟨S8192x2x64, .f32⟩
  | 93 => ⟨S1x1x64, .f32⟩
  | 94 => ⟨S8192x2x64, .f32⟩
  | 95 => ⟨S8192x2x64, .f32⟩
  | 96 => ⟨S8192x2x32, .f32⟩
  | 97 => ⟨S8192x2x32, .f32⟩
  | 98 => ⟨S8192x1x32, .f32⟩
  | 99 => ⟨S8192x1x32, .f32⟩
  | 100 => ⟨S8192x2x32, .f32⟩
  | 101 => ⟨S8192x2x32, .f32⟩
  | 102 => ⟨S8192x2x32, .f32⟩
  | 103 => ⟨S8192x2x32, .f32⟩
  | 104 => ⟨S8192x2x32, .f32⟩
  | 105 => ⟨S8192x2x32, .f32⟩
  | 106 => ⟨S8192x2x32, .f32⟩
  | 107 => ⟨S8192x2x32, .f32⟩
  | 108 => ⟨S8192x2x32, .f32⟩
  | 109 => ⟨S8192x2x32, .f32⟩
  | 110 => ⟨S8192x2x32x1, .f32⟩
  | 111 => ⟨S8192x2x32x1, .f32⟩
  | 112 => ⟨S8192x2x32x2, .f32⟩
  | 113 => ⟨S8192x2x64, .f32⟩
  | 114 => ⟨S8192x128, .f32⟩
  | 115 => ⟨S8192x2x64, .f32⟩
  | 116 => ⟨S32x256x8x64, .f32⟩
  | 117 => ⟨S8x32x64x256, .f32⟩
  | 118 => ⟨S8x32x64x256, .bf16⟩
  | 119 => ⟨S32x256x8x64, .f32⟩
  | 120 => ⟨S8x32x256x64, .f32⟩
  | 121 => ⟨S_, .i32⟩
  | 122 => ⟨S_, .f32⟩
  | 123 => ⟨S8x32x256x128, .f32⟩
  | 124 => ⟨S8x32x256x128, .bf16⟩
  | 125 => ⟨S32x256x2x64, .f32⟩
  | 126 => ⟨S2x32x256x64, .f32⟩
  | 127 => ⟨S_, .i32⟩
  | _ => ⟨S8192x3328, .f32⟩

abbrev hbmTy0_1 (i : Nat) : BufTy := match i % 128 with
  | 0 => ⟨S_, .f32⟩
  | 1 => ⟨S2x32x256x128, .f32⟩
  | 2 => ⟨S2x32x256x128, .bf16⟩
  | 3 => ⟨S32x256x2x64, .f32⟩
  | 4 => ⟨S2x32x64x256, .f32⟩
  | 5 => ⟨S2x32x64x256, .bf16⟩
  | 6 => ⟨S32x256x2x64, .f32⟩
  | 7 => ⟨S2x32x64x256, .f32⟩
  | 8 => ⟨S2x32x64x256, .bf16⟩
  | _ => ⟨S8192x3328, .f32⟩

abbrev hbmTy (i : Nat) : BufTy := match i / 128 with
  | 0 => hbmTy0_0 i
  | 1 => hbmTy0_1 i
  | _ => ⟨S8192x3328, .f32⟩

abbrev bufTy : (tb : Table) → Fin (tcTables nBuf tb) → BufTy
  | .hbm, ⟨i, _⟩ => hbmTy i
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_cst_9 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_c : Ref sig .tc := ⟨.hbm, 121, rfl⟩
abbrev main_call0_v0 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_c_10 : Ref sig .tc := ⟨.hbm, 127, rfl⟩
abbrev main_call1_v0 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩

abbrev nD : Nat := 1
abbrev τ : Topo := Topo.v7x

variable {F : FTy → Type} [FloatOps F]
-- ==== Proof.NormFwValue.lean ====
/- The first norm's forward call: its value claim. -/
module

public import proofs.«01_k».proof.Proof.Gen.NormFwIdeal.Value
public import proofs.«01_k».proof.Proof.Gen.NormFwRefIdeal.Run
public import proofs.«01_k».proof.Proof.Gen.NormFwRefIdeal.Read
public import proofs.«01_k».proof.Defs
public import Idealize.ShloMosaic.Lib.Pointwise
public import Idealize.ShloMosaic.Lib.Pipeline.ValueKit

@[expose] public section

set_option maxRecDepth 16384

noncomputable section

namespace Cert.NormFwIdeal.Sums

open Cert.NormFwIdeal Cert.NormFwIdeal.Gen Idealize.ShloMosaic Idealize.ShloMosaic.TcCoe Idealize.SL.Sem
open Cert.NormFwRefIdeal.Read

/-- A row of the normed block is the reference's row: the scale is the row's own. -/
theorem norm_at (X : FVec Ideal S8192x1024 .f32) (G : FVec Ideal S1x1024 .f32) (x : Vec Ideal S512x1024 .f32) (g : Vec Ideal S1x1024 .f32)
    (row : Fin 512 → Fin 8192) (hx : ∀ r k, x (ix2 r k) = X (ix2 (row r) k)) (hg : ∀ k, g (ix2 0 k) = G (ix2 0 k)) (r : Fin 512) (l : Fin 1024) :
    k0_pay1 x g (ix2 r l) = val_main_v12 (F := Ideal) X G (ix2 (row r) l) := by
  unfold_payloads
  pointwise [hx, hg, val_main_v12, val_main_v11, val_main_v10, val_main_v9, val_main_v8, val_main_v7, val_main_v6, val_main_v5, val_main_v4,
    val_main_v3, val_main_v2, val_main_v1, val_main_v0, val_main_cst, val_main_cst_0, val_main_cst_1]

variable (m : (ℓ : Loc nD τ sig) → Buf (Elt Ideal) ℓ) (c : Dev nD)

/-- Row `r` of block `t`. -/
def row (t : Fin cfg0.N) (r : Fin 512) : Fin 8192 := ⟨512 * t.val + r.val, by have : t.val < 16 := t.isLt; omega⟩

theorem idx : ∀ t : Fin cfg0.N, win0_0.index t = ![t.val, 0] ∧ win0_1.index t = ![0, 0] ∧ win0_2.index t = ![t.val, 0] :=
  (by decide +kernel : ∀ t : Fin grid0.N, _)

theorem blk_x (t : Fin cfg0.N) (r : Fin 512) (k : Fin 1024) :
    (iblk m c 0 t : Vec Ideal S512x1024 .f32) (ix2 r k) = m ((c : Thread nD τ).loc main_arg0) (ix2 (row t r) k) := by
  unfold iblk
  entry_read
  blk_ext [idx t, row]

theorem blk_g (t : Fin cfg0.N) (k : Fin 1024) :
    (iblk m c 1 t : Vec Ideal S1x1024 .f32) (ix2 0 k) = m ((c : Thread nD τ).loc main_arg1) (ix2 0 k) := by
  unfold iblk
  entry_read
  blk_ext [idx t]

/-- The reference's normed rows of the arguments in memory. -/
def h1 : FVec Ideal S8192x1024 .bf16 :=
  val_main_v12 (F := Ideal) (m ((c : Thread nD τ).loc main_arg0)) (m ((c : Thread nD τ).loc main_arg1))

theorem out_h1 (t : Fin cfg0.N) (r : Fin 512) (l : Fin 1024) : out0_2 (iblk m c 0 t) (iblk m c 1 t) (ix2 r l) = h1 m c (ix2 (row t r) l) := by
  unfold out0_2
  frame_out
  exact norm_at _ _ _ _ (row t) (blk_x m c t) (blk_g m c t) r l

theorem final_h1 : (dats m 0 c).arrAt 2 cfg0.N = h1 m c := by
  refine (dats m 0 c).arrAt_eq_of_covers 2 _ (by decide +kernel) fun t hf y => ?_
  blk_simp
  rw [after0_2]
  idx_vars y
  rw [out_h1]
  blk_ext [idx t, row]

/-- The call's run and the reference's end with equal results. -/
theorem algebraic : Cert.algebraic_NormFwIdeal_NormFwRefIdeal := by
  intro m g m' g' _ hag
  refine ⟨fun c => h1 m c, ?_, ?_⟩
  · refine (θ_run defs _ _).mono (fun r h c => ?_) (Value.run_blocks m g)
    obtain ⟨h2, h⟩ := h c
    exact ⟨h2.trans (final_h1 m c), h⟩
  · refine (θ_run Cert.NormFwRefIdeal.defs _ _).mono (fun r h c => ?_) (Cert.NormFwRefIdeal.Value.run m' g')
    obtain ⟨h2, h⟩ := h c
    obtain ⟨e0, e1⟩ := hag c
    refine ⟨h2.trans ?_, h⟩
    rw [val_main_v12_eq, e0, e1]; rfl

end Cert.NormFwIdeal.Sums

end
-- ==== Proof.OutFwValue.lean ====
/- The mixer's output projection with the residual and the second norm, forward: its value claim. -/
module

public import proofs.«01_k».proof.Proof.Gen.OutFwIdeal.Value
public import proofs.«01_k».proof.Proof.Gen.OutFwRefIdeal.Run
public import proofs.«01_k».proof.Proof.Gen.OutFwRefIdeal.Read
public import proofs.«01_k».proof.Defs
public import Idealize.ShloMosaic.Lib.Pointwise
public import Idealize.ShloMosaic.Lib.Pipeline.ValueKit

@[expose] public section

set_option maxRecDepth 16384

noncomputable section

namespace Cert.OutFwIdeal.Sums

open Cert.OutFwIdeal Cert.OutFwIdeal.Gen Idealize.ShloMosaic Idealize.ShloMosaic.TcCoe Idealize.SL.Sem
open Cert.OutFwRefIdeal.Read

section
variable (A : FVec Ideal S8192x1024 .f32) (W : FVec Ideal S1024x1024 .f32) (X : FVec Ideal S8192x1024 .f32) (G : FVec Ideal S1x1024 .f32)
  (a : Vec Ideal S512x1024 .bf16) (w : Vec Ideal S1024x1024 .bf16) (x : Vec Ideal S512x1024 .f32) (g : Vec Ideal S1x1024 .f32)
  (row : Fin 512 → Fin 8192) (ha : ∀ r k, a (ix2 r k) = A (ix2 (row r) k)) (hw : ∀ k l, w (ix2 k l) = W (ix2 k l))
  (hx : ∀ r k, x (ix2 r k) = X (ix2 (row r) k)) (hg : ∀ k, g (ix2 0 k) = G (ix2 0 k))

include ha hw hx in
/-- A row of the residual stream: the body adds the residual to the product, the reference the product to the residual. -/
theorem res_at (r : Fin 512) (l : Fin 1024) : k0_pay1 a w x (ix2 r l) = val_main_v1 (F := Ideal) A W X (ix2 (row r) l) := by
  unfold_payloads
  pointwise [ha, hw, hx, dot_S512x1024_S1024x1024_S512x1024_1_0_0_1_n_n,
    Cert.OutFwRefIdeal.dot_S8192x1024_S1024x1024_S8192x1024_1_0_0_1_n_n, val_main_v1, val_main_v0]
  ac_nf

include ha hw hx hg in
/-- That row normed. -/
theorem norm_at (r : Fin 512) (l : Fin 1024) : k0_pay2 a w x g (ix2 r l) = val_main_v14 (F := Ideal) A W X G (ix2 (row r) l) := by
  have h := res_at A W X a w x row ha hw hx r
  unfold k0_pay2
  generalize k0_pay1 a w x = P at h
  pointwise [h, hg, val_main_v14, val_main_v13, val_main_v12, val_main_v11, val_main_v10, val_main_v9, val_main_v8, val_main_v7, val_main_v6,
    val_main_v5, val_main_v4, val_main_v3, val_main_v2, val_main_cst, val_main_cst_0, val_main_cst_1]
end

variable (m : (ℓ : Loc nD τ sig) → Buf (Elt Ideal) ℓ) (c : Dev nD)

/-- Row `r` of block `t`. -/
def row (t : Fin cfg0.N) (r : Fin 512) : Fin 8192 := ⟨512 * t.val + r.val, by have : t.val < 16 := t.isLt; omega⟩

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem blk_a (t : Fin cfg0.N) (r : Fin 512) (k : Fin 1024) :
    (iblk m c 0 t : Vec Ideal S512x1024 .bf16) (ix2 r k) = m ((c : Thread nD τ).loc main_arg0) (ix2 (row t r) k) := by
  unfold iblk
  entry_read
  pointwise
  blk_ext [idx t, row]

theorem blk_w (t : Fin cfg0.N) (k l : Fin 1024) :
    (iblk m c 1 t : Vec Ideal S1024x1024 .bf16) (ix2 k l) = m ((c : Thread nD τ).loc main_arg1) (ix2 k l) := by
  unfold iblk
  entry_read
  pointwise
  blk_ext [idx t]

theorem blk_x (t : Fin cfg0.N) (r : Fin 512) (k : Fin 1024) :
    (iblk m c 2 t : Vec Ideal S512x1024 .f32) (ix2 r k) = m ((c : Thread nD τ).loc main_arg2) (ix2 (row t r) k) := by
  unfold iblk
  entry_read
  blk_ext [idx t, row]

theorem blk_g (t : Fin cfg0.N) (k : Fin 1024) :
    (iblk m c 3 t : Vec Ideal S1x1024 .f32) (ix2 0 k) = m ((c : Thread nD τ).loc main_arg3) (ix2 0 k) := by
  unfold iblk
  entry_read
  blk_ext [idx t]

/-- The reference's residual stream of the arguments in memory, -/
def x1 : FVec Ideal S8192x1024 .f32 :=
  val_main_v1 (F := Ideal) (m ((c : Thread nD τ).loc main_arg0)) (m ((c : Thread nD τ).loc main_arg1)) (m ((c : Thread nD τ).loc main_arg2))
/-- and its normed rows. -/
def h2 : FVec Ideal S8192x1024 .bf16 :=
  val_main_v14 (F := Ideal) (m ((c : Thread nD τ).loc main_arg0)) (m ((c : Thread nD τ).loc main_arg1)) (m ((c : Thread nD τ).loc main_arg2))
    (m ((c : Thread nD τ).loc main_arg3))

theorem out_x1 (t : Fin cfg0.N) (r : Fin 512) (l : Fin 1024) :
    out0_4 (iblk m c 0 t) (iblk m c 1 t) (iblk m c 2 t) (iblk m c 3 t) (ix2 r l) = x1 m c (ix2 (row t r) l) := by
  unfold out0_4
  frame_out
  exact res_at _ _ _ _ _ _ (row t) (blk_a m c t) (blk_w m c t) (blk_x m c t) r l

theorem out_h2 (t : Fin cfg0.N) (r : Fin 512) (l : Fin 1024) :
    out0_5 (iblk m c 0 t) (iblk m c 1 t) (iblk m c 2 t) (iblk m c 3 t) (ix2 r l) = h2 m c (ix2 (row t r) l) := by
  unfold out0_5
  frame_out
  exact norm_at _ _ _ _ _ _ _ _ (row t) (blk_a m c t) (blk_w m c t) (blk_x m c t) (blk_g m c t) r l

theorem final_x1 : (dats m 0 c).arrAt 4 cfg0.N = x1 m c := by
  refine (dats m 0 c).arrAt_eq_of_covers 4 _ (by decide +kernel) fun t hf y => ?_
  blk_simp
  rw [after0_4]
  idx_vars y
  rw [out_x1]
  blk_ext [idx t, row]

theorem final_h2 : (dats m 0 c).arrAt 5 cfg0.N = h2 m c := by
  refine (dats m 0 c).arrAt_eq_of_covers 5 _ (by decide +kernel) fun t hf y => ?_
  blk_simp
  rw [after0_5]
  idx_vars y
  rw [out_h2]
  blk_ext [idx t, row]

/-- The call's run and the reference's end with equal results. -/
theorem algebraic : Cert.algebraic_OutFwIdeal_OutFwRefIdeal := by
  intro m g m' g' _ hag
  refine ⟨fun c => x1 m c, fun c => h2 m c, ?_, ?_⟩
  · refine (θ_run defs _ _).mono (fun r h c => ?_) (Value.run_blocks m g)
    obtain ⟨h4, h5, h⟩ := h c
    exact ⟨h4.trans (final_x1 m c), h5.trans (final_h2 m c), h⟩
  · refine (θ_run Cert.OutFwRefIdeal.defs _ _).mono (fun r h c => ?_) (Cert.OutFwRefIdeal.Value.run m' g')
    obtain ⟨h4, h5, h⟩ := h c
    obtain ⟨e0, e1, e2, e3⟩ := hag c
    refine ⟨h4.trans ?_, h5.trans ?_, h⟩
    · rw [val_main_v1_eq, e0, e1, e2]; rfl
    · rw [val_main_v14_eq, e0, e1, e2, e3]; rfl

end Cert.OutFwIdeal.Sums

end
-- ==== Proof.ActFwValue.lean ====
/- The feed-forward's first products with the gate, forward: its value claim. -/
module

public import proofs.«01_k».proof.Proof.Gen.ActFwIdeal.Value
public import proofs.«01_k».proof.Proof.Gen.ActFwRefIdeal.Run
public import proofs.«01_k».proof.Proof.Gen.ActFwRefIdeal.Read
public import proofs.«01_k».proof.Defs
public import Idealize.ShloMosaic.Lib.Pointwise
public import Idealize.ShloMosaic.Lib.Pipeline.ValueKit

@[expose] public section

set_option maxRecDepth 16384

noncomputable section

namespace Cert.ActFwIdeal.Sums

open Cert.ActFwIdeal Cert.ActFwIdeal.Gen Idealize.ShloMosaic Idealize.ShloMosaic.TcCoe Idealize.SL.Sem
open Cert.ActFwRefIdeal.Read

/-- Column `k` of the gate's and of the value's among the weight's columns. -/
def lo (k : Fin 2816) : Fin 5632 := ⟨k.val, by omega⟩
def hi (k : Fin 2816) : Fin 5632 := ⟨2816 + k.val, by omega⟩

section
variable (H : FVec Ideal S8192x1024 .f32) (U : FVec Ideal S1024x5632 .f32)

theorem v1_at (R : Fin 8192) (k : Fin 2816) :
    val_main_v1 (F := Ideal) H U (ix2 R k) = ∑ d : Fin 1024, H (ix2 R d) * U (ix2 d (lo k)) := by
  unfold val_main_v1 val_main_v0
  pointwise [Cert.ActFwRefIdeal.dot_S8192x1024_S1024x5632_S8192x5632_1_0_0_1_n_n]
  rfl

theorem v2_at (R : Fin 8192) (k : Fin 2816) :
    val_main_v2 (F := Ideal) H U (ix2 R k) = ∑ d : Fin 1024, H (ix2 R d) * U (ix2 d (hi k)) := by
  unfold val_main_v2 val_main_v0
  pointwise [Cert.ActFwRefIdeal.dot_S8192x1024_S1024x5632_S8192x5632_1_0_0_1_n_n]
  rfl

variable (a : Vec Ideal S512x1024 .bf16) (w v : Vec Ideal S1024x1408 .bf16) (row : Fin 512 → Fin 8192) (col : Fin 1408 → Fin 2816)
  (ha : ∀ r k, a (ix2 r k) = H (ix2 (row r) k)) (hw : ∀ k l, w (ix2 k l) = U (ix2 k (lo (col l))))
  (hv : ∀ k l, v (ix2 k l) = U (ix2 k (hi (col l))))

include ha hw in
theorem gate_at (r : Fin 512) (l : Fin 1408) : k0_pay4 a w (ix3 0 r l) = val_main_v1 (F := Ideal) H U (ix2 (row r) (col l)) := by
  rw [v1_at]
  unfold_payloads
  pointwise [ha, hw, dot_S512x1024_S1024x1408_S512x1408_1_0_0_1_n_n]

include ha hv in
theorem value_at (r : Fin 512) (l : Fin 1408) : k0_pay5 a v (ix3 0 r l) = val_main_v2 (F := Ideal) H U (ix2 (row r) (col l)) := by
  rw [v2_at]
  unfold_payloads
  pointwise [ha, hv, dot_S512x1024_S1024x1408_S512x1408_1_0_0_1_n_n]

include ha hw hv in
/-- The gated columns: the gate's own sigmoid times the gate times the value. -/
theorem act_at (r : Fin 512) (l : Fin 1408) : k0_pay6 a w v (ix2 r l) = val_main_v8 (F := Ideal) H U (ix2 (row r) (col l)) := by
  unfold_payloads
  pointwise [ha, hw, hv, v1_at, v2_at, dot_S512x1024_S1024x1408_S512x1408_1_0_0_1_n_n, val_main_v8, val_main_v7, val_main_v6,
    val_main_call0_v0, val_main_call0_v1, val_main_call0_v2, val_main_call0_v3, val_main_call0_v4, val_main_call0_v5, val_main_call0_cst,
    val_main_call0_cst_0, Ideal.logistic]
end

/-- The stacked columns: the gate's first, the value's second. -/
theorem v5_0 (H : FVec Ideal S8192x1024 .f32) (U : FVec Ideal S1024x5632 .f32) (R : Fin 8192) (k : Fin 2816) :
    val_main_v5 (F := Ideal) H U (ix3 0 R k) = val_main_v1 (F := Ideal) H U (ix2 R k) := by
  unfold val_main_v5 val_main_v4 val_main_v3
  pointwise

theorem v5_1 (H : FVec Ideal S8192x1024 .f32) (U : FVec Ideal S1024x5632 .f32) (R : Fin 8192) (k : Fin 2816) :
    val_main_v5 (F := Ideal) H U (ix3 1 R k) = val_main_v2 (F := Ideal) H U (ix2 R k) := by
  unfold val_main_v5 val_main_v4 val_main_v3
  pointwise

variable (m : (ℓ : Loc nD τ sig) → Buf (Elt Ideal) ℓ) (c : Dev nD)

/-- Row `r` of the point's strip and column `l` of its half. -/
def row (n : ℕ) (r : Fin 512) : Fin 8192 := ⟨512 * (n % 16) + r.val, by omega⟩
def col (n : ℕ) (h : n < 32) (l : Fin 1408) : Fin 2816 := ⟨1408 * (n / 16) + l.val, by omega⟩

theorem idx : ∀ t : Fin cfg0.N, win0_0.index t = ![t.val % 16, 0] ∧ win0_1.index t = ![0, t.val / 16] ∧ win0_2.index t = ![0, t.val / 16 + 2]
    ∧ win0_3.index t = ![0, t.val % 16, t.val / 16] ∧ win0_4.index t = ![t.val % 16, t.val / 16] := by decide +kernel

theorem blk_a (t : Fin cfg0.N) (r : Fin 512) (k : Fin 1024) :
    (iblk m c 0 t : Vec Ideal S512x1024 .bf16) (ix2 r k) = m ((c : Thread nD τ).loc main_arg0) (ix2 (row t.val r) k) := by
  unfold iblk
  entry_read
  pointwise
  blk_ext [idx t, row]

theorem blk_w (t : Fin cfg0.N) (ht : t.val < 32) (k : Fin 1024) (l : Fin 1408) :
    (iblk m c 1 t : Vec Ideal S1024x1408 .bf16) (ix2 k l) = m ((c : Thread nD τ).loc main_arg1) (ix2 k (lo (col t.val ht l))) := by
  unfold iblk
  entry_read
  pointwise
  blk_ext [idx t, lo, col]

theorem blk_v (t : Fin cfg0.N) (ht : t.val < 32) (k : Fin 1024) (l : Fin 1408) :
    (iblk m c 2 t : Vec Ideal S1024x1408 .bf16) (ix2 k l) = m ((c : Thread nD τ).loc main_arg1) (ix2 k (hi (col t.val ht l))) := by
  unfold iblk
  entry_read
  pointwise
  blk_ext [idx t, hi, col]

/-- The reference's stacked columns of the arguments in memory, -/
def gu : FVec Ideal S2x8192x2816 .f32 := val_main_v5 (F := Ideal) (m ((c : Thread nD τ).loc main_arg0)) (m ((c : Thread nD τ).loc main_arg1))
/-- and the gated ones. -/
def act : FVec Ideal S8192x2816 .bf16 := val_main_v8 (F := Ideal) (m ((c : Thread nD τ).loc main_arg0)) (m ((c : Thread nD τ).loc main_arg1))

/-- One of the two halves of a block. -/
theorem tile {e : EltTy} {h c : Fin 2} {r : Fin 512} {l : Fin 1408} (P : (⟨3, ![1, 512, 1408]⟩ : Shape).Idx → Elt Ideal e)
    (val : Fin 2 → Fin 512 → Fin 1408 → Elt Ideal e) (hP : ∀ r l, P (ix3 0 r l) = val c r l) :
    View.TileAt (S := S2x512x1408) (Val := Elt Ideal) (e := e) (ix3 h r l) ![c.val, 0, 0] ![1, 512, 1408] P (val h r l) := by
  intro x hx
  have h0 := hx 0
  have h1 := hx 1
  have h2 := hx 2
  have b0 := (x 0).isLt
  simp at h0 h1 h2 b0
  have e : x = ix3 0 r l := by
    funext i
    apply Fin.ext
    fin_cases i <;> simp <;> omega
  have en : h = c := Fin.ext (by omega)
  rw [e, en]
  exact hP r l

theorem out_gu (t : Fin cfg0.N) (ht : t.val < 32) (h : Fin 2) (r : Fin 512) (l : Fin 1408) :
    out0_3 (iblk m c 0 t) (iblk m c 1 t) (iblk m c 2 t) (ix3 h r l) = gu m c (ix3 h (row t.val r) (col t.val ht l)) := by
  unfold out0_3
  frame_out
  refine View.canon_eq_of_allAt _ _ _ (View.cover_of_tiled_head _ _ _ rfl _) ?_
  refine View.allAt_cons_unit _ _ _ _ _ (tile (e := .f32) (h := h) (c := 1) (r := r) (l := l) _ (fun h r l => gu m c (ix3 h (row t.val r) (col t.val ht l))) fun r l =>
    (value_at _ _ _ _ (row t.val) (col t.val ht) (blk_a m c t) (blk_v m c t ht) r l).trans (v5_1 _ _ _ _).symm) ?_
  exact View.allAt_cons_unit _ _ _ _ _ (tile (e := .f32) (h := h) (c := 0) (r := r) (l := l) _ (fun h r l => gu m c (ix3 h (row t.val r) (col t.val ht l))) fun r l =>
    (gate_at _ _ _ _ (row t.val) (col t.val ht) (blk_a m c t) (blk_w m c t ht) r l).trans (v5_0 _ _ _ _).symm) (View.allAt_nil _ _)

theorem out_act (t : Fin cfg0.N) (ht : t.val < 32) (r : Fin 512) (l : Fin 1408) :
    out0_4 (iblk m c 0 t) (iblk m c 1 t) (iblk m c 2 t) (ix2 r l) = act m c (ix2 (row t.val r) (col t.val ht l)) := by
  unfold out0_4
  frame_out
  exact act_at _ _ _ _ _ (row t.val) (col t.val ht) (blk_a m c t) (blk_w m c t ht) (blk_v m c t ht) r l

theorem final_gu : (dats m 0 c).arrAt 3 cfg0.N = gu m c := by
  refine (dats m 0 c).arrAt_eq_of_covers 3 _ (by decide +kernel) fun t hf y => ?_
  have ht : t.val < 32 := t.isLt
  blk_simp
  rw [after0_3]
  idx_vars y
  rw [out_gu m c t ht]
  unfold row col
  blk_ext [idx t]

theorem final_act : (dats m 0 c).arrAt 4 cfg0.N = act m c := by
  refine (dats m 0 c).arrAt_eq_of_covers 4 _ (by decide +kernel) fun t hf y => ?_
  have ht : t.val < 32 := t.isLt
  blk_simp
  rw [after0_4]
  idx_vars y
  rw [out_act m c t ht]
  unfold row col
  blk_ext [idx t]

/-- The call's run and the reference's end with equal results. -/
theorem algebraic : Cert.algebraic_ActFwIdeal_ActFwRefIdeal := by
  intro m g m' g' _ hag
  refine ⟨fun c => gu m c, fun c => act m c, ?_, ?_⟩
  · refine (θ_run defs _ _).mono (fun r h c => ?_) (Value.run_blocks m g)
    obtain ⟨h3, h4, h⟩ := h c
    exact ⟨h3.trans (final_gu m c), h4.trans (final_act m c), h⟩
  · refine (θ_run Cert.ActFwRefIdeal.defs _ _).mono (fun r h c => ?_) (Cert.ActFwRefIdeal.Value.run m' g')
    obtain ⟨h3, h4, h⟩ := h c
    obtain ⟨e0, e1⟩ := hag c
    refine ⟨h3.trans ?_, h4.trans ?_, h⟩
    · rw [val_main_v5_eq, e0, e1]; rfl
    · rw [val_main_v8_eq, e0, e1]; rfl

end Cert.ActFwIdeal.Sums

end
-- ==== Proof.MixFwValue.lean ====
/- The mixer's end, forward: each head of the recurrences' sum normed and gated, the attention's output normed, side by side. Its value
   claim. -/
module

public import proofs.«01_k».proof.Proof.Gen.MixFwIdeal.Value
public import proofs.«01_k».proof.Proof.Gen.MixFwRefIdeal.Run
public import proofs.«01_k».proof.Proof.Gen.MixFwRefIdeal.Read
public import proofs.«01_k».proof.Defs
public import Idealize.ShloMosaic.Lib.Pointwise
public import Idealize.ShloMosaic.Lib.Pipeline.ValueKit

@[expose] public section

set_option maxRecDepth 16384

noncomputable section

namespace Cert.MixFwIdeal.Sums

open Cert.MixFwIdeal Cert.MixFwIdeal.Gen Idealize.ShloMosaic Idealize.ShloMosaic.TcCoe Idealize.SL.Sem
open Cert.MixFwRefIdeal.Read

/-- Lane `d` of head `h` of the recurrence, and of the attention; the gate's columns among the projection's; the two halves. -/
def col (h : Fin 4) (d : Fin 128) : Fin 512 := ⟨128 * h.val + d.val, by omega⟩
def wide (h : Fin 8) (d : Fin 64) : Fin 512 := ⟨64 * h.val + d.val, by omega⟩
def gcol (l : Fin 512) : Fin 3328 := ⟨2048 + l.val, by omega⟩
def lo (l : Fin 512) : Fin 1024 := ⟨l.val, by omega⟩
def hi (l : Fin 512) : Fin 1024 := ⟨512 + l.val, by omega⟩

section
variable (x0 x1 : FVec Ideal S8192x512 .f32) (x2 : FVec Ideal S8192x3328 .f32) (x3 : FVec Ideal S8192x512 .f32)
  (x4 : FVec Ideal S1x128 .f32) (x5 : FVec Ideal S1x512 .f32)

/-- The reference's per-head views of its arrays. -/
theorem v2_at (R : Fin 8192) (h : Fin 4) (d : Fin 128) :
    val_main_v2 (F := Ideal) x0 x1 (ix3 R h d) = x0 (ix2 R (col h d)) + x1 (ix2 R (col h d)) := by
  unfold val_main_v2 val_main_v1
  pointwise
  congr 2 <;> (congr 1; apply Fin.ext; simp only [col]; omega)

theorem v16_at (R : Fin 8192) (h : Fin 4) (d : Fin 128) :
    val_main_v16 (F := Ideal) x2 (ix3 R h d) = x2 (ix2 R (gcol (col h d))) := by
  unfold val_main_v16 val_main_v0
  pointwise
  congr 2; apply Fin.ext; simp only [col, gcol]; omega

theorem v33_lo (R : Fin 8192) (h : Fin 4) (d : Fin 128) :
    val_main_v33 (F := Ideal) x0 x1 x2 x3 x4 x5 (ix2 R (lo (col h d))) = val_main_v18 (F := Ideal) x0 x1 x2 x4 (ix3 R h d) := by
  have hl : (lo (col h d)).val < 512 := (col h d).isLt
  unfold val_main_v33 val_main_v32 val_main_v19
  pointwise
  rw [dif_pos hl]
  congr 1
  funext a
  apply Fin.ext
  fin_cases a <;> simp [lo, col] <;> omega

theorem v33_hi (R : Fin 8192) (l : Fin 512) :
    val_main_v33 (F := Ideal) x0 x1 x2 x3 x4 x5 (ix2 R (hi l)) = val_main_v31 (F := Ideal) x3 x5 (ix2 R l) := by
  have hl : ¬(hi l).val < 512 := by show ¬(512 + l.val < 512); omega
  unfold val_main_v33 val_main_v32
  pointwise
  rw [dif_neg hl]
  congr 1
  funext a
  apply Fin.ext
  fin_cases a <;> simp [hi]

variable (a b g : Vec Ideal S256x512 .f32) (ot : Vec Ideal S8x1x64x256 .f32)
  (wh : Vec Ideal S1x128 .f32) (wa : Vec Ideal S1x512 .f32) (row : Fin 256 → Fin 8192)
  (ha : ∀ r l, a (ix2 r l) = x0 (ix2 (row r) l)) (hb : ∀ r l, b (ix2 r l) = x1 (ix2 (row r) l))
  (hg : ∀ r l, g (ix2 r l) = x2 (ix2 (row r) (gcol l)))
  (ho : ∀ h r d, ot (ix4 h 0 d r) = x3 (ix2 (row r) (wide h d)))
  (hh : ∀ k, wh (ix2 0 k) = x4 (ix2 0 k)) (hw : ∀ k, wa (ix2 0 k) = x5 (ix2 0 k))

/-- Four heads side by side, read in one head's lanes. -/
theorem heads_apply (A B C D : FVec Ideal S256x128 .f32) (hc) (r : Fin 256) (h : Fin 4) (d : Fin 128) :
    concatenate S256x512 1 [⟨S256x128, A⟩, ⟨S256x128, B⟩, ⟨S256x128, C⟩, ⟨S256x128, D⟩] hc (ix2 r (col h d)) = (![A, B, C, D] h) (ix2 r d) := by
  have P := concatenate_apply_piece (t := S256x512) 1 [⟨S256x128, A⟩, ⟨S256x128, B⟩, ⟨S256x128, C⟩, ⟨S256x128, D⟩] hc (ix2 r (col h d))
  have off : ∀ b : Fin 2, b ≠ 1 → ((ix2 r d : S256x128.Idx) b).val = ((ix2 r (col h d) : S256x512.Idx) b).val := fun b hb => by
    fin_cases b
    · rfl
    · exact absurd rfl hb
  fin_cases h
  · exact P 0 (by simp) _ A rfl rfl 0 rfl (ix2 r d) off (by show 0 + d.val = 128 * 0 + d.val; omega)
  · exact P 1 (by simp) _ B rfl rfl 128 rfl (ix2 r d) off (by show 128 + d.val = 128 * 1 + d.val; omega)
  · exact P 2 (by simp) _ C rfl rfl 256 rfl (ix2 r d) off (by show 256 + d.val = 128 * 2 + d.val; omega)
  · exact P 3 (by simp) _ D rfl rfl 384 rfl (ix2 r d) off (by show 384 + d.val = 128 * 3 + d.val; omega)

include ha hb hg hh in
/-- One head's lanes, normed and gated. -/
theorem head_at (r : Fin 256) (h : Fin 4) (d : Fin 128) :
    k0_pay7 g wh (k0_pay3 a b) (k0_pay4 a b wh) (k0_pay5 a b) (k0_pay6 a b) (ix2 r (col h d))
      = val_main_v18 (F := Ideal) x0 x1 x2 x4 (ix3 (row r) h d) := by
  unfold k0_pay7
  obtain rfl | rfl | rfl | rfl : h = 0 ∨ h = 1 ∨ h = 2 ∨ h = 3 := by omega
  all_goals
    unfold_payloads
    pointwise [heads_apply, ha, hb, hg, hh, v2_at, v16_at, val_main_v18, val_main_v17, val_main_v15, val_main_v14, val_main_v13, val_main_v12, val_main_v11,
      val_main_v10, val_main_v9, val_main_v8, val_main_v7, val_main_v6, val_main_v5, val_main_v4, val_main_v3, val_main_cst, val_main_cst_0,
      val_main_cst_1, val_main_call0_v0, val_main_call0_v1, val_main_call0_v2, val_main_call0_v3, val_main_call0_v4, val_main_call0_v5,
      val_main_call0_cst, val_main_call0_cst_0, Ideal.logistic, col]
    try simp [show ¬(256 + d.val < 128) by omega, show ¬(256 + d.val - 128 < 128) by omega, show 256 + d.val - 128 - 128 = d.val by omega,
      show ¬(384 + d.val < 128) by omega, show ¬(384 + d.val - 128 < 128) by omega, show ¬(384 + d.val - 128 - 128 < 128) by omega,
      show 384 + d.val - 128 - 128 - 128 = d.val by omega]

include ho in
/-- The attention's output, put together again from its tiles. -/
theorem att_at (r : Fin 256) (l : Fin 512) : k0_pay2 ot (ix2 r l) = x3 (ix2 (row r) l) := by
  obtain ⟨h, d, rfl⟩ : ∃ h d, l = wide h d :=
    ⟨⟨l.val / 64, by omega⟩, ⟨l.val % 64, by omega⟩, Fin.ext (by show l.val = 64 * (l.val / 64) + l.val % 64; omega)⟩
  rw [← ho]
  unfold_payloads
  pointwise
  have e : (wide h d).val = 64 * h.val + d.val := rfl
  have hq : ∀ {p p' : Fin 8} {q q' : Fin 64}, p.val = p'.val → q.val = q'.val → ot (ix4 p 0 q r) = ot (ix4 p' 0 q' r) := by
    intro p p' q q' h1 h2; rw [Fin.ext h1, Fin.ext h2]
  split_ifs <;> (refine hq ?_ ?_ <;> first | omega | (simp; omega) | (simp only [Fin.val_ofNat]; omega))

include ho hw in
/-- The right half of the block: the attention's output normed. -/
theorem right_at (A : FVec Ideal S256x512 .f32) (r : Fin 256) (l : Fin 512) :
    k0_pay1 wa (k0_pay2 ot) A (k0_pay8 (k0_pay2 ot)) (ix2 r (hi l)) = val_main_v31 (F := Ideal) x3 x5 (ix2 (row r) l) := by
  have hl : ¬(hi l).val < 512 := by show ¬(512 + l.val < 512); omega
  have el : ∀ h, (⟨(hi l).val - 512, h⟩ : Fin 512) = l := fun h => Fin.ext (by show 512 + l.val - 512 = l.val; omega)
  unfold k0_pay1 k0_pay8
  pointwise [att_at x3 ot row ho, hw, hl, el, val_main_v31, val_main_v30, val_main_v29, val_main_v28, val_main_v27, val_main_v26, val_main_v25, val_main_v24,
    val_main_v23, val_main_v22, val_main_v21, val_main_v20, val_main_cst_2, val_main_cst_3, val_main_cst_4]

/-- The left half of the block: the gated heads. -/
theorem left_at (B : FVec Ideal S256x512 .f32) (C : FVec Ideal S256x1 .f32) (A : FVec Ideal S256x512 .f32) (r : Fin 256) (l : Fin 512) :
    k0_pay1 wa B A C (ix2 r (lo l)) = A (ix2 r l) := by
  have hl : (lo l).val < 512 := l.isLt
  have el : ∀ h, (⟨(lo l).val, h⟩ : Fin 512) = l := fun h => rfl
  unfold k0_pay1
  pointwise [hl, el]
end

variable (m : (ℓ : Loc nD τ sig) → Buf (Elt Ideal) ℓ) (c : Dev nD)

/-- Row `r` of block `t`. -/
def row (t : Fin cfg0.N) (r : Fin 256) : Fin 8192 := ⟨256 * t.val + r.val, by have : t.val < 32 := t.isLt; omega⟩

/-- The block's number among the tiles. -/
def pt (t : Fin cfg0.N) : Fin 32 := ⟨t.val, t.isLt⟩

theorem idx : ∀ t : Fin cfg0.N, win0_0.index t = ![t.val, 0] ∧ win0_1.index t = ![t.val, 0] ∧ win0_2.index t = ![t.val, 4]
    ∧ win0_3.index t = ![0, t.val, 0, 0] ∧ win0_4.index t = ![0, 0] ∧ win0_5.index t = ![0, 0] ∧ win0_6.index t = ![t.val, 0] :=
  (by decide +kernel : ∀ t : Fin grid0.N, _)

theorem blk_0 (t : Fin cfg0.N) (r : Fin 256) (k : Fin 512) :
    (iblk m c 0 t : Vec Ideal S256x512 .f32) (ix2 r k) = m ((c : Thread nD τ).loc main_arg0) (ix2 (row t r) k) := by
  unfold iblk
  entry_read
  blk_ext [idx t, row]

theorem blk_1 (t : Fin cfg0.N) (r : Fin 256) (k : Fin 512) :
    (iblk m c 1 t : Vec Ideal S256x512 .f32) (ix2 r k) = m ((c : Thread nD τ).loc main_arg1) (ix2 (row t r) k) := by
  unfold iblk
  entry_read
  blk_ext [idx t, row]

theorem blk_2 (t : Fin cfg0.N) (r : Fin 256) (k : Fin 512) :
    (X0_2 m c t : Vec Ideal S256x512 .f32) (ix2 r k) = m ((c : Thread nD τ).loc main_arg2) (ix2 (row t r) (gcol k)) := by
  unfold X0_2 Pipeline.Window.fill
  rw [dif_pos (moved0_2 t _)]
  unfold iblk
  entry_read
  blk_ext [idx t, row, gcol]

theorem read_3 (t : Fin cfg0.N) (X : Vec Ideal S8x32x64x256 .f32) (h : Fin 8) (d : Fin 64) (r : Fin 256) :
    View.read (Elt Ideal) ((cfg0.win 3).blk t).view X (ix4 h 0 d r) = X (ix4 h (pt t) d r) := by
  blk_ext [idx t, pt]

theorem blk_3 (t : Fin cfg0.N) (h : Fin 8) (r : Fin 256) (d : Fin 64) :
    (iblk m c 3 t : Vec Ideal S8x1x64x256 .f32) (ix4 h 0 d r) = m ((c : Thread nD τ).loc main_arg3) (ix2 (row t r) (wide h d)) := by
  unfold iblk
  entry_read
  refine (read_3 t _ h d r).trans ?_
  pointwise
  refine congrArg (m ((c : Thread nD τ).loc main_arg3)) ?_
  congr 1 <;> (apply Fin.ext; simp [row, wide, pt]; omega)

theorem blk_4 (t : Fin cfg0.N) (k : Fin 128) :
    (iblk m c 4 t : Vec Ideal S1x128 .f32) (ix2 0 k) = m ((c : Thread nD τ).loc main_arg4) (ix2 0 k) := by
  unfold iblk
  entry_read
  blk_ext [idx t, row]

theorem blk_5 (t : Fin cfg0.N) (k : Fin 512) :
    (iblk m c 5 t : Vec Ideal S1x512 .f32) (ix2 0 k) = m ((c : Thread nD τ).loc main_arg5) (ix2 0 k) := by
  unfold iblk
  entry_read
  blk_ext [idx t, row]

/-- The reference's mixed rows of the arguments in memory. -/
def mix : FVec Ideal S8192x1024 .bf16 :=
  val_main_v33 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem lane_cover (l : Fin 512) : ∃ h d, l = col h d :=
  ⟨⟨l.val / 128, by omega⟩, ⟨l.val % 128, by omega⟩, Fin.ext (by show l.val = 128 * (l.val / 128) + l.val % 128; omega)⟩

theorem half_cover (k : Fin 1024) : (∃ l, k = lo l) ∨ ∃ l, k = hi l := by
  by_cases h : k.val < 512
  · exact .inl ⟨⟨k.val, h⟩, rfl⟩
  · exact .inr ⟨⟨k.val - 512, by omega⟩, Fin.ext (by show k.val = 512 + (k.val - 512); omega)⟩

theorem out_mix (t : Fin cfg0.N) (r : Fin 256) (k : Fin 1024) : outsAt0 m c t (ix2 r k) = mix m c (ix2 (row t r) k) := by
  unfold mix
  obtain ⟨l, rfl⟩ | ⟨l, rfl⟩ := half_cover k
  · obtain ⟨h, d, rfl⟩ := lane_cover l
    rw [v33_lo]
    unfold outsAt0
    frame_out
    refine (left_at _ _ _ _ r (col h d)).trans ?_
    exact head_at _ _ _ _ _ _ _ _ (row t) (blk_0 m c t) (blk_1 m c t) (blk_2 m c t) (blk_4 m c t) r h d
  · rw [v33_hi]
    unfold outsAt0
    frame_out
    exact right_at _ _ _ _ (row t) (blk_3 m c t) (blk_5 m c t) _ r l

theorem final_mix : (dats m 0 c).arrAt 6 cfg0.N = (mix m c : S8192x1024.Idx → EReal) := by
  refine (dats m 0 c).arrAt_eq_of_covers 6 _ (by decide +kernel) fun t hf y => ?_
  blk_simp
  rw [after0_6]
  idx_vars y
  rw [out_mix]
  blk_ext [idx t, row]

/-- The call's run and the reference's end with equal results. -/
theorem algebraic : Cert.algebraic_MixFwIdeal_MixFwRefIdeal := by
  intro m g m' g' _ hag
  refine ⟨fun c => mix m c, ?_, ?_⟩
  · refine (θ_run defs _ _).mono (fun r h c => ?_) (Value.run_blocks m g)
    obtain ⟨h6, h⟩ := h c
    exact ⟨h6.trans (final_mix m c), h⟩
  · refine (θ_run Cert.MixFwRefIdeal.defs _ _).mono (fun r h c => ?_) (Cert.MixFwRefIdeal.Value.run m' g')
    obtain ⟨h6, h⟩ := h c
    obtain ⟨e0, e1, e2, e3, e4, e5⟩ := hag c
    refine ⟨h6.trans ?_, h⟩
    rw [val_main_v33_eq, e0, e1, e2, e3, e4, e5]; rfl

end Cert.MixFwIdeal.Sums

end
-- ==== Proof.PrepRun.lean ====
module

public import proofs.«01_k».proof.Proof.Gen.PrepDxIdeal.Frame
public import Idealize.ShloMosaic.Lib.VecWindow
public import proofs.«01_k».proof.Proof.Gen.PrepDxIdeal.Skeleton

/-!
  # Rotary preparation, backward: the run of one grid point

  The body loads its fifteen input blocks, computes three gradient blocks and two rows of column sums, and stores
  them.  The two rows are running sums over the grid points: the first point starts them from zero.

  This module names what each store leaves as a function of the loaded blocks and runs the body once, from any
  staging buffers, to exactly these contents.
-/

@[expose] public section

set_option maxRecDepth 16384

noncomputable section

namespace Cert.PrepDxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PrepDxIdeal Cert.PrepDxIdeal.Gen

variable {F : FTy → Type} [FloatOps F]

local notation "𝕄" => MT nD τ sig Unit (Elt F) ℕ (UR sig nD τ) ℕ

section Outputs

variable (x0 : Vec F S256x512 .f32)
variable (x1 : Vec F S256x128 .f32)
variable (x2 : Vec F S256x512 .f32)
variable (x3 : Vec F S256x512 .f32)
variable (x4 : Vec F S256x128 .f32)
variable (x5 : Vec F S256x128 .f32)
variable (x6 : Vec F S8x1x64x256 .f32)
variable (x7 : Vec F S2x1x64x256 .f32)
variable (x8 : Vec F S2x1x64x256 .f32)
variable (x9 : Vec F S1x128 .f32)
variable (x10 : Vec F S1x128 .f32)
variable (x11 : Vec F S512x512 .f32)
variable (x12 : Vec F S128x128 .f32)
variable (x13 : Vec F S128x512 .f32)
variable (x14 : Vec F S128x128 .f32)

/-- The cotangent of the normalised, weighted query rows: the rotation undone. -/
abbrev dyQ := k0_pay38 (k0_pay5 x2) (k0_pay6 x3) (k0_pay23 (k0_pay22 (k0_pay12 x9) x13) (Scalar.ofBits .f32 0x3E000000#32))
  (k0_pay30 (k0_pay9 x6) (k0_pay29 (k0_pay9 x6)))

/-- The block of the query gradient. -/
def outQ : Vec F S256x512 .bf16 :=
  k0_pay46 x0 (k0_pay14 x11) (k0_pay19 x0 (k0_pay14 x11)) (k0_pay20 x0 (k0_pay14 x11)) (dyQ x2 x3 x6 x9 x13)

/-- The key rows' cotangent after the rotation. -/
abbrev roK := k0_pay31 (k0_pay7 x4) (k0_pay8 x5) (k0_pay10 x7)

/-- The block of the key gradient. -/
def outK : Vec F S256x128 .bf16 :=
  k0_pay47 (k0_pay36 x1
    (k0_pay34 x1 (k0_pay15 x12) (k0_pay26 x1 (k0_pay15 x12)) (k0_pay28 (k0_pay13 x10) (k0_pay17 x14)) (roK x4 x5 x7))
    (k0_pay35 x1 (k0_pay15 x12) (k0_pay25 x1 (k0_pay15 x12)) (k0_pay26 x1 (k0_pay15 x12))
      (k0_pay28 (k0_pay13 x10) (k0_pay17 x14)) (roK x4 x5 x7)))

/-- The block of the value gradient. -/
def outV : Vec F S256x128 .bf16 := k0_pay48 (k0_pay11 x8)

/-- What one point adds to the gradient of the query norm's weight. -/
abbrev rowQ := k0_pay45 (k0_pay16 x13)
  (k0_pay40 (k0_pay5 x2) (k0_pay6 x3) (k0_pay21 x0 (k0_pay14 x11)) (k0_pay30 (k0_pay9 x6) (k0_pay29 (k0_pay9 x6))))
  (k0_pay42 (k0_pay5 x2) (k0_pay6 x3) (k0_pay21 x0 (k0_pay14 x11)) (k0_pay30 (k0_pay9 x6) (k0_pay29 (k0_pay9 x6))))
  (k0_pay43 (k0_pay5 x2) (k0_pay6 x3) (k0_pay21 x0 (k0_pay14 x11)) (k0_pay30 (k0_pay9 x6) (k0_pay29 (k0_pay9 x6))))
  (k0_pay44 (k0_pay16 x13))

/-- What one point adds to the gradient of the key norm's weight. -/
abbrev rowK := k0_pay33 (k0_pay17 x14) (k0_pay27 x1 (k0_pay15 x12)) (roK x4 x5 x7)

/-- The running gradient of the query norm's weight after a point, from the one before it. -/
def outWQ (y : Vec F S1x128 .f32) : Vec F S1x128 .f32 := k0_pay3 (rowQ x0 x2 x3 x6 x11 x13) y

/-- The running gradient of the key norm's weight after a point, from the one before it. -/
def outWK (y : Vec F S1x128 .f32) : Vec F S1x128 .f32 := k0_pay4 (rowK x1 x4 x5 x7 x12 x14) y

end Outputs

/-- The test for the first point of the grid. -/
abbrev isFirst (i : grid0.Coords) : Prop :=
  (Scalar.cmpi .ne (Scalar.extui (Scalar.cmpi .eq (BitVec.ofNat 32 (i 0).val) 0#32)) 0#32) = 1#1

/-- What a load of a whole staging buffer reads. -/
abbrev loaded {s : Shape} {e : EltTy} (a : Memref sig .tc .vmem s e) (h : a.IsWhole) (x : Vec F s e)
    (off : Fin s.rank → ℕ) (inb : ∀ k, off k + s.size k ≤ s.size k) :=
  View.readAt (Elt F) a.view (Rect.unit off s.size inb).toLoadRect (h.unread x)

theorem loaded_eq {s : Shape} {e : EltTy} (a : Memref sig .tc .vmem s e) (h : a.IsWhole) (x : Vec F s e)
    (off : Fin s.rank → ℕ) (inb : ∀ k, off k + s.size k ≤ s.size k) : loaded a h x off inb = x :=
  (View.readAt_full _ _ _).trans (h.read_unread _)

section Body

variable (c : Dev nD) (i : grid0.Coords)
variable (arg1 : Memref sig .tc .vmem S256x512 .f32) (harg1 : arg1.IsWhole)
variable (arg2 : Memref sig .tc .vmem S256x128 .f32) (harg2 : arg2.IsWhole)
variable (arg3 : Memref sig .tc .vmem S256x512 .f32) (harg3 : arg3.IsWhole)
variable (arg4 : Memref sig .tc .vmem S256x512 .f32) (harg4 : arg4.IsWhole)
variable (arg5 : Memref sig .tc .vmem S256x128 .f32) (harg5 : arg5.IsWhole)
variable (arg6 : Memref sig .tc .vmem S256x128 .f32) (harg6 : arg6.IsWhole)
variable (arg7 : Memref sig .tc .vmem S8x1x64x256 .f32) (harg7 : arg7.IsWhole)
variable (arg8 : Memref sig .tc .vmem S2x1x64x256 .f32) (harg8 : arg8.IsWhole)
variable (arg9 : Memref sig .tc .vmem S2x1x64x256 .f32) (harg9 : arg9.IsWhole)
variable (arg10 : Memref sig .tc .vmem S1x128 .f32) (harg10 : arg10.IsWhole)
variable (arg11 : Memref sig .tc .vmem S1x128 .f32) (harg11 : arg11.IsWhole)
variable (arg12 : Memref sig .tc .vmem S512x512 .f32) (harg12 : arg12.IsWhole)
variable (arg13 : Memref sig .tc .vmem S128x128 .f32) (harg13 : arg13.IsWhole)
variable (arg14 : Memref sig .tc .vmem S128x512 .f32) (harg14 : arg14.IsWhole)
variable (arg15 : Memref sig .tc .vmem S128x128 .f32) (harg15 : arg15.IsWhole)
variable (arg16 : Memref sig .tc .vmem S256x512 .bf16) (harg16 : arg16.IsWhole)
variable (arg17 : Memref sig .tc .vmem S256x128 .bf16) (harg17 : arg17.IsWhole)
variable (arg18 : Memref sig .tc .vmem S256x128 .bf16) (harg18 : arg18.IsWhole)
variable (arg19 : Memref sig .tc .vmem S1x128 .f32) (harg19 : arg19.IsWhole)
variable (arg20 : Memref sig .tc .vmem S1x128 .f32) (harg20 : arg20.IsWhole)
variable (x0 : Vec F S256x512 .f32)
variable (x1 : Vec F S256x128 .f32)
variable (x2 : Vec F S256x512 .f32)
variable (x3 : Vec F S256x512 .f32)
variable (x4 : Vec F S256x128 .f32)
variable (x5 : Vec F S256x128 .f32)
variable (x6 : Vec F S8x1x64x256 .f32)
variable (x7 : Vec F S2x1x64x256 .f32)
variable (x8 : Vec F S2x1x64x256 .f32)
variable (x9 : Vec F S1x128 .f32)
variable (x10 : Vec F S1x128 .f32)
variable (x11 : Vec F S512x512 .f32)
variable (x12 : Vec F S128x128 .f32)
variable (x13 : Vec F S128x512 .f32)
variable (x14 : Vec F S128x128 .f32)
variable (y18 y19 : Vec F S1x128 .f32)

/-- What the body asks of its input blocks. -/
abbrev ins : sProp 𝕄 := iprop(owns (c : Thread nD τ) arg1 fullShare x0
  ∗ owns (c : Thread nD τ) arg2 fullShare x1
  ∗ owns (c : Thread nD τ) arg3 fullShare x2
  ∗ owns (c : Thread nD τ) arg4 fullShare x3
  ∗ owns (c : Thread nD τ) arg5 fullShare x4
  ∗ owns (c : Thread nD τ) arg6 fullShare x5
  ∗ owns (c : Thread nD τ) arg7 fullShare x6
  ∗ owns (c : Thread nD τ) arg8 fullShare x7
  ∗ owns (c : Thread nD τ) arg9 fullShare x8
  ∗ owns (c : Thread nD τ) arg10 fullShare x9
  ∗ owns (c : Thread nD τ) arg11 fullShare x10
  ∗ owns (c : Thread nD τ) arg12 fullShare x11
  ∗ owns (c : Thread nD τ) arg13 fullShare x12
  ∗ owns (c : Thread nD τ) arg14 fullShare x13
  ∗ owns (c : Thread nD τ) arg15 fullShare x14)

set_option maxHeartbeats 4000000 in
/-- The first point: the two running rows start from zero, whatever their buffers held. -/
theorem body_first (hc0 : isFirst i) (E : Set ℕ) (K : PUnit → sProp 𝕄) :
    iprop(ins c arg1 arg2 arg3 arg4 arg5 arg6 arg7 arg8 arg9 arg10 arg11 arg12 arg13 arg14 arg15 x0 x1 x2 x3 x4 x5 x6 x7 x8 x9 x10 x11 x12 x13 x14
        ∗ (∃ d, owns (c : Thread nD τ) arg16 fullShare d) ∗ (∃ d, owns (c : Thread nD τ) arg17 fullShare d)
        ∗ (∃ d, owns (c : Thread nD τ) arg18 fullShare d)
        ∗ (∃ d, owns (c : Thread nD τ) arg19 fullShare d) ∗ (∃ d, owns (c : Thread nD τ) arg20 fullShare d)
        ∗ (iprop(ins c arg1 arg2 arg3 arg4 arg5 arg6 arg7 arg8 arg9 arg10 arg11 arg12 arg13 arg14 arg15 x0 x1 x2 x3 x4 x5 x6 x7 x8 x9 x10 x11 x12 x13 x14
          ∗ owns (c : Thread nD τ) arg16 fullShare (outQ x0 x2 x3 x6 x9 x11 x13)
          ∗ owns (c : Thread nD τ) arg17 fullShare (outK x1 x4 x5 x7 x10 x12 x14)
          ∗ owns (c : Thread nD τ) arg18 fullShare (outV x8)
          ∗ owns (c : Thread nD τ) arg19 fullShare (outWQ x0 x2 x3 x6 x11 x13 (k0_pay1))
          ∗ owns (c : Thread nD τ) arg20 fullShare (outWK x1 x4 x5 x7 x12 x14 (k0_pay2))) -∗ K ⟨⟩))
      ⊢ wp frame (wpE (defs₀ (F := F)) Variants.none c none) E
          (cc0_att_prep_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_att_prep_bwd_eq_skeleton]; unfold cc0_att_prep_bwd_skel
  simp only [k0_part1_eq_skeleton, k0_part2_eq_skeleton, k0_part3_eq_skeleton, k0_part4_eq_skeleton,
    k0_part5_eq_skeleton, k0_part6_eq_skeleton, k0_part7_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩,
    ⟨%d15, %f15, -, H15⟩, ⟨%d16, %f16, -, H16⟩, ⟨%d17, %f17, -, H17⟩, ⟨%d18, %f18, -, H18⟩, ⟨%d19, %f19, -, H19⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  sl_exec (disch := first | sl_exact hc0)
  sl_step
  iapply Hk
  isplitl [H0 H1 H2 H3 H4 H5 H6 H7 H8 H9 H10 H11 H12 H13 H14]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    iexists _; isplitr; · ipureintro; exact harg15.read_unread _
    iexact H14
  isplitl [H15]
  · iexists _; isplitr
    rotate_left
    · iexact H15
    · ipureintro; refine (View.read_writes_full _ _ _ _ _).trans ?_
      refine Eq.trans (b := outQ (loaded arg1 harg1 x0 ![0, 0] inb_S256x512_S256x512_0_0) (loaded arg3 harg3 x2 ![0, 0] inb_S256x512_S256x512_0_0) (loaded arg4 harg4 x3 ![0, 0] inb_S256x512_S256x512_0_0) (loaded arg7 harg7 x6 ![0, 0, 0, 0] inb_S8x1x64x256_S8x1x64x256_0_0_0_0) (loaded arg10 harg10 x9 ![0, 0] inb_S1x128_S1x128_0_0) (loaded arg12 harg12 x11 ![0, 0] inb_S512x512_S512x512_0_0) (loaded arg14 harg14 x13 ![0, 0] inb_S128x512_S128x512_0_0)) rfl ?_
      simp only [loaded_eq]
  isplitl [H16]
  · iexists _; isplitr
    rotate_left
    · iexact H16
    · ipureintro; refine (View.read_writes_full _ _ _ _ _).trans ?_
      refine Eq.trans (b := outK (loaded arg2 harg2 x1 ![0, 0] inb_S256x128_S256x128_0_0) (loaded arg5 harg5 x4 ![0, 0] inb_S256x128_S256x128_0_0) (loaded arg6 harg6 x5 ![0, 0] inb_S256x128_S256x128_0_0) (loaded arg8 harg8 x7 ![0, 0, 0, 0] inb_S2x1x64x256_S2x1x64x256_0_0_0_0) (loaded arg11 harg11 x10 ![0, 0] inb_S1x128_S1x128_0_0) (loaded arg13 harg13 x12 ![0, 0] inb_S128x128_S128x128_0_0) (loaded arg15 harg15 x14 ![0, 0] inb_S128x128_S128x128_0_0)) rfl ?_
      simp only [loaded_eq]
  isplitl [H17]
  · iexists _; isplitr
    rotate_left
    · iexact H17
    · ipureintro; refine (View.read_writes_full _ _ _ _ _).trans ?_
      refine Eq.trans (b := outV (loaded arg9 harg9 x8 ![0, 0, 0, 0] inb_S2x1x64x256_S2x1x64x256_0_0_0_0)) rfl ?_
      simp only [loaded_eq]
  isplitl [H18]
  · iexists _; isplitr
    rotate_left
    · iexact H18
    · ipureintro; refine (View.read_writes_full _ _ _ _ _).trans ?_
      refine Eq.trans (b := outWQ (loaded arg1 harg1 x0 ![0, 0] inb_S256x512_S256x512_0_0) (loaded arg3 harg3 x2 ![0, 0] inb_S256x512_S256x512_0_0) (loaded arg4 harg4 x3 ![0, 0] inb_S256x512_S256x512_0_0) (loaded arg7 harg7 x6 ![0, 0, 0, 0] inb_S8x1x64x256_S8x1x64x256_0_0_0_0) (loaded arg12 harg12 x11 ![0, 0] inb_S512x512_S512x512_0_0) (loaded arg14 harg14 x13 ![0, 0] inb_S128x512_S128x512_0_0) k0_pay1) (by
        have e : body_first.sl.v315 (F := F) c arg19 = k0_pay1 :=
          View.readCov_full arg19.view inb_S1x128_S1x128_0_0 inb_S1x128_S1x128_0_0 _ _
        rw [e]; rfl) ?_
      simp only [loaded_eq]
  · iexists _; isplitr
    rotate_left
    · iexact H19
    · ipureintro; refine (View.read_writes_full _ _ _ _ _).trans ?_
      refine Eq.trans (b := outWK (loaded arg2 harg2 x1 ![0, 0] inb_S256x128_S256x128_0_0) (loaded arg5 harg5 x4 ![0, 0] inb_S256x128_S256x128_0_0) (loaded arg6 harg6 x5 ![0, 0] inb_S256x128_S256x128_0_0) (loaded arg8 harg8 x7 ![0, 0, 0, 0] inb_S2x1x64x256_S2x1x64x256_0_0_0_0) (loaded arg13 harg13 x12 ![0, 0] inb_S128x128_S128x128_0_0) (loaded arg15 harg15 x14 ![0, 0] inb_S128x128_S128x128_0_0) k0_pay2) (by
        have e : body_first.sl.v319 (F := F) c arg20 = k0_pay2 :=
          View.readCov_full arg20.view inb_S1x128_S1x128_0_0 inb_S1x128_S1x128_0_0 _ _
        rw [e]; rfl) ?_
      simp only [loaded_eq]

set_option maxHeartbeats 4000000 in
/-- A later point: the two running rows go on from what their buffers held. -/
theorem body_next (hc0 : ¬isFirst i) (E : Set ℕ) (K : PUnit → sProp 𝕄) :
    iprop(ins c arg1 arg2 arg3 arg4 arg5 arg6 arg7 arg8 arg9 arg10 arg11 arg12 arg13 arg14 arg15 x0 x1 x2 x3 x4 x5 x6 x7 x8 x9 x10 x11 x12 x13 x14
        ∗ (∃ d, owns (c : Thread nD τ) arg16 fullShare d) ∗ (∃ d, owns (c : Thread nD τ) arg17 fullShare d)
        ∗ (∃ d, owns (c : Thread nD τ) arg18 fullShare d)
        ∗ owns (c : Thread nD τ) arg19 fullShare y18 ∗ owns (c : Thread nD τ) arg20 fullShare y19
        ∗ (iprop(ins c arg1 arg2 arg3 arg4 arg5 arg6 arg7 arg8 arg9 arg10 arg11 arg12 arg13 arg14 arg15 x0 x1 x2 x3 x4 x5 x6 x7 x8 x9 x10 x11 x12 x13 x14
          ∗ owns (c : Thread nD τ) arg16 fullShare (outQ x0 x2 x3 x6 x9 x11 x13)
          ∗ owns (c : Thread nD τ) arg17 fullShare (outK x1 x4 x5 x7 x10 x12 x14)
          ∗ owns (c : Thread nD τ) arg18 fullShare (outV x8)
          ∗ owns (c : Thread nD τ) arg19 fullShare (outWQ x0 x2 x3 x6 x11 x13 y18)
          ∗ owns (c : Thread nD τ) arg20 fullShare (outWK x1 x4 x5 x7 x12 x14 y19)) -∗ K ⟨⟩))
      ⊢ wp frame (wpE (defs₀ (F := F)) Variants.none c none) E
          (cc0_att_prep_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_att_prep_bwd_eq_skeleton]; unfold cc0_att_prep_bwd_skel
  simp only [k0_part1_eq_skeleton, k0_part2_eq_skeleton, k0_part3_eq_skeleton, k0_part4_eq_skeleton,
    k0_part5_eq_skeleton, k0_part6_eq_skeleton, k0_part7_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩,
    ⟨%d15, %f15, -, H15⟩, ⟨%d16, %f16, -, H16⟩, ⟨%d17, %f17, -, H17⟩, ⟨%f18, %hf18, H18⟩, ⟨%f19, %hf19, H19⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  obtain rfl := harg19.eq_unread hf18
  obtain rfl := harg20.eq_unread hf19
  sl_exec (disch := first | sl_exact hc0)
  sl_step
  iapply Hk
  isplitl [H0 H1 H2 H3 H4 H5 H6 H7 H8 H9 H10 H11 H12 H13 H14]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    iexists _; isplitr; · ipureintro; exact harg15.read_unread _
    iexact H14
  isplitl [H15]
  · iexists _; isplitr
    rotate_left
    · iexact H15
    · ipureintro; refine (View.read_writes_full _ _ _ _ _).trans ?_
      refine Eq.trans (b := outQ (loaded arg1 harg1 x0 ![0, 0] inb_S256x512_S256x512_0_0) (loaded arg3 harg3 x2 ![0, 0] inb_S256x512_S256x512_0_0) (loaded arg4 harg4 x3 ![0, 0] inb_S256x512_S256x512_0_0) (loaded arg7 harg7 x6 ![0, 0, 0, 0] inb_S8x1x64x256_S8x1x64x256_0_0_0_0) (loaded arg10 harg10 x9 ![0, 0] inb_S1x128_S1x128_0_0) (loaded arg12 harg12 x11 ![0, 0] inb_S512x512_S512x512_0_0) (loaded arg14 harg14 x13 ![0, 0] inb_S128x512_S128x512_0_0)) rfl ?_
      simp only [loaded_eq]
  isplitl [H16]
  · iexists _; isplitr
    rotate_left
    · iexact H16
    · ipureintro; refine (View.read_writes_full _ _ _ _ _).trans ?_
      refine Eq.trans (b := outK (loaded arg2 harg2 x1 ![0, 0] inb_S256x128_S256x128_0_0) (loaded arg5 harg5 x4 ![0, 0] inb_S256x128_S256x128_0_0) (loaded arg6 harg6 x5 ![0, 0] inb_S256x128_S256x128_0_0) (loaded arg8 harg8 x7 ![0, 0, 0, 0] inb_S2x1x64x256_S2x1x64x256_0_0_0_0) (loaded arg11 harg11 x10 ![0, 0] inb_S1x128_S1x128_0_0) (loaded arg13 harg13 x12 ![0, 0] inb_S128x128_S128x128_0_0) (loaded arg15 harg15 x14 ![0, 0] inb_S128x128_S128x128_0_0)) rfl ?_
      simp only [loaded_eq]
  isplitl [H17]
  · iexists _; isplitr
    rotate_left
    · iexact H17
    · ipureintro; refine (View.read_writes_full _ _ _ _ _).trans ?_
      refine Eq.trans (b := outV (loaded arg9 harg9 x8 ![0, 0, 0, 0] inb_S2x1x64x256_S2x1x64x256_0_0_0_0)) rfl ?_
      simp only [loaded_eq]
  isplitl [H18]
  · iexists _; isplitr
    rotate_left
    · iexact H18
    · ipureintro; refine (View.read_writes_full _ _ _ _ _).trans ?_
      refine Eq.trans (b := outWQ (loaded arg1 harg1 x0 ![0, 0] inb_S256x512_S256x512_0_0) (loaded arg3 harg3 x2 ![0, 0] inb_S256x512_S256x512_0_0) (loaded arg4 harg4 x3 ![0, 0] inb_S256x512_S256x512_0_0) (loaded arg7 harg7 x6 ![0, 0, 0, 0] inb_S8x1x64x256_S8x1x64x256_0_0_0_0) (loaded arg12 harg12 x11 ![0, 0] inb_S512x512_S512x512_0_0) (loaded arg14 harg14 x13 ![0, 0] inb_S128x512_S128x512_0_0) (loaded arg19 harg19 y18 ![0, 0] inb_S1x128_S1x128_0_0)) rfl ?_
      simp only [loaded_eq]
  · iexists _; isplitr
    rotate_left
    · iexact H19
    · ipureintro; refine (View.read_writes_full _ _ _ _ _).trans ?_
      refine Eq.trans (b := outWK (loaded arg2 harg2 x1 ![0, 0] inb_S256x128_S256x128_0_0) (loaded arg5 harg5 x4 ![0, 0] inb_S256x128_S256x128_0_0) (loaded arg6 harg6 x5 ![0, 0] inb_S256x128_S256x128_0_0) (loaded arg8 harg8 x7 ![0, 0, 0, 0] inb_S2x1x64x256_S2x1x64x256_0_0_0_0) (loaded arg13 harg13 x12 ![0, 0] inb_S128x128_S128x128_0_0) (loaded arg15 harg15 x14 ![0, 0] inb_S128x128_S128x128_0_0) (loaded arg20 harg20 y19 ![0, 0] inb_S1x128_S1x128_0_0)) rfl ?_
      simp only [loaded_eq]

end Body

end Cert.PrepDxIdeal.Run

end
-- ==== Proof.PrepFrame.lean ====
module

public import proofs.«01_k».proof.Proof.PrepRun
public import proofs.«01_k».proof.Proof.Gen.PrepDxIdeal.Points
public import Idealize.ShloMosaic.Lib.Claim
public import proofs.«01_k».proof.Proof.Gen.PrepDxIdeal.Launch

/-!
  # Rotary preparation, backward: the frame

  From the run of one grid point to the run of the whole program: the two running rows as a recursion over the
  points, the proof data of the pipeline (each input at its block, each output at what the point leaves), the body's
  obligation at every point, and the run of the program, with the frame as its consequence.
-/

@[expose] public section

set_option maxRecDepth 16384

noncomputable section

namespace Cert.PrepDxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PrepDxIdeal Cert.PrepDxIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point is the point 0. -/
theorem isFirst_iff (t : Fin cfg0.N) : isFirst (grid0.coords t) ↔ t.val = 0 := by
  have ht : t.val < 32 := Nat.lt_of_lt_of_eq t.isLt N_0
  have e0 : (grid0.coords t 0).val = t.val / 1 % 32 := Pipeline.Grid.coords_val t 0 (by decide) rfl
  have h : isFirst (grid0.coords t) ↔ t.val % 32 = 0 := by
    simp only [isFirst, e0]
    word_cmp
  rw [h, Nat.mod_eq_of_lt ht]

/-- The running gradient of the query norm's weight after `n + 1` points. -/
def accQ (c : Dev nD) : (n : ℕ) → n < cfg0.N → Vec F S1x128 .f32
  | 0, h => outWQ (X0_0 m c ⟨0, h⟩) (iblk m c 2 ⟨0, h⟩) (iblk m c 3 ⟨0, h⟩) (iblk m c 6 ⟨0, h⟩) (iblk m c 11 ⟨0, h⟩) (iblk m c 13 ⟨0, h⟩) k0_pay1
  | n + 1, h => outWQ (X0_0 m c ⟨n + 1, h⟩) (iblk m c 2 ⟨n + 1, h⟩) (iblk m c 3 ⟨n + 1, h⟩) (iblk m c 6 ⟨n + 1, h⟩) (iblk m c 11 ⟨n + 1, h⟩) (iblk m c 13 ⟨n + 1, h⟩) (accQ c n (by omega))

/-- The running gradient of the key norm's weight after `n + 1` points. -/
def accK (c : Dev nD) : (n : ℕ) → n < cfg0.N → Vec F S1x128 .f32
  | 0, h => outWK (iblk m c 1 ⟨0, h⟩) (iblk m c 4 ⟨0, h⟩) (iblk m c 5 ⟨0, h⟩) (iblk m c 7 ⟨0, h⟩) (iblk m c 12 ⟨0, h⟩) (iblk m c 14 ⟨0, h⟩) k0_pay2
  | n + 1, h => outWK (iblk m c 1 ⟨n + 1, h⟩) (iblk m c 4 ⟨n + 1, h⟩) (iblk m c 5 ⟨n + 1, h⟩) (iblk m c 7 ⟨n + 1, h⟩) (iblk m c 12 ⟨n + 1, h⟩) (iblk m c 14 ⟨n + 1, h⟩) (accK c n (by omega))

theorem accQ_first (c : Dev nD) (t : Fin cfg0.N) (h0 : t.val = 0) :
    accQ m c t.val t.isLt = outWQ (X0_0 m c t) (iblk m c 2 t) (iblk m c 3 t) (iblk m c 6 t) (iblk m c 11 t) (iblk m c 13 t) k0_pay1 := by
  obtain ⟨n, hn⟩ := t; dsimp only at h0; subst h0; rfl

theorem accK_first (c : Dev nD) (t : Fin cfg0.N) (h0 : t.val = 0) :
    accK m c t.val t.isLt = outWK (iblk m c 1 t) (iblk m c 4 t) (iblk m c 5 t) (iblk m c 7 t) (iblk m c 12 t) (iblk m c 14 t) k0_pay2 := by
  obtain ⟨n, hn⟩ := t; dsimp only at h0; subst h0; rfl

theorem accQ_next (c : Dev nD) (t : Fin cfg0.N) (h0 : ¬t.val = 0) :
    accQ m c t.val t.isLt = outWQ (X0_0 m c t) (iblk m c 2 t) (iblk m c 3 t) (iblk m c 6 t) (iblk m c 11 t) (iblk m c 13 t) (accQ m c (t.val - 1) (Nat.lt_of_le_of_lt (Nat.sub_le _ _) t.isLt)) := by
  obtain ⟨n, hn⟩ := t
  cases n with
  | zero => exact absurd rfl h0
  | succ n => rfl

theorem accK_next (c : Dev nD) (t : Fin cfg0.N) (h0 : ¬t.val = 0) :
    accK m c t.val t.isLt = outWK (iblk m c 1 t) (iblk m c 4 t) (iblk m c 5 t) (iblk m c 7 t) (iblk m c 12 t) (iblk m c 14 t) (accK m c (t.val - 1) (Nat.lt_of_le_of_lt (Nat.sub_le _ _) t.isLt)) := by
  obtain ⟨n, hn⟩ := t
  cases n with
  | zero => exact absurd rfl h0
  | succ n => rfl

/-- The proof data of the pipeline: after the body at a point each input's buffer holds its block, each output's what
    the point leaves. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outQ (X0_0 m c t) (iblk m c 2 t) (iblk m c 3 t) (iblk m c 6 t) (iblk m c 9 t) (iblk m c 11 t) (iblk m c 13 t)
    | ⟨16, _⟩ => outK (iblk m c 1 t) (iblk m c 4 t) (iblk m c 5 t) (iblk m c 7 t) (iblk m c 10 t) (iblk m c 12 t) (iblk m c 14 t)
    | ⟨17, _⟩ => outV (iblk m c 8 t)
    | ⟨18, _⟩ => accQ m c t.val t.isLt
    | ⟨19, _⟩ => accK m c t.val t.isLt
    | ⟨_ + 20, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! What each buffer holds after the body, read off the proof data. -/
theorem after_0 (c : Dev nD) (t : Fin cfg0.N) : (dats m 0 c).after 0 t = (X0_0 m c t) := by dsimp only [dats]
theorem after_1 (c : Dev nD) (t : Fin cfg0.N) : (dats m 0 c).after 1 t = (iblk m c 1 t) := by dsimp only [dats]
theorem after_2 (c : Dev nD) (t : Fin cfg0.N) : (dats m 0 c).after 2 t = (iblk m c 2 t) := by dsimp only [dats]
theorem after_3 (c : Dev nD) (t : Fin cfg0.N) : (dats m 0 c).after 3 t = (iblk m c 3 t) := by dsimp only [dats]
theorem after_4 (c : Dev nD) (t : Fin cfg0.N) : (dats m 0 c).after 4 t = (iblk m c 4 t) := by dsimp only [dats]
theorem after_5 (c : Dev nD) (t : Fin cfg0.N) : (dats m 0 c).after 5 t = (iblk m c 5 t) := by dsimp only [dats]
theorem after_6 (c : Dev nD) (t : Fin cfg0.N) : (dats m 0 c).after 6 t = (iblk m c 6 t) := by dsimp only [dats]
theorem after_7 (c : Dev nD) (t : Fin cfg0.N) : (dats m 0 c).after 7 t = (iblk m c 7 t) := by dsimp only [dats]
theorem after_8 (c : Dev nD) (t : Fin cfg0.N) : (dats m 0 c).after 8 t = (iblk m c 8 t) := by dsimp only [dats]
theorem after_9 (c : Dev nD) (t : Fin cfg0.N) : (dats m 0 c).after 9 t = (iblk m c 9 t) := by dsimp only [dats]
theorem after_10 (c : Dev nD) (t : Fin cfg0.N) : (dats m 0 c).after 10 t = (iblk m c 10 t) := by dsimp only [dats]
theorem after_11 (c : Dev nD) (t : Fin cfg0.N) : (dats m 0 c).after 11 t = (iblk m c 11 t) := by dsimp only [dats]
theorem after_12 (c : Dev nD) (t : Fin cfg0.N) : (dats m 0 c).after 12 t = (iblk m c 12 t) := by dsimp only [dats]
theorem after_13 (c : Dev nD) (t : Fin cfg0.N) : (dats m 0 c).after 13 t = (iblk m c 13 t) := by dsimp only [dats]
theorem after_14 (c : Dev nD) (t : Fin cfg0.N) : (dats m 0 c).after 14 t = (iblk m c 14 t) := by dsimp only [dats]
theorem after_15 (c : Dev nD) (t : Fin cfg0.N) : (dats m 0 c).after 15 t = outQ (X0_0 m c t) (iblk m c 2 t) (iblk m c 3 t) (iblk m c 6 t) (iblk m c 9 t) (iblk m c 11 t) (iblk m c 13 t) := by dsimp only [dats]
theorem after_16 (c : Dev nD) (t : Fin cfg0.N) : (dats m 0 c).after 16 t = outK (iblk m c 1 t) (iblk m c 4 t) (iblk m c 5 t) (iblk m c 7 t) (iblk m c 10 t) (iblk m c 12 t) (iblk m c 14 t) := by dsimp only [dats]
theorem after_17 (c : Dev nD) (t : Fin cfg0.N) : (dats m 0 c).after 17 t = outV (iblk m c 8 t) := by dsimp only [dats]
theorem after_18 (c : Dev nD) (t : Fin cfg0.N) : (dats m 0 c).after 18 t = accQ m c t.val t.isLt := by dsimp only [dats]
theorem after_19 (c : Dev nD) (t : Fin cfg0.N) : (dats m 0 c).after 19 t = accK m c t.val t.isLt := by dsimp only [dats]

/-- At a later point the running row of the query weight is still in its buffer. -/
theorem kept18 (c : Dev nD) (t : Fin cfg0.N) (h0 : ¬t.val = 0) (d) :
    (dats m 0 c).before 18 t d = accQ m c (t.val - 1) (Nat.lt_of_le_of_lt (Nat.sub_le _ _) t.isLt) := by
  have hN : t.val < 32 := Nat.lt_of_lt_of_eq t.isLt N_0
  rw [Dat.before_out_kept _ 18 rfl t h0
    (Bool.eq_false_iff.mpr fun h => by have := (flush0_18 _).mp h; dsimp only at this; omega) (fun _ => rfl) (fun _ _ => rfl)]
  dsimp only [dats]

/-- At a later point the running row of the key weight is still in its buffer. -/
theorem kept19 (c : Dev nD) (t : Fin cfg0.N) (h0 : ¬t.val = 0) (d) :
    (dats m 0 c).before 19 t d = accK m c (t.val - 1) (Nat.lt_of_le_of_lt (Nat.sub_le _ _) t.isLt) := by
  have hN : t.val < 32 := Nat.lt_of_lt_of_eq t.isLt N_0
  rw [Dat.before_out_kept _ 19 rfl t h0
    (Bool.eq_false_iff.mpr fun h => by have := (flush0_19 _).mp h; dsimp only at this; omega) (fun _ => rfl) (fun _ _ => rfl)]
  dsimp only [dats]

/-- What the pipeline hands the body at a point: the invariant, the debt, and the twenty staging buffers, the inputs'
    at their blocks. -/
def before (c : Dev nD) (t : Fin cfg0.N) : sProp 𝕄 := iprop((dats m 0 c).Φ t.castSucc ∗ (dats m 0 c).owesAt () t.castSucc
  ∗ (∃ d, owns (c : Thread nD τ) (st0_0 t) fullShare ((dats m 0 c).before 0 t d))
  ∗ (∃ d, owns (c : Thread nD τ) (st0_1 t) fullShare ((dats m 0 c).before 1 t d))
  ∗ (∃ d, owns (c : Thread nD τ) (st0_2 t) fullShare ((dats m 0 c).before 2 t d))
  ∗ (∃ d, owns (c : Thread nD τ) (st0_3 t) fullShare ((dats m 0 c).before 3 t d))
  ∗ (∃ d, owns (c : Thread nD τ) (st0_4 t) fullShare ((dats m 0 c).before 4 t d))
  ∗ (∃ d, owns (c : Thread nD τ) (st0_5 t) fullShare ((dats m 0 c).before 5 t d))
  ∗ (∃ d, owns (c : Thread nD τ) (st0_6 t) fullShare ((dats m 0 c).before 6 t d))
  ∗ (∃ d, owns (c : Thread nD τ) (st0_7 t) fullShare ((dats m 0 c).before 7 t d))
  ∗ (∃ d, owns (c : Thread nD τ) (st0_8 t) fullShare ((dats m 0 c).before 8 t d))
  ∗ (∃ d, owns (c : Thread nD τ) (st0_9 t) fullShare ((dats m 0 c).before 9 t d))
  ∗ (∃ d, owns (c : Thread nD τ) (st0_10 t) fullShare ((dats m 0 c).before 10 t d))
  ∗ (∃ d, owns (c : Thread nD τ) (st0_11 t) fullShare ((dats m 0 c).before 11 t d))
  ∗ (∃ d, owns (c : Thread nD τ) (st0_12 t) fullShare ((dats m 0 c).before 12 t d))
  ∗ (∃ d, owns (c : Thread nD τ) (st0_13 t) fullShare ((dats m 0 c).before 13 t d))
  ∗ (∃ d, owns (c : Thread nD τ) (st0_14 t) fullShare ((dats m 0 c).before 14 t d))
  ∗ (∃ d, owns (c : Thread nD τ) (st0_15 t) fullShare ((dats m 0 c).before 15 t d))
  ∗ (∃ d, owns (c : Thread nD τ) (st0_16 t) fullShare ((dats m 0 c).before 16 t d))
  ∗ (∃ d, owns (c : Thread nD τ) (st0_17 t) fullShare ((dats m 0 c).before 17 t d))
  ∗ (∃ d, owns (c : Thread nD τ) (st0_18 t) fullShare ((dats m 0 c).before 18 t d))
  ∗ (∃ d, owns (c : Thread nD τ) (st0_19 t) fullShare ((dats m 0 c).before 19 t d)))

/-- What the body hands back. -/
def after (c : Dev nD) (t : Fin cfg0.N) : sProp 𝕄 := iprop((dats m 0 c).Φ t.succ ∗ (dats m 0 c).owesAt () t.succ
  ∗ owns (c : Thread nD τ) (st0_0 t) fullShare ((dats m 0 c).after 0 t)
  ∗ owns (c : Thread nD τ) (st0_1 t) fullShare ((dats m 0 c).after 1 t)
  ∗ owns (c : Thread nD τ) (st0_2 t) fullShare ((dats m 0 c).after 2 t)
  ∗ owns (c : Thread nD τ) (st0_3 t) fullShare ((dats m 0 c).after 3 t)
  ∗ owns (c : Thread nD τ) (st0_4 t) fullShare ((dats m 0 c).after 4 t)
  ∗ owns (c : Thread nD τ) (st0_5 t) fullShare ((dats m 0 c).after 5 t)
  ∗ owns (c : Thread nD τ) (st0_6 t) fullShare ((dats m 0 c).after 6 t)
  ∗ owns (c : Thread nD τ) (st0_7 t) fullShare ((dats m 0 c).after 7 t)
  ∗ owns (c : Thread nD τ) (st0_8 t) fullShare ((dats m 0 c).after 8 t)
  ∗ owns (c : Thread nD τ) (st0_9 t) fullShare ((dats m 0 c).after 9 t)
  ∗ owns (c : Thread nD τ) (st0_10 t) fullShare ((dats m 0 c).after 10 t)
  ∗ owns (c : Thread nD τ) (st0_11 t) fullShare ((dats m 0 c).after 11 t)
  ∗ owns (c : Thread nD τ) (st0_12 t) fullShare ((dats m 0 c).after 12 t)
  ∗ owns (c : Thread nD τ) (st0_13 t) fullShare ((dats m 0 c).after 13 t)
  ∗ owns (c : Thread nD τ) (st0_14 t) fullShare ((dats m 0 c).after 14 t)
  ∗ owns (c : Thread nD τ) (st0_15 t) fullShare ((dats m 0 c).after 15 t)
  ∗ owns (c : Thread nD τ) (st0_16 t) fullShare ((dats m 0 c).after 16 t)
  ∗ owns (c : Thread nD τ) (st0_17 t) fullShare ((dats m 0 c).after 17 t)
  ∗ owns (c : Thread nD τ) (st0_18 t) fullShare ((dats m 0 c).after 18 t)
  ∗ owns (c : Thread nD τ) (st0_19 t) fullShare ((dats m 0 c).after 19 t))

set_option maxHeartbeats 4000000 in
/-- The body at any point. -/
theorem body_sound (c : Dev nD) (t : Fin cfg0.N) :
    before m c t ⊢ wp frame (wpE (defs₀ (F := F)) Variants.none c none) Set.univ (bodyAt0 t) (fun _ => after m c t) := by
  unfold before after bodyAt0
  simp only [before0_0_of m (dats m 0 c) (A_eq m c 0) (after_0 m c),
    before0_1_of m (dats m 0 c) (A_eq m c 1) (after_1 m c),
    before0_2_of m (dats m 0 c) (A_eq m c 2) (after_2 m c),
    before0_3_of m (dats m 0 c) (A_eq m c 3) (after_3 m c),
    before0_4_of m (dats m 0 c) (A_eq m c 4) (after_4 m c),
    before0_5_of m (dats m 0 c) (A_eq m c 5) (after_5 m c),
    before0_6_of m (dats m 0 c) (A_eq m c 6) (after_6 m c),
    before0_7_of m (dats m 0 c) (A_eq m c 7) (after_7 m c),
    before0_8_of m (dats m 0 c) (A_eq m c 8) (after_8 m c),
    before0_9_of m (dats m 0 c) (A_eq m c 9) (after_9 m c),
    before0_10_of m (dats m 0 c) (A_eq m c 10) (after_10 m c),
    before0_11_of m (dats m 0 c) (A_eq m c 11) (after_11 m c),
    before0_12_of m (dats m 0 c) (A_eq m c 12) (after_12 m c),
    before0_13_of m (dats m 0 c) (A_eq m c 13) (after_13 m c),
    before0_14_of m (dats m 0 c) (A_eq m c 14) (after_14 m c)]
  rw [show (dats m 0 c).Φ t.succ = (dats m 0 c).Φ t.castSucc from rfl,
    show (dats m 0 c).owesAt () t.succ = (dats m 0 c).owesAt () t.castSucc from rfl]
  rw [after_0, after_1, after_2, after_3, after_4, after_5, after_6, after_7, after_8, after_9, after_10, after_11, after_12, after_13, after_14, after_15, after_16, after_17, after_18, after_19]
  by_cases h0 : t.val = 0
  · rw [accQ_first m c t h0, accK_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_first c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((isFirst_iff t).mpr h0) Set.univ _)
    unfold ins
    isplitl [H0 H1 H2 H3 H4 H5 H6 H7 H8 H9 H10 H11 H12 H13 H14]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexists _; iexact H15
    isplitl [H16]; · iexists _; iexact H16
    isplitl [H17]; · iexists _; iexact H17
    isplitl [H18]; · iexists _; iexact H18
    isplitl [H19]; · iexists _; iexact H19
    iintro ⟨⟨H0, H1, H2, H3, H4, H5, H6, H7, H8, H9, H10, H11, H12, H13, H14⟩, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [accQ_next m c t h0, accK_next m c t h0]
    simp only [kept18 m c t h0, kept19 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_next c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ (mt (isFirst_iff t).mp h0) Set.univ _)
    unfold ins
    isplitl [H0 H1 H2 H3 H4 H5 H6 H7 H8 H9 H10 H11 H12 H13 H14]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexists _; iexact H15
    isplitl [H16]; · iexists _; iexact H16
    isplitl [H17]; · iexists _; iexact H17
    isplitl [H18]; · iexact H18
    isplitl [H19]; · iexact H19
    iintro ⟨⟨H0, H1, H2, H3, H4, H5, H6, H7, H8, H9, H10, H11, H12, H13, H14⟩, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem body_row (t : Fin cfg0.N) :
    defs₀ (F := F) .tc cfg0.body (cfg0.bodyArgs t (cfg0.slots t)) = bodyAt0 t := by
  unfold defs₀; rw [Defs.onTc_tc]

set_option maxHeartbeats 1000000 in
/-- The body's obligation to the pipeline. -/
theorem obligation (c : Dev nD) :
    BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The run of the program: every array of the pipeline ends at what the proof data says, every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- The frame: the arguments end as they began, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_all m ρ))

end Cert.PrepDxIdeal.Run

end
-- ==== Proof.PrepMath.lean ====
/- The numbers of the rotary preparation's gradient: sums over heads, the three-piece split of a real, a head's norm and its
   derivative, and the rotation of a pair of lanes undone. -/
module

public import Idealize.ShloMosaic.Lib.Pointwise

@[expose] public section

noncomputable section

namespace Cert.PrepMath

open Idealize.ShloMosaic

/-- The value is a real number. -/
def Re (x : EReal) : Prop := ∃ r : ℝ, x = r

theorem Re.coe (r : ℝ) : Re (r : EReal) := ⟨r, rfl⟩
theorem Re.zero : Re 0 := ⟨0, rfl⟩
theorem Re.mul {x y : EReal} : Re x → Re y → Re (x * y) := by
  rintro ⟨a, rfl⟩ ⟨b, rfl⟩; exact ⟨a * b, (EReal.coe_mul a b).symm⟩
theorem Re.add {x y : EReal} : Re x → Re y → Re (x + y) := by
  rintro ⟨a, rfl⟩ ⟨b, rfl⟩; exact ⟨a + b, (EReal.coe_add a b).symm⟩
theorem Re.neg {x : EReal} : Re x → Re (-x) := by
  rintro ⟨a, rfl⟩; exact ⟨-a, (EReal.coe_neg a).symm⟩
theorem Re.sum {ι : Type} (s : Finset ι) {f : ι → EReal} (h : ∀ i, Re (f i)) : Re (∑ i ∈ s, f i) := by
  classical
  induction s using Finset.induction_on with
  | empty => rw [Finset.sum_empty]; exact Re.zero
  | insert a s ha ih => rw [Finset.sum_insert ha]; exact (h a).add ih
theorem coe_sum {ι : Type} (s : Finset ι) (f : ι → ℝ) : (∑ i ∈ s, ((f i : ℝ) : EReal)) = ((∑ i ∈ s, f i : ℝ) : EReal) := by
  classical
  induction s using Finset.induction_on with
  | empty => rfl
  | insert a s ha ih => rw [Finset.sum_insert ha, Finset.sum_insert ha, ih, EReal.coe_add]
theorem Re.sub_self {x : EReal} : Re x → x - x = 0 := by
  rintro ⟨a, rfl⟩; rw [← EReal.coe_sub, _root_.sub_self]; rfl
theorem Re.eq {x : EReal} (h : Re x) : x = ((EReal.toReal x : ℝ) : EReal) := by
  obtain ⟨r, rfl⟩ := h; rfl

/-- A real in three pieces: the second and third of them are zero. -/
theorem pieces {ι : Type} [Fintype ι] (x g : ι → EReal) (hx : ∀ i, Re (x i)) :
    (∑ i, (x i - x i - (x i - x i)) * g i) + (∑ i, (x i - x i) * g i) + ∑ i, x i * g i = ∑ i, x i * g i := by
  have h2 : ∀ i, x i - x i = 0 := fun i => (hx i).sub_self
  have h0 : (0 : EReal) - 0 = 0 := by rw [sub_zero]
  simp only [h2, h0, zero_mul, Finset.sum_const_zero, zero_add]

/-- A sum over all lanes, head by head. -/
theorem sum_heads {N n : ℕ} (hN : N = n * 64) (w : Fin n → Fin 64 → Fin N) (hw : ∀ h d, (w h d).val = 64 * h.val + d.val)
    (f : Fin N → EReal) : ∑ j, f j = ∑ h, ∑ d, f (w h d) := by
  subst hN
  rw [← Fintype.sum_prod_type', ← finProdFinEquiv.sum_comp f]
  refine Finset.sum_congr rfl fun p _ => congrArg f (Fin.ext ?_)
  rw [hw]; simp [finProdFinEquiv]; omega

/-- A sum against the indicator of one head's lanes. -/
theorem sum_group {N n : ℕ} (hN : N = n * 64) (w : Fin n → Fin 64 → Fin N) (hw : ∀ h d, (w h d).val = 64 * h.val + d.val)
    (x g : Fin N → EReal) (h : Fin n) (hg : ∀ h' d', g (w h' d') = if h' = h then 1 else 0) : ∑ j, x j * g j = ∑ d, x (w h d) := by
  rw [sum_heads hN w hw, Finset.sum_eq_single h]
  · refine Finset.sum_congr rfl fun d _ => ?_
    rw [hg, if_pos rfl, mul_one]
  · intro b _ hb
    refine Finset.sum_eq_zero fun d _ => ?_
    rw [hg, if_neg hb, mul_zero]
  · intro hb; exact absurd (Finset.mem_univ h) hb

/-- A sum against the indicator of one lane. -/
theorem sum_lane {N : ℕ} (x g : Fin N → EReal) (k : Fin N) (hg : ∀ l, g l = if l = k then 1 else 0) : ∑ l, x l * g l = x k := by
  rw [Finset.sum_eq_single k]
  · rw [hg, if_pos rfl, mul_one]
  · intro b _ hb
    rw [hg, if_neg hb, mul_zero]
  · intro hb; exact absurd (Finset.mem_univ k) hb

/-- A sum against the indicator of one lane in every head. -/
theorem sum_fold {N n : ℕ} (hN : N = n * 64) (w : Fin n → Fin 64 → Fin N) (hw : ∀ h d, (w h d).val = 64 * h.val + d.val)
    (x g : Fin N → EReal) (k : Fin 64) (hg : ∀ h d, g (w h d) = if d = k then 1 else 0) : ∑ j, x j * g j = ∑ h, x (w h k) := by
  rw [sum_heads hN w hw]
  refine Finset.sum_congr rfl fun h _ => ?_
  exact sum_lane (fun d => x (w h d)) (fun d => g (w h d)) k (fun d => hg h d)

/-! The constants. -/
theorem c_eighth : Ideal.ofBits .f32 0x3E000000#32 = ((1 / 8 : ℝ) : EReal) := by
  simp only [Ideal.ofBits, Ideal.ieee]; simp; rw [← EReal.coe_mul]; norm_num
theorem c_64th : Ideal.ofBits .f32 0x3C800000#32 = ((1 / 64 : ℝ) : EReal) := by
  simp only [Ideal.ofBits, Ideal.ieee]; simp; rw [← EReal.coe_mul]; norm_num
theorem c_64 : Ideal.ofBits .f32 0x42800000#32 = ((64 : ℝ) : EReal) := by
  simp only [Ideal.ofBits, Ideal.ieee]; simp; rw [← EReal.coe_mul]; norm_num
theorem c_one : Ideal.ofBits .f32 0x3F800000#32 = ((1 : ℝ) : EReal) := by
  simp only [Ideal.ofBits, Ideal.ieee]; simp; try (rw [← EReal.coe_mul]; norm_num)
theorem c_mhalf : Ideal.ofBits .f32 0xBF000000#32 = ((-(1 / 2) : ℝ) : EReal) := by
  simp only [Ideal.ofBits, Ideal.ieee]; simp; rw [← EReal.coe_mul]; norm_num
theorem c_eps : ∃ e : ℝ, 0 < e ∧ Ideal.ofBits .f32 0x358637BD#32 = (e : EReal) := by
  refine ⟨8796093 * (2 : ℝ) ^ (-43 : ℤ), by positivity, ?_⟩
  simp only [Ideal.ofBits, Ideal.ieee]; simp; try (rw [← EReal.coe_mul]; norm_num)
theorem c_zero : Ideal.ofBits .f32 0x00000000#32 = (0 : EReal) := by
  simp [Ideal.ofBits, Ideal.ieee]

/-- Division by 64 is the product with its inverse. -/
theorem div_64 {x : EReal} (h : Re x) : Ideal.div x (Ideal.ofBits .f32 0x42800000#32) = x * Ideal.ofBits .f32 0x3C800000#32 := by
  obtain ⟨r, rfl⟩ := h
  rw [c_64, c_64th, Ideal.div_coe (by norm_num)]

/-- Eight equal terms, weighed with an eighth. -/
theorem eight {x : EReal} (h : Re x) : (∑ _i : Fin 8, x) * Ideal.ofBits .f32 0x3E000000#32 = x := by
  obtain ⟨r, rfl⟩ := h
  rw [c_eighth]
  simp only [Fin.sum_univ_eight, ← EReal.coe_add, ← EReal.coe_mul]
  congr 1; ring

theorem eight' {x : EReal} (h : Re x) : (∑ _i : Fin 8, x * Ideal.ofBits .f32 0x3E000000#32) = x := by
  obtain ⟨r, rfl⟩ := h
  rw [c_eighth]
  simp only [Fin.sum_univ_eight, ← EReal.coe_add, ← EReal.coe_mul]
  congr 1; ring

/-- A head's mean square, with the norm's small number. -/
def nv (a : Fin 64 → EReal) : EReal := Ideal.div (∑ d, a d * a d) (Ideal.ofBits .f32 0x42800000#32) + Ideal.ofBits .f32 0x358637BD#32

/-- The inverse root of it. -/
def nr (a : Fin 64 → EReal) : EReal := Ideal.rsqrt (nv a)

/-- The derivative of the inverse root. -/
def ns (a : Fin 64 → EReal) : EReal := Ideal.ofBits .f32 0xBF000000#32 * Ideal.div (nr a) (nv a)

/-- What the mean square hands back to every lane of the head. -/
def nf (a g : Fin 64 → EReal) : EReal := Ideal.div ((∑ d, a d * g d) * ns a) (Ideal.ofBits .f32 0x42800000#32)

/-- The gradient of the norm's input, from its weighted output's cotangent. -/
def nd (a g : Fin 64 → EReal) (d : Fin 64) : EReal := g d * nr a + a d * nf a g + nf a g * a d

section
variable {a g : Fin 64 → EReal} (ha : ∀ d, Re (a d)) (hg : ∀ d, Re (g d))
include ha

theorem nv_pos : ∃ r : ℝ, 0 < r ∧ nv a = (r : EReal) := by
  obtain ⟨e, he, h⟩ := c_eps
  choose b hb using ha
  refine ⟨(∑ d, b d * b d) / 64 + e, by have := Finset.sum_nonneg (s := Finset.univ) (f := fun d => b d * b d) (fun d _ => mul_self_nonneg _); positivity, ?_⟩
  have s : (∑ d, a d * a d) = ((∑ d, b d * b d : ℝ) : EReal) := by
    rw [← coe_sum]
    exact Finset.sum_congr rfl fun d _ => by rw [hb, EReal.coe_mul]
  unfold nv
  rw [h, s, c_64, Ideal.div_coe (by norm_num), ← EReal.coe_mul, ← EReal.coe_add]
  congr 2; ring

theorem Re.nr : Re (nr a) := by
  obtain ⟨r, hr, h⟩ := nv_pos ha
  unfold PrepMath.nr
  rw [h]
  refine ⟨(√r)⁻¹, ?_⟩
  show (if r < 0 then (⊥ : EReal) else if r = 0 then ⊤ else (((√r)⁻¹ : ℝ) : EReal)) = _
  rw [if_neg (not_lt.2 hr.le), if_neg hr.ne']

theorem Re.ns : Re (ns a) := by
  obtain ⟨r, hr, h⟩ := nv_pos ha
  obtain ⟨q, hq⟩ := Re.nr ha
  unfold PrepMath.ns
  rw [h, hq, c_mhalf, Ideal.div_coe hr.ne']
  exact (Re.coe _).mul (Re.coe _)

/-- The mean square as the body forms it. -/
theorem nv_mul : (∑ d, a d * a d) * Ideal.ofBits .f32 0x3C800000#32 + Ideal.ofBits .f32 0x358637BD#32 = nv a := by
  unfold nv
  rw [div_64 (Re.sum _ fun d => (ha d).mul (ha d))]

include hg
/-- What the mean square hands back, as the body forms it. -/
theorem nf_mul : ∑ d, a d * g d * ns a * Ideal.ofBits .f32 0x3C800000#32 = nf a g := by
  obtain ⟨s, hs⟩ := Re.ns ha
  unfold nf
  rw [div_64 ((Re.sum _ fun d => (ha d).mul (hg d)).mul (Re.ns ha)), hs, c_64th]
  choose b hb using ha
  choose e he using hg
  simp only [hb, he, ← EReal.coe_mul, coe_sum, ← Finset.sum_mul]
end

/-- The lane after and the lane before. -/
def up (d : Fin 64) (h : d.val % 2 = 0) : Fin 64 := ⟨d.val + 1, by omega⟩
def dn (d : Fin 64) (h : ¬d.val % 2 = 0) : Fin 64 := ⟨d.val - 1, by omega⟩
/-- The pair of a lane. -/
def pr (d : Fin 64) : Fin 32 := ⟨d.val / 2, by omega⟩

/-- The rotation of the pairs of lanes undone: each pair against its cosine and sine. -/
def unrot (e : Fin 64 → EReal) (co si : Fin 32 → EReal) (d : Fin 64) : EReal :=
  if h : d.val % 2 = 0 then e (up d h) * si (pr d) + e d * co (pr d) else e d * co (pr d) + -(e (dn d h)) * si (pr d)

theorem Re.unrot {e : Fin 64 → EReal} {co si : Fin 32 → EReal} (he : ∀ d, Re (e d)) (hc : ∀ i, Re (co i)) (hs : ∀ i, Re (si i)) (d : Fin 64) :
    Re (unrot e co si d) := by
  unfold PrepMath.unrot
  split_ifs with h
  · exact ((he _).mul (hs _)).add ((he _).mul (hc _))
  · exact ((he _).mul (hc _)).add ((he _).neg.mul (hs _))

/-- The rotary frequency with number `n`, and the angle of a row in a pair of lanes: the first sixteen pairs turn with the row's
    place down the image, the others with its place across. -/
def freq (n : ℕ) : EReal :=
  Ideal.pow (Ideal.ofBits FTy.f32 0x461C4000#32)
    (Ideal.div (-(Ideal.ofBits FTy.f32 0x40000000#32 * (FloatOps.sitofp FTy.f32 (BitVec.ofNat 32 n) : Ideal .f32))) (Ideal.ofBits FTy.f32 0x42000000#32))
def ang (R : Fin 8192) (i : Fin 32) : EReal :=
  if i.val < 16 then (FloatOps.sitofp FTy.f32 (BitVec.ofNat 32 (R.val / 64)) : Ideal .f32) * freq i.val
  else (FloatOps.sitofp FTy.f32 (BitVec.ofNat 32 (R.val % 64)) : Ideal .f32) * freq (i.val - 16)

theorem Re.word (b : BitVec 32) : Re (FloatOps.sitofp FTy.f32 b : Ideal .f32) := ⟨(b.toInt : ℝ), rfl⟩

theorem Re.freq (n : ℕ) : Re (freq n) := by
  have h2 : Ideal.ofBits .f32 0x40000000#32 = ((2 : ℝ) : EReal) := by
    simp only [Ideal.ofBits, Ideal.ieee]; simp; try (rw [← EReal.coe_mul]; norm_num)
  have h32 : Ideal.ofBits .f32 0x42000000#32 = ((32 : ℝ) : EReal) := by
    simp only [Ideal.ofBits, Ideal.ieee]; simp; try (rw [← EReal.coe_mul]; norm_num)
  have ht : Ideal.ofBits .f32 0x461C4000#32 = ((10000 : ℝ) : EReal) := by
    simp only [Ideal.ofBits, Ideal.ieee]; simp; try (rw [← EReal.coe_mul]; norm_num)
  obtain ⟨b, hb⟩ := Re.word (BitVec.ofNat 32 n)
  unfold PrepMath.freq
  rw [h2, h32, ht, hb, ← EReal.coe_mul, ← EReal.coe_neg, Ideal.div_coe (by norm_num), ← EReal.coe_mul]
  exact ⟨Real.rpow 10000 _, rfl⟩

theorem Re.ang (R : Fin 8192) (i : Fin 32) : Re (ang R i) := by
  unfold PrepMath.ang
  split_ifs
  · exact (Re.word _).mul (Re.freq _)
  · exact (Re.word _).mul (Re.freq _)

/-- The cosine and the sine of a row's angle. -/
def co (R : Fin 8192) (i : Fin 32) : EReal := Ideal.hostUnary .cos (ang R i)
def si (R : Fin 8192) (i : Fin 32) : EReal := Ideal.hostUnary .sin (ang R i)

theorem Re.co (R : Fin 8192) (i : Fin 32) : Re (co R i) := by
  obtain ⟨b, hb⟩ := Re.ang R i
  unfold PrepMath.co
  rw [hb]
  exact ⟨Real.cos b, rfl⟩

theorem Re.si (R : Fin 8192) (i : Fin 32) : Re (si R i) := by
  obtain ⟨b, hb⟩ := Re.ang R i
  unfold PrepMath.si
  rw [hb]
  exact ⟨Real.sin b, rfl⟩

end Cert.PrepMath

end
-- ==== Proof.PrepPay.lean ====
/- The rotary preparation's gradient, block by block: the body's payloads at a row and a lane are the numbers of the head that the
   lane belongs to.  The two group matrices and the two tile matrices enter as the indicators that they are. -/
module

public import proofs.«01_k».proof.Proof.PrepFrame
public import proofs.«01_k».proof.Proof.PrepMath
public import Idealize.ShloMosaic.Lib.Pointwise

@[expose] public section

set_option maxRecDepth 16384

noncomputable section

namespace Cert.PrepDxIdeal.Sums

open Cert.PrepDxIdeal Cert.PrepDxIdeal.Gen Cert.PrepDxIdeal.Run Cert.PrepMath Idealize.ShloMosaic Idealize.ShloMosaic.TcCoe Idealize.SL.Sem

/-- Lane `d` of head `h` among the query's and the key's columns; a head's lane in the padded row of weights. -/
def wq (h : Fin 8) (d : Fin 64) : Fin 512 := ⟨64 * h.val + d.val, by omega⟩
def wk (h : Fin 2) (d : Fin 64) : Fin 128 := ⟨64 * h.val + d.val, by omega⟩
def lo (d : Fin 64) : Fin 128 := ⟨d.val, by omega⟩

theorem cover_q (l : Fin 512) : ∃ h d, l = wq h d :=
  ⟨⟨l.val / 64, by omega⟩, ⟨l.val % 64, by omega⟩, Fin.ext (by simp only [wq]; omega)⟩
theorem cover_k (l : Fin 128) : ∃ h d, l = wk h d :=
  ⟨⟨l.val / 64, by omega⟩, ⟨l.val % 64, by omega⟩, Fin.ext (by simp only [wk]; omega)⟩

/-- The test for an even lane. -/
theorem mask : ∀ l : Fin 512, IntOp.cmpi .eq (Scalar.select (IntOp.andi (IntOp.xori
      (IntOp.cmpi .slt (IntOp.remsi .vector (BitVec.ofNat 32 l.val) (Scalar.select (Scalar.cmpi .eq 2#32 0#32) 1#32 2#32)) 0#32)
      (Scalar.cmpi .slt (Scalar.select (Scalar.cmpi .eq 2#32 0#32) 1#32 2#32) 0#32))
      (IntOp.cmpi .ne (IntOp.remsi .vector (BitVec.ofNat 32 l.val) (Scalar.select (Scalar.cmpi .eq 2#32 0#32) 1#32 2#32)) 0#32))
      (IntOp.addi (IntOp.remsi .vector (BitVec.ofNat 32 l.val) (Scalar.select (Scalar.cmpi .eq 2#32 0#32) 1#32 2#32)) (Scalar.select (Scalar.cmpi .eq 2#32 0#32) 1#32 2#32))
      (IntOp.remsi .vector (BitVec.ofNat 32 l.val) (Scalar.select (Scalar.cmpi .eq 2#32 0#32) 1#32 2#32))) 0#32
    = BitVec.ofBool (decide (l.val % 2 = 0)) := by
  decide +kernel

/-- A sign for the lanes: minus at the even ones. -/
def sg (d : Fin 64) : EReal := if d.val % 2 = 0 then -1 else 1

/-- One lane of the rotation undone, from what the body reads at the lane's neighbours. -/
theorem lane_rot {e : Fin 64 → EReal} {co si : Fin 32 → EReal} (d : Fin 64) (l : Fin 512) (hl : l.val % 2 = d.val % 2) (u v : EReal)
    (hu : ∀ h, u = e (up d h) * (si (pr d) * 1)) (hv : ∀ h, v = e (dn d h) * (si (pr d) * -1)) :
    (if l.val % 2 = 0 then u else v) + e d * co (pr d) = unrot e co si d := by
  unfold unrot
  rw [hl]
  split_ifs with h
  · rw [hu h, mul_one]
  · rw [hv h, add_comm, mul_neg, mul_one, mul_neg, neg_mul]

theorem pr_up (d : Fin 64) (h) : pr (up d h) = pr d := Fin.ext (by simp only [pr, up]; omega)
theorem pr_dn (d : Fin 64) (h) : pr (dn d h) = pr d := Fin.ext (by simp only [pr, dn]; omega)
theorem sg_up (d : Fin 64) (h) : sg (up d h) = 1 := if_neg (by simp only [up]; omega)
theorem sg_dn (d : Fin 64) (h) : sg (dn d h) = -1 := if_pos (by simp only [dn]; omega)

/-- The query cotangent's rows, from its transposed tiles. -/
theorem tile_q (dt : Vec Ideal S8x1x64x256 .f32) (h : Fin 8) (d : Fin 64) (r : Fin 256) :
    k0_pay30 (k0_pay9 dt) (k0_pay29 (k0_pay9 dt)) (ix2 r (wq h d)) = dt (ix4 h 0 d r) := by
  unfold k0_pay30 k0_pay29 k0_pay9
  pointwise
  have e : (wq h d).val = 64 * h.val + d.val := rfl
  split_ifs <;> (refine congrArg dt ?_; congr 1 <;> (apply Fin.ext; first | omega | (simp; omega)))

section Query
variable (a : Vec Ideal S256x512 .f32) (g : Vec Ideal S512x512 .f32) (tm : Vec Ideal S128x512 .f32) (ct sw : Vec Ideal S256x512 .f32)
  (wt : Vec Ideal S1x128 .f32) (dt : Vec Ideal S8x1x64x256 .f32)
  (co si : Fin 256 → Fin 32 → EReal)
  (ha : ∀ r l, Re (a (ix2 r l)))
  (hG : ∀ h' d' h d, g (ix2 (wq h' d') (wq h d)) = if h' = h then 1 else 0)
  (hT : ∀ l h d, tm (ix2 l (wq h d)) = if l.val = d.val then 1 else 0)
  (hc : ∀ r h d, ct (ix2 r (wq h d)) = co r (pr d)) (hs : ∀ r h d, sw (ix2 r (wq h d)) = si r (pr d) * sg d)
  (hw : ∀ l, Re (wt (ix2 0 l))) (hd : ∀ h d r, Re (dt (ix4 h 0 d r)))
  (hco : ∀ r i, Re (co r i)) (hsi : ∀ r i, Re (si r i))

/-- A head's lanes of a row. -/
abbrev lnq (r : Fin 256) (h : Fin 8) (d : Fin 64) : EReal := a (ix2 r (wq h d))

/-- A head's row of the cotangent tile, weighed. -/
abbrev exq (r : Fin 256) (h : Fin 8) (d : Fin 64) : EReal := dt (ix4 h 0 d r) * Ideal.ofBits .f32 0x3E000000#32

include ha hG in
theorem var_q (r : Fin 256) (h : Fin 8) (d : Fin 64) : k0_pay18 a (k0_pay14 g) (ix2 r (wq h d)) = nv (lnq a r h) := by
  unfold_payloads
  pointwise [dot_S256x512_S512x512_S256x512_1_0_0_1_n_n]
  have P := pieces (fun j => a (ix2 r j) * a (ix2 r j)) (fun j => g (ix2 j (wq h d))) fun j => (ha r j).mul (ha r j)
  beta_reduce at P
  rw [P]
  have S := sum_group rfl wq (fun _ _ => rfl) (fun j => a (ix2 r j) * a (ix2 r j)) (fun j => g (ix2 j (wq h d))) h fun h' d' => hG h' d' h d
  beta_reduce at S
  rw [S]
  exact nv_mul fun d => ha r (wq h d)

include ha hG in
theorem inv_q (r : Fin 256) (h : Fin 8) (d : Fin 64) : k0_pay19 a (k0_pay14 g) (ix2 r (wq h d)) = nr (lnq a r h) := by
  unfold k0_pay19
  pointwise [var_q a g ha hG]
  rfl

include ha hG in
theorem slope_q (r : Fin 256) (h : Fin 8) (d : Fin 64) : k0_pay20 a (k0_pay14 g) (ix2 r (wq h d)) = ns (lnq a r h) := by
  unfold k0_pay20
  pointwise [var_q a g ha hG, inv_q a g ha hG]
  rfl

include hw hT in
/-- The norm's weight in every head's lanes. -/
theorem weight_q (h : Fin 8) (d : Fin 64) : k0_pay23 (k0_pay22 (k0_pay12 wt) tm) (Ideal.ofBits .f32 0x3E000000#32) (ix2 0 (wq h d)) = wt (ix2 0 (lo d)) := by
  unfold k0_pay23 k0_pay22 k0_pay12 k0_pay16
  pointwise [dot_S8x128_S128x512_S8x512_1_0_0_1_n_n]
  have P := pieces (fun l => wt (ix2 0 l)) (fun l => tm (ix2 l (wq h d))) hw
  beta_reduce at P
  have S := sum_lane (fun l => wt (ix2 0 l)) (fun l => tm (ix2 l (wq h d))) (lo d) fun l => (hT l h d).trans (by
    congr 1; exact propext ⟨fun e => Fin.ext e, fun e => congrArg Fin.val e⟩)
  beta_reduce at S
  simp only [P]
  simp only [S]
  exact eight (hw _)

include hc hs in
/-- The rotation undone. -/
theorem rot_q (r : Fin 256) (h : Fin 8) (d : Fin 64) :
    k0_pay37 (k0_pay5 ct) (k0_pay6 sw) (k0_pay30 (k0_pay9 dt) (k0_pay29 (k0_pay9 dt))) (ix2 r (wq h d)) = unrot (exq dt r h) (co r) (si r) d := by
  have E : ∀ h d, k0_pay30 (k0_pay9 dt) (k0_pay29 (k0_pay9 dt)) (ix2 r (wq h d)) = dt (ix4 h 0 d r) := fun h d => tile_q dt h d r
  unfold k0_pay37 k0_pay5 k0_pay6
  pointwise
  rw [mask, Scalar.select_decide, hc]
  simp only [E]
  refine lane_rot (e := exq dt r h) (co := co r) (si := si r) d (wq h d) (by simp only [wq]; omega) _ _ (fun k => ?_) (fun k => ?_)
  · have i : (⟨((wq h d).val + 512 - 511) % 512, Nat.mod_lt _ (by decide)⟩ : Fin 512) = wq h (up d k) := Fin.ext (by
      simp only [wq, up]; omega)
    rw [i, hs, pr_up, sg_up, E]
  · have i : (⟨((wq h d).val + 512 - 1) % 512, Nat.mod_lt _ (by decide)⟩ : Fin 512) = wq h (dn d k) := Fin.ext (by
      simp only [wq, dn]; omega)
    rw [i, hs, pr_dn, sg_dn, E]

/-- The cotangent of the normalised lanes. -/
abbrev grq (r : Fin 256) (h : Fin 8) (d : Fin 64) : EReal := unrot (exq dt r h) (co r) (si r) d * wt (ix2 0 (lo d))

include hd hco hsi in
theorem re_rot_q (r : Fin 256) (h : Fin 8) (d : Fin 64) : Re (unrot (exq dt r h) (co r) (si r) d) :=
  Re.unrot (fun d => (hd h d r).mul (by rw [c_eighth]; exact Re.coe _)) (hco r) (hsi r) d

include hw hd hco hsi in
theorem re_gr_q (r : Fin 256) (h : Fin 8) (d : Fin 64) : Re (grq wt dt co si r h d) :=
  (re_rot_q dt co si hd hco hsi r h d).mul (hw _)

include hc hs hw hT in
theorem cot_q (r : Fin 256) (h : Fin 8) (d : Fin 64) : dyQ ct sw dt wt tm (ix2 r (wq h d)) = grq wt dt co si r h d := by
  unfold dyQ k0_pay38
  pointwise [rot_q ct sw dt co si hc hs, weight_q tm wt hT hw]

include ha hG hT hc hs hw hd hco hsi in
/-- The block of the gradient. -/
theorem out_q (r : Fin 256) (h : Fin 8) (d : Fin 64) : outQ a ct sw dt wt g tm (ix2 r (wq h d)) = nd (lnq a r h) (grq wt dt co si r h) d := by
  have I := inv_q a g ha hG r h
  have L := slope_q a g ha hG r h
  have C := cot_q tm ct sw wt dt co si hT hc hs hw r h
  have CR : ∀ j, Re (dyQ ct sw dt wt tm (ix2 r j)) := fun j => by
    obtain ⟨h, d, rfl⟩ := cover_q j
    rw [cot_q tm ct sw wt dt co si hT hc hs hw r h]
    exact re_gr_q wt dt co si hw hd hco hsi r h d
  have LR : ∀ j, Re (k0_pay20 a (k0_pay14 g) (ix2 r j)) := fun j => by
    obtain ⟨h, d, rfl⟩ := cover_q j
    rw [slope_q a g ha hG r h]
    exact Re.ns fun d => ha r _
  unfold outQ
  generalize dyQ ct sw dt wt tm = Y at C CR ⊢
  generalize k0_pay20 a (k0_pay14 g) = Z at L LR ⊢
  unfold k0_pay46
  have hg : k0_pay14 g = g := by unfold k0_pay14; funext y; pointwise
  have P := pieces (fun j => a (ix2 r j) * Y (ix2 r j) * Z (ix2 r j) * Ideal.ofBits .f32 0x3C800000#32) (fun j => g (ix2 (wq h d) j))
    fun j => (((ha r j).mul (CR j)).mul (LR j)).mul (by rw [c_64th]; exact Re.coe _)
  beta_reduce at P
  have S := sum_group rfl wq (fun _ _ => rfl) (fun j => a (ix2 r j) * Y (ix2 r j) * Z (ix2 r j) * Ideal.ofBits .f32 0x3C800000#32)
    (fun j => g (ix2 (wq h d) j)) h fun h' d' => (hG h d h' d').trans (by simp only [eq_comm])
  beta_reduce at S
  simp only [C, L] at S
  rw [nf_mul (fun d => ha r (wq h d)) (fun d => re_gr_q wt dt co si hw hd hco hsi r h d)] at S
  simp only [hg] at I
  pointwise [dot_S256x512_S512x512_S256x512_1_1_0_0_n_n, I, C, hg]
  rw [P, S]
  rfl

include ha hG hT hc hs hd hco hsi in
/-- What one block adds to the gradient of the norm's weight. -/
theorem row_q (y : Vec Ideal S1x128 .f32) (l : Fin 128) : outWQ a ct sw dt g tm y (ix2 0 l)
    = y (ix2 0 l) + if hl : l.val < 64 then ∑ r : Fin 256, ∑ h, lnq a r h ⟨l.val, hl⟩ * nr (lnq a r h) * unrot (exq dt r h) (co r) (si r) ⟨l.val, hl⟩ else 0 := by
  have N : ∀ r h d, k0_pay21 a (k0_pay14 g) (ix2 r (wq h d)) = lnq a r h d * nr (lnq a r h) := fun r h d => by
    unfold k0_pay21
    pointwise [inv_q a g ha hG]
  have U := rot_q ct sw dt co si hc hs
  have NR : ∀ r j, Re (k0_pay21 a (k0_pay14 g) (ix2 r j) * k0_pay37 (k0_pay5 ct) (k0_pay6 sw) (k0_pay30 (k0_pay9 dt) (k0_pay29 (k0_pay9 dt))) (ix2 r j)) := fun r j => by
    obtain ⟨h, d, rfl⟩ := cover_q j
    rw [N, U]
    exact ((ha r _).mul (Re.nr fun d => ha r _)).mul (re_rot_q dt co si hd hco hsi r h d)
  unfold outWQ k0_pay3 rowQ k0_pay45 k0_pay44 k0_pay43 k0_pay42 k0_pay41 k0_pay40 k0_pay39 k0_pay16

  generalize k0_pay21 a (k0_pay14 g) = A at N NR ⊢
  generalize k0_pay37 (k0_pay5 ct) (k0_pay6 sw) (k0_pay30 (k0_pay9 dt) (k0_pay29 (k0_pay9 dt))) = B at U NR ⊢
  have R8 : Re (Ideal.ofBits .f32 0x3E000000#32) := by rw [c_eighth]; exact Re.coe _
  have Y : ∀ j, Re (∑ r : Fin 256, A (ix2 r j) * B (ix2 r j)) := fun j => Re.sum _ fun r => NR r j
  have P := pieces (fun j => (∑ r : Fin 256, A (ix2 r j) * B (ix2 r j)) * Ideal.ofBits .f32 0x3E000000#32) (fun j => tm (ix2 l j))
    fun j => (Y j).mul R8
  beta_reduce at P
  pointwise [dot_S8x512_S128x512_S8x128_1_1_0_0_n_n, Fin.sum_univ_one]
  simp only [P]
  congr 1
  split_ifs with hl
  · have S := sum_fold rfl wq (fun _ _ => rfl) (fun j => (∑ r : Fin 256, A (ix2 r j) * B (ix2 r j)) * Ideal.ofBits .f32 0x3E000000#32) (fun j => tm (ix2 l j))
      ⟨l.val, hl⟩ fun h d => (hT l h d).trans (by congr 1; exact propext ⟨fun e => Fin.ext e.symm, fun e => (congrArg Fin.val e).symm⟩)
    beta_reduce at S
    simp only [S]
    rw [Finset.sum_comm, Finset.sum_comm (s := (Finset.univ : Finset (Fin 256)))]
    refine Finset.sum_congr rfl fun h _ => (eight' (Y _)).trans (Finset.sum_congr rfl fun r _ => ?_)
    rw [N, U]
  · refine Finset.sum_eq_zero fun _ _ => Finset.sum_eq_zero fun j _ => ?_
    obtain ⟨h, d, rfl⟩ := cover_q j
    rw [hT, if_neg (by omega), mul_zero]
end Query

section Key
variable (a : Vec Ideal S256x128 .f32) (g : Vec Ideal S128x128 .f32) (tm : Vec Ideal S128x128 .f32) (ct sw : Vec Ideal S256x128 .f32)
  (wt : Vec Ideal S1x128 .f32) (dt : Vec Ideal S2x1x64x256 .f32)
  (co si : Fin 256 → Fin 32 → EReal)
  (ha : ∀ r l, Re (a (ix2 r l)))
  (hG : ∀ h' d' h d, g (ix2 (wk h' d') (wk h d)) = if h' = h then 1 else 0)
  (hT : ∀ l h d, tm (ix2 l (wk h d)) = if l.val = d.val then 1 else 0)
  (hc : ∀ r h d, ct (ix2 r (wk h d)) = co r (pr d)) (hs : ∀ r h d, sw (ix2 r (wk h d)) = si r (pr d) * sg d)
  (hw : ∀ l, Re (wt (ix2 0 l))) (hd : ∀ h d r, Re (dt (ix4 h 0 d r)))
  (hco : ∀ r i, Re (co r i)) (hsi : ∀ r i, Re (si r i))

/-- A head's lanes of a row. -/
abbrev lnk (r : Fin 256) (h : Fin 2) (d : Fin 64) : EReal := a (ix2 r (wk h d))

/-- A head's row of the cotangent tile, weighed. -/
abbrev exk (r : Fin 256) (h : Fin 2) (d : Fin 64) : EReal := dt (ix4 h 0 d r)

include ha hG in
theorem var_k (r : Fin 256) (h : Fin 2) (d : Fin 64) : k0_pay24 a (k0_pay15 g) (ix2 r (wk h d)) = nv (lnk a r h) := by
  unfold_payloads
  pointwise [dot_S256x128_S128x128_S256x128_1_0_0_1_n_n]
  have P := pieces (fun j => a (ix2 r j) * a (ix2 r j)) (fun j => g (ix2 j (wk h d))) fun j => (ha r j).mul (ha r j)
  beta_reduce at P
  rw [P]
  have S := sum_group rfl wk (fun _ _ => rfl) (fun j => a (ix2 r j) * a (ix2 r j)) (fun j => g (ix2 j (wk h d))) h fun h' d' => hG h' d' h d
  beta_reduce at S
  rw [S]
  exact nv_mul fun d => ha r (wk h d)

include ha hG in
theorem inv_k (r : Fin 256) (h : Fin 2) (d : Fin 64) : k0_pay25 a (k0_pay15 g) (ix2 r (wk h d)) = nr (lnk a r h) := by
  unfold k0_pay25
  pointwise [var_k a g ha hG]
  rfl

include ha hG in
theorem slope_k (r : Fin 256) (h : Fin 2) (d : Fin 64) : k0_pay26 a (k0_pay15 g) (ix2 r (wk h d)) = ns (lnk a r h) := by
  unfold k0_pay26
  pointwise [var_k a g ha hG, inv_k a g ha hG]
  rfl

include hw hT in
/-- The norm's weight in every head's lanes. -/
theorem weight_k (h : Fin 2) (d : Fin 64) : k0_pay28 (k0_pay13 wt) (k0_pay17 tm) (ix2 0 (wk h d)) = wt (ix2 0 (lo d)) := by
  unfold k0_pay28 k0_pay13 k0_pay17
  pointwise [dot_S8x128_S128x128_S8x128_1_0_0_1_n_n]
  have P := pieces (fun l => wt (ix2 0 l)) (fun l => tm (ix2 l (wk h d))) hw
  beta_reduce at P
  have S := sum_lane (fun l => wt (ix2 0 l)) (fun l => tm (ix2 l (wk h d))) (lo d) fun l => (hT l h d).trans (by
    congr 1; exact propext ⟨fun e => Fin.ext e, fun e => congrArg Fin.val e⟩)
  beta_reduce at S
  simp only [P]
  simp only [S]
  exact eight (hw _)

include hc hs in
/-- The rotation undone. -/
theorem rot_k (r : Fin 256) (h : Fin 2) (d : Fin 64) :
    roK ct sw dt (ix2 r (wk h d)) = unrot (exk dt r h) (co r) (si r) d := by
  unfold roK k0_pay31 k0_pay7 k0_pay8 k0_pay10
  dsimp only
  generalize hX : transpose (s := S128x256) S256x128 [1, 0] _ _ = X
  have E : ∀ h d, X (ix2 r (wk h d)) = dt (ix4 h 0 d r) := fun h d => by
    rw [← hX]
    pointwise
    have e : (wk h d).val = 64 * h.val + d.val := rfl
    split_ifs <;> (refine congrArg dt ?_; congr 1 <;> (apply Fin.ext; first | omega | (simp; omega)))
  pointwise
  rw [mask ⟨(wk h d).val, by omega⟩, Scalar.select_decide, hc]
  simp only [E]
  refine lane_rot (e := exk dt r h) (co := co r) (si := si r) d ⟨(wk h d).val, by omega⟩ (by simp only [wk]; omega) _ _ (fun k => ?_) (fun k => ?_)
  · have i : (⟨((wk h d).val + 128 - 127) % 128, Nat.mod_lt _ (by decide)⟩ : Fin 128) = wk h (up d k) := Fin.ext (by
      simp only [wk, up]; omega)
    rw [i, hs, pr_up, sg_up, E]
  · have i : (⟨((wk h d).val + 128 - 1) % 128, Nat.mod_lt _ (by decide)⟩ : Fin 128) = wk h (dn d k) := Fin.ext (by
      simp only [wk, dn]; omega)
    rw [i, hs, pr_dn, sg_dn, E]

/-- The cotangent of the normalised lanes. -/
abbrev grk (r : Fin 256) (h : Fin 2) (d : Fin 64) : EReal := unrot (exk dt r h) (co r) (si r) d * wt (ix2 0 (lo d))

include hd hco hsi in
theorem re_rot_k (r : Fin 256) (h : Fin 2) (d : Fin 64) : Re (unrot (exk dt r h) (co r) (si r) d) :=
  Re.unrot (fun d => hd h d r) (hco r) (hsi r) d

include hw hd hco hsi in
theorem re_gr_k (r : Fin 256) (h : Fin 2) (d : Fin 64) : Re (grk wt dt co si r h d) :=
  (re_rot_k dt co si hd hco hsi r h d).mul (hw _)

include hc hs hw hT in
theorem cot_k (r : Fin 256) (h : Fin 2) (d : Fin 64) : k0_pay32 (k0_pay28 (k0_pay13 wt) (k0_pay17 tm)) (roK ct sw dt) (ix2 r (wk h d)) = grk wt dt co si r h d := by
  unfold k0_pay32
  pointwise [rot_k ct sw dt co si hc hs, weight_k tm wt hT hw]

include ha hG hT hc hs hw hd hco hsi in
/-- The block of the gradient. -/
theorem out_k (r : Fin 256) (h : Fin 2) (d : Fin 64) : outK a ct sw dt wt g tm (ix2 r (wk h d)) = nd (lnk a r h) (grk wt dt co si r h) d := by
  have I := inv_k a g ha hG r h
  have L := slope_k a g ha hG r h
  have C := cot_k tm ct sw wt dt co si hT hc hs hw r h
  have CR : ∀ j, Re (k0_pay32 (k0_pay28 (k0_pay13 wt) (k0_pay17 tm)) (roK ct sw dt) (ix2 r j)) := fun j => by
    obtain ⟨h, d, rfl⟩ := cover_k j
    rw [cot_k tm ct sw wt dt co si hT hc hs hw r h]
    exact re_gr_k wt dt co si hw hd hco hsi r h d
  have LR : ∀ j, Re (k0_pay26 a (k0_pay15 g) (ix2 r j)) := fun j => by
    obtain ⟨h, d, rfl⟩ := cover_k j
    rw [slope_k a g ha hG r h]
    exact Re.ns fun d => ha r _
  unfold outK
  have hg : k0_pay15 g = g := by unfold k0_pay15; funext y; pointwise
  simp only [hg] at I L LR ⊢
  have E : k0_pay34 a g (k0_pay26 a g) (k0_pay28 (k0_pay13 wt) (k0_pay17 tm)) (roK ct sw dt) (ix2 r (wk h d)) = nf (lnk a r h) (grk wt dt co si r h) := by
    unfold k0_pay34
    generalize k0_pay32 (k0_pay28 (k0_pay13 wt) (k0_pay17 tm)) (roK ct sw dt) = Y at C CR ⊢
    generalize k0_pay26 a g = Z at L LR ⊢
    have P := pieces (fun j => a (ix2 r j) * Y (ix2 r j) * Z (ix2 r j) * Ideal.ofBits .f32 0x3C800000#32) (fun j => g (ix2 (wk h d) j))
      fun j => (((ha r j).mul (CR j)).mul (LR j)).mul (by rw [c_64th]; exact Re.coe _)
    beta_reduce at P
    have S := sum_group rfl wk (fun _ _ => rfl) (fun j => a (ix2 r j) * Y (ix2 r j) * Z (ix2 r j) * Ideal.ofBits .f32 0x3C800000#32)
      (fun j => g (ix2 (wk h d) j)) h fun h' d' => (hG h d h' d').trans (by simp only [eq_comm])
    beta_reduce at S
    simp only [C, L] at S
    rw [nf_mul (fun d => ha r (wk h d)) (fun d => re_gr_k wt dt co si hw hd hco hsi r h d)] at S
    pointwise [dot_S256x128_S128x128_S256x128_1_1_0_0_n_n]
    rw [P, S]
  unfold k0_pay36 k0_pay35 k0_pay47
  pointwise [E, I, C]
  rfl

include ha hG hT hc hs hd hco hsi in
/-- What one block adds to the gradient of the norm's weight. -/
theorem row_k (y : Vec Ideal S1x128 .f32) (l : Fin 128) : outWK a ct sw dt g tm y (ix2 0 l)
    = y (ix2 0 l) + if hl : l.val < 64 then ∑ r : Fin 256, ∑ h, lnk a r h ⟨l.val, hl⟩ * nr (lnk a r h) * unrot (exk dt r h) (co r) (si r) ⟨l.val, hl⟩ else 0 := by
  have N : ∀ r h d, k0_pay27 a (k0_pay15 g) (ix2 r (wk h d)) = lnk a r h d * nr (lnk a r h) := fun r h d => by
    unfold k0_pay27
    pointwise [inv_k a g ha hG]
  have U := rot_k ct sw dt co si hc hs
  have NR : ∀ r j, Re (k0_pay27 a (k0_pay15 g) (ix2 r j) * roK ct sw dt (ix2 r j)) := fun r j => by
    obtain ⟨h, d, rfl⟩ := cover_k j
    rw [N, U]
    exact ((ha r _).mul (Re.nr fun d => ha r _)).mul (re_rot_k dt co si hd hco hsi r h d)
  unfold outWK k0_pay4 rowK k0_pay33 k0_pay17

  generalize k0_pay27 a (k0_pay15 g) = A at N NR ⊢
  generalize roK ct sw dt = B at U NR ⊢
  have R8 : Re (Ideal.ofBits .f32 0x3E000000#32) := by rw [c_eighth]; exact Re.coe _
  have Y : ∀ j, Re (∑ r : Fin 256, A (ix2 r j) * B (ix2 r j)) := fun j => Re.sum _ fun r => NR r j
  have P := pieces (fun j => (∑ r : Fin 256, A (ix2 r j) * B (ix2 r j)) * Ideal.ofBits .f32 0x3E000000#32) (fun j => tm (ix2 l j))
    fun j => (Y j).mul R8
  beta_reduce at P
  pointwise [dot_S8x128_S128x128_S8x128_1_1_0_0_n_n, Fin.sum_univ_one]
  simp only [P]
  congr 1
  split_ifs with hl
  · have S := sum_fold rfl wk (fun _ _ => rfl) (fun j => (∑ r : Fin 256, A (ix2 r j) * B (ix2 r j)) * Ideal.ofBits .f32 0x3E000000#32) (fun j => tm (ix2 l j))
      ⟨l.val, hl⟩ fun h d => (hT l h d).trans (by congr 1; exact propext ⟨fun e => Fin.ext e.symm, fun e => (congrArg Fin.val e).symm⟩)
    beta_reduce at S
    simp only [S]
    rw [Finset.sum_comm, Finset.sum_comm (s := (Finset.univ : Finset (Fin 256)))]
    refine Finset.sum_congr rfl fun h _ => (eight' (Y _)).trans (Finset.sum_congr rfl fun r _ => ?_)
    rw [N, U]
  · refine Finset.sum_eq_zero fun _ _ => Finset.sum_eq_zero fun j _ => ?_
    obtain ⟨h, d, rfl⟩ := cover_k j
    rw [hT, if_neg (by omega), mul_zero]
end Key

/-- The value's gradient is the cotangent's own rows, from its transposed tiles. -/
theorem out_v (dt : Vec Ideal S2x1x64x256 .f32) (r : Fin 256) (h : Fin 2) (d : Fin 64) : outV dt (ix2 r (wk h d)) = dt (ix4 h 0 d r) := by
  unfold outV k0_pay48 k0_pay11
  dsimp only
  generalize hX : transpose (s := S128x256) S256x128 [1, 0] _ _ = X
  have E : X (ix2 r (wk h d)) = dt (ix4 h 0 d r) := by
    rw [← hX]
    pointwise
    have e : (wk h d).val = 64 * h.val + d.val := rfl
    split_ifs <;> (refine congrArg dt ?_; congr 1 <;> (apply Fin.ext; first | omega | (simp; omega)))
  exact E

end Cert.PrepDxIdeal.Sums

end
-- ==== Proof.MixPay.lean ====
/- The mixer's end, backwards, block by block: the body's payloads at an index are the reference's terms at the block's rows. The
   body works on one head's lanes at a time, the reference on all four heads at once. -/
module

public import proofs.«01_k».proof.Proof.Gen.MixDxIdeal.Value
public import proofs.«01_k».proof.Proof.Gen.MixRefIdeal.Read
public import Idealize.ShloMosaic.Lib.Pointwise

@[expose] public section

noncomputable section

namespace Cert.MixDxIdeal.Sums

open Cert.MixDxIdeal Cert.MixDxIdeal.Gen Idealize.ShloMosaic Idealize.ShloMosaic.TcCoe Idealize.SL.Sem
open Cert.MixRefIdeal.Read

/-- Lane `d` of head `h` among the 512 columns; the same of the eight attention heads; the gate's columns among the projection's. -/
def col (h : Fin 4) (d : Fin 128) : Fin 512 := ⟨128 * h.val + d.val, by omega⟩
def wide (h : Fin 8) (d : Fin 64) : Fin 512 := ⟨64 * h.val + d.val, by omega⟩
def gcol (l : Fin 512) : Fin 3328 := ⟨2048 + l.val, by omega⟩
def lo (l : Fin 512) : Fin 1024 := ⟨l.val, by omega⟩
def hi (l : Fin 512) : Fin 1024 := ⟨512 + l.val, by omega⟩

variable (x0 x1 : FVec Ideal S8192x512 .f32) (x2 : FVec Ideal S8192x3328 .f32) (x3 : FVec Ideal S8192x512 .f32)
  (x4 : FVec Ideal S1x128 .f32) (x5 : FVec Ideal S1x512 .f32) (x6 : FVec Ideal S8192x1024 .f32)

/-- The reference's per-head views of its arrays. -/
theorem v2_at (R : Fin 8192) (h : Fin 4) (d : Fin 128) :
    val_main_v2 (F := Ideal) x0 x1 (ix3 R h d) = x0 (ix2 R (col h d)) + x1 (ix2 R (col h d)) := by
  unfold val_main_v2 val_main_v1
  pointwise
  congr 2 <;> (congr 1; apply Fin.ext; simp only [col]; omega)

theorem v19_at (R : Fin 8192) (h : Fin 4) (d : Fin 128) :
    val_main_v19 (F := Ideal) x2 (ix3 R h d) = x2 (ix2 R (gcol (col h d))) := by
  unfold val_main_v19 val_main_v0
  pointwise
  congr 2; apply Fin.ext; simp only [col, gcol]; omega

theorem v60_at (R : Fin 8192) (h : Fin 4) (d : Fin 128) :
    val_main_v60 (F := Ideal) x6 (ix3 R h d) = x6 (ix2 R (lo (col h d))) := by
  unfold val_main_v60 val_main_v39
  pointwise
  congr 2; apply Fin.ext; simp only [col, lo]; omega

variable (a b g : Vec Ideal S256x512 .f32) (ot : Vec Ideal S8x1x64x256 .f32) (dm : Vec Ideal S256x1024 .f32)
  (wh : Vec Ideal S1x128 .f32) (wa : Vec Ideal S1x512 .f32) (row : Fin 256 → Fin 8192)
  (ha : ∀ r l, a (ix2 r l) = x0 (ix2 (row r) l)) (hb : ∀ r l, b (ix2 r l) = x1 (ix2 (row r) l))
  (hg : ∀ r l, g (ix2 r l) = x2 (ix2 (row r) (gcol l)))
  (ho : ∀ h r d, ot (ix4 h 0 d r) = x3 (ix2 (row r) (wide h d)))
  (hd : ∀ r k, dm (ix2 r k) = x6 (ix2 (row r) k)) (hh : ∀ k, wh (ix2 0 k) = x4 (ix2 0 k)) (hw : ∀ k, wa (ix2 0 k) = x5 (ix2 0 k))

include ha hb in
/-- Each head's lanes of the two recurrences' sum. -/
theorem head_at (r : Fin 256) (d : Fin 128) :
    k0_pay4 a b (ix2 r d) = val_main_v2 (F := Ideal) x0 x1 (ix3 (row r) 0 d)
    ∧ k0_pay10 (k0_pay3 a b) (ix2 r d) = val_main_v2 (F := Ideal) x0 x1 (ix3 (row r) 1 d)
    ∧ k0_pay16 (k0_pay3 a b) (ix2 r d) = val_main_v2 (F := Ideal) x0 x1 (ix3 (row r) 2 d)
    ∧ k0_pay22 (k0_pay3 a b) (ix2 r d) = val_main_v2 (F := Ideal) x0 x1 (ix3 (row r) 3 d) := by
  simp only [v2_at, ← ha, ← hb]
  refine ⟨?_, ?_, ?_, ?_⟩ <;>
    (unfold_payloads; pointwise; congr 2 <;> (congr 1; apply Fin.ext; simp only [col]; first | rfl | simp))

include ha hb in
/-- Each head's inverse root mean square, and the derivative's factor. -/
theorem inv_at (r : Fin 256) :
    k0_pay6 a b (ix2 r 0) = val_main_v10 (F := Ideal) x0 x1 (ix3 (row r) 0 0)
    ∧ k0_pay12 (k0_pay3 a b) (ix2 r 0) = val_main_v10 (F := Ideal) x0 x1 (ix3 (row r) 1 0)
    ∧ k0_pay18 (k0_pay3 a b) (ix2 r 0) = val_main_v10 (F := Ideal) x0 x1 (ix3 (row r) 2 0)
    ∧ k0_pay24 (k0_pay3 a b) (ix2 r 0) = val_main_v10 (F := Ideal) x0 x1 (ix3 (row r) 3 0)
    ∧ k0_pay7 a b (ix2 r 0) = val_main_v13 (F := Ideal) x0 x1 (ix3 (row r) 0 0)
    ∧ k0_pay13 (k0_pay3 a b) (ix2 r 0) = val_main_v13 (F := Ideal) x0 x1 (ix3 (row r) 1 0)
    ∧ k0_pay19 (k0_pay3 a b) (ix2 r 0) = val_main_v13 (F := Ideal) x0 x1 (ix3 (row r) 2 0)
    ∧ k0_pay25 (k0_pay3 a b) (ix2 r 0) = val_main_v13 (F := Ideal) x0 x1 (ix3 (row r) 3 0) := by
  have H := fun d => head_at x0 x1 a b row ha hb r d
  have H0 := fun d => (H d).1
  have H1 := fun d => (H d).2.1
  have H2 := fun d => (H d).2.2.1
  have H3 := fun d => (H d).2.2.2
  unfold k0_pay7 k0_pay13 k0_pay19 k0_pay25 k0_pay6 k0_pay12 k0_pay18 k0_pay24 k0_pay5 k0_pay11 k0_pay17 k0_pay23
  refine ⟨?_, ?_, ?_, ?_, ?_, ?_, ?_, ?_⟩ <;>
    pointwise [H0, H1, H2, H3, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

include hg hd in
/-- The gated cotangent of the normalised lanes. -/
theorem ct_at (r : Fin 256) (h : Fin 4) (d : Fin 128) :
    k0_pay34 g dm (ix2 r (col h d)) = val_main_v62 (F := Ideal) x2 x6 (ix3 (row r) h d) := by
  unfold_payloads
  pointwise [hg, hd, v19_at, v60_at, val_main_v62, val_main_v20_0, val_main_v20_2, val_main_call0_v0, val_main_call0_v1, val_main_call0_v2,
    val_main_call0_v3, val_main_call0_v4, val_main_call0_cst, val_main_call0_cst_0, Ideal.logistic]
  rfl

include ha hb in
/-- Each head's normalised lanes. -/
theorem norm_at (r : Fin 256) (d : Fin 128) :
    k0_pay8 (k0_pay4 a b) (k0_pay6 a b) (ix2 r d) = val_main_v15 (F := Ideal) x0 x1 (ix3 (row r) 0 d)
    ∧ k0_pay14 (k0_pay3 a b) (ix2 r d) = val_main_v15 (F := Ideal) x0 x1 (ix3 (row r) 1 d)
    ∧ k0_pay20 (k0_pay3 a b) (ix2 r d) = val_main_v15 (F := Ideal) x0 x1 (ix3 (row r) 2 d)
    ∧ k0_pay26 (k0_pay22 (k0_pay3 a b)) (k0_pay24 (k0_pay3 a b)) (ix2 r d) = val_main_v15 (F := Ideal) x0 x1 (ix3 (row r) 3 d) := by
  obtain ⟨H0, H1, H2, H3⟩ := head_at x0 x1 a b row ha hb r d
  obtain ⟨I0, I1, I2, I3, _⟩ := inv_at x0 x1 a b row ha hb r
  unfold k0_pay8 k0_pay14 k0_pay20 k0_pay26
  refine ⟨?_, ?_, ?_, ?_⟩ <;> pointwise [H0, H1, H2, H3, I0, I1, I2, I3, val_main_v15, val_main_v14]

/-- Four heads side by side, read in one head's lanes. -/
theorem heads_apply (A B C D : FVec Ideal S256x128 .f32) (hc) (r : Fin 256) (h : Fin 4) (d : Fin 128) :
    concatenate S256x512 1 [⟨S256x128, A⟩, ⟨S256x128, B⟩, ⟨S256x128, C⟩, ⟨S256x128, D⟩] hc (ix2 r (col h d)) = (![A, B, C, D] h) (ix2 r d) := by
  have P := concatenate_apply_piece (t := S256x512) 1 [⟨S256x128, A⟩, ⟨S256x128, B⟩, ⟨S256x128, C⟩, ⟨S256x128, D⟩] hc (ix2 r (col h d))
  have off : ∀ b : Fin 2, b ≠ 1 → ((ix2 r d : S256x128.Idx) b).val = ((ix2 r (col h d) : S256x512.Idx) b).val := fun b hb => by
    fin_cases b
    · rfl
    · exact absurd rfl hb
  fin_cases h
  · exact P 0 (by simp) _ A rfl rfl 0 rfl (ix2 r d) off (by show 0 + d.val = 128 * 0 + d.val; omega)
  · exact P 1 (by simp) _ B rfl rfl 128 rfl (ix2 r d) off (by show 128 + d.val = 128 * 1 + d.val; omega)
  · exact P 2 (by simp) _ C rfl rfl 256 rfl (ix2 r d) off (by show 256 + d.val = 128 * 2 + d.val; omega)
  · exact P 3 (by simp) _ D rfl rfl 384 rfl (ix2 r d) off (by show 384 + d.val = 128 * 3 + d.val; omega)

include ha hb hg hd hh in
/-- The gate's gradient. -/
theorem dgate_at (r : Fin 256) (h : Fin 4) (d : Fin 128) :
    k0_pay66 (k0_pay35 g dm wh (k0_pay9 wh (k0_pay4 a b) (k0_pay6 a b)) (k0_pay15 wh (k0_pay3 a b)) (k0_pay21 wh (k0_pay3 a b))
      (k0_pay22 (k0_pay3 a b)) (k0_pay24 (k0_pay3 a b))) (ix2 r (col h d))
      = val_main_v63 (F := Ideal) x0 x1 x2 x4 x6 (ix3 (row r) h d) := by
  obtain ⟨N0, N1, N2, N3⟩ := norm_at x0 x1 a b row ha hb r d
  unfold k0_pay66 k0_pay35 k0_pay9 k0_pay15 k0_pay21 k0_pay27 k0_pay30
  have hN : (![k0_pay8 (k0_pay4 a b) (k0_pay6 a b), k0_pay14 (k0_pay3 a b), k0_pay20 (k0_pay3 a b), k0_pay26 (k0_pay22 (k0_pay3 a b)) (k0_pay24 (k0_pay3 a b))] h)
      (ix2 r d) = val_main_v15 (F := Ideal) x0 x1 (ix3 (row r) h d) := by
    fin_cases h
    · exact N0
    · exact N1
    · exact N2
    · exact N3
  have hM : ∀ (A B C D W : FVec Ideal S256x128 .f32), (![mulf A W, mulf B W, mulf C W, mulf D W] h) (ix2 r d) = (![A, B, C, D] h) (ix2 r d) * W (ix2 r d) := by
    intro A B C D W; fin_cases h <;> rfl
  pointwise [heads_apply, hM, hN, hg, hd, hh, v19_at, v60_at, val_main_v63, val_main_v61, val_main_v18, val_main_v17, val_main_v16, val_main_v20_0, val_main_v20_1, val_main_v20_2, val_main_call0_v0, val_main_call0_v1, val_main_call0_v2, val_main_call0_v3, val_main_call0_v4, val_main_call0_v6, val_main_call0_v7,
    val_main_call0_cst, val_main_call0_cst_0, val_main_call0_cst_1, val_main_call1_v0, val_main_call1_v1, val_main_call1_v2, Ideal.logistic]
  rfl

include ho in
/-- The attention's output, put together again from its tiles. -/
theorem att_at (r : Fin 256) (l : Fin 512) : k0_pay2 ot (ix2 r l) = x3 (ix2 (row r) l) := by
  obtain ⟨h, d, rfl⟩ : ∃ h d, l = wide h d :=
    ⟨⟨l.val / 64, by omega⟩, ⟨l.val % 64, by omega⟩, Fin.ext (by show l.val = 64 * (l.val / 64) + l.val % 64; omega)⟩
  rw [← ho]
  unfold_payloads
  pointwise
  have e : (wide h d).val = 64 * h.val + d.val := rfl
  have hq : ∀ {p p' : Fin 8} {q q' : Fin 64}, p.val = p'.val → q.val = q'.val → ot (ix4 p 0 q r) = ot (ix4 p' 0 q' r) := by
    intro p p' q q' h1 h2; rw [Fin.ext h1, Fin.ext h2]
  split_ifs <;> (refine hq ?_ ?_ <;> first | omega | (simp; omega) | (simp only [Fin.val_ofNat]; omega))

include ho hd hw in
/-- The attention norm's input gradient. -/
theorem datt_at (r : Fin 256) (l : Fin 512) :
    k0_pay33 dm wa (k0_pay2 ot) (ix2 r l) = val_main_v59 (F := Ideal) x3 x5 x6 (ix2 (row r) l) := by
  unfold k0_pay33 k0_pay29 k0_pay28 k0_pay31
  pointwise [att_at x3 ot row ho, hd, hw, val_main_v23, val_main_v24, val_main_v25, val_main_v26, val_main_v27, val_main_v28, val_main_v29, val_main_v30, val_main_v31, val_main_v32, val_main_v33, val_main_v34, val_main_v35, val_main_v36, val_main_v39, val_main_v40, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

include ho hd in
/-- The attention norm's weight gradient: what was there and the block's rows' shares. -/
theorem dwatt_at (o : Vec Ideal S1x512 .f32) (l : Fin 512) :
    k0_pay1 (k0_pay32 dm (k0_pay2 ot)) o (ix2 0 l) = o (ix2 0 l) + ∑ r, val_main_v41 (F := Ideal) x3 x6 (ix2 (row r) l) := by
  unfold k0_pay1 k0_pay32 k0_pay29 k0_pay28 k0_pay31
  pointwise [att_at x3 ot row ho, hd, val_main_v23, val_main_v24, val_main_v25, val_main_v26, val_main_v27, val_main_v28, val_main_v29, val_main_v30, val_main_v31, val_main_v32, val_main_v33, val_main_v34, val_main_v35, val_main_v36, val_main_v39, val_main_v40, val_main_v41, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

theorem dwatt_ref (l : Fin 512) :
    val_main_v43 (F := Ideal) x3 x6 (ix2 0 l) = 0 + ∑ R : Fin 8192, val_main_v41 (F := Ideal) x3 x6 (ix2 R l) := by
  unfold val_main_v43 val_main_v42
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

theorem turned (p q u v : EReal) : p + q + u + v = v + u + q + p := by ac_rfl

include ha hb hg hd in
/-- The norm weight's gradient of the heads' norm: what was there and the block's rows' shares, head by head. -/
theorem dwhg_at (o : Vec Ideal S1x128 .f32) (d : Fin 128) :
    k0_pay86 (k0_pay45 (k0_pay8 (k0_pay4 a b) (k0_pay6 a b)) (k0_pay14 (k0_pay3 a b)) (k0_pay36 (k0_pay34 g dm)) (k0_pay37 (k0_pay34 g dm))
      (k0_pay41 (k0_pay20 (k0_pay3 a b)) (k0_pay26 (k0_pay22 (k0_pay3 a b)) (k0_pay24 (k0_pay3 a b))) (k0_pay34 g dm))) o (ix2 0 d)
      = o (ix2 0 d) + ∑ r, ∑ h, val_main_v65 (F := Ideal) x0 x1 x2 x6 (ix3 (row r) h d) := by
  have N := fun r => norm_at x0 x1 a b row ha hb r d
  have C := fun r h => ct_at x2 x6 g dm row hg hd r h d
  have C0 := fun r => C r 0
  have C1 := fun r => C r 1
  have C2 := fun r => C r 2
  have C3 := fun r => C r 3
  have c0 : col 0 d = ⟨d.val, by omega⟩ := Fin.ext (by show 128 * 0 + d.val = d.val; omega)
  have c1 : col 1 d = ⟨128 + d.val, by omega⟩ := Fin.ext (by show 128 * 1 + d.val = 128 + d.val; omega)
  have c2 : col 2 d = ⟨256 + d.val, by omega⟩ := Fin.ext (by show 128 * 2 + d.val = 256 + d.val; omega)
  have c3 : col 3 d = ⟨384 + d.val, by omega⟩ := Fin.ext (by show 128 * 3 + d.val = 384 + d.val; omega)
  rw [c0] at C0; rw [c1] at C1; rw [c2] at C2; rw [c3] at C3
  unfold k0_pay86 k0_pay45 k0_pay41 k0_pay36 k0_pay37 k0_pay38 k0_pay39
  pointwise [val_main_v65]
  simp only [(N _).1, (N _).2.1, (N _).2.2.1, (N _).2.2.2, C0, C1, C2, C3, Fin.sum_univ_four, Finset.sum_add_distrib]
  exact congrArg (o (ix2 0 d) + ·) (turned _ _ _ _)

/-- A sum over the two leading axes. -/
theorem lead_sum {n0 n1 n2 : Nat} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ k0 : Fin n0, ∑ k1 : Fin n1, v (ix3 k0 k1 l) := by
  refine congrArg (init + ·) ((Finset.sum_filter_eq_sum_of_fiber _ (fun k : Fin n0 × Fin n1 => ix3 k.1 k.2 l)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

theorem dwhg_ref (d : Fin 128) :
    val_main_v71 (F := Ideal) x0 x1 x2 x6 (ix2 0 d) = 0 + ∑ R : Fin 8192, ∑ h : Fin 4, val_main_v65 (F := Ideal) x0 x1 x2 x6 (ix3 R h d) := by
  unfold val_main_v71 val_main_v70 val_main_v67 val_main_v66
  pointwise [lead_sum, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Fin.sum_univ_one]

/-- One head's input gradient, before it is put among the other heads' zero lanes: the four bodies' common last lines. -/
theorem head_grad (x w : Fin 128 → EReal) (R : Fin 8192) (h : Fin 4) (d : Fin 128) (i f : EReal)
    (hx : ∀ k, x k = val_main_v2 (F := Ideal) x0 x1 (ix3 R h k))
    (hc : ∀ k, w k = val_main_v69 (F := Ideal) x2 x4 x6 (ix3 R h k))
    (hi : i = val_main_v10 (F := Ideal) x0 x1 (ix3 R h 0)) (hf : f = val_main_v13 (F := Ideal) x0 x1 (ix3 R h 0)) :
    w d * i + x d * Ideal.div ((∑ k, x k * w k) * f) (Ideal.ofBits .f32 0x43000000#32)
      + Ideal.div ((∑ k, x k * w k) * f) (Ideal.ofBits .f32 0x43000000#32) * x d
      = val_main_v85 (F := Ideal) x0 x1 x2 x4 x6 (ix3 R h d) := by
  subst hi hf
  pointwise [hx, hc, val_main_v85, val_main_v84, val_main_v83, val_main_v82, val_main_v81, val_main_v80, val_main_v79, val_main_v78, val_main_v77, val_main_v76, val_main_v75, val_main_v74, val_main_v73, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Fin.sum_univ_one]

set_option maxHeartbeats 1000000 in
include ha hb hg hd hh in
/-- The input gradient of the heads' norm. -/
theorem do_at (r : Fin 256) (h : Fin 4) (d : Fin 128) :
    k0_pay48
      (k0_pay44 wh (k0_pay10 (k0_pay3 a b)) (k0_pay12 (k0_pay3 a b)) (k0_pay13 (k0_pay3 a b)) (k0_pay37 (k0_pay34 g dm))
        (k0_pay40 wh (k0_pay22 (k0_pay3 a b)) (k0_pay24 (k0_pay3 a b)) (k0_pay25 (k0_pay3 a b)) (k0_pay34 g dm))
        (k0_pay42 wh (k0_pay16 (k0_pay3 a b)) (k0_pay18 (k0_pay3 a b)) (k0_pay19 (k0_pay3 a b)) (k0_pay34 g dm))
        k0_pay43)
      (k0_pay46 wh (k0_pay4 a b) (k0_pay6 a b) (k0_pay7 a b) (k0_pay36 (k0_pay34 g dm)))
      k0_pay47 (ix2 r (col h d)) = val_main_v85 (F := Ideal) x0 x1 x2 x4 x6 (ix3 (row r) h d) := by
  unfold k0_pay48 k0_pay47 k0_pay46 k0_pay44 k0_pay43 k0_pay42 k0_pay40 k0_pay36 k0_pay37 k0_pay38 k0_pay39
  pointwise [hh]
  have H := fun k => head_at x0 x1 a b row ha hb r k
  obtain ⟨I0, I1, I2, I3, F0, F1, F2, F3⟩ := inv_at x0 x1 a b row ha hb r
  have C : ∀ k, k0_pay34 g dm (ix2 r (col h k)) * x4 (ix2 0 k) = val_main_v69 (F := Ideal) x2 x4 x6 (ix3 (row r) h k) := fun k => by
    rw [ct_at x2 x6 g dm row hg hd r h k]; pointwise [val_main_v69, val_main_v68, val_main_v16]
  simp only [Fin.sum_univ_one]
  obtain rfl | rfl | rfl | rfl : h = 0 ∨ h = 1 ∨ h = 2 ∨ h = 3 := by omega
  · have e : (col 0 d).val = d.val := by show 128 * 0 + d.val = d.val; omega
    have t0 : (col 0 d).val < 128 := by omega
    have t1 : (col 0 d).val < 256 := by omega
    have t2 : (col 0 d).val < 384 := by omega
    have c1 : ∀ p, (⟨(col 0 d).val, p⟩ : Fin 128) = d := fun p => Fin.ext e
    have c2 : ∀ (k : Fin 128) (p), (⟨k.val, p⟩ : Fin 512) = col 0 k := fun k p => Fin.ext (by show k.val = 128 * 0 + k.val; omega)
    simp only [t0, t1, t2, dite_true, zero_add, add_zero, c1, c2]
    exact head_grad x0 x1 x2 x4 x6 (fun k => k0_pay4 a b (ix2 r k)) (fun k => k0_pay34 g dm (ix2 r (col 0 k)) * x4 (ix2 0 k)) (row r) 0 d _ _
      (fun k => (H k).1) C I0 F0
  · have e : (col 1 d).val = 128 + d.val := by show 128 * 1 + d.val = 128 + d.val; omega
    have t0 : ¬(col 1 d).val < 128 := by omega
    have t1 : (col 1 d).val < 256 := by omega
    have t2 : (col 1 d).val < 384 := by omega
    have c1 : ∀ p, (⟨(col 1 d).val - 128, p⟩ : Fin 128) = d := fun p => Fin.ext (by show (col 1 d).val - 128 = d.val; omega)
    have c2 : ∀ (k : Fin 128) (p), (⟨128 + k.val, p⟩ : Fin 512) = col 1 k := fun k p => Fin.ext (by show 128 + k.val = 128 * 1 + k.val; omega)
    have c3 : ∀ p, (⟨128 + ((col 1 d).val - 128), p⟩ : Fin 512) = col 1 d := fun p => Fin.ext (by show 128 + ((col 1 d).val - 128) = (col 1 d).val; omega)
    simp only [t0, t1, t2, dite_true, dite_false, zero_add, add_zero, c1, c2, c3]
    exact head_grad x0 x1 x2 x4 x6 (fun k => k0_pay10 (k0_pay3 a b) (ix2 r k)) (fun k => k0_pay34 g dm (ix2 r (col 1 k)) * x4 (ix2 0 k)) (row r) 1 d _ _
      (fun k => (H k).2.1) C I1 F1
  · have e : (col 2 d).val = 256 + d.val := by show 128 * 2 + d.val = 256 + d.val; omega
    have t0 : ¬(col 2 d).val < 128 := by omega
    have t1 : ¬(col 2 d).val < 256 := by omega
    have t2 : (col 2 d).val < 384 := by omega
    have c1 : ∀ p, (⟨(col 2 d).val - 256, p⟩ : Fin 128) = d := fun p => Fin.ext (by show (col 2 d).val - 256 = d.val; omega)
    have c2 : ∀ (k : Fin 128) (p), (⟨256 + k.val, p⟩ : Fin 512) = col 2 k := fun k p => Fin.ext (by show 256 + k.val = 128 * 2 + k.val; omega)
    have c3 : ∀ p, (⟨256 + ((col 2 d).val - 256), p⟩ : Fin 512) = col 2 d := fun p => Fin.ext (by show 256 + ((col 2 d).val - 256) = (col 2 d).val; omega)
    simp only [t0, t1, t2, dite_true, dite_false, zero_add, add_zero, c1, c2, c3]
    exact head_grad x0 x1 x2 x4 x6 (fun k => k0_pay16 (k0_pay3 a b) (ix2 r k)) (fun k => k0_pay34 g dm (ix2 r (col 2 k)) * x4 (ix2 0 k)) (row r) 2 d _ _
      (fun k => (H k).2.2.1) C I2 F2
  · have e : (col 3 d).val = 384 + d.val := by show 128 * 3 + d.val = 384 + d.val; omega
    have t0 : ¬(col 3 d).val < 128 := by omega
    have t1 : ¬(col 3 d).val < 256 := by omega
    have t2 : ¬(col 3 d).val < 384 := by omega
    have c1 : ∀ p, (⟨(col 3 d).val - 384, p⟩ : Fin 128) = d := fun p => Fin.ext (by show (col 3 d).val - 384 = d.val; omega)
    have c2 : ∀ (k : Fin 128) (p), (⟨384 + k.val, p⟩ : Fin 512) = col 3 k := fun k p => Fin.ext (by show 384 + k.val = 128 * 3 + k.val; omega)
    have c3 : ∀ p, (⟨384 + ((col 3 d).val - 384), p⟩ : Fin 512) = col 3 d := fun p => Fin.ext (by show 384 + ((col 3 d).val - 384) = (col 3 d).val; omega)
    simp only [t0, t1, t2, dite_true, dite_false, zero_add, add_zero, c1, c2, c3]
    exact head_grad x0 x1 x2 x4 x6 (fun k => k0_pay22 (k0_pay3 a b) (ix2 r k)) (fun k => k0_pay34 g dm (ix2 r (col 3 k)) * x4 (ix2 0 k)) (row r) 3 d _ _
      (fun k => (H k).2.2.2) C I3 F3

/-- A payload of one head's tile of the attention output's gradient, transposed and as rows padded to a whole lane group. -/
theorem tile_t (v : FVec Ideal S256x512 .f32) (r : Fin 256) (d : Fin 64) :
    k0_pay67 (k0_pay50 v) (ix4 0 0 d r) = v (ix2 r (wide 0 d)) ∧ k0_pay68 (k0_pay51 v) (ix4 0 0 d r) = v (ix2 r (wide 1 d))
    ∧ k0_pay69 (k0_pay52 v) (ix4 0 0 d r) = v (ix2 r (wide 2 d)) ∧ k0_pay70 (k0_pay53 v) (ix4 0 0 d r) = v (ix2 r (wide 3 d))
    ∧ k0_pay71 (k0_pay54 v) (ix4 0 0 d r) = v (ix2 r (wide 4 d)) ∧ k0_pay72 (k0_pay55 v) (ix4 0 0 d r) = v (ix2 r (wide 5 d))
    ∧ k0_pay73 (k0_pay56 v) (ix4 0 0 d r) = v (ix2 r (wide 6 d)) ∧ k0_pay74 (k0_pay57 v) (ix4 0 0 d r) = v (ix2 r (wide 7 d)) := by
  unfold_payloads
  refine ⟨?_, ?_, ?_, ?_, ?_, ?_, ?_, ?_⟩ <;> (pointwise <;> congr 2 <;> (apply Fin.ext; simp [wide]))

/-- 64 lanes, and zeros up to 128. -/
def padded (f : Fin 64 → EReal) (l : Fin 128) : EReal := if h : l.val < 64 then f ⟨l.val, h⟩ else 0

/-- The mask of the first 64 lanes. -/
theorem mask : ∀ l : Fin 128, IntOp.cmpi CmpIPredicate.slt (BitVec.ofNat 32 l.val) 64#32 = BitVec.ofBool (decide (l.val < 64)) := by
  decide +kernel

/-- A head's rows, either where they lie or moved down by 64 lanes, and masked. -/
theorem even_lanes (f : Fin 64 → EReal) (x : EReal) (l : Fin 128) (hx : ∀ h : l.val < 64, x = f ⟨l.val, h⟩) :
    Scalar.select (IntOp.cmpi CmpIPredicate.slt (BitVec.ofNat 32 l.val) 64#32) x 0 = padded f l := by
  rw [mask, Scalar.select_decide, padded]
  split_ifs with h
  · exact hx h
  · rfl

theorem tile_s (v : FVec Ideal S256x512 .f32) (r : Fin 256) (l : Fin 128) :
    k0_pay75 (k0_pay58 v) (ix4 0 0 r l) = padded (fun d => v (ix2 r (wide 0 d))) l
    ∧ k0_pay76 (k0_pay59 v) (ix4 0 0 r l) = padded (fun d => v (ix2 r (wide 1 d))) l
    ∧ k0_pay78 (k0_pay77 (k0_pay60 v)) (ix4 0 0 r l) = padded (fun d => v (ix2 r (wide 2 d))) l
    ∧ k0_pay79 (k0_pay61 v) (ix4 0 0 r l) = padded (fun d => v (ix2 r (wide 3 d))) l
    ∧ k0_pay80 (k0_pay62 v) (ix4 0 0 r l) = padded (fun d => v (ix2 r (wide 4 d))) l
    ∧ k0_pay81 (k0_pay63 v) (ix4 0 0 r l) = padded (fun d => v (ix2 r (wide 5 d))) l
    ∧ k0_pay82 (k0_pay64 v (iota Kind.tc S256x128 32 [1] iota_S256x128_d1_w32)) (ix4 0 0 r l) = padded (fun d => v (ix2 r (wide 6 d))) l
    ∧ k0_pay83 (k0_pay65 v (iota Kind.tc S256x128 32 [1] iota_S256x128_d1_w32)) (ix4 0 0 r l) = padded (fun d => v (ix2 r (wide 7 d))) l := by
  unfold_payloads
  refine ⟨?_, ?_, ?_, ?_, ?_, ?_, ?_, ?_⟩ <;>
    (pointwise; refine even_lanes _ _ _ fun h => ?_; congr 2 <;> (apply Fin.ext; simp [wide]) <;> omega)

theorem v91_ref (h : Fin 8) (t : Fin 32) (d : Fin 64) (r : Fin 256) (R : Fin 8192) (hR : R.val = 256 * t.val + r.val) :
    val_main_v92 (F := Ideal) x3 x5 x6 (ix4 h t d r) = val_main_v59 (F := Ideal) x3 x5 x6 (ix2 R (wide h d)) := by
  unfold val_main_v92 val_main_v91 val_main_v87
  pointwise
  have e1 : (⟨t.val * 256 + r.val, by omega⟩ : Fin 8192) = R := Fin.ext (by show t.val * 256 + r.val = R.val; omega)
  have e2 : ∀ (k : Nat) (hk : k < 64) (p), (⟨h.val * 64 + k, p⟩ : Fin 512) = wide h ⟨k, hk⟩ := fun k hk p => Fin.ext (by show h.val * 64 + k = 64 * h.val + k; omega)
  rw [e1, e2 d.val d.isLt]

theorem v93_ref (h : Fin 8) (t : Fin 32) (l : Fin 128) (r : Fin 256) (R : Fin 8192) (hR : R.val = 256 * t.val + r.val) :
    val_main_v93 (F := Ideal) x3 x5 x6 (ix4 h t r l) = padded (fun d => val_main_v59 (F := Ideal) x3 x5 x6 (ix2 R (wide h d))) l := by
  unfold val_main_v93 val_main_v89 val_main_v88 val_main_v87
  pointwise [val_main_call2_v0, val_main_c, padded]
  have e1 : (⟨t.val * 256 + r.val, by omega⟩ : Fin 8192) = R := Fin.ext (by show t.val * 256 + r.val = R.val; omega)
  have e2 : ∀ (k : Nat) (hk : k < 64) (p), (⟨h.val * 64 + k, p⟩ : Fin 512) = wide h ⟨k, hk⟩ := fun k hk p => Fin.ext (by show h.val * 64 + k = 64 * h.val + k; omega)
  simp only [e1]
  split_ifs with hl
  · rw [e2 l.val hl]
  · show (((0#32 : BitVec 32).toInt : ℝ) : EReal) = 0
    simp

theorem v90_ref (h : Fin 4) (d : Fin 128) (R : Fin 8192) :
    val_main_v90 (F := Ideal) x0 x1 x2 x4 x6 (ix2 R (col h d)) = val_main_v63 (F := Ideal) x0 x1 x2 x4 x6 (ix3 R h d) := by
  unfold val_main_v90 val_main_v64
  pointwise
  congr 2 <;> (apply Fin.ext; simp only [col]; omega)

theorem v86_ref (h : Fin 4) (d : Fin 128) (R : Fin 8192) :
    val_main_v86 (F := Ideal) x0 x1 x2 x4 x6 (ix2 R (col h d)) = val_main_v85 (F := Ideal) x0 x1 x2 x4 x6 (ix3 R h d) := by
  unfold val_main_v86
  pointwise
  congr 2 <;> (apply Fin.ext; simp only [col]; omega)

end Cert.MixDxIdeal.Sums

end
-- ==== Proof.PrepFwPay.lean ====
/- The rotary preparation, forward, block by block: the body's query and key rows at a lane are the norm, the weight and the rotation of
   the head that the lane belongs to, and every stored tile holds one head of them. -/
module

public import proofs.«01_k».proof.Proof.Gen.PrepFwIdeal.Value
public import proofs.«01_k».proof.Proof.PrepPay
public import proofs.«01_k».proof.Proof.MixPay
public import Idealize.ShloMosaic.Lib.Pointwise

@[expose] public section

set_option maxRecDepth 16384

noncomputable section

namespace Cert.PrepFwIdeal.Sums

open Cert.PrepFwIdeal Cert.PrepFwIdeal.Gen Cert.PrepMath Idealize.ShloMosaic Idealize.ShloMosaic.TcCoe Idealize.SL.Sem
open Cert.PrepDxIdeal.Sums (wq wk lo cover_q cover_k mask sg)
open Cert.MixDxIdeal.Sums (padded even_lanes)

/-- A head normed and weighed. -/
def nw (a w : Fin 64 → EReal) (d : Fin 64) : EReal := a d * nr a * w d

/-- The pairs of lanes turned by their angles. -/
def rot (e : Fin 64 → EReal) (co si : Fin 32 → EReal) (d : Fin 64) : EReal :=
  if h : d.val % 2 = 0 then e d * co (pr d) - e (up d h) * si (pr d) else e (dn d h) * si (pr d) + e d * co (pr d)

/-- One lane of the rotation, from what the body reads at the lane's neighbours. -/
theorem lane_rot {e : Fin 64 → EReal} {co si : Fin 32 → EReal} (d : Fin 64) (l : Fin 512) (hl : l.val % 2 = d.val % 2) (u v : EReal)
    (hu : ∀ h, u = e (up d h)) (hv : ∀ h, v = e (dn d h)) :
    e d * co (pr d) + (if l.val % 2 = 0 then u else v) * (si (pr d) * sg d) = rot e co si d := by
  unfold rot sg
  rw [hl]
  split_ifs with h
  · rw [hu h, mul_neg, mul_one, mul_neg, sub_eq_add_neg]
  · rw [hv h, mul_one, add_comm]

section Query
variable (a : Vec Ideal S256x512 .f32) (g : Vec Ideal S512x512 .f32) (tm : Vec Ideal S128x512 .f32) (ct sw : Vec Ideal S256x512 .f32)
  (wt : Vec Ideal S1x128 .f32) (co si : Fin 256 → Fin 32 → EReal)
  (ha : ∀ r l, Re (a (ix2 r l)))
  (hG : ∀ h' d' h d, g (ix2 (wq h' d') (wq h d)) = if h' = h then 1 else 0)
  (hT : ∀ l h d, tm (ix2 l (wq h d)) = if l.val = d.val then 1 else 0)
  (hc : ∀ r h d, ct (ix2 r (wq h d)) = co r (pr d)) (hs : ∀ r h d, sw (ix2 r (wq h d)) = si r (pr d) * sg d)
  (hw : ∀ l, Re (wt (ix2 0 l)))

/-- The lanes normed and weighed, as the body computes them. -/
abbrev normQ : FVec Ideal S256x512 .f32 := k0_pay23 a (k0_pay11 wt) (k0_pay13 g) (k0_pay15 tm) (k0_pay18 a) (k0_pay20 a) (k0_pay21 a) (k0_pay22 g)
  (constant S256x512 .f32 0x00000000#32)

/-- The query's rows, as the body computes them. -/
abbrev valQ : FVec Ideal S256x512 .f32 := k0_pay29 (k0_pay8 sw)
  (k0_pay24 a (k0_pay7 ct) (k0_pay11 wt) (k0_pay13 g) (k0_pay15 tm) (k0_pay18 a) (k0_pay20 a) (k0_pay21 a) (k0_pay22 g) (constant S256x512 .f32 0x00000000#32))
  (k0_pay25 a (k0_pay11 wt) (k0_pay13 g) (k0_pay15 tm) (k0_pay18 a) (k0_pay20 a) (k0_pay21 a) (k0_pay22 g) (constant S256x512 .f32 0x00000000#32))
  (k0_pay26 a (k0_pay11 wt) (k0_pay13 g) (k0_pay15 tm) (k0_pay18 a) (k0_pay20 a) (k0_pay21 a) (k0_pay22 g) (constant S256x512 .f32 0x00000000#32))
  (Scalar.select (Scalar.cmpi .eq 2#32 0#32) 1#32 2#32) k0_pay27 k0_pay28

include ha hG hT hw in
theorem norm_q (r : Fin 256) (h : Fin 8) (d : Fin 64) :
    normQ a g tm wt (ix2 r (wq h d)) = nw (fun d => a (ix2 r (wq h d))) (fun d => wt (ix2 0 (lo d))) d := by
  unfold normQ
  unfold_payloads
  pointwise [dot_S256x512_S512x512_S256x512_1_0_0_1_n_n, dot_S8x128_S128x512_S8x512_1_0_0_1_n_n]
  have P := pieces (fun j => a (ix2 r j) * a (ix2 r j)) (fun j => g (ix2 j (wq h d))) fun j => (ha r j).mul (ha r j)
  beta_reduce at P
  have S := sum_group rfl wq (fun _ _ => rfl) (fun j => a (ix2 r j) * a (ix2 r j)) (fun j => g (ix2 j (wq h d))) h fun h' d' => hG h' d' h d
  beta_reduce at S
  have P' := pieces (fun l => wt (ix2 0 l)) (fun l => tm (ix2 l (wq h d))) hw
  beta_reduce at P'
  have S' := sum_lane (fun l => wt (ix2 0 l)) (fun l => tm (ix2 l (wq h d))) (lo d) fun l => (hT l h d).trans (by
    congr 1; exact propext ⟨fun e => Fin.ext e, fun e => congrArg Fin.val e⟩)
  beta_reduce at S'
  simp only [P, P']
  simp only [S, S']
  rw [eight (hw _), nv_mul fun d => ha r (wq h d)]
  rfl

include ha hG hT hc hs hw in
/-- A lane of the query's rows. -/
theorem val_q (r : Fin 256) (h : Fin 8) (d : Fin 64) : valQ a g tm ct sw wt (ix2 r (wq h d))
    = rot (nw (fun d => a (ix2 r (wq h d))) (fun d => wt (ix2 0 (lo d)))) (co r) (si r) d * Ideal.ofBits .f32 0x3E000000#32 := by
  have N := norm_q a g tm wt ha hG hT hw r
  unfold valQ k0_pay29 k0_pay24 k0_pay25 k0_pay26 k0_pay27 k0_pay28 k0_pay7 k0_pay8
  change ∀ h d, (normQ a g tm wt) (ix2 r (wq h d)) = _ at N
  unfold normQ at N
  generalize k0_pay23 a (k0_pay11 wt) (k0_pay13 g) (k0_pay15 tm) (k0_pay18 a) (k0_pay20 a) (k0_pay21 a) (k0_pay22 g) (constant S256x512 .f32 0x00000000#32) = X at N ⊢
  pointwise
  rw [mask, Scalar.select_decide, hc, hs, N]
  refine congrArg (· * _) ?_
  refine lane_rot d (wq h d) (by simp only [wq]; omega) _ _ (fun k => ?_) (fun k => ?_)
  · have i : (⟨((wq h d).val + 512 - 511) % 512, Nat.mod_lt _ (by decide)⟩ : Fin 512) = wq h (up d k) := Fin.ext (by
      simp only [wq, up]; omega)
    rw [i, N]
  · have i : (⟨((wq h d).val + 512 - 1) % 512, Nat.mod_lt _ (by decide)⟩ : Fin 512) = wq h (dn d k) := Fin.ext (by
      simp only [wq, dn]; omega)
    rw [i, N]
end Query

section Key
variable (a : Vec Ideal S256x128 .f32) (g : Vec Ideal S128x128 .f32) (tm : Vec Ideal S128x128 .f32) (ct sw : Vec Ideal S256x128 .f32)
  (wt : Vec Ideal S1x128 .f32) (co si : Fin 256 → Fin 32 → EReal)
  (ha : ∀ r l, Re (a (ix2 r l)))
  (hG : ∀ h' d' h d, g (ix2 (wk h' d') (wk h d)) = if h' = h then 1 else 0)
  (hT : ∀ l h d, tm (ix2 l (wk h d)) = if l.val = d.val then 1 else 0)
  (hc : ∀ r h d, ct (ix2 r (wk h d)) = co r (pr d)) (hs : ∀ r h d, sw (ix2 r (wk h d)) = si r (pr d) * sg d)
  (hw : ∀ l, Re (wt (ix2 0 l)))

/-- The key's rows, as the body computes them. -/
abbrev valK : FVec Ideal S256x128 .f32 := k0_pay37 (k0_pay9 ct) (k0_pay10 sw) (k0_pay16 tm) (k0_pay30 a (k0_pay14 g)) (k0_pay32 (k0_pay12 wt))
  (k0_pay34 (k0_pay12 wt)) (k0_pay35 (k0_pay12 wt)) (k0_pay36 (k0_pay16 tm)) (constant S8x128 .f32 0x00000000#32)

include ha hG in
theorem norm_k (r : Fin 256) (h : Fin 2) (d : Fin 64) :
    k0_pay30 a (k0_pay14 g) (ix2 r (wk h d)) = a (ix2 r (wk h d)) * nr (fun d => a (ix2 r (wk h d))) := by
  unfold_payloads
  pointwise [dot_S256x128_S128x128_S256x128_1_0_0_1_n_n]
  have P := pieces (fun j => a (ix2 r j) * a (ix2 r j)) (fun j => g (ix2 j (wk h d))) fun j => (ha r j).mul (ha r j)
  beta_reduce at P
  have S := sum_group rfl wk (fun _ _ => rfl) (fun j => a (ix2 r j) * a (ix2 r j)) (fun j => g (ix2 j (wk h d))) h fun h' d' => hG h' d' h d
  beta_reduce at S
  rw [P, S, nv_mul fun d => ha r (wk h d)]
  rfl

/-- A lane's weight. -/
abbrev weightK (l : Fin 128) : EReal :=
  (∑ _i : Fin 8, (∑ j, (wt (ix2 0 j) - wt (ix2 0 j) - (wt (ix2 0 j) - wt (ix2 0 j))) * tm (ix2 j l) + ∑ j, (wt (ix2 0 j) - wt (ix2 0 j)) * tm (ix2 j l)
    + ∑ j, wt (ix2 0 j) * tm (ix2 j l))) * Ideal.ofBits .f32 0x3E000000#32

include hw hT in
theorem weight_k (h : Fin 2) (d : Fin 64) : weightK tm wt (wk h d) = wt (ix2 0 (lo d)) := by
  have P := pieces (fun l => wt (ix2 0 l)) (fun l => tm (ix2 l (wk h d))) hw
  beta_reduce at P
  have S := sum_lane (fun l => wt (ix2 0 l)) (fun l => tm (ix2 l (wk h d))) (lo d) fun l => (hT l h d).trans (by
    congr 1; exact propext ⟨fun e => Fin.ext e, fun e => congrArg Fin.val e⟩)
  beta_reduce at S
  simp only [weightK, P]
  simp only [S]
  exact eight (hw _)

include ha hG hT hc hs hw in
/-- A lane of the key's rows. -/
theorem val_k (r : Fin 256) (h : Fin 2) (d : Fin 64) : valK a g tm ct sw wt (ix2 r (wk h d))
    = rot (nw (fun d => a (ix2 r (wk h d))) (fun d => wt (ix2 0 (lo d)))) (co r) (si r) d := by
  have N := norm_k a g ha hG r
  have W := weight_k tm wt hT hw
  unfold valK
  generalize k0_pay30 a (k0_pay14 g) = X at N ⊢
  unfold_payloads
  pointwise [dot_S8x128_S128x128_S8x128_1_0_0_1_n_n]
  rw [mask ⟨(wk h d).val, by omega⟩, Scalar.select_decide, hc, hs, N]
  have M : ∀ l : Fin 128, (∑ x : Fin 8, (∑ k, (wt (ix2 0 k) - wt (ix2 0 k) - (wt (ix2 0 k) - wt (ix2 0 k))) * tm (ix2 k l) + ∑ k, (wt (ix2 0 k) - wt (ix2 0 k)) * tm (ix2 k l)
    + ∑ k, wt (ix2 0 k) * tm (ix2 k l))) * Ideal.ofBits .f32 0x3E000000#32 = weightK tm wt l := fun l => rfl
  simp only [M]
  rw [W]
  refine lane_rot (e := nw (fun d => a (ix2 r (wk h d))) (fun d => wt (ix2 0 (lo d)))) d ⟨(wk h d).val, by omega⟩ (by simp only [wk]; omega) _ _ (fun k => ?_) (fun k => ?_)
  · have i : (⟨((wk h d).val + 128 - 127) % 128, Nat.mod_lt _ (by decide)⟩ : Fin 128) = wk h (up d k) := Fin.ext (by
      simp only [wk, up]; omega)
    rw [i, N, W]; rfl
  · have i : (⟨((wk h d).val + 128 - 1) % 128, Nat.mod_lt _ (by decide)⟩ : Fin 128) = wk h (dn d k) := Fin.ext (by
      simp only [wk, dn]; omega)
    rw [i, N, W]; rfl
end Key

/-! The stored tiles: a head's lanes as columns, or as rows padded to a whole lane group. -/
theorem cols_q (v : FVec Ideal S256x512 .f32) (r : Fin 256) (d : Fin 64) :
    k0_pay64 (k0_pay39 v) (ix4 0 0 d r) = v (ix2 r (wq 0 d)) ∧ k0_pay65 (k0_pay40 v) (ix4 0 0 d r) = v (ix2 r (wq 1 d))
    ∧ k0_pay66 (k0_pay41 v) (ix4 0 0 d r) = v (ix2 r (wq 2 d)) ∧ k0_pay68 (k0_pay67 (k0_pay42 v)) (ix4 0 0 d r) = v (ix2 r (wq 3 d))
    ∧ k0_pay69 (k0_pay43 v) (ix4 0 0 d r) = v (ix2 r (wq 4 d)) ∧ k0_pay70 (k0_pay44 (k0_pay38 v)) (ix4 0 0 d r) = v (ix2 r (wq 5 d))
    ∧ k0_pay71 (k0_pay45 (k0_pay38 v)) (ix4 0 0 d r) = v (ix2 r (wq 6 d)) ∧ k0_pay72 (k0_pay46 (k0_pay38 v)) (ix4 0 0 d r) = v (ix2 r (wq 7 d)) := by
  unfold_payloads
  refine ⟨?_, ?_, ?_, ?_, ?_, ?_, ?_, ?_⟩ <;> (pointwise <;> congr 2 <;> (apply Fin.ext; simp [wq]))

theorem rows_q (v : FVec Ideal S256x512 .f32) (r : Fin 256) (l : Fin 128) :
    k0_pay73 (k0_pay47 v) (ix4 0 0 r l) = padded (fun d => v (ix2 r (wq 0 d))) l
    ∧ k0_pay74 (k0_pay48 v) (ix4 0 0 r l) = padded (fun d => v (ix2 r (wq 1 d))) l
    ∧ k0_pay76 (k0_pay75 (k0_pay49 v)) (ix4 0 0 r l) = padded (fun d => v (ix2 r (wq 2 d))) l
    ∧ k0_pay77 (k0_pay50 v) (ix4 0 0 r l) = padded (fun d => v (ix2 r (wq 3 d))) l
    ∧ k0_pay78 (k0_pay51 v) (ix4 0 0 r l) = padded (fun d => v (ix2 r (wq 4 d))) l
    ∧ k0_pay79 (k0_pay52 v) (ix4 0 0 r l) = padded (fun d => v (ix2 r (wq 5 d))) l
    ∧ k0_pay80 (k0_pay53 v) (ix4 0 0 r l) = padded (fun d => v (ix2 r (wq 6 d))) l
    ∧ k0_pay81 (k0_pay55 (iota Kind.tc S256x128 32 [1] iota_S256x128_d1_w32) (k0_pay54 v)) (ix4 0 0 r l) = padded (fun d => v (ix2 r (wq 7 d))) l := by
  unfold_payloads
  refine ⟨?_, ?_, ?_, ?_, ?_, ?_, ?_, ?_⟩ <;>
    (pointwise; refine even_lanes _ _ _ fun h => ?_; congr 2 <;> (apply Fin.ext; simp [wq]) <;> omega)

theorem rows_k (v : FVec Ideal S256x128 .f32) (r : Fin 256) (l : Fin 128) :
    k0_pay1 (k0_pay82 (k0_pay56 v)) (ix4 0 0 r l) = padded (fun d => v (ix2 r (wk 0 d))) l
    ∧ k0_pay2 (k0_pay57 v) (ix4 0 0 r l) = padded (fun d => v (ix2 r (wk 1 d))) l := by
  unfold_payloads
  refine ⟨?_, ?_⟩ <;>
    (pointwise; refine even_lanes _ _ _ fun h => ?_; congr 2 <;> (apply Fin.ext; simp [wk]) <;> omega)

theorem cols_k (v : FVec Ideal S256x128 .f32) (r : Fin 256) (d : Fin 64) :
    k0_pay3 (k0_pay59 v) (ix4 0 0 d r) = v (ix2 r (wk 0 d)) ∧ k0_pay4 (k0_pay60 v) (ix4 0 0 d r) = v (ix2 r (wk 1 d)) := by
  unfold_payloads
  refine ⟨?_, ?_⟩ <;> (pointwise <;> congr 2 <;> (apply Fin.ext; simp [wk]))

theorem cols_v (v : Vec Ideal S256x128 .f32) (r : Fin 256) (d : Fin 64) :
    k0_pay5 (k0_pay62 v) (ix4 0 0 d r) = v (ix2 r (wk 0 d)) ∧ k0_pay6 (k0_pay63 v) (ix4 0 0 d r) = v (ix2 r (wk 1 d)) := by
  unfold_payloads
  refine ⟨?_, ?_⟩ <;> (pointwise <;> congr 2 <;> (apply Fin.ext; simp [wk]))

end Cert.PrepFwIdeal.Sums

end
-- ==== Proof.PrepHost.lean ====
/- The rotary preparation's blocks, as the host lines make them: the columns of u, the cosines and the signed sines under every head,
   the cotangents' transposed tiles, the padded weights, and the two kinds of indicator matrices. -/
module

public import proofs.«01_k».proof.Proof.PrepPay
public import Idealize.ShloMosaic.Lib.Pipeline.ValueKit
@[expose] public section
set_option maxRecDepth 16384
noncomputable section
namespace Cert.PrepDxIdeal.Sums
open Cert.PrepDxIdeal Cert.PrepDxIdeal.Gen Cert.PrepDxIdeal.Run Cert.PrepMath Idealize.ShloMosaic Idealize.ShloMosaic.TcCoe Idealize.SL.Sem
variable (m : (ℓ : Loc nD τ sig) → Buf (Elt Ideal) ℓ) (c : Dev nD)

/-- Row `r` of block `t`. -/
def row (t : Fin cfg0.N) (r : Fin 256) : Fin 8192 := ⟨256 * t.val + r.val, by have : t.val < 32 := t.isLt; omega⟩

/-- The block's number among the arrays' leading tiles. -/
def pt (t : Fin cfg0.N) : Fin 32 := ⟨t.val, t.isLt⟩

theorem idx : ∀ t : Fin cfg0.N, win0_0.index t = ![t.val, 5] ∧ win0_1.index t = ![t.val, 24] ∧ win0_2.index t = ![t.val, 0]
    ∧ win0_3.index t = ![t.val, 0] ∧ win0_4.index t = ![t.val, 0] ∧ win0_5.index t = ![t.val, 0] ∧ win0_6.index t = ![0, t.val, 0, 0]
    ∧ win0_7.index t = ![0, t.val, 0, 0] ∧ win0_8.index t = ![0, t.val, 0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] ∧ win0_17.index t = ![t.val, 0] ∧ win0_18.index t = ![0, 0] ∧ win0_19.index t = ![0, 0] :=
  (by decide +kernel : ∀ t : Fin grid0.N, _)

theorem blk_0 (t : Fin cfg0.N) (r : Fin 256) (l : Fin 512) :
    (X0_0 m c t : Vec Ideal S256x512 .f32) (ix2 r l) = m ((c : Thread nD τ).loc main_arg0) (ix2 (row t r) ⟨2560 + l.val, by omega⟩) := by
  unfold X0_0 Pipeline.Window.fill
  rw [dif_pos (moved0_0 t _)]
  unfold iblk
  entry_read
  blk_ext [idx t, row]

theorem blk_1 (t : Fin cfg0.N) (r : Fin 256) (l : Fin 128) :
    (iblk m c 1 t : Vec Ideal S256x128 .f32) (ix2 r l) = m ((c : Thread nD τ).loc main_arg0) (ix2 (row t r) ⟨3072 + l.val, by omega⟩) := by
  unfold iblk
  entry_read
  blk_ext [idx t, row]

theorem after_app (l k : List (HloOp τ sig (Elt Ideal))) (W : Valuation τ sig (Elt Ideal)) :
    StableHlo.after (l ++ k) W = StableHlo.after k (StableHlo.after l W) := by
  induction l generalizing W with
  | nil => rfl
  | cons o l ih => exact ih _

theorem after_parts (W : Valuation τ sig (Elt Ideal)) :
    StableHlo.after (List.flatten [hostOps0, hostOps0_1, hostOps0_2, hostOps0_3, hostOps0_4]) W
      = StableHlo.after hostOps0_4 (StableHlo.after hostOps0_3 (StableHlo.after hostOps0_2 (StableHlo.after hostOps0_1 (StableHlo.after hostOps0 W)))) := by
  rw [List.flatten_cons, List.flatten_cons, List.flatten_cons, List.flatten_cons, List.flatten_cons, List.flatten_nil, List.append_nil, after_app, after_app, after_app, after_app]

/-- What the kernel starts from, part by part. -/
theorem V_eq (b : Ref sig .tc) : V m c b = StableHlo.after hostOps0_4 (StableHlo.after hostOps0_3 (StableHlo.after hostOps0_2
    (StableHlo.after hostOps0_1 (StableHlo.after hostOps0 (fun b => m (c, b)))))) (Proc.devRef (τ := τ) .tc b) :=
  congrFun (after_parts _) _

theorem sign_at (n : Fin 2) : Ideal.ofBits .f32 (lit0 (S2.rowMajor (ix1 n))) = if n.val = 0 then -1 else 1 := by
  fin_cases n
  · show Ideal.ofBits .f32 0xBF800000#32 = -1
    simp only [Ideal.ofBits, Ideal.ieee]; simp; rw [← EReal.coe_mul]; norm_num
  · show Ideal.ofBits .f32 0x3F800000#32 = 1
    simp only [Ideal.ofBits, Ideal.ieee]; simp; rw [← EReal.coe_mul]; norm_num

theorem v44 (R : Fin 8192) (h : Fin 8) (d : Fin 64) : (V m c main_v44 : Vec Ideal S8192x512 .f32) (ix2 R (wq h d)) = co R (pr d) := by
  rw [V_eq]
  entry_read
  pointwise
  have e : (wq h d).val % 64 / 2 = (pr d).val := by simp only [wq, pr]; omega
  simp only [e]
  unfold co ang freq
  refine congrArg Ideal.cos ?_
  split_ifs <;> rfl

theorem v47 (R : Fin 8192) (h : Fin 8) (d : Fin 64) : (V m c main_v47 : Vec Ideal S8192x512 .f32) (ix2 R (wq h d)) = si R (pr d) * sg d := by
  rw [V_eq]
  entry_read
  pointwise
  have e : (wq h d).val % 64 / 2 = (pr d).val := by simp only [wq, pr]; omega
  simp only [e]
  have e2 : (wq h d).val % 64 % 2 = d.val % 2 := by simp only [wq]; omega
  simp only [e2, sign_at]
  unfold si sg ang freq
  refine congrArg (fun z => Ideal.sin z * _) ?_
  split_ifs <;> rfl

theorem v50 (R : Fin 8192) (h : Fin 2) (d : Fin 64) : (V m c main_v50 : Vec Ideal S8192x128 .f32) (ix2 R (wk h d)) = co R (pr d) := by
  rw [V_eq]
  entry_read
  pointwise
  have e : (wk h d).val % 64 / 2 = (pr d).val := by simp only [wk, pr]; omega
  simp only [e]
  unfold co ang freq
  refine congrArg Ideal.cos ?_
  split_ifs <;> rfl

theorem v53 (R : Fin 8192) (h : Fin 2) (d : Fin 64) : (V m c main_v53 : Vec Ideal S8192x128 .f32) (ix2 R (wk h d)) = si R (pr d) * sg d := by
  rw [V_eq]
  entry_read
  pointwise
  have e : (wk h d).val % 64 / 2 = (pr d).val := by simp only [wk, pr]; omega
  simp only [e]
  have e2 : (wk h d).val % 64 % 2 = d.val % 2 := by simp only [wk]; omega
  simp only [e2, sign_at]
  unfold si sg ang freq
  refine congrArg (fun z => Ideal.sin z * _) ?_
  split_ifs <;> rfl

theorem div_word : ∀ n : Fin 512, IntOp.divsi ArithUnit.host (BitVec.ofNat 32 n.val) 64#32 = BitVec.ofNat 32 (n.val / 64) := by decide +kernel

theorem rem_word : ∀ n : Fin 512, IntOp.remsi ArithUnit.host (BitVec.ofNat 32 n.val) 64#32 = BitVec.ofNat 32 (n.val % 64) := by decide +kernel

theorem same (a b : ℕ) (ha : a < 512) (hb : b < 512) : (FloatOps.uitofp FTy.f32 (IntOp.cmpi CmpIPredicate.eq (BitVec.ofNat 32 a) (BitVec.ofNat 32 b)) : Ideal .f32) = if a = b then (1 : EReal) else 0 := by
  have e : IntOp.cmpi CmpIPredicate.eq (BitVec.ofNat 32 a) (BitVec.ofNat 32 b) = if a = b then 1#1 else 0#1 := by
    simp only [IntOp.cmpi]
    by_cases h : a = b
    · simp [h]
    · have : BitVec.ofNat 32 a ≠ BitVec.ofNat 32 b := fun h' => h (by
        have := congrArg BitVec.toNat h'
        simp only [BitVec.toNat_ofNat] at this
        omega)
      rw [if_neg h, beq_eq_false_iff_ne.mpr this]; rfl
  rw [e]
  split_ifs
  · show (((1#1 : BitVec 1).toNat : ℝ) : EReal) = 1; simp
  · show (((0#1 : BitVec 1).toNat : ℝ) : EReal) = 0; simp

theorem v64 (h' h : Fin 8) (d' d : Fin 64) : (V m c main_v64 : Vec Ideal S512x512 .f32) (ix2 (wq h' d') (wq h d)) = if h' = h then (1 : EReal) else 0 := by
  rw [V_eq]
  entry_read
  pointwise
  refine (congrArg₂ (fun a b => (FloatOps.uitofp FTy.f32 (IntOp.cmpi CmpIPredicate.eq a b) : Ideal .f32)) (div_word ⟨(wq h' d').val, by have := (wq h' d').isLt; omega⟩) (div_word ⟨(wq h d).val, by have := (wq h d).isLt; omega⟩)).trans ?_
  refine (same _ _ (by simp only [wq]; omega) (by simp only [wq]; omega)).trans ?_
  have e : ((wq h' d').val / 64 = (wq h d).val / 64) = (h' = h) := by simp only [wq, Fin.ext_iff]; apply propext; omega
  simp only [e]

theorem v83 (l : Fin 128) (h : Fin 8) (d : Fin 64) : (V m c main_v83 : Vec Ideal S128x512 .f32) (ix2 l (wq h d)) = if l.val = d.val then (1 : EReal) else 0 := by
  rw [V_eq]
  entry_read
  pointwise
  refine (congrArg (fun b => (FloatOps.uitofp FTy.f32 (IntOp.cmpi CmpIPredicate.eq (BitVec.ofNat 32 l.val) b) : Ideal .f32)) (rem_word ⟨(wq h d).val, by have := (wq h d).isLt; omega⟩)).trans ?_
  refine (same _ _ (by omega) (by simp only [wq]; omega)).trans ?_
  have e : (l.val = (wq h d).val % 64) = (l.val = d.val) := by simp only [wq]; apply propext; omega
  simp only [e]

theorem v73 (h' h : Fin 2) (d' d : Fin 64) : (V m c main_v73 : Vec Ideal S128x128 .f32) (ix2 (wk h' d') (wk h d)) = if h' = h then (1 : EReal) else 0 := by
  rw [V_eq]
  entry_read
  pointwise
  refine (congrArg₂ (fun a b => (FloatOps.uitofp FTy.f32 (IntOp.cmpi CmpIPredicate.eq a b) : Ideal .f32)) (div_word ⟨(wk h' d').val, by have := (wk h' d').isLt; omega⟩) (div_word ⟨(wk h d).val, by have := (wk h d).isLt; omega⟩)).trans ?_
  refine (same _ _ (by simp only [wk]; omega) (by simp only [wk]; omega)).trans ?_
  have e : ((wk h' d').val / 64 = (wk h d).val / 64) = (h' = h) := by simp only [wk, Fin.ext_iff]; apply propext; omega
  simp only [e]

theorem v93 (l : Fin 128) (h : Fin 2) (d : Fin 64) : (V m c main_v93 : Vec Ideal S128x128 .f32) (ix2 l (wk h d)) = if l.val = d.val then (1 : EReal) else 0 := by
  rw [V_eq]
  entry_read
  pointwise
  refine (congrArg (fun b => (FloatOps.uitofp FTy.f32 (IntOp.cmpi CmpIPredicate.eq (BitVec.ofNat 32 l.val) b) : Ideal .f32)) (rem_word ⟨(wk h d).val, by have := (wk h d).isLt; omega⟩)).trans ?_
  refine (same _ _ (by omega) (by simp only [wk]; omega)).trans ?_
  have e : (l.val = (wk h d).val % 64) = (l.val = d.val) := by simp only [wk]; apply propext; omega
  simp only [e]

/-- A weight padded with zeros. -/
theorem pad_at (x : Vec Ideal S1x64 .f32) (l : Fin 128) :
    pad S1x128 ![0, 0] ![0, 64] ![0, 0] x (sitofp (F := Ideal) FTy.f32 (constantI S_ 32 0#32)) pads_S1x64_S1x128_000_0640 h_S_ (ix2 0 l)
      = if e : l.val < 64 then x (ix2 0 ⟨l.val, e⟩) else (0 : EReal) := by
  pointwise
  split_ifs
  · rfl
  · show (((0#32 : BitVec 32).toInt : ℝ) : EReal) = 0; simp

theorem v54 (l : Fin 128) : (V m c main_v54 : Vec Ideal S1x128 .f32) (ix2 0 l) = if e : l.val < 64 then m ((c : Thread nD τ).loc main_arg1) (ix2 0 ⟨l.val, e⟩) else (0 : EReal) := by
  rw [V_eq]
  entry_read
  exact pad_at (m ((c : Thread nD τ).loc main_arg1)) l

theorem v55 (l : Fin 128) : (V m c main_v55 : Vec Ideal S1x128 .f32) (ix2 0 l) = if e : l.val < 64 then m ((c : Thread nD τ).loc main_arg2) (ix2 0 ⟨l.val, e⟩) else (0 : EReal) := by
  rw [V_eq]
  entry_read
  exact pad_at (m ((c : Thread nD τ).loc main_arg2)) l

theorem v95 (h : Fin 8) (t : Fin 32) (d : Fin 64) (r : Fin 256) :
    (V m c main_v95 : Vec Ideal S8x32x64x256 .f32) (ix4 h t d r) = m ((c : Thread nD τ).loc main_arg3) (ix3 ⟨256 * t.val + r.val, by omega⟩ h d) := by
  rw [V_eq]
  entry_read
  pointwise
  refine congrArg (m ((c : Thread nD τ).loc main_arg3)) ?_
  congr 1; apply Fin.ext; show t.val * 256 + r.val = 256 * t.val + r.val; omega

theorem v97 (h : Fin 2) (t : Fin 32) (d : Fin 64) (r : Fin 256) :
    (V m c main_v97 : Vec Ideal S2x32x64x256 .f32) (ix4 h t d r) = m ((c : Thread nD τ).loc main_arg4) (ix3 ⟨256 * t.val + r.val, by omega⟩ h d) := by
  rw [V_eq]
  entry_read
  pointwise
  refine congrArg (m ((c : Thread nD τ).loc main_arg4)) ?_
  congr 1; apply Fin.ext; show t.val * 256 + r.val = 256 * t.val + r.val; omega

theorem v99 (h : Fin 2) (t : Fin 32) (d : Fin 64) (r : Fin 256) :
    (V m c main_v99 : Vec Ideal S2x32x64x256 .f32) (ix4 h t d r) = m ((c : Thread nD τ).loc main_arg5) (ix3 ⟨256 * t.val + r.val, by omega⟩ h d) := by
  rw [V_eq]
  entry_read
  pointwise
  refine congrArg (m ((c : Thread nD τ).loc main_arg5)) ?_
  congr 1; apply Fin.ext; show t.val * 256 + r.val = 256 * t.val + r.val; omega

theorem read_2 (t : Fin cfg0.N) (X : Vec Ideal S8192x512 .f32) (r : Fin 256) (l : Fin 512) :
    View.read (Elt Ideal) ((cfg0.win 2).blk t).view X (ix2 r l) = X (ix2 (row t r) l) := by
  blk_ext [idx t, row, pt]

theorem blk_2 (t : Fin cfg0.N) (r : Fin 256) (h : Fin 8) (d : Fin 64) :
    (iblk m c 2 t : Vec Ideal S256x512 .f32) (ix2 r (wq h d)) = co (row t r) (pr d) := by
  unfold iblk
  exact (read_2 t _ r _).trans (v44 m c _ h d)

theorem read_3 (t : Fin cfg0.N) (X : Vec Ideal S8192x512 .f32) (r : Fin 256) (l : Fin 512) :
    View.read (Elt Ideal) ((cfg0.win 3).blk t).view X (ix2 r l) = X (ix2 (row t r) l) := by
  blk_ext [idx t, row, pt]

theorem blk_3 (t : Fin cfg0.N) (r : Fin 256) (h : Fin 8) (d : Fin 64) :
    (iblk m c 3 t : Vec Ideal S256x512 .f32) (ix2 r (wq h d)) = si (row t r) (pr d) * sg d := by
  unfold iblk
  exact (read_3 t _ r _).trans (v47 m c _ h d)

theorem read_4 (t : Fin cfg0.N) (X : Vec Ideal S8192x128 .f32) (r : Fin 256) (l : Fin 128) :
    View.read (Elt Ideal) ((cfg0.win 4).blk t).view X (ix2 r l) = X (ix2 (row t r) l) := by
  blk_ext [idx t, row, pt]

theorem blk_4 (t : Fin cfg0.N) (r : Fin 256) (h : Fin 2) (d : Fin 64) :
    (iblk m c 4 t : Vec Ideal S256x128 .f32) (ix2 r (wk h d)) = co (row t r) (pr d) := by
  unfold iblk
  exact (read_4 t _ r _).trans (v50 m c _ h d)

theorem read_5 (t : Fin cfg0.N) (X : Vec Ideal S8192x128 .f32) (r : Fin 256) (l : Fin 128) :
    View.read (Elt Ideal) ((cfg0.win 5).blk t).view X (ix2 r l) = X (ix2 (row t r) l) := by
  blk_ext [idx t, row, pt]

theorem blk_5 (t : Fin cfg0.N) (r : Fin 256) (h : Fin 2) (d : Fin 64) :
    (iblk m c 5 t : Vec Ideal S256x128 .f32) (ix2 r (wk h d)) = si (row t r) (pr d) * sg d := by
  unfold iblk
  exact (read_5 t _ r _).trans (v53 m c _ h d)

theorem read_6 (t : Fin cfg0.N) (X : Vec Ideal S8x32x64x256 .f32) (h : Fin 8) (d : Fin 64) (r : Fin 256) :
    View.read (Elt Ideal) ((cfg0.win 6).blk t).view X (ix4 h 0 d r) = X (ix4 h (pt t) d r) := by
  blk_ext [idx t, row, pt]

theorem blk_6 (t : Fin cfg0.N) (h : Fin 8) (d : Fin 64) (r : Fin 256) :
    (iblk m c 6 t : Vec Ideal S8x1x64x256 .f32) (ix4 h 0 d r) = m ((c : Thread nD τ).loc main_arg3) (ix3 (row t r) h d) := by
  unfold iblk
  exact (read_6 t _ h d r).trans (v95 m c h (pt t) d r)

theorem read_7 (t : Fin cfg0.N) (X : Vec Ideal S2x32x64x256 .f32) (h : Fin 2) (d : Fin 64) (r : Fin 256) :
    View.read (Elt Ideal) ((cfg0.win 7).blk t).view X (ix4 h 0 d r) = X (ix4 h (pt t) d r) := by
  blk_ext [idx t, row, pt]

theorem blk_7 (t : Fin cfg0.N) (h : Fin 2) (d : Fin 64) (r : Fin 256) :
    (iblk m c 7 t : Vec Ideal S2x1x64x256 .f32) (ix4 h 0 d r) = m ((c : Thread nD τ).loc main_arg4) (ix3 (row t r) h d) := by
  unfold iblk
  exact (read_7 t _ h d r).trans (v97 m c h (pt t) d r)

theorem read_8 (t : Fin cfg0.N) (X : Vec Ideal S2x32x64x256 .f32) (h : Fin 2) (d : Fin 64) (r : Fin 256) :
    View.read (Elt Ideal) ((cfg0.win 8).blk t).view X (ix4 h 0 d r) = X (ix4 h (pt t) d r) := by
  blk_ext [idx t, row, pt]

theorem blk_8 (t : Fin cfg0.N) (h : Fin 2) (d : Fin 64) (r : Fin 256) :
    (iblk m c 8 t : Vec Ideal S2x1x64x256 .f32) (ix4 h 0 d r) = m ((c : Thread nD τ).loc main_arg5) (ix3 (row t r) h d) := by
  unfold iblk
  exact (read_8 t _ h d r).trans (v99 m c h (pt t) d r)

theorem read_9 (t : Fin cfg0.N) (X : Vec Ideal S1x128 .f32) (l : Fin 128) :
    View.read (Elt Ideal) ((cfg0.win 9).blk t).view X (ix2 0 l) = X (ix2 0 l) := by
  blk_ext [idx t, row, pt]

theorem blk_9 (t : Fin cfg0.N) (l : Fin 128) :
    (iblk m c 9 t : Vec Ideal S1x128 .f32) (ix2 0 l) = if e : l.val < 64 then m ((c : Thread nD τ).loc main_arg1) (ix2 0 ⟨l.val, e⟩) else (0 : EReal) := by
  unfold iblk
  exact (read_9 t _ l).trans (v54 m c l)

theorem read_10 (t : Fin cfg0.N) (X : Vec Ideal S1x128 .f32) (l : Fin 128) :
    View.read (Elt Ideal) ((cfg0.win 10).blk t).view X (ix2 0 l) = X (ix2 0 l) := by
  blk_ext [idx t, row, pt]

theorem blk_10 (t : Fin cfg0.N) (l : Fin 128) :
    (iblk m c 10 t : Vec Ideal S1x128 .f32) (ix2 0 l) = if e : l.val < 64 then m ((c : Thread nD τ).loc main_arg2) (ix2 0 ⟨l.val, e⟩) else (0 : EReal) := by
  unfold iblk
  exact (read_10 t _ l).trans (v55 m c l)

theorem read_11 (t : Fin cfg0.N) (X : Vec Ideal S512x512 .f32) (a b : Fin 512) :
    View.read (Elt Ideal) ((cfg0.win 11).blk t).view X (ix2 a b) = X (ix2 a b) := by
  blk_ext [idx t, row, pt]

theorem blk_11 (t : Fin cfg0.N) (h' : Fin 8) (d' : Fin 64) (h : Fin 8) (d : Fin 64) :
    (iblk m c 11 t : Vec Ideal S512x512 .f32) (ix2 (wq h' d') (wq h d)) = if h' = h then (1 : EReal) else 0 := by
  unfold iblk
  exact (read_11 t _ _ _).trans (v64 m c h' h d' d)

theorem read_12 (t : Fin cfg0.N) (X : Vec Ideal S128x128 .f32) (a b : Fin 128) :
    View.read (Elt Ideal) ((cfg0.win 12).blk t).view X (ix2 a b) = X (ix2 a b) := by
  blk_ext [idx t, row, pt]

theorem blk_12 (t : Fin cfg0.N) (h' : Fin 2) (d' : Fin 64) (h : Fin 2) (d : Fin 64) :
    (iblk m c 12 t : Vec Ideal S128x128 .f32) (ix2 (wk h' d') (wk h d)) = if h' = h then (1 : EReal) else 0 := by
  unfold iblk
  exact (read_12 t _ _ _).trans (v73 m c h' h d' d)

theorem read_13 (t : Fin cfg0.N) (X : Vec Ideal S128x512 .f32) (a : Fin 128) (b : Fin 512) :
    View.read (Elt Ideal) ((cfg0.win 13).blk t).view X (ix2 a b) = X (ix2 a b) := by
  blk_ext [idx t, row, pt]

theorem blk_13 (t : Fin cfg0.N) (l : Fin 128) (h : Fin 8) (d : Fin 64) :
    (iblk m c 13 t : Vec Ideal S128x512 .f32) (ix2 l (wq h d)) = if l.val = d.val then (1 : EReal) else 0 := by
  unfold iblk
  exact (read_13 t _ _ _).trans (v83 m c l h d)

theorem read_14 (t : Fin cfg0.N) (X : Vec Ideal S128x128 .f32) (a : Fin 128) (b : Fin 128) :
    View.read (Elt Ideal) ((cfg0.win 14).blk t).view X (ix2 a b) = X (ix2 a b) := by
  blk_ext [idx t, row, pt]

theorem blk_14 (t : Fin cfg0.N) (l : Fin 128) (h : Fin 2) (d : Fin 64) :
    (iblk m c 14 t : Vec Ideal S128x128 .f32) (ix2 l (wk h d)) = if l.val = d.val then (1 : EReal) else 0 := by
  unfold iblk
  exact (read_14 t _ _ _).trans (v93 m c l h d)

end Cert.PrepDxIdeal.Sums
end
-- ==== Proof.PrepFwHost.lean ====
/- The forward rotary preparation's blocks, as the host lines make them: the three column blocks of u, the cosines and the signed sines
   under every head, the padded weights, and the two kinds of indicator matrices. -/
module

public import proofs.«01_k».proof.Proof.PrepFwPay
public import proofs.«01_k».proof.Proof.PrepHost
public import Idealize.ShloMosaic.Lib.Pipeline.ValueKit
@[expose] public section
set_option maxRecDepth 16384
noncomputable section
namespace Cert.PrepFwIdeal.Sums
open Cert.PrepFwIdeal Cert.PrepFwIdeal.Gen Cert.PrepMath Idealize.ShloMosaic Idealize.ShloMosaic.TcCoe Idealize.SL.Sem
open Cert.PrepDxIdeal.Sums (wq wk sg div_word rem_word same)
variable (m : (ℓ : Loc nD τ sig) → Buf (Elt Ideal) ℓ) (c : Dev nD)

/-- Row `r` of block `t`. -/
def row (t : Fin cfg0.N) (r : Fin 256) : Fin 8192 := ⟨256 * t.val + r.val, by have : t.val < 32 := t.isLt; omega⟩

/-- The block's number among the arrays' leading tiles. -/
def pt (t : Fin cfg0.N) : Fin 32 := ⟨t.val, t.isLt⟩

theorem idx : ∀ t : Fin cfg0.N, win0_0.index t = ![t.val, 5] ∧ win0_1.index t = ![t.val, 24] ∧ win0_2.index t = ![t.val, 25]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, t.val, 0, 0] ∧ win0_14.index t = ![0, t.val, 0, 0] ∧ win0_15.index t = ![0, t.val, 0, 0]
    ∧ win0_16.index t = ![0, t.val, 0, 0] ∧ win0_17.index t = ![0, t.val, 0, 0] :=
  (by decide +kernel : ∀ t : Fin grid0.N, _)

theorem blk_0 (t : Fin cfg0.N) (r : Fin 256) (l : Fin 512) :
    (X0_0 m c t : Vec Ideal S256x512 .f32) (ix2 r l) = m ((c : Thread nD τ).loc main_arg0) (ix2 (row t r) ⟨2560 + l.val, by omega⟩) := by
  unfold X0_0 Pipeline.Window.fill
  rw [dif_pos (moved0_0 t _)]
  unfold iblk
  entry_read
  blk_ext [idx t, row]

theorem blk_1 (t : Fin cfg0.N) (r : Fin 256) (l : Fin 128) :
    (iblk m c 1 t : Vec Ideal S256x128 .f32) (ix2 r l) = m ((c : Thread nD τ).loc main_arg0) (ix2 (row t r) ⟨3072 + l.val, by omega⟩) := by
  unfold iblk
  entry_read
  blk_ext [idx t, row]

theorem blk_2 (t : Fin cfg0.N) (r : Fin 256) (l : Fin 128) :
    (iblk m c 2 t : Vec Ideal S256x128 .f32) (ix2 r l) = m ((c : Thread nD τ).loc main_arg0) (ix2 (row t r) ⟨3200 + l.val, by omega⟩) := by
  unfold iblk
  entry_read
  blk_ext [idx t, row]

theorem after_app (l k : List (HloOp τ sig (Elt Ideal))) (W : Valuation τ sig (Elt Ideal)) :
    StableHlo.after (l ++ k) W = StableHlo.after k (StableHlo.after l W) := by
  induction l generalizing W with
  | nil => rfl
  | cons o l ih => exact ih _

theorem after_parts (W : Valuation τ sig (Elt Ideal)) :
    StableHlo.after (List.flatten [hostOps0, hostOps0_1, hostOps0_2, hostOps0_3, hostOps0_4]) W
      = StableHlo.after hostOps0_4 (StableHlo.after hostOps0_3 (StableHlo.after hostOps0_2 (StableHlo.after hostOps0_1 (StableHlo.after hostOps0 W)))) := by
  rw [List.flatten_cons, List.flatten_cons, List.flatten_cons, List.flatten_cons, List.flatten_cons, List.flatten_nil, List.append_nil, after_app, after_app, after_app, after_app]

/-- What the kernel starts from, part by part. -/
theorem V_eq (b : Ref sig .tc) : V m c b = StableHlo.after hostOps0_4 (StableHlo.after hostOps0_3 (StableHlo.after hostOps0_2
    (StableHlo.after hostOps0_1 (StableHlo.after hostOps0 (fun b => m (c, b)))))) (Proc.devRef (τ := τ) .tc b) :=
  congrFun (after_parts _) _

theorem sign_at (n : Fin 2) : Ideal.ofBits .f32 (lit0 (S2.rowMajor (ix1 n))) = if n.val = 0 then -1 else 1 := by
  fin_cases n
  · show Ideal.ofBits .f32 0xBF800000#32 = -1
    simp only [Ideal.ofBits, Ideal.ieee]; simp; rw [← EReal.coe_mul]; norm_num
  · show Ideal.ofBits .f32 0x3F800000#32 = 1
    simp only [Ideal.ofBits, Ideal.ieee]; simp; rw [← EReal.coe_mul]; norm_num

theorem v44 (R : Fin 8192) (h : Fin 8) (d : Fin 64) : (V m c main_v44 : Vec Ideal S8192x512 .f32) (ix2 R (wq h d)) = co R (pr d) := by
  rw [V_eq]
  entry_read
  pointwise
  have e : (wq h d).val % 64 / 2 = (pr d).val := by simp only [wq, pr]; omega
  simp only [e]
  unfold co ang freq
  refine congrArg Ideal.cos ?_
  split_ifs <;> rfl

theorem v47 (R : Fin 8192) (h : Fin 8) (d : Fin 64) : (V m c main_v47 : Vec Ideal S8192x512 .f32) (ix2 R (wq h d)) = si R (pr d) * sg d := by
  rw [V_eq]
  entry_read
  pointwise
  have e : (wq h d).val % 64 / 2 = (pr d).val := by simp only [wq, pr]; omega
  simp only [e]
  have e2 : (wq h d).val % 64 % 2 = d.val % 2 := by simp only [wq]; omega
  simp only [e2, sign_at]
  unfold si sg ang freq
  refine congrArg (fun z => Ideal.sin z * _) ?_
  split_ifs <;> rfl

theorem v50 (R : Fin 8192) (h : Fin 2) (d : Fin 64) : (V m c main_v50 : Vec Ideal S8192x128 .f32) (ix2 R (wk h d)) = co R (pr d) := by
  rw [V_eq]
  entry_read
  pointwise
  have e : (wk h d).val % 64 / 2 = (pr d).val := by simp only [wk, pr]; omega
  simp only [e]
  unfold co ang freq
  refine congrArg Ideal.cos ?_
  split_ifs <;> rfl

theorem v53 (R : Fin 8192) (h : Fin 2) (d : Fin 64) : (V m c main_v53 : Vec Ideal S8192x128 .f32) (ix2 R (wk h d)) = si R (pr d) * sg d := by
  rw [V_eq]
  entry_read
  pointwise
  have e : (wk h d).val % 64 / 2 = (pr d).val := by simp only [wk, pr]; omega
  simp only [e]
  have e2 : (wk h d).val % 64 % 2 = d.val % 2 := by simp only [wk]; omega
  simp only [e2, sign_at]
  unfold si sg ang freq
  refine congrArg (fun z => Ideal.sin z * _) ?_
  split_ifs <;> rfl

theorem v64 (h' h : Fin 8) (d' d : Fin 64) : (V m c main_v64 : Vec Ideal S512x512 .f32) (ix2 (wq h' d') (wq h d)) = if h' = h then (1 : EReal) else 0 := by
  rw [V_eq]
  entry_read
  pointwise
  refine (congrArg₂ (fun a b => (FloatOps.uitofp FTy.f32 (IntOp.cmpi CmpIPredicate.eq a b) : Ideal .f32)) (div_word ⟨(wq h' d').val, by have := (wq h' d').isLt; omega⟩) (div_word ⟨(wq h d).val, by have := (wq h d).isLt; omega⟩)).trans ?_
  refine (same _ _ (by simp only [wq]; omega) (by simp only [wq]; omega)).trans ?_
  have e : ((wq h' d').val / 64 = (wq h d).val / 64) = (h' = h) := by simp only [wq, Fin.ext_iff]; apply propext; omega
  simp only [e]

theorem v83 (l : Fin 128) (h : Fin 8) (d : Fin 64) : (V m c main_v83 : Vec Ideal S128x512 .f32) (ix2 l (wq h d)) = if l.val = d.val then (1 : EReal) else 0 := by
  rw [V_eq]
  entry_read
  pointwise
  refine (congrArg (fun b => (FloatOps.uitofp FTy.f32 (IntOp.cmpi CmpIPredicate.eq (BitVec.ofNat 32 l.val) b) : Ideal .f32)) (rem_word ⟨(wq h d).val, by have := (wq h d).isLt; omega⟩)).trans ?_
  refine (same _ _ (by omega) (by simp only [wq]; omega)).trans ?_
  have e : (l.val = (wq h d).val % 64) = (l.val = d.val) := by simp only [wq]; apply propext; omega
  simp only [e]

theorem v73 (h' h : Fin 2) (d' d : Fin 64) : (V m c main_v73 : Vec Ideal S128x128 .f32) (ix2 (wk h' d') (wk h d)) = if h' = h then (1 : EReal) else 0 := by
  rw [V_eq]
  entry_read
  pointwise
  refine (congrArg₂ (fun a b => (FloatOps.uitofp FTy.f32 (IntOp.cmpi CmpIPredicate.eq a b) : Ideal .f32)) (div_word ⟨(wk h' d').val, by have := (wk h' d').isLt; omega⟩) (div_word ⟨(wk h d).val, by have := (wk h d).isLt; omega⟩)).trans ?_
  refine (same _ _ (by simp only [wk]; omega) (by simp only [wk]; omega)).trans ?_
  have e : ((wk h' d').val / 64 = (wk h d).val / 64) = (h' = h) := by simp only [wk, Fin.ext_iff]; apply propext; omega
  simp only [e]

theorem v93 (l : Fin 128) (h : Fin 2) (d : Fin 64) : (V m c main_v93 : Vec Ideal S128x128 .f32) (ix2 l (wk h d)) = if l.val = d.val then (1 : EReal) else 0 := by
  rw [V_eq]
  entry_read
  pointwise
  refine (congrArg (fun b => (FloatOps.uitofp FTy.f32 (IntOp.cmpi CmpIPredicate.eq (BitVec.ofNat 32 l.val) b) : Ideal .f32)) (rem_word ⟨(wk h d).val, by have := (wk h d).isLt; omega⟩)).trans ?_
  refine (same _ _ (by omega) (by simp only [wk]; omega)).trans ?_
  have e : (l.val = (wk h d).val % 64) = (l.val = d.val) := by simp only [wk]; apply propext; omega
  simp only [e]

/-- A weight padded with zeros. -/
theorem pad_at (x : Vec Ideal S1x64 .f32) (l : Fin 128) :
    pad S1x128 ![0, 0] ![0, 64] ![0, 0] x (sitofp (F := Ideal) FTy.f32 (constantI S_ 32 0#32)) pads_S1x64_S1x128_000_0640 h_S_ (ix2 0 l)
      = if e : l.val < 64 then x (ix2 0 ⟨l.val, e⟩) else (0 : EReal) := by
  pointwise
  split_ifs
  · rfl
  · show (((0#32 : BitVec 32).toInt : ℝ) : EReal) = 0; simp

theorem v54 (l : Fin 128) : (V m c main_v54 : Vec Ideal S1x128 .f32) (ix2 0 l) = if e : l.val < 64 then m ((c : Thread nD τ).loc main_arg1) (ix2 0 ⟨l.val, e⟩) else (0 : EReal) := by
  rw [V_eq]
  entry_read
  exact pad_at (m ((c : Thread nD τ).loc main_arg1)) l

theorem v55 (l : Fin 128) : (V m c main_v55 : Vec Ideal S1x128 .f32) (ix2 0 l) = if e : l.val < 64 then m ((c : Thread nD τ).loc main_arg2) (ix2 0 ⟨l.val, e⟩) else (0 : EReal) := by
  rw [V_eq]
  entry_read
  exact pad_at (m ((c : Thread nD τ).loc main_arg2)) l

theorem read_3 (t : Fin cfg0.N) (X : Vec Ideal S8192x512 .f32) (r : Fin 256) (l : Fin 512) :
    View.read (Elt Ideal) ((cfg0.win 3).blk t).view X (ix2 r l) = X (ix2 (row t r) l) := by
  blk_ext [idx t, row, pt]

theorem blk_3 (t : Fin cfg0.N) (r : Fin 256) (h : Fin 8) (d : Fin 64) :
    (iblk m c 3 t : Vec Ideal S256x512 .f32) (ix2 r (wq h d)) = co (row t r) (pr d) := by
  unfold iblk
  exact (read_3 t _ r _).trans (v44 m c _ h d)

theorem read_4 (t : Fin cfg0.N) (X : Vec Ideal S8192x512 .f32) (r : Fin 256) (l : Fin 512) :
    View.read (Elt Ideal) ((cfg0.win 4).blk t).view X (ix2 r l) = X (ix2 (row t r) l) := by
  blk_ext [idx t, row, pt]

theorem blk_4 (t : Fin cfg0.N) (r : Fin 256) (h : Fin 8) (d : Fin 64) :
    (iblk m c 4 t : Vec Ideal S256x512 .f32) (ix2 r (wq h d)) = si (row t r) (pr d) * sg d := by
  unfold iblk
  exact (read_4 t _ r _).trans (v47 m c _ h d)

theorem read_5 (t : Fin cfg0.N) (X : Vec Ideal S8192x128 .f32) (r : Fin 256) (l : Fin 128) :
    View.read (Elt Ideal) ((cfg0.win 5).blk t).view X (ix2 r l) = X (ix2 (row t r) l) := by
  blk_ext [idx t, row, pt]

theorem blk_5 (t : Fin cfg0.N) (r : Fin 256) (h : Fin 2) (d : Fin 64) :
    (iblk m c 5 t : Vec Ideal S256x128 .f32) (ix2 r (wk h d)) = co (row t r) (pr d) := by
  unfold iblk
  exact (read_5 t _ r _).trans (v50 m c _ h d)

theorem read_6 (t : Fin cfg0.N) (X : Vec Ideal S8192x128 .f32) (r : Fin 256) (l : Fin 128) :
    View.read (Elt Ideal) ((cfg0.win 6).blk t).view X (ix2 r l) = X (ix2 (row t r) l) := by
  blk_ext [idx t, row, pt]

theorem blk_6 (t : Fin cfg0.N) (r : Fin 256) (h : Fin 2) (d : Fin 64) :
    (iblk m c 6 t : Vec Ideal S256x128 .f32) (ix2 r (wk h d)) = si (row t r) (pr d) * sg d := by
  unfold iblk
  exact (read_6 t _ r _).trans (v53 m c _ h d)

theorem read_7 (t : Fin cfg0.N) (X : Vec Ideal S1x128 .f32) (l : Fin 128) :
    View.read (Elt Ideal) ((cfg0.win 7).blk t).view X (ix2 0 l) = X (ix2 0 l) := by
  blk_ext [idx t, row, pt]

theorem blk_7 (t : Fin cfg0.N) (l : Fin 128) :
    (iblk m c 7 t : Vec Ideal S1x128 .f32) (ix2 0 l) = if e : l.val < 64 then m ((c : Thread nD τ).loc main_arg1) (ix2 0 ⟨l.val, e⟩) else (0 : EReal) := by
  unfold iblk
  exact (read_7 t _ l).trans (v54 m c l)

theorem read_8 (t : Fin cfg0.N) (X : Vec Ideal S1x128 .f32) (l : Fin 128) :
    View.read (Elt Ideal) ((cfg0.win 8).blk t).view X (ix2 0 l) = X (ix2 0 l) := by
  blk_ext [idx t, row, pt]

theorem blk_8 (t : Fin cfg0.N) (l : Fin 128) :
    (iblk m c 8 t : Vec Ideal S1x128 .f32) (ix2 0 l) = if e : l.val < 64 then m ((c : Thread nD τ).loc main_arg2) (ix2 0 ⟨l.val, e⟩) else (0 : EReal) := by
  unfold iblk
  exact (read_8 t _ l).trans (v55 m c l)

theorem read_9 (t : Fin cfg0.N) (X : Vec Ideal S512x512 .f32) (a b : Fin 512) :
    View.read (Elt Ideal) ((cfg0.win 9).blk t).view X (ix2 a b) = X (ix2 a b) := by
  blk_ext [idx t, row, pt]

theorem blk_9 (t : Fin cfg0.N) (h' : Fin 8) (d' : Fin 64) (h : Fin 8) (d : Fin 64) :
    (iblk m c 9 t : Vec Ideal S512x512 .f32) (ix2 (wq h' d') (wq h d)) = if h' = h then (1 : EReal) else 0 := by
  unfold iblk
  exact (read_9 t _ _ _).trans (v64 m c h' h d' d)

theorem read_10 (t : Fin cfg0.N) (X : Vec Ideal S128x128 .f32) (a b : Fin 128) :
    View.read (Elt Ideal) ((cfg0.win 10).blk t).view X (ix2 a b) = X (ix2 a b) := by
  blk_ext [idx t, row, pt]

theorem blk_10 (t : Fin cfg0.N) (h' : Fin 2) (d' : Fin 64) (h : Fin 2) (d : Fin 64) :
    (iblk m c 10 t : Vec Ideal S128x128 .f32) (ix2 (wk h' d') (wk h d)) = if h' = h then (1 : EReal) else 0 := by
  unfold iblk
  exact (read_10 t _ _ _).trans (v73 m c h' h d' d)

theorem read_11 (t : Fin cfg0.N) (X : Vec Ideal S128x512 .f32) (a : Fin 128) (b : Fin 512) :
    View.read (Elt Ideal) ((cfg0.win 11).blk t).view X (ix2 a b) = X (ix2 a b) := by
  blk_ext [idx t, row, pt]

theorem blk_11 (t : Fin cfg0.N) (l : Fin 128) (h : Fin 8) (d : Fin 64) :
    (iblk m c 11 t : Vec Ideal S128x512 .f32) (ix2 l (wq h d)) = if l.val = d.val then (1 : EReal) else 0 := by
  unfold iblk
  exact (read_11 t _ _ _).trans (v83 m c l h d)

theorem read_12 (t : Fin cfg0.N) (X : Vec Ideal S128x128 .f32) (a : Fin 128) (b : Fin 128) :
    View.read (Elt Ideal) ((cfg0.win 12).blk t).view X (ix2 a b) = X (ix2 a b) := by
  blk_ext [idx t, row, pt]

theorem blk_12 (t : Fin cfg0.N) (l : Fin 128) (h : Fin 2) (d : Fin 64) :
    (iblk m c 12 t : Vec Ideal S128x128 .f32) (ix2 l (wk h d)) = if l.val = d.val then (1 : EReal) else 0 := by
  unfold iblk
  exact (read_12 t _ _ _).trans (v93 m c l h d)

end Cert.PrepFwIdeal.Sums
end
-- ==== Proof.PrepRefRead.lean ====
/- The rotary preparation's gradient as the reference writes it: its lines at a row, a head and a lane are the numbers of the head. -/
module

public import proofs.«01_k».proof.Proof.Gen.PrepRefIdeal.Read
public import proofs.«01_k».proof.Proof.PrepMath
public import proofs.«01_k».proof.Proof.MixPay
public import Idealize.ShloMosaic.Lib.Pointwise

@[expose] public section

set_option maxRecDepth 16384

noncomputable section

namespace Cert.PrepRefIdeal.Sums

open Cert.PrepRefIdeal Cert.PrepRefIdeal.Read Cert.PrepMath Idealize.ShloMosaic Idealize.ShloMosaic.TcCoe Idealize.SL.Sem
open Cert.MixDxIdeal.Sums (lead_sum)

/-- The query's, the key's and the value's lanes among the projection's columns. -/
def uq (h : Fin 8) (d : Fin 64) : Fin 3328 := ⟨2560 + (64 * h.val + d.val), by omega⟩
def uk (h : Fin 2) (d : Fin 64) : Fin 3328 := ⟨3072 + (64 * h.val + d.val), by omega⟩
def wq (h : Fin 8) (d : Fin 64) : Fin 512 := ⟨64 * h.val + d.val, by omega⟩
def wk (h : Fin 2) (d : Fin 64) : Fin 128 := ⟨64 * h.val + d.val, by omega⟩

theorem zero_word : (FloatOps.sitofp FTy.f32 0#32 : Ideal .f32) = (0 : EReal) := by
  show (((0#32 : BitVec 32).toInt : ℝ) : EReal) = 0
  simp

/-- The rotary angle of a row. -/
theorem ang_at (R : Fin 8192) (i : Fin 32) : val_main_v32 (F := Ideal) (ix2 R i) = ang R i := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
  rfl
theorem co_at (R : Fin 8192) (i : Fin 32) : val_main_v33 (F := Ideal) (ix2 R i) = co R i := by
  unfold co; rw [← ang_at]; rfl
theorem si_at (R : Fin 8192) (i : Fin 32) : val_main_v34 (F := Ideal) (ix2 R i) = si R i := by
  unfold si; rw [← ang_at]; rfl

variable (x0 : FVec Ideal S8192x3328 .f32) (x1 x2 : FVec Ideal S1x64 .f32) (x3 : FVec Ideal S8192x8x64 .f32) (x4 x5 : FVec Ideal S8192x2x64 .f32)

/-- A head's lanes of a row. -/
abbrev aq (R : Fin 8192) (h : Fin 8) (d : Fin 64) : EReal := x0 (ix2 R (uq h d))

/-- A head's row of the cotangent, weighed. -/
abbrev eq (R : Fin 8192) (h : Fin 8) (d : Fin 64) : EReal := x3 (ix3 R h d) * Ideal.ofBits .f32 0x3E000000#32

theorem lanes_q (R : Fin 8192) (h : Fin 8) (d : Fin 64) : val_main_v35 (F := Ideal) x0 (ix3 R h d) = aq x0 R h d := by
  unfold val_main_v35 val_main_v0
  pointwise
  refine congrArg x0 ?_
  congr 1; apply Fin.ext; simp only [uq]; first | omega | (simp; omega)

theorem var_q (R : Fin 8192) (h : Fin 8) : val_main_v42 (F := Ideal) x0 (ix3 R h 0) = nv (aq x0 R h) := by
  pointwise [val_main_v42, val_main_v41, val_main_cst_5, val_main_v40, val_main_v39, val_main_cst_4, val_main_v38, val_main_v37, val_main_cst_3, val_main_v36, lanes_q x0]
  rfl

theorem inv_q (R : Fin 8192) (h : Fin 8) : val_main_v43 (F := Ideal) x0 (ix3 R h 0) = nr (aq x0 R h) := by
  pointwise [val_main_v43, var_q x0]
  rfl

theorem slope_q (R : Fin 8192) (h : Fin 8) : val_main_v46 (F := Ideal) x0 (ix3 R h 0) = ns (aq x0 R h) := by
  pointwise [val_main_v46, val_main_v45, val_main_cst_6, val_main_v44, var_q x0, inv_q x0]
  rfl

theorem rot_q (R : Fin 8192) (h : Fin 8) (d : Fin 64) : val_main_v170 (F := Ideal) x3 (ix3 R h d) = unrot (eq x3 R h) (co R) (si R) d := by
  unfold val_main_v170 val_main_v168 val_main_v169
  pointwise [val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v54, val_main_v55, val_main_cst_19, val_main_cst_20, val_main_cst_21, co_at, si_at]
  unfold unrot
  by_cases hd : d.val % 2 = 0
  · rw [dif_neg (by omega), dif_pos ⟨hd, by omega⟩, dif_pos hd, zero_add]
    have i1 : (⟨d.val / 2 * 2 + 1, by omega⟩ : Fin 64) = up d hd := Fin.ext (by simp only [up]; omega)
    have i2 : (⟨d.val / 2 * 2, by omega⟩ : Fin 64) = d := Fin.ext (by show d.val / 2 * 2 = d.val; omega)
    rw [i1, i2]; rfl
  · rw [dif_pos ⟨by omega, by omega, by omega⟩, dif_neg (by omega), dif_neg hd, add_zero]
    have i1 : (⟨(d.val - 1) / 2 * 2 + 1, by omega⟩ : Fin 64) = d := Fin.ext (by show (d.val - 1) / 2 * 2 + 1 = d.val; omega)
    have i2 : (⟨(d.val - 1) / 2 * 2, by omega⟩ : Fin 64) = dn d hd := Fin.ext (by simp only [dn]; omega)
    have i3 : (⟨(d.val - 1) / 2, by omega⟩ : Fin 32) = pr d := Fin.ext (by simp only [pr]; omega)
    rw [i1, i2, i3]

/-- The cotangent of the normalised lanes. -/
abbrev gq (R : Fin 8192) (h : Fin 8) (d : Fin 64) : EReal := unrot (eq x3 R h) (co R) (si R) d * x1 (ix2 0 d)

theorem cot_q (R : Fin 8192) (h : Fin 8) (d : Fin 64) : val_main_v175 (F := Ideal) x1 x3 (ix3 R h d) = gq x1 x3 R h d := by
  pointwise [val_main_v175, val_main_v174, val_main_v49, rot_q]

theorem grad_q (R : Fin 8192) (h : Fin 8) (d : Fin 64) : val_main_v191 (F := Ideal) x0 x1 x3 (ix3 R h d) = nd (aq x0 R h) (gq x1 x3 R h) d := by
  pointwise [val_main_v191, val_main_v190, val_main_v189, val_main_v188, val_main_v187, val_main_v186, val_main_v185, val_main_v184, val_main_v183, val_main_v182, val_main_v181, val_main_v180, val_main_v179, val_main_v178, val_main_cst_24, val_main_cst_25, val_main_cst_26, cot_q, lanes_q, inv_q, slope_q]
  simp only [Fin.sum_univ_one, slope_q x0]
  rfl

/-- The result array of the gradient. -/
theorem res_q (R : Fin 8192) (h : Fin 8) (d : Fin 64) : val_main_v193 (F := Ideal) x0 x1 x3 (ix2 R (wq h d)) = nd (aq x0 R h) (gq x1 x3 R h) d := by
  refine Eq.trans ?_ (grad_q x0 x1 x3 R h d)
  pointwise [val_main_v193, val_main_v192]
  refine congrArg (val_main_v191 (F := Ideal) x0 x1 x3) ?_
  congr 1 <;> (apply Fin.ext; simp only [wq]; first | omega | (simp; omega))

/-- The gradient of the norm's weight, padded. -/
theorem row_q (l : Fin 128) : val_main_v196 (F := Ideal) x0 x3 (ix2 0 l)
    = if hl : l.val < 64 then ∑ R : Fin 8192, ∑ h, aq x0 R h ⟨l.val, hl⟩ * nr (aq x0 R h) * unrot (eq x3 R h) (co R) (si R) ⟨l.val, hl⟩ else 0 := by
  unfold val_main_v196 val_main_v177 val_main_v176 val_main_v173 val_main_v172
  pointwise [lead_sum, val_main_v171, val_main_v48, val_main_v47, val_main_cst_22, val_main_cst_23, val_main_call0_v0, val_main_c, rot_q, lanes_q, inv_q]
  try simp only [Fin.sum_univ_one]
  split_ifs with hl
  · rfl
  · exact zero_word

/-- A head's lanes of a row. -/
abbrev ak (R : Fin 8192) (h : Fin 2) (d : Fin 64) : EReal := x0 (ix2 R (uk h d))

/-- A head's row of the cotangent, weighed. -/
abbrev ek (R : Fin 8192) (h : Fin 2) (d : Fin 64) : EReal := x4 (ix3 R h d)

theorem lanes_k (R : Fin 8192) (h : Fin 2) (d : Fin 64) : val_main_v72 (F := Ideal) x0 (ix3 R h d) = ak x0 R h d := by
  unfold val_main_v72 val_main_v1
  pointwise
  refine congrArg x0 ?_
  congr 1; apply Fin.ext; simp only [uk]; first | omega | (simp; omega)

theorem var_k (R : Fin 8192) (h : Fin 2) : val_main_v79 (F := Ideal) x0 (ix3 R h 0) = nv (ak x0 R h) := by
  pointwise [val_main_v79, val_main_v78, val_main_cst_10, val_main_v77, val_main_v76, val_main_cst_9, val_main_v75, val_main_v74, val_main_cst_8, val_main_v73, lanes_k x0]
  rfl

theorem inv_k (R : Fin 8192) (h : Fin 2) : val_main_v80 (F := Ideal) x0 (ix3 R h 0) = nr (ak x0 R h) := by
  pointwise [val_main_v80, var_k x0]
  rfl

theorem slope_k (R : Fin 8192) (h : Fin 2) : val_main_v83 (F := Ideal) x0 (ix3 R h 0) = ns (ak x0 R h) := by
  pointwise [val_main_v83, val_main_v82, val_main_cst_11, val_main_v81, var_k x0, inv_k x0]
  rfl

theorem rot_k (R : Fin 8192) (h : Fin 2) (d : Fin 64) : val_main_v127 (F := Ideal) x4 (ix3 R h d) = unrot (ek x4 R h) (co R) (si R) d := by
  unfold val_main_v127 val_main_v125 val_main_v126
  pointwise [val_main_v124, val_main_v123, val_main_v122, val_main_v121, val_main_v120, val_main_v119, val_main_v118, val_main_v117, val_main_v116, val_main_v115, val_main_v114, val_main_v113, val_main_v112, val_main_v111, val_main_v110, val_main_v109, val_main_v91, val_main_v92, val_main_cst_12, val_main_cst_13, co_at, si_at]
  unfold unrot
  by_cases hd : d.val % 2 = 0
  · rw [dif_neg (by omega), dif_pos ⟨hd, by omega⟩, dif_pos hd, zero_add]
    have i1 : (⟨d.val / 2 * 2 + 1, by omega⟩ : Fin 64) = up d hd := Fin.ext (by simp only [up]; omega)
    have i2 : (⟨d.val / 2 * 2, by omega⟩ : Fin 64) = d := Fin.ext (by show d.val / 2 * 2 = d.val; omega)
    rw [i1, i2]; rfl
  · rw [dif_pos ⟨by omega, by omega, by omega⟩, dif_neg (by omega), dif_neg hd, add_zero]
    have i1 : (⟨(d.val - 1) / 2 * 2 + 1, by omega⟩ : Fin 64) = d := Fin.ext (by show (d.val - 1) / 2 * 2 + 1 = d.val; omega)
    have i2 : (⟨(d.val - 1) / 2 * 2, by omega⟩ : Fin 64) = dn d hd := Fin.ext (by simp only [dn]; omega)
    have i3 : (⟨(d.val - 1) / 2, by omega⟩ : Fin 32) = pr d := Fin.ext (by simp only [pr]; omega)
    rw [i1, i2, i3]

/-- The cotangent of the normalised lanes. -/
abbrev gk (R : Fin 8192) (h : Fin 2) (d : Fin 64) : EReal := unrot (ek x4 R h) (co R) (si R) d * x2 (ix2 0 d)

theorem cot_k (R : Fin 8192) (h : Fin 2) (d : Fin 64) : val_main_v132 (F := Ideal) x2 x4 (ix3 R h d) = gk x2 x4 R h d := by
  pointwise [val_main_v132, val_main_v131, val_main_v86, rot_k]

theorem grad_k (R : Fin 8192) (h : Fin 2) (d : Fin 64) : val_main_v148 (F := Ideal) x0 x2 x4 (ix3 R h d) = nd (ak x0 R h) (gk x2 x4 R h) d := by
  pointwise [val_main_v148, val_main_v147, val_main_v146, val_main_v145, val_main_v144, val_main_v143, val_main_v142, val_main_v141, val_main_v140, val_main_v139, val_main_v138, val_main_v137, val_main_v136, val_main_v135, val_main_cst_16, val_main_cst_17, val_main_cst_18, cot_k, lanes_k, inv_k, slope_k]
  simp only [Fin.sum_univ_one, slope_k x0]
  rfl

/-- The result array of the gradient. -/
theorem res_k (R : Fin 8192) (h : Fin 2) (d : Fin 64) : val_main_v194 (F := Ideal) x0 x2 x4 (ix2 R (wk h d)) = nd (ak x0 R h) (gk x2 x4 R h) d := by
  refine Eq.trans ?_ (grad_k x0 x2 x4 R h d)
  pointwise [val_main_v194, val_main_v149]
  refine congrArg (val_main_v148 (F := Ideal) x0 x2 x4) ?_
  congr 1 <;> (apply Fin.ext; simp only [wk]; first | omega | (simp; omega))

/-- The gradient of the norm's weight, padded. -/
theorem row_k (l : Fin 128) : val_main_v197 (F := Ideal) x0 x4 (ix2 0 l)
    = if hl : l.val < 64 then ∑ R : Fin 8192, ∑ h, ak x0 R h ⟨l.val, hl⟩ * nr (ak x0 R h) * unrot (ek x4 R h) (co R) (si R) ⟨l.val, hl⟩ else 0 := by
  unfold val_main_v197 val_main_v134 val_main_v133 val_main_v130 val_main_v129
  pointwise [lead_sum, val_main_v128, val_main_v85, val_main_v84, val_main_cst_14, val_main_cst_15, val_main_call1_v0, val_main_c_27, rot_k, lanes_k, inv_k]
  try simp only [Fin.sum_univ_one]
  split_ifs with hl
  · rfl
  · exact zero_word

/-- The value's gradient. -/
theorem res_v (R : Fin 8192) (h : Fin 2) (d : Fin 64) : val_main_v195 (F := Ideal) x5 (ix2 R (wk h d)) = x5 (ix3 R h d) := by
  pointwise [val_main_v195, val_main_v108]
  refine congrArg x5 ?_
  congr 1 <;> (apply Fin.ext; simp only [wk]; first | omega | (simp; omega))

end Cert.PrepRefIdeal.Sums

end
-- ==== Proof.PrepFwRefRead.lean ====
/- The forward rotary preparation as the reference writes it: its lines at a row, a head and a lane are the norm, the weight and the
   rotation of the head, and its result arrays hold them as columns or as rows padded to a whole lane group. -/
module

public import proofs.«01_k».proof.Proof.Gen.PrepFwRefIdeal.Read
public import proofs.«01_k».proof.Proof.PrepFwPay
public import proofs.«01_k».proof.Proof.PrepRefRead
public import Idealize.ShloMosaic.Lib.Pointwise

@[expose] public section

set_option maxRecDepth 16384

noncomputable section

namespace Cert.PrepFwRefIdeal.Sums

open Cert.PrepFwRefIdeal Cert.PrepFwRefIdeal.Read Cert.PrepMath Idealize.ShloMosaic Idealize.ShloMosaic.TcCoe Idealize.SL.Sem
open Cert.PrepRefIdeal.Sums (uq uk zero_word)
open Cert.PrepFwIdeal.Sums (nw rot)
open Cert.MixDxIdeal.Sums (padded)

/-- The value's lanes among the projection's columns. -/
def uv (h : Fin 2) (d : Fin 64) : Fin 3328 := ⟨3200 + (64 * h.val + d.val), by omega⟩

/-- The rotary angle of a row. -/
theorem ang_at (R : Fin 8192) (i : Fin 32) : val_main_v29 (F := Ideal) (ix2 R i) = ang R i := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem co_at (R : Fin 8192) (i : Fin 32) : val_main_v30 (F := Ideal) (ix2 R i) = co R i := by
  unfold co; rw [← ang_at]; rfl
theorem si_at (R : Fin 8192) (i : Fin 32) : val_main_v31 (F := Ideal) (ix2 R i) = si R i := by
  unfold si; rw [← ang_at]; rfl

/-- The pairs of lanes turned, as the reference picks them out and puts them side by side. -/
theorem rot_pairs (e : Fin 64 → EReal) (co si : Fin 32 → EReal) (d : Fin 64) :
    (if d.val % 2 < 1 then e ⟨2 * (d.val / 2), by omega⟩ * co ⟨d.val / 2, by omega⟩ - e ⟨1 + 2 * (d.val / 2), by omega⟩ * si ⟨d.val / 2, by omega⟩
      else e ⟨2 * (d.val / 2), by omega⟩ * si ⟨d.val / 2, by omega⟩ + e ⟨1 + 2 * (d.val / 2), by omega⟩ * co ⟨d.val / 2, by omega⟩) = rot e co si d := by
  unfold rot
  by_cases hd : d.val % 2 = 0
  · rw [if_pos (by omega), dif_pos hd]
    have i1 : (⟨2 * (d.val / 2), by omega⟩ : Fin 64) = d := Fin.ext (by show 2 * (d.val / 2) = d.val; omega)
    have i2 : (⟨1 + 2 * (d.val / 2), by omega⟩ : Fin 64) = up d hd := Fin.ext (by simp only [up]; omega)
    rw [i1, i2]; rfl
  · rw [if_neg (by omega), dif_neg hd]
    have i1 : (⟨2 * (d.val / 2), by omega⟩ : Fin 64) = dn d hd := Fin.ext (by simp only [dn]; omega)
    have i2 : (⟨1 + 2 * (d.val / 2), by omega⟩ : Fin 64) = d := Fin.ext (by show 1 + 2 * (d.val / 2) = d.val; omega)
    rw [i1, i2]; rfl

variable (x0 : FVec Ideal S8192x3328 .f32) (x1 x2 : FVec Ideal S1x64 .f32)

/-- A head's lanes of a row, normed and weighed. -/
abbrev nq (R : Fin 8192) (h : Fin 8) : Fin 64 → EReal := nw (fun d => x0 (ix2 R (uq h d))) (fun d => x1 (ix2 0 d))

theorem lanes_q (R : Fin 8192) (h : Fin 8) (d : Fin 64) : val_main_v33 (F := Ideal) x0 (ix3 R h d) = x0 (ix2 R (uq h d)) := by
  unfold val_main_v33 val_main_v32
  pointwise
  refine congrArg x0 ?_
  congr 1; apply Fin.ext; simp only [uq]; first | omega | (simp; omega)

theorem var_q (R : Fin 8192) (h : Fin 8) : val_main_v40 (F := Ideal) x0 (ix3 R h 0) = nv (fun d => x0 (ix2 R (uq h d))) := by
  pointwise [val_main_v40, val_main_v39, val_main_v38, val_main_v37, val_main_v36, val_main_v35, val_main_v34, val_main_cst_5, val_main_cst_4, val_main_cst_3, lanes_q x0]
  rfl

theorem norm_q (R : Fin 8192) (h : Fin 8) (d : Fin 64) : val_main_v46 (F := Ideal) x0 x1 (ix3 R h d) = nq x0 x1 R h d := by
  pointwise [val_main_v46, val_main_v45, val_main_v44, val_main_v43, val_main_v42, val_main_v41, lanes_q x0, var_q x0]
  rfl

theorem rot_q (R : Fin 8192) (h : Fin 8) (d : Fin 64) : val_main_v64 (F := Ideal) x0 x1 (ix3 R h d) = rot (nq x0 x1 R h) (co R) (si R) d := by
  unfold val_main_v64 val_main_v63
  pointwise [val_main_v62, val_main_v61, val_main_v60, val_main_v59, val_main_v58, val_main_v57, val_main_v56, val_main_v55, val_main_v54, val_main_v53, val_main_v52, val_main_v51, val_main_v50, val_main_v49, val_main_v48, val_main_v47, norm_q, co_at, si_at]
  exact rot_pairs _ _ _ d

theorem out_q (R : Fin 8192) (h : Fin 8) (d : Fin 64) : val_main_v66 (F := Ideal) x0 x1 (ix3 R h d) = rot (nq x0 x1 R h) (co R) (si R) d * Ideal.ofBits .f32 0x3E000000#32 := by
  pointwise [val_main_v66, val_main_v65, val_main_cst_6, rot_q]

/-- A head's lanes of a row, normed and weighed. -/
abbrev nk (R : Fin 8192) (h : Fin 2) : Fin 64 → EReal := nw (fun d => x0 (ix2 R (uk h d))) (fun d => x2 (ix2 0 d))

theorem lanes_k (R : Fin 8192) (h : Fin 2) (d : Fin 64) : val_main_v68 (F := Ideal) x0 (ix3 R h d) = x0 (ix2 R (uk h d)) := by
  unfold val_main_v68 val_main_v67
  pointwise
  refine congrArg x0 ?_
  congr 1; apply Fin.ext; simp only [uk]; first | omega | (simp; omega)

theorem var_k (R : Fin 8192) (h : Fin 2) : val_main_v75 (F := Ideal) x0 (ix3 R h 0) = nv (fun d => x0 (ix2 R (uk h d))) := by
  pointwise [val_main_v75, val_main_v74, val_main_v73, val_main_v72, val_main_v71, val_main_v70, val_main_v69, val_main_cst_9, val_main_cst_8, val_main_cst_7, lanes_k x0]
  rfl

theorem norm_k (R : Fin 8192) (h : Fin 2) (d : Fin 64) : val_main_v81 (F := Ideal) x0 x2 (ix3 R h d) = nk x0 x2 R h d := by
  pointwise [val_main_v81, val_main_v80, val_main_v79, val_main_v78, val_main_v77, val_main_v76, lanes_k x0, var_k x0]
  rfl

theorem rot_k (R : Fin 8192) (h : Fin 2) (d : Fin 64) : val_main_v99 (F := Ideal) x0 x2 (ix3 R h d) = rot (nk x0 x2 R h) (co R) (si R) d := by
  unfold val_main_v99 val_main_v98
  pointwise [val_main_v97, val_main_v96, val_main_v95, val_main_v94, val_main_v93, val_main_v92, val_main_v91, val_main_v90, val_main_v89, val_main_v88, val_main_v87, val_main_v86, val_main_v85, val_main_v84, val_main_v83, val_main_v82, norm_k, co_at, si_at]
  exact rot_pairs _ _ _ d

theorem lanes_v (R : Fin 8192) (h : Fin 2) (d : Fin 64) : val_main_v101 (F := Ideal) x0 (ix3 R h d) = x0 (ix2 R (uv h d)) := by
  unfold val_main_v101 val_main_v100
  pointwise
  refine congrArg x0 ?_
  congr 1; apply Fin.ext; simp only [uv]; first | omega | (simp; omega)

/-! The result arrays. -/
theorem cols_q (h : Fin 8) (t : Fin 32) (d : Fin 64) (r : Fin 256) (R : Fin 8192) (hR : R.val = 256 * t.val + r.val) :
    val_main_v104 (F := Ideal) x0 x1 (ix4 h t d r) = rot (nq x0 x1 R h) (co R) (si R) d * Ideal.ofBits .f32 0x3E000000#32 := by
  unfold val_main_v104 val_main_v103 val_main_v102
  pointwise
  have e : ∀ p, (⟨t.val * 256 + r.val, p⟩ : Fin 8192) = R := fun p => Fin.ext (by show t.val * 256 + r.val = R.val; omega)
  rw [e]
  exact out_q x0 x1 R h d

theorem rows_q (h : Fin 8) (t : Fin 32) (r : Fin 256) (l : Fin 128) (R : Fin 8192) (hR : R.val = 256 * t.val + r.val) :
    val_main_v108 (F := Ideal) x0 x1 (ix4 h t r l) = padded (fun d => rot (nq x0 x1 R h) (co R) (si R) d * Ideal.ofBits .f32 0x3E000000#32) l := by
  unfold val_main_v108 val_main_v107 val_main_v106 val_main_v105
  pointwise [val_main_call0_v0, val_main_c, padded]
  have e : ∀ p, (⟨t.val * 256 + r.val, p⟩ : Fin 8192) = R := fun p => Fin.ext (by show t.val * 256 + r.val = R.val; omega)
  simp only [e]
  split_ifs with hl
  · exact out_q x0 x1 R h ⟨l.val, hl⟩
  · exact zero_word

theorem rows_k (h : Fin 2) (t : Fin 32) (r : Fin 256) (l : Fin 128) (R : Fin 8192) (hR : R.val = 256 * t.val + r.val) :
    val_main_v112 (F := Ideal) x0 x2 (ix4 h t r l) = padded (fun d => rot (nk x0 x2 R h) (co R) (si R) d) l := by
  unfold val_main_v112 val_main_v111 val_main_v110 val_main_v109
  pointwise [val_main_call1_v0, val_main_c_10, padded]
  have e : ∀ p, (⟨t.val * 256 + r.val, p⟩ : Fin 8192) = R := fun p => Fin.ext (by show t.val * 256 + r.val = R.val; omega)
  simp only [e]
  split_ifs with hl
  · exact rot_k x0 x2 R h ⟨l.val, hl⟩
  · exact zero_word

theorem cols_k (h : Fin 2) (t : Fin 32) (d : Fin 64) (r : Fin 256) (R : Fin 8192) (hR : R.val = 256 * t.val + r.val) :
    val_main_v115 (F := Ideal) x0 x2 (ix4 h t d r) = rot (nk x0 x2 R h) (co R) (si R) d := by
  unfold val_main_v115 val_main_v114 val_main_v113
  pointwise
  have e : ∀ p, (⟨t.val * 256 + r.val, p⟩ : Fin 8192) = R := fun p => Fin.ext (by show t.val * 256 + r.val = R.val; omega)
  rw [e]
  exact rot_k x0 x2 R h d

theorem cols_v (h : Fin 2) (t : Fin 32) (d : Fin 64) (r : Fin 256) (R : Fin 8192) (hR : R.val = 256 * t.val + r.val) :
    val_main_v118 (F := Ideal) x0  (ix4 h t d r) = x0 (ix2 R (uv h d)) := by
  unfold val_main_v118 val_main_v117 val_main_v116
  pointwise
  have e : ∀ p, (⟨t.val * 256 + r.val, p⟩ : Fin 8192) = R := fun p => Fin.ext (by show t.val * 256 + r.val = R.val; omega)
  rw [e]
  exact lanes_v x0 R h d

end Cert.PrepFwRefIdeal.Sums

end
-- ==== Proof.AttMath.lean ====
/- Real-number facts of the attention: the running maximum, denominator and weighted sum of a softmax taken block by block keep
   their meaning, and what they leave at the end does not depend on the maximum. -/
module

public import Idealize.ShloMosaic.Lib.Pointwise

@[expose] public section

noncomputable section

namespace Cert.AttMath

open Idealize.ShloMosaic

/-- A sum of reals, read among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_sum_univ {n : ℕ} (f : Fin n → ℝ) : (∑ i, ((f i : ℝ) : EReal)) = ((∑ i, f i : ℝ) : EReal) := coe_sum _ f

theorem exp_sub (a b : ℝ) : Ideal.exp ((a : EReal) - (b : EReal)) = ((Real.exp (a - b) : ℝ) : EReal) := by
  rw [← EReal.coe_sub, Ideal.exp_coe]

theorem div_real (a : ℝ) {b : ℝ} (h : b ≠ 0) : Ideal.div (a : EReal) (b : EReal) = ((a / b : ℝ) : EReal) := by
  rw [Ideal.div_coe h, ← EReal.coe_mul, mul_one_div]

theorem max_real (a b : ℝ) : max (a : EReal) (b : EReal) = ((max a b : ℝ) : EReal) := (EReal.coe_strictMono.monotone.map_max).symm

/-- The greatest of some reals, starting from −∞, is −∞ (of none) or a real. -/
theorem fold_max {ι : Type} (s : Finset ι) (f : ι → ℝ) :
    (s = ∅ ∧ s.fold max (⊥ : EReal) (fun i => ((f i : ℝ) : EReal)) = ⊥) ∨ ∃ μ : ℝ, s.fold max (⊥ : EReal) (fun i => ((f i : ℝ) : EReal)) = μ := by
  classical
  induction s using Finset.induction_on with
  | empty => left; simp
  | insert a s ha ih =>
    right
    rw [Finset.fold_insert ha]
    rcases ih with ⟨_, h⟩ | ⟨μ, h⟩
    · exact ⟨f a, by rw [h]; simp⟩
    · exact ⟨max (f a) μ, by rw [h, max_real]⟩

theorem fold_max_real {n : ℕ} (hn : 0 < n) (f : Fin n → ℝ) : ∃ μ : ℝ, Finset.univ.fold max (⊥ : EReal) (fun i => ((f i : ℝ) : EReal)) = μ := by
  rcases fold_max Finset.univ f with ⟨h, _⟩ | h
  · exact absurd (Finset.mem_univ (⟨0, hn⟩ : Fin n)) (by rw [h]; simp)
  · exact h

/-- After `n` keys the running maximum is some number, and the denominator and the weighted sums are those of the first `n` keys relative
    to it; before the first key they are −∞, 0 and 0. -/
def Inv (s : ℕ → ℝ) (v : Fin 64 → ℕ → ℝ) (n : ℕ) (m l : EReal) (a : Fin 64 → EReal) : Prop :=
  (n = 0 ∧ m = ⊥ ∧ l = 0 ∧ ∀ d, a d = 0) ∨
    ∃ μ : ℝ, m = μ ∧ l = ((∑ j ∈ Finset.range n, Real.exp (s j - μ) : ℝ) : EReal) ∧
      ∀ d, a d = ((∑ j ∈ Finset.range n, Real.exp (s j - μ) * v d j : ℝ) : EReal)

theorem rescale (s : ℕ → ℝ) (w : ℕ → ℝ) (n : ℕ) (μ μ' : ℝ) :
    Real.exp (μ - μ') * ∑ j ∈ Finset.range n, Real.exp (s j - μ) * w j = ∑ j ∈ Finset.range n, Real.exp (s j - μ') * w j := by
  rw [Finset.mul_sum]
  refine Finset.sum_congr rfl fun j _ => ?_
  rw [← mul_assoc, ← Real.exp_add]
  congr 2; ring

theorem rescale_one (s : ℕ → ℝ) (n : ℕ) (μ μ' : ℝ) :
    Real.exp (μ - μ') * ∑ j ∈ Finset.range n, Real.exp (s j - μ) = ∑ j ∈ Finset.range n, Real.exp (s j - μ') := by
  simpa using rescale s (fun _ => 1) n μ μ'

theorem sum_block (f : ℕ → ℝ) (n b : ℕ) : ∑ j ∈ Finset.range (n + b), f j = (∑ j ∈ Finset.range n, f j) + ∑ k : Fin b, f (n + k) := by
  rw [Finset.sum_range_add, Finset.sum_range (fun k => f (n + k))]

/-- One block of keys keeps the invariant. -/
theorem Inv.step {s : ℕ → ℝ} {v : Fin 64 → ℕ → ℝ} {n b : ℕ} (hb : 0 < b) {m l : EReal} {a : Fin 64 → EReal} (h : Inv s v n m l a)
    {m' l' : EReal} {a' : Fin 64 → EReal} (S : Fin b → EReal) (V : Fin 64 → Fin b → EReal)
    (hS : ∀ k, S k = ((s (n + k) : ℝ) : EReal)) (hV : ∀ d k, V d k = ((v d (n + k) : ℝ) : EReal))
    (hm : m' = max m (Finset.univ.fold max (⊥ : EReal) S))
    (hl : l' = Ideal.exp (m - m') * l + ∑ k, Ideal.exp (S k - m'))
    (ha : ∀ d, a' d = Ideal.exp (m - m') * a d + ∑ k, V d k * Ideal.exp (S k - m')) : Inv s v (n + b) m' l' a' := by
  obtain ⟨ν, hν⟩ := fold_max_real hb fun k => s (n + k)
  have hSf : S = fun k : Fin b => ((s (n + k) : ℝ) : EReal) := funext hS
  subst hSf
  rw [hν] at hm
  right
  rcases h with ⟨rfl, rfl, rfl, h0⟩ | ⟨μ, rfl, rfl, h0⟩
  · have e : m' = (ν : EReal) := by rw [hm]; simp
    subst e
    refine ⟨ν, rfl, ?_, fun d => ?_⟩
    · rw [hl, mul_zero, zero_add]
      simp only [exp_sub, coe_sum_univ]
      rw [sum_block]; simp
    · rw [ha, h0, mul_zero, zero_add]
      simp only [exp_sub, hV, ← EReal.coe_mul, coe_sum_univ]
      rw [sum_block]; simp [mul_comm]
  · rw [max_real] at hm
    subst hm
    refine ⟨max μ ν, rfl, ?_, fun d => ?_⟩
    · rw [hl]
      simp only [exp_sub, coe_sum_univ]
      rw [← EReal.coe_mul, ← EReal.coe_add, sum_block, rescale_one]
    · rw [ha, h0]
      simp only [exp_sub, hV, ← EReal.coe_mul, coe_sum_univ, ← EReal.coe_add]
      rw [sum_block, rescale]
      simp [mul_comm]

theorem sum_exp_pos (s : ℕ → ℝ) {n : ℕ} (hn : 0 < n) : 0 < ∑ j ∈ Finset.range n, Real.exp (s j) :=
  Finset.sum_pos (fun _ _ => Real.exp_pos _) ⟨0, Finset.mem_range.mpr hn⟩

theorem out_of_max (s : ℕ → ℝ) (w : ℕ → ℝ) (n : ℕ) (μ : ℝ) :
    ∑ j ∈ Finset.range n, Real.exp (s j - μ) * w j = Real.exp (-μ) * ∑ j ∈ Finset.range n, Real.exp (s j) * w j := by
  have h := rescale s w n 0 μ
  simp only [sub_zero, zero_sub] at h
  exact h.symm

theorem out_of_max_one (s : ℕ → ℝ) (n : ℕ) (μ : ℝ) :
    ∑ j ∈ Finset.range n, Real.exp (s j - μ) = Real.exp (-μ) * ∑ j ∈ Finset.range n, Real.exp (s j) := by
  simpa using out_of_max s (fun _ => 1) n μ

/-- At the end the quotient is the softmax's weighted sum. -/
theorem Inv.out {s : ℕ → ℝ} {v : Fin 64 → ℕ → ℝ} {n : ℕ} (hn : 0 < n) {m l : EReal} {a : Fin 64 → EReal} (h : Inv s v n m l a) (d : Fin 64) :
    Ideal.div (a d) l =
      (((∑ j ∈ Finset.range n, Real.exp (s j) * v d j) / ∑ j ∈ Finset.range n, Real.exp (s j) : ℝ) : EReal) := by
  rcases h with ⟨h, _⟩ | ⟨μ, rfl, rfl, h0⟩
  · omega
  · have hp := (sum_exp_pos s hn).ne'
    have hq : (∑ j ∈ Finset.range n, Real.exp (s j - μ)) ≠ 0 := (sum_exp_pos (fun j => s j - μ) hn).ne'
    rw [h0, div_real _ hq, out_of_max, out_of_max_one, mul_div_mul_left _ _ (Real.exp_pos _).ne']

/-- At the end the maximum and the denominator give the logarithm of the softmax's denominator. -/
theorem Inv.lse {s : ℕ → ℝ} {v : Fin 64 → ℕ → ℝ} {n : ℕ} (hn : 0 < n) {m l : EReal} {a : Fin 64 → EReal} (h : Inv s v n m l a) :
    m + Ideal.log l = ((Real.log (∑ j ∈ Finset.range n, Real.exp (s j)) : ℝ) : EReal) := by
  rcases h with ⟨h, _⟩ | ⟨μ, rfl, rfl, h0⟩
  · omega
  · have hp := sum_exp_pos s hn
    have hq : 0 < ∑ j ∈ Finset.range n, Real.exp (s j - μ) := sum_exp_pos (fun j => s j - μ) hn
    rw [Ideal.log_coe, if_neg (not_le.mpr hq), ← EReal.coe_add, out_of_max_one, Real.log_mul (Real.exp_pos _).ne' hp.ne', Real.log_exp]
    congr 1; ring

end Cert.AttMath
-- ==== Proof.AttFwdPay.lean ====
/- The forward attention call, block by block: what its payloads hold at an index, and one block of keys as a step of the running
   softmax. -/
module

public import proofs.«01_k».proof.Proof.Gen.AttDxIdeal.Frame
public import proofs.«01_k».proof.Proof.AttMath

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

/-- The word of −∞ is −∞. -/
theorem ofBits_neg_inf : Ideal.ofBits .f32 0xFF800000#32 = ⊥ := by
  simp [Ideal.ofBits, Ideal.ieee]

theorem max_at (S : FVec Ideal S1024x256 .f32) (m : FVec Ideal S1x256 .f32) (r : Fin 256) :
    k0_pay11 S m (ix2 0 r) = max (m (ix2 0 r)) (Finset.univ.fold max ⊥ fun k : Fin 1024 => S (ix2 k r)) := by
  unfold_payloads
  pointwise [ofBits_neg_inf]

theorem sum_at (S : FVec Ideal S1024x256 .f32) (m l m' : FVec Ideal S1x256 .f32) (r : Fin 256) :
    k0_pay14 S m l m' (ix2 0 r)
      = Ideal.exp (m (ix2 0 r) - m' (ix2 0 r)) * l (ix2 0 r) + ∑ k : Fin 1024, Ideal.exp (S (ix2 k r) - m' (ix2 0 r)) := by
  unfold_payloads
  pointwise

theorem acc_at (S : FVec Ideal S1024x256 .f32) (m m' : FVec Ideal S1x256 .f32) (a : FVec Ideal S64x256 .f32) (V : FVec Ideal S64x1024 .bf16)
    (r : Fin 256) (d : Fin 64) :
    k0_pay15 S m a V m' (ix2 d r)
      = Ideal.exp (m (ix2 0 r) - m' (ix2 0 r)) * a (ix2 d r) + ∑ k : Fin 1024, V (ix2 d k) * Ideal.exp (S (ix2 k r) - m' (ix2 0 r)) := by
  unfold_payloads
  pointwise [dot_S64x1024_S1024x256_S64x256_1_0_0_1_n_n]

theorem s_at (q : FVec Ideal S128x256 .bf16) (K : Vec Ideal S1x1024x128 .bf16) (k : Fin 1024) (r : Fin 256) :
    k0_pay47 q K (ix2 k r) = ∑ d : Fin 128, K (ix3 0 k d) * q (ix2 d r) := by
  unfold_payloads
  pointwise [dot_S1024x128_S128x256_S1024x256_1_0_0_1_n_n]

theorem q_at (x : Vec Ideal S1x1x64x256 .bf16) (d : Fin 128) (r : Fin 256) :
    k0_pay27 x (ix2 d r) = if h : d.val < 64 then x (ix4 0 0 ⟨d.val, h⟩ r) else 0 := by
  unfold_payloads
  pointwise

theorem o_at (l : FVec Ideal S1x256 .f32) (a : FVec Ideal S64x256 .f32) (r : Fin 256) (d : Fin 64) :
    k0_pay49 l a (ix4 0 0 d r) = Ideal.div (a (ix2 d r)) (l (ix2 0 r)) := by
  unfold_payloads
  pointwise

theorem lse_at (m l : FVec Ideal S1x256 .f32) (r : Fin 256) (c : Fin 128) :
    k0_pay50 m l (ix4 0 0 r c) = m (ix2 0 r) + Ideal.log (l (ix2 0 r)) := by
  unfold_payloads
  pointwise

/-- Four tiles of values side by side. -/
theorem v_at (a b e f : Vec Ideal S1x1x64x256 .bf16) (v : Fin 64 → ℕ → ℝ) (n : ℕ)
    (ha : ∀ d (r : Fin 256), a (ix4 0 0 d r) = ((v d (256 * (4 * n) + r) : ℝ) : EReal))
    (hb : ∀ d (r : Fin 256), b (ix4 0 0 d r) = ((v d (256 * (4 * n + 1) + r) : ℝ) : EReal))
    (he : ∀ d (r : Fin 256), e (ix4 0 0 d r) = ((v d (256 * (4 * n + 2) + r) : ℝ) : EReal))
    (hf : ∀ d (r : Fin 256), f (ix4 0 0 d r) = ((v d (256 * (4 * n + 3) + r) : ℝ) : EReal)) (d : Fin 64) (k : Fin 1024) :
    k0_pay7 a b e f (ix2 d k) = ((v d (1024 * n + k) : ℝ) : EReal) := by
  unfold_payloads
  pointwise [ha, hb, he, hf]
  split_ifs <;> (congr 2; try omega)

/-- One block of keys for one strip of queries. -/
theorem strip_step {s : Fin 256 → ℕ → ℝ} {v : Fin 64 → ℕ → ℝ} {n : ℕ} (S : FVec Ideal S1024x256 .f32) (m l : FVec Ideal S1x256 .f32)
    (a : FVec Ideal S64x256 .f32) (V : FVec Ideal S64x1024 .bf16)
    (hS : ∀ (k : Fin 1024) r, S (ix2 k r) = ((s r (1024 * n + k) : ℝ) : EReal))
    (hV : ∀ d (k : Fin 1024), V (ix2 d k) = ((v d (1024 * n + k) : ℝ) : EReal))
    (h : ∀ r, Inv (s r) v (1024 * n) (m (ix2 0 r)) (l (ix2 0 r)) (fun d => a (ix2 d r))) (r : Fin 256) :
    Inv (s r) v (1024 * (n + 1)) (k0_pay11 S m (ix2 0 r)) (k0_pay14 S m l (k0_pay11 S m) (ix2 0 r))
      (fun d => k0_pay15 S m a V (k0_pay11 S m) (ix2 d r)) :=
  (h r).step (by norm_num : 0 < 1024) (fun k => S (ix2 k r)) (fun d k => V (ix2 d k)) (fun k => hS k r) hV (max_at S m r) (sum_at S m l _ r)
    (fun d => acc_at S m _ a V r d)

/-- The products of one block of keys with one strip of queries, both padded with zeros to 128 columns. -/
theorem s_real (q : FVec Ideal S128x256 .bf16) (K : Vec Ideal S1x1024x128 .bf16) (kk : ℕ → Fin 64 → ℝ) (qq : Fin 256 → Fin 64 → ℝ) (n : ℕ)
    (hq : ∀ (d : Fin 128) r, q (ix2 d r) = if h : d.val < 64 then ((qq r ⟨d.val, h⟩ : ℝ) : EReal) else 0)
    (hK : ∀ (k : Fin 1024) (d : Fin 128), K (ix3 0 k d) = if h : d.val < 64 then ((kk (1024 * n + k) ⟨d.val, h⟩ : ℝ) : EReal) else 0)
    (k : Fin 1024) (r : Fin 256) :
    k0_pay47 q K (ix2 k r) = ((∑ d, kk (1024 * n + k) d * qq r d : ℝ) : EReal) := by
  rw [s_at, Fin.sum_univ_two_halves 64 64 rfl]
  simp only [hq, hK]
  simp [← EReal.coe_mul, coe_sum_univ]

end Cert.AttDxIdeal.Sums
-- ==== Proof.AttFwd.lean ====
/- The forward attention call's loop over the keys: after `n` blocks of 1024 keys each of the four strips of queries holds the running
   softmax of the keys so far. -/
module

public import proofs.«01_k».proof.Proof.AttFwdPay
public import Idealize.ShloMosaic.Lib.Pipeline.ValueKit

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

/-- What the loop carries. -/
abbrev Carry : Type :=
  FVec Ideal S1024x256 .f32 × FVec Ideal S1x256 .f32 × FVec Ideal S1x256 .f32 × FVec Ideal S64x256 .f32 × FVec Ideal S1x256 .f32 × FVec Ideal S1x256
    .f32 × FVec Ideal S64x256 .f32 × FVec Ideal S1x256 .f32 × FVec Ideal S1x256 .f32 × FVec Ideal S64x256 .f32 × FVec Ideal S1x256 .f32 × FVec Ideal
    S1x256 .f32 × FVec Ideal S64x256 .f32

theorem ld_keys (x : Vec Ideal S1x8192x128 .bf16) (k : Fin k0_t1_loop.trips) (h) (a : Fin 1024) (d : Fin 128) (ha : 1024 * k.val + a.val < 8192) :
    View.ld x (Rect.unit (k0_off1 k) ![1, 1024, 128] h) (ix3 0 a d) = x (ix3 0 ⟨1024 * k.val + a.val, ha⟩ d) := by
  revert h
  rw [k0_off1_eq]
  intro h
  refine View.ld_unit_apply_of _ _ _ _ _ _ fun i => ?_
  fin_cases i <;> simp

theorem ld_next (x : Vec Ideal S1x8192x128 .bf16) (k : Fin k0_t1_loop.trips) (h) (a : Fin 1024) (d : Fin 128)
    (ha : 1024 * (min (k.val + 1) 7) + a.val < 8192) :
    View.ld x (Rect.unit (k0_off3 k) ![1, 1024, 128] h) (ix3 0 a d) = x (ix3 0 ⟨1024 * (min (k.val + 1) 7) + a.val, ha⟩ d) := by
  revert h
  rw [k0_off3_eq]
  intro h
  refine View.ld_unit_apply_of _ _ _ _ _ _ fun i => ?_
  fin_cases i <;> simp

theorem ld_first (x : Vec Ideal S1x8192x128 .bf16) (h) (a : Fin 1024) (d : Fin 128) (ha : a.val < 8192) :
    View.ld x (Rect.unit ![0, 0, 0] ![1, 1024, 128] h) (ix3 0 a d) = x (ix3 0 ⟨a.val, ha⟩ d) := by
  refine View.ld_unit_apply_of _ _ _ _ _ _ fun i => ?_
  fin_cases i <;> simp

theorem ld_tile (x : Vec Ideal S1x32x64x256 .bf16) (k : Fin k0_t1_loop.trips) (i : Fin 4) (h) (d : Fin 64) (r : Fin 256) (ha : 4 * k.val + i.val < 32) :
    View.ld x (Rect.unit (k0_off2 k (BitVec.ofNat 32 i.val)) ![1, 1, 64, 256] h) (ix4 0 0 d r) = x (ix4 0 ⟨4 * k.val + i.val, ha⟩ d r) := by
  revert h
  rw [k0_off2_eq]
  intro h
  refine View.ld_unit_apply_of _ _ _ _ _ _ fun i => ?_
  fin_cases i <;> simp

/-- The carried value after `n` blocks of keys. -/
def Good (s : Fin 4 → Fin 256 → ℕ → ℝ) (v : Fin 64 → ℕ → ℝ) (n : ℕ) (a : Carry) : Prop :=
  (n < 8 → ∀ (k : Fin 1024) r, a.1 (ix2 k r) = ((s 0 r (1024 * n + k) : ℝ) : EReal))
  ∧ (∀ r, Inv (s 0 r) v (1024 * n) (a.2.1 (ix2 0 r)) (a.2.2.1 (ix2 0 r)) (fun d => a.2.2.2.1 (ix2 d r)))
  ∧ (∀ r, Inv (s 1 r) v (1024 * n) (a.2.2.2.2.1 (ix2 0 r)) (a.2.2.2.2.2.1 (ix2 0 r)) (fun d => a.2.2.2.2.2.2.1 (ix2 d r)))
  ∧ (∀ r, Inv (s 2 r) v (1024 * n) (a.2.2.2.2.2.2.2.1 (ix2 0 r)) (a.2.2.2.2.2.2.2.2.1 (ix2 0 r)) (fun d => a.2.2.2.2.2.2.2.2.2.1 (ix2 d r)))
  ∧ (∀ r, Inv (s 3 r) v (1024 * n) (a.2.2.2.2.2.2.2.2.2.2.1 (ix2 0 r)) (a.2.2.2.2.2.2.2.2.2.2.2.1 (ix2 0 r))
      (fun d => a.2.2.2.2.2.2.2.2.2.2.2.2 (ix2 d r)))

section
variable (x1 : Vec Ideal S1x8192x128 .bf16) (x2 : Vec Ideal S1x32x64x256 .bf16) (kk : ℕ → Fin 64 → ℝ) (vv : Fin 64 → ℕ → ℝ)
  (qq : Fin 4 → Fin 256 → Fin 64 → ℝ)
  (hK : ∀ (j : Fin 8192) (d : Fin 128), x1 (ix3 0 j d) = if h : d.val < 64 then ((kk j ⟨d.val, h⟩ : ℝ) : EReal) else 0)
  (hV : ∀ (n : Fin 32) d (r : Fin 256), x2 (ix4 0 n d r) = ((vv d (256 * n + r) : ℝ) : EReal))

/-- A strip's scores. -/
def score (c : Fin 4) (r : Fin 256) (j : ℕ) : ℝ := ∑ d, kk j d * qq c r d

include hK in
theorem s_block (c : Fin 4) (q : FVec Ideal S128x256 .bf16)
    (hq : ∀ (d : Fin 128) r, q (ix2 d r) = if h : d.val < 64 then ((qq c r ⟨d.val, h⟩ : ℝ) : EReal) else 0)
    (K : Vec Ideal S1x1024x128 .bf16) (n : ℕ) (hn : n < 8)
    (hx : ∀ (a : Fin 1024) (d : Fin 128), K (ix3 0 a d) = x1 (ix3 0 ⟨1024 * n + a.val, by omega⟩ d)) (k : Fin 1024) (r : Fin 256) :
    k0_pay47 q K (ix2 k r) = ((score kk qq c r (1024 * n + k) : ℝ) : EReal) :=
  s_real q K kk (qq c) n hq (fun k d => by rw [hx, hK]) k r

include hK hV in
theorem trip_good
     (𝒱 : Variants) (c : Dev nD) (bd : Option 𝒱.V) (i : grid0.Coords) (arg2 : Memref sig .tc .vmem S1x4x64x256 .bf16) (harg2 : arg2.IsWhole) (arg3 :
    Memref sig .tc .vmem S1x8192x128 .bf16) (harg3 : arg3.IsWhole) (arg4 : Memref sig .tc .vmem S1x32x64x256 .bf16) (harg4 : arg4.IsWhole) (arg5 : Memref
    sig .tc .vmem S1x4x64x256 .f32) (harg5 : arg5.IsWhole) (arg6 : Memref sig .tc .vmem S1x4x256x128 .f32) (harg6 : arg6.IsWhole) (v3 : FVec Ideal
    S128x256 .bf16) (v7 : FVec Ideal S128x256 .bf16) (v11 : FVec Ideal S128x256 .bf16) (v15 : FVec Ideal S128x256 .bf16) (v16 : FVec Ideal S1x256 .f32)
    (v17 : FVec Ideal S1x256 .f32) (v18 : FVec Ideal S64x256 .f32) (v19 : FVec Ideal S1x256 .f32) (v20 : FVec Ideal S1x256 .f32) (v21 : FVec Ideal S64x256
    .f32) (v22 : FVec Ideal S1x256 .f32) (v23 : FVec Ideal S1x256 .f32) (v24 : FVec Ideal S64x256 .f32) (v25 : FVec Ideal S1x256 .f32) (v26 : FVec Ideal
    S1x256 .f32)
    (hq0 : ∀ (d : Fin 128) r, v3 (ix2 d r) = if h : d.val < 64 then ((qq 0 r ⟨d.val, h⟩ : ℝ) : EReal) else 0)
    (hq1 : ∀ (d : Fin 128) r, v7 (ix2 d r) = if h : d.val < 64 then ((qq 1 r ⟨d.val, h⟩ : ℝ) : EReal) else 0)
    (hq2 : ∀ (d : Fin 128) r, v11 (ix2 d r) = if h : d.val < 64 then ((qq 2 r ⟨d.val, h⟩ : ℝ) : EReal) else 0)
    (hq3 : ∀ (d : Fin 128) r, v15 (ix2 d r) = if h : d.val < 64 then ((qq 3 r ⟨d.val, h⟩ : ℝ) : EReal) else 0)
    (k : Fin k0_t1_loop.trips) (hk : k.val < 8) (acc : Carry) (h : Good (score kk qq) vv k.val acc) :
    Good (score kk qq) vv (k.val + 1)
      (tripR_k0_t1 (F := Ideal) 𝒱 c bd i arg2 harg2 arg3 harg3 arg4 harg4 arg5 harg5 arg6 harg6
        v3 v7 v11 v15 v16 v17 v18 v19 v20 v21 v22 v23 v24 v25 v26
        (harg3.unread x1) (harg4.unread x2) k acc) := by
  unfold tripR_k0_t1 trip_k0_t1
  dsimp only
  frame_out
  have hv : ∀ d (j : Fin 1024), k0_pay7 (F := Ideal) (View.ld x2 (Rect.unit (k0_off2 k 0#32) ![1, 1, 64, 256] (k0_off2_inb k 0)))
      (View.ld x2 (Rect.unit (k0_off2 k 1#32) ![1, 1, 64, 256] (k0_off2_inb k 1)))
      (View.ld x2 (Rect.unit (k0_off2 k 2#32) ![1, 1, 64, 256] (k0_off2_inb k 2)))
      (View.ld x2 (Rect.unit (k0_off2 k 3#32) ![1, 1, 64, 256] (k0_off2_inb k 3))) (ix2 d j) = ((vv d (1024 * k.val + j) : ℝ) : EReal) :=
    v_at _ _ _ _ vv k.val (fun d r => (ld_tile x2 k 0 _ d r (by simp; omega)).trans (hV _ d r))
      (fun d r => (ld_tile x2 k 1 _ d r (by simp; omega)).trans (hV _ d r)) (fun d r => (ld_tile x2 k 2 _ d r (by simp; omega)).trans (hV _ d r))
      (fun d r => (ld_tile x2 k 3 _ d r (by simp; omega)).trans (hV _ d r))
  obtain ⟨h0, i0, i1, i2, i3⟩ := h
  have hs1 := s_block x1 kk qq hK 1 v7 hq1 _ k.val hk fun a d => ld_keys x1 k (k0_off1_inb k) a d (by omega)
  have hs2 := s_block x1 kk qq hK 2 v11 hq2 _ k.val hk fun a d => ld_keys x1 k (k0_off1_inb k) a d (by omega)
  have hs3 := s_block x1 kk qq hK 3 v15 hq3 _ k.val hk fun a d => ld_keys x1 k (k0_off1_inb k) a d (by omega)
  refine ⟨fun hn => ?_, strip_step _ _ _ _ _ (h0 hk) hv i0, strip_step _ _ _ _ _ hs1 hv i1, strip_step _ _ _ _ _ hs2 hv i2,
    strip_step _ _ _ _ _ hs3 hv i3⟩
  refine s_block x1 kk qq hK 0 v3 hq0 _ (k.val + 1) hn fun a d => (ld_next x1 k (k0_off3_inb k) a d (by omega)).trans ?_
  congr 2
  apply Fin.ext
  simp
  omega

include hK hV in
/-- The loop, from a carried value that is right before the first block. -/
theorem loop_good
     (𝒱 : Variants) (c : Dev nD) (bd : Option 𝒱.V) (i : grid0.Coords) (arg2 : Memref sig .tc .vmem S1x4x64x256 .bf16) (harg2 : arg2.IsWhole) (arg3 :
    Memref sig .tc .vmem S1x8192x128 .bf16) (harg3 : arg3.IsWhole) (arg4 : Memref sig .tc .vmem S1x32x64x256 .bf16) (harg4 : arg4.IsWhole) (arg5 : Memref
    sig .tc .vmem S1x4x64x256 .f32) (harg5 : arg5.IsWhole) (arg6 : Memref sig .tc .vmem S1x4x256x128 .f32) (harg6 : arg6.IsWhole) (v3 : FVec Ideal
    S128x256 .bf16) (v7 : FVec Ideal S128x256 .bf16) (v11 : FVec Ideal S128x256 .bf16) (v15 : FVec Ideal S128x256 .bf16) (v16 : FVec Ideal S1x256 .f32)
    (v17 : FVec Ideal S1x256 .f32) (v18 : FVec Ideal S64x256 .f32) (v19 : FVec Ideal S1x256 .f32) (v20 : FVec Ideal S1x256 .f32) (v21 : FVec Ideal S64x256
    .f32) (v22 : FVec Ideal S1x256 .f32) (v23 : FVec Ideal S1x256 .f32) (v24 : FVec Ideal S64x256 .f32) (v25 : FVec Ideal S1x256 .f32) (v26 : FVec Ideal
    S1x256 .f32)
    (hq0 : ∀ (d : Fin 128) r, v3 (ix2 d r) = if h : d.val < 64 then ((qq 0 r ⟨d.val, h⟩ : ℝ) : EReal) else 0)
    (hq1 : ∀ (d : Fin 128) r, v7 (ix2 d r) = if h : d.val < 64 then ((qq 1 r ⟨d.val, h⟩ : ℝ) : EReal) else 0)
    (hq2 : ∀ (d : Fin 128) r, v11 (ix2 d r) = if h : d.val < 64 then ((qq 2 r ⟨d.val, h⟩ : ℝ) : EReal) else 0)
    (hq3 : ∀ (d : Fin 128) r, v15 (ix2 d r) = if h : d.val < 64 then ((qq 3 r ⟨d.val, h⟩ : ℝ) : EReal) else 0)
    (init : Carry) (h : Good (score kk qq) vv 0 init) : ∀ n, n ≤ 8 → Good (score kk qq) vv n
      (st_k0_t1 (F := Ideal) 𝒱 c bd i arg2 harg2 arg3 harg3 arg4 harg4 arg5 harg5 arg6 harg6
        v3 v7 v11 v15 v16 v17 v18 v19 v20 v21 v22 v23 v24 v25 v26
        (harg3.unread x1) (harg4.unread x2) init n)
  | 0, _ => h
  | n + 1, hn => by
    have hn' : n < k0_t1_loop.trips := lt_of_lt_of_eq hn (by decide)
    have e := st_k0_t1_succ (F := Ideal) 𝒱 c bd i arg2 harg2 arg3 harg3 arg4 harg4 arg5 harg5 arg6 harg6
        v3 v7 v11 v15 v16 v17 v18 v19 v20 v21 v22 v23 v24 v25 v26
        (harg3.unread x1) (harg4.unread x2) init ⟨n, hn'⟩
    exact e ▸ trip_good x1 x2 kk vv qq hK hV _ _ _ _ _ _ _ _ _ _ _ _ _ _ _ _ _ _ _ _ _ _ _ _ _ _ _ _ _ hq0 hq1 hq2 hq3 ⟨n, hn'⟩ hn _
      (loop_good _ _ _ _ _ _ _ _ _ _ _ _ _ _ _ _ _ _ _ _ _ _ _ _ _ _ _ _ _ hq0 hq1 hq2 hq3 init h n (by omega))

end

end Cert.AttDxIdeal.Sums
-- ==== Proof.AttFwdOut.lean ====
/- What one grid point of the forward attention call leaves: each of its four strips' weighed means of the values, and the logarithms of
   its sums of exponentials. -/
module

public import proofs.«01_k».proof.Proof.AttFwd
@[expose] public section
set_option maxRecDepth 16384
noncomputable section
namespace Cert.AttDxIdeal.Sums
open Cert.AttDxIdeal Cert.AttDxIdeal.Gen Idealize.ShloMosaic Idealize.ShloMosaic.TcCoe Idealize.SL.Sem Cert.AttMath
theorem ld_strip (x : Vec Ideal S1x4x64x256 .bf16) (n : Fin 4) (h) (d : Fin 64) (r : Fin 256) :
    View.ld x (Rect.unit ![0, n.val, 0, 0] ![1, 1, 64, 256] h) (ix4 0 0 d r) = x (ix4 0 n d r) := by
  refine View.ld_unit_apply_of _ _ _ _ _ _ fun i => ?_
  fin_cases i <;> simp
theorem tile_o {n c : Fin 4} {d : Fin 64} {r : Fin 256} (P : (⟨4, ![1, 1, 64, 256]⟩ : Shape).Idx → EReal) (val : Fin 4 → Fin 64 → Fin 256 → EReal)
    (h : ∀ d r, P (ix4 0 0 d r) = val c d r) :
    View.TileAt (S := S1x4x64x256) (Val := Elt Ideal) (e := .f32) (ix4 0 n d r) ![0, c.val, 0, 0] ![1, 1, 64, 256] P (val n d r) := by
  intro x hx
  have h1 := hx 1
  have h2 := hx 2
  have h3 := hx 3
  have b0 := (x 0).isLt
  have b1 := (x 1).isLt
  simp at h1 h2 h3 b0 b1
  have e : x = ix4 0 0 d r := by
    funext i
    apply Fin.ext
    fin_cases i <;> simp <;> omega
  have en : n = c := Fin.ext (by omega)
  rw [e, h, en]

theorem tile_l {n c : Fin 4} {r : Fin 256} {k : Fin 128} (P : (⟨4, ![1, 1, 256, 128]⟩ : Shape).Idx → EReal) (val : Fin 4 → Fin 256 → EReal)
    (h : ∀ r k, P (ix4 0 0 r k) = val c r) :
    View.TileAt (S := S1x4x256x128) (Val := Elt Ideal) (e := .f32) (ix4 0 n r k) ![0, c.val, 0, 0] ![1, 1, 256, 128] P (val n r) := by
  intro x hx
  have h1 := hx 1
  have h2 := hx 2
  have h3 := hx 3
  have b0 := (x 0).isLt
  have b1 := (x 1).isLt
  simp at h1 h2 h3 b0 b1
  have e : x = ix4 0 0 r k := by
    funext i
    apply Fin.ext
    fin_cases i <;> simp <;> omega
  have en : n = c := Fin.ext (by omega)
  rw [e, h, en]

section
variable (V : (c : Dev nD) → (b : Ref sig .tc) → Buf (Elt Ideal) ((c : Thread nD τ).loc b)) (c : Dev nD) (t : Fin cfg0.N)
  (x0 : Vec Ideal S1x4x64x256 .bf16) (x1 : Vec Ideal S1x8192x128 .bf16) (x2 : Vec Ideal S1x32x64x256 .bf16)
  (kk : ℕ → Fin 64 → ℝ) (vv : Fin 64 → ℕ → ℝ) (qq : Fin 4 → Fin 256 → Fin 64 → ℝ)
  (hK : ∀ (j : Fin 8192) (d : Fin 128), x1 (ix3 0 j d) = if h : d.val < 64 then ((kk j ⟨d.val, h⟩ : ℝ) : EReal) else 0)
  (hV : ∀ (n : Fin 32) d (r : Fin 256), x2 (ix4 0 n d r) = ((vv d (256 * n + r) : ℝ) : EReal))
  (hQ : ∀ (n : Fin 4) d r, x0 (ix4 0 n d r) = ((qq n r d : ℝ) : EReal))
include hQ in
theorem q_block (n : Fin 4) (h) (d : Fin 128) (r : Fin 256) :
    k0_pay27 (F := Ideal) (View.ld x0 (Rect.unit ![0, n.val, 0, 0] ![1, 1, 64, 256] h)) (ix2 d r)
      = if h : d.val < 64 then ((qq n r ⟨d.val, h⟩ : ℝ) : EReal) else 0 := by
  rw [q_at]
  simp only [ld_strip x0 n, hQ]

theorem inv_first (s : Fin 256 → ℕ → ℝ) (r : Fin 256) : Inv (s r) vv (1024 * 0) ((k0_pay31 : FVec Ideal _ _) (ix2 0 r)) ((k0_pay32 : FVec Ideal _ _) (ix2 0 r))
   (fun d => (k0_pay33 : FVec Ideal _ _) (ix2 d r)) := by
  refine Or.inl ⟨by norm_num, ?_, ?_, fun d => ?_⟩
  · unfold_payloads; pointwise [ofBits_neg_inf]
  · unfold_payloads; pointwise
  · unfold_payloads; pointwise

def outs : Carry := (k0_pay43 (F := Ideal) (k0_pay27 (View.ld x0 (Rect.unit ![0, 0, 0, 0] ![1, 1, 64, 256] (by decide)))) (View.ld x1 (Rect.unit ![0, 0, 0] ![1, 1024, 128] (by decide))),
      k0_pay31, k0_pay32, k0_pay33, k0_pay34, k0_pay35, k0_pay36, k0_pay37, k0_pay38, k0_pay39, k0_pay40, k0_pay41, k0_pay42)
include hK hQ in
theorem outs_good : Good (score kk qq) vv 0 (outs x0 x1) :=
  ⟨fun _ => s_block x1 kk qq hK 0 _ (q_block x0 qq hQ 0 (by decide)) _ 0 (by norm_num) fun a d => (ld_first x1 _ a d (by omega)).trans (by congr 2; apply Fin.ext; simp),
   inv_first vv _, inv_first vv _, inv_first vv _, inv_first vv _⟩

/-- A strip's output: the mean of the values weighed by the exponentials of the scores. -/
def avg (n : Fin 4) (d : Fin 64) (r : Fin 256) : ℝ :=
  (∑ j ∈ Finset.range 8192, Real.exp (score kk qq n r j) * vv d j) / ∑ j ∈ Finset.range 8192, Real.exp (score kk qq n r j)

/-- The logarithm of the sum of the exponentials. -/
def lse (n : Fin 4) (r : Fin 256) : ℝ := Real.log (∑ j ∈ Finset.range 8192, Real.exp (score kk qq n r j))

include hK hV hQ in
theorem o_out (n : Fin 4) (d : Fin 64) (r : Fin 256) : out0_A_3 (F := Ideal) c (grid0.coords t) (ms0_0 t) (hs0_0 t) (ms0_1 t) (hs0_1 t) (ms0_2 t) (hs0_2 t) (ms0_3 t) (hs0_3 t) (ms0_4 t)
      (hs0_4 t) x0 x1 x2 (ix4 0 n d r) = ((avg kk vv qq n d r : ℝ) : EReal) := by
  frame_out
  have hL := loop_good x1 x2 kk vv qq hK hV Variants.none c none (grid0.coords t)
    (ms0_0 t) (hs0_0 t) (ms0_1 t) (hs0_1 t) (ms0_2 t) (hs0_2 t) (ms0_3 t) (hs0_3 t) (ms0_4 t) (hs0_4 t)
    _ _ _ _ k0_pay31 k0_pay32 k0_pay33 k0_pay34 k0_pay35 k0_pay36 k0_pay37 k0_pay38 k0_pay39 k0_pay40 k0_pay41
    (q_block x0 qq hQ 0 (by decide)) (q_block x0 qq hQ 1 (by decide)) (q_block x0 qq hQ 2 (by decide)) (q_block x0 qq hQ 3 (by decide))
    (outs x0 x1) (outs_good x0 x1 kk vv qq hK hQ) 8 le_rfl
  obtain ⟨-, h0, h1, h2, h3⟩ := hL
  refine View.canon_eq_of_allAt _ _ _ (View.cover_of_tiled_head _ _ _ rfl _) ?_
  refine View.allAt_cons_unit _ _ _ _ _ (tile_o (c := 3) _ (fun n d r => ((avg kk vv qq n d r : ℝ) : EReal)) fun d r => (o_at _ _ r d).trans ((h3 r).out (by norm_num) d)) ?_
  refine View.allAt_cons_unit _ _ _ _ _ (tile_o (c := 2) _ (fun n d r => ((avg kk vv qq n d r : ℝ) : EReal)) fun d r => (o_at _ _ r d).trans ((h2 r).out (by norm_num) d)) ?_
  refine View.allAt_cons_unit _ _ _ _ _ (tile_o (c := 1) _ (fun n d r => ((avg kk vv qq n d r : ℝ) : EReal)) fun d r => (o_at _ _ r d).trans ((h1 r).out (by norm_num) d)) ?_
  refine View.allAt_cons_unit _ _ _ _ _ (tile_o (c := 0) _ (fun n d r => ((avg kk vv qq n d r : ℝ) : EReal)) fun d r => (o_at _ _ r d).trans ((h0 r).out (by norm_num) d)) (View.allAt_nil _ _)

include hK hV hQ in
theorem lse_out (n : Fin 4) (r : Fin 256) (k : Fin 128) : out0_A_4 (F := Ideal) c (grid0.coords t) (ms0_0 t) (hs0_0 t) (ms0_1 t) (hs0_1 t) (ms0_2 t) (hs0_2 t) (ms0_3 t) (hs0_3 t) (ms0_4 t)
      (hs0_4 t) x0 x1 x2 (ix4 0 n r k) = ((lse kk qq n r : ℝ) : EReal) := by
  frame_out
  have hL := loop_good x1 x2 kk vv qq hK hV Variants.none c none (grid0.coords t)
    (ms0_0 t) (hs0_0 t) (ms0_1 t) (hs0_1 t) (ms0_2 t) (hs0_2 t) (ms0_3 t) (hs0_3 t) (ms0_4 t) (hs0_4 t)
    _ _ _ _ k0_pay31 k0_pay32 k0_pay33 k0_pay34 k0_pay35 k0_pay36 k0_pay37 k0_pay38 k0_pay39 k0_pay40 k0_pay41
    (q_block x0 qq hQ 0 (by decide)) (q_block x0 qq hQ 1 (by decide)) (q_block x0 qq hQ 2 (by decide)) (q_block x0 qq hQ 3 (by decide))
    (outs x0 x1) (outs_good x0 x1 kk vv qq hK hQ) 8 le_rfl
  obtain ⟨-, h0, h1, h2, h3⟩ := hL
  refine View.canon_eq_of_allAt _ _ _ (View.cover_of_tiled_head _ _ _ rfl _) ?_
  refine View.allAt_cons_unit _ _ _ _ _ (tile_l (c := 3) _ (fun n r => ((lse kk qq n r : ℝ) : EReal)) fun r k => (lse_at _ _ r k).trans ((h3 r).lse (by norm_num))) ?_
  refine View.allAt_cons_unit _ _ _ _ _ (tile_l (c := 2) _ (fun n r => ((lse kk qq n r : ℝ) : EReal)) fun r k => (lse_at _ _ r k).trans ((h2 r).lse (by norm_num))) ?_
  refine View.allAt_cons_unit _ _ _ _ _ (tile_l (c := 1) _ (fun n r => ((lse kk qq n r : ℝ) : EReal)) fun r k => (lse_at _ _ r k).trans ((h1 r).lse (by norm_num))) ?_
  refine View.allAt_cons_unit _ _ _ _ _ (tile_l (c := 0) _ (fun n r => ((lse kk qq n r : ℝ) : EReal)) fun r k => (lse_at _ _ r k).trans ((h0 r).lse (by norm_num))) (View.allAt_nil _ _)

end

end Cert.AttDxIdeal.Sums
-- ==== Proof.AttFwdArr.lean ====
/- The forward attention call's arrays: from the arguments' real values, the weighed means and the logarithms of the sums. -/
module

public import proofs.«01_k».proof.Proof.AttFwdOut
@[expose] public section
set_option maxRecDepth 16384
noncomputable section
namespace Cert.AttDxIdeal.Sums
open Cert.AttDxIdeal Cert.AttDxIdeal.Gen Idealize.ShloMosaic Idealize.ShloMosaic.TcCoe Idealize.SL.Sem Cert.AttMath
theorem idx0 : ∀ t : Fin cfg0.N, win0_0.index t = ![t.val / 32, t.val % 32, 0, 0] ∧ win0_1.index t = ![t.val / 32, 0, 0] ∧ win0_2.index t = ![t.val / 32, 0, 0, 0]
  ∧ win0_3.index t = ![t.val / 32, t.val % 32, 0, 0] ∧ win0_4.index t = ![t.val / 32, t.val % 32, 0, 0] := by decide +kernel
section
variable (V : (c : Dev nD) → (b : Ref sig .tc) → Buf (Elt Ideal) ((c : Thread nD τ).loc b)) (c : Dev nD) (t : Fin cfg0.N)
theorem blk0_0 (n : Fin 4) (d : Fin 64) (r : Fin 256) (hg : t.val / 32 < 2) (hs : 4 * (t.val % 32) + n.val < 128) :
    (iblk0 V c 0 t : Vec Ideal S1x4x64x256 .bf16) (ix4 0 n d r) = V c main_v5 (ix4 ⟨t.val / 32, hg⟩ ⟨4 * (t.val % 32) + n.val, hs⟩ d r) := by
  unfold iblk0
  blk_ext [idx0 t]
theorem blk0_1 (j : Fin 8192) (d : Fin 128) (hg : t.val / 32 < 2)  :
    (iblk0 V c 1 t : Vec Ideal S1x8192x128 .bf16) (ix3 0 j d) = V c main_v24 (ix3 ⟨t.val / 32, hg⟩ j d) := by
  unfold iblk0
  blk_ext [idx0 t]
theorem blk0_2 (n : Fin 32) (d : Fin 64) (r : Fin 256) (hg : t.val / 32 < 2) :
    (iblk0 V c 2 t : Vec Ideal S1x32x64x256 .bf16) (ix4 0 n d r) = V c main_v30 (ix4 ⟨t.val / 32, hg⟩ n d r) := by
  unfold iblk0
  blk_ext [idx0 t]

variable (K : Fin 2 → ℕ → Fin 64 → ℝ) (W : Fin 2 → Fin 64 → ℕ → ℝ) (Q : Fin 2 → Fin 128 → Fin 256 → Fin 64 → ℝ)

/-- Strip `s` of group `g`: the score of its query `r` with key `j`. -/
def sc (g : Fin 2) (s : Fin 128) (r : Fin 256) (j : ℕ) : ℝ := ∑ d, K g j d * Q g s r d

/-- The sum of a query's exponentials. -/
def zz (g : Fin 2) (s : Fin 128) (r : Fin 256) : ℝ := ∑ j ∈ Finset.range 8192, Real.exp (sc K Q g s r j)

/-- The attention's output. -/
def oo (g : Fin 2) (s : Fin 128) (d : Fin 64) (r : Fin 256) : ℝ :=
  (∑ j ∈ Finset.range 8192, Real.exp (sc K Q g s r j) * W g d j) / zz K Q g s r

variable (hK : ∀ g (j : Fin 8192) (d : Fin 128), V c main_v24 (ix3 g j d) = if h : d.val < 64 then ((K g j ⟨d.val, h⟩ : ℝ) : EReal) else 0)
  (hV : ∀ g (n : Fin 32) d (r : Fin 256), V c main_v30 (ix4 g n d r) = ((W g d (256 * n + r) : ℝ) : EReal))
  (hQ : ∀ g s d r, V c main_v5 (ix4 g s d r) = ((Q g s r d : ℝ) : EReal))

theorem oo_eq (g : Fin 2) (S : Fin 4 → Fin 128) (n : Fin 4) (d : Fin 64) (r : Fin 256) :
    avg (K g) (W g) (fun n => Q g (S n)) n d r = oo K W Q g (S n) d r := by
  unfold avg oo zz sc score
  rfl

theorem lse_eq (g : Fin 2) (S : Fin 4 → Fin 128) (n : Fin 4) (r : Fin 256) :
    lse (K g) (fun n => Q g (S n)) n r = Real.log (zz K Q g (S n) r) := by
  unfold lse zz sc score
  rfl

include hK hV hQ in
theorem outs_o (hg : t.val / 32 < 2) (n : Fin 4) (hs : 4 * (t.val % 32) + n.val < 128) (d : Fin 64) (r : Fin 256) :
    (outsAt0 V c t).1 (ix4 0 n d r) = ((oo K W Q ⟨t.val / 32, hg⟩ ⟨4 * (t.val % 32) + n.val, hs⟩ d r : ℝ) : EReal) := by
  unfold outsAt0
  dsimp only
  refine Eq.trans ?_ (congrArg Real.toEReal (oo_eq K W Q ⟨t.val / 32, hg⟩ (fun n => ⟨4 * (t.val % 32) + n.val, by omega⟩) n d r))
  have h1 : ∀ (j : Fin 8192) (d : Fin 128), (iblk0 V c 1 t : Vec Ideal S1x8192x128 .bf16) (ix3 0 j d)
      = if h : d.val < 64 then ((K ⟨t.val / 32, hg⟩ j ⟨d.val, h⟩ : ℝ) : EReal) else 0 := fun j d => (blk0_1 V c t j d hg).trans (hK _ j d)
  have h2 : ∀ (n : Fin 32) (d : Fin 64) (r : Fin 256), (iblk0 V c 2 t : Vec Ideal S1x32x64x256 .bf16) (ix4 0 n d r)
      = ((W ⟨t.val / 32, hg⟩ d (256 * n + r) : ℝ) : EReal) := fun n d r => (blk0_2 V c t n d r hg).trans (hV _ n d r)
  have h3 : ∀ (n : Fin 4) (d : Fin 64) (r : Fin 256), (iblk0 V c 0 t : Vec Ideal S1x4x64x256 .bf16) (ix4 0 n d r)
      = ((Q ⟨t.val / 32, hg⟩ ⟨4 * (t.val % 32) + n.val, by omega⟩ r d : ℝ) : EReal) :=
    fun n d r => (blk0_0 V c t n d r hg (by omega)).trans (hQ _ _ d r)
  have h := o_out c t (iblk0 V c 0 t) (iblk0 V c 1 t) (iblk0 V c 2 t) (K ⟨t.val / 32, hg⟩) (W ⟨t.val / 32, hg⟩)
    (fun n => Q ⟨t.val / 32, hg⟩ ⟨4 * (t.val % 32) + n.val, by omega⟩) h1 h2 h3 n d r
  exact h

include hK hV hQ in
theorem outs_l (hg : t.val / 32 < 2) (n : Fin 4) (hs : 4 * (t.val % 32) + n.val < 128) (r : Fin 256) (k : Fin 128) :
    (outsAt0 V c t).2 (ix4 0 n r k) = ((Real.log (zz K Q ⟨t.val / 32, hg⟩ ⟨4 * (t.val % 32) + n.val, hs⟩ r) : ℝ) : EReal) := by
  unfold outsAt0
  dsimp only
  refine Eq.trans ?_ (congrArg Real.toEReal (lse_eq K Q ⟨t.val / 32, hg⟩ (fun n => ⟨4 * (t.val % 32) + n.val, by omega⟩) n r))
  have h1 : ∀ (j : Fin 8192) (d : Fin 128), (iblk0 V c 1 t : Vec Ideal S1x8192x128 .bf16) (ix3 0 j d)
      = if h : d.val < 64 then ((K ⟨t.val / 32, hg⟩ j ⟨d.val, h⟩ : ℝ) : EReal) else 0 := fun j d => (blk0_1 V c t j d hg).trans (hK _ j d)
  have h2 : ∀ (n : Fin 32) (d : Fin 64) (r : Fin 256), (iblk0 V c 2 t : Vec Ideal S1x32x64x256 .bf16) (ix4 0 n d r)
      = ((W ⟨t.val / 32, hg⟩ d (256 * n + r) : ℝ) : EReal) := fun n d r => (blk0_2 V c t n d r hg).trans (hV _ n d r)
  have h3 : ∀ (n : Fin 4) (d : Fin 64) (r : Fin 256), (iblk0 V c 0 t : Vec Ideal S1x4x64x256 .bf16) (ix4 0 n d r)
      = ((Q ⟨t.val / 32, hg⟩ ⟨4 * (t.val % 32) + n.val, by omega⟩ r d : ℝ) : EReal) :=
    fun n d r => (blk0_0 V c t n d r hg (by omega)).trans (hQ _ _ d r)
  have h := lse_out c t (iblk0 V c 0 t) (iblk0 V c 1 t) (iblk0 V c 2 t) (K ⟨t.val / 32, hg⟩) (W ⟨t.val / 32, hg⟩)
    (fun n => Q ⟨t.val / 32, hg⟩ ⟨4 * (t.val % 32) + n.val, by omega⟩) h1 h2 h3 n r k
  exact h

/-- The outputs as arrays. -/
def oArr : Vec Ideal S2x128x64x256 .f32 := fun y => ((oo K W Q (y 0) (y 1) (y 2) (y 3) : ℝ) : EReal)

def lArr : Vec Ideal S2x128x256x128 .f32 := fun y => ((Real.log (zz K Q (y 0) (y 1) (y 2)) : ℝ) : EReal)

theorem oArr_at (g s d r) : oArr K W Q (ix4 g s d r) = ((oo K W Q g s d r : ℝ) : EReal) := rfl

theorem lArr_at (g s r k) : lArr K Q (ix4 g s r k) = ((Real.log (zz K Q g s r) : ℝ) : EReal) := rfl

include hK hV hQ in
theorem final_o : (dat0 V c).arrAt 3 cfg0.N = oArr K W Q := by
  refine (dat0 V c).arrAt_eq_of_covers 3 _ (by decide +kernel) fun t hf y => ?_
  have ht : t.val < 64 := t.isLt
  have hg : t.val / 32 < 2 := by omega
  blk_simp
  rw [after0_3]
  idx_vars y
  rw [show y0 = 0 from Subsingleton.elim _ _, outs_o V c t K W Q hK hV hQ hg _ (by omega), ← oArr_at]
  blk_ext [idx0 t]

include hK hV hQ in
theorem final_l : (dat0 V c).arrAt 4 cfg0.N = lArr K Q := by
  refine (dat0 V c).arrAt_eq_of_covers 4 _ (by decide +kernel) fun t hf y => ?_
  have ht : t.val < 64 := t.isLt
  have hg : t.val / 32 < 2 := by omega
  blk_simp
  rw [after0_4]
  idx_vars y
  rw [show y0 = 0 from Subsingleton.elim _ _, outs_l V c t K W Q hK hV hQ hg _ (by omega), ← lArr_at K Q _ _ _ y3]
  blk_ext [idx0 t]

end

end Cert.AttDxIdeal.Sums
-- ==== Proof.AttBwdPay.lean ====
/- The backward attention call, one strip of queries against one block of 512 keys: what its payloads hold, at real values. -/
module

public import proofs.«01_k».proof.Proof.Gen.AttDxIdeal.Frame
public import proofs.«01_k».proof.Proof.AttMath

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

/-- Two tiles side by side over zeros. -/
theorem tiles_at (a b : Vec Ideal S1x1x64x256 .bf16) (v : Fin 64 → ℕ → ℝ) (n : ℕ)
    (ha : ∀ d (r : Fin 256), a (ix4 0 0 d r) = ((v d (256 * (2 * n) + r) : ℝ) : EReal))
    (hb : ∀ d (r : Fin 256), b (ix4 0 0 d r) = ((v d (256 * (2 * n + 1) + r) : ℝ) : EReal)) (d : Fin 128) (k : Fin 512) :
    k1_pay3 a b (ix2 d k) = if h : d.val < 64 then ((v ⟨d.val, h⟩ (512 * n + k) : ℝ) : EReal) else 0 := by
  unfold_payloads
  pointwise [ha, hb]
  split_ifs <;> first | rfl | (congr 2; try omega)

/-- The products of a strip's rows with a block's columns. -/
theorem prod_at (B : FVec Ideal S128x512 .bf16) (q : Vec Ideal S1x1x256x128 .bf16) (qq : Fin 256 → Fin 64 → ℝ) (v : Fin 64 → ℕ → ℝ) (n : ℕ)
    (hB : ∀ (d : Fin 128) (k : Fin 512), B (ix2 d k) = if h : d.val < 64 then ((v ⟨d.val, h⟩ (512 * n + k) : ℝ) : EReal) else 0)
    (hq : ∀ r (d : Fin 128), q (ix4 0 0 r d) = if h : d.val < 64 then ((qq r ⟨d.val, h⟩ : ℝ) : EReal) else 0) (r : Fin 256) (k : Fin 512) :
    k1_pay6 B q (ix2 r k) = ((∑ d, v d (512 * n + k) * qq r d : ℝ) : EReal) := by
  have e : k1_pay6 B q (ix2 r k) = ∑ d : Fin 128, q (ix4 0 0 r d) * B (ix2 d k) := by
    unfold_payloads
    pointwise [dot_S256x128_S128x512_S256x512_1_0_0_1_n_n]
  rw [e, Fin.sum_univ_two_halves 64 64 rfl]
  simp only [hB, hq]
  simp [← EReal.coe_mul, coe_sum_univ, mul_comm]

section
variable (L D : FVec Ideal S256x128 .f32) (S P : FVec Ideal S256x512 .f32) (l δ : Fin 256 → ℝ) (s p : Fin 256 → ℕ → ℝ) (n : ℕ)
  (hL : ∀ r x, L (ix2 r x) = ((l r : ℝ) : EReal)) (hD : ∀ r x, D (ix2 r x) = ((δ r : ℝ) : EReal))
  (hS : ∀ r (k : Fin 512), S (ix2 r k) = ((s r (512 * n + k) : ℝ) : EReal))
  (hP : ∀ r (k : Fin 512), P (ix2 r k) = ((p r (512 * n + k) : ℝ) : EReal))

/-- The gradient of a score: the probability times the value's gradient less its mean. -/
def dsr (r : Fin 256) (j : ℕ) : ℝ := Real.exp (s r j - l r) * (p r j - δ r)

include hL hD hS hP in
theorem ds_at (r : Fin 256) (k : Fin 512) : k1_pay27 L D S P (ix2 r k) = ((dsr l δ s p r (512 * n + k) : ℝ) : EReal) := by
  have hk := k.isLt
  unfold_payloads
  pointwise [hL, hD, hS, hP]
  simp only [← EReal.coe_sub, Ideal.exp_coe, ← EReal.coe_mul]
  unfold dsr
  split_ifs <;> (congr <;> omega)

include hL hS in
theorem dv_at (o : Vec Ideal S1x1x64x256 .bf16) (w : Fin 256 → Fin 64 → ℝ) (ho : ∀ d r, o (ix4 0 0 d r) = ((w r d : ℝ) : EReal))
    (d : Fin 64) (k : Fin 512) :
    k1_pay28 L S o (ix2 d k) = ((∑ r, w r d * Real.exp (s r (512 * n + k) - l r) : ℝ) : EReal) := by
  have hk := k.isLt
  unfold_payloads
  pointwise [hL, hS, ho, dot_S64x256_S256x512_S64x512_1_0_0_1_n_n]
  simp only [← EReal.coe_sub, Ideal.exp_coe, ← EReal.coe_mul]
  rw [← coe_sum_univ]
  refine Finset.sum_congr rfl fun r _ => ?_
  split_ifs <;> rw [← EReal.coe_mul] <;> (try (congr <;> omega))

include hL hD hS hP in
theorem dk_at (q : Vec Ideal S1x1x64x256 .bf16) (w : Fin 256 → Fin 64 → ℝ) (hq : ∀ d r, q (ix4 0 0 d r) = ((w r d : ℝ) : EReal))
    (d : Fin 64) (k : Fin 512) :
    k1_pay29 L D S P q (ix2 d k) = ((∑ r, w r d * dsr l δ s p r (512 * n + k) : ℝ) : EReal) := by
  have e : k1_pay29 L D S P q (ix2 d k) = ∑ r, q (ix4 0 0 d r) * k1_pay27 L D S P (ix2 r k) := by
    unfold k1_pay29
    pointwise [dot_S64x256_S256x512_S64x512_1_0_0_1_n_n]
  rw [e, ← coe_sum_univ]
  refine Finset.sum_congr rfl fun r _ => ?_
  rw [hq, ds_at L D S P l δ s p n hL hD hS hP, ← EReal.coe_mul]

end

/-- The queries' gradient gains the block's keys, weighed. -/
theorem dq_at (a : FVec Ideal S256x128 .f32) (K : Vec Ideal S1x512x128 .bf16) (G : FVec Ideal S256x512 .bf16) (g : Fin 256 → ℕ → ℝ)
    (kk : Fin 64 → ℕ → ℝ) (n : ℕ) (hG : ∀ r (k : Fin 512), G (ix2 r k) = ((g r (512 * n + k) : ℝ) : EReal))
    (hK : ∀ (k : Fin 512) (d : Fin 128), K (ix3 0 k d) = if h : d.val < 64 then ((kk ⟨d.val, h⟩ (512 * n + k) : ℝ) : EReal) else 0)
    (r : Fin 256) (d : Fin 64) (hd : d.val < 128)
    (ha : a (ix2 r ⟨d.val, hd⟩) = ((∑ j ∈ Finset.range (512 * n), g r j * kk d j : ℝ) : EReal)) :
    k1_pay34 a (k1_pay5 K) G (ix2 r ⟨d.val, hd⟩) = ((∑ j ∈ Finset.range (512 * (n + 1)), g r j * kk d j : ℝ) : EReal) := by
  have e : k1_pay34 a (k1_pay5 K) G (ix2 r ⟨d.val, hd⟩)
      = a (ix2 r ⟨d.val, hd⟩) + ∑ k : Fin 512, G (ix2 r k) * K (ix3 0 k ⟨d.val, hd⟩) := by
    unfold_payloads
    pointwise [dot_S256x512_S512x128_S256x128_1_0_0_1_n_n]
  rw [e, ha, show 512 * (n + 1) = 512 * n + 512 by ring, Finset.sum_range_add, EReal.coe_add, ← Fin.sum_univ_eq_sum_range
    (fun x => g r (512 * n + x) * kk d (512 * n + x)), ← coe_sum_univ]
  congr 1
  refine Finset.sum_congr rfl fun k _ => ?_
  rw [hG, hK, dif_pos d.isLt, ← EReal.coe_mul]

/-- A tile gains its half of a strip's matrix: the left one. -/
theorem add_lo (M : FVec Ideal S64x512 .f32) (o : Vec Ideal S1x1x64x256 .f32) (d : Fin 64) (x : Fin 256) (h : x.val < 512) :
    k1_pay30 M o (ix4 0 0 d x) = o (ix4 0 0 d x) + M (ix2 d ⟨x.val, h⟩) := by
  unfold_payloads
  pointwise

theorem add_hi (M : FVec Ideal S64x512 .f32) (o : Vec Ideal S1x1x64x256 .f32) (d : Fin 64) (x : Fin 256) (h : 256 + x.val < 512) :
    k1_pay32 M o (ix4 0 0 d x) = o (ix4 0 0 d x) + M (ix2 d ⟨256 + x.val, h⟩) := by
  unfold_payloads
  pointwise

end Cert.AttDxIdeal.Sums
-- ==== Proof.AttBwd.lean ====
/- The backward attention call's loop over the keys, 512 at a time: what one trip adds to the queries' gradients it carries. -/
module

public import proofs.«01_k».proof.Proof.AttBwdPay
public import Idealize.ShloMosaic.Lib.Pipeline.ValueKit

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

/-- What the loop carries: the queries' gradients of eight strips. -/
abbrev Carry8 : Type :=
  FVec Ideal S256x128 .f32 × FVec Ideal S256x128 .f32 × FVec Ideal S256x128 .f32 × FVec Ideal S256x128 .f32 × FVec Ideal S256x128 .f32 × FVec Ideal
    S256x128 .f32 × FVec Ideal S256x128 .f32 × FVec Ideal S256x128 .f32

theorem ld_rows8 (x : Vec Ideal S1x8x256x128 .bf16) (n : Fin 8) (h) (r : Fin 256) (d : Fin 128) :
    View.ld x (Rect.unit ![0, n.val, 0, 0] ![1, 1, 256, 128] h) (ix4 0 0 r d) = x (ix4 0 n r d) := by
  refine View.ld_unit_apply_of _ _ _ _ _ _ fun i => ?_
  fin_cases i <;> simp

theorem ld_cols8 (x : Vec Ideal S1x8x64x256 .bf16) (n : Fin 8) (h) (d : Fin 64) (r : Fin 256) :
    View.ld x (Rect.unit ![0, n.val, 0, 0] ![1, 1, 64, 256] h) (ix4 0 0 d r) = x (ix4 0 n d r) := by
  refine View.ld_unit_apply_of _ _ _ _ _ _ fun i => ?_
  fin_cases i <;> simp

theorem ld_half (x : Vec Ideal S1x32x64x256 .bf16) (k : Fin k1_t1_loop.trips) (i : Fin 2) (h) (d : Fin 64) (r : Fin 256) (ha : 2 * k.val + i.val < 32) :
    View.ld x (Rect.unit (k1_off1 k (BitVec.ofNat 32 i.val)) ![1, 1, 64, 256] h) (ix4 0 0 d r) = x (ix4 0 ⟨2 * k.val + i.val, ha⟩ d r) := by
  revert h
  rw [k1_off1_eq]
  intro h
  refine View.ld_unit_apply_of _ _ _ _ _ _ fun i => ?_
  fin_cases i <;> simp

theorem ld_keys512 (x : Vec Ideal S1x8192x128 .bf16) (k : Fin k1_t1_loop.trips) (h) (a : Fin 512) (d : Fin 128) (ha : 512 * k.val + a.val < 8192) :
    View.ld x (Rect.unit (k1_off2 k) ![1, 512, 128] h) (ix3 0 a d) = x (ix3 0 ⟨512 * k.val + a.val, ha⟩ d) := by
  revert h
  rw [k1_off2_eq]
  intro h
  refine View.ld_unit_apply_of _ _ _ _ _ _ fun i => ?_
  fin_cases i <;> simp

section
variable (kk vv : Fin 64 → ℕ → ℝ) (qq dd : Fin 8 → Fin 256 → Fin 64 → ℝ) (ll δ : Fin 8 → Fin 256 → ℝ)

/-- A strip's scores and its values' gradients. -/
def sc8 (c : Fin 8) (r : Fin 256) (j : ℕ) : ℝ := ∑ d, kk d j * qq c r d

/-- A score's gradient. -/
def ds8 (c : Fin 8) (r : Fin 256) (j : ℕ) : ℝ := dsr (ll c) (δ c) (sc8 kk qq c) (sc8 vv dd c) r j

/-- The queries' gradients after `n` blocks. -/
def Goodq (n : ℕ) (a : Carry8) : Prop :=
  (∀ r (d : Fin 64), a.1 (ix2 r ⟨d.val, by omega⟩) = ((∑ j ∈ Finset.range (512 * n), ds8 kk vv qq dd ll δ 0 r j * kk d j : ℝ) : EReal)) ∧
  (∀ r (d : Fin 64), a.2.1 (ix2 r ⟨d.val, by omega⟩) = ((∑ j ∈ Finset.range (512 * n), ds8 kk vv qq dd ll δ 1 r j * kk d j : ℝ) : EReal)) ∧
  (∀ r (d : Fin 64), a.2.2.1 (ix2 r ⟨d.val, by omega⟩) = ((∑ j ∈ Finset.range (512 * n), ds8 kk vv qq dd ll δ 2 r j * kk d j : ℝ) : EReal)) ∧
  (∀ r (d : Fin 64), a.2.2.2.1 (ix2 r ⟨d.val, by omega⟩) = ((∑ j ∈ Finset.range (512 * n), ds8 kk vv qq dd ll δ 3 r j * kk d j : ℝ) : EReal)) ∧
  (∀ r (d : Fin 64), a.2.2.2.2.1 (ix2 r ⟨d.val, by omega⟩) = ((∑ j ∈ Finset.range (512 * n), ds8 kk vv qq dd ll δ 4 r j * kk d j : ℝ) : EReal)) ∧
  (∀ r (d : Fin 64), a.2.2.2.2.2.1 (ix2 r ⟨d.val, by omega⟩) = ((∑ j ∈ Finset.range (512 * n), ds8 kk vv qq dd ll δ 5 r j * kk d j : ℝ) : EReal)) ∧
  (∀ r (d : Fin 64), a.2.2.2.2.2.2.1 (ix2 r ⟨d.val, by omega⟩) = ((∑ j ∈ Finset.range (512 * n), ds8 kk vv qq dd ll δ 6 r j * kk d j : ℝ) : EReal)) ∧
  (∀ r (d : Fin 64), a.2.2.2.2.2.2.2 (ix2 r ⟨d.val, by omega⟩) = ((∑ j ∈ Finset.range (512 * n), ds8 kk vv qq dd ll δ 7 r j * kk d j : ℝ) : EReal))

/-- The call's blocks hold these reals. -/
structure Blk (x2 : Vec Ideal S1x8x256x128 .bf16) (x3 : Vec Ideal S1x8x64x256 .bf16) (x4 : Vec Ideal S1x8x256x128 .bf16)
    (x5 : Vec Ideal S1x8x64x256 .bf16) (x8 : Vec Ideal S1x8192x128 .bf16) (x9 x10 : Vec Ideal S1x32x64x256 .bf16) : Prop where
  qs : ∀ (c : Fin 8) r (d : Fin 128), x2 (ix4 0 c r d) = if h : d.val < 64 then ((qq c r ⟨d.val, h⟩ : ℝ) : EReal) else 0
  qt : ∀ (c : Fin 8) d r, x3 (ix4 0 c d r) = ((qq c r d : ℝ) : EReal)
  ds : ∀ (c : Fin 8) r (d : Fin 128), x4 (ix4 0 c r d) = if h : d.val < 64 then ((dd c r ⟨d.val, h⟩ : ℝ) : EReal) else 0
  dt : ∀ (c : Fin 8) d r, x5 (ix4 0 c d r) = ((dd c r d : ℝ) : EReal)
  ks : ∀ (j : Fin 8192) (d : Fin 128), x8 (ix3 0 j d) = if h : d.val < 64 then ((kk ⟨d.val, h⟩ j : ℝ) : EReal) else 0
  kt : ∀ (n : Fin 32) d (r : Fin 256), x9 (ix4 0 n d r) = ((kk d (256 * n + r) : ℝ) : EReal)
  vt : ∀ (n : Fin 32) d (r : Fin 256), x10 (ix4 0 n d r) = ((vv d (256 * n + r) : ℝ) : EReal)

variable {kk vv qq dd ll δ}

/-- A strip's scores with a block of keys. -/
theorem sc_blk (x : Vec Ideal S1x32x64x256 .bf16) (y : Vec Ideal S1x8x256x128 .bf16) (v : Fin 64 → ℕ → ℝ) (q : Fin 8 → Fin 256 → Fin 64 → ℝ)
    (hx : ∀ (n : Fin 32) d (r : Fin 256), x (ix4 0 n d r) = ((v d (256 * n + r) : ℝ) : EReal))
    (hy : ∀ (c : Fin 8) r (d : Fin 128), y (ix4 0 c r d) = if h : d.val < 64 then ((q c r ⟨d.val, h⟩ : ℝ) : EReal) else 0)
    (k : Fin k1_t1_loop.trips) (hk : k.val < 16) (c : Fin 8) (h) (r : Fin 256) (j : Fin 512) :
    k1_pay6 (F := Ideal) (k1_pay3 (View.ld x (Rect.unit (k1_off1 k 0#32) ![1, 1, 64, 256] (k1_off1_inb k 0)))
        (View.ld x (Rect.unit (k1_off1 k 1#32) ![1, 1, 64, 256] (k1_off1_inb k 1))))
      (View.ld y (Rect.unit ![0, c.val, 0, 0] ![1, 1, 256, 128] h)) (ix2 r j) = ((sc8 v q c r (512 * k.val + j) : ℝ) : EReal) :=
  prod_at _ _ (q c) v k.val
    (tiles_at _ _ v k.val (fun d r => (ld_half x k 0 _ d r (by simp; omega)).trans (hx _ d r))
      (fun d r => (ld_half x k 1 _ d r (by simp; omega)).trans (hx _ d r)))
    (fun r d => (ld_rows8 y c h r d).trans (hy c r d)) r j

/-- One trip: the queries' gradients gain the block's share. -/
theorem tripR_good {x2 x3 x4 x5 x8 x9 x10} (hB : Blk kk vv qq dd x2 x3 x4 x5 x8 x9 x10)
     (𝒱 : Variants) (c : Dev nD) (bd : Option 𝒱.V) (i : grid1.Coords) (arg2 : Memref sig .tc .vmem S1x8x256x128 .bf16) (harg2 : arg2.IsWhole) (arg3 :
    Memref sig .tc .vmem S1x8x64x256 .bf16) (harg3 : arg3.IsWhole) (arg4 : Memref sig .tc .vmem S1x8x256x128 .bf16) (harg4 : arg4.IsWhole) (arg5 : Memref
    sig .tc .vmem S1x8x64x256 .bf16) (harg5 : arg5.IsWhole) (arg6 : Memref sig .tc .vmem S1x8x64x256 .f32) (harg6 : arg6.IsWhole) (arg7 : Memref sig .tc
    .vmem S1x8x256x128 .f32) (harg7 : arg7.IsWhole) (arg8 : Memref sig .tc .vmem S1x8192x128 .bf16) (harg8 : arg8.IsWhole) (arg9 : Memref sig .tc .vmem
    S1x32x64x256 .bf16) (harg9 : arg9.IsWhole) (arg10 : Memref sig .tc .vmem S1x32x64x256 .bf16) (harg10 : arg10.IsWhole) (arg11 : Memref sig .tc .vmem
    S1x8x64x256 .f32) (harg11 : arg11.IsWhole) (arg12 : Memref sig .tc .vmem S1x32x64x256 .f32) (harg12 : arg12.IsWhole) (arg13 : Memref sig .tc .vmem
    S1x32x64x256 .f32) (harg13 : arg13.IsWhole) (v4 : FVec Ideal S256x128 .f32) (v6 : FVec Ideal S256x128 .f32) (v8 : FVec Ideal S256x128 .f32) (v10 :
    FVec Ideal S256x128 .f32) (v12 : FVec Ideal S256x128 .f32) (v14 : FVec Ideal S256x128 .f32) (v16 : FVec Ideal S256x128 .f32) (v18 : FVec Ideal
    S256x128 .f32) (v29 : FVec Ideal S256x128 .f32) (v40 : FVec Ideal S256x128 .f32) (v51 : FVec Ideal S256x128 .f32) (v62 : FVec Ideal S256x128 .f32)
    (v73 : FVec Ideal S256x128 .f32) (v84 : FVec Ideal S256x128 .f32) (v85 : Vec Ideal S1x1x64x256 .bf16) (v88 : Vec Ideal S1x1x64x256 .f32) (v96 : Vec
    Ideal S1x1x64x256 .bf16) (v99 : Vec Ideal S1x1x64x256 .f32)
    (hL0 : ∀ r x, v4 (ix2 r x) = ((ll 0 r : ℝ) : EReal)) (hD0 : ∀ r x, v29 (ix2 r x) = ((δ 0 r : ℝ) : EReal))
    (hL1 : ∀ r x, v6 (ix2 r x) = ((ll 1 r : ℝ) : EReal)) (hD1 : ∀ r x, v40 (ix2 r x) = ((δ 1 r : ℝ) : EReal))
    (hL2 : ∀ r x, v8 (ix2 r x) = ((ll 2 r : ℝ) : EReal)) (hD2 : ∀ r x, v51 (ix2 r x) = ((δ 2 r : ℝ) : EReal))
    (hL3 : ∀ r x, v10 (ix2 r x) = ((ll 3 r : ℝ) : EReal)) (hD3 : ∀ r x, v62 (ix2 r x) = ((δ 3 r : ℝ) : EReal))
    (hL4 : ∀ r x, v12 (ix2 r x) = ((ll 4 r : ℝ) : EReal)) (hD4 : ∀ r x, v73 (ix2 r x) = ((δ 4 r : ℝ) : EReal))
    (hL5 : ∀ r x, v14 (ix2 r x) = ((ll 5 r : ℝ) : EReal)) (hD5 : ∀ r x, v84 (ix2 r x) = ((δ 5 r : ℝ) : EReal))
    (hL6 : ∀ r x, v16 (ix2 r x) = ((ll 6 r : ℝ) : EReal)) (hD6 : ∀ r x, (k1_pay157 (F := Ideal) v85 v88) (ix2 r x) = ((δ 6 r : ℝ) : EReal))
    (hL7 : ∀ r x, v18 (ix2 r x) = ((ll 7 r : ℝ) : EReal)) (hD7 : ∀ r x, (k1_pay158 (F := Ideal) v96 v99) (ix2 r x) = ((δ 7 r : ℝ) : EReal))
    (k : Fin k1_t1_loop.trips) (hk : k.val < 16) (acc : Carry8) (f_arg12 : BufTy.Contents (Elt Ideal) arg12.view.ty) (f_arg13 : BufTy.Contents (Elt Ideal) arg13.view.ty) (h : Goodq kk vv qq dd ll δ k.val acc) :
    Goodq kk vv qq dd ll δ (k.val + 1)
      (tripR_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        (harg2.unread x2) (harg3.unread x3) (harg4.unread x4) (harg5.unread x5) (harg8.unread x8) (harg9.unread x9) (harg10.unread x10)
        k acc f_arg12 f_arg13) := by
  unfold tripR_k1_t1 trip_k1_t1
  dsimp only
  clear f_arg12 f_arg13
  frame_out
  have hs := sc_blk x9 x2 kk qq hB.kt hB.qs k hk
  have hp := sc_blk x10 x4 vv dd hB.vt hB.ds k hk
  have hK : ∀ (a : Fin 512) (d : Fin 128), View.ld x8 (Rect.unit (k1_off2 k) ![1, 512, 128] (k1_off2_inb k)) (ix3 0 a d)
      = if h : d.val < 64 then ((kk ⟨d.val, h⟩ (512 * k.val + a) : ℝ) : EReal) else 0 :=
    fun a d => (ld_keys512 x8 k _ a d (by omega)).trans (hB.ks _ d)
  obtain ⟨h0, h1, h2, h3, h4, h5, h6, h7⟩ := h
  refine ⟨?_, ?_, ?_, ?_, ?_, ?_, ?_, ?_⟩
  · exact fun r d => dq_at _ _ _ _ kk k.val (ds_at v4 v29 _ _ (ll 0) (δ 0) _ _ k.val hL0 hD0 (hs 0 (by decide)) (hp 0 (by decide))) hK r d (by omega) (h0 r d)
  · exact fun r d => dq_at _ _ _ _ kk k.val (ds_at v6 v40 _ _ (ll 1) (δ 1) _ _ k.val hL1 hD1 (hs 1 (by decide)) (hp 1 (by decide))) hK r d (by omega) (h1 r d)
  · exact fun r d => dq_at _ _ _ _ kk k.val (ds_at v8 v51 _ _ (ll 2) (δ 2) _ _ k.val hL2 hD2 (hs 2 (by decide)) (hp 2 (by decide))) hK r d (by omega) (h2 r d)
  · exact fun r d => dq_at _ _ _ _ kk k.val (ds_at v10 v62 _ _ (ll 3) (δ 3) _ _ k.val hL3 hD3 (hs 3 (by decide)) (hp 3 (by decide))) hK r d (by omega) (h3 r d)
  · exact fun r d => dq_at _ _ _ _ kk k.val (ds_at v12 v73 _ _ (ll 4) (δ 4) _ _ k.val hL4 hD4 (hs 4 (by decide)) (hp 4 (by decide))) hK r d (by omega) (h4 r d)
  · exact fun r d => dq_at _ _ _ _ kk k.val (ds_at v14 v84 _ _ (ll 5) (δ 5) _ _ k.val hL5 hD5 (hs 5 (by decide)) (hp 5 (by decide))) hK r d (by omega) (h5 r d)
  · exact fun r d => dq_at _ _ _ _ kk k.val (ds_at v16 (k1_pay157 (F := Ideal) v85 v88) _ _ (ll 6) (δ 6) _ _ k.val hL6 hD6 (hs 6 (by decide)) (hp 6 (by decide))) hK r d (by omega) (h6 r d)
  · exact fun r d => dq_at _ _ _ _ kk k.val (ds_at v18 (k1_pay158 (F := Ideal) v96 v99) _ _ (ll 7) (δ 7) _ _ k.val hL7 hD7 (hs 7 (by decide)) (hp 7 (by decide))) hK r d (by omega) (h7 r d)

end

end Cert.AttDxIdeal.Sums
-- ==== Proof.AttBwdTile.lean ====
/- The backward attention call's loop over the keys, 512 at a time: what one trip adds to the two tiles of keys' and values' gradients. -/
module

public import proofs.«01_k».proof.Proof.AttBwd
public import Idealize.ShloMosaic.Lib.Pipeline.ReadBack

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

/-- The two tiles of a block of keys. -/
abbrev lo (k : Fin k1_t1_loop.trips) : Rect S1x32x64x256 := Rect.unit (k1_off1 k 0#32) S1x1x64x256.size (k1_off1_inb k 0)
abbrev hi (k : Fin k1_t1_loop.trips) : Rect S1x32x64x256 := Rect.unit (k1_off1 k 1#32) S1x1x64x256.size (k1_off1_inb k 1)

theorem lo_hi (k : Fin k1_t1_loop.trips) : LoadRect.disj (lo k) (hi k).toLoadRect = true := by
  revert k
  decide +kernel

theorem hi_lo (k : Fin k1_t1_loop.trips) : LoadRect.disj (hi k) (lo k).toLoadRect = true := by
  revert k
  decide +kernel

/-- The writes of a trip: strip after strip, each of the two tiles is read back and gains its half of the strip's matrix. -/
def tiles (a : Memref sig .tc .vmem S1x32x64x256 .f32) (k : Fin k1_t1_loop.trips) (f : BufTy.Contents (Elt Ideal) a.view.ty)
    (M : ℕ → FVec Ideal S64x512 .f32) : ℕ → List (View.Piece (Elt Ideal) S1x32x64x256 .f32)
  | 0 => [⟨hi k, k1_pay32 (F := Ideal) (M 0) (a.view.readAt (Elt Ideal) (hi k).toLoadRect f)⟩,
      ⟨lo k, k1_pay30 (F := Ideal) (M 0) (a.view.readAt (Elt Ideal) (lo k).toLoadRect f)⟩]
  | n + 1 =>
    ⟨hi k, k1_pay32 (F := Ideal) (M (n + 1)) (a.view.readCov
        (⟨lo k, k1_pay30 (F := Ideal) (M (n + 1)) (a.view.readCov (tiles a k f M n) (lo k).toLoadRect)⟩ :: tiles a k f M n) (hi k).toLoadRect)⟩
      :: ⟨lo k, k1_pay30 (F := Ideal) (M (n + 1)) (a.view.readCov (tiles a k f M n) (lo k).toLoadRect)⟩ :: tiles a k f M n

theorem tiles_eq (a : Memref sig .tc .vmem S1x32x64x256 .f32) (k : Fin k1_t1_loop.trips) (f : BufTy.Contents (Elt Ideal) a.view.ty)
    (M : ℕ → FVec Ideal S64x512 .f32) (A : Fin 64 → ℕ → ℝ) (X : ℕ → Fin 64 → ℕ → ℝ)
    (h0 : ∀ d x, a.view.readAt (Elt Ideal) (lo k).toLoadRect f (ix4 0 0 d x) = ((A d (512 * k.val + x.val) : ℝ) : EReal))
    (h1 : ∀ d x, a.view.readAt (Elt Ideal) (hi k).toLoadRect f (ix4 0 0 d x) = ((A d (512 * k.val + (256 + x.val)) : ℝ) : EReal)) :
    ∀ n, (∀ m ≤ n, ∀ d (x : Fin 512), M m (ix2 d x) = ((X m d (512 * k.val + x.val) : ℝ) : EReal)) →
      ∃ (u w : Vec Ideal S1x1x64x256 .f32) (L : List (View.Piece (Elt Ideal) S1x32x64x256 .f32)),
      tiles a k f M n = ⟨hi k, u⟩ :: ⟨lo k, w⟩ :: L ∧ (∀ p ∈ L, p.1 = hi k ∨ p.1 = lo k)
        ∧ (∀ d x, w (ix4 0 0 d x) = ((A d (512 * k.val + x.val) + ∑ m ∈ Finset.range (n + 1), X m d (512 * k.val + x.val) : ℝ) : EReal))
        ∧ (∀ d x, u (ix4 0 0 d x) = ((A d (512 * k.val + (256 + x.val)) + ∑ m ∈ Finset.range (n + 1), X m d (512 * k.val + (256 + x.val)) : ℝ) : EReal))
  | 0, hM => by
    refine ⟨_, _, [], rfl, by simp, fun d x => ?_, fun d x => ?_⟩
    · rw [add_lo _ _ d x (by omega), h0, hM 0 le_rfl, ← EReal.coe_add, Finset.sum_range_one]
    · rw [add_hi _ _ d x (by omega), h1, hM 0 le_rfl, ← EReal.coe_add, Finset.sum_range_one]
  | n + 1, hM => by
    obtain ⟨u, w, L, e, hL, hw, hu⟩ := tiles_eq a k f M A X h0 h1 n fun m hm => hM m (by omega)
    have r0 : a.view.readCov (tiles a k f M n) (lo k).toLoadRect = w := by
      rw [e, View.readCov_skip _ _ _ _ _ (hi_lo k), View.readCov_cons_toLoadRect]
    refine ⟨_, _, _, rfl, ?_, fun d x => ?_, fun d x => ?_⟩
    · rw [e]
      intro p hp
      rcases List.mem_cons.mp hp with rfl | hp
      · exact Or.inl rfl
      · rcases List.mem_cons.mp hp with rfl | hp
        · exact Or.inr rfl
        · exact hL p hp
    · rw [add_lo _ _ d x (by omega), r0, hw, hM (n + 1) le_rfl, ← EReal.coe_add, Finset.sum_range_succ _ (n + 1), add_assoc]
    · rw [add_hi _ _ d x (by omega), View.readCov_skip _ _ _ _ _ (lo_hi k), e, View.readCov_cons_toLoadRect, hu, hM (n + 1) le_rfl,
        ← EReal.coe_add, Finset.sum_range_succ _ (n + 1), add_assoc]

/-- So after a trip the block's tiles have gained the strips' sum, and the rest stays. -/
theorem tiles_read (a : Memref sig .tc .vmem S1x32x64x256 .f32) (k : Fin k1_t1_loop.trips) (f : BufTy.Contents (Elt Ideal) a.view.ty)
    (M : ℕ → FVec Ideal S64x512 .f32) (A : Fin 64 → ℕ → ℝ) (X : ℕ → Fin 64 → ℕ → ℝ) (n : ℕ)
    (hM : ∀ m ≤ n, ∀ d (x : Fin 512), M m (ix2 d x) = ((X m d (512 * k.val + x.val) : ℝ) : EReal))
    (hf : ∀ (t : Fin 32) d (x : Fin 256), a.view.read (Elt Ideal) f (ix4 0 t d x) = ((A d (256 * t.val + x.val) : ℝ) : EReal))
    (hk : k.val < 16) (t : Fin 32) (d : Fin 64) (x : Fin 256) :
    a.view.read (Elt Ideal) (a.view.writes (Elt Ideal) f (tiles a k f M n)) (ix4 0 t d x)
      = ((if t.val / 2 = k.val then A d (256 * t.val + x.val) + ∑ m ∈ Finset.range (n + 1), X m d (256 * t.val + x.val)
          else A d (256 * t.val + x.val) : ℝ) : EReal) := by
  have o0 : (lo k).off = ![0, 2 * k.val, 0, 0] := by
    show k1_off1 k 0#32 = _
    exact (k1_off1_eq k 0).trans (by simp)
  have o1 : (hi k).off = ![0, 2 * k.val + 1, 0, 0] := by
    show k1_off1 k 1#32 = _
    exact (k1_off1_eq k 1).trans (by simp)
  obtain ⟨u, w, L, e, hL, hw, hu⟩ := tiles_eq a k f M A X
    (fun d x => (ld_half (a.view.read (Elt Ideal) f) k 0 _ d x (by simp; omega)).trans ((hf _ d x).trans (by simp; congr 1; ring)))
    (fun d x => (ld_half (a.view.read (Elt Ideal) f) k 1 _ d x (by simp; omega)).trans ((hf _ d x).trans (by simp; congr 1; ring))) n hM
  rw [e]
  by_cases h1 : t.val = 2 * k.val + 1
  · rw [View.read_writes_cons_hit_of_coords _ _ _ _ _ (ix4 0 0 d x) _ (by intro i; rw [o1]; fin_cases i <;> simp [h1]), hu, if_pos (by omega),
      show 512 * k.val + (256 + x.val) = 256 * t.val + x.val by omega]
  · rw [View.read_writes_cons_miss_of_axis _ _ _ _ _ 1 (2 * k.val + 1) 1 (by rw [o1]; rfl) rfl rfl (by simp; omega)]
    by_cases h0 : t.val = 2 * k.val
    · rw [View.read_writes_cons_hit_of_coords _ _ _ _ _ (ix4 0 0 d x) _ (by intro i; rw [o0]; fin_cases i <;> simp [h0]), hw, if_pos (by omega),
        show 512 * k.val + x.val = 256 * t.val + x.val by omega]
    · rw [View.read_writes_apply_of_forall_not_mem, hf, if_neg (by omega)]
      intro p hp
      have hp : p.1 = hi k ∨ p.1 = lo k := by
        rcases List.mem_cons.mp hp with rfl | hp
        · exact Or.inr rfl
        · exact hL p hp
      rcases hp with hp | hp
      · rw [hp]
        exact Rect.not_mem_set_of_axis _ _ 1 (2 * k.val + 1) 1 (by rw [o1]; rfl) rfl rfl (by simp; omega)
      · rw [hp]
        exact Rect.not_mem_set_of_axis _ _ 1 (2 * k.val) 1 (by rw [o0]; rfl) rfl rfl (by simp; omega)

theorem tiles_step (a : Memref sig .tc .vmem S1x32x64x256 .f32) (k : Fin k1_t1_loop.trips) (f : BufTy.Contents (Elt Ideal) a.view.ty)
    (M : ℕ → FVec Ideal S64x512 .f32) (n : ℕ) (L u w r) (hu : u = k1_pay32 (F := Ideal) (M (n + 1)) r)
    (hr : r = a.view.readCov (⟨lo k, w⟩ :: L) (hi k).toLoadRect)
    (hw : w = k1_pay30 (F := Ideal) (M (n + 1)) (a.view.readCov L (lo k).toLoadRect))
    (h : L = tiles a k f M n) :
    ((⟨hi k, u⟩ : View.Piece (Elt Ideal) S1x32x64x256 .f32) :: ⟨lo k, w⟩ :: L) = tiles a k f M (n + 1) := by
  rw [hu, hr, hw, h]
  rfl

section
variable  (𝒱 : Variants) (c : Dev nD) (bd : Option 𝒱.V) (i : grid1.Coords) (arg2 : Memref sig .tc .vmem S1x8x256x128 .bf16) (harg2 : arg2.IsWhole) (arg3 :
    Memref sig .tc .vmem S1x8x64x256 .bf16) (harg3 : arg3.IsWhole) (arg4 : Memref sig .tc .vmem S1x8x256x128 .bf16) (harg4 : arg4.IsWhole) (arg5 : Memref
    sig .tc .vmem S1x8x64x256 .bf16) (harg5 : arg5.IsWhole) (arg6 : Memref sig .tc .vmem S1x8x64x256 .f32) (harg6 : arg6.IsWhole) (arg7 : Memref sig .tc
    .vmem S1x8x256x128 .f32) (harg7 : arg7.IsWhole) (arg8 : Memref sig .tc .vmem S1x8192x128 .bf16) (harg8 : arg8.IsWhole) (arg9 : Memref sig .tc .vmem
    S1x32x64x256 .bf16) (harg9 : arg9.IsWhole) (arg10 : Memref sig .tc .vmem S1x32x64x256 .bf16) (harg10 : arg10.IsWhole) (arg11 : Memref sig .tc .vmem
    S1x8x64x256 .f32) (harg11 : arg11.IsWhole) (arg12 : Memref sig .tc .vmem S1x32x64x256 .f32) (harg12 : arg12.IsWhole) (arg13 : Memref sig .tc .vmem
    S1x32x64x256 .f32) (harg13 : arg13.IsWhole) (v4 : FVec Ideal S256x128 .f32) (v6 : FVec Ideal S256x128 .f32) (v8 : FVec Ideal S256x128 .f32) (v10 :
    FVec Ideal S256x128 .f32) (v12 : FVec Ideal S256x128 .f32) (v14 : FVec Ideal S256x128 .f32) (v16 : FVec Ideal S256x128 .f32) (v18 : FVec Ideal
    S256x128 .f32) (v29 : FVec Ideal S256x128 .f32) (v40 : FVec Ideal S256x128 .f32) (v51 : FVec Ideal S256x128 .f32) (v62 : FVec Ideal S256x128 .f32)
    (v73 : FVec Ideal S256x128 .f32) (v84 : FVec Ideal S256x128 .f32) (v85 : Vec Ideal S1x1x64x256 .bf16) (v88 : Vec Ideal S1x1x64x256 .f32) (v96 : Vec
    Ideal S1x1x64x256 .bf16) (v99 : Vec Ideal S1x1x64x256 .f32)
  (X_arg2 : BufTy.Contents (Elt Ideal) arg2.view.ty) (X_arg3 : BufTy.Contents (Elt Ideal) arg3.view.ty) (X_arg4 : BufTy.Contents (Elt Ideal)
    arg4.view.ty) (X_arg5 : BufTy.Contents (Elt Ideal) arg5.view.ty) (X_arg8 : BufTy.Contents (Elt Ideal) arg8.view.ty) (X_arg9 : BufTy.Contents (Elt
    Ideal) arg9.view.ty) (X_arg10 : BufTy.Contents (Elt Ideal) arg10.view.ty)
  (k : Fin k1_t1_loop.trips) (acc : Carry8) (f_arg12 : BufTy.Contents (Elt Ideal) arg12.view.ty) (f_arg13 : BufTy.Contents (Elt Ideal) arg13.view.ty) (M : ℕ → FVec Ideal S64x512 .f32)

/-- The trip's writes of the keys' gradients, -/
theorem tripL_dk
    (h0 : M 0 = k1_pay29 (F := Ideal) v4 v29 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 0, 0, 0] S1x1x256x128.size inb_S1x8x256x128_S1x1x256x128_0_0_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 0, 0, 0] S1x1x256x128.size inb_S1x8x256x128_S1x1x256x128_0_0_0_0).toLoadRect X_arg4)) (View.readAt (Elt Ideal) arg3.view (Rect.unit (s := S1x8x64x256) ![0, 0, 0, 0] S1x1x64x256.size inb_S1x8x64x256_S1x1x64x256_0_0_0_0).toLoadRect X_arg3))
    (h1 : M 1 = k1_pay29 (F := Ideal) v6 v40 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 1, 0, 0] S1x1x256x128.size inb_S1x8x256x128_S1x1x256x128_0_1_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 1, 0, 0] S1x1x256x128.size inb_S1x8x256x128_S1x1x256x128_0_1_0_0).toLoadRect X_arg4)) (View.readAt (Elt Ideal) arg3.view (Rect.unit (s := S1x8x64x256) ![0, 1, 0, 0] S1x1x64x256.size inb_S1x8x64x256_S1x1x64x256_0_1_0_0).toLoadRect X_arg3))
    (h2 : M 2 = k1_pay29 (F := Ideal) v8 v51 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 2, 0, 0] S1x1x256x128.size inb_S1x8x256x128_S1x1x256x128_0_2_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 2, 0, 0] S1x1x256x128.size inb_S1x8x256x128_S1x1x256x128_0_2_0_0).toLoadRect X_arg4)) (View.readAt (Elt Ideal) arg3.view (Rect.unit (s := S1x8x64x256) ![0, 2, 0, 0] S1x1x64x256.size inb_S1x8x64x256_S1x1x64x256_0_2_0_0).toLoadRect X_arg3))
    (h3 : M 3 = k1_pay29 (F := Ideal) v10 v62 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 3, 0, 0] S1x1x256x128.size inb_S1x8x256x128_S1x1x256x128_0_3_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 3, 0, 0] S1x1x256x128.size inb_S1x8x256x128_S1x1x256x128_0_3_0_0).toLoadRect X_arg4)) (View.readAt (Elt Ideal) arg3.view (Rect.unit (s := S1x8x64x256) ![0, 3, 0, 0] S1x1x64x256.size inb_S1x8x64x256_S1x1x64x256_0_3_0_0).toLoadRect X_arg3))
    (h4 : M 4 = k1_pay29 (F := Ideal) v12 v73 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 4, 0, 0] S1x1x256x128.size inb_S1x8x256x128_S1x1x256x128_0_4_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 4, 0, 0] S1x1x256x128.size inb_S1x8x256x128_S1x1x256x128_0_4_0_0).toLoadRect X_arg4)) (View.readAt (Elt Ideal) arg3.view (Rect.unit (s := S1x8x64x256) ![0, 4, 0, 0] S1x1x64x256.size inb_S1x8x64x256_S1x1x64x256_0_4_0_0).toLoadRect X_arg3))
    (h5 : M 5 = k1_pay29 (F := Ideal) v14 v84 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 5, 0, 0] S1x1x256x128.size inb_S1x8x256x128_S1x1x256x128_0_5_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 5, 0, 0] S1x1x256x128.size inb_S1x8x256x128_S1x1x256x128_0_5_0_0).toLoadRect X_arg4)) (View.readAt (Elt Ideal) arg3.view (Rect.unit (s := S1x8x64x256) ![0, 5, 0, 0] S1x1x64x256.size inb_S1x8x64x256_S1x1x64x256_0_5_0_0).toLoadRect X_arg3))
    (h6 : M 6 = k1_pay29 (F := Ideal) v16 (k1_pay157 (F := Ideal) v85 v88) (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 6, 0, 0] S1x1x256x128.size inb_S1x8x256x128_S1x1x256x128_0_6_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 6, 0, 0] S1x1x256x128.size inb_S1x8x256x128_S1x1x256x128_0_6_0_0).toLoadRect X_arg4)) (View.readAt (Elt Ideal) arg3.view (Rect.unit (s := S1x8x64x256) ![0, 6, 0, 0] S1x1x64x256.size inb_S1x8x64x256_S1x1x64x256_0_6_0_0).toLoadRect X_arg3))
    (h7 : M 7 = k1_pay29 (F := Ideal) v18 (k1_pay158 (F := Ideal) v96 v99) (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 7, 0, 0] S1x1x256x128.size inb_S1x8x256x128_S1x1x256x128_0_7_0_0).toLoadRect X_arg2)) (k1_pay6 (k1_pay3 (F := Ideal) (View.readAt (Elt Ideal) arg10.view (lo k).toLoadRect X_arg10) (View.readAt (Elt Ideal) arg10.view (hi k).toLoadRect X_arg10)) (View.readAt (Elt Ideal) arg4.view (Rect.unit (s := S1x8x256x128) ![0, 7, 0, 0] S1x1x256x128.size inb_S1x8x256x128_S1x1x256x128_0_7_0_0).toLoadRect X_arg4)) (View.readAt (Elt Ideal) arg3.view (Rect.unit (s := S1x8x64x256) ![0, 7, 0, 0] S1x1x64x256.size inb_S1x8x64x256_S1x1x64x256_0_7_0_0).toLoadRect X_arg3)) :
    (tripL_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        X_arg2 X_arg3 X_arg4 X_arg5 X_arg8 X_arg9 X_arg10
        k acc f_arg12 f_arg13).1 = tiles arg12 k f_arg12 M 7 := by
  unfold tripL_k1_t1 trip_k1_t1
  dsimp only
  refine tiles_step _ _ _ _ 6 _ _ _ _ (by rw [h7]; rfl) rfl (by rw [h7]; rfl) ?_
  refine tiles_step _ _ _ _ 5 _ _ _ _ (by rw [h6]; rfl) rfl (by rw [h6]; rfl) ?_
  refine tiles_step _ _ _ _ 4 _ _ _ _ (by rw [h5]; rfl) rfl (by rw [h5]; rfl) ?_
  refine tiles_step _ _ _ _ 3 _ _ _ _ (by rw [h4]; rfl) rfl (by rw [h4]; rfl) ?_
  refine tiles_step _ _ _ _ 2 _ _ _ _ (by rw [h3]; rfl) rfl (by rw [h3]; rfl) ?_
  refine tiles_step _ _ _ _ 1 _ _ _ _ (by rw [h2]; rfl) rfl (by rw [h2]; rfl) ?_
  refine tiles_step _ _ _ _ 0 _ _ _ _ (by rw [h1]; rfl) rfl (by rw [h1]; rfl) ?_
  unfold tiles
  rw [h0]
  rfl

/-- and of the values' gradients. -/
theorem tripL_dv
    (h0 : M 0 = k1_pay28 (F := Ideal) v4 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 0, 0, 0] S1x1x256x128.size inb_S1x8x256x128_S1x1x256x128_0_0_0_0).toLoadRect X_arg2)) (View.readAt (Elt Ideal) arg5.view (Rect.unit (s := S1x8x64x256) ![0, 0, 0, 0] S1x1x64x256.size inb_S1x8x64x256_S1x1x64x256_0_0_0_0).toLoadRect X_arg5))
    (h1 : M 1 = k1_pay28 (F := Ideal) v6 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 1, 0, 0] S1x1x256x128.size inb_S1x8x256x128_S1x1x256x128_0_1_0_0).toLoadRect X_arg2)) (View.readAt (Elt Ideal) arg5.view (Rect.unit (s := S1x8x64x256) ![0, 1, 0, 0] S1x1x64x256.size inb_S1x8x64x256_S1x1x64x256_0_1_0_0).toLoadRect X_arg5))
    (h2 : M 2 = k1_pay28 (F := Ideal) v8 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 2, 0, 0] S1x1x256x128.size inb_S1x8x256x128_S1x1x256x128_0_2_0_0).toLoadRect X_arg2)) (View.readAt (Elt Ideal) arg5.view (Rect.unit (s := S1x8x64x256) ![0, 2, 0, 0] S1x1x64x256.size inb_S1x8x64x256_S1x1x64x256_0_2_0_0).toLoadRect X_arg5))
    (h3 : M 3 = k1_pay28 (F := Ideal) v10 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 3, 0, 0] S1x1x256x128.size inb_S1x8x256x128_S1x1x256x128_0_3_0_0).toLoadRect X_arg2)) (View.readAt (Elt Ideal) arg5.view (Rect.unit (s := S1x8x64x256) ![0, 3, 0, 0] S1x1x64x256.size inb_S1x8x64x256_S1x1x64x256_0_3_0_0).toLoadRect X_arg5))
    (h4 : M 4 = k1_pay28 (F := Ideal) v12 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 4, 0, 0] S1x1x256x128.size inb_S1x8x256x128_S1x1x256x128_0_4_0_0).toLoadRect X_arg2)) (View.readAt (Elt Ideal) arg5.view (Rect.unit (s := S1x8x64x256) ![0, 4, 0, 0] S1x1x64x256.size inb_S1x8x64x256_S1x1x64x256_0_4_0_0).toLoadRect X_arg5))
    (h5 : M 5 = k1_pay28 (F := Ideal) v14 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 5, 0, 0] S1x1x256x128.size inb_S1x8x256x128_S1x1x256x128_0_5_0_0).toLoadRect X_arg2)) (View.readAt (Elt Ideal) arg5.view (Rect.unit (s := S1x8x64x256) ![0, 5, 0, 0] S1x1x64x256.size inb_S1x8x64x256_S1x1x64x256_0_5_0_0).toLoadRect X_arg5))
    (h6 : M 6 = k1_pay28 (F := Ideal) v16 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 6, 0, 0] S1x1x256x128.size inb_S1x8x256x128_S1x1x256x128_0_6_0_0).toLoadRect X_arg2)) (View.readAt (Elt Ideal) arg5.view (Rect.unit (s := S1x8x64x256) ![0, 6, 0, 0] S1x1x64x256.size inb_S1x8x64x256_S1x1x64x256_0_6_0_0).toLoadRect X_arg5))
    (h7 : M 7 = k1_pay28 (F := Ideal) v18 (k1_pay6 (k1_pay3 (F := Ideal) (View.readAt (Elt Ideal) arg9.view (lo k).toLoadRect X_arg9) (View.readAt (Elt Ideal) arg9.view (hi k).toLoadRect X_arg9)) (View.readAt (Elt Ideal) arg2.view (Rect.unit (s := S1x8x256x128) ![0, 7, 0, 0] S1x1x256x128.size inb_S1x8x256x128_S1x1x256x128_0_7_0_0).toLoadRect X_arg2)) (View.readAt (Elt Ideal) arg5.view (Rect.unit (s := S1x8x64x256) ![0, 7, 0, 0] S1x1x64x256.size inb_S1x8x64x256_S1x1x64x256_0_7_0_0).toLoadRect X_arg5)) :
    (tripL_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        X_arg2 X_arg3 X_arg4 X_arg5 X_arg8 X_arg9 X_arg10
        k acc f_arg12 f_arg13).2 = tiles arg13 k f_arg13 M 7 := by
  unfold tripL_k1_t1 trip_k1_t1
  dsimp only
  refine tiles_step _ _ _ _ 6 _ _ _ _ (by rw [h7]; rfl) rfl (by rw [h7]; rfl) ?_
  refine tiles_step _ _ _ _ 5 _ _ _ _ (by rw [h6]; rfl) rfl (by rw [h6]; rfl) ?_
  refine tiles_step _ _ _ _ 4 _ _ _ _ (by rw [h5]; rfl) rfl (by rw [h5]; rfl) ?_
  refine tiles_step _ _ _ _ 3 _ _ _ _ (by rw [h4]; rfl) rfl (by rw [h4]; rfl) ?_
  refine tiles_step _ _ _ _ 2 _ _ _ _ (by rw [h3]; rfl) rfl (by rw [h3]; rfl) ?_
  refine tiles_step _ _ _ _ 1 _ _ _ _ (by rw [h2]; rfl) rfl (by rw [h2]; rfl) ?_
  refine tiles_step _ _ _ _ 0 _ _ _ _ (by rw [h1]; rfl) rfl (by rw [h1]; rfl) ?_
  unfold tiles
  rw [h0]
  rfl

end

section
variable (kk vv : Fin 64 → ℕ → ℝ) (qq dd : Fin 8 → Fin 256 → Fin 64 → ℝ) (ll δ : Fin 8 → Fin 256 → ℝ)

/-- What a strip adds to the keys' and to the values' gradients. -/
def gk (m : ℕ) (d : Fin 64) (j : ℕ) : ℝ := ∑ r, qq (Fin.ofNat 8 m) r d * ds8 kk vv qq dd ll δ (Fin.ofNat 8 m) r j
def gv (m : ℕ) (d : Fin 64) (j : ℕ) : ℝ := ∑ r, dd (Fin.ofNat 8 m) r d * Real.exp (sc8 kk qq (Fin.ofNat 8 m) r j - ll (Fin.ofNat 8 m) r)

/-- A buffer of tiles that holds the first `512 n` keys' gains over `A`. -/
def Goodt (X : ℕ → Fin 64 → ℕ → ℝ) (A : Fin 64 → ℕ → ℝ) (n : ℕ) (x : Vec Ideal S1x32x64x256 .f32) : Prop :=
  ∀ (t : Fin 32) (d : Fin 64) (r : Fin 256), x (ix4 0 t d r)
    = ((if t.val / 2 < n then A d (256 * t.val + r.val) + ∑ m ∈ Finset.range 8, X m d (256 * t.val + r.val) else A d (256 * t.val + r.val) : ℝ) : EReal)

variable {kk vv qq dd ll δ}

theorem tiles_good (a : Memref sig .tc .vmem S1x32x64x256 .f32) (k : Fin k1_t1_loop.trips) (f : BufTy.Contents (Elt Ideal) a.view.ty)
    (M : ℕ → FVec Ideal S64x512 .f32) (A : Fin 64 → ℕ → ℝ) (X : ℕ → Fin 64 → ℕ → ℝ)
    (hM : ∀ m ≤ 7, ∀ d (x : Fin 512), M m (ix2 d x) = ((X m d (512 * k.val + x.val) : ℝ) : EReal)) (hk : k.val < 16)
    (hf : Goodt X A k.val (a.view.read (Elt Ideal) f)) :
    Goodt X A (k.val + 1) (a.view.read (Elt Ideal) (a.view.writes (Elt Ideal) f (tiles a k f M 7))) := by
  intro t d x
  rw [tiles_read a k f M (fun d j => if j / 512 < k.val then A d j + ∑ m ∈ Finset.range 8, X m d j else A d j) X 7 hM
    (fun t d x => (hf t d x).trans (by rw [show (256 * t.val + x.val) / 512 = t.val / 2 by omega])) hk]
  have e : (256 * t.val + x.val) / 512 = t.val / 2 := by omega
  simp only [e]
  congr 1
  split_ifs <;> first | rfl | omega

/-- One trip: both buffers of tiles gain the block's share. -/
theorem tripL_good {x2 x3 x4 x5 x8 x9 x10} (hB : Blk kk vv qq dd x2 x3 x4 x5 x8 x9 x10)
     (𝒱 : Variants) (c : Dev nD) (bd : Option 𝒱.V) (i : grid1.Coords) (arg2 : Memref sig .tc .vmem S1x8x256x128 .bf16) (harg2 : arg2.IsWhole) (arg3 :
    Memref sig .tc .vmem S1x8x64x256 .bf16) (harg3 : arg3.IsWhole) (arg4 : Memref sig .tc .vmem S1x8x256x128 .bf16) (harg4 : arg4.IsWhole) (arg5 : Memref
    sig .tc .vmem S1x8x64x256 .bf16) (harg5 : arg5.IsWhole) (arg6 : Memref sig .tc .vmem S1x8x64x256 .f32) (harg6 : arg6.IsWhole) (arg7 : Memref sig .tc
    .vmem S1x8x256x128 .f32) (harg7 : arg7.IsWhole) (arg8 : Memref sig .tc .vmem S1x8192x128 .bf16) (harg8 : arg8.IsWhole) (arg9 : Memref sig .tc .vmem
    S1x32x64x256 .bf16) (harg9 : arg9.IsWhole) (arg10 : Memref sig .tc .vmem S1x32x64x256 .bf16) (harg10 : arg10.IsWhole) (arg11 : Memref sig .tc .vmem
    S1x8x64x256 .f32) (harg11 : arg11.IsWhole) (arg12 : Memref sig .tc .vmem S1x32x64x256 .f32) (harg12 : arg12.IsWhole) (arg13 : Memref sig .tc .vmem
    S1x32x64x256 .f32) (harg13 : arg13.IsWhole) (v4 : FVec Ideal S256x128 .f32) (v6 : FVec Ideal S256x128 .f32) (v8 : FVec Ideal S256x128 .f32) (v10 :
    FVec Ideal S256x128 .f32) (v12 : FVec Ideal S256x128 .f32) (v14 : FVec Ideal S256x128 .f32) (v16 : FVec Ideal S256x128 .f32) (v18 : FVec Ideal
    S256x128 .f32) (v29 : FVec Ideal S256x128 .f32) (v40 : FVec Ideal S256x128 .f32) (v51 : FVec Ideal S256x128 .f32) (v62 : FVec Ideal S256x128 .f32)
    (v73 : FVec Ideal S256x128 .f32) (v84 : FVec Ideal S256x128 .f32) (v85 : Vec Ideal S1x1x64x256 .bf16) (v88 : Vec Ideal S1x1x64x256 .f32) (v96 : Vec
    Ideal S1x1x64x256 .bf16) (v99 : Vec Ideal S1x1x64x256 .f32)
    (hL0 : ∀ r x, v4 (ix2 r x) = ((ll 0 r : ℝ) : EReal)) (hD0 : ∀ r x, v29 (ix2 r x) = ((δ 0 r : ℝ) : EReal))
    (hL1 : ∀ r x, v6 (ix2 r x) = ((ll 1 r : ℝ) : EReal)) (hD1 : ∀ r x, v40 (ix2 r x) = ((δ 1 r : ℝ) : EReal))
    (hL2 : ∀ r x, v8 (ix2 r x) = ((ll 2 r : ℝ) : EReal)) (hD2 : ∀ r x, v51 (ix2 r x) = ((δ 2 r : ℝ) : EReal))
    (hL3 : ∀ r x, v10 (ix2 r x) = ((ll 3 r : ℝ) : EReal)) (hD3 : ∀ r x, v62 (ix2 r x) = ((δ 3 r : ℝ) : EReal))
    (hL4 : ∀ r x, v12 (ix2 r x) = ((ll 4 r : ℝ) : EReal)) (hD4 : ∀ r x, v73 (ix2 r x) = ((δ 4 r : ℝ) : EReal))
    (hL5 : ∀ r x, v14 (ix2 r x) = ((ll 5 r : ℝ) : EReal)) (hD5 : ∀ r x, v84 (ix2 r x) = ((δ 5 r : ℝ) : EReal))
    (hL6 : ∀ r x, v16 (ix2 r x) = ((ll 6 r : ℝ) : EReal)) (hD6 : ∀ r x, (k1_pay157 (F := Ideal) v85 v88) (ix2 r x) = ((δ 6 r : ℝ) : EReal))
    (hL7 : ∀ r x, v18 (ix2 r x) = ((ll 7 r : ℝ) : EReal)) (hD7 : ∀ r x, (k1_pay158 (F := Ideal) v96 v99) (ix2 r x) = ((δ 7 r : ℝ) : EReal))
    (k : Fin k1_t1_loop.trips) (hk : k.val < 16) (acc : Carry8) (f_arg12 : BufTy.Contents (Elt Ideal) arg12.view.ty) (f_arg13 : BufTy.Contents (Elt Ideal) arg13.view.ty) (A B : Fin 64 → ℕ → ℝ)
    (hA : Goodt (gk kk vv qq dd ll δ) A k.val (arg12.view.read (Elt Ideal) f_arg12))
    (hB' : Goodt (gv kk qq dd ll) B k.val (arg13.view.read (Elt Ideal) f_arg13)) :
    Goodt (gk kk vv qq dd ll δ) A (k.val + 1) (arg12.view.read (Elt Ideal) (arg12.view.writes (Elt Ideal) f_arg12
      (tripL_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        (harg2.unread x2) (harg3.unread x3) (harg4.unread x4) (harg5.unread x5) (harg8.unread x8) (harg9.unread x9) (harg10.unread x10)
        k acc f_arg12 f_arg13).1))
    ∧ Goodt (gv kk qq dd ll) B (k.val + 1) (arg13.view.read (Elt Ideal) (arg13.view.writes (Elt Ideal) f_arg13
      (tripL_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        (harg2.unread x2) (harg3.unread x3) (harg4.unread x4) (harg5.unread x5) (harg8.unread x8) (harg9.unread x9) (harg10.unread x10)
        k acc f_arg12 f_arg13).2)) := by
  have hs := sc_blk x9 x2 kk qq hB.kt hB.qs k hk
  have hp := sc_blk x10 x4 vv dd hB.vt hB.ds k hk
  obtain ⟨L, hL⟩ : ∃ L : Fin 8 → FVec Ideal S256x128 .f32, L = ![v4, v6, v8, v10, v12, v14, v16, v18] := ⟨_, rfl⟩
  obtain ⟨D, hD⟩ : ∃ D : Fin 8 → FVec Ideal S256x128 .f32, D = ![v29, v40, v51, v62, v73, v84, (k1_pay157 (F := Ideal) v85 v88), (k1_pay158 (F := Ideal) v96 v99)] := ⟨_, rfl⟩
  have hl : ∀ c r x, L c (ix2 r x) = ((ll c r : ℝ) : EReal) := by
    subst hL
    intro c
    fin_cases c
    exacts [hL0, hL1, hL2, hL3, hL4, hL5, hL6, hL7]
  have hd : ∀ c r x, D c (ix2 r x) = ((δ c r : ℝ) : EReal) := by
    subst hD
    intro c
    fin_cases c
    exacts [hD0, hD1, hD2, hD3, hD4, hD5, hD6, hD7]
  have inr : ∀ (c : Fin 8) (a : Fin 4), ![0, c.val, 0, 0] a + ![1, 1, 256, 128] a ≤ S1x8x256x128.size a := by decide
  have inc : ∀ (c : Fin 8) (a : Fin 4), ![0, c.val, 0, 0] a + ![1, 1, 64, 256] a ≤ S1x8x64x256.size a := by decide
  obtain ⟨S, hS⟩ : ∃ S : Fin 8 → FVec Ideal S256x512 .f32, S = fun c => k1_pay6 (F := Ideal) (k1_pay3 (View.ld x9 (lo k)) (View.ld x9 (hi k)))
    (View.ld x2 (Rect.unit ![0, c.val, 0, 0] ![1, 1, 256, 128] (inr c))) := ⟨_, rfl⟩
  obtain ⟨P, hP⟩ : ∃ P : Fin 8 → FVec Ideal S256x512 .f32, P = fun c => k1_pay6 (F := Ideal) (k1_pay3 (View.ld x10 (lo k)) (View.ld x10 (hi k)))
    (View.ld x4 (Rect.unit ![0, c.val, 0, 0] ![1, 1, 256, 128] (inr c))) := ⟨_, rfl⟩
  refine ⟨?_, ?_⟩
  · rw [tripL_dk (M := fun m => k1_pay29 (L (Fin.ofNat 8 m)) (D (Fin.ofNat 8 m)) (S (Fin.ofNat 8 m)) (P (Fin.ofNat 8 m))
      (View.ld x3 (Rect.unit ![0, (Fin.ofNat 8 m).val, 0, 0] ![1, 1, 64, 256] (inc _))))]
    · refine tiles_good _ _ _ _ _ _ (fun m hm d x => ?_) hk hA
      refine dk_at _ _ _ _ (ll (Fin.ofNat 8 m)) (δ (Fin.ofNat 8 m)) _ _ k.val (hl _) (hd _) ?_ ?_ _ (qq (Fin.ofNat 8 m))
        (fun d r => (ld_cols8 x3 _ _ d r).trans (hB.qt _ d r)) d x
      · subst hS
        exact hs _ _
      · subst hP
        exact hp _ _
    all_goals
      subst hL hD hS hP
      simp only [View.readAt_eq_ld, Memref.IsWhole.read_unread]
      rfl
  · rw [tripL_dv (M := fun m => k1_pay28 (L (Fin.ofNat 8 m)) (S (Fin.ofNat 8 m))
      (View.ld x5 (Rect.unit ![0, (Fin.ofNat 8 m).val, 0, 0] ![1, 1, 64, 256] (inc _))))]
    · refine tiles_good _ _ _ _ _ _ (fun m hm d x => ?_) hk hB'
      refine dv_at _ _ (ll (Fin.ofNat 8 m)) _ k.val (hl _) ?_ _ (dd (Fin.ofNat 8 m))
        (fun d r => (ld_cols8 x5 _ _ d r).trans (hB.dt _ d r)) d x
      subst hS
      exact hs _ _
    all_goals
      subst hL hS
      simp only [View.readAt_eq_ld, Memref.IsWhole.read_unread]
      rfl

end

end Cert.AttDxIdeal.Sums
-- ==== Proof.AttBwdLoop.lean ====
/- The backward attention call's loop over the keys, from its start to its end. -/
module

public import proofs.«01_k».proof.Proof.AttBwdTile

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

section
variable {kk vv : Fin 64 → ℕ → ℝ} {qq dd : Fin 8 → Fin 256 → Fin 64 → ℝ} {ll δ : Fin 8 → Fin 256 → ℝ}

/-- The loop: the carried gradients and both buffers of tiles, from what they hold at its start. -/
theorem loop8_good {x2 x3 x4 x5 x8 x9 x10} (hB : Blk kk vv qq dd x2 x3 x4 x5 x8 x9 x10)
     (𝒱 : Variants) (c : Dev nD) (bd : Option 𝒱.V) (i : grid1.Coords) (arg2 : Memref sig .tc .vmem S1x8x256x128 .bf16) (harg2 : arg2.IsWhole) (arg3 :
    Memref sig .tc .vmem S1x8x64x256 .bf16) (harg3 : arg3.IsWhole) (arg4 : Memref sig .tc .vmem S1x8x256x128 .bf16) (harg4 : arg4.IsWhole) (arg5 : Memref
    sig .tc .vmem S1x8x64x256 .bf16) (harg5 : arg5.IsWhole) (arg6 : Memref sig .tc .vmem S1x8x64x256 .f32) (harg6 : arg6.IsWhole) (arg7 : Memref sig .tc
    .vmem S1x8x256x128 .f32) (harg7 : arg7.IsWhole) (arg8 : Memref sig .tc .vmem S1x8192x128 .bf16) (harg8 : arg8.IsWhole) (arg9 : Memref sig .tc .vmem
    S1x32x64x256 .bf16) (harg9 : arg9.IsWhole) (arg10 : Memref sig .tc .vmem S1x32x64x256 .bf16) (harg10 : arg10.IsWhole) (arg11 : Memref sig .tc .vmem
    S1x8x64x256 .f32) (harg11 : arg11.IsWhole) (arg12 : Memref sig .tc .vmem S1x32x64x256 .f32) (harg12 : arg12.IsWhole) (arg13 : Memref sig .tc .vmem
    S1x32x64x256 .f32) (harg13 : arg13.IsWhole) (v4 : FVec Ideal S256x128 .f32) (v6 : FVec Ideal S256x128 .f32) (v8 : FVec Ideal S256x128 .f32) (v10 :
    FVec Ideal S256x128 .f32) (v12 : FVec Ideal S256x128 .f32) (v14 : FVec Ideal S256x128 .f32) (v16 : FVec Ideal S256x128 .f32) (v18 : FVec Ideal
    S256x128 .f32) (v29 : FVec Ideal S256x128 .f32) (v40 : FVec Ideal S256x128 .f32) (v51 : FVec Ideal S256x128 .f32) (v62 : FVec Ideal S256x128 .f32)
    (v73 : FVec Ideal S256x128 .f32) (v84 : FVec Ideal S256x128 .f32) (v85 : Vec Ideal S1x1x64x256 .bf16) (v88 : Vec Ideal S1x1x64x256 .f32) (v96 : Vec
    Ideal S1x1x64x256 .bf16) (v99 : Vec Ideal S1x1x64x256 .f32)
    (hL0 : ∀ r x, v4 (ix2 r x) = ((ll 0 r : ℝ) : EReal)) (hD0 : ∀ r x, v29 (ix2 r x) = ((δ 0 r : ℝ) : EReal))
    (hL1 : ∀ r x, v6 (ix2 r x) = ((ll 1 r : ℝ) : EReal)) (hD1 : ∀ r x, v40 (ix2 r x) = ((δ 1 r : ℝ) : EReal))
    (hL2 : ∀ r x, v8 (ix2 r x) = ((ll 2 r : ℝ) : EReal)) (hD2 : ∀ r x, v51 (ix2 r x) = ((δ 2 r : ℝ) : EReal))
    (hL3 : ∀ r x, v10 (ix2 r x) = ((ll 3 r : ℝ) : EReal)) (hD3 : ∀ r x, v62 (ix2 r x) = ((δ 3 r : ℝ) : EReal))
    (hL4 : ∀ r x, v12 (ix2 r x) = ((ll 4 r : ℝ) : EReal)) (hD4 : ∀ r x, v73 (ix2 r x) = ((δ 4 r : ℝ) : EReal))
    (hL5 : ∀ r x, v14 (ix2 r x) = ((ll 5 r : ℝ) : EReal)) (hD5 : ∀ r x, v84 (ix2 r x) = ((δ 5 r : ℝ) : EReal))
    (hL6 : ∀ r x, v16 (ix2 r x) = ((ll 6 r : ℝ) : EReal)) (hD6 : ∀ r x, (k1_pay157 (F := Ideal) v85 v88) (ix2 r x) = ((δ 6 r : ℝ) : EReal))
    (hL7 : ∀ r x, v18 (ix2 r x) = ((ll 7 r : ℝ) : EReal)) (hD7 : ∀ r x, (k1_pay158 (F := Ideal) v96 v99) (ix2 r x) = ((δ 7 r : ℝ) : EReal))
    (G_arg12 : BufTy.Contents (Elt Ideal) arg12.view.ty) (G_arg13 : BufTy.Contents (Elt Ideal) arg13.view.ty) (A B : Fin 64 → ℕ → ℝ) (init : Carry8)
    (h0 : Goodq kk vv qq dd ll δ 0 init)
    (hA : Goodt (gk kk vv qq dd ll δ) A 0 (arg12.view.read (Elt Ideal) G_arg12))
    (hB' : Goodt (gv kk qq dd ll) B 0 (arg13.view.read (Elt Ideal) G_arg13)) : ∀ n, n ≤ 16 →
    Goodq kk vv qq dd ll δ n (st_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        (harg2.unread x2) (harg3.unread x3) (harg4.unread x4) (harg5.unread x5) (harg8.unread x8) (harg9.unread x9) (harg10.unread x10)
        G_arg12 G_arg13 init n).1
    ∧ Goodt (gk kk vv qq dd ll δ) A n (arg12.view.read (Elt Ideal) (arg12.view.writes (Elt Ideal) G_arg12 (st_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        (harg2.unread x2) (harg3.unread x3) (harg4.unread x4) (harg5.unread x5) (harg8.unread x8) (harg9.unread x9) (harg10.unread x10)
        G_arg12 G_arg13 init n).2.1))
    ∧ Goodt (gv kk qq dd ll) B n (arg13.view.read (Elt Ideal) (arg13.view.writes (Elt Ideal) G_arg13 (st_k1_t1 (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        (harg2.unread x2) (harg3.unread x3) (harg4.unread x4) (harg5.unread x5) (harg8.unread x8) (harg9.unread x9) (harg10.unread x10)
        G_arg12 G_arg13 init n).2.2))
  | 0, _ => ⟨h0, hA, hB'⟩
  | n + 1, hn => by
    have hn' : n < k1_t1_loop.trips := lt_of_lt_of_eq hn (by decide)
    have e := st_k1_t1_succ (F := Ideal) 𝒱 c bd i arg2 harg2 arg3 harg3 arg4 harg4 arg5 harg5 arg6 harg6 arg7 harg7 arg8 harg8 arg9 harg9 arg10 harg10 arg11 harg11 arg12 harg12 arg13 harg13
        v4 v6 v8 v10 v12 v14 v16 v18 v29 v40 v51 v62 v73 v84 v85 v88 v96 v99
        (harg2.unread x2) (harg3.unread x3) (harg4.unread x4) (harg5.unread x5) (harg8.unread x8) (harg9.unread x9) (harg10.unread x10)
        G_arg12 G_arg13 init ⟨n, hn'⟩
    obtain ⟨i1, i2, i3⟩ := loop8_good hB _ _ _ _ _ _ _ _ _ _ _ _ _ _ _ _ _ _ _ _ _ _ _ _ _ _ _ _ _ _ _ _ _ _ _ _ _ _ _ _ _ _ _ _ _ _ hL0 hD0 hL1 hD1 hL2 hD2 hL3 hD3 hL4 hD4 hL5 hD5 hL6 hD6 hL7 hD7 G_arg12 G_arg13 A B init h0 hA hB' n (by omega)
    dsimp only at e
    rw [e, View.writes_append, View.writes_append]
    exact ⟨tripR_good hB _ _ _ _ _ _ _ _ _ _ _ _ _ _ _ _ _ _ _ _ _ _ _ _ _ _ _ _ _ _ _ _ _ _ _ _ _ _ _ _ _ _ _ _ _ _ hL0 hD0 hL1 hD1 hL2 hD2 hL3 hD3 hL4 hD4 hL5 hD5 hL6 hD6 hL7 hD7 ⟨n, hn'⟩ hn _ _ _ i1,
      tripL_good hB _ _ _ _ _ _ _ _ _ _ _ _ _ _ _ _ _ _ _ _ _ _ _ _ _ _ _ _ _ _ _ _ _ _ _ _ _ _ _ _ _ _ _ _ _ _ hL0 hD0 hL1 hD1 hL2 hD2 hL3 hD3 hL4 hD4 hL5 hD5 hL6 hD6 hL7 hD7 ⟨n, hn'⟩ hn _ _ _ A B i2 i3⟩

end

end Cert.AttDxIdeal.Sums
-- ==== Proof.AttBwdOut.lean ====
/- What one grid point of the backward attention call leaves: its eight strips' gradients, and what it adds to the keys' and values' gradients. -/
module

public import proofs.«01_k».proof.Proof.AttFwdOut
public import proofs.«01_k».proof.Proof.AttBwdLoop

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

theorem ld_rows8f (x : Vec Ideal S1x8x256x128 .f32) (n : Fin 8) (h) (r : Fin 256) (d : Fin 128) :
    View.ld x (Rect.unit ![0, n.val, 0, 0] ![1, 1, 256, 128] h) (ix4 0 0 r d) = x (ix4 0 n r d) := by
  refine View.ld_unit_apply_of _ _ _ _ _ _ fun i => ?_
  fin_cases i <;> simp

theorem ld_cols8f (x : Vec Ideal S1x8x64x256 .f32) (n : Fin 8) (h) (d : Fin 64) (r : Fin 256) :
    View.ld x (Rect.unit ![0, n.val, 0, 0] ![1, 1, 64, 256] h) (ix4 0 0 d r) = x (ix4 0 n d r) := by
  refine View.ld_unit_apply_of _ _ _ _ _ _ fun i => ?_
  fin_cases i <;> simp

theorem dqT_at (a : FVec Ideal S256x128 .f32) (d : Fin 64) (r : Fin 256) : k1_pay171 a (ix4 0 0 d r) = a (ix2 r ⟨d.val, by omega⟩) := by
  unfold_payloads
  pointwise

theorem tile_q {n c : Fin 8} {d : Fin 64} {r : Fin 256} (P : (⟨4, ![1, 1, 64, 256]⟩ : Shape).Idx → EReal) (val : Fin 8 → Fin 64 → Fin 256 → EReal)
    (h : ∀ d r, P (ix4 0 0 d r) = val c d r) :
    View.TileAt (S := S1x8x64x256) (Val := Elt Ideal) (e := .f32) (ix4 0 n d r) ![0, c.val, 0, 0] ![1, 1, 64, 256] P (val n d r) := by
  intro x hx
  have h1 := hx 1
  have h2 := hx 2
  have h3 := hx 3
  have b0 := (x 0).isLt
  have b1 := (x 1).isLt
  simp at h1 h2 h3 b0 b1
  have e : x = ix4 0 0 d r := by
    funext i
    apply Fin.ext
    fin_cases i <;> simp <;> omega
  have en : n = c := Fin.ext (by omega)
  rw [e, h, en]

theorem zero_at : ∀ y, (k1_pay141 : FVec Ideal S1x32x64x256 .f32) y = 0 := by
  intro y
  unfold_payloads
  pointwise

theorem zero_at' : ∀ y, (k1_pay142 : FVec Ideal S1x32x64x256 .f32) y = 0 := zero_at

theorem zero_good (X : ℕ → Fin 64 → ℕ → ℝ) (a : Memref sig .tc .vmem S1x32x64x256 .f32) (P : Vec Ideal S1x32x64x256 .f32) (hP : ∀ y, P y = 0) :
    Goodt X (fun _ _ => 0) 0 (a.view.read (Elt Ideal) (a.view.writes (Elt Ideal) a.view.junk
      [⟨Rect.unit ![0, 0, 0, 0] S1x32x64x256.size inb_S1x32x64x256_S1x32x64x256_0_0_0_0, P⟩])) := by
  intro t d r
  rw [View.read_writes_cons_hit_of_coords _ _ _ _ _ (ix4 0 t d r) _ (by intro i; fin_cases i <;> simp), hP]
  simp

section
variable (x0 : Vec Ideal S1x8x256x128 .bf16) (x1 : Vec Ideal S1x8x64x256 .bf16) (x2 : Vec Ideal S1x8x256x128 .bf16) (x3 : Vec Ideal S1x8x64x256 .bf16)
  (x4 : Vec Ideal S1x8x64x256 .f32) (x5 : Vec Ideal S1x8x256x128 .f32) (x6 : Vec Ideal S1x8192x128 .bf16) (x7 x8 : Vec Ideal S1x32x64x256 .bf16)
  (kk vv : Fin 64 → ℕ → ℝ) (qq dd oo : Fin 8 → Fin 256 → Fin 64 → ℝ) (ll : Fin 8 → Fin 256 → ℝ)

/-- The means that a strip's gradient is taken about. -/
def mean8 (c : Fin 8) (r : Fin 256) : ℝ := ∑ d, dd c r d * oo c r d

theorem L_at (hl : ∀ (c : Fin 8) r x, x5 (ix4 0 c r x) = ((ll c r : ℝ) : EReal)) (c : Fin 8) (h) (r : Fin 256) (x : Fin 128) :
    k1_pay143 (F := Ideal) (View.ld x5 (Rect.unit ![0, c.val, 0, 0] ![1, 1, 256, 128] h)) (ix2 r x) = ((ll c r : ℝ) : EReal) := by
  have e : ∀ v : Vec Ideal S1x1x256x128 .f32, k1_pay143 (F := Ideal) v (ix2 r x) = v (ix4 0 0 r x) := by
    intro v
    unfold_payloads
    pointwise
  rw [e]
  exact (ld_rows8f x5 c h r x).trans (hl c r x)

theorem D_at (hd : ∀ (c : Fin 8) d r, x3 (ix4 0 c d r) = ((dd c r d : ℝ) : EReal)) (ho : ∀ (c : Fin 8) d r, x4 (ix4 0 c d r) = ((oo c r d : ℝ) : EReal))
    (c : Fin 8) (h) (r : Fin 256) (x : Fin 128) :
    k1_pay151 (F := Ideal) (View.ld x3 (Rect.unit ![0, c.val, 0, 0] ![1, 1, 64, 256] h)) (View.ld x4 (Rect.unit ![0, c.val, 0, 0] ![1, 1, 64, 256] h)) (ix2 r x)
      = ((mean8 dd oo c r : ℝ) : EReal) := by
  have e : ∀ (u : Vec Ideal S1x1x64x256 .bf16) (v : Vec Ideal S1x1x64x256 .f32),
      k1_pay151 (F := Ideal) u v (ix2 r x) = ∑ d : Fin 64, u (ix4 0 0 d r) * v (ix4 0 0 d r) := by
    intro u v
    unfold_payloads
    pointwise
  rw [e, mean8, ← coe_sum_univ]
  refine Finset.sum_congr rfl fun d _ => ?_
  rw [EReal.coe_mul]
  exact congrArg₂ _ ((ld_cols8 x3 c h d r).trans (hd c d r)) ((ld_cols8f x4 c h d r).trans (ho c d r))

theorem init_good (δ : Fin 8 → Fin 256 → ℝ) : Goodq kk vv qq dd ll δ 0
    ((k1_pay159, k1_pay160, k1_pay161, k1_pay162, k1_pay163, k1_pay164, k1_pay165, k1_pay166) : Carry8) := by
  have e : ∀ r (d : Fin 64), (k1_pay159 : FVec Ideal S256x128 .f32) (ix2 r ⟨d.val, by omega⟩) = ((0 : ℝ) : EReal) := by
    intro r d
    unfold_payloads
    pointwise
    rfl
  unfold Goodq
  simp only [Nat.mul_zero, Finset.range_zero, Finset.sum_empty]
  exact ⟨e, e, e, e, e, e, e, e⟩

/-- A strip's gradient. -/
def gq (c : Fin 8) (r : Fin 256) (d : Fin 64) : ℝ := ∑ j ∈ Finset.range 8192, ds8 kk vv qq dd ll (mean8 dd oo) c r j * kk d j

/-- What a point adds to a key's and to a value's gradient. -/
def addk (d : Fin 64) (j : ℕ) : ℝ := ∑ m ∈ Finset.range 8, gk kk vv qq dd ll (mean8 dd oo) m d j
def addv (d : Fin 64) (j : ℕ) : ℝ := ∑ m ∈ Finset.range 8, gv kk qq dd ll m d j

variable (c : Dev nD) (t : Fin cfg1.N)
  (hB : Blk kk vv qq dd x0 x1 x2 x3 x6 x7 x8) (ho : ∀ (c : Fin 8) d r, x4 (ix4 0 c d r) = ((oo c r d : ℝ) : EReal))
  (hl : ∀ (c : Fin 8) r x, x5 (ix4 0 c r x) = ((ll c r : ℝ) : EReal))

include hB ho hl in
theorem dk_B (h : ¬ cond1_0 (grid1.coords t)) (o10 o11 : Vec Ideal S1x32x64x256 .f32) (A B : Fin 64 → ℕ → ℝ)
    (h10 : Goodt (gk kk vv qq dd ll (mean8 dd oo)) A 0 ((ms1_10 t).view.read (Elt Ideal) ((hs1_10 t).unread o10)))
    (h11 : Goodt (gv kk qq dd ll) B 0 ((ms1_11 t).view.read (Elt Ideal) ((hs1_11 t).unread o11))) :
    Goodt (gk kk vv qq dd ll (mean8 dd oo)) A 16 (out1_B_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) h x0 x1 x2 x3 x4 x5 x6 x7 x8 o10 o11)
    ∧ Goodt (gv kk qq dd ll) B 16 (out1_B_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) h x0 x1 x2 x3 x4 x5 x6 x7 x8 o10 o11) := by
  unfold out1_B_10 out1_B_11 kernelRun1_B
  dsimp only
  simp only [kernelRun1_B.sl.r, kernelRun1_B.sl.r_1, kernelRun1_B.sl.r_2, kernelRun1_B.sl.r_3, kernelRun1_B.sl.r_4, kernelRun1_B.sl.r_5, kernelRun1_B.sl.r_6, kernelRun1_B.sl.r_7, kernelRun1_B.sl.r_8, kernelRun1_B.sl.r_9, kernelRun1_B.sl.r_10, kernelRun1_B.sl.r_11, kernelRun1_B.sl.r_12, kernelRun1_B.sl.r_13, View.readAt_eq_ld, Memref.IsWhole.read_unread]
  exact (loop8_good hB Variants.none c none (grid1.coords t)
    (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
    _ _ _ _ _ _ _ _ _ _ _ _ _ _ _ _ _ _
    (L_at x5 ll hl 0 _) (D_at x3 x4 dd oo hB.dt ho 0 _) (L_at x5 ll hl 1 _) (D_at x3 x4 dd oo hB.dt ho 1 _)
    (L_at x5 ll hl 2 _) (D_at x3 x4 dd oo hB.dt ho 2 _) (L_at x5 ll hl 3 _) (D_at x3 x4 dd oo hB.dt ho 3 _)
    (L_at x5 ll hl 4 _) (D_at x3 x4 dd oo hB.dt ho 4 _) (L_at x5 ll hl 5 _) (D_at x3 x4 dd oo hB.dt ho 5 _)
    (L_at x5 ll hl 6 _) (D_at x3 x4 dd oo hB.dt ho 6 _) (L_at x5 ll hl 7 _) (D_at x3 x4 dd oo hB.dt ho 7 _)
    ((hs1_10 t).unread o10) ((hs1_11 t).unread o11) A B
    (k1_pay159, k1_pay160, k1_pay161, k1_pay162, k1_pay163, k1_pay164, k1_pay165, k1_pay166) (init_good kk vv qq dd ll _) h10 h11 16 le_rfl).2

include hB ho hl in
theorem dk_A (h : cond1_0 (grid1.coords t)) :
    Goodt (gk kk vv qq dd ll (mean8 dd oo)) (fun _ _ => 0) 16 (out1_A_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) h x0 x1 x2 x3 x4 x5 x6 x7 x8)
    ∧ Goodt (gv kk qq dd ll) (fun _ _ => 0) 16 (out1_A_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) h x0 x1 x2 x3 x4 x5 x6 x7 x8) := by
  have z10 := zero_good (gk kk vv qq dd ll (mean8 dd oo)) (ms1_10 t) (k1_pay141 (F := Ideal)) zero_at
  have z11 := zero_good (gv kk qq dd ll) (ms1_11 t) (k1_pay142 (F := Ideal)) zero_at'
  unfold out1_A_10 out1_A_11 kernelRun1_A
  dsimp only
  unfold Goodt
  simp only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, View.readAt_eq_ld, Memref.IsWhole.read_unread, View.read_writes_junk_apply_eq_canon]
  refine ⟨?_, ?_⟩
  · simp only [← View.read_writes_junk_apply_eq_canon (ms1_10 t).view]
    rw [View.writes_append]
    exact (loop8_good hB Variants.none c none (grid1.coords t)
    (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
    _ _ _ _ _ _ _ _ _ _ _ _ _ _ _ _ _ _
    (L_at x5 ll hl 0 _) (D_at x3 x4 dd oo hB.dt ho 0 _) (L_at x5 ll hl 1 _) (D_at x3 x4 dd oo hB.dt ho 1 _)
    (L_at x5 ll hl 2 _) (D_at x3 x4 dd oo hB.dt ho 2 _) (L_at x5 ll hl 3 _) (D_at x3 x4 dd oo hB.dt ho 3 _)
    (L_at x5 ll hl 4 _) (D_at x3 x4 dd oo hB.dt ho 4 _) (L_at x5 ll hl 5 _) (D_at x3 x4 dd oo hB.dt ho 5 _)
    (L_at x5 ll hl 6 _) (D_at x3 x4 dd oo hB.dt ho 6 _) (L_at x5 ll hl 7 _) (D_at x3 x4 dd oo hB.dt ho 7 _)
    _ _ (fun _ _ => 0) (fun _ _ => 0)
    (k1_pay159, k1_pay160, k1_pay161, k1_pay162, k1_pay163, k1_pay164, k1_pay165, k1_pay166) (init_good kk vv qq dd ll _) z10 z11 16 le_rfl).2.1
  · simp only [← View.read_writes_junk_apply_eq_canon (ms1_11 t).view]
    rw [View.writes_append]
    exact (loop8_good hB Variants.none c none (grid1.coords t)
    (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
    _ _ _ _ _ _ _ _ _ _ _ _ _ _ _ _ _ _
    (L_at x5 ll hl 0 _) (D_at x3 x4 dd oo hB.dt ho 0 _) (L_at x5 ll hl 1 _) (D_at x3 x4 dd oo hB.dt ho 1 _)
    (L_at x5 ll hl 2 _) (D_at x3 x4 dd oo hB.dt ho 2 _) (L_at x5 ll hl 3 _) (D_at x3 x4 dd oo hB.dt ho 3 _)
    (L_at x5 ll hl 4 _) (D_at x3 x4 dd oo hB.dt ho 4 _) (L_at x5 ll hl 5 _) (D_at x3 x4 dd oo hB.dt ho 5 _)
    (L_at x5 ll hl 6 _) (D_at x3 x4 dd oo hB.dt ho 6 _) (L_at x5 ll hl 7 _) (D_at x3 x4 dd oo hB.dt ho 7 _)
    _ _ (fun _ _ => 0) (fun _ _ => 0)
    (k1_pay159, k1_pay160, k1_pay161, k1_pay162, k1_pay163, k1_pay164, k1_pay165, k1_pay166) (init_good kk vv qq dd ll _) z10 z11 16 le_rfl).2.2

include hB ho hl in
set_option maxHeartbeats 1000000 in
theorem dq_A (h : cond1_0 (grid1.coords t)) (n : Fin 8) (d : Fin 64) (r : Fin 256) :
    out1_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) h x0 x1 x2 x3 x4 x5 x6 x7 x8 (ix4 0 n d r) = ((gq kk vv qq dd oo ll n r d : ℝ) : EReal) := by
  have z10 := zero_good (gk kk vv qq dd ll (mean8 dd oo)) (ms1_10 t) (k1_pay141 (F := Ideal)) zero_at
  have z11 := zero_good (gv kk qq dd ll) (ms1_11 t) (k1_pay142 (F := Ideal)) zero_at'
  frame_out
  obtain ⟨h0, h1, h2, h3, h4, h5, h6, h7⟩ := (loop8_good hB Variants.none c none (grid1.coords t)
    (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
    (k1_pay143 (F := Ideal) (View.ld x5 (Rect.unit ![0, 0, 0, 0] ![1, 1, 256, 128] inb_S1x8x256x128_S1x1x256x128_0_0_0_0))) (k1_pay144 (F := Ideal) (View.ld x5 (Rect.unit ![0, 1, 0, 0] ![1, 1, 256, 128] inb_S1x8x256x128_S1x1x256x128_0_1_0_0))) (k1_pay145 (F := Ideal) (View.ld x5 (Rect.unit ![0, 2, 0, 0] ![1, 1, 256, 128] inb_S1x8x256x128_S1x1x256x128_0_2_0_0))) (k1_pay146 (F := Ideal) (View.ld x5 (Rect.unit ![0, 3, 0, 0] ![1, 1, 256, 128] inb_S1x8x256x128_S1x1x256x128_0_3_0_0))) (k1_pay147 (F := Ideal) (View.ld x5 (Rect.unit ![0, 4, 0, 0] ![1, 1, 256, 128] inb_S1x8x256x128_S1x1x256x128_0_4_0_0))) (k1_pay148 (F := Ideal) (View.ld x5 (Rect.unit ![0, 5, 0, 0] ![1, 1, 256, 128] inb_S1x8x256x128_S1x1x256x128_0_5_0_0))) (k1_pay149 (F := Ideal) (View.ld x5 (Rect.unit ![0, 6, 0, 0] ![1, 1, 256, 128] inb_S1x8x256x128_S1x1x256x128_0_6_0_0))) (k1_pay150 (F := Ideal) (View.ld x5 (Rect.unit ![0, 7, 0, 0] ![1, 1, 256, 128] inb_S1x8x256x128_S1x1x256x128_0_7_0_0)))
    (k1_pay151 (F := Ideal) (View.ld x3 (Rect.unit ![0, 0, 0, 0] ![1, 1, 64, 256] inb_S1x8x64x256_S1x1x64x256_0_0_0_0)) (View.ld x4 (Rect.unit ![0, 0, 0, 0] ![1, 1, 64, 256] inb_S1x8x64x256_S1x1x64x256_0_0_0_0))) (k1_pay152 (F := Ideal) (View.ld x3 (Rect.unit ![0, 1, 0, 0] ![1, 1, 64, 256] inb_S1x8x64x256_S1x1x64x256_0_1_0_0)) (View.ld x4 (Rect.unit ![0, 1, 0, 0] ![1, 1, 64, 256] inb_S1x8x64x256_S1x1x64x256_0_1_0_0))) (k1_pay153 (F := Ideal) (View.ld x3 (Rect.unit ![0, 2, 0, 0] ![1, 1, 64, 256] inb_S1x8x64x256_S1x1x64x256_0_2_0_0)) (View.ld x4 (Rect.unit ![0, 2, 0, 0] ![1, 1, 64, 256] inb_S1x8x64x256_S1x1x64x256_0_2_0_0))) (k1_pay154 (F := Ideal) (View.ld x3 (Rect.unit ![0, 3, 0, 0] ![1, 1, 64, 256] inb_S1x8x64x256_S1x1x64x256_0_3_0_0)) (View.ld x4 (Rect.unit ![0, 3, 0, 0] ![1, 1, 64, 256] inb_S1x8x64x256_S1x1x64x256_0_3_0_0))) (k1_pay155 (F := Ideal) (View.ld x3 (Rect.unit ![0, 4, 0, 0] ![1, 1, 64, 256] inb_S1x8x64x256_S1x1x64x256_0_4_0_0)) (View.ld x4 (Rect.unit ![0, 4, 0, 0] ![1, 1, 64, 256] inb_S1x8x64x256_S1x1x64x256_0_4_0_0))) (k1_pay156 (F := Ideal) (View.ld x3 (Rect.unit ![0, 5, 0, 0] ![1, 1, 64, 256] inb_S1x8x64x256_S1x1x64x256_0_5_0_0)) (View.ld x4 (Rect.unit ![0, 5, 0, 0] ![1, 1, 64, 256] inb_S1x8x64x256_S1x1x64x256_0_5_0_0)))
    (View.ld x3 (Rect.unit ![0, 6, 0, 0] ![1, 1, 64, 256] inb_S1x8x64x256_S1x1x64x256_0_6_0_0)) (View.ld x4 (Rect.unit ![0, 6, 0, 0] ![1, 1, 64, 256] inb_S1x8x64x256_S1x1x64x256_0_6_0_0)) (View.ld x3 (Rect.unit ![0, 7, 0, 0] ![1, 1, 64, 256] inb_S1x8x64x256_S1x1x64x256_0_7_0_0)) (View.ld x4 (Rect.unit ![0, 7, 0, 0] ![1, 1, 64, 256] inb_S1x8x64x256_S1x1x64x256_0_7_0_0))
    (L_at x5 ll hl 0 _) (D_at x3 x4 dd oo hB.dt ho 0 _) (L_at x5 ll hl 1 _) (D_at x3 x4 dd oo hB.dt ho 1 _)
    (L_at x5 ll hl 2 _) (D_at x3 x4 dd oo hB.dt ho 2 _) (L_at x5 ll hl 3 _) (D_at x3 x4 dd oo hB.dt ho 3 _)
    (L_at x5 ll hl 4 _) (D_at x3 x4 dd oo hB.dt ho 4 _) (L_at x5 ll hl 5 _) (D_at x3 x4 dd oo hB.dt ho 5 _)
    (L_at x5 ll hl 6 _) (D_at x3 x4 dd oo hB.dt ho 6 _) (L_at x5 ll hl 7 _) (D_at x3 x4 dd oo hB.dt ho 7 _)
    ((ms1_10 t).view.writes (Elt Ideal) (ms1_10 t).view.junk [⟨Rect.unit ![0, 0, 0, 0] S1x32x64x256.size inb_S1x32x64x256_S1x32x64x256_0_0_0_0, k1_pay141 (F := Ideal)⟩]) ((ms1_11 t).view.writes (Elt Ideal) (ms1_11 t).view.junk [⟨Rect.unit ![0, 0, 0, 0] S1x32x64x256.size inb_S1x32x64x256_S1x32x64x256_0_0_0_0, k1_pay142 (F := Ideal)⟩]) (fun _ _ => 0) (fun _ _ => 0)
    (k1_pay159 (F := Ideal), k1_pay160, k1_pay161, k1_pay162, k1_pay163, k1_pay164, k1_pay165, k1_pay166) (init_good kk vv qq dd ll _) z10 z11 16 le_rfl).1
  refine View.canon_eq_of_allAt _ _ _ (View.cover_of_tiled_head _ _ _ rfl _) ?_
  refine View.allAt_cons_unit _ _ _ _ _ (tile_q (c := 7) _ (fun n d r => ((gq kk vv qq dd oo ll n r d : ℝ) : EReal)) fun d r => (dqT_at _ d r).trans (h7 r d)) ?_
  refine View.allAt_cons_unit _ _ _ _ _ (tile_q (c := 6) _ (fun n d r => ((gq kk vv qq dd oo ll n r d : ℝ) : EReal)) fun d r => (dqT_at _ d r).trans (h6 r d)) ?_
  refine View.allAt_cons_unit _ _ _ _ _ (tile_q (c := 5) _ (fun n d r => ((gq kk vv qq dd oo ll n r d : ℝ) : EReal)) fun d r => (dqT_at _ d r).trans (h5 r d)) ?_
  refine View.allAt_cons_unit _ _ _ _ _ (tile_q (c := 4) _ (fun n d r => ((gq kk vv qq dd oo ll n r d : ℝ) : EReal)) fun d r => (dqT_at _ d r).trans (h4 r d)) ?_
  refine View.allAt_cons_unit _ _ _ _ _ (tile_q (c := 3) _ (fun n d r => ((gq kk vv qq dd oo ll n r d : ℝ) : EReal)) fun d r => (dqT_at _ d r).trans (h3 r d)) ?_
  refine View.allAt_cons_unit _ _ _ _ _ (tile_q (c := 2) _ (fun n d r => ((gq kk vv qq dd oo ll n r d : ℝ) : EReal)) fun d r => (dqT_at _ d r).trans (h2 r d)) ?_
  refine View.allAt_cons_unit _ _ _ _ _ (tile_q (c := 1) _ (fun n d r => ((gq kk vv qq dd oo ll n r d : ℝ) : EReal)) fun d r => (dqT_at _ d r).trans (h1 r d)) ?_
  refine View.allAt_cons_unit _ _ _ _ _ (tile_q (c := 0) _ (fun n d r => ((gq kk vv qq dd oo ll n r d : ℝ) : EReal)) fun d r => (dqT_at _ d r).trans (h0 r d)) ?_
  exact View.allAt_nil _ _

include hB ho hl in
set_option maxHeartbeats 1000000 in
theorem dq_B (h : ¬ cond1_0 (grid1.coords t)) (o10 o11 : Vec Ideal S1x32x64x256 .f32) (A B : Fin 64 → ℕ → ℝ)
    (h10 : Goodt (gk kk vv qq dd ll (mean8 dd oo)) A 0 ((ms1_10 t).view.read (Elt Ideal) ((hs1_10 t).unread o10)))
    (h11 : Goodt (gv kk qq dd ll) B 0 ((ms1_11 t).view.read (Elt Ideal) ((hs1_11 t).unread o11))) (n : Fin 8) (d : Fin 64) (r : Fin 256) :
    out1_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) h x0 x1 x2 x3 x4 x5 x6 x7 x8 o10 o11 (ix4 0 n d r) = ((gq kk vv qq dd oo ll n r d : ℝ) : EReal) := by
  frame_out
  obtain ⟨h0, h1, h2, h3, h4, h5, h6, h7⟩ := (loop8_good hB Variants.none c none (grid1.coords t)
    (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
    (k1_pay143 (F := Ideal) (View.ld x5 (Rect.unit ![0, 0, 0, 0] ![1, 1, 256, 128] inb_S1x8x256x128_S1x1x256x128_0_0_0_0))) (k1_pay144 (F := Ideal) (View.ld x5 (Rect.unit ![0, 1, 0, 0] ![1, 1, 256, 128] inb_S1x8x256x128_S1x1x256x128_0_1_0_0))) (k1_pay145 (F := Ideal) (View.ld x5 (Rect.unit ![0, 2, 0, 0] ![1, 1, 256, 128] inb_S1x8x256x128_S1x1x256x128_0_2_0_0))) (k1_pay146 (F := Ideal) (View.ld x5 (Rect.unit ![0, 3, 0, 0] ![1, 1, 256, 128] inb_S1x8x256x128_S1x1x256x128_0_3_0_0))) (k1_pay147 (F := Ideal) (View.ld x5 (Rect.unit ![0, 4, 0, 0] ![1, 1, 256, 128] inb_S1x8x256x128_S1x1x256x128_0_4_0_0))) (k1_pay148 (F := Ideal) (View.ld x5 (Rect.unit ![0, 5, 0, 0] ![1, 1, 256, 128] inb_S1x8x256x128_S1x1x256x128_0_5_0_0))) (k1_pay149 (F := Ideal) (View.ld x5 (Rect.unit ![0, 6, 0, 0] ![1, 1, 256, 128] inb_S1x8x256x128_S1x1x256x128_0_6_0_0))) (k1_pay150 (F := Ideal) (View.ld x5 (Rect.unit ![0, 7, 0, 0] ![1, 1, 256, 128] inb_S1x8x256x128_S1x1x256x128_0_7_0_0)))
    (k1_pay151 (F := Ideal) (View.ld x3 (Rect.unit ![0, 0, 0, 0] ![1, 1, 64, 256] inb_S1x8x64x256_S1x1x64x256_0_0_0_0)) (View.ld x4 (Rect.unit ![0, 0, 0, 0] ![1, 1, 64, 256] inb_S1x8x64x256_S1x1x64x256_0_0_0_0))) (k1_pay152 (F := Ideal) (View.ld x3 (Rect.unit ![0, 1, 0, 0] ![1, 1, 64, 256] inb_S1x8x64x256_S1x1x64x256_0_1_0_0)) (View.ld x4 (Rect.unit ![0, 1, 0, 0] ![1, 1, 64, 256] inb_S1x8x64x256_S1x1x64x256_0_1_0_0))) (k1_pay153 (F := Ideal) (View.ld x3 (Rect.unit ![0, 2, 0, 0] ![1, 1, 64, 256] inb_S1x8x64x256_S1x1x64x256_0_2_0_0)) (View.ld x4 (Rect.unit ![0, 2, 0, 0] ![1, 1, 64, 256] inb_S1x8x64x256_S1x1x64x256_0_2_0_0))) (k1_pay154 (F := Ideal) (View.ld x3 (Rect.unit ![0, 3, 0, 0] ![1, 1, 64, 256] inb_S1x8x64x256_S1x1x64x256_0_3_0_0)) (View.ld x4 (Rect.unit ![0, 3, 0, 0] ![1, 1, 64, 256] inb_S1x8x64x256_S1x1x64x256_0_3_0_0))) (k1_pay155 (F := Ideal) (View.ld x3 (Rect.unit ![0, 4, 0, 0] ![1, 1, 64, 256] inb_S1x8x64x256_S1x1x64x256_0_4_0_0)) (View.ld x4 (Rect.unit ![0, 4, 0, 0] ![1, 1, 64, 256] inb_S1x8x64x256_S1x1x64x256_0_4_0_0))) (k1_pay156 (F := Ideal) (View.ld x3 (Rect.unit ![0, 5, 0, 0] ![1, 1, 64, 256] inb_S1x8x64x256_S1x1x64x256_0_5_0_0)) (View.ld x4 (Rect.unit ![0, 5, 0, 0] ![1, 1, 64, 256] inb_S1x8x64x256_S1x1x64x256_0_5_0_0)))
    (View.ld x3 (Rect.unit ![0, 6, 0, 0] ![1, 1, 64, 256] inb_S1x8x64x256_S1x1x64x256_0_6_0_0)) (View.ld x4 (Rect.unit ![0, 6, 0, 0] ![1, 1, 64, 256] inb_S1x8x64x256_S1x1x64x256_0_6_0_0)) (View.ld x3 (Rect.unit ![0, 7, 0, 0] ![1, 1, 64, 256] inb_S1x8x64x256_S1x1x64x256_0_7_0_0)) (View.ld x4 (Rect.unit ![0, 7, 0, 0] ![1, 1, 64, 256] inb_S1x8x64x256_S1x1x64x256_0_7_0_0))
    (L_at x5 ll hl 0 _) (D_at x3 x4 dd oo hB.dt ho 0 _) (L_at x5 ll hl 1 _) (D_at x3 x4 dd oo hB.dt ho 1 _)
    (L_at x5 ll hl 2 _) (D_at x3 x4 dd oo hB.dt ho 2 _) (L_at x5 ll hl 3 _) (D_at x3 x4 dd oo hB.dt ho 3 _)
    (L_at x5 ll hl 4 _) (D_at x3 x4 dd oo hB.dt ho 4 _) (L_at x5 ll hl 5 _) (D_at x3 x4 dd oo hB.dt ho 5 _)
    (L_at x5 ll hl 6 _) (D_at x3 x4 dd oo hB.dt ho 6 _) (L_at x5 ll hl 7 _) (D_at x3 x4 dd oo hB.dt ho 7 _)
    ((hs1_10 t).unread o10) ((hs1_11 t).unread o11) A B
    (k1_pay159 (F := Ideal), k1_pay160, k1_pay161, k1_pay162, k1_pay163, k1_pay164, k1_pay165, k1_pay166) (init_good kk vv qq dd ll _) h10 h11 16 le_rfl).1
  refine View.canon_eq_of_allAt _ _ _ (View.cover_of_tiled_head _ _ _ rfl _) ?_
  refine View.allAt_cons_unit _ _ _ _ _ (tile_q (c := 7) _ (fun n d r => ((gq kk vv qq dd oo ll n r d : ℝ) : EReal)) fun d r => (dqT_at _ d r).trans (h7 r d)) ?_
  refine View.allAt_cons_unit _ _ _ _ _ (tile_q (c := 6) _ (fun n d r => ((gq kk vv qq dd oo ll n r d : ℝ) : EReal)) fun d r => (dqT_at _ d r).trans (h6 r d)) ?_
  refine View.allAt_cons_unit _ _ _ _ _ (tile_q (c := 5) _ (fun n d r => ((gq kk vv qq dd oo ll n r d : ℝ) : EReal)) fun d r => (dqT_at _ d r).trans (h5 r d)) ?_
  refine View.allAt_cons_unit _ _ _ _ _ (tile_q (c := 4) _ (fun n d r => ((gq kk vv qq dd oo ll n r d : ℝ) : EReal)) fun d r => (dqT_at _ d r).trans (h4 r d)) ?_
  refine View.allAt_cons_unit _ _ _ _ _ (tile_q (c := 3) _ (fun n d r => ((gq kk vv qq dd oo ll n r d : ℝ) : EReal)) fun d r => (dqT_at _ d r).trans (h3 r d)) ?_
  refine View.allAt_cons_unit _ _ _ _ _ (tile_q (c := 2) _ (fun n d r => ((gq kk vv qq dd oo ll n r d : ℝ) : EReal)) fun d r => (dqT_at _ d r).trans (h2 r d)) ?_
  refine View.allAt_cons_unit _ _ _ _ _ (tile_q (c := 1) _ (fun n d r => ((gq kk vv qq dd oo ll n r d : ℝ) : EReal)) fun d r => (dqT_at _ d r).trans (h1 r d)) ?_
  refine View.allAt_cons_unit _ _ _ _ _ (tile_q (c := 0) _ (fun n d r => ((gq kk vv qq dd oo ll n r d : ℝ) : EReal)) fun d r => (dqT_at _ d r).trans (h0 r d)) ?_
  exact View.allAt_nil _ _

end
end Cert.AttDxIdeal.Sums
-- ==== Proof.AttBwdArr.lean ====
/- The backward attention call's arrays: from the arguments' real values, the three gradients. -/
module

public import proofs.«01_k».proof.Proof.AttFwdArr
public import proofs.«01_k».proof.Proof.AttBwdOut

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

theorem idx1 : ∀ t : Fin cfg1.N, win1_0.index t = ![t.val / 16, t.val % 16, 0, 0] ∧ win1_1.index t = ![t.val / 16, t.val % 16, 0, 0]
  ∧ win1_2.index t = ![t.val / 16, t.val % 16, 0, 0] ∧ win1_3.index t = ![t.val / 16, t.val % 16, 0, 0]
  ∧ win1_4.index t = ![t.val / 16, t.val % 16, 0, 0] ∧ win1_5.index t = ![t.val / 16, t.val % 16, 0, 0]
  ∧ win1_6.index t = ![t.val / 16, 0, 0] ∧ win1_7.index t = ![t.val / 16, 0, 0, 0] ∧ win1_8.index t = ![t.val / 16, 0, 0, 0]
  ∧ win1_9.index t = ![t.val / 16, t.val % 16, 0, 0] ∧ win1_10.index t = ![t.val / 16, 0, 0, 0] ∧ win1_11.index t = ![t.val / 16, 0, 0, 0] := by decide +kernel

section
variable (V : (c : Dev nD) → (b : Ref sig .tc) → Buf (Elt Ideal) ((c : Thread nD τ).loc b)) (c : Dev nD) (t : Fin cfg1.N)
  (K : Fin 2 → ℕ → Fin 64 → ℝ) (W : Fin 2 → Fin 64 → ℕ → ℝ) (Q D : Fin 2 → Fin 128 → Fin 256 → Fin 64 → ℝ)

/-- The arrays the call reads hold the arguments' reals, and what the forward call saved. -/
structure Ins : Prop where
  qs : ∀ g s r (d : Fin 128), V c main_v10 (ix4 g s r d) = if h : d.val < 64 then ((Q g s r ⟨d.val, h⟩ : ℝ) : EReal) else 0
  qt : ∀ g s d r, V c main_v5 (ix4 g s d r) = ((Q g s r d : ℝ) : EReal)
  ds : ∀ g s r (d : Fin 128), V c main_v19 (ix4 g s r d) = if h : d.val < 64 then ((D g s r ⟨d.val, h⟩ : ℝ) : EReal) else 0
  dt : ∀ g s d r, V c main_v14 (ix4 g s d r) = ((D g s r d : ℝ) : EReal)
  os : ∀ g s d r, V c main_v31_0 (ix4 g s d r) = ((oo K W Q g s d r : ℝ) : EReal)
  ls : ∀ g s r x, V c main_v31_1 (ix4 g s r x) = ((Real.log (zz K Q g s r) : ℝ) : EReal)
  ks : ∀ g (j : Fin 8192) (d : Fin 128), V c main_v24 (ix3 g j d) = if h : d.val < 64 then ((K g j ⟨d.val, h⟩ : ℝ) : EReal) else 0
  kt : ∀ g (n : Fin 32) d (r : Fin 256), V c main_v27 (ix4 g n d r) = ((K g (256 * n + r) d : ℝ) : EReal)
  vt : ∀ g (n : Fin 32) d (r : Fin 256), V c main_v30 (ix4 g n d r) = ((W g d (256 * n + r) : ℝ) : EReal)

variable (hg : t.val / 16 < 2)

/-- A point's strips among the group's. -/
def strip (n : Fin 8) : Fin 128 := ⟨8 * (t.val % 16) + n.val, by omega⟩

theorem blk1_0 : ∀ (n : Fin 8) r d, (iblk1 V c 0 t : Vec Ideal S1x8x256x128 .bf16) (ix4 0 n r d)
    = V c main_v10 (ix4 ⟨t.val / 16, hg⟩ (strip t n) r d) := by
  intro n r d; unfold iblk1 strip; blk_ext [idx1 t]

theorem blk1_1 : ∀ (n : Fin 8) d r, (iblk1 V c 1 t : Vec Ideal S1x8x64x256 .bf16) (ix4 0 n d r)
    = V c main_v5 (ix4 ⟨t.val / 16, hg⟩ (strip t n) d r) := by
  intro n d r; unfold iblk1 strip; blk_ext [idx1 t]

theorem blk1_2 : ∀ (n : Fin 8) r d, (iblk1 V c 2 t : Vec Ideal S1x8x256x128 .bf16) (ix4 0 n r d)
    = V c main_v19 (ix4 ⟨t.val / 16, hg⟩ (strip t n) r d) := by
  intro n r d; unfold iblk1 strip; blk_ext [idx1 t]

theorem blk1_3 : ∀ (n : Fin 8) d r, (iblk1 V c 3 t : Vec Ideal S1x8x64x256 .bf16) (ix4 0 n d r)
    = V c main_v14 (ix4 ⟨t.val / 16, hg⟩ (strip t n) d r) := by
  intro n d r; unfold iblk1 strip; blk_ext [idx1 t]

theorem blk1_6 : ∀ j d, (iblk1 V c 6 t : Vec Ideal S1x8192x128 .bf16) (ix3 0 j d)
    = V c main_v24 (ix3 ⟨t.val / 16, hg⟩ j d) := by
  intro j d; unfold iblk1; blk_ext [idx1 t]

theorem blk1_7 : ∀ n d r, (iblk1 V c 7 t : Vec Ideal S1x32x64x256 .bf16) (ix4 0 n d r)
    = V c main_v27 (ix4 ⟨t.val / 16, hg⟩ n d r) := by
  intro n d r; unfold iblk1; blk_ext [idx1 t]

theorem blk1_8 : ∀ n d r, (iblk1 V c 8 t : Vec Ideal S1x32x64x256 .bf16) (ix4 0 n d r)
    = V c main_v30 (ix4 ⟨t.val / 16, hg⟩ n d r) := by
  intro n d r; unfold iblk1; blk_ext [idx1 t]

variable {V c K W Q D}

theorem blocks (h : Ins V c K W Q D) :
    Blk (fun d j => K ⟨t.val / 16, hg⟩ j d) (W ⟨t.val / 16, hg⟩) (fun n => Q ⟨t.val / 16, hg⟩ (strip t n)) (fun n => D ⟨t.val / 16, hg⟩ (strip t n))
      (iblk1 V c 0 t) (iblk1 V c 1 t) (iblk1 V c 2 t) (iblk1 V c 3 t) (iblk1 V c 6 t) (iblk1 V c 7 t) (iblk1 V c 8 t) := by
  exact ⟨fun n r d => (blk1_0 V c t hg n r d).trans (h.qs _ _ r d), fun n d r => (blk1_1 V c t hg n d r).trans (h.qt _ _ d r),
    fun n r d => (blk1_2 V c t hg n r d).trans (h.ds _ _ r d), fun n d r => (blk1_3 V c t hg n d r).trans (h.dt _ _ d r),
    fun j d => (blk1_6 V c t hg j d).trans (h.ks _ j d), fun n d r => (blk1_7 V c t hg n d r).trans (h.kt _ n d r), fun n d r => (blk1_8 V c t hg n d r).trans (h.vt _ n d r)⟩

theorem block_o (h : Ins V c K W Q D) (n : Fin 8) (d : Fin 64) (r : Fin 256) :
    (iblk1 V c 4 t : Vec Ideal S1x8x64x256 .f32) (ix4 0 n d r) = ((oo K W Q ⟨t.val / 16, hg⟩ (strip t n) d r : ℝ) : EReal) := by
  have e : (iblk1 V c 4 t : Vec Ideal S1x8x64x256 .f32) (ix4 0 n d r) = V c main_v31_0 (ix4 ⟨t.val / 16, hg⟩ (strip t n) d r) := by
    unfold iblk1 strip; blk_ext [idx1 t]
  exact e.trans (h.os _ _ d r)

theorem block_l (h : Ins V c K W Q D) (n : Fin 8) (r : Fin 256) (x : Fin 128) :
    (iblk1 V c 5 t : Vec Ideal S1x8x256x128 .f32) (ix4 0 n r x) = ((Real.log (zz K Q ⟨t.val / 16, hg⟩ (strip t n) r) : ℝ) : EReal) := by
  have e : (iblk1 V c 5 t : Vec Ideal S1x8x256x128 .f32) (ix4 0 n r x) = V c main_v31_1 (ix4 ⟨t.val / 16, hg⟩ (strip t n) r x) := by
    unfold iblk1 strip; blk_ext [idx1 t]
  exact e.trans (h.ls _ _ r x)

variable (K W Q D)

/-- The gradient of a score. -/
def dS (g : Fin 2) (s : Fin 128) (r : Fin 256) (j : ℕ) : ℝ :=
  Real.exp (sc K Q g s r j - Real.log (zz K Q g s r)) * ((∑ d, W g d j * D g s r d) - ∑ d, D g s r d * oo K W Q g s d r)

/-- The queries' gradient, -/
def dq (g : Fin 2) (s : Fin 128) (d : Fin 64) (r : Fin 256) : ℝ := ∑ j ∈ Finset.range 8192, dS K W Q D g s r j * K g j d

/-- what a strip adds to the keys' and to the values' gradients, -/
def dk1 (g : Fin 2) (d : Fin 64) (j s : ℕ) : ℝ := if h : s < 128 then ∑ r, Q g ⟨s, h⟩ r d * dS K W Q D g ⟨s, h⟩ r j else 0
def dv1 (g : Fin 2) (d : Fin 64) (j s : ℕ) : ℝ :=
  if h : s < 128 then ∑ r, D g ⟨s, h⟩ r d * Real.exp (sc K Q g ⟨s, h⟩ r j - Real.log (zz K Q g ⟨s, h⟩ r)) else 0

/-- and those gradients. -/
def dk (g : Fin 2) (d : Fin 64) (j : ℕ) : ℝ := ∑ s ∈ Finset.range 128, dk1 K W Q D g d j s
def dv (g : Fin 2) (d : Fin 64) (j : ℕ) : ℝ := ∑ s ∈ Finset.range 128, dv1 K Q D g d j s

theorem gk_eq (d : Fin 64) (j m : ℕ) (hm : m < 8) :
    gk (fun d j => K ⟨t.val / 16, hg⟩ j d) (W ⟨t.val / 16, hg⟩) (fun n => Q ⟨t.val / 16, hg⟩ (strip t n)) (fun n => D ⟨t.val / 16, hg⟩ (strip t n))
      (fun n r => Real.log (zz K Q ⟨t.val / 16, hg⟩ (strip t n) r))
      (mean8 (fun n => D ⟨t.val / 16, hg⟩ (strip t n)) (fun n r d => oo K W Q ⟨t.val / 16, hg⟩ (strip t n) d r)) m d j
      = dk1 K W Q D ⟨t.val / 16, hg⟩ d j (8 * (t.val % 16) + m) := by
  have e : strip t (Fin.ofNat 8 m) = ⟨8 * (t.val % 16) + m, by omega⟩ := Fin.ext (by simp [strip, Nat.mod_eq_of_lt hm])
  unfold gk dk1 ds8 dsr dS sc8 sc mean8
  rw [dif_pos (by omega)]
  simp only [e]

theorem gv_eq (d : Fin 64) (j m : ℕ) (hm : m < 8) :
    gv (fun d j => K ⟨t.val / 16, hg⟩ j d) (fun n => Q ⟨t.val / 16, hg⟩ (strip t n)) (fun n => D ⟨t.val / 16, hg⟩ (strip t n))
      (fun n r => Real.log (zz K Q ⟨t.val / 16, hg⟩ (strip t n) r)) m d j
      = dv1 K Q D ⟨t.val / 16, hg⟩ d j (8 * (t.val % 16) + m) := by
  have e : strip t (Fin.ofNat 8 m) = ⟨8 * (t.val % 16) + m, by omega⟩ := Fin.ext (by simp [strip, Nat.mod_eq_of_lt hm])
  unfold gv dv1 sc8 sc
  rw [dif_pos (by omega)]
  simp only [e]

variable {K W Q D}

/-- A buffer that gains a point's eight strips over the first `8 i` ones. -/
theorem gain (X : ℕ → Fin 64 → ℕ → ℝ) (F : Fin 64 → ℕ → ℕ → ℝ) (i : ℕ) (hX : ∀ d j m, m < 8 → X m d j = F d j (8 * i + m))
    (A : Fin 64 → ℕ → ℝ) (hA : ∀ d j, A d j = ∑ s ∈ Finset.range (8 * i), F d j s) (x : Vec Ideal S1x32x64x256 .f32) (h : Goodt X A 16 x)
    (n : Fin 32) (d : Fin 64) (r : Fin 256) :
    x (ix4 0 n d r) = ((∑ s ∈ Finset.range (8 * (i + 1)), F d (256 * n + r) s : ℝ) : EReal) := by
  rw [h n d r, if_pos (by omega), hA, Nat.mul_succ, Finset.sum_range_add]
  congr 2
  exact Finset.sum_congr rfl fun m hm => hX d _ m (Finset.mem_range.mp hm)

theorem outs_congr (V : (c : Dev nD) → (b : Ref sig .tc) → Buf (Elt Ideal) ((c : Thread nD τ).loc b)) (c : Dev nD) (a b : ℕ) (e : a = b) (ha : a < cfg1.N) (hb : b < cfg1.N) :
    outsAt1 V c a ha = outsAt1 V c b hb := by subst e; rfl

section
variable (h : Ins V c K W Q D)
include h

/-- The first point of a group, -/
theorem first (h0 : t.val % 16 = 0) (n : Fin 32) (d : Fin 64) (r : Fin 256) :
    (outsAt1 V c t.val t.isLt).2.1 (ix4 0 n d r) = ((∑ s ∈ Finset.range (8 * (0 + 1)), dk1 K W Q D ⟨t.val / 16, hg⟩ d (256 * n + r) s : ℝ) : EReal)
    ∧ (outsAt1 V c t.val t.isLt).2.2 (ix4 0 n d r) = ((∑ s ∈ Finset.range (8 * (0 + 1)), dv1 K Q D ⟨t.val / 16, hg⟩ d (256 * n + r) s : ℝ) : EReal) := by
  rw [outsAt1_A V c t h0]
  dsimp only
  obtain ⟨h1, h2⟩ := dk_A (c := c) (hB := blocks t hg h) (ho := block_o t hg h) (hl := block_l t hg h) (h := (hcond1_0 t).mpr h0)
  exact ⟨gain _ (dk1 K W Q D ⟨t.val / 16, hg⟩) 0 (fun d j m hm => (gk_eq t K W Q D hg d j m hm).trans (by rw [h0])) _ (fun d j => by simp) _ h1 n d r,
    gain _ (dv1 K Q D ⟨t.val / 16, hg⟩) 0 (fun d j m hm => (gv_eq t K Q D hg d j m hm).trans (by rw [h0])) _ (fun d j => by simp) _ h2 n d r⟩

/-- and a later one. -/
theorem later (h0 : ¬ t.val % 16 = 0)
    (hp : ∀ (n : Fin 32) (d : Fin 64) (r : Fin 256),
    (outsAt1 V c (t.val - 1) (Nat.lt_of_le_of_lt (Nat.sub_le _ _) t.isLt)).2.1 (ix4 0 n d r) = ((∑ s ∈ Finset.range (8 * (t.val % 16)), dk1 K W Q D ⟨t.val / 16, hg⟩ d (256 * n + r) s : ℝ) : EReal)
    ∧ (outsAt1 V c (t.val - 1) (Nat.lt_of_le_of_lt (Nat.sub_le _ _) t.isLt)).2.2 (ix4 0 n d r) = ((∑ s ∈ Finset.range (8 * (t.val % 16)), dv1 K Q D ⟨t.val / 16, hg⟩ d (256 * n + r) s : ℝ) : EReal))
    (n : Fin 32) (d : Fin 64) (r : Fin 256) :
    (outsAt1 V c t.val t.isLt).2.1 (ix4 0 n d r) = ((∑ s ∈ Finset.range (8 * (t.val % 16 + 1)), dk1 K W Q D ⟨t.val / 16, hg⟩ d (256 * n + r) s : ℝ) : EReal)
    ∧ (outsAt1 V c t.val t.isLt).2.2 (ix4 0 n d r) = ((∑ s ∈ Finset.range (8 * (t.val % 16 + 1)), dv1 K Q D ⟨t.val / 16, hg⟩ d (256 * n + r) s : ℝ) : EReal) := by
  rw [outsAt1_B V c t h0]
  dsimp only
  obtain ⟨h1, h2⟩ := dk_B (c := c) (hB := blocks t hg h) (ho := block_o t hg h) (hl := block_l t hg h) (h := fun q => h0 ((hcond1_0 t).mp q))
    (o10 := (outsAt1 V c (t.val - 1) (Nat.lt_of_le_of_lt (Nat.sub_le _ _) t.isLt)).2.1) (o11 := (outsAt1 V c (t.val - 1) (Nat.lt_of_le_of_lt (Nat.sub_le _ _) t.isLt)).2.2)
    (A := fun d j => ∑ s ∈ Finset.range (8 * (t.val % 16)), dk1 K W Q D ⟨t.val / 16, hg⟩ d j s)
    (B := fun d j => ∑ s ∈ Finset.range (8 * (t.val % 16)), dv1 K Q D ⟨t.val / 16, hg⟩ d j s)
    (h10 := fun n d r => by rw [Memref.IsWhole.read_unread, (hp n d r).1, if_neg (by omega)])
    (h11 := fun n d r => by rw [Memref.IsWhole.read_unread, (hp n d r).2, if_neg (by omega)])
  exact ⟨gain _ (dk1 K W Q D ⟨t.val / 16, hg⟩) _ (fun d j m hm => gk_eq t K W Q D hg d j m hm) _ (fun d j => rfl) _ h1 n d r,
    gain _ (dv1 K Q D ⟨t.val / 16, hg⟩) _ (fun d j m hm => gv_eq t K Q D hg d j m hm) _ (fun d j => rfl) _ h2 n d r⟩

theorem acc (g : ℕ) (hg : g < 2) : ∀ (i : ℕ) (_ : i < 16) (hN : 16 * g + i < cfg1.N) (n : Fin 32) (d : Fin 64) (r : Fin 256),
    (outsAt1 V c (16 * g + i) hN).2.1 (ix4 0 n d r) = ((∑ s ∈ Finset.range (8 * (i + 1)), dk1 K W Q D ⟨g, hg⟩ d (256 * n + r) s : ℝ) : EReal)
    ∧ (outsAt1 V c (16 * g + i) hN).2.2 (ix4 0 n d r) = ((∑ s ∈ Finset.range (8 * (i + 1)), dv1 K Q D ⟨g, hg⟩ d (256 * n + r) s : ℝ) : EReal)
  | 0, hi, hN, n, d, r => by
    have hd : (⟨(16 * g + 0) / 16, by omega⟩ : Fin 2) = ⟨g, hg⟩ := Fin.ext (by dsimp only; omega)
    have := first ⟨16 * g + 0, hN⟩ (by dsimp only; omega) h (by dsimp only; omega) n d r
    rw [hd] at this
    exact this
  | i + 1, hi, hN, n, d, r => by
    have hd : (⟨(16 * g + (i + 1)) / 16, by omega⟩ : Fin 2) = ⟨g, hg⟩ := Fin.ext (by dsimp only; omega)
    have hm : (16 * g + (i + 1)) % 16 = i + 1 := by omega
    have ih := acc g hg i (by omega) (by have : cfg1.N = 32 := rfl; omega)
    have := later ⟨16 * g + (i + 1), hN⟩ (by dsimp only; omega) h (by dsimp only; omega)
      (by dsimp only; rw [hd, hm]; exact ih) n d r
    dsimp only at this
    rw [hd, hm] at this
    exact this

theorem outs_q (n : Fin 8) (d : Fin 64) (r : Fin 256) :
    (outsAt1 V c t.val t.isLt).1 (ix4 0 n d r) = ((dq K W Q D ⟨t.val / 16, hg⟩ (strip t n) d r : ℝ) : EReal) := by
  by_cases h0 : t.val % 16 = 0
  · rw [outsAt1_A V c t h0]
    dsimp only
    refine (dq_A (c := c) (hB := blocks t hg h) (ho := block_o t hg h) (hl := block_l t hg h) (h := (hcond1_0 t).mpr h0) (n := n) (d := d) (r := r)).trans ?_
    rfl
  · obtain ⟨g, i, hg', hi, e⟩ : ∃ g i, g < 2 ∧ i + 1 < 16 ∧ t.val = 16 * g + (i + 1) := ⟨t.val / 16, t.val % 16 - 1, hg, by omega, by omega⟩
    have hN : cfg1.N = 32 := rfl
    have ih := acc (h := h) g hg' i (by omega) (by omega)
    have e1 : t.val - 1 = 16 * g + i := by omega
    rw [← outs_congr V c _ _ e1 (by omega) (by omega)] at ih
    rw [outsAt1_B V c t h0]
    dsimp only
    refine (dq_B (c := c) (hB := blocks t hg h) (ho := block_o t hg h) (hl := block_l t hg h) (h := fun q => h0 ((hcond1_0 t).mp q))
      (A := fun d j => ∑ s ∈ Finset.range (8 * (i + 1)), dk1 K W Q D ⟨g, hg'⟩ d j s)
      (B := fun d j => ∑ s ∈ Finset.range (8 * (i + 1)), dv1 K Q D ⟨g, hg'⟩ d j s)
      (h10 := fun n d r => by
        rw [Memref.IsWhole.read_unread, if_neg (by omega)]; exact (ih n d r).1)
      (h11 := fun n d r => by
        rw [Memref.IsWhole.read_unread, if_neg (by omega)]; exact (ih n d r).2) (n := n) (d := d) (r := r)).trans ?_
    rfl
variable (K W Q D) in
/-- The three arrays, -/
def dqArr : Vec Ideal S2x128x64x256 .f32 := fun y => ((dq K W Q D (y 0) (y 1) (y 2) (y 3) : ℝ) : EReal)

variable (K W Q D) in
def dkArr : Vec Ideal S2x32x64x256 .f32 := fun y => ((dk K W Q D (y 0) (y 2) (256 * (y 1).val + (y 3).val) : ℝ) : EReal)

variable (K W Q D) in
def dvArr : Vec Ideal S2x32x64x256 .f32 := fun y => ((dv K Q D (y 0) (y 2) (256 * (y 1).val + (y 3).val) : ℝ) : EReal)

omit h in
theorem dqArr_at (g s d r) : dqArr K W Q D (ix4 g s d r) = ((dq K W Q D g s d r : ℝ) : EReal) := rfl
omit h in
theorem dkArr_at (g n d r) : dkArr K W Q D (ix4 g n d r) = ((dk K W Q D g d (256 * n.val + r.val) : ℝ) : EReal) := rfl
omit h in
theorem dvArr_at (g n d r) : dvArr K Q D (ix4 g n d r) = ((dv K Q D g d (256 * n.val + r.val) : ℝ) : EReal) := rfl

/-- which are what the call leaves. -/
theorem final_dq : (dat1 V c).arrAt 9 cfg1.N = dqArr K W Q D := by
  refine (dat1 V c).arrAt_eq_of_covers 9 _ (by decide +kernel) fun t hf y => ?_
  have ht : t.val < 32 := t.isLt
  have hg : t.val / 16 < 2 := by omega
  blk_simp
  rw [after1_9]
  idx_vars y
  rw [show y0 = 0 from Subsingleton.elim _ _, outs_q t hg h, ← dqArr_at]
  unfold strip
  blk_ext [idx1 t]

omit h in
theorem flush_last : ∀ t : Fin cfg1.N, ((cfg1.win 10).flush t = true ∨ (cfg1.win 11).flush t = true) → t.val % 16 = 15 := by decide +kernel

theorem final_dk : (dat1 V c).arrAt 10 cfg1.N = dkArr K W Q D := by
  refine (dat1 V c).arrAt_eq_of_covers 10 _ (by decide +kernel) fun t hf y => ?_
  have ht : t.val < 32 := t.isLt
  have hg : t.val / 16 < 2 := by omega
  have h15 := flush_last t (Or.inl hf)
  have e : 16 * (t.val / 16) + 15 = t.val := by omega
  blk_simp
  rw [after1_10, ← outs_congr V c _ _ e (by rw [e]; exact t.isLt)]
  idx_vars y
  rw [show y0 = 0 from Subsingleton.elim _ _, (acc (h := h) (t.val / 16) hg 15 (by omega) _ y1 y2 y3).1]
  refine (dkArr_at (g := ⟨t.val / 16, hg⟩) (n := y1) (d := y2) (r := y3)).symm.trans ?_
  blk_ext [idx1 t]

theorem final_dv : (dat1 V c).arrAt 11 cfg1.N = dvArr K Q D := by
  refine (dat1 V c).arrAt_eq_of_covers 11 _ (by decide +kernel) fun t hf y => ?_
  have ht : t.val < 32 := t.isLt
  have hg : t.val / 16 < 2 := by omega
  have h15 := flush_last t (Or.inr hf)
  have e : 16 * (t.val / 16) + 15 = t.val := by omega
  blk_simp
  rw [after1_11, ← outs_congr V c _ _ e (by rw [e]; exact t.isLt)]
  idx_vars y
  rw [show y0 = 0 from Subsingleton.elim _ _, (acc (h := h) (t.val / 16) hg 15 (by omega) _ y1 y2 y3).2]
  refine (dvArr_at (g := ⟨t.val / 16, hg⟩) (n := y1) (d := y2) (r := y3)).symm.trans ?_
  blk_ext [idx1 t]

end

end
end Cert.AttDxIdeal.Sums
-- ==== Proof.AttHost.lean ====
/- The attention gradient's arrays as the host lines prepare them: scaled, cut into tiles, padded. -/
module

public import proofs.«01_k».proof.Proof.AttBwdArr

@[expose] public section

set_option maxRecDepth 16384

noncomputable section

namespace Cert.AttDxIdeal.Sums

open Cert.AttDxIdeal Cert.AttDxIdeal.Gen Idealize.ShloMosaic Idealize.ShloMosaic.TcCoe Idealize.SL.Sem Cert.AttMath

theorem eighth : Ideal.ofBits .f32 0x3E000000#32 = ((1 / 8 : ℝ) : EReal) := by
  simp only [Ideal.ofBits, Ideal.ieee]; simp; rw [← EReal.coe_mul]; norm_num

theorem zero_word : FloatOps.sitofp (F := Ideal) FTy.f32 (0#32) = (0 : EReal) := by
  simp [FloatOps.sitofp]

section
variable (W : Valuation τ sig (Elt Ideal))

theorem v5 (x : Vec Ideal S8192x8x64 .f32) (hx : W (Proc.devRef (τ := τ) .tc main_arg0) = x) (g : Fin 2) (s : Fin 128) (d : Fin 64) (r : Fin 256) :
    (StableHlo.after hostOps0 W (Proc.devRef (τ := τ) .tc main_v5) : Vec Ideal S2x128x64x256 .bf16) (ix4 g s d r) = x (ix3 ⟨256 * (s.val % 32) + r.val, by omega⟩ ⟨4 * g.val + s.val / 32, by omega⟩ d) * ((1 / 8 : ℝ) : EReal) := by
  entry_read
  rw [hx]
  pointwise [eighth]
  all_goals (congr 3 <;> (try first | omega | (apply Fin.ext; simp only [Fin.val_mk]; omega)))

theorem v7 (x : Vec Ideal S8192x8x64 .f32) (hx : W (Proc.devRef (τ := τ) .tc main_arg0) = x) (h : Fin 8) (n : Fin 32) (r : Fin 256) (d : Fin 64) :
    (StableHlo.after hostOps0 W (Proc.devRef (τ := τ) .tc main_v7) : Vec Ideal S8x32x256x64 .f32) (ix4 h n r d) = x (ix3 ⟨256 * n.val + r.val, by omega⟩ h d) * ((1 / 8 : ℝ) : EReal) := by
  entry_read
  rw [hx]
  pointwise [eighth]
  all_goals (congr 3 <;> (try first | omega | (apply Fin.ext; simp only [Fin.val_mk]; omega)))

theorem v8 (x : Vec Ideal S8x32x256x64 .f32) (hx : W (Proc.devRef (τ := τ) .tc main_v7) = x) (hc : W (Proc.devRef (τ := τ) .tc main_c) = constantI S_ 32 0#32) (h : Fin 8) (n : Fin 32) (r : Fin 256) (d : Fin 128) :
    (StableHlo.after hostOps0_1 W (Proc.devRef (τ := τ) .tc main_v8) : Vec Ideal S8x32x256x128 .f32) (ix4 h n r d) = if e : d.val < 64 then x (ix4 h n r ⟨d.val, e⟩) else 0 := by
  entry_read
  rw [hx, hc]
  change pad S8x32x256x128 ![0, 0, 0, 0] ![0, 0, 0, 64] ![0, 0, 0, 0] x (sitofp (F := Ideal) FTy.f32 (constantI S_ 32 0#32)) pads_S8x32x256x64_S8x32x256x128_000_000_000_0640 h_S_ (ix4 h n r d) = _
  pointwise
  split_ifs
  · rfl
  · exact zero_word

theorem v10 (x : Vec Ideal S8x32x256x128 .f32) (hx : W (Proc.devRef (τ := τ) .tc main_v8) = x) (g : Fin 2) (s : Fin 128) (r : Fin 256) (d : Fin 128) :
    (StableHlo.after hostOps0_2 W (Proc.devRef (τ := τ) .tc main_v10) : Vec Ideal S2x128x256x128 .bf16) (ix4 g s r d) = x (ix4 ⟨4 * g.val + s.val / 32, by omega⟩ ⟨s.val % 32, by omega⟩ r d) := by
  entry_read
  rw [hx]
  pointwise
  all_goals (congr 3 <;> (try first | omega | (apply Fin.ext; simp only [Fin.val_mk]; omega)))

theorem v14 (x : Vec Ideal S8192x512 .f32) (hx : W (Proc.devRef (τ := τ) .tc main_arg3) = x) (g : Fin 2) (s : Fin 128) (d : Fin 64) (r : Fin 256) :
    (StableHlo.after hostOps0_2 W (Proc.devRef (τ := τ) .tc main_v14) : Vec Ideal S2x128x64x256 .bf16) (ix4 g s d r) = x (ix2 ⟨256 * (s.val % 32) + r.val, by omega⟩ ⟨64 * (4 * g.val + s.val / 32) + d.val, by omega⟩) := by
  entry_read
  rw [hx]
  pointwise
  all_goals (congr 3 <;> (try first | omega | (apply Fin.ext; simp only [Fin.val_mk]; omega)))

theorem v16 (x : Vec Ideal S8192x512 .f32) (hx : W (Proc.devRef (τ := τ) .tc main_arg3) = x) (h : Fin 8) (n : Fin 32) (r : Fin 256) (d : Fin 64) :
    (StableHlo.after hostOps0_2 W (Proc.devRef (τ := τ) .tc main_v16) : Vec Ideal S8x32x256x64 .f32) (ix4 h n r d) = x (ix2 ⟨256 * n.val + r.val, by omega⟩ ⟨64 * h.val + d.val, by omega⟩) := by
  entry_read
  rw [hx]
  pointwise
  all_goals (congr 3 <;> (try first | omega | (apply Fin.ext; simp only [Fin.val_mk]; omega)))

theorem v17 (x : Vec Ideal S8x32x256x64 .f32) (hx : W (Proc.devRef (τ := τ) .tc main_v16) = x) (hc : W (Proc.devRef (τ := τ) .tc main_c_0) = constantI S_ 32 0#32) (h : Fin 8) (n : Fin 32) (r : Fin 256) (d : Fin 128) :
    (StableHlo.after hostOps0_3 W (Proc.devRef (τ := τ) .tc main_v17) : Vec Ideal S8x32x256x128 .f32) (ix4 h n r d) = if e : d.val < 64 then x (ix4 h n r ⟨d.val, e⟩) else 0 := by
  entry_read
  rw [hx, hc]
  change pad S8x32x256x128 ![0, 0, 0, 0] ![0, 0, 0, 64] ![0, 0, 0, 0] x (sitofp (F := Ideal) FTy.f32 (constantI S_ 32 0#32)) pads_S8x32x256x64_S8x32x256x128_000_000_000_0640 h_S_ (ix4 h n r d) = _
  pointwise
  split_ifs
  · rfl
  · exact zero_word

theorem v19 (x : Vec Ideal S8x32x256x128 .f32) (hx : W (Proc.devRef (τ := τ) .tc main_v17) = x) (g : Fin 2) (s : Fin 128) (r : Fin 256) (d : Fin 128) :
    (StableHlo.after hostOps0_4 W (Proc.devRef (τ := τ) .tc main_v19) : Vec Ideal S2x128x256x128 .bf16) (ix4 g s r d) = x (ix4 ⟨4 * g.val + s.val / 32, by omega⟩ ⟨s.val % 32, by omega⟩ r d) := by
  entry_read
  rw [hx]
  pointwise
  all_goals (congr 3 <;> (try first | omega | (apply Fin.ext; simp only [Fin.val_mk]; omega)))

theorem v21 (x : Vec Ideal S8192x2x64 .f32) (hx : W (Proc.devRef (τ := τ) .tc main_arg1) = x) (h : Fin 2) (n : Fin 32) (r : Fin 256) (d : Fin 64) :
    (StableHlo.after hostOps0_4 W (Proc.devRef (τ := τ) .tc main_v21) : Vec Ideal S2x32x256x64 .f32) (ix4 h n r d) = x (ix3 ⟨256 * n.val + r.val, by omega⟩ h d) := by
  entry_read
  rw [hx]
  pointwise
  all_goals (congr 3 <;> (try first | omega | (apply Fin.ext; simp only [Fin.val_mk]; omega)))

theorem v22 (x : Vec Ideal S2x32x256x64 .f32) (hx : W (Proc.devRef (τ := τ) .tc main_v21) = x) (hc : W (Proc.devRef (τ := τ) .tc main_c_1) = constantI S_ 32 0#32) (h : Fin 2) (n : Fin 32) (r : Fin 256) (d : Fin 128) :
    (StableHlo.after hostOps0_5 W (Proc.devRef (τ := τ) .tc main_v22) : Vec Ideal S2x32x256x128 .f32) (ix4 h n r d) = if e : d.val < 64 then x (ix4 h n r ⟨d.val, e⟩) else 0 := by
  entry_read
  rw [hx, hc]
  change pad S2x32x256x128 ![0, 0, 0, 0] ![0, 0, 0, 64] ![0, 0, 0, 0] x (sitofp (F := Ideal) FTy.f32 (constantI S_ 32 0#32)) pads_S2x32x256x64_S2x32x256x128_000_000_000_0640 h_S_ (ix4 h n r d) = _
  pointwise
  split_ifs
  · rfl
  · exact zero_word

theorem v24 (x : Vec Ideal S2x32x256x128 .f32) (hx : W (Proc.devRef (τ := τ) .tc main_v22) = x) (g : Fin 2) (j : Fin 8192) (d : Fin 128) :
    (StableHlo.after hostOps0_6 W (Proc.devRef (τ := τ) .tc main_v24) : Vec Ideal S2x8192x128 .bf16) (ix3 g j d) = x (ix4 g ⟨j.val / 256, by omega⟩ ⟨j.val % 256, by omega⟩ d) := by
  entry_read
  rw [hx]
  pointwise
  all_goals (congr 3 <;> (try first | omega | (apply Fin.ext; simp only [Fin.val_mk]; omega)))

theorem v27 (x : Vec Ideal S8192x2x64 .f32) (hx : W (Proc.devRef (τ := τ) .tc main_arg1) = x) (g : Fin 2) (n : Fin 32) (d : Fin 64) (r : Fin 256) :
    (StableHlo.after hostOps0_6 W (Proc.devRef (τ := τ) .tc main_v27) : Vec Ideal S2x32x64x256 .bf16) (ix4 g n d r) = x (ix3 ⟨256 * n.val + r.val, by omega⟩ g d) := by
  entry_read
  rw [hx]
  pointwise
  all_goals (congr 3 <;> (try first | omega | (apply Fin.ext; simp only [Fin.val_mk]; omega)))

theorem v30 (x : Vec Ideal S8192x2x64 .f32) (hx : W (Proc.devRef (τ := τ) .tc main_arg2) = x) (g : Fin 2) (n : Fin 32) (d : Fin 64) (r : Fin 256) :
    (StableHlo.after hostOps0_6 W (Proc.devRef (τ := τ) .tc main_v30) : Vec Ideal S2x32x64x256 .bf16) (ix4 g n d r) = x (ix3 ⟨256 * n.val + r.val, by omega⟩ g d) := by
  entry_read
  rw [hx]
  pointwise
  all_goals (congr 3 <;> (try first | omega | (apply Fin.ext; simp only [Fin.val_mk]; omega)))

theorem v34 (x : Vec Ideal S2x128x64x256 .f32) (hx : W (Proc.devRef (τ := τ) .tc main_v32_0) = x) (g : Fin 2) (s : Fin 128) (d : Fin 64) (r : Fin 256) :
    (StableHlo.after hostOps2 W (Proc.devRef (τ := τ) .tc main_v34) : Vec Ideal S2x128x64x256 .f32) (ix4 g s d r) = x (ix4 g s d r) * ((1 / 8 : ℝ) : EReal) := by
  entry_read
  rw [hx]
  pointwise [eighth]
  all_goals (congr 3 <;> (try first | omega | (apply Fin.ext; simp only [Fin.val_mk]; omega)))

theorem v36 (x : Vec Ideal S2x128x256x128 .f32) (hx : W (Proc.devRef (τ := τ) .tc main_v31_1) = x) (g : Fin 2) (s : Fin 128) (r : Fin 256) :
    (StableHlo.after hostOps2 W (Proc.devRef (τ := τ) .tc main_v36) : Vec Ideal S2x128x256 .f32) (ix3 g s r) = x (ix4 g s r 0) := by
  entry_read
  rw [hx]
  pointwise

theorem c0 : StableHlo.after hostOps0 W (Proc.devRef (τ := τ) .tc main_c) = constantI S_ 32 0#32 := by entry_read; rfl
theorem c1 : StableHlo.after hostOps0_2 W (Proc.devRef (τ := τ) .tc main_c_0) = constantI S_ 32 0#32 := by entry_read; rfl
theorem c2 : StableHlo.after hostOps0_4 W (Proc.devRef (τ := τ) .tc main_c_1) = constantI S_ 32 0#32 := by entry_read; rfl
end

/-- The arguments as reals, cut as the calls read them. -/
def Kr (k : Fin 8192 → Fin 2 → Fin 64 → ℝ) (g : Fin 2) (j : ℕ) (d : Fin 64) : ℝ := k (Fin.ofNat 8192 j) g d
def Wr (v : Fin 8192 → Fin 2 → Fin 64 → ℝ) (g : Fin 2) (d : Fin 64) (j : ℕ) : ℝ := v (Fin.ofNat 8192 j) g d
def Dr (o : Fin 8192 → Fin 8 → Fin 64 → ℝ) (g : Fin 2) (s : Fin 128) (r : Fin 256) (d : Fin 64) : ℝ :=
  o ⟨256 * (s.val % 32) + r.val, by omega⟩ ⟨4 * g.val + s.val / 32, by omega⟩ d
def Qr (q : Fin 8192 → Fin 8 → Fin 64 → ℝ) (g : Fin 2) (s : Fin 128) (r : Fin 256) (d : Fin 64) : ℝ := Dr q g s r d * (1 / 8)

section
variable (m : (ℓ : Loc nD τ sig) → Buf (Elt Ideal) ℓ) (ρ : Dev nD → PrngReg) (c : Dev nD)
  (q o : Fin 8192 → Fin 8 → Fin 64 → ℝ) (k v : Fin 8192 → Fin 2 → Fin 64 → ℝ)

/-- The memory's arguments are these reals. -/
structure Reals : Prop where
  q : ∀ t h d, (m ((c : Thread nD τ).loc main_arg0) : Vec Ideal S8192x8x64 .f32) (ix3 t h d) = ((q t h d : ℝ) : EReal)
  k : ∀ t h d, (m ((c : Thread nD τ).loc main_arg1) : Vec Ideal S8192x2x64 .f32) (ix3 t h d) = ((k t h d : ℝ) : EReal)
  v : ∀ t h d, (m ((c : Thread nD τ).loc main_arg2) : Vec Ideal S8192x2x64 .f32) (ix3 t h d) = ((v t h d : ℝ) : EReal)
  o : ∀ t (h : Fin 8) (d : Fin 64), (m ((c : Thread nD τ).loc main_arg3) : Vec Ideal S8192x512 .f32) (ix2 t ⟨64 * h.val + d.val, by omega⟩) = ((o t h d : ℝ) : EReal)

variable {m c q o k v} (hr : Reals m c q o k v)
include hr

theorem in_v5 (g s d r) : V7 m ρ c main_v5 (ix4 g s d r) = ((Qr q g s r d : ℝ) : EReal) := by
  change (W7 m ρ c (Proc.devRef .tc main_v5) : Vec Ideal S2x128x64x256 .bf16) (ix4 g s d r) = _
  rw [W7_of m ρ c main_v5 (by decide), W6_of m ρ c main_v5 (by decide), W5_of m ρ c main_v5 (by decide), W4_of m ρ c main_v5 (by decide), W3_of m ρ c main_v5 (by decide), W2_of m ρ c main_v5 (by decide)]
  refine (v5 (W0 m ρ c) _ rfl _ _ _ _).trans ?_
  exact (congrArg (fun x : EReal => x * ((1 / 8 : ℝ) : EReal)) (hr.q _ _ _)).trans (EReal.coe_mul _ _).symm

theorem in_v7 (h n r d) : (W1 m ρ c (Proc.devRef .tc main_v7) : Vec Ideal S8x32x256x64 .f32) (ix4 h n r d) = ((q ⟨256 * n.val + r.val, by omega⟩ h d * (1 / 8) : ℝ) : EReal) := by
  refine (v7 (W0 m ρ c) _ rfl _ _ _ _).trans ?_
  exact (congrArg (fun x : EReal => x * ((1 / 8 : ℝ) : EReal)) (hr.q _ _ _)).trans (EReal.coe_mul _ _).symm

theorem in_v10 (g s r) (d : Fin 128) : V7 m ρ c main_v10 (ix4 g s r d) = if h : d.val < 64 then ((Qr q g s r ⟨d.val, h⟩ : ℝ) : EReal) else 0 := by
  change (W7 m ρ c (Proc.devRef .tc main_v10) : Vec Ideal S2x128x256x128 .bf16) (ix4 g s r d) = _
  rw [W7_of m ρ c main_v10 (by decide), W6_of m ρ c main_v10 (by decide), W5_of m ρ c main_v10 (by decide), W4_of m ρ c main_v10 (by decide)]
  refine (v10 (W2 m ρ c) _ rfl _ _ _ _).trans ?_
  refine (v8 (W1 m ρ c) _ rfl (c0 _) _ _ _ _).trans ?_
  split_ifs
  · exact in_v7 ρ hr _ _ _ _
  · rfl

theorem in_v14 (g s d r) : V7 m ρ c main_v14 (ix4 g s d r) = ((Dr o g s r d : ℝ) : EReal) := by
  change (W7 m ρ c (Proc.devRef .tc main_v14) : Vec Ideal S2x128x64x256 .bf16) (ix4 g s d r) = _
  rw [W7_of m ρ c main_v14 (by decide), W6_of m ρ c main_v14 (by decide), W5_of m ρ c main_v14 (by decide), W4_of m ρ c main_v14 (by decide)]
  refine (v14 (W2 m ρ c) _ (W2_args m ρ c main_arg3 (by decide)) _ _ _ _).trans ?_
  exact hr.o ⟨256 * (s.val % 32) + r.val, by omega⟩ ⟨4 * g.val + s.val / 32, by omega⟩ d

theorem in_v16 (h n r d) : (W3 m ρ c (Proc.devRef .tc main_v16) : Vec Ideal S8x32x256x64 .f32) (ix4 h n r d) = ((o ⟨256 * n.val + r.val, by omega⟩ h d : ℝ) : EReal) := by
  refine (v16 (W2 m ρ c) _ (W2_args m ρ c main_arg3 (by decide)) _ _ _ _).trans ?_
  exact hr.o _ _ _

theorem in_v19 (g s r) (d : Fin 128) : V7 m ρ c main_v19 (ix4 g s r d) = if h : d.val < 64 then ((Dr o g s r ⟨d.val, h⟩ : ℝ) : EReal) else 0 := by
  change (W7 m ρ c (Proc.devRef .tc main_v19) : Vec Ideal S2x128x256x128 .bf16) (ix4 g s r d) = _
  rw [W7_of m ρ c main_v19 (by decide), W6_of m ρ c main_v19 (by decide)]
  refine (v19 (W4 m ρ c) _ rfl _ _ _ _).trans ?_
  refine (v17 (W3 m ρ c) _ rfl (c1 _) _ _ _ _).trans ?_
  split_ifs
  · exact in_v16 ρ hr _ _ _ _
  · rfl

theorem in_v21 (h n r d) : (W5 m ρ c (Proc.devRef .tc main_v21) : Vec Ideal S2x32x256x64 .f32) (ix4 h n r d) = ((k ⟨256 * n.val + r.val, by omega⟩ h d : ℝ) : EReal) := by
  refine (v21 (W4 m ρ c) _ (W4_args m ρ c main_arg1 (by decide)) _ _ _ _).trans ?_
  exact hr.k _ _ _

theorem in_v24 (g) (j : Fin 8192) (d : Fin 128) : V7 m ρ c main_v24 (ix3 g j d) = if h : d.val < 64 then ((Kr k g j ⟨d.val, h⟩ : ℝ) : EReal) else 0 := by
  change (W7 m ρ c (Proc.devRef .tc main_v24) : Vec Ideal S2x8192x128 .bf16) (ix3 g j d) = _
  refine (v24 (W6 m ρ c) _ rfl _ _ _).trans ?_
  refine (v22 (W5 m ρ c) _ rfl (c2 _) _ _ _ _).trans ?_
  split_ifs
  · refine (in_v21 ρ hr _ _ _ _).trans ?_
    unfold Kr
    congr 3
    dsimp only; omega
  · rfl

theorem in_v27 (g) (n : Fin 32) (d : Fin 64) (r : Fin 256) : V7 m ρ c main_v27 (ix4 g n d r) = ((Kr k g (256 * n + r) d : ℝ) : EReal) := by
  change (W7 m ρ c (Proc.devRef .tc main_v27) : Vec Ideal S2x32x64x256 .bf16) (ix4 g n d r) = _
  refine (v27 (W6 m ρ c) _ (W6_args m ρ c main_arg1 (by decide)) _ _ _ _).trans ?_
  refine (hr.k _ _ _).trans ?_
  unfold Kr
  congr 3
  omega

theorem in_v30 (g) (n : Fin 32) (d : Fin 64) (r : Fin 256) : V7 m ρ c main_v30 (ix4 g n d r) = ((Wr v g d (256 * n + r) : ℝ) : EReal) := by
  change (W7 m ρ c (Proc.devRef .tc main_v30) : Vec Ideal S2x32x64x256 .bf16) (ix4 g n d r) = _
  refine (v30 (W6 m ρ c) _ (W6_args m ρ c main_arg2 (by decide)) _ _ _ _).trans ?_
  refine (hr.v _ _ _).trans ?_
  unfold Wr
  congr 3
  omega

/-- What the forward call leaves, -/
theorem in_o : V8 m ρ c main_v31_0 = oArr (Kr k) (Wr v) (Qr q) :=
  (W8_arr m ρ c 3).trans (final_o _ c (Kr k) (Wr v) (Qr q) (in_v24 ρ hr) (in_v30 ρ hr) (in_v5 ρ hr))

theorem in_l : V8 m ρ c main_v31_1 = lArr (Kr k) (Qr q) :=
  (W8_arr m ρ c 4).trans (final_l _ c (Kr k) (Wr v) (Qr q) (in_v24 ρ hr) (in_v30 ρ hr) (in_v5 ρ hr))

/-- and what the backward call is entered with. -/
theorem ins : Ins (V8 m ρ) c (Kr k) (Wr v) (Qr q) (Dr o) where
  qs g s r d := (congrFun (W8_of m ρ c main_v10 (by decide)) _).trans (in_v10 ρ hr g s r d)
  qt g s d r := (congrFun (W8_of m ρ c main_v5 (by decide)) _).trans (in_v5 ρ hr g s d r)
  ds g s r d := (congrFun (W8_of m ρ c main_v19 (by decide)) _).trans (in_v19 ρ hr g s r d)
  dt g s d r := (congrFun (W8_of m ρ c main_v14 (by decide)) _).trans (in_v14 ρ hr g s d r)
  os g s d r := (congrFun (in_o ρ hr) _).trans (oArr_at ..)
  ls g s r x := (congrFun (in_l ρ hr) _).trans (lArr_at ..)
  ks g j d := (congrFun (W8_of m ρ c main_v24 (by decide)) _).trans (in_v24 ρ hr g j d)
  kt g n d r := (congrFun (W8_of m ρ c main_v27 (by decide)) _).trans (in_v27 ρ hr g n d r)
  vt g n d r := (congrFun (W8_of m ρ c main_v30 (by decide)) _).trans (in_v30 ρ hr g n d r)

/-- The three results. -/
theorem out_q (g s d r) : (W10 m ρ c (Proc.devRef .tc main_v34) : Vec Ideal S2x128x64x256 .f32) (ix4 g s d r)
    = ((dq (Kr k) (Wr v) (Qr q) (Dr o) g s d r * (1 / 8) : ℝ) : EReal) := by
  refine (v34 (W9 m ρ c) _ ((W9_arr m ρ c 9).trans (final_dq (h := ins ρ hr))) _ _ _ _).trans ?_
  exact (EReal.coe_mul _ _).symm

theorem out_k : W10 m ρ c (Proc.devRef .tc main_v32_1) = dkArr (Kr k) (Wr v) (Qr q) (Dr o) :=
  (W10_of m ρ c main_v32_1 (by decide)).trans ((W9_arr m ρ c 10).trans (final_dk (h := ins ρ hr)))

theorem out_v : W10 m ρ c (Proc.devRef .tc main_v32_2) = dvArr (Kr k) (Qr q) (Dr o) :=
  (W10_of m ρ c main_v32_2 (by decide)).trans ((W9_arr m ρ c 11).trans (final_dv (h := ins ρ hr)))

theorem out_o : W10 m ρ c (Proc.devRef .tc main_v31_0) = oArr (Kr k) (Wr v) (Qr q) :=
  (W10_of m ρ c main_v31_0 (by decide)).trans ((W9_of m ρ c main_v31_0 (by decide)).trans (in_o ρ hr))

theorem out_l (g s r) : (W10 m ρ c (Proc.devRef .tc main_v36) : Vec Ideal S2x128x256 .f32) (ix3 g s r) = ((Real.log (zz (Kr k) (Qr q) g s r) : ℝ) : EReal) :=
  (v36 (W9 m ρ c) _ ((W9_of m ρ c main_v31_1 (by decide)).trans (in_l ρ hr)) _ _ _).trans (lArr_at _ _ _ _ _ _)
end

end Cert.AttDxIdeal.Sums
-- ==== Proof.AttRefRead.lean ====
/- The attention reference's arrays, line by line, as reals. -/
module

public import proofs.«01_k».proof.Proof.AttMath
public import proofs.«01_k».proof.Proof.Gen.AttRefIdeal.Read
public import Idealize.ShloMosaic.Lib.Pipeline.ValueKit

@[expose] public section

set_option maxRecDepth 16384

noncomputable section

namespace Cert.AttRefIdeal.Sums

open Idealize.ShloMosaic Cert.AttRefIdeal Cert.AttRefIdeal.Read

/-- The largest of finitely many reals is one. -/
theorem fold_max {ι : Type} [Fintype ι] [Nonempty ι] (f : ι → ℝ) : ∃ μ : ℝ, Finset.fold max (⊥ : EReal) (fun x => ((f x : ℝ) : EReal)) Finset.univ = μ := by
  have key : ∀ s : Finset ι, s.Nonempty → ∃ μ : ℝ, Finset.fold max (⊥ : EReal) (fun x => ((f x : ℝ) : EReal)) s = μ := by
    intro s hs
    induction hs using Finset.Nonempty.cons_induction with
    | singleton a => exact ⟨f a, by simp⟩
    | cons a s ha hs ih =>
      obtain ⟨μ, hμ⟩ := ih
      exact ⟨max (f a) μ, by rw [Finset.fold_cons, hμ]; exact (EReal.coe_strictMono.monotone.map_max).symm⟩
  exact key _ Finset.univ_nonempty

theorem eighth : Ideal.ofBits .f32 0x3E000000#32 = ((1 / 8 : ℝ) : EReal) := by
  simp only [Ideal.ofBits, Ideal.ieee]; simp; rw [← EReal.coe_mul]; norm_num
theorem neg_inf : Ideal.ofBits .f32 0xFF800000#32 = ⊥ := by
  simp [Ideal.ofBits, Ideal.ieee]
theorem one : Ideal.ofBits .f32 0x3F800000#32 = ((1 : ℝ) : EReal) := by
  simp only [Ideal.ofBits, Ideal.ieee]; simp; try (rw [← EReal.coe_mul]; norm_num)

theorem max_ideal (a b : Ideal .f32) : FloatOps.maximumf a b = max (a : EReal) b := rfl

/-- A query head of a group. -/
def hd (g : Fin 2) (h : Fin 4) : Fin 8 := ⟨4 * g.val + h.val, by omega⟩

/-- A head's columns among all. -/
theorem col_lt (h : Fin 8) (d : Fin 64) : 64 * h.val + d.val < 512 := by omega
def col (h : Fin 8) (d : Fin 64) : Fin 512 := ⟨64 * h.val + d.val, col_lt h d⟩

section
variable (q o : Fin 8192 → Fin 8 → Fin 64 → ℝ) (k v : Fin 8192 → Fin 2 → Fin 64 → ℝ) (μ : Fin 2 → Fin 4 → Fin 8192 → ℝ)

/-- The scores, their exponentials below a maximum, those's sum, the probabilities, and the gradients of the probabilities and of the scores. -/
def sS (g : Fin 2) (h : Fin 4) (t j : Fin 8192) : ℝ := (∑ d, k j g d * q t (hd g h) d) * (1 / 8)
def ee (g : Fin 2) (h : Fin 4) (t j : Fin 8192) : ℝ := Real.exp (sS q k g h t j - μ g h t)
def ez (g : Fin 2) (h : Fin 4) (t : Fin 8192) : ℝ := ∑ j, ee q k μ g h t j
def dP (g : Fin 2) (h : Fin 4) (t j : Fin 8192) : ℝ := ∑ d, o t (hd g h) d * v j g d
def dZ (g : Fin 2) (h : Fin 4) (t : Fin 8192) : ℝ := ∑ j, dP o v g h t j * (1 / (ez q k μ g h t * ez q k μ g h t)) * ee q k μ g h t j
def dE (g : Fin 2) (h : Fin 4) (t j : Fin 8192) : ℝ :=
  (dP o v g h t j * (1 / ez q k μ g h t) + -dZ q o k v μ g h t) * ee q k μ g h t j
end

theorem ez_ne (q k) (μ : Fin 2 → Fin 4 → Fin 8192 → ℝ) (g h t) : ez q k μ g h t ≠ 0 :=
  (Finset.sum_pos (fun _ _ => Real.exp_pos _) Finset.univ_nonempty).ne'

section
variable {x0 : Vec Ideal S8192x8x64 .f32} {x1 x2 : Vec Ideal S8192x2x64 .f32} {x3 : Vec Ideal S8192x512 .f32}
  {q o : Fin 8192 → Fin 8 → Fin 64 → ℝ} {k v : Fin 8192 → Fin 2 → Fin 64 → ℝ} {μ : Fin 2 → Fin 4 → Fin 8192 → ℝ}
  (h0 : ∀ t h d, x0 (ix3 t h d) = ((q t h d : ℝ) : EReal)) (h1 : ∀ t h d, x1 (ix3 t h d) = ((k t h d : ℝ) : EReal))
  (h2 : ∀ t h d, x2 (ix3 t h d) = ((v t h d : ℝ) : EReal))
  (h3 : ∀ t (h : Fin 8) (d : Fin 64), x3 (ix2 t (col h d)) = ((o t h d : ℝ) : EReal))
  (hμ : ∀ g h t, val_main_v12 (F := Ideal) x0 x1 (ix3 g h t) = ((μ g h t : ℝ) : EReal))

include h0 in
theorem r0 (t g h d) : val_main_v0 (F := Ideal) x0 (ix4 t g h d) = ((q t (hd g h) d : ℝ) : EReal) := by
  rw [← h0]
  unfold val_main_v0
  pointwise
  congr 2
  apply Fin.ext; simp only [hd, col]; omega

section
include h0 h1
theorem r1 (g j t h) : val_main_v1 (F := Ideal) x0 x1 (ix4 g j t h) = ((∑ d, k j g d * q t (hd g h) d : ℝ) : EReal) := by
  unfold val_main_v1
  pointwise [dot_S8192x2x64_S8192x2x4x64_S2x8192x8192x4_2_3_0_02_1_1, r0 h0, h1]
  simp only [← EReal.coe_mul, AttMath.coe_sum_univ]

theorem r4 (g h t j) : val_main_v4 (F := Ideal) x0 x1 (ix4 g h t j) = ((sS q k g h t j : ℝ) : EReal) := by
  unfold val_main_v4 val_main_v3 val_main_v2 val_main_cst
  pointwise [r1 h0 h1, eighth]
  exact (EReal.coe_mul _ _).symm

theorem r5 (g h t) : val_main_v5 (F := Ideal) x0 x1 (ix3 g h t)
    = Finset.fold max (⊥ : EReal) (fun x : Fin 8192 => ((sS q k g h t x : ℝ) : EReal)) Finset.univ := by
  unfold val_main_v5 val_main_cst_0
  pointwise [r4 h0 h1, neg_inf]

omit h0 h1 in
theorem r11 (g h t) : val_main_v11 (F := Ideal) (ix3 g h t) = ⊥ := by
  unfold val_main_v11 val_main_cst_2
  pointwise [neg_inf]

omit h0 h1 in
theorem r12' (g h t) (a : EReal) (ha : val_main_v5 (F := Ideal) x0 x1 (ix3 g h t) = a) : val_main_v12 (F := Ideal) x0 x1 (ix3 g h t) = max ⊥ a := by
  rw [val_main_v12_apply, r11, ha]
  exact max_ideal _ _

theorem r12 : ∃ μ : Fin 2 → Fin 4 → Fin 8192 → ℝ, ∀ g h t, val_main_v12 (F := Ideal) x0 x1 (ix3 g h t) = ((μ g h t : ℝ) : EReal) := by
  have key : ∀ g h t, ∃ a : ℝ, val_main_v12 (F := Ideal) x0 x1 (ix3 g h t) = a := by
    intro g h t
    obtain ⟨a, ha⟩ := fold_max (fun x : Fin 8192 => sS q k g h t x)
    exact ⟨a, (r12' g h t a ((r5 h0 h1 g h t).trans ha)).trans (max_eq_right bot_le)⟩
  choose f hf using key
  exact ⟨f, hf⟩

include hμ
theorem r25 (g h t j) : val_main_v25 (F := Ideal) x0 x1 (ix4 g h t j) = ((ee q k μ g h t j : ℝ) : EReal) := by
  unfold val_main_v25 val_main_v24 val_main_v23 val_main_v22
  pointwise [r4 h0 h1, hμ]
  rw [← EReal.coe_sub, Ideal.exp_coe]
  rfl

theorem r27 (g h t x) : val_main_v27 (F := Ideal) x0 x1 (ix4 g h t x) = ((ez q k μ g h t : ℝ) : EReal) := by
  unfold val_main_v27 val_main_v26 val_main_cst_8
  pointwise [r25 h0 h1 hμ]
  simp only [AttMath.coe_sum_univ]
  simp [ez]

theorem r29 (g h t j) : val_main_v29 (F := Ideal) x0 x1 (ix4 g h t j) = ((ee q k μ g h t j * (1 / ez q k μ g h t) : ℝ) : EReal) := by
  unfold val_main_v29 val_main_v28
  pointwise [r25 h0 h1 hμ, r27 h0 h1 hμ]
  rw [Ideal.div_coe (ez_ne q k μ g h t), ← EReal.coe_mul]

theorem r41 (g h t j) : val_main_v41 (F := Ideal) x0 x1 (ix4 g h t j) = ((1 / (ez q k μ g h t * ez q k μ g h t) : ℝ) : EReal) := by
  unfold val_main_v41 val_main_v32 val_main_v31 val_main_v30 val_main_cst_9
  pointwise [r27 h0 h1 hμ, one]
  rw [← EReal.coe_mul, Ideal.div_coe (mul_ne_zero (ez_ne q k μ g h t) (ez_ne q k μ g h t)), ← EReal.coe_mul, one_mul]
end

include h3 in
theorem r37 (g d h t) : val_main_v37 (F := Ideal) x3 (ix4 g d h t) = ((o t (hd g h) d : ℝ) : EReal) := by
  rw [← h3]
  unfold val_main_v37 val_main_v36
  pointwise
  congr 2
  apply Fin.ext; simp only [hd, col]; omega

include h2 h3 in
theorem r38 (g h t j) : val_main_v38 (F := Ideal) x2 x3 (ix4 g h t j) = ((dP o v g h t j : ℝ) : EReal) := by
  unfold val_main_v38
  pointwise [dot_S2x64x4x8192_S8192x2x64_S2x4x8192x8192_1_2_23_0_0_1, r37 h3, h2]
  simp only [← EReal.coe_mul, AttMath.coe_sum_univ]
  rfl

include h0 h1 h2 h3 hμ
theorem r43 (g h t j) : val_main_v43 (F := Ideal) x0 x1 x2 x3 (ix4 g h t j)
    = ((dP o v g h t j * (1 / (ez q k μ g h t * ez q k μ g h t)) * ee q k μ g h t j : ℝ) : EReal) := by
  unfold val_main_v43 val_main_v42
  pointwise [r38 h2 h3, r41 h0 h1 hμ, r25 h0 h1 hμ]
  simp only [← EReal.coe_mul]

theorem r46 (g h t x) : val_main_v46 (F := Ideal) x0 x1 x2 x3 (ix4 g h t x) = ((-dZ q o k v μ g h t : ℝ) : EReal) := by
  unfold val_main_v46 val_main_v45 val_main_v44 val_main_cst_10
  pointwise [r43 h0 h1 h2 h3 hμ]
  simp only [AttMath.coe_sum_univ]
  simp [dZ]

theorem r50 (g h t j) : val_main_v50 (F := Ideal) x0 x1 x2 x3 (ix4 g h t j) = ((-dZ q o k v μ g h t : ℝ) : EReal) := by
  unfold val_main_v50 val_main_v49 val_main_cst_11
  pointwise [r46 h0 h1 h2 h3 hμ]
  simp

theorem r55 (g j t h) : val_main_v55 (F := Ideal) x0 x1 x2 x3 (ix4 g j t h) = ((dE q o k v μ g h t j * (1 / 8) : ℝ) : EReal) := by
  unfold val_main_v55 val_main_v54 val_main_v53 val_main_v52 val_main_v51 val_main_v48 val_main_v47 val_main_cst_12
  pointwise [r50 h0 h1 h2 h3 hμ, r25 h0 h1 hμ, r38 h2 h3, r27 h0 h1 hμ, eighth]
  rw [Ideal.div_coe (ez_ne q k μ g h t)]
  simp only [← EReal.coe_mul, ← EReal.coe_add]
  rfl

theorem r57 (t g h d) : val_main_v57 (F := Ideal) x0 x1 x2 x3 (ix4 t g h d) = ((∑ j, dE q o k v μ g h t j * (1 / 8) * k j g d : ℝ) : EReal) := by
  unfold val_main_v57 val_main_v56
  pointwise [dot_S2x8192x8192x4_S8192x2x64_S2x8192x4x64_1_0_23_2_0_1, r55 h0 h1 h2 h3 hμ, h1]
  simp only [← EReal.coe_mul, AttMath.coe_sum_univ]

theorem r59 (j g d) : val_main_v59 (F := Ideal) x0 x1 x2 x3 (ix3 j g d)
    = ((∑ t, ∑ h, dE q o k v μ g h t j * (1 / 8) * q t (hd g h) d : ℝ) : EReal) := by
  unfold val_main_v59 val_main_v58
  pointwise [dot_S2x8192x8192x4_S8192x2x4x64_S2x8192x64_23_02_1_3_0_1, r55 h0 h1 h2 h3 hμ, r0 h0]
  simp only [← EReal.coe_mul, AttMath.coe_sum_univ]

omit h2 in
theorem r40 (j g d) : val_main_v40 (F := Ideal) x0 x1 x3 (ix3 j g d)
    = ((∑ h, ∑ t, o t (hd g h) d * (ee q k μ g h t j * (1 / ez q k μ g h t)) : ℝ) : EReal) := by
  unfold val_main_v40 val_main_v39
  pointwise [dot_S2x64x4x8192_S2x4x8192x8192_S2x64x8192_23_12_1_3_0_0, r37 h3, r29 h0 h1 hμ]
  simp only [← EReal.coe_mul, AttMath.coe_sum_univ]

/-- The three gradients. -/
theorem res_q (g s d r) : val_main_v76 (F := Ideal) x0 x1 x2 x3 (ix4 g s d r)
    = ((∑ j, dE q o k v μ g ⟨s.val / 32, by omega⟩ ⟨256 * (s.val % 32) + r.val, by omega⟩ j * (1 / 8) * k j g d : ℝ) : EReal) := by
  unfold val_main_v76 val_main_v75 val_main_v74 val_main_v60
  pointwise
  rw [← r57 h0 h1 h2 h3 hμ]
  congr 2 <;> (apply Fin.ext; simp only [Fin.val_mk]; omega)

theorem res_k (g n d r) : val_main_v78 (F := Ideal) x0 x1 x2 x3 (ix4 g n d r)
    = ((∑ t, ∑ h, dE q o k v μ g h t ⟨256 * n.val + r.val, by omega⟩ * (1 / 8) * q t (hd g h) d : ℝ) : EReal) := by
  unfold val_main_v78 val_main_v77
  pointwise
  rw [← r59 h0 h1 h2 h3 hμ]
  congr 2 <;> (apply Fin.ext; simp only [Fin.val_mk]; omega)

omit h2 in
theorem res_v (g n d r) : val_main_v80 (F := Ideal) x0 x1 x3 (ix4 g n d r)
    = ((∑ h, ∑ t, o t (hd g h) d * (ee q k μ g h t ⟨256 * n.val + r.val, by omega⟩ * (1 / ez q k μ g h t)) : ℝ) : EReal) := by
  unfold val_main_v80 val_main_v79
  pointwise
  rw [← r40 h0 h1 h3 hμ]
  congr 2 <;> (apply Fin.ext; simp only [Fin.val_mk]; omega)

omit h3 in
/-- The output, -/
theorem res_o (g s d r) : val_main_v102 (F := Ideal) x0 x1 x2 (ix4 g s d r)
    = ((∑ j, v j g d * (ee q k μ g ⟨s.val / 32, by omega⟩ ⟨256 * (s.val % 32) + r.val, by omega⟩ j
        * (1 / ez q k μ g ⟨s.val / 32, by omega⟩ ⟨256 * (s.val % 32) + r.val, by omega⟩)) : ℝ) : EReal) := by
  have e (g h t j) : val_main_v96 (F := Ideal) x0 x1 (ix4 g h t j) = ((ee q k μ g h t j * (1 / ez q k μ g h t) : ℝ) : EReal) :=
    r29 h0 h1 hμ g h t j
  have e' (g d h t) : val_main_v97 (F := Ideal) x0 x1 x2 (ix4 g d h t) = ((∑ j, v j g d * (ee q k μ g h t j * (1 / ez q k μ g h t)) : ℝ) : EReal) := by
    unfold val_main_v97
    pointwise [dot_S8192x2x64_S2x4x8192x8192_S2x64x4x8192_0_3_2_12_1_0, e, h2]
    simp only [← EReal.coe_mul, AttMath.coe_sum_univ]
  unfold val_main_v102 val_main_v101 val_main_v100 val_main_v99 val_main_v98
  pointwise
  rw [← e']
  congr 2 <;> (apply Fin.ext; simp only [Fin.val_mk]; omega)

omit h2 h3 in
/-- and the logarithms of the exponentials' sums. -/
theorem res_l (g s r) : val_main_v103 (F := Ideal) x0 x1 (ix3 g s r)
    = ((Real.log (ez q k μ g ⟨s.val / 32, by omega⟩ ⟨256 * (s.val % 32) + r.val, by omega⟩)
        + μ g ⟨s.val / 32, by omega⟩ ⟨256 * (s.val % 32) + r.val, by omega⟩ : ℝ) : EReal) := by
  have e5 (g h t) : val_main_v66 (F := Ideal) x0 x1 (ix3 g h t) = ((μ g h t : ℝ) : EReal) := by
    have h := (r12' g h t _ rfl).symm.trans (hμ g h t)
    rwa [max_eq_right bot_le] at h
  have e4 (g h t j) : val_main_v65 (F := Ideal) x0 x1 (ix4 g h t j) = ((sS q k g h t j : ℝ) : EReal) := r4 h0 h1 g h t j
  have e70 (g h t j) : val_main_v70 (F := Ideal) x0 x1 (ix4 g h t j) = ((ee q k μ g h t j : ℝ) : EReal) := by
    unfold val_main_v70 val_main_v69 val_main_v68 val_main_v67
    pointwise [e4, e5]
    rw [← EReal.coe_sub, Ideal.exp_coe]
    rfl
  have e71 (g h t) : val_main_v71 (F := Ideal) x0 x1 (ix3 g h t) = ((ez q k μ g h t : ℝ) : EReal) := by
    unfold val_main_v71 val_main_cst_15
    pointwise [e70]
    simp only [AttMath.coe_sum_univ]
    simp [ez]
  have e73 (g h t) : val_main_v73 (F := Ideal) x0 x1 (ix3 g h t) = ((Real.log (ez q k μ g h t) + μ g h t : ℝ) : EReal) := by
    unfold val_main_v73 val_main_v72
    pointwise [e71, e5]
    rw [Ideal.log_coe, if_neg (not_le.mpr (show 0 < ez q k μ g h t from Finset.sum_pos (fun _ _ => Real.exp_pos _) Finset.univ_nonempty)), ← EReal.coe_add]
  unfold val_main_v103
  pointwise
  rw [← e73]
  congr 2 <;> (apply Fin.ext; simp only [Fin.val_mk]; omega)
end

end Cert.AttRefIdeal.Sums
-- ==== Proof.AttMeet.lean ====
/- The attention gradient's two formulas are one: the kernel's, from the saved log sums and output, and the reference's. -/
module

public import proofs.«01_k».proof.Proof.AttHost
public import proofs.«01_k».proof.Proof.AttRefRead

@[expose] public section

set_option maxRecDepth 16384

noncomputable section

namespace Cert.AttMeet

open Idealize.ShloMosaic
open Cert.AttRefIdeal.Sums (sS ee ez dP dZ dE hd)
open Cert.AttDxIdeal.Sums (sc zz oo dS dq dk1 dv1 dk dv Kr Wr Dr Qr)

/-- A sum over the keys' numbers is one over the keys. -/
theorem sum_keys (f : Fin 8192 → ℝ) : ∑ j ∈ Finset.range 8192, f (Fin.ofNat 8192 j) = ∑ j, f j := by
  rw [Finset.sum_range (fun j => f (Fin.ofNat 8192 j))]
  refine Finset.sum_congr rfl fun j _ => ?_
  congr 1
  exact Fin.ext (Nat.mod_eq_of_lt j.isLt)

/-- A strip's head within its group, and a row's token. -/
def hs (s : Fin 128) : Fin 4 := ⟨s.val / 32, by omega⟩
def ts (s : Fin 128) (r : Fin 256) : Fin 8192 := ⟨256 * (s.val % 32) + r.val, by omega⟩

/-- The strips' rows are the heads' tokens. -/
theorem sum_strips (f : Fin 128 → Fin 256 → ℝ) (F : Fin 4 → Fin 8192 → ℝ) (h : ∀ s r, f s r = F (hs s) (ts s r)) :
    (∑ s ∈ Finset.range 128, if hs : s < 128 then ∑ r, f ⟨s, hs⟩ r else 0) = ∑ a, ∑ t, F a t := by
  rw [Finset.sum_range (fun s => if hs : s < 128 then ∑ r, f ⟨s, hs⟩ r else 0)]
  refine Eq.trans (Finset.sum_congr rfl fun s _ => dif_pos s.isLt) ?_
  refine Fin.sum_points_lanes_congr 32 fun t k ha hl => ?_
  rw [h]
  exact congrArg (F _) (Fin.ext (by simp only [ts]; omega))

variable (q o : Fin 8192 → Fin 8 → Fin 64 → ℝ) (k v : Fin 8192 → Fin 2 → Fin 64 → ℝ) (μ : Fin 2 → Fin 4 → Fin 8192 → ℝ)

theorem sc_eq (g s r j) : sc (Kr k) (Qr q) g s r j = sS q k g (hs s) (ts s r) (Fin.ofNat 8192 j) := by
  simp only [sc, sS, Kr, Qr, Dr, Finset.sum_mul]
  exact Finset.sum_congr rfl fun d _ => (mul_assoc _ _ _).symm

theorem exp_eq (g h t j) : Real.exp (sS q k g h t j) = Real.exp (μ g h t) * ee q k μ g h t j := by
  rw [ee, ← Real.exp_add]; congr 1; ring

theorem zz_eq (g s r) : zz (Kr k) (Qr q) g s r = Real.exp (μ g (hs s) (ts s r)) * ez q k μ g (hs s) (ts s r) := by
  simp only [zz, sc_eq, ez, Finset.mul_sum]
  rw [sum_keys (fun j => Real.exp (sS q k g (hs s) (ts s r) j))]
  exact Finset.sum_congr rfl fun j _ => exp_eq q k μ _ _ _ _

theorem ez_pos (g h t) : 0 < ez q k μ g h t := Finset.sum_pos (fun _ _ => Real.exp_pos _) Finset.univ_nonempty

/-- The probabilities. -/
theorem prob_eq (g s r j) : Real.exp (sc (Kr k) (Qr q) g s r j - Real.log (zz (Kr k) (Qr q) g s r))
    = ee q k μ g (hs s) (ts s r) (Fin.ofNat 8192 j) * (1 / ez q k μ g (hs s) (ts s r)) := by
  have hz := ez_pos q k μ g (hs s) (ts s r)
  have he := Real.exp_pos (μ g (hs s) (ts s r))
  rw [Real.exp_sub, Real.exp_log (by rw [zz_eq q k μ]; positivity), zz_eq q k μ, sc_eq, exp_eq q k μ]
  field_simp

theorem oo_eq (g s d r) : oo (Kr k) (Wr v) (Qr q) g s d r
    = ∑ j, ee q k μ g (hs s) (ts s r) j * (1 / ez q k μ g (hs s) (ts s r)) * v j g d := by
  have hz := ez_pos q k μ g (hs s) (ts s r)
  have he := Real.exp_pos (μ g (hs s) (ts s r))
  simp only [oo, sc_eq, Wr]
  rw [sum_keys (fun j => Real.exp (sS q k g (hs s) (ts s r) j) * v j g d), zz_eq q k μ, Finset.sum_div]
  refine Finset.sum_congr rfl fun j _ => ?_
  rw [exp_eq q k μ]
  field_simp

/-- The rows' products of output and its gradient, the sum that the reference forms from the probabilities. -/
theorem delta_eq (g s r) : ∑ d, Dr o g s r d * oo (Kr k) (Wr v) (Qr q) g s d r
    = ez q k μ g (hs s) (ts s r) * dZ q o k v μ g (hs s) (ts s r) := by
  have hz := ez_pos q k μ g (hs s) (ts s r)
  simp only [oo_eq q k v μ, dZ, Finset.mul_sum]
  rw [Finset.sum_comm]
  refine Finset.sum_congr rfl fun j _ => ?_
  simp only [dP, Finset.sum_mul, Finset.mul_sum]
  refine Finset.sum_congr rfl fun d _ => ?_
  rw [show Dr o g s r d = o (ts s r) (hd g (hs s)) d from rfl]
  field_simp

/-- The scores' gradient. -/
theorem dS_eq (g s r j) : dS (Kr k) (Wr v) (Qr q) (Dr o) g s r j = dE q o k v μ g (hs s) (ts s r) (Fin.ofNat 8192 j) := by
  have hz := ez_pos q k μ g (hs s) (ts s r)
  have e : ∑ d, Wr v g d j * Dr o g s r d = dP o v g (hs s) (ts s r) (Fin.ofNat 8192 j) :=
    Finset.sum_congr rfl fun d _ => mul_comm _ _
  rw [dS, prob_eq q k μ, delta_eq q o k v μ, e, dE]
  field_simp
  ring

/-- The three gradients. -/
theorem dq_eq (g s d r) : dq (Kr k) (Wr v) (Qr q) (Dr o) g s d r * (1 / 8)
    = ∑ j, dE q o k v μ g (hs s) (ts s r) j * (1 / 8) * k j g d := by
  simp only [dq, dS_eq q o k v μ, Kr]
  rw [sum_keys (fun j => dE q o k v μ g (hs s) (ts s r) j * k j g d), Finset.sum_mul]
  exact Finset.sum_congr rfl fun j _ => by ring

theorem dk_eq (g d) (j : Fin 8192) : dk (Kr k) (Wr v) (Qr q) (Dr o) g d j.val
    = ∑ t, ∑ h, dE q o k v μ g h t j * (1 / 8) * q t (hd g h) d := by
  rw [Finset.sum_comm]
  simp only [dk, dk1]
  refine sum_strips (fun s r => Qr q g s r d * dS (Kr k) (Wr v) (Qr q) (Dr o) g s r j) (fun h t => dE q o k v μ g h t j * (1 / 8) * q t (hd g h) d) fun s r => ?_
  rw [dS_eq q o k v μ, show Fin.ofNat 8192 j.val = j from Fin.ext (Nat.mod_eq_of_lt j.isLt)]
  rw [show Qr q g s r d = q (ts s r) (hd g (hs s)) d * (1 / 8) from rfl]
  ring

theorem dv_eq (g d) (j : Fin 8192) : dv (Kr k) (Qr q) (Dr o) g d j.val
    = ∑ h, ∑ t, o t (hd g h) d * (ee q k μ g h t j * (1 / ez q k μ g h t)) := by
  simp only [dv, dv1]
  refine sum_strips (fun s r => Dr o g s r d * Real.exp (sc (Kr k) (Qr q) g s r j - Real.log (zz (Kr k) (Qr q) g s r))) (fun h t => o t (hd g h) d * (ee q k μ g h t j * (1 / ez q k μ g h t))) fun s r => ?_
  rw [prob_eq q k μ, show Fin.ofNat 8192 j.val = j from Fin.ext (Nat.mod_eq_of_lt j.isLt)]
  rfl

end Cert.AttMeet
-- ==== Proof.AttValue.lean ====
/- The attention gradient: the call's run and the reference's end with equal results. -/
module

public import proofs.«01_k».proof.Proof.AttMeet
public import proofs.«01_k».proof.Proof.Gen.AttRefIdeal.Run
public import Idealize.ShloMosaic.Lib.ReduceAll
public import proofs.«01_k».proof.Defs

@[expose] public section

set_option maxRecDepth 16384

noncomputable section

namespace Cert.AttDxIdeal.Sums

open Cert.AttDxIdeal Cert.AttDxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Where the run ends, every array holds what the segments leave in it. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

/-- A number below +∞ in absolute value is a real. -/
theorem real_of_abs (x : Ideal .f32) (h : FloatOps.cmpf .olt (FloatOps.absf x) (Ideal.ofBits .f32 0x7F800000#32) = 1#1) :
    x = ((EReal.toReal x : ℝ) : EReal) := by
  have e : Ideal.ofBits .f32 0x7F800000#32 = (⊤ : EReal) := by simp [Ideal.ofBits, Ideal.ieee]
  rw [e] at h
  refine (EReal.coe_toReal ?_ ?_).symm <;> rintro rfl <;> revert h <;> simp [FloatOps.cmpf, FloatOps.absf, Ideal.cmp]

instance : Subsingleton Cert.Pre_all_finite.S_.Idx := ⟨fun a b => funext fun i => i.elim0⟩

/-- The precondition's shapes fit. -/
theorem pre_facts : Cert.Pre_all_finite.Facts := by
  constructor <;> decide +kernel

theorem reals [Cert.Pre_all_finite.Facts] (hp : Cert.Pre_AttDxIdeal_all_finite m) (c : Dev nD) : ∃ q o k v, Reals m c q o k v := by
  have h := congrFun (hp c) (Shape.Idx.first (by decide))
  dsimp only [Cert.Pre_all_finite.fn, Cert.Pre_all_finite.fn_part1] at h
  obtain ⟨h, h3⟩ := IntOp.andi_eq_one.mp h
  obtain ⟨h, h2⟩ := IntOp.andi_eq_one.mp h
  obtain ⟨h0, h1⟩ := IntOp.andi_eq_one.mp h
  have e0 := fun i => real_of_abs _ (Host.reduce_andi_all _ _ _ _ _ h0 i)
  have e1 := fun i => real_of_abs _ (Host.reduce_andi_all _ _ _ _ _ h1 i)
  have e2 := fun i => real_of_abs _ (Host.reduce_andi_all _ _ _ _ _ h2 i)
  have e3 := fun i => real_of_abs _ (Host.reduce_andi_all _ _ _ _ _ h3 i)
  exact ⟨_, _, _, _, ⟨fun t h d => e0 (ix3 t h d), fun t h d => e1 (ix3 t h d), fun t h d => e2 (ix3 t h d),
    fun t h d => e3 (ix2 t ⟨64 * h.val + d.val, by omega⟩)⟩⟩

/-- The calls' five results. -/
abbrev vq (c : Dev nD) := W10 m ρ c (Proc.devRef .tc main_v34)
abbrev vk (c : Dev nD) := W10 m ρ c (Proc.devRef .tc main_v32_1)
abbrev vv (c : Dev nD) := W10 m ρ c (Proc.devRef .tc main_v32_2)
abbrev vo (c : Dev nD) := W10 m ρ c (Proc.devRef .tc main_v31_0)
abbrev vl (c : Dev nD) := W10 m ρ c (Proc.devRef .tc main_v36)

section
variable {m} {c : Dev nD} {q o : Fin 8192 → Fin 8 → Fin 64 → ℝ} {k v : Fin 8192 → Fin 2 → Fin 64 → ℝ} (hr : Reals m c q o k v)
include hr

open Cert.AttRefIdeal.Read Cert.AttRefIdeal.Sums Cert.AttMeet

/-- They are the reference's. -/
theorem ref_q : val_main_v76 (F := Ideal) (m ((c : Thread nD τ).loc main_arg0)) (m ((c : Thread nD τ).loc main_arg1))
    (m ((c : Thread nD τ).loc main_arg2)) (m ((c : Thread nD τ).loc main_arg3)) = vq m ρ c := by
  obtain ⟨μ, hμ⟩ := r12 hr.q hr.k
  funext y
  idx_vars y
  refine (res_q hr.q hr.k hr.v hr.o hμ _ _ _ _).trans (Eq.trans ?_ (out_q ρ hr _ _ _ _).symm)
  rw [dq_eq q o k v μ]
  rfl

theorem ref_k : val_main_v78 (F := Ideal) (m ((c : Thread nD τ).loc main_arg0)) (m ((c : Thread nD τ).loc main_arg1))
    (m ((c : Thread nD τ).loc main_arg2)) (m ((c : Thread nD τ).loc main_arg3)) = vk m ρ c := by
  obtain ⟨μ, hμ⟩ := r12 hr.q hr.k
  refine Eq.trans ?_ (out_k ρ hr).symm
  funext y
  idx_vars y
  refine (res_k hr.q hr.k hr.v hr.o hμ _ _ _ _).trans (Eq.trans ?_ (dkArr_at _ _ _ _).symm)
  exact congrArg _ (dk_eq q o k v μ _ _ ⟨_, _⟩).symm

theorem ref_v : val_main_v80 (F := Ideal) (m ((c : Thread nD τ).loc main_arg0)) (m ((c : Thread nD τ).loc main_arg1))
    (m ((c : Thread nD τ).loc main_arg3)) = vv m ρ c := by
  obtain ⟨μ, hμ⟩ := r12 hr.q hr.k
  refine Eq.trans ?_ (out_v ρ hr).symm
  funext y
  idx_vars y
  refine (res_v hr.q hr.k hr.o hμ _ _ _ _).trans (Eq.trans ?_ (dvArr_at _ _ _ _).symm)
  exact congrArg _ (dv_eq q o k μ _ _ ⟨_, _⟩).symm

theorem ref_o : val_main_v102 (F := Ideal) (m ((c : Thread nD τ).loc main_arg0)) (m ((c : Thread nD τ).loc main_arg1))
    (m ((c : Thread nD τ).loc main_arg2)) = vo m ρ c := by
  obtain ⟨μ, hμ⟩ := r12 hr.q hr.k
  refine Eq.trans ?_ (out_o ρ hr).symm
  funext y
  idx_vars y
  refine (res_o hr.q hr.k hr.v hμ _ _ _ _).trans (Eq.trans ?_ (oArr_at _ _ _ _ _ _ _).symm)
  rw [Cert.AttMeet.oo_eq q k v μ]
  exact congrArg _ (Finset.sum_congr rfl fun j _ => mul_comm _ _)

theorem ref_l : val_main_v103 (F := Ideal) (m ((c : Thread nD τ).loc main_arg0)) (m ((c : Thread nD τ).loc main_arg1)) = vl m ρ c := by
  obtain ⟨μ, hμ⟩ := r12 hr.q hr.k
  funext y
  idx_vars y
  refine (res_l hr.q hr.k hμ _ _ _).trans (Eq.trans ?_ (out_l ρ hr _ _ _).symm)
  rw [zz_eq q k μ, Real.log_mul (Real.exp_ne_zero _) (ez_pos q k μ _ _ _).ne', Real.log_exp, add_comm]
  rfl
end

/-- The call's run and the reference's end with equal results. -/
theorem algebraic [Cert.Pre_all_finite.Facts] : Cert.algebraic_AttDxIdeal_AttRefIdeal_pre_all_finite := by
  intro m g m' g' hp hag
  refine ⟨fun c => vq m g c, fun c => vk m g c, fun c => vv m g c, fun c => vo m g c, fun c => vl m g c, ?_, ?_⟩
  · refine (θ_run defs _ _).mono (fun r h c => ?_) (run m g)
    exact ⟨h c _ (mem_uc main_v34 (by decide)), h c _ (mem_uc main_v32_1 (by decide)), h c _ (mem_uc main_v32_2 (by decide)),
       h c _ (mem_uc main_v31_0 (by decide)), h c _ (mem_uc main_v36 (by decide)),
       (h c _ (mem_uc main_arg0 (by decide))).trans (W10_main_arg0 m g c),
       (h c _ (mem_uc main_arg1 (by decide))).trans (W10_main_arg1 m g c),
       (h c _ (mem_uc main_arg2 (by decide))).trans (W10_main_arg2 m g c),
       (h c _ (mem_uc main_arg3 (by decide))).trans (W10_main_arg3 m g c)⟩
  · refine (θ_run Cert.AttRefIdeal.defs _ _).mono (fun r h c => ?_) (Cert.AttRefIdeal.Value.run m' g')
    obtain ⟨hq, hk, hv, ho, hl, h⟩ := h c
    obtain ⟨e0, e1, e2, e3⟩ := hag c
    obtain ⟨q, o, k, v, hr⟩ := reals m hp c
    refine ⟨hq.trans ?_, hk.trans ?_, hv.trans ?_, ho.trans ?_, hl.trans ?_, h⟩
    · rw [Cert.AttRefIdeal.Read.val_main_v76_eq, e0, e1, e2, e3]; exact ref_q g hr
    · rw [Cert.AttRefIdeal.Read.val_main_v78_eq, e0, e1, e2, e3]; exact ref_k g hr
    · rw [Cert.AttRefIdeal.Read.val_main_v80_eq, e0, e1, e3]; exact ref_v g hr
    · rw [Cert.AttRefIdeal.Read.val_main_v102_eq, e0, e1, e2]; exact ref_o g hr
    · rw [Cert.AttRefIdeal.Read.val_main_v103_eq, e0, e1]; exact ref_l g hr

end Cert.AttDxIdeal.Sums

end
-- ==== Proof.PrepFwValue.lean ====
/- The forward rotary preparation: the call's five results are the reference's, the normed, weighed and turned heads of the query and
   the key and the value's heads, as columns or as padded rows. -/
module

public import proofs.«01_k».proof.Proof.PrepFwHost
public import proofs.«01_k».proof.Proof.PrepFwRefRead
public import proofs.«01_k».proof.Proof.Gen.PrepFwRefIdeal.Run
public import proofs.«01_k».proof.Proof.AttValue

@[expose] public section

set_option maxRecDepth 16384

noncomputable section

namespace Cert.PrepFwIdeal.Sums

open Cert.PrepFwIdeal Cert.PrepFwIdeal.Gen Cert.PrepMath Idealize.ShloMosaic Idealize.ShloMosaic.TcCoe Idealize.SL.Sem
open Cert.PrepDxIdeal.Sums (wq wk lo cover_q cover_k)
open Cert.PrepRefIdeal.Sums (uq uk)
open Cert.PrepFwRefIdeal.Sums (uv nq nk)
open Cert.MixDxIdeal.Sums (padded)

variable (m : (ℓ : Loc nD τ sig) → Buf (Elt Ideal) ℓ) (c : Dev nD)

/-- The arguments are reals. -/
structure Reals : Prop where
  u : ∀ R l, Re ((m ((c : Thread nD τ).loc main_arg0) : Vec Ideal S8192x3328 .f32) (ix2 R l))
  wq : ∀ d, Re ((m ((c : Thread nD τ).loc main_arg1) : Vec Ideal S1x64 .f32) (ix2 0 d))
  wk : ∀ d, Re ((m ((c : Thread nD τ).loc main_arg2) : Vec Ideal S1x64 .f32) (ix2 0 d))

instance : Subsingleton Cert.Pre_prep_fw_finite.S_.Idx := ⟨fun a b => funext fun i => i.elim0⟩

/-- The precondition's shapes fit. -/
theorem pre_facts : Cert.Pre_prep_fw_finite.Facts := by
  constructor <;> decide +kernel

theorem reals [Cert.Pre_prep_fw_finite.Facts] (hp : Cert.Pre_PrepFwIdeal_prep_fw_finite m) (c : Dev nD) : Reals m c := by
  have h := congrFun (hp c) (Shape.Idx.first (by decide))
  dsimp only [Cert.Pre_prep_fw_finite.fn] at h
  obtain ⟨h, h2⟩ := IntOp.andi_eq_one.mp h
  obtain ⟨h0, h1⟩ := IntOp.andi_eq_one.mp h
  have e0 := fun i => Cert.AttDxIdeal.Sums.real_of_abs _ (Host.reduce_andi_all _ _ _ _ _ h0 i)
  have e1 := fun i => Cert.AttDxIdeal.Sums.real_of_abs _ (Host.reduce_andi_all _ _ _ _ _ h1 i)
  have e2 := fun i => Cert.AttDxIdeal.Sums.real_of_abs _ (Host.reduce_andi_all _ _ _ _ _ h2 i)
  exact ⟨fun R l => ⟨_, e0 (ix2 R l)⟩, fun d => ⟨_, e1 (ix2 0 d)⟩, fun d => ⟨_, e2 (ix2 0 d)⟩⟩

/-- A head of the query, of the key and of the value at a row. -/
def headQ (R : Fin 8192) (h : Fin 8) (d : Fin 64) : EReal :=
  rot (nq (m ((c : Thread nD τ).loc main_arg0)) (m ((c : Thread nD τ).loc main_arg1)) R h) (co R) (si R) d * Ideal.ofBits .f32 0x3E000000#32
def headK (R : Fin 8192) (h : Fin 2) (d : Fin 64) : EReal :=
  rot (nk (m ((c : Thread nD τ).loc main_arg0)) (m ((c : Thread nD τ).loc main_arg2)) R h) (co R) (si R) d
def headV (R : Fin 8192) (h : Fin 2) (d : Fin 64) : EReal :=
  (m ((c : Thread nD τ).loc main_arg0) : Vec Ideal S8192x3328 .f32) (ix2 R (uv h d))

theorem weight_7 (t : Fin cfg0.N) (d : Fin 64) : (iblk m c 7 t : Vec Ideal S1x128 .f32) (ix2 0 (lo d)) = m ((c : Thread nD τ).loc main_arg1) (ix2 0 d) :=
  (blk_7 m c t (lo d)).trans (dif_pos d.isLt)
theorem weight_8 (t : Fin cfg0.N) (d : Fin 64) : (iblk m c 8 t : Vec Ideal S1x128 .f32) (ix2 0 (lo d)) = m ((c : Thread nD τ).loc main_arg2) (ix2 0 d) :=
  (blk_8 m c t (lo d)).trans (dif_pos d.isLt)

theorem at_q (hr : Reals m c) (t : Fin cfg0.N) (r : Fin 256) (h : Fin 8) (d : Fin 64) :
    valQ (X0_0 m c t) (iblk m c 9 t) (iblk m c 11 t) (iblk m c 3 t) (iblk m c 4 t) (iblk m c 7 t) (ix2 r (wq h d)) = headQ m c (row t r) h d := by
  refine (val_q _ _ _ _ _ _ (fun r => co (row t r)) (fun r => si (row t r)) (fun r l => ?_) (blk_9 m c t) (blk_11 m c t) (blk_3 m c t) (blk_4 m c t) (fun l => ?_) r h d).trans ?_
  · rw [blk_0]; exact hr.u _ _
  · rw [blk_7]; split_ifs
    · exact hr.wq _
    · exact ⟨0, by simp⟩
  · simp only [weight_7, blk_0]; rfl

theorem at_k (hr : Reals m c) (t : Fin cfg0.N) (r : Fin 256) (h : Fin 2) (d : Fin 64) :
    valK (iblk m c 1 t) (iblk m c 10 t) (iblk m c 12 t) (iblk m c 5 t) (iblk m c 6 t) (iblk m c 8 t) (ix2 r (wk h d)) = headK m c (row t r) h d := by
  refine (val_k _ _ _ _ _ _ (fun r => co (row t r)) (fun r => si (row t r)) (fun r l => ?_) (blk_10 m c t) (blk_12 m c t) (blk_5 m c t) (blk_6 m c t) (fun l => ?_) r h d).trans ?_
  · rw [blk_1]; exact hr.u _ _
  · rw [blk_8]; split_ifs
    · exact hr.wk _
    · exact ⟨0, by simp⟩
  · simp only [weight_8, blk_1]; rfl

theorem at_v (t : Fin cfg0.N) (r : Fin 256) (h : Fin 2) (d : Fin 64) :
    (iblk m c 2 t : Vec Ideal S256x128 .f32) (ix2 r (wk h d)) = headV m c (row t r) h d := blk_2 m c t r (wk h d)

/-- A piece of a block is one head's part. -/
theorem tile {e : EltTy} {n a b : ℕ} {h : Fin n} (k : Fin n) {x : Fin a} {y : Fin b} (P : (⟨4, ![1, 1, a, b]⟩ : Shape).Idx → Elt Ideal e)
    (val : Fin n → Fin a → Fin b → Elt Ideal e) (hP : ∀ x y, P (ix4 0 0 x y) = val k x y) :
    View.TileAt (S := ⟨4, ![n, 1, a, b]⟩) (Val := Elt Ideal) (e := e) (ix4 h 0 x y) ![k.val, 0, 0, 0] ![1, 1, a, b] P (val h x y) := by
  intro z hz
  have h0 := hz 0
  have h1 := hz 1
  have h2 := hz 2
  have h3 := hz 3
  have b0 := (z 0).isLt
  simp at h0 h1 h2 h3 b0
  have e : z = ix4 0 0 x y := by
    funext i
    apply Fin.ext
    fin_cases i <;> simp <;> omega
  have en : h = k := Fin.ext (by omega)
  rw [e, en]
  exact hP x y

/-! The results' blocks, and the reference's arrays. -/
def colsQ (t : Fin cfg0.N) (h : Fin 8) (d : Fin 64) (r : Fin 256) : EReal := headQ m c (row t r) h d
def rowsQ (t : Fin cfg0.N) (h : Fin 8) (r : Fin 256) (l : Fin 128) : EReal := padded (headQ m c (row t r) h) l
def rowsK (t : Fin cfg0.N) (h : Fin 2) (r : Fin 256) (l : Fin 128) : EReal := padded (headK m c (row t r) h) l
def colsK (t : Fin cfg0.N) (h : Fin 2) (d : Fin 64) (r : Fin 256) : EReal := headK m c (row t r) h d
def colsV (t : Fin cfg0.N) (h : Fin 2) (d : Fin 64) (r : Fin 256) : EReal := headV m c (row t r) h d
def refQt : Vec Ideal S8x32x64x256 .bf16 := Cert.PrepFwRefIdeal.Read.val_main_v104 (F := Ideal) (m ((c : Thread nD τ).loc main_arg0)) (m ((c : Thread nD τ).loc main_arg1))
def refQs : Vec Ideal S8x32x256x128 .bf16 := Cert.PrepFwRefIdeal.Read.val_main_v108 (F := Ideal) (m ((c : Thread nD τ).loc main_arg0)) (m ((c : Thread nD τ).loc main_arg1))
def refKs : Vec Ideal S2x32x256x128 .bf16 := Cert.PrepFwRefIdeal.Read.val_main_v112 (F := Ideal) (m ((c : Thread nD τ).loc main_arg0)) (m ((c : Thread nD τ).loc main_arg2))
def refKt : Vec Ideal S2x32x64x256 .bf16 := Cert.PrepFwRefIdeal.Read.val_main_v115 (F := Ideal) (m ((c : Thread nD τ).loc main_arg0)) (m ((c : Thread nD τ).loc main_arg2))
def refVt : Vec Ideal S2x32x64x256 .bf16 := Cert.PrepFwRefIdeal.Read.val_main_v118 (F := Ideal) (m ((c : Thread nD τ).loc main_arg0))

theorem outs_13 (hr : Reals m c) (t : Fin cfg0.N) (h : Fin 8) (d : Fin 64) (r : Fin 256) :
    (outsAt0 m c t).1 (ix4 h 0 d r) = refQt m c (ix4 h (pt t) d r) := by
  unfold refQt
  refine Eq.trans ?_ (Cert.PrepFwRefIdeal.Sums.cols_q _ _ h (pt t) d r (row t r) rfl).symm
  change _ = colsQ m c t h d r
  unfold outsAt0
  frame_out
  refine View.canon_eq_of_allAt _ _ _ (View.cover_of_tiled_head _ _ _ rfl _) ?_
  refine View.allAt_cons_unit _ _ _ _ _ (tile (e := .bf16) 7 _ (colsQ m c t) fun x y => ((cols_q _ y x).2.2.2.2.2.2.2).trans (at_q m c hr t y _ _)) ?_
  refine View.allAt_cons_unit _ _ _ _ _ (tile (e := .bf16) 6 _ (colsQ m c t) fun x y => ((cols_q _ y x).2.2.2.2.2.2.1).trans (at_q m c hr t y _ _)) ?_
  refine View.allAt_cons_unit _ _ _ _ _ (tile (e := .bf16) 5 _ (colsQ m c t) fun x y => ((cols_q _ y x).2.2.2.2.2.1).trans (at_q m c hr t y _ _)) ?_
  refine View.allAt_cons_unit _ _ _ _ _ (tile (e := .bf16) 4 _ (colsQ m c t) fun x y => ((cols_q _ y x).2.2.2.2.1).trans (at_q m c hr t y _ _)) ?_
  refine View.allAt_cons_unit _ _ _ _ _ (tile (e := .bf16) 3 _ (colsQ m c t) fun x y => ((cols_q _ y x).2.2.2.1).trans (at_q m c hr t y _ _)) ?_
  refine View.allAt_cons_unit _ _ _ _ _ (tile (e := .bf16) 2 _ (colsQ m c t) fun x y => ((cols_q _ y x).2.2.1).trans (at_q m c hr t y _ _)) ?_
  refine View.allAt_cons_unit _ _ _ _ _ (tile (e := .bf16) 1 _ (colsQ m c t) fun x y => ((cols_q _ y x).2.1).trans (at_q m c hr t y _ _)) ?_
  refine View.allAt_cons_unit _ _ _ _ _ (tile (e := .bf16) 0 _ (colsQ m c t) fun x y => ((cols_q _ y x).1).trans (at_q m c hr t y _ _)) ?_
  exact View.allAt_nil _ _

theorem final_13 (hr : Reals m c) : (dats m 0 c).arrAt 13 cfg0.N = (refQt m c : S8x32x64x256.Idx → EReal) := by
  refine (dats m 0 c).arrAt_eq_of_covers 13 _ (by decide +kernel) fun t hf y => ?_
  blk_simp
  rw [after0_13]
  idx_vars y
  obtain rfl : y1 = 0 := Subsingleton.elim _ _
  rw [outs_13 m c hr]
  blk_ext [idx t, pt]

theorem outs_14 (hr : Reals m c) (t : Fin cfg0.N) (h : Fin 8) (r : Fin 256) (l : Fin 128) :
    (outsAt0 m c t).2.1 (ix4 h 0 r l) = refQs m c (ix4 h (pt t) r l) := by
  unfold refQs
  refine Eq.trans ?_ (Cert.PrepFwRefIdeal.Sums.rows_q _ _ h (pt t) r l (row t r) rfl).symm
  change _ = rowsQ m c t h r l
  unfold outsAt0
  frame_out
  refine View.canon_eq_of_allAt _ _ _ (View.cover_of_tiled_head _ _ _ rfl _) ?_
  refine View.allAt_cons_unit _ _ _ _ _ (tile (e := .bf16) 7 _ (rowsQ m c t) fun x y => ((rows_q _ x y).2.2.2.2.2.2.2).trans (congrArg (padded · y) (funext fun d => at_q m c hr t x _ d))) ?_
  refine View.allAt_cons_unit _ _ _ _ _ (tile (e := .bf16) 6 _ (rowsQ m c t) fun x y => ((rows_q _ x y).2.2.2.2.2.2.1).trans (congrArg (padded · y) (funext fun d => at_q m c hr t x _ d))) ?_
  refine View.allAt_cons_unit _ _ _ _ _ (tile (e := .bf16) 5 _ (rowsQ m c t) fun x y => ((rows_q _ x y).2.2.2.2.2.1).trans (congrArg (padded · y) (funext fun d => at_q m c hr t x _ d))) ?_
  refine View.allAt_cons_unit _ _ _ _ _ (tile (e := .bf16) 4 _ (rowsQ m c t) fun x y => ((rows_q _ x y).2.2.2.2.1).trans (congrArg (padded · y) (funext fun d => at_q m c hr t x _ d))) ?_
  refine View.allAt_cons_unit _ _ _ _ _ (tile (e := .bf16) 3 _ (rowsQ m c t) fun x y => ((rows_q _ x y).2.2.2.1).trans (congrArg (padded · y) (funext fun d => at_q m c hr t x _ d))) ?_
  refine View.allAt_cons_unit _ _ _ _ _ (tile (e := .bf16) 2 _ (rowsQ m c t) fun x y => ((rows_q _ x y).2.2.1).trans (congrArg (padded · y) (funext fun d => at_q m c hr t x _ d))) ?_
  refine View.allAt_cons_unit _ _ _ _ _ (tile (e := .bf16) 1 _ (rowsQ m c t) fun x y => ((rows_q _ x y).2.1).trans (congrArg (padded · y) (funext fun d => at_q m c hr t x _ d))) ?_
  refine View.allAt_cons_unit _ _ _ _ _ (tile (e := .bf16) 0 _ (rowsQ m c t) fun x y => ((rows_q _ x y).1).trans (congrArg (padded · y) (funext fun d => at_q m c hr t x _ d))) ?_
  exact View.allAt_nil _ _

theorem final_14 (hr : Reals m c) : (dats m 0 c).arrAt 14 cfg0.N = (refQs m c : S8x32x256x128.Idx → EReal) := by
  refine (dats m 0 c).arrAt_eq_of_covers 14 _ (by decide +kernel) fun t hf y => ?_
  blk_simp
  rw [after0_14]
  idx_vars y
  obtain rfl : y1 = 0 := Subsingleton.elim _ _
  rw [outs_14 m c hr]
  blk_ext [idx t, pt]

theorem outs_15 (hr : Reals m c) (t : Fin cfg0.N) (h : Fin 2) (r : Fin 256) (l : Fin 128) :
    (outsAt0 m c t).2.2.1 (ix4 h 0 r l) = refKs m c (ix4 h (pt t) r l) := by
  unfold refKs
  refine Eq.trans ?_ (Cert.PrepFwRefIdeal.Sums.rows_k _ _ h (pt t) r l (row t r) rfl).symm
  change _ = rowsK m c t h r l
  unfold outsAt0
  frame_out
  refine View.canon_eq_of_allAt _ _ _ (View.cover_of_tiled_head _ _ _ rfl _) ?_
  refine View.allAt_cons_unit _ _ _ _ _ (tile (e := .bf16) 1 _ (rowsK m c t) fun x y => ((rows_k _ x y).2).trans (congrArg (padded · y) (funext fun d => at_k m c hr t x _ d))) ?_
  refine View.allAt_cons_unit _ _ _ _ _ (tile (e := .bf16) 0 _ (rowsK m c t) fun x y => ((rows_k _ x y).1).trans (congrArg (padded · y) (funext fun d => at_k m c hr t x _ d))) ?_
  exact View.allAt_nil _ _

theorem final_15 (hr : Reals m c) : (dats m 0 c).arrAt 15 cfg0.N = (refKs m c : S2x32x256x128.Idx → EReal) := by
  refine (dats m 0 c).arrAt_eq_of_covers 15 _ (by decide +kernel) fun t hf y => ?_
  blk_simp
  rw [after0_15]
  idx_vars y
  obtain rfl : y1 = 0 := Subsingleton.elim _ _
  rw [outs_15 m c hr]
  blk_ext [idx t, pt]

theorem outs_16 (hr : Reals m c) (t : Fin cfg0.N) (h : Fin 2) (d : Fin 64) (r : Fin 256) :
    (outsAt0 m c t).2.2.2.1 (ix4 h 0 d r) = refKt m c (ix4 h (pt t) d r) := by
  unfold refKt
  refine Eq.trans ?_ (Cert.PrepFwRefIdeal.Sums.cols_k _ _ h (pt t) d r (row t r) rfl).symm
  change _ = colsK m c t h d r
  unfold outsAt0
  frame_out
  refine View.canon_eq_of_allAt _ _ _ (View.cover_of_tiled_head _ _ _ rfl _) ?_
  refine View.allAt_cons_unit _ _ _ _ _ (tile (e := .bf16) 1 _ (colsK m c t) fun x y => ((cols_k _ y x).2).trans (at_k m c hr t y _ _)) ?_
  refine View.allAt_cons_unit _ _ _ _ _ (tile (e := .bf16) 0 _ (colsK m c t) fun x y => ((cols_k _ y x).1).trans (at_k m c hr t y _ _)) ?_
  exact View.allAt_nil _ _

theorem final_16 (hr : Reals m c) : (dats m 0 c).arrAt 16 cfg0.N = (refKt m c : S2x32x64x256.Idx → EReal) := by
  refine (dats m 0 c).arrAt_eq_of_covers 16 _ (by decide +kernel) fun t hf y => ?_
  blk_simp
  rw [after0_16]
  idx_vars y
  obtain rfl : y1 = 0 := Subsingleton.elim _ _
  rw [outs_16 m c hr]
  blk_ext [idx t, pt]

theorem outs_17 (t : Fin cfg0.N) (h : Fin 2) (d : Fin 64) (r : Fin 256) :
    (outsAt0 m c t).2.2.2.2 (ix4 h 0 d r) = refVt m c (ix4 h (pt t) d r) := by
  unfold refVt
  refine Eq.trans ?_ (Cert.PrepFwRefIdeal.Sums.cols_v _ h (pt t) d r (row t r) rfl).symm
  change _ = colsV m c t h d r
  unfold outsAt0
  frame_out
  refine View.canon_eq_of_allAt _ _ _ (View.cover_of_tiled_head _ _ _ rfl _) ?_
  refine View.allAt_cons_unit _ _ _ _ _ (tile (e := .bf16) 1 _ (colsV m c t) fun x y => ((cols_v _ y x).2).trans (at_v m c t y _ _)) ?_
  refine View.allAt_cons_unit _ _ _ _ _ (tile (e := .bf16) 0 _ (colsV m c t) fun x y => ((cols_v _ y x).1).trans (at_v m c t y _ _)) ?_
  exact View.allAt_nil _ _

theorem final_17 : (dats m 0 c).arrAt 17 cfg0.N = (refVt m c : S2x32x64x256.Idx → EReal) := by
  refine (dats m 0 c).arrAt_eq_of_covers 17 _ (by decide +kernel) fun t hf y => ?_
  blk_simp
  rw [after0_17]
  idx_vars y
  obtain rfl : y1 = 0 := Subsingleton.elim _ _
  rw [outs_17 m c]
  blk_ext [idx t, pt]

/-- The call's run and the reference's end with equal results. -/
theorem algebraic [Cert.Pre_prep_fw_finite.Facts] : Cert.algebraic_PrepFwIdeal_PrepFwRefIdeal_pre_prep_fw_finite := by
  intro m g m' g' hp hag
  refine ⟨fun c => refQt m c, fun c => refQs m c, fun c => refKs m c, fun c => refKt m c, fun c => refVt m c, ?_, ?_⟩
  · refine (θ_run defs _ _).mono (fun r h c => ?_) (Value.run_blocks m g)
    have hr := reals m hp c
    obtain ⟨h0, h1, h2, h3, h4, h⟩ := h c
    exact ⟨h0.trans (final_13 m c hr), h1.trans (final_14 m c hr), h2.trans (final_15 m c hr), h3.trans (final_16 m c hr), h4.trans (final_17 m c), h⟩
  · refine (θ_run Cert.PrepFwRefIdeal.defs _ _).mono (fun r h c => ?_) (Cert.PrepFwRefIdeal.Value.run m' g')
    obtain ⟨h0, h1, h2, h3, h4, h⟩ := h c
    obtain ⟨e0, e1, e2⟩ := hag c
    refine ⟨h0.trans ?_, h1.trans ?_, h2.trans ?_, h3.trans ?_, h4.trans ?_, h⟩
    · rw [Cert.PrepFwRefIdeal.Read.val_main_v104_eq, e0, e1]; rfl
    · rw [Cert.PrepFwRefIdeal.Read.val_main_v108_eq, e0, e1]; rfl
    · rw [Cert.PrepFwRefIdeal.Read.val_main_v112_eq, e0, e2]; rfl
    · rw [Cert.PrepFwRefIdeal.Read.val_main_v115_eq, e0, e2]; rfl
    · rw [Cert.PrepFwRefIdeal.Read.val_main_v118_eq, e0]; rfl

end Cert.PrepFwIdeal.Sums

end
-- ==== Proof.InPay.lean ====
/- The projection's backward call, block by block: the body's payloads at an index are the reference's terms at the same
   row of the whole arrays. -/
module

public import proofs.«01_k».proof.Proof.Gen.InDxIdeal.Value
public import proofs.«01_k».proof.Proof.Gen.InRefIdeal.Read
public import Idealize.ShloMosaic.Lib.Pointwise

@[expose] public section

noncomputable section

namespace Cert.InDxIdeal.Sums

open Cert.InDxIdeal Cert.InDxIdeal.Gen Idealize.ShloMosaic Idealize.ShloMosaic.TcCoe Idealize.SL.Sem
open Cert.InRefIdeal.Read

/-- One row's share of the norm weight's gradient at column `l`, as the reference forms it. -/
def dwTerm (X : FVec Ideal S8192x1024 .f32) (W : FVec Ideal S1024x3328 .f32) (U : FVec Ideal S8192x3328 .f32) (R : Fin 8192) (l : Fin 1024) :
    EReal :=
  val_main_v17 (F := Ideal) X W U (ix2 R l)

variable (X : FVec Ideal S8192x1024 .f32) (G : FVec Ideal S1x1024 .f32) (W : FVec Ideal S1024x3328 .f32) (D : FVec Ideal S8192x1024 .f32)
  (U : FVec Ideal S8192x3328 .f32) (u : Vec Ideal S256x3328 .bf16) (w : Vec Ideal S1024x3328 .bf16) (x : Vec Ideal S256x1024 .f32)
  (g : Vec Ideal S1x1024 .f32) (d : Vec Ideal S256x1024 .f32) (o : Vec Ideal S1x1024 .f32) (row : Fin 256 → Fin 8192)
  (hu : ∀ r k, u (ix2 r k) = U (ix2 (row r) k)) (hw : ∀ a k, w (ix2 a k) = W (ix2 a k))
  (hx : ∀ r k, x (ix2 r k) = X (ix2 (row r) k)) (hg : ∀ k, g (ix2 0 k) = G (ix2 0 k))
  (hd : ∀ r k, d (ix2 r k) = D (ix2 (row r) k))

include hu hw hx hg hd in
/-- The block of `dx` holds the reference's `dx` at the block's rows: the same terms, added in another order. -/
theorem dx_at (r : Fin 256) (l : Fin 1024) :
    k0_pay1 x (k0_pay9 u w x g) (k0_pay10 u w x g) d (ix2 r l) = val_main_v36 (F := Ideal) X G W D U (ix2 (row r) l) := by
  unfold_payloads
  pointwise [hu, hw, hx, hg, hd, dot_S256x3328_S1024x3328_S256x1024_1_1_0_0_n_n,
    Cert.InRefIdeal.dot_S8192x3328_S1024x3328_S8192x1024_1_1_0_0_n_n,
    val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v16, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6]
  ac_nf

include hu hw hx in
/-- A block adds its rows' shares of the norm weight's gradient to the running row. -/
theorem dw_at (l : Fin 1024) :
    k0_pay2 (F := Ideal) (k0_pay7 u w x) o (ix2 0 l) = o (ix2 0 l) + ∑ r : Fin 256, dwTerm X W U (row r) l := by
  unfold dwTerm
  unfold_payloads
  pointwise [hu, hw, hx, dot_S256x3328_S1024x3328_S256x1024_1_1_0_0_n_n,
    Cert.InRefIdeal.dot_S8192x3328_S1024x3328_S8192x1024_1_1_0_0_n_n,
    val_main_v17, val_main_v16, val_main_v12, val_main_v11,
    val_main_v7, val_main_v6, val_main_v5, val_main_v4, val_main_v3, val_main_v2, val_main_v1, val_main_v0,
    val_main_cst, val_main_cst_0, val_main_cst_1]

/-- The reference's norm-weight gradient is the sum of all rows' shares. -/
theorem dw_ref (l : Fin 1024) :
    val_main_v19 (F := Ideal) X W U (ix2 0 l) = ∑ R : Fin 8192, dwTerm X W U R l := by
  unfold dwTerm val_main_v19 val_main_v18
  pointwise [val_main_cst_3]

end Cert.InDxIdeal.Sums

end
-- ==== Proof.InValue.lean ====
/- The projection's backward call as a whole: what its two result arrays hold after the run, and its value claim. -/
module

public import proofs.«01_k».proof.Proof.InPay
public import proofs.«01_k».proof.Defs
public import Idealize.ShloMosaic.Lib.Pipeline.ValueKit

@[expose] public section

set_option maxRecDepth 16384

noncomputable section

namespace Cert.InDxIdeal.Sums

open Cert.InDxIdeal Cert.InDxIdeal.Gen Idealize.ShloMosaic Idealize.ShloMosaic.TcCoe Idealize.SL.Sem

variable (m : (ℓ : Loc nD τ sig) → Buf (Elt Ideal) ℓ) (c : Dev nD)

/-- Row `r` of block `t`. -/
def row (t : Fin cfg0.N) (r : Fin 256) : Fin 8192 := ⟨256 * t.val + r.val, by have : t.val < 32 := t.isLt; omega⟩

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem blk_u (t : Fin cfg0.N) (r : Fin 256) (k : Fin 3328) :
    (iblk m c 0 t : Vec Ideal S256x3328 .bf16) (ix2 r k) = m ((c : Thread nD τ).loc main_arg4) (ix2 (row t r) k) := by
  unfold iblk
  entry_read
  pointwise
  blk_ext [idx t, row]

theorem blk_w (t : Fin cfg0.N) (a : Fin 1024) (k : Fin 3328) :
    (iblk m c 1 t : Vec Ideal S1024x3328 .bf16) (ix2 a k) = m ((c : Thread nD τ).loc main_arg2) (ix2 a k) := by
  unfold iblk
  entry_read
  pointwise
  blk_ext [idx t]

theorem blk_x (t : Fin cfg0.N) (r : Fin 256) (k : Fin 1024) :
    (iblk m c 2 t : Vec Ideal S256x1024 .f32) (ix2 r k) = m ((c : Thread nD τ).loc main_arg0) (ix2 (row t r) k) := by
  unfold iblk
  entry_read
  blk_ext [idx t, row]

theorem blk_g (t : Fin cfg0.N) (k : Fin 1024) :
    (iblk m c 3 t : Vec Ideal S1x1024 .f32) (ix2 0 k) = m ((c : Thread nD τ).loc main_arg1) (ix2 0 k) := by
  unfold iblk
  entry_read
  blk_ext [idx t]

theorem blk_d (t : Fin cfg0.N) (r : Fin 256) (k : Fin 1024) :
    (iblk m c 4 t : Vec Ideal S256x1024 .f32) (ix2 r k) = m ((c : Thread nD τ).loc main_arg3) (ix2 (row t r) k) := by
  unfold iblk
  entry_read
  blk_ext [idx t, row]

/-- The reference's `dx` of the arguments in memory. -/
def dx : FVec Ideal S8192x1024 .f32 :=
  Cert.InRefIdeal.Read.val_main_v36 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's gradient of the norm weight of the arguments in memory. -/
def dw : FVec Ideal S1x1024 .f32 :=
  Cert.InRefIdeal.Read.val_main_v19 (F := Ideal) (m ((c : Thread nD τ).loc main_arg0))
    (m ((c : Thread nD τ).loc main_arg2)) (m ((c : Thread nD τ).loc main_arg4))

/-- After any grid point the first output's block holds the reference's `dx` at the block's rows. -/
theorem outs_dx (t : Fin cfg0.N) (r : Fin 256) (l : Fin 1024) : (outsAt0 m c t.val t.isLt).1 (ix2 r l) = dx m c (ix2 (row t r) l) := by
  by_cases h0 : t.val % 32 = 0
  · rw [outsAt0_A m c t h0]; frame_out
    exact dx_at _ _ _ _ _ _ _ _ _ _ (row t) (blk_u m c t) (blk_w m c t) (blk_x m c t) (blk_g m c t) (blk_d m c t) r l
  · rw [outsAt0_B m c t h0]; frame_out
    exact dx_at _ _ _ _ _ _ _ _ _ _ (row t) (blk_u m c t) (blk_w m c t) (blk_x m c t) (blk_g m c t) (blk_d m c t) r l

theorem final_dx : (dats m 0 c).arrAt 5 cfg0.N = dx m c := by
  refine (dats m 0 c).arrAt_eq_of_covers 5 _ (by decide +kernel) fun t hf y => ?_
  blk_simp
  rw [after0_5]
  idx_vars y
  rw [outs_dx]
  blk_ext [idx t, row]

/-- A sum over all rows is the sum over the blocks of the sums over their rows. -/
theorem sum_rows (f : Fin 8192 → EReal) : ∑ R, f R = ∑ t : Fin cfg0.N, ∑ r : Fin 256, f (row t r) := by
  refine (Fin.sum_univ_tiles 32 256 rfl f).trans (Finset.sum_congr rfl fun t _ => Finset.sum_congr rfl fun r _ => ?_)
  exact congrArg f (Fin.ext (by show _ = 256 * t.val + r.val; simp; omega))

/-- The last grid point. -/
def tL : Fin cfg0.N := ⟨31, by decide⟩

/-- The running row after a point that starts over: the block's shares alone. -/
theorem dw_first (t : Fin cfg0.N) (h : t.val % 32 = 0) (l : Fin 1024) :
    (outsAt0 m c t.val t.isLt).2 (ix2 0 l) = 0 + ∑ r : Fin 256, dwTerm (m ((c : Thread nD τ).loc main_arg0))
      (m ((c : Thread nD τ).loc main_arg2)) (m ((c : Thread nD τ).loc main_arg4)) (row t r) l := by
  rw [outsAt0_A m c t h]
  frame_out
  rw [dw_at _ _ _ _ _ _ _ (row t) (blk_u m c t) (blk_w m c t) (blk_x m c t)]
  congr 1
  unfold k0_pay3
  pointwise

/-- The running row after any other point: what was there and the block's shares. -/
theorem dw_next (t : Fin cfg0.N) (h : ¬t.val % 32 = 0) (l : Fin 1024) :
    (outsAt0 m c t.val t.isLt).2 (ix2 0 l) = (outsAt0 m c (t.val - 1) (Nat.lt_of_le_of_lt (Nat.sub_le _ _) t.isLt)).2 (ix2 0 l)
      + ∑ r : Fin 256, dwTerm (m ((c : Thread nD τ).loc main_arg0))
      (m ((c : Thread nD τ).loc main_arg2)) (m ((c : Thread nD τ).loc main_arg4)) (row t r) l := by
  rw [outsAt0_B m c t h]
  frame_out
  rw [dw_at _ _ _ _ _ _ _ (row t) (blk_u m c t) (blk_w m c t) (blk_x m c t)]

/-- The running row after the last grid point: the sum over all blocks of their rows' shares. -/
theorem sum_dw (l : Fin 1024) : (outsAt0 m c tL.val tL.isLt).2 (ix2 0 l) = dw m c (ix2 0 l) := by
  refine (Pipeline.eq_sum_fin_of_reset_step_apply_last (fun n h l => (outsAt0 m c n h).2 (ix2 0 l)) 32 (fun _ => (0 : EReal)) _
    (fun t h j => dw_first m c t h j) (fun t h j => dw_next m c t h j) (by decide) tL rfl l).trans ?_
  unfold dw
  rw [dw_ref, zero_add]
  exact (sum_rows fun R => dwTerm (m ((c : Thread nD τ).loc main_arg0)) (m ((c : Thread nD τ).loc main_arg2))
    (m ((c : Thread nD τ).loc main_arg4)) R l).symm

theorem final_dw : (dats m 0 c).arrAt 6 cfg0.N = dw m c := by
  refine (dats m 0 c).arrAt_eq_of_after_last 6 tL (by decide +kernel) _ fun j => ?_
  blk_simp
  rw [after0_6]
  idx_vars j
  obtain rfl : j0 = 0 := Subsingleton.elim _ _
  exact sum_dw m c j1

/-- The call's run and the reference's end with equal results. -/
theorem algebraic : Cert.algebraic_InDxIdeal_InRefIdeal := by
  intro m g m' g' _ hag
  refine ⟨fun c => dx m c, fun c => dw m c, ?_, ?_⟩
  · refine (θ_run defs _ _).mono (fun r h c => ?_) (Value.run_blocks m g)
    obtain ⟨h5, h6, h⟩ := h c
    exact ⟨h5.trans (final_dx m c), h6.trans (final_dw m c), h⟩
  · refine (θ_run Cert.InRefIdeal.defs _ _).mono (fun r h c => ?_) (Cert.InRefIdeal.Value.run m' g')
    obtain ⟨h5, h6, h⟩ := h c
    obtain ⟨e0, e1, e2, e3, e4⟩ := hag c
    refine ⟨h5.trans ?_, h6.trans ?_, h⟩
    · rw [Cert.InRefIdeal.Read.val_main_v36_eq, e0, e1, e2, e3, e4]; rfl
    · rw [Cert.InRefIdeal.Read.val_main_v19_eq, e0, e2, e4]; rfl

end Cert.InDxIdeal.Sums

end
-- ==== Proof.UpPay.lean ====
/- The gate-and-up projection's backward call, block by block: the body's payloads at an index are the reference's terms at
   the same row of the whole arrays. The body multiplies the two halves of the gradient's columns by the two halves of the
   weight's columns; the reference contracts the whole axis at once. -/
module

public import proofs.«01_k».proof.Proof.Gen.UpDxIdeal.Value
public import proofs.«01_k».proof.Proof.Gen.UpRefIdeal.Read
public import Idealize.ShloMosaic.Lib.Pointwise

@[expose] public section

noncomputable section

namespace Cert.UpDxIdeal.Sums

open Cert.UpDxIdeal Cert.UpDxIdeal.Gen Idealize.ShloMosaic Idealize.ShloMosaic.TcCoe Idealize.SL.Sem
open Cert.UpRefIdeal.Read

/-- Column `k` of the first half. -/
def lo (k : Fin 2816) : Fin 5632 := ⟨k.val, by omega⟩
/-- Column `k` of the second half. -/
def hi (k : Fin 2816) : Fin 5632 := ⟨2816 + k.val, by omega⟩

/-- A contraction over all columns is the first half's and the second half's. -/
theorem sum_halves (f : Fin 5632 → EReal) : ∑ k, f k = (∑ k, f (lo k)) + ∑ k, f (hi k) :=
  Fin.sum_univ_two_halves 2816 2816 rfl f

/-- One row's share of the norm weight's gradient at column `l`, as the reference forms it. -/
def dwTerm (X : FVec Ideal S8192x1024 .f32) (W : FVec Ideal S1024x5632 .f32) (U : FVec Ideal S8192x5632 .f32) (R : Fin 8192) (l : Fin 1024) :
    EReal :=
  val_main_v17 (F := Ideal) X W U (ix2 R l)

variable (X : FVec Ideal S8192x1024 .f32) (G : FVec Ideal S1x1024 .f32) (W : FVec Ideal S1024x5632 .f32) (D : FVec Ideal S8192x1024 .f32)
  (U : FVec Ideal S8192x5632 .f32) (u0 : Vec Ideal S1x256x2816 .bf16) (w0 : Vec Ideal S1024x2816 .bf16) (u1 : Vec Ideal S1x256x2816 .bf16)
  (w1 : Vec Ideal S1024x2816 .bf16) (x : Vec Ideal S256x1024 .f32)
  (g : Vec Ideal S1x1024 .f32) (d : Vec Ideal S256x1024 .f32) (o : Vec Ideal S1x1024 .f32) (row : Fin 256 → Fin 8192)
  (hu0 : ∀ r k, u0 (ix3 0 r k) = U (ix2 (row r) (lo k))) (hw0 : ∀ a k, w0 (ix2 a k) = W (ix2 a (lo k)))
  (hu1 : ∀ r k, u1 (ix3 0 r k) = U (ix2 (row r) (hi k))) (hw1 : ∀ a k, w1 (ix2 a k) = W (ix2 a (hi k)))
  (hx : ∀ r k, x (ix2 r k) = X (ix2 (row r) k)) (hg : ∀ k, g (ix2 0 k) = G (ix2 0 k))
  (hd : ∀ r k, d (ix2 r k) = D (ix2 (row r) k))

include hu0 hw0 hu1 hw1 hx hg hd in
/-- The block of `dx` holds the reference's `dx` at the block's rows: the same terms, added in another order. -/
theorem dx_at (r : Fin 256) (l : Fin 1024) :
    k0_pay1 x (k0_pay7 x) (k0_pay8 x) (k0_pay10 u0 w0 u1 w1 g) (k0_pay11 u0 w0 u1 w1 x g) d (ix2 r l) = val_main_v36 (F := Ideal) X G W D U (ix2 (row r) l) := by
  unfold_payloads
  pointwise [hu0, hw0, hu1, hw1, hx, hg, hd, dot_S256x2816_S1024x2816_S256x1024_1_1_0_0_n_n, sum_halves,
    Cert.UpRefIdeal.dot_S8192x5632_S1024x5632_S8192x1024_1_1_0_0_n_n,
    val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v16, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6]
  ac_nf

include hu0 hw0 hu1 hw1 hx in
/-- A block adds its rows' shares of the norm weight's gradient to the running row. -/
theorem dw_at (l : Fin 1024) :
    k0_pay3 (F := Ideal) (k0_pay9 u0 w0 u1 w1 x) o (ix2 0 l) = o (ix2 0 l) + ∑ r : Fin 256, dwTerm X W U (row r) l := by
  unfold dwTerm
  unfold_payloads
  pointwise [hu0, hw0, hu1, hw1, hx, dot_S256x2816_S1024x2816_S256x1024_1_1_0_0_n_n, sum_halves,
    Cert.UpRefIdeal.dot_S8192x5632_S1024x5632_S8192x1024_1_1_0_0_n_n,
    val_main_v17, val_main_v16, val_main_v12, val_main_v11,
    val_main_v7, val_main_v6, val_main_v5, val_main_v4, val_main_v3, val_main_v2, val_main_v1, val_main_v0,
    val_main_cst, val_main_cst_0, val_main_cst_1]

/-- The reference's norm-weight gradient is the sum of all rows' shares. -/
theorem dw_ref (l : Fin 1024) :
    val_main_v19 (F := Ideal) X W U (ix2 0 l) = ∑ R : Fin 8192, dwTerm X W U R l := by
  unfold dwTerm val_main_v19 val_main_v18
  pointwise [val_main_cst_3]

end Cert.UpDxIdeal.Sums

end
-- ==== Proof.UpValue.lean ====
/- The gate-and-up projection's backward call as a whole: what its three result arrays hold after the run, and its value
   claim. -/
module

public import proofs.«01_k».proof.Proof.UpPay
public import proofs.«01_k».proof.Defs
public import Idealize.ShloMosaic.Lib.Pipeline.ValueKit

@[expose] public section

set_option maxRecDepth 16384

noncomputable section

namespace Cert.UpDxIdeal.Sums

open Cert.UpDxIdeal Cert.UpDxIdeal.Gen Idealize.ShloMosaic Idealize.ShloMosaic.TcCoe Idealize.SL.Sem

variable (m : (ℓ : Loc nD τ sig) → Buf (Elt Ideal) ℓ) (c : Dev nD)

/-- Row `r` of block `t`. -/
def row (t : Fin cfg0.N) (r : Fin 256) : Fin 8192 := ⟨256 * t.val + r.val, by have : t.val < 32 := t.isLt; omega⟩

theorem idx : ∀ t : Fin cfg0.N, win0_0.index t = ![0, t.val, 0] ∧ win0_1.index t = ![0, 0] ∧ win0_2.index t = ![0, 1]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] :=
  (by decide +kernel : ∀ t : Fin grid0.N, _)

theorem blk_st (t : Fin cfg0.N) (h : Fin 2) (r : Fin 256) (k : Fin 2816) :
    (iblk m c 0 t : Vec Ideal S2x256x2816 .bf16) (ix3 h r k) = V m c main_v5 (ix3 h (row t r) k) := by
  unfold iblk
  blk_ext [idx t, row]

theorem blk_u0 (t : Fin cfg0.N) (r : Fin 256) (k : Fin 2816) :
    (iblk m c 0 t : Vec Ideal S2x256x2816 .bf16) (ix3 0 r k) = m ((c : Thread nD τ).loc main_arg4) (ix2 (row t r) (lo k)) := by
  rw [blk_st]
  entry_read
  pointwise
  blk_ext [lo]

theorem blk_u1 (t : Fin cfg0.N) (r : Fin 256) (k : Fin 2816) :
    (iblk m c 0 t : Vec Ideal S2x256x2816 .bf16) (ix3 1 r k) = m ((c : Thread nD τ).loc main_arg4) (ix2 (row t r) (hi k)) := by
  rw [blk_st]
  entry_read
  pointwise
  blk_ext [hi]

theorem blk_w0 (t : Fin cfg0.N) (a : Fin 1024) (k : Fin 2816) :
    (iblk m c 1 t : Vec Ideal S1024x2816 .bf16) (ix2 a k) = m ((c : Thread nD τ).loc main_arg2) (ix2 a (lo k)) := by
  unfold iblk
  entry_read
  pointwise
  blk_ext [idx t, lo]

theorem blk_w1 (t : Fin cfg0.N) (a : Fin 1024) (k : Fin 2816) :
    (iblk m c 2 t : Vec Ideal S1024x2816 .bf16) (ix2 a k) = m ((c : Thread nD τ).loc main_arg2) (ix2 a (hi k)) := by
  unfold iblk
  entry_read
  pointwise
  blk_ext [idx t, hi]

theorem blk_x (t : Fin cfg0.N) (r : Fin 256) (k : Fin 1024) :
    (iblk m c 3 t : Vec Ideal S256x1024 .f32) (ix2 r k) = m ((c : Thread nD τ).loc main_arg0) (ix2 (row t r) k) := by
  unfold iblk
  entry_read
  blk_ext [idx t, row]

theorem blk_g (t : Fin cfg0.N) (k : Fin 1024) :
    (iblk m c 4 t : Vec Ideal S1x1024 .f32) (ix2 0 k) = m ((c : Thread nD τ).loc main_arg1) (ix2 0 k) := by
  unfold iblk
  entry_read
  blk_ext [idx t]

theorem blk_d (t : Fin cfg0.N) (r : Fin 256) (k : Fin 1024) :
    (iblk m c 5 t : Vec Ideal S256x1024 .f32) (ix2 r k) = m ((c : Thread nD τ).loc main_arg3) (ix2 (row t r) k) := by
  unfold iblk
  entry_read
  blk_ext [idx t, row]

/-- The reference's `dx` of the arguments in memory. -/
def dx : FVec Ideal S8192x1024 .f32 :=
  Cert.UpRefIdeal.Read.val_main_v36 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's gradient of the norm weight of the arguments in memory. -/
def dw : FVec Ideal S1x1024 .f32 :=
  Cert.UpRefIdeal.Read.val_main_v19 (F := Ideal) (m ((c : Thread nD τ).loc main_arg0))
    (m ((c : Thread nD τ).loc main_arg2)) (m ((c : Thread nD τ).loc main_arg4))

/-- After any grid point the first output's block holds the reference's `dx` at the block's rows. -/
theorem outs_dx (t : Fin cfg0.N) (r : Fin 256) (l : Fin 1024) : (outsAt0 m c t.val t.isLt).1 (ix2 r l) = dx m c (ix2 (row t r) l) := by
  by_cases h0 : t.val % 32 = 0
  · rw [outsAt0_A m c t h0]; frame_out
    refine dx_at _ _ _ _ _ _ _ _ _ _ _ _ (row t) ?_ (blk_w0 m c t) ?_ (blk_w1 m c t) (blk_x m c t) (blk_g m c t) (blk_d m c t) r l
    · exact fun r k => Eq.trans (by pointwise) (blk_u0 m c t r k)
    · exact fun r k => Eq.trans (by pointwise) (blk_u1 m c t r k)
  · rw [outsAt0_B m c t h0]; frame_out
    refine dx_at _ _ _ _ _ _ _ _ _ _ _ _ (row t) ?_ (blk_w0 m c t) ?_ (blk_w1 m c t) (blk_x m c t) (blk_g m c t) (blk_d m c t) r l
    · exact fun r k => Eq.trans (by pointwise) (blk_u0 m c t r k)
    · exact fun r k => Eq.trans (by pointwise) (blk_u1 m c t r k)

/-- The second output's block is the first's, in the narrower format. -/
theorem outs_dx16 (t : Fin cfg0.N) (r : Fin 256) (l : Fin 1024) : (outsAt0 m c t.val t.isLt).2.1 (ix2 r l) = dx m c (ix2 (row t r) l) := by
  rw [← outs_dx]
  by_cases h0 : t.val % 32 = 0
  · rw [outsAt0_A m c t h0]; frame_out; unfold k0_pay2; pointwise
  · rw [outsAt0_B m c t h0]; frame_out; unfold k0_pay2; pointwise

theorem final_dx : (dats m 0 c).arrAt 6 cfg0.N = dx m c := by
  refine (dats m 0 c).arrAt_eq_of_covers 6 _ (by decide +kernel) fun t hf y => ?_
  blk_simp
  rw [after0_6]
  idx_vars y
  rw [outs_dx]
  blk_ext [idx t, row]

theorem final_dx16 : (dats m 0 c).arrAt 7 cfg0.N = (dx m c : S8192x1024.Idx → EReal) := by
  refine (dats m 0 c).arrAt_eq_of_covers 7 _ (by decide +kernel) fun t hf y => ?_
  blk_simp
  rw [after0_7]
  idx_vars y
  rw [outs_dx16]
  blk_ext [idx t, row]

/-- A sum over all rows is the sum over the blocks of the sums over their rows. -/
theorem sum_rows (f : Fin 8192 → EReal) : ∑ R, f R = ∑ t : Fin cfg0.N, ∑ r : Fin 256, f (row t r) := by
  refine (Fin.sum_univ_tiles 32 256 rfl f).trans (Finset.sum_congr rfl fun t _ => Finset.sum_congr rfl fun r _ => ?_)
  exact congrArg f (Fin.ext (by show _ = 256 * t.val + r.val; simp; omega))

/-- The last grid point. -/
def tL : Fin cfg0.N := ⟨31, by decide⟩

/-- The running row after a point that starts over: the block's shares alone. -/
theorem dw_first (t : Fin cfg0.N) (h : t.val % 32 = 0) (l : Fin 1024) :
    (outsAt0 m c t.val t.isLt).2.2 (ix2 0 l) = 0 + ∑ r : Fin 256, dwTerm (m ((c : Thread nD τ).loc main_arg0))
      (m ((c : Thread nD τ).loc main_arg2)) (m ((c : Thread nD τ).loc main_arg4)) (row t r) l := by
  rw [outsAt0_A m c t h]
  frame_out
  refine (dw_at _ _ (m ((c : Thread nD τ).loc main_arg4)) _ _ _ _ _ _ (row t) ?_ (blk_w0 m c t) ?_ (blk_w1 m c t) (blk_x m c t) l).trans ?_
  · exact fun r k => Eq.trans (by pointwise) (blk_u0 m c t r k)
  · exact fun r k => Eq.trans (by pointwise) (blk_u1 m c t r k)
  · congr 1
    unfold k0_pay4
    pointwise

/-- The running row after any other point: what was there and the block's shares. -/
theorem dw_next (t : Fin cfg0.N) (h : ¬t.val % 32 = 0) (l : Fin 1024) :
    (outsAt0 m c t.val t.isLt).2.2 (ix2 0 l) = (outsAt0 m c (t.val - 1) (Nat.lt_of_le_of_lt (Nat.sub_le _ _) t.isLt)).2.2 (ix2 0 l)
      + ∑ r : Fin 256, dwTerm (m ((c : Thread nD τ).loc main_arg0))
      (m ((c : Thread nD τ).loc main_arg2)) (m ((c : Thread nD τ).loc main_arg4)) (row t r) l := by
  rw [outsAt0_B m c t h]
  frame_out
  refine dw_at _ _ _ _ _ _ _ _ _ (row t) ?_ (blk_w0 m c t) ?_ (blk_w1 m c t) (blk_x m c t) l
  · exact fun r k => Eq.trans (by pointwise) (blk_u0 m c t r k)
  · exact fun r k => Eq.trans (by pointwise) (blk_u1 m c t r k)

/-- The running row after the last grid point: the sum over all blocks of their rows' shares. -/
theorem sum_dw (l : Fin 1024) : (outsAt0 m c tL.val tL.isLt).2.2 (ix2 0 l) = dw m c (ix2 0 l) := by
  refine (Pipeline.eq_sum_fin_of_reset_step_apply_last (fun n h l => (outsAt0 m c n h).2.2 (ix2 0 l)) 32 (fun _ => (0 : EReal)) _
    (fun t h j => dw_first m c t h j) (fun t h j => dw_next m c t h j) (by decide) tL rfl l).trans ?_
  unfold dw
  rw [dw_ref, zero_add]
  exact (sum_rows fun R => dwTerm (m ((c : Thread nD τ).loc main_arg0)) (m ((c : Thread nD τ).loc main_arg2))
    (m ((c : Thread nD τ).loc main_arg4)) R l).symm

theorem final_dw : (dats m 0 c).arrAt 8 cfg0.N = dw m c := by
  refine (dats m 0 c).arrAt_eq_of_after_last 8 tL (by decide +kernel) _ fun j => ?_
  blk_simp
  rw [after0_8]
  idx_vars j
  obtain rfl : j0 = 0 := Subsingleton.elim _ _
  exact sum_dw m c j1

/-- The call's run and the reference's end with equal results. -/
theorem algebraic : Cert.algebraic_UpDxIdeal_UpRefIdeal := by
  intro m g m' g' _ hag
  refine ⟨fun c => dx m c, fun c => dx m c, fun c => dw m c, ?_, ?_⟩
  · refine (θ_run defs _ _).mono (fun r h c => ?_) (Value.run_blocks m g)
    obtain ⟨h5, h6, h7, h⟩ := h c
    exact ⟨h5.trans (final_dx m c), h6.trans (final_dx16 m c), h7.trans (final_dw m c), h⟩
  · refine (θ_run Cert.UpRefIdeal.defs _ _).mono (fun r h c => ?_) (Cert.UpRefIdeal.Value.run m' g')
    obtain ⟨h5, h6, h7, h⟩ := h c
    obtain ⟨e0, e1, e2, e3, e4⟩ := hag c
    refine ⟨h5.trans ?_, h6.trans ?_, h7.trans ?_, h⟩
    · rw [Cert.UpRefIdeal.Read.val_main_v36_eq, e0, e1, e2, e3, e4]; rfl
    · rw [Cert.UpRefIdeal.Read.val_main_v37_eq, e0, e1, e2, e3, e4]; rfl
    · rw [Cert.UpRefIdeal.Read.val_main_v19_eq, e0, e2, e4]; rfl

end Cert.UpDxIdeal.Sums

end
-- ==== Proof.LossPay.lean ====
/- The down projection's call with the loss, block by block: the body's payloads at an index are the reference's terms at the
   same row of the whole arrays. -/
module

public import proofs.«01_k».proof.Proof.Gen.LossDxIdeal.Value
public import proofs.«01_k».proof.Proof.Gen.LossRefIdeal.Read
public import Idealize.ShloMosaic.Lib.Pointwise

@[expose] public section

noncomputable section

namespace Cert.LossDxIdeal.Sums

open Cert.LossDxIdeal Cert.LossDxIdeal.Gen Idealize.ShloMosaic Idealize.ShloMosaic.TcCoe Idealize.SL.Sem
open Cert.LossRefIdeal.Read

/-- Twice a number is the number added to itself, at the infinities too. -/
theorem two_times (x : EReal) : Ideal.ofBits .f32 0x40000000#32 * x = x + x := by
  have h : Ideal.ofBits .f32 0x40000000#32 = (1 + 1 : EReal) := by
    simp only [Ideal.ofBits, Ideal.ieee]; simp; rw [← EReal.coe_one, ← EReal.coe_add, ← EReal.coe_mul]; norm_num
  rw [h, EReal.right_distrib_of_nonneg zero_le_one zero_le_one, one_mul]

/-- A half of a sum is the sum of the halves. -/
theorem half_add (x y : EReal) : Ideal.ofBits .f32 0x3F000000#32 * (x + y)
    = Ideal.ofBits .f32 0x3F000000#32 * x + Ideal.ofBits .f32 0x3F000000#32 * y := by
  have h : Ideal.ofBits .f32 0x3F000000#32 = ((1 / 2 : ℝ) : EReal) := by
    simp only [Ideal.ofBits, Ideal.ieee]; simp; rw [← EReal.coe_mul]; norm_num
  rw [h]
  exact EReal.left_distrib_of_nonneg_of_ne_top (by exact_mod_cast (by norm_num : (0:ℝ) ≤ 1 / 2)) (EReal.coe_ne_top _) _ _

theorem half_sum {ι : Type} (s : Finset ι) (f : ι → EReal) : Ideal.ofBits .f32 0x3F000000#32 * (∑ i ∈ s, f i)
    = ∑ i ∈ s, Ideal.ofBits .f32 0x3F000000#32 * f i := by
  classical
  induction s using Finset.induction_on with
  | empty => simp
  | insert a s h ih => rw [Finset.sum_insert h, half_add, ih, Finset.sum_insert h]

variable (A : FVec Ideal S8192x2816 .f32) (B : FVec Ideal S2816x1024 .f32) (X : FVec Ideal S8192x1024 .f32) (T : FVec Ideal S8192x1024 .f32)
  (G : FVec Ideal S1x1024 .f32)

/-- One row's share of the norm weight's gradient at column `l`, and of the loss, as the reference forms them. -/
def dwTerm (R : Fin 8192) (l : Fin 1024) : EReal := val_main_v32 (F := Ideal) A B X T G (ix2 R l)
def lossTerm (R : Fin 8192) : EReal := val_main_v23 (F := Ideal) A B X T G (ix1 R)

variable (a : Vec Ideal S256x2816 .bf16) (b : Vec Ideal S2816x1024 .bf16) (x : Vec Ideal S256x1024 .f32) (tg : Vec Ideal S256x1024 .f32)
  (g : Vec Ideal S1x1024 .f32) (o : Vec Ideal S1x1024 .f32) (o1 : Vec Ideal S1x128 .f32) (row : Fin 256 → Fin 8192)
  (ha : ∀ r k, a (ix2 r k) = A (ix2 (row r) k)) (hb : ∀ k l, b (ix2 k l) = B (ix2 k l))
  (hx : ∀ r k, x (ix2 r k) = X (ix2 (row r) k)) (ht : ∀ r k, tg (ix2 r k) = T (ix2 (row r) k)) (hg : ∀ k, g (ix2 0 k) = G (ix2 0 k))

/-- The derivative of the mean square: the body adds the two factors' parts, the reference doubles one. -/
theorem sq_at (v : FVec Ideal S256x1024 .f32) (R : Fin 8192) (r : Fin 256) (l : Fin 1024) :
    k0_pay12 v (ix2 r l) = val_main_v30 (F := Ideal) (ix2 R l) * (val_main_v19 (F := Ideal) (ix2 R l) * v (ix2 r l)) := by
  unfold k0_pay12
  pointwise [val_main_v30, val_main_v29, val_main_v28, val_main_v27, val_main_v26, val_main_v19, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [Fin.sum_univ_one]
  rw [mul_left_comm, two_times, mul_comm (v (ix2 r l))]

include ha hb hx ht hg in
/-- The error, the same on both sides. -/
theorem err_at (r : Fin 256) (l : Fin 1024) : k0_pay10 a b x tg g (ix2 r l) = val_main_v17 (F := Ideal) A B X T G (ix2 (row r) l) := by
  unfold k0_pay10 k0_pay9 k0_pay7 k0_pay6 k0_pay5
  pointwise [ha, hb, hx, ht, hg, dot_S256x2816_S2816x1024_S256x1024_1_0_0_1_n_n,
    Cert.LossRefIdeal.dot_S8192x2816_S2816x1024_S8192x1024_1_0_0_1_n_n,
    val_main_v17, val_main_v16, val_main_v15, val_main_v14, val_main_v13, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  ac_nf

include ha hb hx ht hg in
/-- The block of `dx` holds the reference's `dx` at the block's rows: the same terms, added in another order. -/
theorem dx_at (r : Fin 256) (l : Fin 1024) :
    k0_pay14 (k0_pay5 a b x) g (k0_pay7 a b x) (k0_pay8 a b x) (k0_pay10 a b x tg g) (ix2 r l)
      = val_main_v50 (F := Ideal) A B X T G (ix2 (row r) l) := by
  have hs : ∀ k, k0_pay12 (k0_pay10 a b x tg g) (ix2 r k) = val_main_v31 (F := Ideal) A B X T G (ix2 (row r) k) := fun k => by
    rw [sq_at _ (row r), err_at A B X T G a b x tg g row ha hb hx ht hg]
    pointwise [val_main_v31, val_main_v20]
  unfold k0_pay14 k0_pay8 k0_pay7 k0_pay6 k0_pay5
  pointwise [hs, ha, hb, hx, hg, dot_S256x2816_S2816x1024_S256x1024_1_0_0_1_n_n,
    Cert.LossRefIdeal.dot_S8192x2816_S2816x1024_S8192x1024_1_0_0_1_n_n,
    val_main_v50, val_main_v49, val_main_v48, val_main_v47, val_main_v46, val_main_v45, val_main_v44, val_main_v43, val_main_v42, val_main_v41, val_main_v40, val_main_v39, val_main_v38, val_main_v37, val_main_v36, val_main_v35, val_main_v13, val_main_v9, val_main_v8, val_main_v7, val_main_v6, val_main_v5, val_main_v4, val_main_v3, val_main_v2, val_main_v1, val_main_v0, val_main_v12, val_main_v11, val_main_v10,
    val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  ac_nf

include ha hb hx ht hg in
/-- A block adds its rows' shares of the norm weight's gradient to the running row. -/
theorem dw_at (l : Fin 1024) :
    k0_pay1 (k0_pay13 (k0_pay9 a b x) (k0_pay10 a b x tg g)) (k0_pay16 o) (ix2 0 l) = o (ix2 0 l) + ∑ r : Fin 256, dwTerm A B X T G (row r) l := by
  have hs : ∀ r, k0_pay12 (k0_pay10 a b x tg g) (ix2 r l) = val_main_v31 (F := Ideal) A B X T G (ix2 (row r) l) := fun r => by
    rw [sq_at _ (row r), err_at A B X T G a b x tg g row ha hb hx ht hg]
    pointwise [val_main_v31, val_main_v20]
  unfold k0_pay1 k0_pay13 k0_pay16 k0_pay9 k0_pay7 k0_pay6 k0_pay5 dwTerm
  pointwise [hs, ha, hb, hx, dot_S256x2816_S2816x1024_S256x1024_1_0_0_1_n_n,
    Cert.LossRefIdeal.dot_S8192x2816_S2816x1024_S8192x1024_1_0_0_1_n_n,
    val_main_v32, val_main_v14, val_main_v13, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  try ac_nf

include ha hb hx ht hg in
/-- A block adds half the sum of its rows' mean squares to the running loss. -/
theorem loss_at (l : Fin 128) :
    k0_pay2 (k0_pay11 a b x tg g) o1 (ix2 0 l)
      = o1 (ix2 0 l) + Ideal.ofBits .f32 0x3F000000#32 * ∑ r : Fin 256, lossTerm A B X T G (row r) := by
  unfold k0_pay2 k0_pay11 lossTerm
  pointwise [err_at A B X T G a b x tg g row ha hb hx ht hg, val_main_v23, val_main_v22, val_main_v21, val_main_v18, val_main_cst_4, val_main_cst_5]

/-- The reference's norm-weight gradient is the sum of all rows' shares. -/
theorem dw_ref (l : Fin 1024) :
    val_main_v34 (F := Ideal) A B X T G (ix2 0 l) = ∑ R : Fin 8192, dwTerm A B X T G R l := by
  unfold dwTerm val_main_v34 val_main_v33
  pointwise [val_main_cst_11]

/-- The reference's loss is half the sum of all rows' mean squares. -/
theorem loss_ref (l : Fin 128) :
    val_main_v52 (F := Ideal) A B X T G (ix2 0 l) = Ideal.ofBits .f32 0x3F000000#32 * ∑ R : Fin 8192, lossTerm A B X T G R := by
  unfold lossTerm val_main_v52 val_main_v25 val_main_v24
  pointwise [val_main_cst_6, val_main_cst_7]

end Cert.LossDxIdeal.Sums

end
-- ==== Proof.LossValue.lean ====
/- The loss's call as a whole: what its four result arrays hold after the run, and its value
   claim. -/
module

public import proofs.«01_k».proof.Proof.LossPay
public import proofs.«01_k».proof.Defs
public import Idealize.ShloMosaic.Lib.Pipeline.ValueKit

@[expose] public section

set_option maxRecDepth 16384

noncomputable section

namespace Cert.LossDxIdeal.Sums

open Cert.LossDxIdeal Cert.LossDxIdeal.Gen Idealize.ShloMosaic Idealize.ShloMosaic.TcCoe Idealize.SL.Sem

variable (m : (ℓ : Loc nD τ sig) → Buf (Elt Ideal) ℓ) (c : Dev nD)

/-- Row `r` of block `t`. -/
def row (t : Fin cfg0.N) (r : Fin 256) : Fin 8192 := ⟨256 * t.val + r.val, by have : t.val < 32 := t.isLt; omega⟩

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

theorem blk_a (t : Fin cfg0.N) (r : Fin 256) (k : Fin 2816) :
    (iblk m c 0 t : Vec Ideal S256x2816 .bf16) (ix2 r k) = m ((c : Thread nD τ).loc main_arg0) (ix2 (row t r) k) := by
  unfold iblk
  entry_read
  pointwise
  blk_ext [idx t, row]

theorem blk_b (t : Fin cfg0.N) (a : Fin 2816) (k : Fin 1024) :
    (iblk m c 1 t : Vec Ideal S2816x1024 .bf16) (ix2 a k) = m ((c : Thread nD τ).loc main_arg1) (ix2 a k) := by
  unfold iblk
  entry_read
  pointwise
  blk_ext [idx t, row]

theorem blk_x (t : Fin cfg0.N) (r : Fin 256) (k : Fin 1024) :
    (iblk m c 2 t : Vec Ideal S256x1024 .f32) (ix2 r k) = m ((c : Thread nD τ).loc main_arg2) (ix2 (row t r) k) := by
  unfold iblk
  entry_read
  blk_ext [idx t, row]

theorem blk_t (t : Fin cfg0.N) (r : Fin 256) (k : Fin 1024) :
    (iblk m c 3 t : Vec Ideal S256x1024 .f32) (ix2 r k) = m ((c : Thread nD τ).loc main_arg3) (ix2 (row t r) k) := by
  unfold iblk
  entry_read
  blk_ext [idx t, row]

theorem blk_g (t : Fin cfg0.N) (k : Fin 1024) :
    (iblk m c 4 t : Vec Ideal S1x1024 .f32) (ix2 0 k) = m ((c : Thread nD τ).loc main_arg4) (ix2 0 k) := by
  unfold iblk
  entry_read
  blk_ext [idx t, row]

/-- The reference's `dx` of the arguments in memory. -/
def dx : FVec Ideal S8192x1024 .f32 := Cert.LossRefIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's gradient of the norm weight of the arguments in memory. -/
def dw : FVec Ideal S1x1024 .f32 := Cert.LossRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's loss of the arguments in memory, in every lane of a row. -/
def loss : FVec Ideal S1x128 .f32 := Cert.LossRefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- One row's share of the norm weight's gradient, and of the loss, for the arguments in memory. -/
def dwShare (R : Fin 8192) (l : Fin 1024) : EReal := dwTerm (m ((c : Thread nD τ).loc main_arg0)) (m ((c : Thread nD τ).loc main_arg1)) (m ((c : Thread nD τ).loc main_arg2)) (m ((c : Thread nD τ).loc main_arg3)) (m ((c : Thread nD τ).loc main_arg4)) R l
def lossShare (R : Fin 8192) : EReal := lossTerm (m ((c : Thread nD τ).loc main_arg0)) (m ((c : Thread nD τ).loc main_arg1)) (m ((c : Thread nD τ).loc main_arg2)) (m ((c : Thread nD τ).loc main_arg3)) (m ((c : Thread nD τ).loc main_arg4)) R

/-- After any grid point the first output's block holds the reference's `dx` at the block's rows. -/
theorem outs_dx (t : Fin cfg0.N) (r : Fin 256) (l : Fin 1024) : (outsAt0 m c t.val t.isLt).1 (ix2 r l) = dx m c (ix2 (row t r) l) := by
  by_cases h0 : t.val % 32 = 0
  · rw [outsAt0_A m c t h0]; frame_out
    exact dx_at _ _ _ _ _ _ _ _ _ _ (row t) (blk_a m c t) (blk_b m c t) (blk_x m c t) (blk_t m c t) (blk_g m c t) r l
  · rw [outsAt0_B m c t h0]; frame_out
    exact dx_at _ _ _ _ _ _ _ _ _ _ (row t) (blk_a m c t) (blk_b m c t) (blk_x m c t) (blk_t m c t) (blk_g m c t) r l

/-- The second output's block is the first's, in the narrower format. -/
theorem outs_dx16 (t : Fin cfg0.N) (r : Fin 256) (l : Fin 1024) : (outsAt0 m c t.val t.isLt).2.1 (ix2 r l) = dx m c (ix2 (row t r) l) := by
  rw [← outs_dx]
  by_cases h0 : t.val % 32 = 0
  · rw [outsAt0_A m c t h0]; frame_out; unfold k0_pay15; pointwise
  · rw [outsAt0_B m c t h0]; frame_out; unfold k0_pay15; pointwise

theorem final_dx : (dats m 0 c).arrAt 5 cfg0.N = dx m c := by
  refine (dats m 0 c).arrAt_eq_of_covers 5 _ (by decide +kernel) fun t hf y => ?_
  blk_simp
  rw [after0_5]
  idx_vars y
  rw [outs_dx]
  blk_ext [idx t, row]

theorem final_dx16 : (dats m 0 c).arrAt 6 cfg0.N = (dx m c : S8192x1024.Idx → EReal) := by
  refine (dats m 0 c).arrAt_eq_of_covers 6 _ (by decide +kernel) fun t hf y => ?_
  blk_simp
  rw [after0_6]
  idx_vars y
  rw [outs_dx16]
  blk_ext [idx t, row]

/-- A sum over all rows is the sum over the blocks of the sums over their rows. -/
theorem sum_rows (f : Fin 8192 → EReal) : ∑ R, f R = ∑ t : Fin cfg0.N, ∑ r : Fin 256, f (row t r) := by
  refine (Fin.sum_univ_tiles 32 256 rfl f).trans (Finset.sum_congr rfl fun t _ => Finset.sum_congr rfl fun r _ => ?_)
  exact congrArg f (Fin.ext (by show _ = 256 * t.val + r.val; simp; omega))

/-- The last grid point. -/
def tL : Fin cfg0.N := ⟨31, by decide⟩

/-- The running row after a point that starts over: the block's shares alone. -/
theorem dw_first (t : Fin cfg0.N) (h : t.val % 32 = 0) (l : Fin 1024) :
    (outsAt0 m c t.val t.isLt).2.2.1 (ix2 0 l) = 0 + ∑ r : Fin 256, dwShare m c (row t r) l := by
  rw [outsAt0_A m c t h]
  frame_out
  refine (dw_at _ _ _ _ _ _ _ _ _ _ _ (row t) (blk_a m c t) (blk_b m c t) (blk_x m c t) (blk_t m c t) (blk_g m c t) l).trans ?_
  congr 1
  unfold k0_pay3
  pointwise

/-- The running row after any other point: what was there and the block's shares. -/
theorem dw_next (t : Fin cfg0.N) (h : ¬t.val % 32 = 0) (l : Fin 1024) :
    (outsAt0 m c t.val t.isLt).2.2.1 (ix2 0 l) = (outsAt0 m c (t.val - 1) (Nat.lt_of_le_of_lt (Nat.sub_le _ _) t.isLt)).2.2.1 (ix2 0 l)
      + ∑ r : Fin 256, dwShare m c (row t r) l := by
  rw [outsAt0_B m c t h]
  frame_out
  exact dw_at _ _ _ _ _ _ _ _ _ _ _ (row t) (blk_a m c t) (blk_b m c t) (blk_x m c t) (blk_t m c t) (blk_g m c t) l

/-- The running row after the last grid point: the sum over all blocks of their rows' shares. -/
theorem sum_dw (l : Fin 1024) : (outsAt0 m c tL.val tL.isLt).2.2.1 (ix2 0 l) = dw m c (ix2 0 l) := by
  refine (Pipeline.eq_sum_fin_of_reset_step_apply_last (fun n h l => (outsAt0 m c n h).2.2.1 (ix2 0 l)) 32 (fun _ => (0 : EReal)) _
    (fun t h j => dw_first m c t h j) (fun t h j => dw_next m c t h j) (by decide) tL rfl l).trans ?_
  unfold dw
  rw [dw_ref, zero_add]
  exact (sum_rows fun R => dwShare m c R l).symm

theorem final_dw : (dats m 0 c).arrAt 7 cfg0.N = dw m c := by
  refine (dats m 0 c).arrAt_eq_of_after_last 7 tL (by decide +kernel) _ fun j => ?_
  blk_simp
  rw [after0_7]
  idx_vars j
  obtain rfl : j0 = 0 := Subsingleton.elim _ _
  exact sum_dw m c j1

/-- The running loss after a point that starts over: the block's shares alone. -/
theorem loss_first (t : Fin cfg0.N) (h : t.val % 32 = 0) (l : Fin 128) :
    (outsAt0 m c t.val t.isLt).2.2.2 (ix2 0 l) = 0 + Ideal.ofBits .f32 0x3F000000#32 * ∑ r : Fin 256, lossShare m c (row t r) := by
  rw [outsAt0_A m c t h]
  frame_out
  refine (loss_at _ _ _ _ _ _ _ _ _ _ _ (row t) (blk_a m c t) (blk_b m c t) (blk_x m c t) (blk_t m c t) (blk_g m c t) l).trans ?_
  congr 1
  unfold k0_pay4
  pointwise

/-- The running loss after any other point: what was there and the block's shares. -/
theorem loss_next (t : Fin cfg0.N) (h : ¬t.val % 32 = 0) (l : Fin 128) :
    (outsAt0 m c t.val t.isLt).2.2.2 (ix2 0 l) = (outsAt0 m c (t.val - 1) (Nat.lt_of_le_of_lt (Nat.sub_le _ _) t.isLt)).2.2.2 (ix2 0 l)
      + Ideal.ofBits .f32 0x3F000000#32 * ∑ r : Fin 256, lossShare m c (row t r) := by
  rw [outsAt0_B m c t h]
  frame_out
  exact loss_at _ _ _ _ _ _ _ _ _ _ _ (row t) (blk_a m c t) (blk_b m c t) (blk_x m c t) (blk_t m c t) (blk_g m c t) l

/-- The running loss after the last grid point: the sum over all blocks of their rows' shares. -/
theorem sum_loss (l : Fin 128) : (outsAt0 m c tL.val tL.isLt).2.2.2 (ix2 0 l) = loss m c (ix2 0 l) := by
  refine (Pipeline.eq_sum_fin_of_reset_step_apply_last (fun n h l => (outsAt0 m c n h).2.2.2 (ix2 0 l)) 32 (fun _ => (0 : EReal)) _
    (fun t h j => loss_first m c t h j) (fun t h j => loss_next m c t h j) (by decide) tL rfl l).trans ?_
  unfold loss
  rw [loss_ref, zero_add]
  rw [← half_sum]; refine congrArg (Ideal.ofBits .f32 0x3F000000#32 * ·) (sum_rows fun R => lossShare m c R).symm

theorem final_loss : (dats m 0 c).arrAt 8 cfg0.N = loss m c := by
  refine (dats m 0 c).arrAt_eq_of_after_last 8 tL (by decide +kernel) _ fun j => ?_
  blk_simp
  rw [after0_8]
  idx_vars j
  obtain rfl : j0 = 0 := Subsingleton.elim _ _
  exact sum_loss m c j1

/-- The call's run and the reference's end with equal results. -/
theorem algebraic : Cert.algebraic_LossDxIdeal_LossRefIdeal := by
  intro m g m' g' _ hag
  refine ⟨fun c => dx m c, fun c => dx m c, fun c => dw m c, fun c => loss m c, ?_, ?_⟩
  · refine (θ_run defs _ _).mono (fun r h c => ?_) (Value.run_blocks m g)
    obtain ⟨h5, h6, h7, h8, h⟩ := h c
    exact ⟨h5.trans (final_dx m c), h6.trans (final_dx16 m c), h7.trans (final_dw m c), h8.trans (final_loss m c), h⟩
  · refine (θ_run Cert.LossRefIdeal.defs _ _).mono (fun r h c => ?_) (Cert.LossRefIdeal.Value.run m' g')
    obtain ⟨h5, h6, h7, h8, h⟩ := h c
    obtain ⟨e0, e1, e2, e3, e4⟩ := hag c
    refine ⟨h5.trans ?_, h6.trans ?_, h7.trans ?_, h8.trans ?_, h⟩
    · rw [Cert.LossRefIdeal.Read.val_main_v50_eq, e0, e1, e2, e3, e4]; rfl
    · rw [Cert.LossRefIdeal.Read.val_main_v51_eq, e0, e1, e2, e3, e4]; rfl
    · rw [Cert.LossRefIdeal.Read.val_main_v34_eq, e0, e1, e2, e3, e4]; rfl
    · rw [Cert.LossRefIdeal.Read.val_main_v52_eq, e0, e1, e2, e3, e4]; rfl

end Cert.LossDxIdeal.Sums

end
-- ==== Proof.FfnPay.lean ====
/- The feed-forward's gate, block by block: the bodies' payloads at an index are the reference's terms at the block's rows and
   columns. -/
module

public import proofs.«01_k».proof.Proof.Gen.FfnDxIdeal.Skeleton
public import proofs.«01_k».proof.Proof.Gen.FfnRefIdeal.Read
public import Idealize.ShloMosaic.Lib.Pointwise

@[expose] public section

noncomputable section

namespace Cert.FfnDxIdeal.Sums

open Cert.FfnDxIdeal Cert.FfnDxIdeal.Gen Idealize.ShloMosaic Idealize.ShloMosaic.TcCoe Idealize.SL.Sem
open Cert.FfnRefIdeal.Read

variable (H : FVec Ideal S8192x1024 .f32) (U : FVec Ideal S1024x5632 .f32) (B : FVec Ideal S2816x1024 .f32) (D : FVec Ideal S8192x1024 .f32)
  (row : Fin 512 → Fin 8192)

section
variable (a : Vec Ideal S512x1024 .bf16) (w : Vec Ideal S1024x1408 .bf16) (col : Fin 1408 → Fin 5632)
  (ha : ∀ r k, a (ix2 r k) = H (ix2 (row r) k)) (hw : ∀ k l, w (ix2 k l) = U (ix2 k (col l)))
include ha hw

/-- The forward call's two products: a block of the gate's and of the value's columns. -/
theorem gate_at (r : Fin 512) (l : Fin 1408) : k0_pay4 a w (ix3 0 r l) = val_main_v0 (F := Ideal) H U (ix2 (row r) (col l)) := by
  unfold_payloads
  pointwise [ha, hw, dot_S512x1024_S1024x1408_S512x1408_1_0_0_1_n_n, Cert.FfnRefIdeal.dot_S8192x1024_S1024x5632_S8192x5632_1_0_0_1_n_n, val_main_v0]

theorem value_at (r : Fin 512) (l : Fin 1408) : k0_pay5 a w (ix3 0 r l) = val_main_v0 (F := Ideal) H U (ix2 (row r) (col l)) := by
  unfold_payloads
  pointwise [ha, hw, dot_S512x1024_S1024x1408_S512x1408_1_0_0_1_n_n, Cert.FfnRefIdeal.dot_S8192x1024_S1024x5632_S8192x5632_1_0_0_1_n_n, val_main_v0]
end

section
variable (d : Vec Ideal S512x1024 .bf16) (b : Vec Ideal S1408x1024 .bf16) (s0 s1 : Vec Ideal S1x512x1408 .f32) (col : Fin 1408 → Fin 2816)
  (hd : ∀ r k, d (ix2 r k) = D (ix2 (row r) k)) (hb : ∀ l k, b (ix2 l k) = B (ix2 (col l) k))
  (h0 : ∀ r l, s0 (ix3 0 r l) = val_main_v1 (F := Ideal) H U (ix2 (row r) (col l)))
  (h1 : ∀ r l, s1 (ix3 0 r l) = val_main_v2 (F := Ideal) H U (ix2 (row r) (col l)))
include hd hb h0

include h1 in
/-- The gate's gradient. -/
theorem dgate_at (r : Fin 512) (l : Fin 1408) : k1_pay4 d b s0 s1 (ix3 0 r l) = val_main_v9 (F := Ideal) H U B D (ix2 (row r) (col l)) := by
  unfold_payloads
  pointwise [hd, hb, h0, h1, dot_S512x1024_S1408x1024_S512x1408_1_1_0_0_n_n, Cert.FfnRefIdeal.dot_S8192x1024_S2816x1024_S8192x2816_1_1_0_0_n_n,
    val_main_v9, val_main_v8, val_main_v6, val_main_v3_1, val_main_v3_2, val_main_call0_v0, val_main_call0_v1, val_main_call0_v2,
    val_main_call0_v3, val_main_call0_v4, val_main_call0_v6, val_main_call0_v7, val_main_call0_cst, val_main_call0_cst_0, val_main_call0_cst_1,
    val_main_call1_v0, val_main_call1_v1, val_main_call1_v2, Ideal.logistic]

/-- The value's gradient. -/
theorem dvalue_at (r : Fin 512) (l : Fin 1408) : k1_pay5 d b s0 (ix3 0 r l) = val_main_v7 (F := Ideal) H U B D (ix2 (row r) (col l)) := by
  unfold_payloads
  pointwise [hd, hb, h0, dot_S512x1024_S1408x1024_S512x1408_1_1_0_0_n_n, Cert.FfnRefIdeal.dot_S8192x1024_S2816x1024_S8192x2816_1_1_0_0_n_n,
    val_main_v7, val_main_v6, val_main_v3_0, val_main_v3_2, val_main_call0_v0, val_main_call0_v1, val_main_call0_v2,
    val_main_call0_v3, val_main_call0_v4, val_main_call0_cst, val_main_call0_cst_0, Ideal.logistic]
end

end Cert.FfnDxIdeal.Sums

end
-- ==== Proof.FfnValue.lean ====
/- The feed-forward's gradient as a whole: what the two calls leave, and the value claim. -/
module

public import proofs.«01_k».proof.Proof.FfnPay
public import proofs.«01_k».proof.Proof.Gen.FfnDxIdeal.Frame
public import proofs.«01_k».proof.Proof.Gen.FfnRefIdeal.Run
public import Idealize.ShloMosaic.Lib.Pipeline.ValueKit
public import proofs.«01_k».proof.Defs

@[expose] public section

set_option maxRecDepth 16384

noncomputable section

namespace Cert.FfnDxIdeal.Sums

open Cert.FfnDxIdeal Cert.FfnDxIdeal.Gen Idealize.ShloMosaic Idealize.ShloMosaic.TcCoe Idealize.ShloMosaic.Tactic
open Cert.FfnRefIdeal.Read
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

local notation "𝕄" => MT nD τ sig Unit (Elt Ideal) ℕ (UR sig nD τ) ℕ

theorem idx0 : ∀ t : Fin cfg0.N, win0_0.index t = ![t.val % 16, 0] ∧ win0_1.index t = ![0, t.val / 16] ∧ win0_2.index t = ![0, t.val / 16 + 2]
  ∧ win0_3.index t = ![0, t.val % 16, t.val / 16] := by decide +kernel

theorem idx1 : ∀ t : Fin cfg1.N, win1_0.index t = ![t.val % 16, 0] ∧ win1_1.index t = ![t.val / 16, 0] ∧ win1_2.index t = ![0, t.val % 16, t.val / 16]
  ∧ win1_3.index t = ![0, t.val % 16, t.val / 16] := by decide +kernel

/-- One of the two halves of a block. -/
theorem tile {e : EltTy} {h c : Fin 2} {r : Fin 512} {l : Fin 1408} (P : (⟨3, ![1, 512, 1408]⟩ : Shape).Idx → Elt Ideal e) (val : Fin 2 → Fin 512 → Fin 1408 → Elt Ideal e)
    (hP : ∀ r l, P (ix3 0 r l) = val c r l) :
    View.TileAt (S := S2x512x1408) (Val := Elt Ideal) (e := e) (ix3 h r l) ![c.val, 0, 0] ![1, 512, 1408] P (val h r l) := by
  intro x hx
  have h0 := hx 0
  have h1 := hx 1
  have h2 := hx 2
  have b0 := (x 0).isLt
  simp at h0 h1 h2 b0
  have e : x = ix3 0 r l := by
    funext i
    apply Fin.ext
    fin_cases i <;> simp <;> omega
  have en : h = c := Fin.ext (by omega)
  rw [e, en]
  exact hP r l

/-- Row `r` of the point's strip, -/
def row (n : ℕ) (r : Fin 512) : Fin 8192 := ⟨512 * (n % 16) + r.val, by omega⟩
/-- column `l` of its half, -/
def col (n : ℕ) (h : n < 32) (l : Fin 1408) : Fin 2816 := ⟨1408 * (n / 16) + l.val, by omega⟩
/-- that column among the gate's and among the value's. -/
def lo (k : Fin 2816) : Fin 5632 := ⟨k.val, by omega⟩
def hi (k : Fin 2816) : Fin 5632 := ⟨2816 + k.val, by omega⟩

section
variable (V : (c : Dev nD) → (b : Ref sig .tc) → Buf (Elt Ideal) ((c : Thread nD τ).loc b)) (c : Dev nD)
  (H : FVec Ideal S8192x1024 .f32) (U : FVec Ideal S1024x5632 .f32) (B : FVec Ideal S2816x1024 .f32) (D : FVec Ideal S8192x1024 .f32)

section
variable (t : Fin cfg0.N) (hH : V c main_v0 = (H : S8192x1024.Idx → EReal)) (hU : V c main_v1 = (U : S1024x5632.Idx → EReal))

include hH in
theorem blk0_0 (r : Fin 512) (k : Fin 1024) : (iblk0 V c 0 t : Vec Ideal S512x1024 .bf16) (ix2 r k) = H (ix2 (row t.val r) k) := by
  rw [← hH]; unfold iblk0 row; blk_ext [idx0 t]

include hU in
theorem blk0_1 (ht : t.val < 32) (k : Fin 1024) (l : Fin 1408) :
    (iblk0 V c 1 t : Vec Ideal S1024x1408 .bf16) (ix2 k l) = U (ix2 k (lo (col t.val ht l))) := by
  rw [← hU]; unfold iblk0 lo col; blk_ext [idx0 t]

include hU in
theorem blk0_2 (ht : t.val < 32) (k : Fin 1024) (l : Fin 1408) :
    (iblk0 V c 2 t : Vec Ideal S1024x1408 .bf16) (ix2 k l) = U (ix2 k (hi (col t.val ht l))) := by
  rw [← hU]; unfold iblk0 hi col; blk_ext [idx0 t]

/-- What the forward call saves: the gate's and the value's columns. -/
def saved : Vec Ideal S2x8192x2816 .f32 := fun y => val_main_v0 (F := Ideal) H U (ix2 (y 1) (if (y 0).val = 0 then lo (y 2) else hi (y 2)))

theorem saved_0 (R : Fin 8192) (k : Fin 2816) : saved H U (ix3 0 R k) = val_main_v0 (F := Ideal) H U (ix2 R (lo k)) := rfl
theorem saved_1 (R : Fin 8192) (k : Fin 2816) : saved H U (ix3 1 R k) = val_main_v0 (F := Ideal) H U (ix2 R (hi k)) := rfl

theorem outs_saved (hH : V c main_v0 = (H : S8192x1024.Idx → EReal)) (hU : V c main_v1 = (U : S1024x5632.Idx → EReal)) (ht : t.val < 32) (h : Fin 2) (r : Fin 512) (l : Fin 1408) :
    out0_3 (iblk0 V c 0 t) (iblk0 V c 1 t) (iblk0 V c 2 t) (ix3 h r l) = saved H U (ix3 h (row t.val r) (col t.val ht l)) := by
  unfold out0_3
  frame_out
  refine View.canon_eq_of_allAt _ _ _ (View.cover_of_tiled_head _ _ _ rfl _) ?_
  refine View.allAt_cons_unit _ _ _ _ _ (tile (c := 1) _ (fun h r l => saved H U (ix3 h (row t.val r) (col t.val ht l))) fun r l =>
    value_at H U (row t.val) _ _ (fun l => hi (col t.val ht l)) (blk0_0 V c H t hH) (blk0_2 V c U t hU ht) r l) ?_
  exact View.allAt_cons_unit _ _ _ _ _ (tile (c := 0) _ (fun h r l => saved H U (ix3 h (row t.val r) (col t.val ht l))) fun r l =>
    gate_at H U (row t.val) _ _ (fun l => lo (col t.val ht l)) (blk0_0 V c H t hH) (blk0_1 V c U t hU ht) r l) (View.allAt_nil _ _)

theorem final_saved (hH : V c main_v0 = (H : S8192x1024.Idx → EReal)) (hU : V c main_v1 = (U : S1024x5632.Idx → EReal)) :
    (dat0 V c).arrAt 3 cfg0.N = saved H U := by
  refine (dat0 V c).arrAt_eq_of_covers 3 _ (by decide +kernel) fun t hf y => ?_
  have ht : t.val < 32 := t.isLt
  blk_simp
  rw [after0_3]
  idx_vars y
  rw [outs_saved V c H U t hH hU ht]
  unfold row col
  blk_ext [idx0 t]
end

section
variable (t : Fin cfg1.N)

theorem blk1_0 (hD : V c main_v3 = (D : S8192x1024.Idx → EReal)) (r : Fin 512) (k : Fin 1024) :
    (iblk1 V c 0 t : Vec Ideal S512x1024 .bf16) (ix2 r k) = D (ix2 (row t.val r) k) := by
  rw [← hD]; unfold iblk1 row; blk_ext [idx1 t]

theorem blk1_1 (hB : V c main_v4 = (B : S2816x1024.Idx → EReal)) (ht : t.val < 32) (l : Fin 1408) (k : Fin 1024) :
    (iblk1 V c 1 t : Vec Ideal S1408x1024 .bf16) (ix2 l k) = B (ix2 (col t.val ht l) k) := by
  rw [← hB]; unfold iblk1 col; blk_ext [idx1 t]

theorem blk1_2 (hS : V c main_v2_0 = saved H U) (ht : t.val < 32) (h : Fin 2) (r : Fin 512) (l : Fin 1408) :
    (iblk1 V c 2 t : Vec Ideal S2x512x1408 .f32) (ix3 h r l) = saved H U (ix3 h (row t.val r) (col t.val ht l)) := by
  rw [← hS]; unfold iblk1 row col; blk_ext [idx1 t]

/-- The gradients of the gate's and of the value's columns. -/
def grads : Vec Ideal S2x8192x2816 .bf16 := val_main_v13 (F := Ideal) H U B D

theorem grads_0 (R : Fin 8192) (k : Fin 2816) : grads H U B D (ix3 0 R k) = val_main_v9 (F := Ideal) H U B D (ix2 R k) := by
  unfold grads val_main_v13 val_main_v12 val_main_v11 val_main_v10
  pointwise

theorem grads_1 (R : Fin 8192) (k : Fin 2816) : grads H U B D (ix3 1 R k) = val_main_v7 (F := Ideal) H U B D (ix2 R k) := by
  unfold grads val_main_v13 val_main_v12 val_main_v11 val_main_v10
  pointwise

theorem saved_gate (R : Fin 8192) (k : Fin 2816) : saved H U (ix3 0 R k) = val_main_v1 (F := Ideal) H U (ix2 R k) := by
  rw [saved_0]
  unfold val_main_v1
  pointwise
  try (blk_ext [lo])

theorem saved_value (R : Fin 8192) (k : Fin 2816) : saved H U (ix3 1 R k) = val_main_v2 (F := Ideal) H U (ix2 R k) := by
  rw [saved_1]
  unfold val_main_v2
  pointwise
  try (blk_ext [hi])

theorem outs_grads (hD : V c main_v3 = (D : S8192x1024.Idx → EReal)) (hB : V c main_v4 = (B : S2816x1024.Idx → EReal)) (hS : V c main_v2_0 = saved H U)
    (ht : t.val < 32) (h : Fin 2) (r : Fin 512) (l : Fin 1408) :
    out1_3 (iblk1 V c 0 t) (iblk1 V c 1 t) (iblk1 V c 2 t) (ix3 h r l) = grads H U B D (ix3 h (row t.val r) (col t.val ht l)) := by
  have h0 : ∀ r l, View.ld (iblk1 V c 2 t : Vec Ideal S2x512x1408 .f32) r1_2 (ix3 0 r l) = val_main_v1 (F := Ideal) H U (ix2 (row t.val r) (col t.val ht l)) :=
    fun r l => Eq.trans (by pointwise) ((blk1_2 V c H U t hS ht 0 r l).trans (saved_gate H U _ _))
  have h1 : ∀ r l, View.ld (iblk1 V c 2 t : Vec Ideal S2x512x1408 .f32) r1_3 (ix3 0 r l) = val_main_v2 (F := Ideal) H U (ix2 (row t.val r) (col t.val ht l)) :=
    fun r l => Eq.trans (by pointwise) ((blk1_2 V c H U t hS ht 1 r l).trans (saved_value H U _ _))
  unfold out1_3
  frame_out
  refine View.canon_eq_of_allAt _ _ _ (View.cover_of_tiled_head _ _ _ rfl _) ?_
  refine View.allAt_cons_unit _ _ _ _ _ (tile (c := 1) _ (fun h r l => grads H U B D (ix3 h (row t.val r) (col t.val ht l))) fun r l =>
    (dvalue_at H U B D (row t.val) _ _ _ (col t.val ht) (blk1_0 V c D t hD) (blk1_1 V c B t hB ht) h0 r l).trans (grads_1 ..).symm) ?_
  exact View.allAt_cons_unit _ _ _ _ _ (tile (c := 0) _ (fun h r l => grads H U B D (ix3 h (row t.val r) (col t.val ht l))) fun r l =>
    (dgate_at H U B D (row t.val) _ _ _ _ (col t.val ht) (blk1_0 V c D t hD) (blk1_1 V c B t hB ht) h0 h1 r l).trans (grads_0 ..).symm) (View.allAt_nil _ _)

theorem final_grads (hD : V c main_v3 = (D : S8192x1024.Idx → EReal)) (hB : V c main_v4 = (B : S2816x1024.Idx → EReal)) (hS : V c main_v2_0 = saved H U) :
    (dat1 V c).arrAt 3 cfg1.N = grads H U B D := by
  refine (dat1 V c).arrAt_eq_of_covers 3 _ (by decide +kernel) fun t hf y => ?_
  have ht : t.val < 32 := t.isLt
  blk_simp
  rw [after1_3]
  idx_vars y
  rw [outs_grads V c H U B D t hD hB hS ht]
  unfold row col
  blk_ext [idx1 t]
end
end

section
variable (m : (ℓ : Loc nD τ sig) → Buf (Elt Ideal) ℓ) (ρ : Dev nD → PrngReg) (c : Dev nD)

theorem in_v0 : V1 m ρ c main_v0 = (m ((c : Thread nD τ).loc main_arg0) : S8192x1024.Idx → EReal) := by
  funext y
  change (StableHlo.after hostOps0 (W0 m ρ c) (Proc.devRef (τ := τ) .tc main_v0) : Vec Ideal S8192x1024 .bf16) y = _
  entry_read
  rfl

theorem in_v1 : V1 m ρ c main_v1 = (m ((c : Thread nD τ).loc main_arg1) : S1024x5632.Idx → EReal) := by
  funext y
  change (StableHlo.after hostOps0 (W0 m ρ c) (Proc.devRef (τ := τ) .tc main_v1) : Vec Ideal S1024x5632 .bf16) y = _
  entry_read
  rfl

theorem in_v3 : V3 m ρ c main_v3 = (m ((c : Thread nD τ).loc main_arg3) : S8192x1024.Idx → EReal) := by
  refine Eq.trans ?_ (W2_args m ρ c main_arg3 (by decide))
  funext y
  change (StableHlo.after hostOps1 (W2 m ρ c) (Proc.devRef (τ := τ) .tc main_v3) : Vec Ideal S8192x1024 .bf16) y = _
  entry_read
  rfl

theorem in_v4 : V3 m ρ c main_v4 = (m ((c : Thread nD τ).loc main_arg2) : S2816x1024.Idx → EReal) := by
  refine Eq.trans ?_ (W2_args m ρ c main_arg2 (by decide))
  funext y
  change (StableHlo.after hostOps1 (W2 m ρ c) (Proc.devRef (τ := τ) .tc main_v4) : Vec Ideal S2816x1024 .bf16) y = _
  entry_read
  rfl

/-- The result array holds the reference's gradients. -/
theorem out : W4 m ρ c (Proc.devRef .tc main_v5) = grads (m ((c : Thread nD τ).loc main_arg0)) (m ((c : Thread nD τ).loc main_arg1))
    (m ((c : Thread nD τ).loc main_arg2)) (m ((c : Thread nD τ).loc main_arg3)) :=
  (W4_arr m ρ c 3).trans (final_grads (V3 m ρ) c _ _ _ _ (in_v3 m ρ c) (in_v4 m ρ c)
    ((W3_of m ρ c main_v2_0 (by decide)).trans ((W2_arr m ρ c 3).trans (final_saved (V1 m ρ) c _ _ (in_v0 m ρ c) (in_v1 m ρ c)))))
end

section
variable (m : (ℓ : Loc nD τ sig) → Buf (Elt Ideal) ℓ) (ρ : Dev nD → PrngReg)

set_option backward.isDefEq.respectTransparency.types false in
/-- Where the run ends, every array holds what the segments leave in it. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end

/-- The call's run and the reference's end with equal results. -/
theorem algebraic : Cert.algebraic_FfnDxIdeal_FfnRefIdeal := by
  intro m g m' g' _ hag
  refine ⟨fun c => W4 m g c (Proc.devRef .tc main_v5), ?_, ?_⟩
  · refine (θ_run defs _ _).mono (fun r h c => ?_) (run m g)
    exact ⟨h c _ (mem_uc main_v5 (by decide)),
       (h c _ (mem_uc main_arg0 (by decide))).trans (W4_main_arg0 m g c),
       (h c _ (mem_uc main_arg1 (by decide))).trans (W4_main_arg1 m g c),
       (h c _ (mem_uc main_arg2 (by decide))).trans (W4_main_arg2 m g c),
       (h c _ (mem_uc main_arg3 (by decide))).trans (W4_main_arg3 m g c)⟩
  · refine (θ_run Cert.FfnRefIdeal.defs _ _).mono (fun r h c => ?_) (Cert.FfnRefIdeal.Value.run m' g')
    obtain ⟨hq, h⟩ := h c
    obtain ⟨e0, e1, e2, e3⟩ := hag c
    refine ⟨hq.trans ?_, h⟩
    rw [Cert.FfnRefIdeal.Read.val_main_v13_eq, e0, e1, e2, e3]
    exact (out m g c).symm

end Cert.FfnDxIdeal.Sums

end
-- ==== Proof.MixValue.lean ====
/- The mixer's backward call as a whole: what its six result arrays hold after the run, and its value claim. -/
module

public import proofs.«01_k».proof.Proof.MixPay
public import proofs.«01_k».proof.Defs
public import Idealize.ShloMosaic.Lib.Pipeline.ValueKit

@[expose] public section

set_option maxRecDepth 16384

noncomputable section

namespace Cert.MixDxIdeal.Sums

open Cert.MixDxIdeal Cert.MixDxIdeal.Gen Idealize.ShloMosaic Idealize.ShloMosaic.TcCoe Idealize.SL.Sem

variable (m : (ℓ : Loc nD τ sig) → Buf (Elt Ideal) ℓ) (c : Dev nD)

/-- Row `r` of block `t`. -/
def row (t : Fin cfg0.N) (r : Fin 256) : Fin 8192 := ⟨256 * t.val + r.val, by have : t.val < 32 := t.isLt; omega⟩

/-- The block's number among the arrays' leading tiles. -/
def pt (t : Fin cfg0.N) : Fin 32 := ⟨t.val, t.isLt⟩

theorem idx : ∀ t : Fin cfg0.N, win0_0.index t = ![t.val, 0] ∧ win0_1.index t = ![t.val, 0] ∧ win0_2.index t = ![t.val, 4]
    ∧ win0_3.index t = ![0, t.val, 0, 0] ∧ win0_4.index t = ![t.val, 0] ∧ win0_5.index t = ![0, 0] ∧ win0_6.index t = ![0, 0]
    ∧ win0_7.index t = ![t.val, 0] ∧ win0_8.index t = ![t.val, 0] ∧ win0_9.index t = ![0, t.val, 0, 0] ∧ win0_10.index t = ![0, t.val, 0, 0]
    ∧ win0_11.index t = ![0, 0] ∧ win0_12.index t = ![0, 0] :=
  (by decide +kernel : ∀ t : Fin grid0.N, _)

theorem blk_0 (t : Fin cfg0.N) (r : Fin 256) (k : Fin 512) :
    (iblk m c 0 t : Vec Ideal S256x512 .f32) (ix2 r k) = m ((c : Thread nD τ).loc main_arg0) (ix2 (row t r) k) := by
  unfold iblk
  entry_read
  blk_ext [idx t, row]

theorem blk_1 (t : Fin cfg0.N) (r : Fin 256) (k : Fin 512) :
    (iblk m c 1 t : Vec Ideal S256x512 .f32) (ix2 r k) = m ((c : Thread nD τ).loc main_arg1) (ix2 (row t r) k) := by
  unfold iblk
  entry_read
  blk_ext [idx t, row]

theorem blk_2 (t : Fin cfg0.N) (r : Fin 256) (k : Fin 512) :
    (X0_2 m c t : Vec Ideal S256x512 .f32) (ix2 r k) = m ((c : Thread nD τ).loc main_arg2) (ix2 (row t r) (gcol k)) := by
  unfold X0_2 Pipeline.Window.fill
  rw [dif_pos (moved0_2 t _)]
  unfold iblk
  entry_read
  blk_ext [idx t, row, gcol]

theorem read_3 (t : Fin cfg0.N) (X : Vec Ideal S8x32x64x256 .f32) (h : Fin 8) (d : Fin 64) (r : Fin 256) :
    View.read (Elt Ideal) ((cfg0.win 3).blk t).view X (ix4 h 0 d r) = X (ix4 h (pt t) d r) := by
  blk_ext [idx t, pt]

theorem blk_3 (t : Fin cfg0.N) (h : Fin 8) (r : Fin 256) (d : Fin 64) :
    (iblk m c 3 t : Vec Ideal S8x1x64x256 .f32) (ix4 h 0 d r) = m ((c : Thread nD τ).loc main_arg3) (ix2 (row t r) (wide h d)) := by
  unfold iblk
  entry_read
  refine (read_3 t _ h d r).trans ?_
  pointwise
  refine congrArg (m ((c : Thread nD τ).loc main_arg3)) ?_
  congr 1 <;> (apply Fin.ext; simp [row, wide, pt]; omega)

theorem blk_4 (t : Fin cfg0.N) (r : Fin 256) (k : Fin 1024) :
    (iblk m c 4 t : Vec Ideal S256x1024 .f32) (ix2 r k) = m ((c : Thread nD τ).loc main_arg6) (ix2 (row t r) k) := by
  unfold iblk
  entry_read
  blk_ext [idx t, row]

theorem blk_5 (t : Fin cfg0.N) (k : Fin 128) :
    (iblk m c 5 t : Vec Ideal S1x128 .f32) (ix2 0 k) = m ((c : Thread nD τ).loc main_arg4) (ix2 0 k) := by
  unfold iblk
  entry_read
  blk_ext [idx t, row]

theorem blk_6 (t : Fin cfg0.N) (k : Fin 512) :
    (iblk m c 6 t : Vec Ideal S1x512 .f32) (ix2 0 k) = m ((c : Thread nD τ).loc main_arg5) (ix2 0 k) := by
  unfold iblk
  entry_read
  blk_ext [idx t, row]

/-- The reference's result for the arguments in memory: the gradient of the recurrences' sum. -/
def rdo : FVec Ideal S8192x512 .f32 := Cert.MixRefIdeal.Read.val_main_v86 (F := Ideal) (m ((c : Thread nD τ).loc main_arg0)) (m ((c : Thread nD τ).loc main_arg1)) (m ((c : Thread nD τ).loc main_arg2)) (m ((c : Thread nD τ).loc main_arg4)) (m ((c : Thread nD τ).loc main_arg6))

/-- The reference's result for the arguments in memory: the gate's gradient. -/
def rgate : FVec Ideal S8192x512 .bf16 := Cert.MixRefIdeal.Read.val_main_v90 (F := Ideal) (m ((c : Thread nD τ).loc main_arg0)) (m ((c : Thread nD τ).loc main_arg1)) (m ((c : Thread nD τ).loc main_arg2)) (m ((c : Thread nD τ).loc main_arg4)) (m ((c : Thread nD τ).loc main_arg6))

/-- The reference's result for the arguments in memory: the attention output's gradient, transposed tile by tile. -/
def rtiles : FVec Ideal S8x32x64x256 .bf16 := Cert.MixRefIdeal.Read.val_main_v92 (F := Ideal) (m ((c : Thread nD τ).loc main_arg3)) (m ((c : Thread nD τ).loc main_arg5)) (m ((c : Thread nD τ).loc main_arg6))

/-- The reference's result for the arguments in memory: the attention output's gradient in padded rows. -/
def rrows : FVec Ideal S8x32x256x128 .bf16 := Cert.MixRefIdeal.Read.val_main_v93 (F := Ideal) (m ((c : Thread nD τ).loc main_arg3)) (m ((c : Thread nD τ).loc main_arg5)) (m ((c : Thread nD τ).loc main_arg6))

/-- The reference's result for the arguments in memory: the gradient of the heads' norm weight. -/
def rwhg : FVec Ideal S1x128 .f32 := Cert.MixRefIdeal.Read.val_main_v71 (F := Ideal) (m ((c : Thread nD τ).loc main_arg0)) (m ((c : Thread nD τ).loc main_arg1)) (m ((c : Thread nD τ).loc main_arg2)) (m ((c : Thread nD τ).loc main_arg6))

/-- The reference's result for the arguments in memory: the gradient of the attention norm's weight. -/
def rwatt : FVec Ideal S1x512 .f32 := Cert.MixRefIdeal.Read.val_main_v43 (F := Ideal) (m ((c : Thread nD τ).loc main_arg3)) (m ((c : Thread nD τ).loc main_arg6))

theorem lane_cover (l : Fin 512) : ∃ h d, l = col h d :=
  ⟨⟨l.val / 128, by omega⟩, ⟨l.val % 128, by omega⟩, Fin.ext (by show l.val = 128 * (l.val / 128) + l.val % 128; omega)⟩

theorem outs_do (t : Fin cfg0.N) (r : Fin 256) (l : Fin 512) : (outsAt0 m c t.val t.isLt).1 (ix2 r l) = rdo m c (ix2 (row t r) l) := by
  obtain ⟨h, d, rfl⟩ := lane_cover l
  unfold rdo
  rw [v86_ref]
  by_cases h0 : t.val % 32 = 0
  · rw [outsAt0_A m c t h0]; frame_out
    exact do_at _ _ _ _ _ _ _ _ _ _ (row t) (blk_0 m c t) (blk_1 m c t) (blk_2 m c t) (blk_4 m c t) (blk_5 m c t) r h d
  · rw [outsAt0_B m c t h0]; frame_out
    exact do_at _ _ _ _ _ _ _ _ _ _ (row t) (blk_0 m c t) (blk_1 m c t) (blk_2 m c t) (blk_4 m c t) (blk_5 m c t) r h d

theorem outs_gate (t : Fin cfg0.N) (r : Fin 256) (l : Fin 512) : (outsAt0 m c t.val t.isLt).2.1 (ix2 r l) = rgate m c (ix2 (row t r) l) := by
  obtain ⟨h, d, rfl⟩ := lane_cover l
  unfold rgate
  rw [v90_ref]
  by_cases h0 : t.val % 32 = 0
  · rw [outsAt0_A m c t h0]; frame_out
    exact dgate_at _ _ _ _ _ _ _ _ _ _ (row t) (blk_0 m c t) (blk_1 m c t) (blk_2 m c t) (blk_4 m c t) (blk_5 m c t) r h d
  · rw [outsAt0_B m c t h0]; frame_out
    exact dgate_at _ _ _ _ _ _ _ _ _ _ (row t) (blk_0 m c t) (blk_1 m c t) (blk_2 m c t) (blk_4 m c t) (blk_5 m c t) r h d

/-- A piece of the transposed tiles' block is one head's tile. -/
theorem tile9 {e : EltTy} {h : Fin 8} (k : Fin 8) {d : Fin 64} {r : Fin 256} (P : (⟨4, ![1, 1, 64, 256]⟩ : Shape).Idx → Elt Ideal e)
    (val : Fin 8 → Fin 64 → Fin 256 → Elt Ideal e) (hP : ∀ d r, P (ix4 0 0 d r) = val k d r) :
    View.TileAt (S := S8x1x64x256) (Val := Elt Ideal) (e := e) (ix4 h 0 d r) ![k.val, 0, 0, 0] ![1, 1, 64, 256] P (val h d r) := by
  intro x hx
  have h0 := hx 0
  have h1 := hx 1
  have h2 := hx 2
  have h3 := hx 3
  have b0 := (x 0).isLt
  simp at h0 h1 h2 h3 b0
  have e : x = ix4 0 0 d r := by
    funext i
    apply Fin.ext
    fin_cases i <;> simp <;> omega
  have en : h = k := Fin.ext (by omega)
  rw [e, en]
  exact hP d r

/-- A piece of the padded rows' block is one head's rows. -/
theorem tile10 {e : EltTy} {h : Fin 8} (k : Fin 8) {r : Fin 256} {l : Fin 128} (P : (⟨4, ![1, 1, 256, 128]⟩ : Shape).Idx → Elt Ideal e)
    (val : Fin 8 → Fin 256 → Fin 128 → Elt Ideal e) (hP : ∀ r l, P (ix4 0 0 r l) = val k r l) :
    View.TileAt (S := S8x1x256x128) (Val := Elt Ideal) (e := e) (ix4 h 0 r l) ![k.val, 0, 0, 0] ![1, 1, 256, 128] P (val h r l) := by
  intro x hx
  have h0 := hx 0
  have h1 := hx 1
  have h2 := hx 2
  have h3 := hx 3
  have b0 := (x 0).isLt
  simp at h0 h1 h2 h3 b0
  have e : x = ix4 0 0 r l := by
    funext i
    apply Fin.ext
    fin_cases i <;> simp <;> omega
  have en : h = k := Fin.ext (by omega)
  rw [e, en]
  exact hP r l

theorem outs_tiles (t : Fin cfg0.N) (h : Fin 8) (d : Fin 64) (r : Fin 256) :
    (outsAt0 m c t.val t.isLt).2.2.1 (ix4 h 0 d r) = rtiles m c (ix4 h (pt t) d r) := by
  unfold rtiles
  rw [v91_ref _ _ _ h (pt t) d r (row t r) rfl]
  by_cases h0 : t.val % 32 = 0
  · rw [outsAt0_A m c t h0]; frame_out
    refine View.canon_eq_of_allAt _ _ _ (View.cover_of_tiled_head _ _ _ rfl _) ?_
    refine View.allAt_cons_unit _ _ _ _ _ (tile9 (e := .bf16) 7 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.2.2.2).trans (datt_at _ _ _ _ _ _ (row t) (blk_3 m c t) (blk_4 m c t) (blk_6 m c t) y _)) ?_
    refine View.allAt_cons_unit _ _ _ _ _ (tile9 (e := .bf16) 6 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.2.2.1).trans (datt_at _ _ _ _ _ _ (row t) (blk_3 m c t) (blk_4 m c t) (blk_6 m c t) y _)) ?_
    refine View.allAt_cons_unit _ _ _ _ _ (tile9 (e := .bf16) 5 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.2.1).trans (datt_at _ _ _ _ _ _ (row t) (blk_3 m c t) (blk_4 m c t) (blk_6 m c t) y _)) ?_
    refine View.allAt_cons_unit _ _ _ _ _ (tile9 (e := .bf16) 4 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.1).trans (datt_at _ _ _ _ _ _ (row t) (blk_3 m c t) (blk_4 m c t) (blk_6 m c t) y _)) ?_
    refine View.allAt_cons_unit _ _ _ _ _ (tile9 (e := .bf16) 3 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.1).trans (datt_at _ _ _ _ _ _ (row t) (blk_3 m c t) (blk_4 m c t) (blk_6 m c t) y _)) ?_
    refine View.allAt_cons_unit _ _ _ _ _ (tile9 (e := .bf16) 2 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.1).trans (datt_at _ _ _ _ _ _ (row t) (blk_3 m c t) (blk_4 m c t) (blk_6 m c t) y _)) ?_
    refine View.allAt_cons_unit _ _ _ _ _ (tile9 (e := .bf16) 1 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.1).trans (datt_at _ _ _ _ _ _ (row t) (blk_3 m c t) (blk_4 m c t) (blk_6 m c t) y _)) ?_
    refine View.allAt_cons_unit _ _ _ _ _ (tile9 (e := .bf16) 0 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).1).trans (datt_at _ _ _ _ _ _ (row t) (blk_3 m c t) (blk_4 m c t) (blk_6 m c t) y _)) ?_
    exact View.allAt_nil _ _
  · rw [outsAt0_B m c t h0]; frame_out
    refine View.canon_eq_of_allAt _ _ _ (View.cover_of_tiled_head _ _ _ rfl _) ?_
    refine View.allAt_cons_unit _ _ _ _ _ (tile9 (e := .bf16) 7 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.2.2.2).trans (datt_at _ _ _ _ _ _ (row t) (blk_3 m c t) (blk_4 m c t) (blk_6 m c t) y _)) ?_
    refine View.allAt_cons_unit _ _ _ _ _ (tile9 (e := .bf16) 6 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.2.2.1).trans (datt_at _ _ _ _ _ _ (row t) (blk_3 m c t) (blk_4 m c t) (blk_6 m c t) y _)) ?_
    refine View.allAt_cons_unit _ _ _ _ _ (tile9 (e := .bf16) 5 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.2.1).trans (datt_at _ _ _ _ _ _ (row t) (blk_3 m c t) (blk_4 m c t) (blk_6 m c t) y _)) ?_
    refine View.allAt_cons_unit _ _ _ _ _ (tile9 (e := .bf16) 4 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.2.1).trans (datt_at _ _ _ _ _ _ (row t) (blk_3 m c t) (blk_4 m c t) (blk_6 m c t) y _)) ?_
    refine View.allAt_cons_unit _ _ _ _ _ (tile9 (e := .bf16) 3 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.2.1).trans (datt_at _ _ _ _ _ _ (row t) (blk_3 m c t) (blk_4 m c t) (blk_6 m c t) y _)) ?_
    refine View.allAt_cons_unit _ _ _ _ _ (tile9 (e := .bf16) 2 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.2.1).trans (datt_at _ _ _ _ _ _ (row t) (blk_3 m c t) (blk_4 m c t) (blk_6 m c t) y _)) ?_
    refine View.allAt_cons_unit _ _ _ _ _ (tile9 (e := .bf16) 1 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).2.1).trans (datt_at _ _ _ _ _ _ (row t) (blk_3 m c t) (blk_4 m c t) (blk_6 m c t) y _)) ?_
    refine View.allAt_cons_unit _ _ _ _ _ (tile9 (e := .bf16) 0 _ (fun h d r => Cert.MixRefIdeal.Read.val_main_v59 (F := Ideal) (m ((c : Thread nD τ).loc main_arg3)) (m ((c : Thread nD τ).loc main_arg5)) (m ((c : Thread nD τ).loc main_arg6)) (ix2 (row t r) (wide h d))) fun x y => ((tile_t _ y x).1).trans (datt_at _ _ _ _ _ _ (row t) (blk_3 m c t) (blk_4 m c t) (blk_6 m c t) y _)) ?_
    exact View.allAt_nil _ _

/-- The block of padded rows. -/
def rowsGrad (t : Fin cfg0.N) (h : Fin 8) (r : Fin 256) (l : Fin 128) : EReal :=
  padded (fun d => Cert.MixRefIdeal.Read.val_main_v59 (F := Ideal) (m ((c : Thread nD τ).loc main_arg3)) (m ((c : Thread nD τ).loc main_arg5)) (m ((c : Thread nD τ).loc main_arg6)) (ix2 (row t r) (wide h d))) l

theorem outs_rows (t : Fin cfg0.N) (h : Fin 8) (r : Fin 256) (l : Fin 128) :
    (outsAt0 m c t.val t.isLt).2.2.2.1 (ix4 h 0 r l) = rrows m c (ix4 h (pt t) r l) := by
  unfold rrows
  refine Eq.trans ?_ (v93_ref _ _ _ h (pt t) l r (row t r) rfl).symm
  change _ = rowsGrad m c t h r l
  by_cases h0 : t.val % 32 = 0
  · rw [outsAt0_A m c t h0]; frame_out
    refine View.canon_eq_of_allAt _ _ _ (View.cover_of_tiled_head _ _ _ rfl _) ?_
    refine View.allAt_cons_unit _ _ _ _ _ (tile10 (e := .bf16) 7 _ (rowsGrad m c t) fun x y => ((tile_s _ x y).2.2.2.2.2.2.2).trans (congrArg (padded · y) (funext fun d => (datt_at _ _ _ _ _ _ (row t) (blk_3 m c t) (blk_4 m c t) (blk_6 m c t) x _)))) ?_
    refine View.allAt_cons_unit _ _ _ _ _ (tile10 (e := .bf16) 6 _ (rowsGrad m c t) fun x y => ((tile_s _ x y).2.2.2.2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 5 _ (rowsGrad m c t) fun x y => ((tile_s _ x y).2.2.2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 4 _ (rowsGrad m c t) fun x y => ((tile_s _ x y).2.2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 3 _ (rowsGrad m c t) fun x y => ((tile_s _ x y).2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 2 _ (rowsGrad m c t) fun x y => ((tile_s _ x y).2.2.1).trans (congrArg (padded · y) (funext fun d => (datt_at _ _ _ _ _ _ (row t) (blk_3 m c t) (blk_4 m c t) (blk_6 m c t) x _)))) ?_
    refine View.allAt_cons_unit _ _ _ _ _ (tile10 (e := .bf16) 1 _ (rowsGrad m c t) fun x y => ((tile_s _ x y).2.1).trans (congrArg (padded · y) (funext fun d => (datt_at _ _ _ _ _ _ (row t) (blk_3 m c t) (blk_4 m c t) (blk_6 m c t) x _)))) ?_
    refine View.allAt_cons_unit _ _ _ _ _ (tile10 (e := .bf16) 0 _ (rowsGrad m c t) fun x y => ((tile_s _ x y).1).trans (congrArg (padded · y) (funext fun d => (datt_at _ _ _ _ _ _ (row t) (blk_3 m c t) (blk_4 m c t) (blk_6 m c t) x _)))) ?_
    exact View.allAt_nil _ _
  · rw [outsAt0_B m c t h0]; frame_out
    refine View.canon_eq_of_allAt _ _ _ (View.cover_of_tiled_head _ _ _ rfl _) ?_
    refine View.allAt_cons_unit _ _ _ _ _ (tile10 (e := .bf16) 7 _ (rowsGrad m c t) fun x y => ((tile_s _ x y).2.2.2.2.2.2.2).trans (congrArg (padded · y) (funext fun d => (datt_at _ _ _ _ _ _ (row t) (blk_3 m c t) (blk_4 m c t) (blk_6 m c t) x _)))) ?_
    refine View.allAt_cons_unit _ _ _ _ _ (tile10 (e := .bf16) 6 _ (rowsGrad m c t) fun x y => ((tile_s _ x y).2.2.2.2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 5 _ (rowsGrad m c t) fun x y => ((tile_s _ x y).2.2.2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 4 _ (rowsGrad m c t) fun x y => ((tile_s _ x y).2.2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 3 _ (rowsGrad m c t) fun x y => ((tile_s _ x y).2.2.2.1).trans (congrArg (padded · y) (funext fun d => (datt_at _ _ _ _ _ _ (row t) (blk_3 m c t) (blk_4 m c t) (blk_6 m c t) x _)))) ?_
    refine View.allAt_cons_unit _ _ _ _ _ (tile10 (e := .bf16) 2 _ (rowsGrad m c t) fun x y => ((tile_s _ x y).2.2.1).trans (congrArg (padded · y) (funext fun d => (datt_at _ _ _ _ _ _ (row t) (blk_3 m c t) (blk_4 m c t) (blk_6 m c t) x _)))) ?_
    refine View.allAt_cons_unit _ _ _ _ _ (tile10 (e := .bf16) 1 _ (rowsGrad m c t) fun x y => ((tile_s _ x y).2.1).trans (congrArg (padded · y) (funext fun d => (datt_at _ _ _ _ _ _ (row t) (blk_3 m c t) (blk_4 m c t) (blk_6 m c t) x _)))) ?_
    refine View.allAt_cons_unit _ _ _ _ _ (tile10 (e := .bf16) 0 _ (rowsGrad m c t) fun x y => ((tile_s _ x y).1).trans (congrArg (padded · y) (funext fun d => (datt_at _ _ _ _ _ _ (row t) (blk_3 m c t) (blk_4 m c t) (blk_6 m c t) x _)))) ?_
    exact View.allAt_nil _ _

theorem final_do : (dats m 0 c).arrAt 7 cfg0.N = (rdo m c : S8192x512.Idx → EReal) := by
  refine (dats m 0 c).arrAt_eq_of_covers 7 _ (by decide +kernel) fun t hf y => ?_
  blk_simp
  rw [after0_7]
  idx_vars y
  rw [outs_do]
  blk_ext [idx t, row]

theorem final_gate : (dats m 0 c).arrAt 8 cfg0.N = (rgate m c : S8192x512.Idx → EReal) := by
  refine (dats m 0 c).arrAt_eq_of_covers 8 _ (by decide +kernel) fun t hf y => ?_
  blk_simp
  rw [after0_8]
  idx_vars y
  rw [outs_gate]
  blk_ext [idx t, row]

theorem final_tiles : (dats m 0 c).arrAt 9 cfg0.N = (rtiles m c : S8x32x64x256.Idx → EReal) := by
  refine (dats m 0 c).arrAt_eq_of_covers 9 _ (by decide +kernel) fun t hf y => ?_
  blk_simp
  rw [after0_9]
  idx_vars y
  obtain rfl : y1 = 0 := Subsingleton.elim _ _
  rw [outs_tiles]
  blk_ext [idx t, pt]

theorem final_rows : (dats m 0 c).arrAt 10 cfg0.N = (rrows m c : S8x32x256x128.Idx → EReal) := by
  refine (dats m 0 c).arrAt_eq_of_covers 10 _ (by decide +kernel) fun t hf y => ?_
  blk_simp
  rw [after0_10]
  idx_vars y
  obtain rfl : y1 = 0 := Subsingleton.elim _ _
  rw [outs_rows]
  blk_ext [idx t, pt]

/-- A sum over all rows is the sum over the blocks of the sums over their rows. -/
theorem sum_rows (f : Fin 8192 → EReal) : ∑ R, f R = ∑ t : Fin cfg0.N, ∑ r : Fin 256, f (row t r) := by
  refine (Fin.sum_univ_tiles 32 256 rfl f).trans (Finset.sum_congr rfl fun t _ => Finset.sum_congr rfl fun r _ => ?_)
  exact congrArg f (Fin.ext (by show _ = 256 * t.val + r.val; simp; omega))

/-- The last grid point. -/
def tL : Fin cfg0.N := ⟨31, by decide⟩

/-- One row's share of the weight's gradient, for the arguments in memory. -/
def whgShare (R : Fin 8192) (l : Fin 128) : EReal := ∑ h : Fin 4, Cert.MixRefIdeal.Read.val_main_v65 (F := Ideal) (m ((c : Thread nD τ).loc main_arg0)) (m ((c : Thread nD τ).loc main_arg1)) (m ((c : Thread nD τ).loc main_arg2)) (m ((c : Thread nD τ).loc main_arg6)) (ix3 R h l)

/-- The running row after a point that starts over: the block's shares alone. -/
theorem whg_first (t : Fin cfg0.N) (h : t.val % 32 = 0) (l : Fin 128) :
    (outsAt0 m c t.val t.isLt).2.2.2.2.1 (ix2 0 l) = 0 + ∑ r : Fin 256, whgShare m c (row t r) l := by
  rw [outsAt0_A m c t h]
  frame_out
  refine (dwhg_at _ _ _ _ _ _ _ _ (row t) (blk_0 m c t) (blk_1 m c t) (blk_2 m c t) (blk_4 m c t) _ l).trans ?_
  congr 1
  unfold k0_pay84
  pointwise

/-- The running row after any other point: what was there and the block's shares. -/
theorem whg_next (t : Fin cfg0.N) (h : ¬t.val % 32 = 0) (l : Fin 128) :
    (outsAt0 m c t.val t.isLt).2.2.2.2.1 (ix2 0 l) = (outsAt0 m c (t.val - 1) (Nat.lt_of_le_of_lt (Nat.sub_le _ _) t.isLt)).2.2.2.2.1 (ix2 0 l)
      + ∑ r : Fin 256, whgShare m c (row t r) l := by
  rw [outsAt0_B m c t h]
  frame_out
  exact dwhg_at _ _ _ _ _ _ _ _ (row t) (blk_0 m c t) (blk_1 m c t) (blk_2 m c t) (blk_4 m c t) _ l

/-- The running row after the last grid point: the sum over all blocks of their rows' shares. -/
theorem sum_whg (l : Fin 128) : (outsAt0 m c tL.val tL.isLt).2.2.2.2.1 (ix2 0 l) = rwhg m c (ix2 0 l) := by
  refine (Pipeline.eq_sum_fin_of_reset_step_apply_last (fun n h l => (outsAt0 m c n h).2.2.2.2.1 (ix2 0 l)) 32 (fun _ => (0 : EReal)) _
    (fun t h j => whg_first m c t h j) (fun t h j => whg_next m c t h j) (by decide) tL rfl l).trans ?_
  unfold rwhg
  rw [dwhg_ref]
  exact congrArg (0 + ·) (sum_rows fun R => whgShare m c R l).symm

theorem final_whg : (dats m 0 c).arrAt 11 cfg0.N = rwhg m c := by
  refine (dats m 0 c).arrAt_eq_of_after_last 11 tL (by decide +kernel) _ fun j => ?_
  blk_simp
  rw [after0_11]
  idx_vars j
  obtain rfl : j0 = 0 := Subsingleton.elim _ _
  exact sum_whg m c j1

/-- One row's share of the weight's gradient, for the arguments in memory. -/
def wattShare (R : Fin 8192) (l : Fin 512) : EReal := Cert.MixRefIdeal.Read.val_main_v41 (F := Ideal) (m ((c : Thread nD τ).loc main_arg3)) (m ((c : Thread nD τ).loc main_arg6)) (ix2 R l)

/-- The running row after a point that starts over: the block's shares alone. -/
theorem watt_first (t : Fin cfg0.N) (h : t.val % 32 = 0) (l : Fin 512) :
    (outsAt0 m c t.val t.isLt).2.2.2.2.2 (ix2 0 l) = 0 + ∑ r : Fin 256, wattShare m c (row t r) l := by
  rw [outsAt0_A m c t h]
  frame_out
  refine (dwatt_at _ _ _ _ (row t) (blk_3 m c t) (blk_4 m c t) _ l).trans ?_
  congr 1
  unfold k0_pay85
  pointwise

/-- The running row after any other point: what was there and the block's shares. -/
theorem watt_next (t : Fin cfg0.N) (h : ¬t.val % 32 = 0) (l : Fin 512) :
    (outsAt0 m c t.val t.isLt).2.2.2.2.2 (ix2 0 l) = (outsAt0 m c (t.val - 1) (Nat.lt_of_le_of_lt (Nat.sub_le _ _) t.isLt)).2.2.2.2.2 (ix2 0 l)
      + ∑ r : Fin 256, wattShare m c (row t r) l := by
  rw [outsAt0_B m c t h]
  frame_out
  exact dwatt_at _ _ _ _ (row t) (blk_3 m c t) (blk_4 m c t) _ l

/-- The running row after the last grid point: the sum over all blocks of their rows' shares. -/
theorem sum_watt (l : Fin 512) : (outsAt0 m c tL.val tL.isLt).2.2.2.2.2 (ix2 0 l) = rwatt m c (ix2 0 l) := by
  refine (Pipeline.eq_sum_fin_of_reset_step_apply_last (fun n h l => (outsAt0 m c n h).2.2.2.2.2 (ix2 0 l)) 32 (fun _ => (0 : EReal)) _
    (fun t h j => watt_first m c t h j) (fun t h j => watt_next m c t h j) (by decide) tL rfl l).trans ?_
  unfold rwatt
  rw [dwatt_ref]
  exact congrArg (0 + ·) (sum_rows fun R => wattShare m c R l).symm

theorem final_watt : (dats m 0 c).arrAt 12 cfg0.N = rwatt m c := by
  refine (dats m 0 c).arrAt_eq_of_after_last 12 tL (by decide +kernel) _ fun j => ?_
  blk_simp
  rw [after0_12]
  idx_vars j
  obtain rfl : j0 = 0 := Subsingleton.elim _ _
  exact sum_watt m c j1

/-- The call's run and the reference's end with equal results. -/
theorem algebraic : Cert.algebraic_MixDxIdeal_MixRefIdeal := by
  intro m g m' g' _ hag
  refine ⟨fun c => rdo m c, fun c => rgate m c, fun c => rtiles m c, fun c => rrows m c, fun c => rwhg m c, fun c => rwatt m c, ?_, ?_⟩
  · refine (θ_run defs _ _).mono (fun r h c => ?_) (Value.run_blocks m g)
    obtain ⟨h0, h1, h2, h3, h4, h5, h⟩ := h c
    exact ⟨h0.trans (final_do m c), h1.trans (final_gate m c), h2.trans (final_tiles m c), h3.trans (final_rows m c), h4.trans (final_whg m c), h5.trans (final_watt m c), h⟩
  · refine (θ_run Cert.MixRefIdeal.defs _ _).mono (fun r h c => ?_) (Cert.MixRefIdeal.Value.run m' g')
    obtain ⟨h0, h1, h2, h3, h4, h5, h⟩ := h c
    obtain ⟨e0, e1, e2, e3, e4, e5, e6⟩ := hag c
    refine ⟨h0.trans ?_, h1.trans ?_, h2.trans ?_, h3.trans ?_, h4.trans ?_, h5.trans ?_, h⟩
    · rw [Cert.MixRefIdeal.Read.val_main_v86_eq, e0, e1, e2, e4, e6]; rfl
    · rw [Cert.MixRefIdeal.Read.val_main_v90_eq, e0, e1, e2, e4, e6]; rfl
    · rw [Cert.MixRefIdeal.Read.val_main_v92_eq, e3, e5, e6]; rfl
    · rw [Cert.MixRefIdeal.Read.val_main_v93_eq, e3, e5, e6]; rfl
    · rw [Cert.MixRefIdeal.Read.val_main_v71_eq, e0, e1, e2, e6]; rfl
    · rw [Cert.MixRefIdeal.Read.val_main_v43_eq, e3, e6]; rfl

end Cert.MixDxIdeal.Sums

end
-- ==== Proof.PrepBits.lean ====
module

public import proofs.«01_k».proof.Proof.PrepFrame
public import proofs.«01_k».proof.Proof.Gen.PrepDx.Launch
public import proofs.«01_k».proof.Defs

/-!
  # Rotary preparation, backward: the frame of the printed program

  The program and its ideal counterpart have the same text, so that the run proved over any float values, taken at
  the machine's words, is the run of the printed program.
-/

@[expose] public section

noncomputable section

namespace Cert.PrepDxIdeal.Run

open Idealize.ShloMosaic Idealize.ShloMosaic.TcCoe Idealize.ShloMosaic.Tactic
open Idealize.SL Idealize.SL.Sem

/-- The frame of the ideal counterpart's text at the machine's words. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frameBits : FrameBits := fun m ρ _ => frame_all (F := Bits) m ρ

/-- The two statements are the same, the texts being the same. -/
theorem same_text : @Cert.quiescent_PrepDx Cert.PrepDx.Gen.facts = FrameBits := by
  sl_kernel_rfl

theorem frame_bits : @Cert.quiescent_PrepDx Cert.PrepDx.Gen.facts := same_text.mpr frameBits

end Cert.PrepDxIdeal.Run

end
-- ==== Proof.PrepValue.lean ====
/- The rotary preparation's gradient: the call's five results are the reference's, the derivative of the norms, the rotation and the
   scaling as the forward lines write them. -/
module

public import proofs.«01_k».proof.Proof.PrepHost
public import proofs.«01_k».proof.Proof.PrepRefRead
public import proofs.«01_k».proof.Proof.Gen.PrepRefIdeal.Run
public import proofs.«01_k».proof.Proof.AttValue

@[expose] public section

set_option maxRecDepth 16384

noncomputable section

namespace Cert.PrepDxIdeal.Sums

open Cert.PrepDxIdeal Cert.PrepDxIdeal.Gen Cert.PrepDxIdeal.Run Cert.PrepMath Idealize.ShloMosaic Idealize.ShloMosaic.TcCoe Idealize.SL.Sem

variable (m : (ℓ : Loc nD τ sig) → Buf (Elt Ideal) ℓ) (c : Dev nD)

/-- The arguments that the norms, the rotation and their weights read are reals. -/
structure Reals : Prop where
  u : ∀ R l, Re ((m ((c : Thread nD τ).loc main_arg0) : Vec Ideal S8192x3328 .f32) (ix2 R l))
  wq : ∀ d, Re ((m ((c : Thread nD τ).loc main_arg1) : Vec Ideal S1x64 .f32) (ix2 0 d))
  wk : ∀ d, Re ((m ((c : Thread nD τ).loc main_arg2) : Vec Ideal S1x64 .f32) (ix2 0 d))
  dq : ∀ R h d, Re ((m ((c : Thread nD τ).loc main_arg3) : Vec Ideal S8192x8x64 .f32) (ix3 R h d))
  dk : ∀ R h d, Re ((m ((c : Thread nD τ).loc main_arg4) : Vec Ideal S8192x2x64 .f32) (ix3 R h d))

instance : Subsingleton Cert.Pre_prep_finite.S_.Idx := ⟨fun a b => funext fun i => i.elim0⟩

/-- The precondition's shapes fit. -/
theorem pre_facts : Cert.Pre_prep_finite.Facts := by
  constructor <;> decide +kernel

theorem reals [Cert.Pre_prep_finite.Facts] (hp : Cert.Pre_PrepDxIdeal_prep_finite m) (c : Dev nD) : Reals m c := by
  have h := congrFun (hp c) (Shape.Idx.first (by decide))
  dsimp only [Cert.Pre_prep_finite.fn, Cert.Pre_prep_finite.fn_part1] at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have e0 := fun i => Cert.AttDxIdeal.Sums.real_of_abs _ (Host.reduce_andi_all _ _ _ _ _ h0 i)
  have e1 := fun i => Cert.AttDxIdeal.Sums.real_of_abs _ (Host.reduce_andi_all _ _ _ _ _ h1 i)
  have e2 := fun i => Cert.AttDxIdeal.Sums.real_of_abs _ (Host.reduce_andi_all _ _ _ _ _ h2 i)
  have e3 := fun i => Cert.AttDxIdeal.Sums.real_of_abs _ (Host.reduce_andi_all _ _ _ _ _ h3 i)
  have e4 := fun i => Cert.AttDxIdeal.Sums.real_of_abs _ (Host.reduce_andi_all _ _ _ _ _ h4 i)
  exact ⟨fun R l => ⟨_, e0 (ix2 R l)⟩, fun d => ⟨_, e1 (ix2 0 d)⟩, fun d => ⟨_, e2 (ix2 0 d)⟩, fun R h d => ⟨_, e3 (ix3 R h d)⟩, fun R h d => ⟨_, e4 (ix3 R h d)⟩⟩

/-- A sum over all rows is the sum over the blocks of the sums over their rows. -/
theorem sum_rows (f : Fin 8192 → EReal) : ∑ R, f R = ∑ t : Fin cfg0.N, ∑ r : Fin 256, f (row t r) := by
  refine (Fin.sum_univ_tiles 32 256 rfl f).trans (Finset.sum_congr rfl fun t _ => Finset.sum_congr rfl fun r _ => ?_)
  exact congrArg f (Fin.ext (by show _ = 256 * t.val + r.val; simp; omega))

/-- The last grid point. -/
def tL : Fin cfg0.N := ⟨31, by decide⟩

section
variable {m} {c} (hr : Reals m c)

/-- The reference's result for the arguments in memory: the query's gradient. -/
def rq (m : (ℓ : Loc nD τ sig) → Buf (Elt Ideal) ℓ) (c : Dev nD) : FVec Ideal S8192x512 .f32 := Cert.PrepRefIdeal.Read.val_main_v193 (F := Ideal) (m ((c : Thread nD τ).loc main_arg0)) (m ((c : Thread nD τ).loc main_arg1)) (m ((c : Thread nD τ).loc main_arg3))

/-- The reference's result for the arguments in memory: the gradient of the query norm's weight. -/
def rwq (m : (ℓ : Loc nD τ sig) → Buf (Elt Ideal) ℓ) (c : Dev nD) : FVec Ideal S1x128 .f32 := Cert.PrepRefIdeal.Read.val_main_v196 (F := Ideal) (m ((c : Thread nD τ).loc main_arg0)) (m ((c : Thread nD τ).loc main_arg3))

theorem lanes_q (t : Fin cfg0.N) (r : Fin 256) (h : Fin 8) : lnq (X0_0 m c t) r h = Cert.PrepRefIdeal.Sums.aq (m ((c : Thread nD τ).loc main_arg0)) (row t r) h :=
  funext fun d => blk_0 m c t r (wq h d)

theorem tile_q_at (t : Fin cfg0.N) (r : Fin 256) (h : Fin 8) : exq (iblk m c 6 t) r h = Cert.PrepRefIdeal.Sums.eq (m ((c : Thread nD τ).loc main_arg3)) (row t r) h :=
  funext fun d => congrArg (· * Ideal.ofBits .f32 0x3E000000#32) (blk_6 m c t h d r)

theorem cot_q_at (t : Fin cfg0.N) (r : Fin 256) (h : Fin 8) : grq (iblk m c 9 t) (iblk m c 6 t) (fun r => co (row t r)) (fun r => si (row t r)) r h
    = Cert.PrepRefIdeal.Sums.gq (m ((c : Thread nD τ).loc main_arg1)) (m ((c : Thread nD τ).loc main_arg3)) (row t r) h := by
  funext d
  show unrot (exq (iblk m c 6 t) r h) (co (row t r)) (si (row t r)) d * (iblk m c 9 t : Vec Ideal S1x128 .f32) (ix2 0 (lo d)) = unrot _ (co (row t r)) (si (row t r)) d * _
  rw [tile_q_at, blk_9, dif_pos (show (lo d).val < 64 from d.isLt)]
  rfl

include hr

theorem re_aq (t : Fin cfg0.N) (r : Fin 256) (l : Fin 512) : Re ((X0_0 m c t : Vec Ideal S256x512 .f32) (ix2 r l)) := by
  rw [blk_0]; exact hr.u _ _

theorem re_tq (t : Fin cfg0.N) (h : Fin 8) (d : Fin 64) (r : Fin 256) : Re ((iblk m c 6 t : Vec Ideal S8x1x64x256 .f32) (ix4 h 0 d r)) := by
  rw [blk_6]; exact hr.dq _ _ _

theorem re_wq (t : Fin cfg0.N) (l : Fin 128) : Re ((iblk m c 9 t : Vec Ideal S1x128 .f32) (ix2 0 l)) := by
  rw [blk_9]
  split_ifs
  · exact hr.wq _
  · exact Re.zero

/-- A block of the gradient is the reference's. -/
theorem outs_q (t : Fin cfg0.N) (r : Fin 256) (l : Fin 512) :
    outQ (X0_0 m c t) (iblk m c 2 t) (iblk m c 3 t) (iblk m c 6 t) (iblk m c 9 t) (iblk m c 11 t) (iblk m c 13 t) (ix2 r l) = rq m c (ix2 (row t r) l) := by
  obtain ⟨h, d, rfl⟩ := cover_q l
  refine (out_q _ _ _ _ _ _ _ (fun r => co (row t r)) (fun r => si (row t r)) (re_aq hr t) (blk_11 m c t) (blk_13 m c t) (blk_2 m c t) (blk_3 m c t)
    (re_wq hr t) (re_tq hr t) (fun r i => Re.co _ _) (fun r i => Re.si _ _) r h d).trans ?_
  rw [lanes_q, cot_q_at]
  exact (Cert.PrepRefIdeal.Sums.res_q _ _ _ (row t r) h d).symm

/-- One row's share of the weight's gradient, for the arguments in memory. -/
def shareQ (m : (ℓ : Loc nD τ sig) → Buf (Elt Ideal) ℓ) (c : Dev nD) (R : Fin 8192) (l : Fin 128) : EReal :=
  if hl : l.val < 64 then ∑ h, Cert.PrepRefIdeal.Sums.aq (m ((c : Thread nD τ).loc main_arg0)) R h ⟨l.val, hl⟩ * nr (Cert.PrepRefIdeal.Sums.aq (m ((c : Thread nD τ).loc main_arg0)) R h)
    * unrot (Cert.PrepRefIdeal.Sums.eq (m ((c : Thread nD τ).loc main_arg3)) R h) (co R) (si R) ⟨l.val, hl⟩ else 0

/-- What one point adds to the running row. -/
theorem step_q (t : Fin cfg0.N) (y : Vec Ideal S1x128 .f32) (l : Fin 128) :
    outWQ (X0_0 m c t) (iblk m c 2 t) (iblk m c 3 t) (iblk m c 6 t) (iblk m c 11 t) (iblk m c 13 t) y (ix2 0 l) = y (ix2 0 l) + ∑ r : Fin 256, shareQ m c (row t r) l := by
  refine (row_q _ _ _ _ _ _ (fun r => co (row t r)) (fun r => si (row t r)) (re_aq hr t) (blk_11 m c t) (blk_13 m c t) (blk_2 m c t) (blk_3 m c t)
    (re_tq hr t) (fun r i => Re.co _ _) (fun r i => Re.si _ _) y l).trans ?_
  refine congrArg (y (ix2 0 l) + ·) ?_
  simp only [shareQ]
  by_cases hl : l.val < 64
  · simp only [dif_pos hl]
    refine Finset.sum_congr rfl fun r _ => Finset.sum_congr rfl fun h _ => ?_
    rw [lanes_q t r h, tile_q_at t r h]
  · simp only [dif_neg hl, Finset.sum_const_zero]

theorem first_q (t : Fin cfg0.N) (h : t.val % 32 = 0) (l : Fin 128) :
    accQ m c t.val t.isLt (ix2 0 l) = 0 + ∑ r : Fin 256, shareQ m c (row t r) l := by
  have ht : t.val < 32 := t.isLt
  rw [accQ_first m c t (by omega)]
  refine (step_q hr t _ l).trans ?_
  congr 1
  unfold k0_pay1
  pointwise

theorem next_q (t : Fin cfg0.N) (h : ¬t.val % 32 = 0) (l : Fin 128) :
    accQ m c t.val t.isLt (ix2 0 l) = accQ m c (t.val - 1) (Nat.lt_of_le_of_lt (Nat.sub_le _ _) t.isLt) (ix2 0 l) + ∑ r : Fin 256, shareQ m c (row t r) l := by
  rw [accQ_next m c t (by omega)]
  exact step_q hr t _ l

/-- The running row after the last grid point: the sum over all blocks of their rows' shares. -/
theorem sum_q (l : Fin 128) : accQ m c tL.val tL.isLt (ix2 0 l) = rwq m c (ix2 0 l) := by
  refine (Pipeline.eq_sum_fin_of_reset_step_apply_last (fun n h l => accQ m c n h (ix2 0 l)) 32 (fun _ => (0 : EReal)) _
    (fun t h j => first_q hr t h j) (fun t h j => next_q hr t h j) (by decide) tL rfl l).trans ?_
  unfold rwq
  rw [Cert.PrepRefIdeal.Sums.row_q, zero_add]
  refine (sum_rows fun R => shareQ m c R l).symm.trans ?_
  simp only [shareQ]
  split_ifs
  · rfl
  · exact Finset.sum_const_zero

theorem final_q : (dats m 0 c).arrAt 15 cfg0.N = (rq m c : S8192x512.Idx → EReal) := by
  refine (dats m 0 c).arrAt_eq_of_covers 15 _ (by decide +kernel) fun t hf y => ?_
  blk_simp
  rw [after_15]
  idx_vars y
  rw [outs_q hr]
  blk_ext [idx t, row]

theorem final_wq : (dats m 0 c).arrAt 18 cfg0.N = rwq m c := by
  refine (dats m 0 c).arrAt_eq_of_after_last 18 tL (by decide +kernel) _ fun j => ?_
  blk_simp
  rw [after_18]
  idx_vars j
  obtain rfl : j0 = 0 := Subsingleton.elim _ _
  exact sum_q hr j1
end

section
variable {m} {c} (hr : Reals m c)

/-- The reference's result for the arguments in memory: the key's gradient. -/
def rk (m : (ℓ : Loc nD τ sig) → Buf (Elt Ideal) ℓ) (c : Dev nD) : FVec Ideal S8192x128 .f32 := Cert.PrepRefIdeal.Read.val_main_v194 (F := Ideal) (m ((c : Thread nD τ).loc main_arg0)) (m ((c : Thread nD τ).loc main_arg2)) (m ((c : Thread nD τ).loc main_arg4))

/-- The reference's result for the arguments in memory: the gradient of the key norm's weight. -/
def rwk (m : (ℓ : Loc nD τ sig) → Buf (Elt Ideal) ℓ) (c : Dev nD) : FVec Ideal S1x128 .f32 := Cert.PrepRefIdeal.Read.val_main_v197 (F := Ideal) (m ((c : Thread nD τ).loc main_arg0)) (m ((c : Thread nD τ).loc main_arg4))

theorem lanes_k (t : Fin cfg0.N) (r : Fin 256) (h : Fin 2) : lnk (iblk m c 1 t) r h = Cert.PrepRefIdeal.Sums.ak (m ((c : Thread nD τ).loc main_arg0)) (row t r) h :=
  funext fun d => blk_1 m c t r (wk h d)

theorem tile_k_at (t : Fin cfg0.N) (r : Fin 256) (h : Fin 2) : exk (iblk m c 7 t) r h = Cert.PrepRefIdeal.Sums.ek (m ((c : Thread nD τ).loc main_arg4)) (row t r) h :=
  funext fun d => blk_7 m c t h d r

theorem cot_k_at (t : Fin cfg0.N) (r : Fin 256) (h : Fin 2) : grk (iblk m c 10 t) (iblk m c 7 t) (fun r => co (row t r)) (fun r => si (row t r)) r h
    = Cert.PrepRefIdeal.Sums.gk (m ((c : Thread nD τ).loc main_arg2)) (m ((c : Thread nD τ).loc main_arg4)) (row t r) h := by
  funext d
  show unrot (exk (iblk m c 7 t) r h) (co (row t r)) (si (row t r)) d * (iblk m c 10 t : Vec Ideal S1x128 .f32) (ix2 0 (lo d)) = unrot _ (co (row t r)) (si (row t r)) d * _
  rw [tile_k_at, blk_10, dif_pos (show (lo d).val < 64 from d.isLt)]
  rfl

include hr

theorem re_ak (t : Fin cfg0.N) (r : Fin 256) (l : Fin 128) : Re ((iblk m c 1 t : Vec Ideal S256x128 .f32) (ix2 r l)) := by
  rw [blk_1]; exact hr.u _ _

theorem re_tk (t : Fin cfg0.N) (h : Fin 2) (d : Fin 64) (r : Fin 256) : Re ((iblk m c 7 t : Vec Ideal S2x1x64x256 .f32) (ix4 h 0 d r)) := by
  rw [blk_7]; exact hr.dk _ _ _

theorem re_wk (t : Fin cfg0.N) (l : Fin 128) : Re ((iblk m c 10 t : Vec Ideal S1x128 .f32) (ix2 0 l)) := by
  rw [blk_10]
  split_ifs
  · exact hr.wk _
  · exact Re.zero

/-- A block of the gradient is the reference's. -/
theorem outs_k (t : Fin cfg0.N) (r : Fin 256) (l : Fin 128) :
    outK (iblk m c 1 t) (iblk m c 4 t) (iblk m c 5 t) (iblk m c 7 t) (iblk m c 10 t) (iblk m c 12 t) (iblk m c 14 t) (ix2 r l) = rk m c (ix2 (row t r) l) := by
  obtain ⟨h, d, rfl⟩ := cover_k l
  refine (out_k _ _ _ _ _ _ _ (fun r => co (row t r)) (fun r => si (row t r)) (re_ak hr t) (blk_12 m c t) (blk_14 m c t) (blk_4 m c t) (blk_5 m c t)
    (re_wk hr t) (re_tk hr t) (fun r i => Re.co _ _) (fun r i => Re.si _ _) r h d).trans ?_
  rw [lanes_k, cot_k_at]
  exact (Cert.PrepRefIdeal.Sums.res_k _ _ _ (row t r) h d).symm

/-- One row's share of the weight's gradient, for the arguments in memory. -/
def shareK (m : (ℓ : Loc nD τ sig) → Buf (Elt Ideal) ℓ) (c : Dev nD) (R : Fin 8192) (l : Fin 128) : EReal :=
  if hl : l.val < 64 then ∑ h, Cert.PrepRefIdeal.Sums.ak (m ((c : Thread nD τ).loc main_arg0)) R h ⟨l.val, hl⟩ * nr (Cert.PrepRefIdeal.Sums.ak (m ((c : Thread nD τ).loc main_arg0)) R h)
    * unrot (Cert.PrepRefIdeal.Sums.ek (m ((c : Thread nD τ).loc main_arg4)) R h) (co R) (si R) ⟨l.val, hl⟩ else 0

/-- What one point adds to the running row. -/
theorem step_k (t : Fin cfg0.N) (y : Vec Ideal S1x128 .f32) (l : Fin 128) :
    outWK (iblk m c 1 t) (iblk m c 4 t) (iblk m c 5 t) (iblk m c 7 t) (iblk m c 12 t) (iblk m c 14 t) y (ix2 0 l) = y (ix2 0 l) + ∑ r : Fin 256, shareK m c (row t r) l := by
  refine (row_k _ _ _ _ _ _ (fun r => co (row t r)) (fun r => si (row t r)) (re_ak hr t) (blk_12 m c t) (blk_14 m c t) (blk_4 m c t) (blk_5 m c t)
    (re_tk hr t) (fun r i => Re.co _ _) (fun r i => Re.si _ _) y l).trans ?_
  refine congrArg (y (ix2 0 l) + ·) ?_
  simp only [shareK]
  by_cases hl : l.val < 64
  · simp only [dif_pos hl]
    refine Finset.sum_congr rfl fun r _ => Finset.sum_congr rfl fun h _ => ?_
    rw [lanes_k t r h, tile_k_at t r h]
  · simp only [dif_neg hl, Finset.sum_const_zero]

theorem first_k (t : Fin cfg0.N) (h : t.val % 32 = 0) (l : Fin 128) :
    accK m c t.val t.isLt (ix2 0 l) = 0 + ∑ r : Fin 256, shareK m c (row t r) l := by
  have ht : t.val < 32 := t.isLt
  rw [accK_first m c t (by omega)]
  refine (step_k hr t _ l).trans ?_
  congr 1
  unfold k0_pay2
  pointwise

theorem next_k (t : Fin cfg0.N) (h : ¬t.val % 32 = 0) (l : Fin 128) :
    accK m c t.val t.isLt (ix2 0 l) = accK m c (t.val - 1) (Nat.lt_of_le_of_lt (Nat.sub_le _ _) t.isLt) (ix2 0 l) + ∑ r : Fin 256, shareK m c (row t r) l := by
  rw [accK_next m c t (by omega)]
  exact step_k hr t _ l

/-- The running row after the last grid point: the sum over all blocks of their rows' shares. -/
theorem sum_k (l : Fin 128) : accK m c tL.val tL.isLt (ix2 0 l) = rwk m c (ix2 0 l) := by
  refine (Pipeline.eq_sum_fin_of_reset_step_apply_last (fun n h l => accK m c n h (ix2 0 l)) 32 (fun _ => (0 : EReal)) _
    (fun t h j => first_k hr t h j) (fun t h j => next_k hr t h j) (by decide) tL rfl l).trans ?_
  unfold rwk
  rw [Cert.PrepRefIdeal.Sums.row_k, zero_add]
  refine (sum_rows fun R => shareK m c R l).symm.trans ?_
  simp only [shareK]
  split_ifs
  · rfl
  · exact Finset.sum_const_zero

theorem final_k : (dats m 0 c).arrAt 16 cfg0.N = (rk m c : S8192x128.Idx → EReal) := by
  refine (dats m 0 c).arrAt_eq_of_covers 16 _ (by decide +kernel) fun t hf y => ?_
  blk_simp
  rw [after_16]
  idx_vars y
  rw [outs_k hr]
  blk_ext [idx t, row]

theorem final_wk : (dats m 0 c).arrAt 19 cfg0.N = rwk m c := by
  refine (dats m 0 c).arrAt_eq_of_after_last 19 tL (by decide +kernel) _ fun j => ?_
  blk_simp
  rw [after_19]
  idx_vars j
  obtain rfl : j0 = 0 := Subsingleton.elim _ _
  exact sum_k hr j1
end

/-- The reference's result for the arguments in memory: the value's gradient. -/
def rv : FVec Ideal S8192x128 .f32 := Cert.PrepRefIdeal.Read.val_main_v195 (F := Ideal) (m ((c : Thread nD τ).loc main_arg5))

theorem outs_v (t : Fin cfg0.N) (r : Fin 256) (l : Fin 128) : outV (iblk m c 8 t) (ix2 r l) = rv m c (ix2 (row t r) l) := by
  obtain ⟨h, d, rfl⟩ := cover_k l
  refine (out_v _ r h d).trans ((blk_8 m c t h d r).trans ?_)
  exact (Cert.PrepRefIdeal.Sums.res_v _ (row t r) h d).symm

theorem final_v : (dats m 0 c).arrAt 17 cfg0.N = (rv m c : S8192x128.Idx → EReal) := by
  refine (dats m 0 c).arrAt_eq_of_covers 17 _ (by decide +kernel) fun t hf y => ?_
  blk_simp
  rw [after_17]
  idx_vars y
  rw [outs_v]
  blk_ext [idx t, row]

/-! What the run leaves in the five results. -/
theorem post_q (r : PUnit × MemSt nD τ sig (Elt Ideal)) (h : Pipeline.FramePost cfgs (dats m) 0 (V m) r) (c : Dev nD) :
    r.2.mem ((c : Thread nD τ).loc main_v100_0) = (dats m 0 c).arrAt 15 cfg0.N :=
  (h c).1 15

theorem post_k (r : PUnit × MemSt nD τ sig (Elt Ideal)) (h : Pipeline.FramePost cfgs (dats m) 0 (V m) r) (c : Dev nD) :
    r.2.mem ((c : Thread nD τ).loc main_v100_1) = (dats m 0 c).arrAt 16 cfg0.N :=
  (h c).1 16

theorem post_v (r : PUnit × MemSt nD τ sig (Elt Ideal)) (h : Pipeline.FramePost cfgs (dats m) 0 (V m) r) (c : Dev nD) :
    r.2.mem ((c : Thread nD τ).loc main_v100_2) = (dats m 0 c).arrAt 17 cfg0.N :=
  (h c).1 17

theorem post_wq (r : PUnit × MemSt nD τ sig (Elt Ideal)) (h : Pipeline.FramePost cfgs (dats m) 0 (V m) r) (c : Dev nD) :
    r.2.mem ((c : Thread nD τ).loc main_v100_3) = (dats m 0 c).arrAt 18 cfg0.N :=
  (h c).1 18

theorem post_wk (r : PUnit × MemSt nD τ sig (Elt Ideal)) (h : Pipeline.FramePost cfgs (dats m) 0 (V m) r) (c : Dev nD) :
    r.2.mem ((c : Thread nD τ).loc main_v100_4) = (dats m 0 c).arrAt 19 cfg0.N :=
  (h c).1 19

/-- The call's run and the reference's end with equal results. -/
theorem algebraic [Cert.Pre_prep_finite.Facts] : Cert.algebraic_PrepDxIdeal_PrepRefIdeal_pre_prep_finite := by
  intro m g m' g' hp hag
  refine ⟨fun c => rq m c, fun c => rk m c, fun c => rv m c, fun c => rwq m c, fun c => rwk m c, ?_, ?_⟩
  · refine (θ_run defs _ _).mono (fun r h c => ?_) (θ_run_and (run_main m g) (frame_all m g))
    have hr := reals m hp c
    exact ⟨(post_q m r h.1 c).trans (final_q hr), (post_k m r h.1 c).trans (final_k hr), (post_v m r h.1 c).trans (final_v m c),
      (post_wq m r h.1 c).trans (final_wq hr), (post_wk m r h.1 c).trans (final_wk hr), h.2.1 c⟩
  · refine (θ_run Cert.PrepRefIdeal.defs _ _).mono (fun r h c => ?_) (Cert.PrepRefIdeal.Value.run m' g')
    obtain ⟨h0, h1, h2, h3, h4, h⟩ := h c
    obtain ⟨e0, e1, e2, e3, e4, e5⟩ := hag c
    have e0 : StableHlo.launchContents m' c (Proc.devRef .tc Cert.PrepRefIdeal.main_arg0) = m ((c : Thread nD τ).loc main_arg0) := e0
    have e1 : StableHlo.launchContents m' c (Proc.devRef .tc Cert.PrepRefIdeal.main_arg1) = m ((c : Thread nD τ).loc main_arg1) := e1
    have e2 : StableHlo.launchContents m' c (Proc.devRef .tc Cert.PrepRefIdeal.main_arg2) = m ((c : Thread nD τ).loc main_arg2) := e2
    have e3 : StableHlo.launchContents m' c (Proc.devRef .tc Cert.PrepRefIdeal.main_arg3) = m ((c : Thread nD τ).loc main_arg3) := e3
    have e4 : StableHlo.launchContents m' c (Proc.devRef .tc Cert.PrepRefIdeal.main_arg4) = m ((c : Thread nD τ).loc main_arg4) := e4
    have e5 : StableHlo.launchContents m' c (Proc.devRef .tc Cert.PrepRefIdeal.main_arg5) = m ((c : Thread nD τ).loc main_arg5) := e5
    refine ⟨h0.trans ?_, h1.trans ?_, h2.trans ?_, h3.trans ?_, h4.trans ?_, h⟩
    · rw [Cert.PrepRefIdeal.Read.val_main_v193_eq, e0, e1, e3]; rfl
    · rw [Cert.PrepRefIdeal.Read.val_main_v194_eq, e0, e2, e4]; rfl
    · rw [Cert.PrepRefIdeal.Read.val_main_v195_eq, e5]; rfl
    · rw [Cert.PrepRefIdeal.Read.val_main_v196_eq, e0, e3]; rfl
    · rw [Cert.PrepRefIdeal.Read.val_main_v197_eq, e0, e4]; rfl

end Cert.PrepDxIdeal.Sums

end
-- ==== Proof.lean ====
module

public import proofs.«01_k».proof.Defs
public import proofs.«01_k».proof.Proof.Gen.GlaDx.Frame
public import proofs.«01_k».proof.Proof.Gen.GlaDxIdeal.Frame
public import proofs.«01_k».proof.Proof.Gen.GlaRev.Frame
public import proofs.«01_k».proof.Proof.Gen.GlaRevIdeal.Frame
public import proofs.«01_k».proof.Proof.Gen.GlaFw.Frame
public import proofs.«01_k».proof.Proof.Gen.GlaFwIdeal.Frame
public import proofs.«01_k».proof.Proof.Gen.GlaFwRev.Frame
public import proofs.«01_k».proof.Proof.Gen.GlaFwRevIdeal.Frame
public import proofs.«01_k».proof.Proof.Gen.NormFw.Frame
public import proofs.«01_k».proof.Proof.Gen.NormFwIdeal.Frame
public import proofs.«01_k».proof.Proof.Gen.NormFwIdeal.Value
public import proofs.«01_k».proof.Proof.Gen.NormFwRefIdeal.Run
public import proofs.«01_k».proof.Proof.Gen.NormFwRefIdeal.Read
public import proofs.«01_k».proof.Proof.Gen.OutFw.Frame
public import proofs.«01_k».proof.Proof.Gen.OutFwIdeal.Frame
public import proofs.«01_k».proof.Proof.Gen.OutFwIdeal.Value
public import proofs.«01_k».proof.Proof.Gen.OutFwRefIdeal.Run
public import proofs.«01_k».proof.Proof.Gen.OutFwRefIdeal.Read
public import proofs.«01_k».proof.Proof.Gen.ActFw.Frame
public import proofs.«01_k».proof.Proof.Gen.ActFwIdeal.Frame
public import proofs.«01_k».proof.Proof.Gen.ActFwIdeal.Value
public import proofs.«01_k».proof.Proof.Gen.ActFwRefIdeal.Run
public import proofs.«01_k».proof.Proof.Gen.ActFwRefIdeal.Read
public import proofs.«01_k».proof.Proof.Gen.MixFw.Frame
public import proofs.«01_k».proof.Proof.Gen.MixFwIdeal.Frame
public import proofs.«01_k».proof.Proof.Gen.MixFwIdeal.Value
public import proofs.«01_k».proof.Proof.Gen.MixFwRefIdeal.Run
public import proofs.«01_k».proof.Proof.Gen.MixFwRefIdeal.Read
public import proofs.«01_k».proof.Proof.NormFwValue
public import proofs.«01_k».proof.Proof.OutFwValue
public import proofs.«01_k».proof.Proof.ActFwValue
public import proofs.«01_k».proof.Proof.MixFwValue
public import proofs.«01_k».proof.Proof.Gen.PrepFw.Frame
public import proofs.«01_k».proof.Proof.Gen.PrepFwIdeal.Frame
public import proofs.«01_k».proof.Proof.Gen.PrepFwIdeal.Value
public import proofs.«01_k».proof.Proof.Gen.PrepFwRefIdeal.Run
public import proofs.«01_k».proof.Proof.Gen.PrepFwRefIdeal.Read
public import proofs.«01_k».proof.Proof.PrepFwValue
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InRefIdeal
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpRefIdeal
public import proofs.«01_k».proof.Proof.Gen.InDxIdeal.Value
public import proofs.«01_k».proof.Proof.Gen.UpDxIdeal.Value
public import proofs.«01_k».proof.Proof.Gen.InRefIdeal.Run
public import proofs.«01_k».proof.Proof.Gen.InRefIdeal.Read
public import proofs.«01_k».proof.Proof.Gen.UpRefIdeal.Run
public import proofs.«01_k».proof.Proof.Gen.UpRefIdeal.Read
public import proofs.«01_k».proof.Proof.Gen.AttDx
public import proofs.«01_k».proof.Proof.Gen.AttDx.Skeleton
public import proofs.«01_k».proof.Proof.Gen.AttDx.Launch
public import proofs.«01_k».proof.Proof.Gen.AttDx.Points
public import proofs.«01_k».proof.Proof.Gen.AttDx.Frame
public import proofs.«01_k».proof.Proof.Gen.AttDxIdeal
public import proofs.«01_k».proof.Proof.Gen.AttDxIdeal.Skeleton
public import proofs.«01_k».proof.Proof.Gen.AttDxIdeal.Launch
public import proofs.«01_k».proof.Proof.Gen.AttDxIdeal.Points
public import proofs.«01_k».proof.Proof.Gen.AttDxIdeal.Frame
public import proofs.«01_k».proof.Proof.Gen.AttRefIdeal
public import proofs.«01_k».proof.Proof.Gen.AttRefIdeal.Run
public import proofs.«01_k».proof.Proof.Gen.AttRefIdeal.Read
public import proofs.«01_k».proof.Proof.Gen.LossDx
public import proofs.«01_k».proof.Proof.Gen.LossDx.Skeleton
public import proofs.«01_k».proof.Proof.Gen.LossDx.Launch
public import proofs.«01_k».proof.Proof.Gen.LossDx.Points
public import proofs.«01_k».proof.Proof.Gen.LossDx.Frame
public import proofs.«01_k».proof.Proof.Gen.LossDxIdeal
public import proofs.«01_k».proof.Proof.Gen.LossDxIdeal.Skeleton
public import proofs.«01_k».proof.Proof.Gen.LossDxIdeal.Launch
public import proofs.«01_k».proof.Proof.Gen.LossDxIdeal.Points
public import proofs.«01_k».proof.Proof.Gen.LossDxIdeal.Frame
public import proofs.«01_k».proof.Proof.Gen.LossDxIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.MixDx
public import proofs.«01_k».proof.Proof.Gen.PrepDx
public import proofs.«01_k».proof.Proof.Gen.MixDx.Skeleton
public import proofs.«01_k».proof.Proof.Gen.PrepDx.Skeleton
public import proofs.«01_k».proof.Proof.Gen.MixDx.Launch
public import proofs.«01_k».proof.Proof.Gen.PrepDx.Launch
public import proofs.«01_k».proof.Proof.Gen.MixDx.Points
public import proofs.«01_k».proof.Proof.Gen.PrepDx.Points
public import proofs.«01_k».proof.Proof.Gen.MixDx.Frame
public import proofs.«01_k».proof.Proof.Gen.PrepDx.Frame
public import proofs.«01_k».proof.Proof.Gen.MixDxIdeal
public import proofs.«01_k».proof.Proof.Gen.PrepDxIdeal
public import proofs.«01_k».proof.Proof.Gen.MixDxIdeal.Skeleton
public import proofs.«01_k».proof.Proof.Gen.PrepDxIdeal.Skeleton
public import proofs.«01_k».proof.Proof.Gen.MixDxIdeal.Launch
public import proofs.«01_k».proof.Proof.Gen.PrepDxIdeal.Launch
public import proofs.«01_k».proof.Proof.Gen.MixDxIdeal.Points
public import proofs.«01_k».proof.Proof.Gen.PrepDxIdeal.Points
public import proofs.«01_k».proof.Proof.Gen.MixDxIdeal.Frame
public import proofs.«01_k».proof.Proof.Gen.PrepDxIdeal.Frame
public import proofs.«01_k».proof.Proof.Gen.MixDxIdeal.Value
public import proofs.«01_k».proof.Proof.Gen.MixRefIdeal
public import proofs.«01_k».proof.Proof.Gen.PrepRefIdeal
public import proofs.«01_k».proof.Proof.Gen.MixRefIdeal.Run
public import proofs.«01_k».proof.Proof.Gen.PrepRefIdeal.Run
public import proofs.«01_k».proof.Proof.Gen.MixRefIdeal.Read
public import proofs.«01_k».proof.Proof.Gen.PrepRefIdeal.Read
public import proofs.«01_k».proof.Proof.InValue
public import proofs.«01_k».proof.Proof.UpValue
public import proofs.«01_k».proof.Proof.AttValue
public import proofs.«01_k».proof.Proof.LossValue
public import proofs.«01_k».proof.Proof.FfnValue
public import proofs.«01_k».proof.Proof.MixValue
public import proofs.«01_k».proof.Proof.PrepBits
public import proofs.«01_k».proof.Proof.PrepValue
public import Idealize.ShloMosaic.Lib.Quiescent
public import Idealize.ShloMosaic.Adequacy
public import Idealize.ShloMosaic.Init

@[expose] public section

noncomputable section

namespace Cert.Proof

open Idealize.ShloMosaic Idealize.SL.Sem

theorem ref_In : Cert.quiescent_InRefIdeal := fun m ρ _ =>
  (θ_run Cert.InRefIdeal.defs _ _).mono (fun r h => ⟨fun c => (h c).2.2, sem_eq_zero_of_no_sems (by decide) r.2⟩)
    (Cert.InRefIdeal.Value.run (F := Ideal) m ρ)

theorem ref_Up : Cert.quiescent_UpRefIdeal := fun m ρ _ =>
  (θ_run Cert.UpRefIdeal.defs _ _).mono (fun r h => ⟨fun c => (h c).2.2.2, sem_eq_zero_of_no_sems (by decide) r.2⟩)
    (Cert.UpRefIdeal.Value.run (F := Ideal) m ρ)

theorem ref_Att : Cert.quiescent_AttRefIdeal := fun m ρ _ =>
  (θ_run Cert.AttRefIdeal.defs _ _).mono (fun r h => ⟨fun c => (h c).2.2.2.2.2, sem_eq_zero_of_no_sems (by decide) r.2⟩)
    (Cert.AttRefIdeal.Value.run (F := Ideal) m ρ)

theorem ref_Loss : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem ref_Ffn : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem ref_Mix : Cert.quiescent_MixRefIdeal := fun m ρ _ =>
  (θ_run Cert.MixRefIdeal.defs _ _).mono (fun r h => ⟨fun c => (h c).2.2.2.2.2.2, sem_eq_zero_of_no_sems (by decide) r.2⟩)
    (Cert.MixRefIdeal.Value.run (F := Ideal) m ρ)

theorem ref_Prep : Cert.quiescent_PrepRefIdeal := fun m ρ _ =>
  (θ_run Cert.PrepRefIdeal.defs _ _).mono (fun r h => ⟨fun c => (h c).2.2.2.2.2, sem_eq_zero_of_no_sems (by decide) r.2⟩)
    (Cert.PrepRefIdeal.Value.run (F := Ideal) m ρ)

theorem ref_NormFw : Cert.quiescent_NormFwRefIdeal := fun m ρ _ =>
  (θ_run Cert.NormFwRefIdeal.defs _ _).mono (fun r h => ⟨fun c => (h c).2, sem_eq_zero_of_no_sems (by decide) r.2⟩)
    (Cert.NormFwRefIdeal.Value.run (F := Ideal) m ρ)

theorem ref_OutFw : Cert.quiescent_OutFwRefIdeal := fun m ρ _ =>
  (θ_run Cert.OutFwRefIdeal.defs _ _).mono (fun r h => ⟨fun c => (h c).2.2, sem_eq_zero_of_no_sems (by decide) r.2⟩)
    (Cert.OutFwRefIdeal.Value.run (F := Ideal) m ρ)

theorem ref_ActFw : Cert.quiescent_ActFwRefIdeal := fun m ρ _ =>
  (θ_run Cert.ActFwRefIdeal.defs _ _).mono (fun r h => ⟨fun c => (h c).2.2, sem_eq_zero_of_no_sems (by decide) r.2⟩)
    (Cert.ActFwRefIdeal.Value.run (F := Ideal) m ρ)

theorem ref_MixFw : Cert.quiescent_MixFwRefIdeal := fun m ρ _ =>
  (θ_run Cert.MixFwRefIdeal.defs _ _).mono (fun r h => ⟨fun c => (h c).2, sem_eq_zero_of_no_sems (by decide) r.2⟩)
    (Cert.MixFwRefIdeal.Value.run (F := Ideal) m ρ)

theorem ref_PrepFw : Cert.quiescent_PrepFwRefIdeal := fun m ρ _ =>
  (θ_run Cert.PrepFwRefIdeal.defs _ _).mono (fun r h => ⟨fun c => (h c).2.2.2.2.2, sem_eq_zero_of_no_sems (by decide) r.2⟩)
    (Cert.PrepFwRefIdeal.Value.run (F := Ideal) m ρ)

theorem claim : Cert.Claim :=
  haveI := Cert.AttDxIdeal.Sums.pre_facts
  haveI := Cert.PrepDxIdeal.Sums.pre_facts
  haveI := Cert.PrepFwIdeal.Sums.pre_facts
  ⟨Cert.InDx.Gen.facts, Cert.InDxIdeal.Gen.facts, Cert.InRefIdeal.Gen.facts,
   Cert.UpDx.Gen.facts, Cert.UpDxIdeal.Gen.facts, Cert.UpRefIdeal.Gen.facts,
   Cert.AttDx.Gen.facts, Cert.AttDxIdeal.Gen.facts, Cert.AttRefIdeal.Gen.facts,
   Cert.LossDx.Gen.facts, Cert.LossDxIdeal.Gen.facts, Cert.LossRefIdeal.Gen.facts,
   Cert.FfnDx.Gen.facts, Cert.FfnDxIdeal.Gen.facts, Cert.FfnRefIdeal.Gen.facts,
   Cert.MixDx.Gen.facts, Cert.MixDxIdeal.Gen.facts, Cert.MixRefIdeal.Gen.facts,
   Cert.PrepDx.Gen.facts, Cert.PrepDxIdeal.Gen.facts, Cert.PrepRefIdeal.Gen.facts,
   Cert.GlaDx.Gen.facts, Cert.GlaDxIdeal.Gen.facts, Cert.GlaRev.Gen.facts, Cert.GlaRevIdeal.Gen.facts,
   Cert.GlaFw.Gen.facts, Cert.GlaFwIdeal.Gen.facts, Cert.GlaFwRev.Gen.facts, Cert.GlaFwRevIdeal.Gen.facts,
   Cert.NormFw.Gen.facts, Cert.NormFwIdeal.Gen.facts, Cert.NormFwRefIdeal.Gen.facts,
   Cert.OutFw.Gen.facts, Cert.OutFwIdeal.Gen.facts, Cert.OutFwRefIdeal.Gen.facts,
   Cert.ActFw.Gen.facts, Cert.ActFwIdeal.Gen.facts, Cert.ActFwRefIdeal.Gen.facts,
   Cert.MixFw.Gen.facts, Cert.MixFwIdeal.Gen.facts, Cert.MixFwRefIdeal.Gen.facts,
   Cert.PrepFw.Gen.facts, Cert.PrepFwIdeal.Gen.facts, Cert.PrepFwRefIdeal.Gen.facts,
   Cert.AttDxIdeal.Sums.pre_facts, Cert.PrepDxIdeal.Sums.pre_facts, Cert.PrepFwIdeal.Sums.pre_facts,
   fun m ρ _ => Cert.InDx.Gen.frame m ρ, fun m ρ _ => Cert.InDxIdeal.Gen.frame m ρ, ref_In,
   fun m ρ _ => Cert.UpDx.Gen.frame m ρ, fun m ρ _ => Cert.UpDxIdeal.Gen.frame m ρ, ref_Up,
   fun m ρ _ => Cert.AttDx.Gen.frame m ρ, fun m ρ _ => Cert.AttDxIdeal.Gen.frame m ρ, fun m ρ _ => Cert.AttDxIdeal.Gen.frame m ρ, ref_Att, fun m ρ _ => ref_Att m ρ trivial,
   fun m ρ _ => Cert.LossDx.Gen.frame m ρ, fun m ρ _ => Cert.LossDxIdeal.Gen.frame m ρ, ref_Loss,
   fun m ρ _ => Cert.FfnDx.Gen.frame m ρ, fun m ρ _ => Cert.FfnDxIdeal.Gen.frame m ρ, ref_Ffn,
   fun m ρ _ => Cert.MixDx.Gen.frame m ρ, fun m ρ _ => Cert.MixDxIdeal.Gen.frame m ρ, ref_Mix,
   Cert.PrepDxIdeal.Run.frame_bits, fun m ρ _ => Cert.PrepDxIdeal.Run.frame_all m ρ, fun m ρ _ => Cert.PrepDxIdeal.Run.frame_all m ρ, ref_Prep, fun m ρ _ => ref_Prep m ρ trivial,
   fun m ρ _ => Cert.GlaDx.Gen.frame m ρ, fun m ρ _ => Cert.GlaDxIdeal.Gen.frame m ρ,
   fun m ρ _ => Cert.GlaRev.Gen.frame m ρ, fun m ρ _ => Cert.GlaRevIdeal.Gen.frame m ρ,
   fun m ρ _ => Cert.GlaFw.Gen.frame m ρ, fun m ρ _ => Cert.GlaFwIdeal.Gen.frame m ρ,
   fun m ρ _ => Cert.GlaFwRev.Gen.frame m ρ, fun m ρ _ => Cert.GlaFwRevIdeal.Gen.frame m ρ,
   fun m ρ _ => Cert.NormFw.Gen.frame m ρ, fun m ρ _ => Cert.NormFwIdeal.Gen.frame m ρ, ref_NormFw,
   fun m ρ _ => Cert.OutFw.Gen.frame m ρ, fun m ρ _ => Cert.OutFwIdeal.Gen.frame m ρ, ref_OutFw,
   fun m ρ _ => Cert.ActFw.Gen.frame m ρ, fun m ρ _ => Cert.ActFwIdeal.Gen.frame m ρ, ref_ActFw,
   fun m ρ _ => Cert.MixFw.Gen.frame m ρ, fun m ρ _ => Cert.MixFwIdeal.Gen.frame m ρ, ref_MixFw,
   fun m ρ _ => Cert.PrepFw.Gen.frame m ρ, fun m ρ _ => Cert.PrepFwIdeal.Gen.frame m ρ, fun m ρ _ => Cert.PrepFwIdeal.Gen.frame m ρ, ref_PrepFw, fun m ρ _ => ref_PrepFw m ρ trivial,
   trivial, Cert.InDxIdeal.Sums.algebraic,
   trivial, Cert.UpDxIdeal.Sums.algebraic,
   trivial, Cert.AttDxIdeal.Sums.algebraic,
   trivial, Cert.LossDxIdeal.Sums.algebraic,
   trivial, Cert.FfnDxIdeal.Sums.algebraic,
   trivial, Cert.MixDxIdeal.Sums.algebraic,
   trivial, Cert.PrepDxIdeal.Sums.algebraic,
   trivial, trivial, trivial, trivial,
   trivial, Cert.NormFwIdeal.Sums.algebraic,
   trivial, Cert.OutFwIdeal.Sums.algebraic,
   trivial, Cert.ActFwIdeal.Sums.algebraic,
   trivial, Cert.MixFwIdeal.Sums.algebraic,
   trivial, Cert.PrepFwIdeal.Sums.algebraic⟩

end Cert.Proof

end
